-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 [hPre_chip_named24 : Cert.Pre_chip_named24.Facts] (m : (ℓ : Loc Cert.Kernel24.nD Cert.Kernel24.τ Cert.Kernel24.sig) → Buf (Elt Bits) ℓ) : Prop :=
  ∀ c : Dev Cert.Kernel24.nD,
    (Cert.Pre_chip_named24.fn (F := Bits) (m ((c.tc : Thread Cert.Kernel24.nD Cert.Kernel24.τ).loc Cert.Kernel24.main_arg0)) (m ((c.tc : Thread Cert.Kernel24.nD Cert.Kernel24.τ).loc Cert.Kernel24.main_arg1)) (m ((c.tc : Thread Cert.Kernel24.nD Cert.Kernel24.τ).loc Cert.Kernel24.main_arg2)) (m ((c.tc : Thread Cert.Kernel24.nD Cert.Kernel24.τ).loc Cert.Kernel24.main_arg3)) (m ((c.tc : Thread Cert.Kernel24.nD Cert.Kernel24.τ).loc Cert.Kernel24.main_arg4)) (m ((c.tc : Thread Cert.Kernel24.nD Cert.Kernel24.τ).loc Cert.Kernel24.main_arg5)) (m ((c.tc : Thread Cert.Kernel24.nD Cert.Kernel24.τ).loc Cert.Kernel24.main_arg6)) (m ((c.tc : Thread Cert.Kernel24.nD Cert.Kernel24.τ).loc Cert.Kernel24.main_arg7)) (m ((c.tc : Thread Cert.Kernel24.nD Cert.Kernel24.τ).loc Cert.Kernel24.main_arg8)) (m ((c.tc : Thread Cert.Kernel24.nD Cert.Kernel24.τ).loc Cert.Kernel24.main_arg9))) = (fun _ => 1#1)

def Pre_Kernel24Ideal [hPre_chip_named24 : Cert.Pre_chip_named24.Facts] (m : (ℓ : Loc Cert.Kernel24Ideal.nD Cert.Kernel24Ideal.τ Cert.Kernel24Ideal.sig) → Buf (Elt Ideal) ℓ) : Prop :=
  ∀ c : Dev Cert.Kernel24Ideal.nD,
    (Cert.Pre_chip_named24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4)) (m ((c.tc : Thread Cert.Kernel24Ideal.nD Cert.Kernel24Ideal.τ).loc Cert.Kernel24Ideal.main_arg5)) (m ((c.tc : Thread Cert.Kernel24Ideal.nD Cert.Kernel24Ideal.τ).loc Cert.Kernel24Ideal.main_arg6)) (m ((c.tc : Thread Cert.Kernel24Ideal.nD Cert.Kernel24Ideal.τ).loc Cert.Kernel24Ideal.main_arg7)) (m ((c.tc : Thread Cert.Kernel24Ideal.nD Cert.Kernel24Ideal.τ).loc Cert.Kernel24Ideal.main_arg8)) (m ((c.tc : Thread Cert.Kernel24Ideal.nD Cert.Kernel24Ideal.τ).loc Cert.Kernel24Ideal.main_arg9))) = (fun _ => 1#1)

def Pre_Reference24Ideal (m : (ℓ : Loc Cert.Reference24Ideal.nD Cert.Reference24Ideal.τ Cert.Reference24Ideal.sig) → Buf (Elt Ideal) ℓ) : Prop :=
  True

def Pre_Reference24Ideal_chip_named24 [hPre_chip_named24 : Cert.Pre_chip_named24.Facts] (m : (ℓ : Loc Cert.Reference24Ideal.nD Cert.Reference24Ideal.τ Cert.Reference24Ideal.sig) → Buf (Elt Ideal) ℓ) : Prop :=
  ∀ c : Dev Cert.Reference24Ideal.nD,
    (Cert.Pre_chip_named24.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3)) (m ((c.tc : Thread Cert.Reference24Ideal.nD Cert.Reference24Ideal.τ).loc Cert.Reference24Ideal.main_arg4)) (m ((c.tc : Thread Cert.Reference24Ideal.nD Cert.Reference24Ideal.τ).loc Cert.Reference24Ideal.main_arg5)) (m ((c.tc : Thread Cert.Reference24Ideal.nD Cert.Reference24Ideal.τ).loc Cert.Reference24Ideal.main_arg6)) (m ((c.tc : Thread Cert.Reference24Ideal.nD Cert.Reference24Ideal.τ).loc Cert.Reference24Ideal.main_arg7)) (m ((c.tc : Thread Cert.Reference24Ideal.nD Cert.Reference24Ideal.τ).loc Cert.Reference24Ideal.main_arg8)) (m ((c.tc : Thread Cert.Reference24Ideal.nD Cert.Reference24Ideal.τ).loc Cert.Reference24Ideal.main_arg9))) = (fun _ => 1#1)

def Pre_Kernel25 [hPre_chip_named25 : Cert.Pre_chip_named25.Facts] (m : (ℓ : Loc Cert.Kernel25.nD Cert.Kernel25.τ Cert.Kernel25.sig) → Buf (Elt Bits) ℓ) : Prop :=
  ∀ c : Dev Cert.Kernel25.nD,
    (Cert.Pre_chip_named25.fn (F := Bits) (m ((c.tc : Thread Cert.Kernel25.nD Cert.Kernel25.τ).loc Cert.Kernel25.main_arg0)) (m ((c.tc : Thread Cert.Kernel25.nD Cert.Kernel25.τ).loc Cert.Kernel25.main_arg1)) (m ((c.tc : Thread Cert.Kernel25.nD Cert.Kernel25.τ).loc Cert.Kernel25.main_arg2)) (m ((c.tc : Thread Cert.Kernel25.nD Cert.Kernel25.τ).loc Cert.Kernel25.main_arg3)) (m ((c.tc : Thread Cert.Kernel25.nD Cert.Kernel25.τ).loc Cert.Kernel25.main_arg4)) (m ((c.tc : Thread Cert.Kernel25.nD Cert.Kernel25.τ).loc Cert.Kernel25.main_arg5)) (m ((c.tc : Thread Cert.Kernel25.nD Cert.Kernel25.τ).loc Cert.Kernel25.main_arg6)) (m ((c.tc : Thread Cert.Kernel25.nD Cert.Kernel25.τ).loc Cert.Kernel25.main_arg7)) (m ((c.tc : Thread Cert.Kernel25.nD Cert.Kernel25.τ).loc Cert.Kernel25.main_arg8)) (m ((c.tc : Thread Cert.Kernel25.nD Cert.Kernel25.τ).loc Cert.Kernel25.main_arg9))) = (fun _ => 1#1)

def Pre_Kernel25Ideal [hPre_chip_named25 : Cert.Pre_chip_named25.Facts] (m : (ℓ : Loc Cert.Kernel25Ideal.nD Cert.Kernel25Ideal.τ Cert.Kernel25Ideal.sig) → Buf (Elt Ideal) ℓ) : Prop :=
  ∀ c : Dev Cert.Kernel25Ideal.nD,
    (Cert.Pre_chip_named25.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5)) (m ((c.tc : Thread Cert.Kernel25Ideal.nD Cert.Kernel25Ideal.τ).loc Cert.Kernel25Ideal.main_arg6)) (m ((c.tc : Thread Cert.Kernel25Ideal.nD Cert.Kernel25Ideal.τ).loc Cert.Kernel25Ideal.main_arg7)) (m ((c.tc : Thread Cert.Kernel25Ideal.nD Cert.Kernel25Ideal.τ).loc Cert.Kernel25Ideal.main_arg8)) (m ((c.tc : Thread Cert.Kernel25Ideal.nD Cert.Kernel25Ideal.τ).loc Cert.Kernel25Ideal.main_arg9))) = (fun _ => 1#1)

def Pre_Reference25Ideal (m : (ℓ : Loc Cert.Reference25Ideal.nD Cert.Reference25Ideal.τ Cert.Reference25Ideal.sig) → Buf (Elt Ideal) ℓ) : Prop :=
  True

def Pre_Reference25Ideal_chip_named25 [hPre_chip_named25 : Cert.Pre_chip_named25.Facts] (m : (ℓ : Loc Cert.Reference25Ideal.nD Cert.Reference25Ideal.τ Cert.Reference25Ideal.sig) → Buf (Elt Ideal) ℓ) : Prop :=
  ∀ c : Dev Cert.Reference25Ideal.nD,
    (Cert.Pre_chip_named25.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4)) (m ((c.tc : Thread Cert.Reference25Ideal.nD Cert.Reference25Ideal.τ).loc Cert.Reference25Ideal.main_arg5)) (m ((c.tc : Thread Cert.Reference25Ideal.nD Cert.Reference25Ideal.τ).loc Cert.Reference25Ideal.main_arg6)) (m ((c.tc : Thread Cert.Reference25Ideal.nD Cert.Reference25Ideal.τ).loc Cert.Reference25Ideal.main_arg7)) (m ((c.tc : Thread Cert.Reference25Ideal.nD Cert.Reference25Ideal.τ).loc Cert.Reference25Ideal.main_arg8)) (m ((c.tc : Thread Cert.Reference25Ideal.nD Cert.Reference25Ideal.τ).loc Cert.Reference25Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] [hPre_chip_named24 : Cert.Pre_chip_named24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6)
      ∧ r.2.mem ((c.tc : Thread Cert.Kernel24.nD Cert.Kernel24.τ).loc Cert.Kernel24.main_arg7) = m ((c.tc : Thread Cert.Kernel24.nD Cert.Kernel24.τ).loc Cert.Kernel24.main_arg7)
      ∧ r.2.mem ((c.tc : Thread Cert.Kernel24.nD Cert.Kernel24.τ).loc Cert.Kernel24.main_arg8) = m ((c.tc : Thread Cert.Kernel24.nD Cert.Kernel24.τ).loc Cert.Kernel24.main_arg8)
      ∧ r.2.mem ((c.tc : Thread Cert.Kernel24.nD Cert.Kernel24.τ).loc Cert.Kernel24.main_arg9) = m ((c.tc : Thread Cert.Kernel24.nD Cert.Kernel24.τ).loc Cert.Kernel24.main_arg9))
      ∧ r.2.sem = fun _ => 0)

def quiescent_Kernel24Ideal [hKernel24Ideal : Cert.Kernel24Ideal.Facts] [hPre_chip_named24 : Cert.Pre_chip_named24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
      ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
      ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8)
      ∧ r.2.mem ((c.tc : Thread Cert.Kernel24Ideal.nD Cert.Kernel24Ideal.τ).loc Cert.Kernel24Ideal.main_arg9) = m ((c.tc : Thread Cert.Kernel24Ideal.nD Cert.Kernel24Ideal.τ).loc Cert.Kernel24Ideal.main_arg9))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6)
      ∧ r.2.mem ((c.tc : Thread Cert.Reference24Ideal.nD Cert.Reference24Ideal.τ).loc Cert.Reference24Ideal.main_arg7) = m ((c.tc : Thread Cert.Reference24Ideal.nD Cert.Reference24Ideal.τ).loc Cert.Reference24Ideal.main_arg7)
      ∧ r.2.mem ((c.tc : Thread Cert.Reference24Ideal.nD Cert.Reference24Ideal.τ).loc Cert.Reference24Ideal.main_arg8) = m ((c.tc : Thread Cert.Reference24Ideal.nD Cert.Reference24Ideal.τ).loc Cert.Reference24Ideal.main_arg8)
      ∧ r.2.mem ((c.tc : Thread Cert.Reference24Ideal.nD Cert.Reference24Ideal.τ).loc Cert.Reference24Ideal.main_arg9) = m ((c.tc : Thread Cert.Reference24Ideal.nD Cert.Reference24Ideal.τ).loc Cert.Reference24Ideal.main_arg9))
      ∧ r.2.sem = fun _ => 0)

def quiescent_Reference24Ideal_pre_chip_named24 [hReference24Ideal : Cert.Reference24Ideal.Facts] [hPre_chip_named24 : Cert.Pre_chip_named24.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal_chip_named24 m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6)
      ∧ r.2.mem ((c.tc : Thread Cert.Reference24Ideal.nD Cert.Reference24Ideal.τ).loc Cert.Reference24Ideal.main_arg7) = m ((c.tc : Thread Cert.Reference24Ideal.nD Cert.Reference24Ideal.τ).loc Cert.Reference24Ideal.main_arg7)
      ∧ r.2.mem ((c.tc : Thread Cert.Reference24Ideal.nD Cert.Reference24Ideal.τ).loc Cert.Reference24Ideal.main_arg8) = m ((c.tc : Thread Cert.Reference24Ideal.nD Cert.Reference24Ideal.τ).loc Cert.Reference24Ideal.main_arg8)
      ∧ r.2.mem ((c.tc : Thread Cert.Reference24Ideal.nD Cert.Reference24Ideal.τ).loc Cert.Reference24Ideal.main_arg9) = m ((c.tc : Thread Cert.Reference24Ideal.nD Cert.Reference24Ideal.τ).loc Cert.Reference24Ideal.main_arg9))
      ∧ r.2.sem = fun _ => 0)

def quiescent_Kernel25 [hKernel25 : Cert.Kernel25.Facts] [hPre_chip_named25 : Cert.Pre_chip_named25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6)
      ∧ r.2.mem ((c.tc : Thread Cert.Kernel25.nD Cert.Kernel25.τ).loc Cert.Kernel25.main_arg7) = m ((c.tc : Thread Cert.Kernel25.nD Cert.Kernel25.τ).loc Cert.Kernel25.main_arg7)
      ∧ r.2.mem ((c.tc : Thread Cert.Kernel25.nD Cert.Kernel25.τ).loc Cert.Kernel25.main_arg8) = m ((c.tc : Thread Cert.Kernel25.nD Cert.Kernel25.τ).loc Cert.Kernel25.main_arg8)
      ∧ r.2.mem ((c.tc : Thread Cert.Kernel25.nD Cert.Kernel25.τ).loc Cert.Kernel25.main_arg9) = m ((c.tc : Thread Cert.Kernel25.nD Cert.Kernel25.τ).loc Cert.Kernel25.main_arg9))
      ∧ r.2.sem = fun _ => 0)

def quiescent_Kernel25Ideal [hKernel25Ideal : Cert.Kernel25Ideal.Facts] [hPre_chip_named25 : Cert.Pre_chip_named25.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
      ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
      ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8)
      ∧ r.2.mem ((c.tc : Thread Cert.Kernel25Ideal.nD Cert.Kernel25Ideal.τ).loc Cert.Kernel25Ideal.main_arg9) = m ((c.tc : Thread Cert.Kernel25Ideal.nD Cert.Kernel25Ideal.τ).loc Cert.Kernel25Ideal.main_arg9))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6)
      ∧ r.2.mem ((c.tc : Thread Cert.Reference25Ideal.nD Cert.Reference25Ideal.τ).loc Cert.Reference25Ideal.main_arg7) = m ((c.tc : Thread Cert.Reference25Ideal.nD Cert.Reference25Ideal.τ).loc Cert.Reference25Ideal.main_arg7)
      ∧ r.2.mem ((c.tc : Thread Cert.Reference25Ideal.nD Cert.Reference25Ideal.τ).loc Cert.Reference25Ideal.main_arg8) = m ((c.tc : Thread Cert.Reference25Ideal.nD Cert.Reference25Ideal.τ).loc Cert.Reference25Ideal.main_arg8)
      ∧ r.2.mem ((c.tc : Thread Cert.Reference25Ideal.nD Cert.Reference25Ideal.τ).loc Cert.Reference25Ideal.main_arg9) = m ((c.tc : Thread Cert.Reference25Ideal.nD Cert.Reference25Ideal.τ).loc Cert.Reference25Ideal.main_arg9))
      ∧ r.2.sem = fun _ => 0)

def quiescent_Reference25Ideal_pre_chip_named25 [hReference25Ideal : Cert.Reference25Ideal.Facts] [hPre_chip_named25 : Cert.Pre_chip_named25.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal_chip_named25 m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6)
      ∧ r.2.mem ((c.tc : Thread Cert.Reference25Ideal.nD Cert.Reference25Ideal.τ).loc Cert.Reference25Ideal.main_arg7) = m ((c.tc : Thread Cert.Reference25Ideal.nD Cert.Reference25Ideal.τ).loc Cert.Reference25Ideal.main_arg7)
      ∧ r.2.mem ((c.tc : Thread Cert.Reference25Ideal.nD Cert.Reference25Ideal.τ).loc Cert.Reference25Ideal.main_arg8) = m ((c.tc : Thread Cert.Reference25Ideal.nD Cert.Reference25Ideal.τ).loc Cert.Reference25Ideal.main_arg8)
      ∧ r.2.mem ((c.tc : Thread Cert.Reference25Ideal.nD Cert.Reference25Ideal.τ).loc Cert.Reference25Ideal.main_arg9) = m ((c.tc : Thread Cert.Reference25Ideal.nD Cert.Reference25Ideal.τ).loc Cert.Reference25Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)) (v3 : (c : Dev Cert.Kernel4Ideal.nD) → Buf (Elt Ideal) ((c.tc : Thread Cert.Kernel4Ideal.nD Cert.Kernel4Ideal.τ).loc Cert.Kernel4Ideal.main_v2_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_v2_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v35) = v0 c
          ∧ r.2.mem ((c.tc : Thread Cert.Reference4Ideal.nD Cert.Reference4Ideal.τ).loc Cert.Reference4Ideal.main_v36) = v1 c
          ∧ r.2.mem ((c.tc : Thread Cert.Reference4Ideal.nD Cert.Reference4Ideal.τ).loc Cert.Reference4Ideal.main_v33) = v2 c
          ∧ r.2.mem ((c.tc : Thread Cert.Reference4Ideal.nD Cert.Reference4Ideal.τ).loc Cert.Reference4Ideal.main_v38) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_v9) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v13) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_v7) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_v9) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v3_0)) (v1 : (c : Dev Cert.Kernel14Ideal.nD) → Buf (Elt Ideal) ((c.tc : Thread Cert.Kernel14Ideal.nD Cert.Kernel14Ideal.τ).loc Cert.Kernel14Ideal.main_v3_1)) (v2 : (c : Dev Cert.Kernel14Ideal.nD) → Buf (Elt Ideal) ((c.tc : Thread Cert.Kernel14Ideal.nD Cert.Kernel14Ideal.τ).loc Cert.Kernel14Ideal.main_v3_2)) (v3 : (c : Dev Cert.Kernel14Ideal.nD) → Buf (Elt Ideal) ((c.tc : Thread Cert.Kernel14Ideal.nD Cert.Kernel14Ideal.τ).loc Cert.Kernel14Ideal.main_v3_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3_0) = v0 c
          ∧ r.2.mem ((c.tc : Thread Cert.Kernel14Ideal.nD Cert.Kernel14Ideal.τ).loc Cert.Kernel14Ideal.main_v3_1) = v1 c
          ∧ r.2.mem ((c.tc : Thread Cert.Kernel14Ideal.nD Cert.Kernel14Ideal.τ).loc Cert.Kernel14Ideal.main_v3_2) = v2 c
          ∧ r.2.mem ((c.tc : Thread Cert.Kernel14Ideal.nD Cert.Kernel14Ideal.τ).loc Cert.Kernel14Ideal.main_v3_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v15) = v0 c
          ∧ r.2.mem ((c.tc : Thread Cert.Reference14Ideal.nD Cert.Reference14Ideal.τ).loc Cert.Reference14Ideal.main_v39) = v1 c
          ∧ r.2.mem ((c.tc : Thread Cert.Reference14Ideal.nD Cert.Reference14Ideal.τ).loc Cert.Reference14Ideal.main_v20) = v2 c
          ∧ r.2.mem ((c.tc : Thread Cert.Reference14Ideal.nD Cert.Reference14Ideal.τ).loc Cert.Reference14Ideal.main_v26) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)) (v2 : (c : Dev Cert.Kernel15Ideal.nD) → Buf (Elt Ideal) ((c.tc : Thread Cert.Kernel15Ideal.nD Cert.Kernel15Ideal.τ).loc Cert.Kernel15Ideal.main_v1_2)) (v3 : (c : Dev Cert.Kernel15Ideal.nD) → Buf (Elt Ideal) ((c.tc : Thread Cert.Kernel15Ideal.nD Cert.Kernel15Ideal.τ).loc Cert.Kernel15Ideal.main_v1_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_v1_2) = v2 c
          ∧ r.2.mem ((c.tc : Thread Cert.Kernel15Ideal.nD Cert.Kernel15Ideal.τ).loc Cert.Kernel15Ideal.main_v1_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_arg0) = v0 c
          ∧ r.2.mem ((c.tc : Thread Cert.Reference15Ideal.nD Cert.Reference15Ideal.τ).loc Cert.Reference15Ideal.main_v23) = v1 c
          ∧ r.2.mem ((c.tc : Thread Cert.Reference15Ideal.nD Cert.Reference15Ideal.τ).loc Cert.Reference15Ideal.main_v4) = v2 c
          ∧ r.2.mem ((c.tc : Thread Cert.Reference15Ideal.nD Cert.Reference15Ideal.τ).loc Cert.Reference15Ideal.main_v10) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v5_0)) (v1 : (c : Dev Cert.Kernel16Ideal.nD) → Buf (Elt Ideal) ((c.tc : Thread Cert.Kernel16Ideal.nD Cert.Kernel16Ideal.τ).loc Cert.Kernel16Ideal.main_v5_1)) (v2 : (c : Dev Cert.Kernel16Ideal.nD) → Buf (Elt Ideal) ((c.tc : Thread Cert.Kernel16Ideal.nD Cert.Kernel16Ideal.τ).loc Cert.Kernel16Ideal.main_v5_2)) (v3 : (c : Dev Cert.Kernel16Ideal.nD) → Buf (Elt Ideal) ((c.tc : Thread Cert.Kernel16Ideal.nD Cert.Kernel16Ideal.τ).loc Cert.Kernel16Ideal.main_v5_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v5_0) = v0 c
          ∧ r.2.mem ((c.tc : Thread Cert.Kernel16Ideal.nD Cert.Kernel16Ideal.τ).loc Cert.Kernel16Ideal.main_v5_1) = v1 c
          ∧ r.2.mem ((c.tc : Thread Cert.Kernel16Ideal.nD Cert.Kernel16Ideal.τ).loc Cert.Kernel16Ideal.main_v5_2) = v2 c
          ∧ r.2.mem ((c.tc : Thread Cert.Kernel16Ideal.nD Cert.Kernel16Ideal.τ).loc Cert.Kernel16Ideal.main_v5_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v24) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v26) = v2 c
          ∧ r.2.mem ((c.tc : Thread Cert.Reference16Ideal.nD Cert.Reference16Ideal.τ).loc Cert.Reference16Ideal.main_v27) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)) (v2 : (c : Dev Cert.Kernel17Ideal.nD) → Buf (Elt Ideal) ((c.tc : Thread Cert.Kernel17Ideal.nD Cert.Kernel17Ideal.τ).loc Cert.Kernel17Ideal.main_v1_2)) (v3 : (c : Dev Cert.Kernel17Ideal.nD) → Buf (Elt Ideal) ((c.tc : Thread Cert.Kernel17Ideal.nD Cert.Kernel17Ideal.τ).loc Cert.Kernel17Ideal.main_v1_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_v1_2) = v2 c
          ∧ r.2.mem ((c.tc : Thread Cert.Kernel17Ideal.nD Cert.Kernel17Ideal.τ).loc Cert.Kernel17Ideal.main_v1_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_arg0) = v0 c
          ∧ r.2.mem ((c.tc : Thread Cert.Reference17Ideal.nD Cert.Reference17Ideal.τ).loc Cert.Reference17Ideal.main_v23) = v1 c
          ∧ r.2.mem ((c.tc : Thread Cert.Reference17Ideal.nD Cert.Reference17Ideal.τ).loc Cert.Reference17Ideal.main_v4) = v2 c
          ∧ r.2.mem ((c.tc : Thread Cert.Reference17Ideal.nD Cert.Reference17Ideal.τ).loc Cert.Reference17Ideal.main_v10) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v5_0)) (v1 : (c : Dev Cert.Kernel18Ideal.nD) → Buf (Elt Ideal) ((c.tc : Thread Cert.Kernel18Ideal.nD Cert.Kernel18Ideal.τ).loc Cert.Kernel18Ideal.main_v5_1)) (v2 : (c : Dev Cert.Kernel18Ideal.nD) → Buf (Elt Ideal) ((c.tc : Thread Cert.Kernel18Ideal.nD Cert.Kernel18Ideal.τ).loc Cert.Kernel18Ideal.main_v5_2)) (v3 : (c : Dev Cert.Kernel18Ideal.nD) → Buf (Elt Ideal) ((c.tc : Thread Cert.Kernel18Ideal.nD Cert.Kernel18Ideal.τ).loc Cert.Kernel18Ideal.main_v5_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v5_0) = v0 c
          ∧ r.2.mem ((c.tc : Thread Cert.Kernel18Ideal.nD Cert.Kernel18Ideal.τ).loc Cert.Kernel18Ideal.main_v5_1) = v1 c
          ∧ r.2.mem ((c.tc : Thread Cert.Kernel18Ideal.nD Cert.Kernel18Ideal.τ).loc Cert.Kernel18Ideal.main_v5_2) = v2 c
          ∧ r.2.mem ((c.tc : Thread Cert.Kernel18Ideal.nD Cert.Kernel18Ideal.τ).loc Cert.Kernel18Ideal.main_v5_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v24) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v26) = v2 c
          ∧ r.2.mem ((c.tc : Thread Cert.Reference18Ideal.nD Cert.Reference18Ideal.τ).loc Cert.Reference18Ideal.main_v27) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v5_0)) (v1 : (c : Dev Cert.Kernel19Ideal.nD) → Buf (Elt Ideal) ((c.tc : Thread Cert.Kernel19Ideal.nD Cert.Kernel19Ideal.τ).loc Cert.Kernel19Ideal.main_v5_1)) (v2 : (c : Dev Cert.Kernel19Ideal.nD) → Buf (Elt Ideal) ((c.tc : Thread Cert.Kernel19Ideal.nD Cert.Kernel19Ideal.τ).loc Cert.Kernel19Ideal.main_v5_2)) (v3 : (c : Dev Cert.Kernel19Ideal.nD) → Buf (Elt Ideal) ((c.tc : Thread Cert.Kernel19Ideal.nD Cert.Kernel19Ideal.τ).loc Cert.Kernel19Ideal.main_v5_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v5_0) = v0 c
          ∧ r.2.mem ((c.tc : Thread Cert.Kernel19Ideal.nD Cert.Kernel19Ideal.τ).loc Cert.Kernel19Ideal.main_v5_1) = v1 c
          ∧ r.2.mem ((c.tc : Thread Cert.Kernel19Ideal.nD Cert.Kernel19Ideal.τ).loc Cert.Kernel19Ideal.main_v5_2) = v2 c
          ∧ r.2.mem ((c.tc : Thread Cert.Kernel19Ideal.nD Cert.Kernel19Ideal.τ).loc Cert.Kernel19Ideal.main_v5_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v24) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v26) = v2 c
          ∧ r.2.mem ((c.tc : Thread Cert.Reference19Ideal.nD Cert.Reference19Ideal.τ).loc Cert.Reference19Ideal.main_v27) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v1_1)) (v2 : (c : Dev Cert.Kernel20Ideal.nD) → Buf (Elt Ideal) ((c.tc : Thread Cert.Kernel20Ideal.nD Cert.Kernel20Ideal.τ).loc Cert.Kernel20Ideal.main_v1_2)) (v3 : (c : Dev Cert.Kernel20Ideal.nD) → Buf (Elt Ideal) ((c.tc : Thread Cert.Kernel20Ideal.nD Cert.Kernel20Ideal.τ).loc Cert.Kernel20Ideal.main_v1_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_v1_2) = v2 c
          ∧ r.2.mem ((c.tc : Thread Cert.Kernel20Ideal.nD Cert.Kernel20Ideal.τ).loc Cert.Kernel20Ideal.main_v1_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_arg0) = v0 c
          ∧ r.2.mem ((c.tc : Thread Cert.Reference20Ideal.nD Cert.Reference20Ideal.τ).loc Cert.Reference20Ideal.main_v23) = v1 c
          ∧ r.2.mem ((c.tc : Thread Cert.Reference20Ideal.nD Cert.Reference20Ideal.τ).loc Cert.Reference20Ideal.main_v4) = v2 c
          ∧ r.2.mem ((c.tc : Thread Cert.Reference20Ideal.nD Cert.Reference20Ideal.τ).loc Cert.Reference20Ideal.main_v10) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v5_0)) (v1 : (c : Dev Cert.Kernel21Ideal.nD) → Buf (Elt Ideal) ((c.tc : Thread Cert.Kernel21Ideal.nD Cert.Kernel21Ideal.τ).loc Cert.Kernel21Ideal.main_v5_1)) (v2 : (c : Dev Cert.Kernel21Ideal.nD) → Buf (Elt Ideal) ((c.tc : Thread Cert.Kernel21Ideal.nD Cert.Kernel21Ideal.τ).loc Cert.Kernel21Ideal.main_v5_2)) (v3 : (c : Dev Cert.Kernel21Ideal.nD) → Buf (Elt Ideal) ((c.tc : Thread Cert.Kernel21Ideal.nD Cert.Kernel21Ideal.τ).loc Cert.Kernel21Ideal.main_v5_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v5_0) = v0 c
          ∧ r.2.mem ((c.tc : Thread Cert.Kernel21Ideal.nD Cert.Kernel21Ideal.τ).loc Cert.Kernel21Ideal.main_v5_1) = v1 c
          ∧ r.2.mem ((c.tc : Thread Cert.Kernel21Ideal.nD Cert.Kernel21Ideal.τ).loc Cert.Kernel21Ideal.main_v5_2) = v2 c
          ∧ r.2.mem ((c.tc : Thread Cert.Kernel21Ideal.nD Cert.Kernel21Ideal.τ).loc Cert.Kernel21Ideal.main_v5_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v24) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v26) = v2 c
          ∧ r.2.mem ((c.tc : Thread Cert.Reference21Ideal.nD Cert.Reference21Ideal.τ).loc Cert.Reference21Ideal.main_v27) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v1_0)) (v1 : (c : Dev Cert.Kernel22Ideal.nD) → Buf (Elt Ideal) ((c.tc : Thread Cert.Kernel22Ideal.nD Cert.Kernel22Ideal.τ).loc Cert.Kernel22Ideal.main_v1_1)) (v2 : (c : Dev Cert.Kernel22Ideal.nD) → Buf (Elt Ideal) ((c.tc : Thread Cert.Kernel22Ideal.nD Cert.Kernel22Ideal.τ).loc Cert.Kernel22Ideal.main_v1_2)) (v3 : (c : Dev Cert.Kernel22Ideal.nD) → Buf (Elt Ideal) ((c.tc : Thread Cert.Kernel22Ideal.nD Cert.Kernel22Ideal.τ).loc Cert.Kernel22Ideal.main_v1_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1_0) = v0 c
          ∧ r.2.mem ((c.tc : Thread Cert.Kernel22Ideal.nD Cert.Kernel22Ideal.τ).loc Cert.Kernel22Ideal.main_v1_1) = v1 c
          ∧ r.2.mem ((c.tc : Thread Cert.Kernel22Ideal.nD Cert.Kernel22Ideal.τ).loc Cert.Kernel22Ideal.main_v1_2) = v2 c
          ∧ r.2.mem ((c.tc : Thread Cert.Kernel22Ideal.nD Cert.Kernel22Ideal.τ).loc Cert.Kernel22Ideal.main_v1_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_arg0) = v0 c
          ∧ r.2.mem ((c.tc : Thread Cert.Reference22Ideal.nD Cert.Reference22Ideal.τ).loc Cert.Reference22Ideal.main_v23) = v1 c
          ∧ r.2.mem ((c.tc : Thread Cert.Reference22Ideal.nD Cert.Reference22Ideal.τ).loc Cert.Reference22Ideal.main_v4) = v2 c
          ∧ r.2.mem ((c.tc : Thread Cert.Reference22Ideal.nD Cert.Reference22Ideal.τ).loc Cert.Reference22Ideal.main_v10) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v5_0)) (v1 : (c : Dev Cert.Kernel23Ideal.nD) → Buf (Elt Ideal) ((c.tc : Thread Cert.Kernel23Ideal.nD Cert.Kernel23Ideal.τ).loc Cert.Kernel23Ideal.main_v5_1)) (v2 : (c : Dev Cert.Kernel23Ideal.nD) → Buf (Elt Ideal) ((c.tc : Thread Cert.Kernel23Ideal.nD Cert.Kernel23Ideal.τ).loc Cert.Kernel23Ideal.main_v5_2)) (v3 : (c : Dev Cert.Kernel23Ideal.nD) → Buf (Elt Ideal) ((c.tc : Thread Cert.Kernel23Ideal.nD Cert.Kernel23Ideal.τ).loc Cert.Kernel23Ideal.main_v5_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v5_0) = v0 c
          ∧ r.2.mem ((c.tc : Thread Cert.Kernel23Ideal.nD Cert.Kernel23Ideal.τ).loc Cert.Kernel23Ideal.main_v5_1) = v1 c
          ∧ r.2.mem ((c.tc : Thread Cert.Kernel23Ideal.nD Cert.Kernel23Ideal.τ).loc Cert.Kernel23Ideal.main_v5_2) = v2 c
          ∧ r.2.mem ((c.tc : Thread Cert.Kernel23Ideal.nD Cert.Kernel23Ideal.τ).loc Cert.Kernel23Ideal.main_v5_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v24) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v26) = v2 c
          ∧ r.2.mem ((c.tc : Thread Cert.Reference23Ideal.nD Cert.Reference23Ideal.τ).loc Cert.Reference23Ideal.main_v27) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] [hPre_chip_named24 : Cert.Pre_chip_named24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)
      ∧ m' ((c.tc : Thread Cert.Reference24Ideal.nD Cert.Reference24Ideal.τ).loc Cert.Reference24Ideal.main_arg7) = m ((c.tc : Thread Cert.Kernel24Ideal.nD Cert.Kernel24Ideal.τ).loc Cert.Kernel24Ideal.main_arg7)
      ∧ m' ((c.tc : Thread Cert.Reference24Ideal.nD Cert.Reference24Ideal.τ).loc Cert.Reference24Ideal.main_arg8) = m ((c.tc : Thread Cert.Kernel24Ideal.nD Cert.Kernel24Ideal.τ).loc Cert.Kernel24Ideal.main_arg8)
      ∧ m' ((c.tc : Thread Cert.Reference24Ideal.nD Cert.Reference24Ideal.τ).loc Cert.Reference24Ideal.main_arg9) = m ((c.tc : Thread Cert.Kernel24Ideal.nD Cert.Kernel24Ideal.τ).loc Cert.Kernel24Ideal.main_arg9)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
          ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
          ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8)
          ∧ r.2.mem ((c.tc : Thread Cert.Kernel24Ideal.nD Cert.Kernel24Ideal.τ).loc Cert.Kernel24Ideal.main_arg9) = m ((c.tc : Thread Cert.Kernel24Ideal.nD Cert.Kernel24Ideal.τ).loc Cert.Kernel24Ideal.main_arg9))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v15) = v0 c
          ∧ r.2.mem ((c.tc : Thread Cert.Reference24Ideal.nD Cert.Reference24Ideal.τ).loc Cert.Reference24Ideal.main_v39) = v1 c
          ∧ r.2.mem ((c.tc : Thread Cert.Reference24Ideal.nD Cert.Reference24Ideal.τ).loc Cert.Reference24Ideal.main_v20) = v2 c
          ∧ r.2.mem ((c.tc : Thread Cert.Reference24Ideal.nD Cert.Reference24Ideal.τ).loc Cert.Reference24Ideal.main_v26) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6)
          ∧ r.2.mem ((c.tc : Thread Cert.Reference24Ideal.nD Cert.Reference24Ideal.τ).loc Cert.Reference24Ideal.main_arg7) = m' ((c.tc : Thread Cert.Reference24Ideal.nD Cert.Reference24Ideal.τ).loc Cert.Reference24Ideal.main_arg7)
          ∧ r.2.mem ((c.tc : Thread Cert.Reference24Ideal.nD Cert.Reference24Ideal.τ).loc Cert.Reference24Ideal.main_arg8) = m' ((c.tc : Thread Cert.Reference24Ideal.nD Cert.Reference24Ideal.τ).loc Cert.Reference24Ideal.main_arg8)
          ∧ r.2.mem ((c.tc : Thread Cert.Reference24Ideal.nD Cert.Reference24Ideal.τ).loc Cert.Reference24Ideal.main_arg9) = m' ((c.tc : Thread Cert.Reference24Ideal.nD Cert.Reference24Ideal.τ).loc Cert.Reference24Ideal.main_arg9))

def preserves_Kernel25_Kernel25Ideal : Prop :=
  True

def algebraic_Kernel25Ideal_Reference25Ideal [hKernel25Ideal : Cert.Kernel25Ideal.Facts] [hReference25Ideal : Cert.Reference25Ideal.Facts] [hPre_chip_named25 : Cert.Pre_chip_named25.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)
      ∧ m' ((c.tc : Thread Cert.Reference25Ideal.nD Cert.Reference25Ideal.τ).loc Cert.Reference25Ideal.main_arg7) = m ((c.tc : Thread Cert.Kernel25Ideal.nD Cert.Kernel25Ideal.τ).loc Cert.Kernel25Ideal.main_arg7)
      ∧ m' ((c.tc : Thread Cert.Reference25Ideal.nD Cert.Reference25Ideal.τ).loc Cert.Reference25Ideal.main_arg8) = m ((c.tc : Thread Cert.Kernel25Ideal.nD Cert.Kernel25Ideal.τ).loc Cert.Kernel25Ideal.main_arg8)
      ∧ m' ((c.tc : Thread Cert.Reference25Ideal.nD Cert.Reference25Ideal.τ).loc Cert.Reference25Ideal.main_arg9) = m ((c.tc : Thread Cert.Kernel25Ideal.nD Cert.Kernel25Ideal.τ).loc Cert.Kernel25Ideal.main_arg9)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
          ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
          ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8)
          ∧ r.2.mem ((c.tc : Thread Cert.Kernel25Ideal.nD Cert.Kernel25Ideal.τ).loc Cert.Kernel25Ideal.main_arg9) = m ((c.tc : Thread Cert.Kernel25Ideal.nD Cert.Kernel25Ideal.τ).loc Cert.Kernel25Ideal.main_arg9))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v15) = v0 c
          ∧ r.2.mem ((c.tc : Thread Cert.Reference25Ideal.nD Cert.Reference25Ideal.τ).loc Cert.Reference25Ideal.main_v39) = v1 c
          ∧ r.2.mem ((c.tc : Thread Cert.Reference25Ideal.nD Cert.Reference25Ideal.τ).loc Cert.Reference25Ideal.main_v20) = v2 c
          ∧ r.2.mem ((c.tc : Thread Cert.Reference25Ideal.nD Cert.Reference25Ideal.τ).loc Cert.Reference25Ideal.main_v26) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6)
          ∧ r.2.mem ((c.tc : Thread Cert.Reference25Ideal.nD Cert.Reference25Ideal.τ).loc Cert.Reference25Ideal.main_arg7) = m' ((c.tc : Thread Cert.Reference25Ideal.nD Cert.Reference25Ideal.τ).loc Cert.Reference25Ideal.main_arg7)
          ∧ r.2.mem ((c.tc : Thread Cert.Reference25Ideal.nD Cert.Reference25Ideal.τ).loc Cert.Reference25Ideal.main_arg8) = m' ((c.tc : Thread Cert.Reference25Ideal.nD Cert.Reference25Ideal.τ).loc Cert.Reference25Ideal.main_arg8)
          ∧ r.2.mem ((c.tc : Thread Cert.Reference25Ideal.nD Cert.Reference25Ideal.τ).loc Cert.Reference25Ideal.main_arg9) = m' ((c.tc : Thread Cert.Reference25Ideal.nD Cert.Reference25Ideal.τ).loc Cert.Reference25Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite : Cert.Pre_finite.Facts) (hPre_chip_named24 : Cert.Pre_chip_named24.Facts) (hPre_chip_named25 : Cert.Pre_chip_named25.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24) (hPre_chip_named24 := hPre_chip_named24)
    ∧ quiescent_Kernel24Ideal (hKernel24Ideal := hKernel24Ideal) (hPre_chip_named24 := hPre_chip_named24)
    ∧ quiescent_Reference24Ideal (hReference24Ideal := hReference24Ideal)
    ∧ quiescent_Reference24Ideal_pre_chip_named24 (hReference24Ideal := hReference24Ideal) (hPre_chip_named24 := hPre_chip_named24)
    ∧ quiescent_Kernel25 (hKernel25 := hKernel25) (hPre_chip_named25 := hPre_chip_named25)
    ∧ quiescent_Kernel25Ideal (hKernel25Ideal := hKernel25Ideal) (hPre_chip_named25 := hPre_chip_named25)
    ∧ quiescent_Reference25Ideal (hReference25Ideal := hReference25Ideal)
    ∧ quiescent_Reference25Ideal_pre_chip_named25 (hReference25Ideal := hReference25Ideal) (hPre_chip_named25 := hPre_chip_named25)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal) (hPre_chip_named24 := hPre_chip_named24)
    ∧ preserves_Kernel25_Kernel25Ideal
    ∧ algebraic_Kernel25Ideal_Reference25Ideal (hKernel25Ideal := hKernel25Ideal) (hReference25Ideal := hReference25Ideal) (hPre_chip_named25 := hPre_chip_named25)
-- ==== Pre_chip_named24.lean ====
abbrev S4x2048x512 : Shape := ⟨3, ![4, 2048, 512]⟩
abbrev S3x2048x512 : Shape := ⟨3, ![3, 2048, 512]⟩
abbrev S1 : Shape := ⟨1, ![1]⟩
abbrev S1x2048x512 : Shape := ⟨3, ![1, 2048, 512]⟩
abbrev S_ : Shape := ⟨0, ![]⟩

class Facts : Prop where
  shapeCasts_S1_S_ : S1.ShapeCasts S_

variable [Facts]

def fn {F : FTy → Type} [FloatOps F] (main_arg0 : FVec F S4x2048x512 .bf16) (main_arg1 : FVec F S3x2048x512 .bf16) (main_arg2 : IVec S1 32) (main_arg3 : FVec F S1x2048x512 .f32) (main_arg4 : FVec F S1x2048x512 .f32) (main_arg5 : FVec F S1x2048x512 .f32) (main_arg6 : FVec F S1x2048x512 .f32) (main_arg7 : FVec F S1x2048x512 .f32) (main_arg8 : FVec F S1x2048x512 .f32) (main_arg9 : FVec F S1x2048x512 .f32) : IVec S_ 1 :=
  let main_v0 : IVec S_ 32 := shapeCast S_ main_arg2 shapeCasts_S1_S_
  let main_c : IVec S_ 32 := constantI S_ 32 0#32
  let main_v1 : IVec S_ 1 := cmpi .sge main_v0 main_c
  let main_v2 : IVec S_ 32 := shapeCast S_ main_arg2 shapeCasts_S1_S_
  let main_c_0 : IVec S_ 32 := constantI S_ 32 4#32
  let main_v3 : IVec S_ 1 := cmpi .slt main_v2 main_c_0
  let main_v4 : IVec S_ 1 := andi main_v1 main_v3
  main_v4
-- ==== Pre_chip_named25.lean ====
abbrev S4x256x2048 : Shape := ⟨3, ![4, 256, 2048]⟩
abbrev S3x256x2048 : Shape := ⟨3, ![3, 256, 2048]⟩
abbrev S1 : Shape := ⟨1, ![1]⟩
abbrev S1x256x2048 : Shape := ⟨3, ![1, 256, 2048]⟩
abbrev S_ : Shape := ⟨0, ![]⟩

class Facts : Prop where
  shapeCasts_S1_S_ : S1.ShapeCasts S_

variable [Facts]

def fn {F : FTy → Type} [FloatOps F] (main_arg0 : FVec F S4x256x2048 .bf16) (main_arg1 : FVec F S3x256x2048 .bf16) (main_arg2 : IVec S1 32) (main_arg3 : FVec F S1x256x2048 .f32) (main_arg4 : FVec F S1x256x2048 .f32) (main_arg5 : FVec F S1x256x2048 .f32) (main_arg6 : FVec F S1x256x2048 .f32) (main_arg7 : FVec F S1x256x2048 .f32) (main_arg8 : FVec F S1x256x2048 .f32) (main_arg9 : FVec F S1x256x2048 .f32) : IVec S_ 1 :=
  let main_v0 : IVec S_ 32 := shapeCast S_ main_arg2 shapeCasts_S1_S_
  let main_c : IVec S_ 32 := constantI S_ 32 0#32
  let main_v1 : IVec S_ 1 := cmpi .sge main_v0 main_c
  let main_v2 : IVec S_ 32 := shapeCast S_ main_arg2 shapeCasts_S1_S_
  let main_c_0 : IVec S_ 32 := constantI S_ 32 4#32
  let main_v3 : IVec S_ 1 := cmpi .slt main_v2 main_c_0
  let main_v4 : IVec S_ 1 := andi main_v1 main_v3
  main_v4
-- ==== Pre_finite.lean ====
abbrev S4096x2048 : Shape := ⟨2, ![4096, 2048]⟩
abbrev S8x2048x1408 : Shape := ⟨3, ![8, 2048, 1408]⟩
abbrev S1x5632x2048 : Shape := ⟨3, ![1, 5632, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8x2048x1408 : S_.BroadcastsInDim S8x2048x1408 (![] : Fin 0 → Fin S8x2048x1408.rank)
  reducesTo_S8x2048x1408_S_d0_1_2 : S8x2048x1408.ReducesTo [0, 1, 2] S_
  bcast_S_S1x5632x2048 : S_.BroadcastsInDim S1x5632x2048 (![] : Fin 0 → Fin S1x5632x2048.rank)
  reducesTo_S1x5632x2048_S_d0_1_2 : S1x5632x2048.ReducesTo [0, 1, 2] S_

variable [Facts]

def fn_part1 {F : FTy → Type} [FloatOps F] (main_v4 : IVec S_ 1) (main_v9 : IVec S_ 1) (main_v14 : IVec S_ 1) (main_v16 : FVec F S4096x2048 .f32) (main_cst_4 : FVec F S_ .f32) : IVec S_ 1 :=
  let main_v17 : FVec F S4096x2048 .f32 := broadcastInDim S4096x2048 ![] bcast_S_S4096x2048 main_cst_4
  let main_v18 : IVec S4096x2048 1 := cmpf .olt main_v16 main_v17
  let main_c_5 : IVec S_ 1 := constantI S_ 1 1#1
  let main_v19 : IVec S_ 1 := (fun x v => Host.reduce IntOp.andi x v reducesTo_S4096x2048_S_d0_1 h_S_) main_v18 main_c_5
  let main_v20 : IVec S_ 1 := andi main_v4 main_v9
  let main_v21 : IVec S_ 1 := andi main_v20 main_v14
  let main_v22 : IVec S_ 1 := andi main_v21 main_v19
  main_v22

def fn {F : FTy → Type} [FloatOps F] (main_arg0 : FVec F S4096x2048 .bf16) (main_arg1 : FVec F S8x2048x1408 .bf16) (main_arg2 : FVec F S1x5632x2048 .bf16) (main_arg3 : FVec F S4096x2048 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S8x2048x1408 .f32 := (extf .f32 · bitsLt_bf16_f32) main_arg1
  let main_v6 : FVec F S8x2048x1408 .f32 := Host.absf main_v5
  let main_cst_0 : FVec F S_ .f32 := constant S_ .f32 0x7F800000#32
  let main_v7 : FVec F S8x2048x1408 .f32 := broadcastInDim S8x2048x1408 ![] bcast_S_S8x2048x1408 main_cst_0
  let main_v8 : IVec S8x2048x1408 1 := cmpf .olt main_v6 main_v7
  let main_c_1 : IVec S_ 1 := constantI S_ 1 1#1
  let main_v9 : IVec S_ 1 := (fun x v => Host.reduce IntOp.andi x v reducesTo_S8x2048x1408_S_d0_1_2 h_S_) main_v8 main_c_1
  let main_v10 : FVec F S1x5632x2048 .f32 := (extf .f32 · bitsLt_bf16_f32) main_arg2
  let main_v11 : FVec F S1x5632x2048 .f32 := Host.absf main_v10
  let main_cst_2 : FVec F S_ .f32 := constant S_ .f32 0x7F800000#32
  let main_v12 : FVec F S1x5632x2048 .f32 := broadcastInDim S1x5632x2048 ![] bcast_S_S1x5632x2048 main_cst_2
  let main_v13 : IVec S1x5632x2048 1 := cmpf .olt main_v11 main_v12
  let main_c_3 : IVec S_ 1 := constantI S_ 1 1#1
  let main_v14 : IVec S_ 1 := (fun x v => Host.reduce IntOp.andi x v reducesTo_S1x5632x2048_S_d0_1_2 h_S_) main_v13 main_c_3
  let main_v15 : FVec F S4096x2048 .f32 := (extf .f32 · bitsLt_bf16_f32) main_arg3
  let main_v16 : FVec F S4096x2048 .f32 := Host.absf main_v15
  let main_cst_4 : FVec F S_ .f32 := constant S_ .f32 0x7F800000#32
  fn_part1 (F := F) main_v4 main_v9 main_v14 main_v16 main_cst_4
-- ==== Kernel.lean ====
abbrev S4096x2048 : Shape := ⟨2, ![4096, 2048]⟩
abbrev S8x2048x1408 : Shape := ⟨3, ![8, 2048, 1408]⟩
abbrev S1x5632x2048 : Shape := ⟨3, ![1, 5632, 2048]⟩
abbrev S4096x5632 : Shape := ⟨2, ![4096, 5632]⟩
abbrev S1024x2048 : Shape := ⟨2, ![1024, 2048]⟩
abbrev S1x2048x1408 : Shape := ⟨3, ![1, 2048, 1408]⟩
abbrev S1024x1408 : Shape := ⟨2, ![1024, 1408]⟩
abbrev S256x2048 : Shape := ⟨2, ![256, 2048]⟩
abbrev S2048x1408 : Shape := ⟨2, ![2048, 1408]⟩
abbrev S256x1408 : Shape := ⟨2, ![256, 1408]⟩
abbrev S2x4096x5632 : Shape := ⟨3, ![2, 4096, 5632]⟩
abbrev S1x1408x2048 : Shape := ⟨3, ![1, 1408, 2048]⟩
abbrev S2x1024x1408 : Shape := ⟨3, ![2, 1024, 1408]⟩
abbrev S1408x2048 : Shape := ⟨2, ![1408, 2048]⟩
abbrev S1x256x1408 : Shape := ⟨3, ![1, 256, 1408]⟩

abbrev nBuf : Space → Nat
  | .hbm => 8
  | .vmem => 22
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S1x5632x2048, .bf16⟩
  | .hbm, ⟨3, _⟩ => ⟨S4096x2048, .bf16⟩
  | .hbm, ⟨4, _⟩ => ⟨S4096x5632, .bf16⟩
  | .hbm, ⟨5, _⟩ => ⟨S4096x5632, .bf16⟩
  | .hbm, ⟨6, _⟩ => ⟨S4096x5632, .bf16⟩
  | .hbm, ⟨7, _⟩ => ⟨S2x4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x2048, .bf16⟩
  | .local _ .vmem, ⟨13, _⟩ => ⟨S1024x2048, .bf16⟩
  | .local _ .vmem, ⟨14, _⟩ => ⟨S1x1408x2048, .bf16⟩
  | .local _ .vmem, ⟨15, _⟩ => ⟨S1x1408x2048, .bf16⟩
  | .local _ .vmem, ⟨16, _⟩ => ⟨S1024x1408, .bf16⟩
  | .local _ .vmem, ⟨17, _⟩ => ⟨S1024x1408, .bf16⟩
  | .local _ .vmem, ⟨18, _⟩ => ⟨S1024x1408, .bf16⟩
  | .local _ .vmem, ⟨19, _⟩ => ⟨S1024x1408, .bf16⟩
  | .local _ .vmem, ⟨20, _⟩ => ⟨S2x1024x1408, .bf16⟩
  | .local _ .vmem, ⟨21, _⟩ => ⟨S2x1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x1408x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2x1024x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S4096x2048 : Shape := ⟨2, ![4096, 2048]⟩
abbrev S8x2048x1408 : Shape := ⟨3, ![8, 2048, 1408]⟩
abbrev S1x5632x2048 : Shape := ⟨3, ![1, 5632, 2048]⟩
abbrev S2048x8x1408 : Shape := ⟨3, ![2048, 8, 1408]⟩
abbrev S2048x11264 : Shape := ⟨2, ![2048, 11264]⟩
abbrev S4096x11264 : Shape := ⟨2, ![4096, 11264]⟩
abbrev S4096x5632 : Shape := ⟨2, ![4096, 5632]⟩
abbrev S_ : Shape := ⟨0, ![]⟩
abbrev S5632x2048 : Shape := ⟨2, ![5632, 2048]⟩
abbrev S1x4096x5632 : Shape := ⟨3, ![1, 4096, 5632]⟩
abbrev S2x4096x5632 : Shape := ⟨3, ![2, 4096, 5632]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S1x5632x2048, .bf16⟩
  | .hbm, ⟨3, _⟩ => ⟨S4096x2048, .bf16⟩
  | .hbm, ⟨4, _⟩ => ⟨S4096x2048, .f32⟩
  | .hbm, ⟨5, _⟩ => ⟨S8x2048x1408, .f32⟩
  | .hbm, ⟨6, _⟩ => ⟨S2048x8x1408, .f32⟩
  | .hbm, ⟨7, _⟩ => ⟨S2048x11264, .f32⟩
  | .hbm, ⟨8, _⟩ => ⟨S4096x11264, .f32⟩
  | .hbm, ⟨9, _⟩ => ⟨S4096x5632, .f32⟩
  | .hbm, ⟨10, _⟩ => ⟨S4096x5632, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S5632x2048, .bf16⟩
  | .hbm, ⟨22, _⟩ => ⟨S5632x2048, .f32⟩
  | .hbm, ⟨23, _⟩ => ⟨S4096x5632, .f32⟩
  | .hbm, ⟨24, _⟩ => ⟨S4096x5632, .f32⟩
  | .hbm, ⟨25, _⟩ => ⟨S_, .f32⟩
  | .hbm, ⟨26, _⟩ => ⟨S4096x5632, .f32⟩
  | .hbm, ⟨27, _⟩ => ⟨S4096x5632, .f32⟩
  | .hbm, ⟨28, _⟩ => ⟨S_, .f32⟩
  | .hbm, ⟨29, _⟩ => ⟨S4096x5632, .f32⟩
  | .hbm, ⟨30, _⟩ => ⟨S4096x5632, .f32⟩
  | .hbm, ⟨31, _⟩ => ⟨S_, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x5632, .f32⟩
  | .hbm, ⟨37, _⟩ => ⟨S4096x2048, .f32⟩
  | .hbm, ⟨38, _⟩ => ⟨S4096x2048, .f32⟩
  | .hbm, ⟨39, _⟩ => ⟨S4096x5632, .f32⟩
  | .hbm, ⟨40, _⟩ => ⟨S4096x5632, .f32⟩
  | .hbm, ⟨41, _⟩ => ⟨S4096x5632, .f32⟩
  | .hbm, ⟨42, _⟩ => ⟨S4096x5632, .f32⟩
  | .hbm, ⟨43, _⟩ => ⟨S4096x5632, .f32⟩
  | .hbm, ⟨44, _⟩ => ⟨S4096x5632, .f32⟩
  | .hbm, ⟨45, _⟩ => ⟨S4096x5632, .f32⟩
  | .hbm, ⟨46, _⟩ => ⟨S1x4096x5632, .f32⟩
  | .hbm, ⟨47, _⟩ => ⟨S1x4096x5632, .f32⟩
  | .hbm, ⟨48, _⟩ => ⟨S2x4096x5632, .f32⟩
  | .hbm, ⟨49, _⟩ => ⟨S2x4096x5632, .bf16⟩
  | .hbm, ⟨50, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_v11_2 : Ref sig .tc := ⟨.hbm, 30, rfl⟩
abbrev main_call1_cst_1 : Ref sig .tc := ⟨.hbm, 31, rfl⟩
abbrev main_call1_v6 : Ref sig .tc := ⟨.hbm, 32, rfl⟩
abbrev main_call1_v7 : Ref sig .tc := ⟨.hbm, 33, rfl⟩
abbrev main_v11_1 : Ref sig .tc := ⟨.hbm, 34, rfl⟩
abbrev main_v11_0 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩

abbrev nD : Nat := 1
abbrev τ : Topo := Topo.v7x

variable {F : FTy → Type} [FloatOps F]
-- ==== Kernel2.lean ====
abbrev S4096x2048 : Shape := ⟨2, ![4096, 2048]⟩
abbrev S2x4096x5632 : Shape := ⟨3, ![2, 4096, 5632]⟩
abbrev S8x2048x1408 : Shape := ⟨3, ![8, 2048, 1408]⟩
abbrev S1024x2048 : Shape := ⟨2, ![1024, 2048]⟩
abbrev S1x1024x1408 : Shape := ⟨3, ![1, 1024, 1408]⟩
abbrev S1x2048x1408 : Shape := ⟨3, ![1, 2048, 1408]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S8x2048x1408, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S2048x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2048 : Shape := ⟨2, ![4096, 2048]⟩
abbrev S2x4096x5632 : Shape := ⟨3, ![2, 4096, 5632]⟩
abbrev S1x4096x5632 : Shape := ⟨3, ![1, 4096, 5632]⟩
abbrev S4096x5632 : Shape := ⟨2, ![4096, 5632]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S1x4096x5632, .bf16⟩
  | .hbm, ⟨3, _⟩ => ⟨S4096x5632, .bf16⟩
  | .hbm, ⟨4, _⟩ => ⟨S1x4096x5632, .bf16⟩
  | .hbm, ⟨5, _⟩ => ⟨S4096x5632, .bf16⟩
  | .hbm, ⟨6, _⟩ => ⟨S4096x11264, .bf16⟩
  | .hbm, ⟨7, _⟩ => ⟨S4096x11264, .f32⟩
  | .hbm, ⟨8, _⟩ => ⟨S_, .f32⟩
  | .hbm, ⟨9, _⟩ => ⟨S2048x11264, .f32⟩
  | .hbm, ⟨10, _⟩ => ⟨S4096x2048, .f32⟩
  | .hbm, ⟨11, _⟩ => ⟨S4096x11264, .f32⟩
  | .hbm, ⟨12, _⟩ => ⟨S11264x2048, .f32⟩
  | .hbm, ⟨13, _⟩ => ⟨S2048x11264, .f32⟩
  | .hbm, ⟨14, _⟩ => ⟨S2048x8x1408, .f32⟩
  | .hbm, ⟨15, _⟩ => ⟨S8x2048x1408, .f32⟩
  | .hbm, ⟨16, _⟩ => ⟨S8x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel3.lean ====
abbrev S4096x5632 : Shape := ⟨2, ![4096, 5632]⟩
abbrev S4096x2048 : Shape := ⟨2, ![4096, 2048]⟩
abbrev S1x4096x2048 : Shape := ⟨3, ![1, 4096, 2048]⟩
abbrev S1x5632x2048 : Shape := ⟨3, ![1, 5632, 2048]⟩
abbrev S1024x1408 : Shape := ⟨2, ![1024, 1408]⟩
abbrev S1x1024x2048 : Shape := ⟨3, ![1, 1024, 2048]⟩
abbrev S1x1408x2048 : Shape := ⟨3, ![1, 1408, 2048]⟩
abbrev S1408x2048 : Shape := ⟨2, ![1408, 2048]⟩
abbrev S1024x2048 : Shape := ⟨2, ![1024, 2048]⟩

abbrev nBuf : Space → Nat
  | .hbm => 4
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S1x4096x2048, .bf16⟩
  | .hbm, ⟨3, _⟩ => ⟨S1x5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1408x2048, .bf16⟩
  | .local _ .vmem, ⟨5, _⟩ => ⟨S1x1408x2048, .bf16⟩
  | .local _ .vmem, ⟨6, _⟩ => ⟨S1408x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩
abbrev S1x5632x2048 : Shape := ⟨3, ![1, 5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S1x5632x2048, .f32⟩
  | .hbm, ⟨10, _⟩ => ⟨S1x5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4096x2048 : Shape := ⟨2, ![4096, 2048]⟩
abbrev S16x128x128 : Shape := ⟨3, ![16, 128, 128]⟩
abbrev S16x128 : Shape := ⟨2, ![16, 128]⟩
abbrev S16x128x1 : Shape := ⟨3, ![16, 128, 1]⟩
abbrev S4096x128 : Shape := ⟨2, ![4096, 128]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩

abbrev nBuf : Space → Nat
  | .hbm => 11
  | .vmem => 20
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S16x128x128, .f32⟩
  | .hbm, ⟨3, _⟩ => ⟨S16x128, .f32⟩
  | .hbm, ⟨4, _⟩ => ⟨S4096x2048, .bf16⟩
  | .hbm, ⟨5, _⟩ => ⟨S16x128x1, .f32⟩
  | .hbm, ⟨6, _⟩ => ⟨S16x128x128, .f32⟩
  | .hbm, ⟨7, _⟩ => ⟨S4096x2048, .bf16⟩
  | .hbm, ⟨8, _⟩ => ⟨S4096x2048, .bf16⟩
  | .hbm, ⟨9, _⟩ => ⟨S16x128x128, .f32⟩
  | .hbm, ⟨10, _⟩ => ⟨S16x128x128, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S1x128x128, .f32⟩
  | .local _ .vmem, ⟨15, _⟩ => ⟨S1x128x128, .f32⟩
  | .local _ .vmem, ⟨16, _⟩ => ⟨S1x128x128, .f32⟩
  | .local _ .vmem, ⟨17, _⟩ => ⟨S1x128x128, .f32⟩
  | .local _ .vmem, ⟨18, _⟩ => ⟨S128x128, .f32⟩
  | .local _ .vmem, ⟨19, _⟩ => ⟨S128x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c32_i32 : BitVec 32 := 32#32
  let v18 : BitVec 32 := Scalar.addi c0_i32 c32_i32
  let c1_i32 : BitVec 32 := 1#32
  ⟨c0_i32, v18, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32 : BitVec 32 := 128#32
  let v36 : BitVec 32 := Scalar.muli arg12 c128_i32
  v36
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v36 : BitVec 32 := Scalar.muli arg12 c128_i32
  let v37 : BitVec 32 := v36
  let v38 : Index := Scalar.indexCast v37
  let c0_24 : Index := 0#32
  ![v38.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S4096x2048 : Shape := ⟨2, ![4096, 2048]⟩
abbrev S16x128x128 : Shape := ⟨3, ![16, 128, 128]⟩
abbrev S16x128 : Shape := ⟨2, ![16, 128]⟩
abbrev S32x128x16x128 : Shape := ⟨4, ![32, 128, 16, 128]⟩
abbrev S_ : Shape := ⟨0, ![]⟩
abbrev S128x128 : Shape := ⟨2, ![128, 128]⟩
abbrev S1x128x128 : Shape := ⟨3, ![1, 128, 128]⟩
abbrev S128x16 : Shape := ⟨2, ![128, 16]⟩
abbrev S128x16x1 : Shape := ⟨3, ![128, 16, 1]⟩
abbrev S128x16x128 : Shape := ⟨3, ![128, 16, 128]⟩
abbrev S16x32x128x128 : Shape := ⟨4, ![16, 32, 128, 128]⟩
abbrev S1x128x16x128 : Shape := ⟨4, ![1, 128, 16, 128]⟩
abbrev S16x128x1 : Shape := ⟨3, ![16, 128, 1]⟩

abbrev nBuf : Space → Nat
  | .hbm => 63
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S16x128x128, .f32⟩
  | .hbm, ⟨3, _⟩ => ⟨S16x128, .f32⟩
  | .hbm, ⟨4, _⟩ => ⟨S4096x2048, .bf16⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S32x128x16x128, .f32⟩
  | .hbm, ⟨9, _⟩ => ⟨S_, .i1⟩
  | .hbm, ⟨10, _⟩ => ⟨S128x128, .i1⟩
  | .hbm, ⟨11, _⟩ => ⟨S128x128, .i32⟩
  | .hbm, ⟨12, _⟩ => ⟨S_, .i32⟩
  | .hbm, ⟨13, _⟩ => ⟨S128x128, .i32⟩
  | .hbm, ⟨14, _⟩ => ⟨S128x128, .i32⟩
  | .hbm, ⟨15, _⟩ => ⟨S128x128, .i32⟩
  | .hbm, ⟨16, _⟩ => ⟨S128x128, .i1⟩
  | .hbm, ⟨17, _⟩ => ⟨S_, .i1⟩
  | .hbm, ⟨18, _⟩ => ⟨S128x128, .i1⟩
  | .hbm, ⟨19, _⟩ => ⟨S128x128, .i1⟩
  | .hbm, ⟨20, _⟩ => ⟨S1x128x128, .i1⟩
  | .hbm, ⟨21, _⟩ => ⟨S_, .f32⟩
  | .hbm, ⟨22, _⟩ => ⟨S16x128x128, .f32⟩
  | .hbm, ⟨23, _⟩ => ⟨S16x128x128, .i1⟩
  | .hbm, ⟨24, _⟩ => ⟨S16x128x128, .f32⟩
  | .hbm, ⟨25, _⟩ => ⟨S_, .f32⟩
  | .hbm, ⟨26, _⟩ => ⟨S16x128x128, .f32⟩
  | .hbm, ⟨27, _⟩ => ⟨S128x16, .f32⟩
  | .hbm, ⟨28, _⟩ => ⟨S128x16x1, .f32⟩
  | .hbm, ⟨29, _⟩ => ⟨S128x16x128, .f32⟩
  | .hbm, ⟨30, _⟩ => ⟨S16x32x128x128, .f32⟩
  | .hbm, ⟨31, _⟩ => ⟨S32x128x16x128, .f32⟩
  | .hbm, ⟨32, _⟩ => ⟨S1x128x16x128, .f32⟩
  | .hbm, ⟨33, _⟩ => ⟨S32x128x16x128, .f32⟩
  | .hbm, ⟨34, _⟩ => ⟨S32x128x16x128, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S32x128x16x128, .f32⟩
  | .hbm, ⟨40, _⟩ => ⟨S_, .f32⟩
  | .hbm, ⟨41, _⟩ => ⟨S128x16x128, .f32⟩
  | .hbm, ⟨42, _⟩ => ⟨S1x128x16x128, .f32⟩
  | .hbm, ⟨43, _⟩ => ⟨S_, .f32⟩
  | .hbm, ⟨44, _⟩ => ⟨S128x16x128, .f32⟩
  | .hbm, ⟨45, _⟩ => ⟨S16x32x128x128, .f32⟩
  | .hbm, ⟨46, _⟩ => ⟨S16x128x128, .f32⟩
  | .hbm, ⟨47, _⟩ => ⟨S16x32x128x128, .f32⟩
  | .hbm, ⟨48, _⟩ => ⟨S32x128x16x128, .f32⟩
  | .hbm, ⟨49, _⟩ => ⟨S_, .f32⟩
  | .hbm, ⟨50, _⟩ => ⟨S128x16, .f32⟩
  | .hbm, ⟨51, _⟩ => ⟨S128x16x1, .f32⟩
  | .hbm, ⟨52, _⟩ => ⟨S_, .f32⟩
  | .hbm, ⟨53, _⟩ => ⟨S128x16, .f32⟩
  | .hbm, ⟨54, _⟩ => ⟨S16x128, .f32⟩
  | .hbm, ⟨55, _⟩ => ⟨S_, .f32⟩
  | .hbm, ⟨56, _⟩ => ⟨S16x128x128, .f32⟩
  | .hbm, ⟨57, _⟩ => ⟨S16x128x128, .f32⟩
  | .hbm, ⟨58, _⟩ => ⟨S4096x2048, .f32⟩
  | .hbm, ⟨59, _⟩ => ⟨S4096x2048, .bf16⟩
  | .hbm, ⟨60, _⟩ => ⟨S4096x2048, .bf16⟩
  | .hbm, ⟨61, _⟩ => ⟨S16x128x1, .f32⟩
  | .hbm, ⟨62, _⟩ => ⟨S16x128x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_0 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8_1 : Ref sig .tc := ⟨.hbm, 23, rfl⟩
abbrev main_v8_0 : Ref sig .tc := ⟨.hbm, 24, rfl⟩
abbrev main_call1_cst : Ref sig .tc := ⟨.hbm, 25, rfl⟩
abbrev main_v8_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_0 : Ref sig .tc := ⟨.hbm, 40, rfl⟩
abbrev main_v22 : Ref sig .tc := ⟨.hbm, 41, rfl⟩
abbrev main_v23 : Ref sig .tc := ⟨.hbm, 42, rfl⟩
abbrev main_cst_1 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_2 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_call2_cst : Ref sig .tc := ⟨.hbm, 55, rfl⟩
abbrev main_call2_v0 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩

abbrev nD : Nat := 1
abbrev τ : Topo := Topo.v7x

variable {F : FTy → Type} [FloatOps F]
-- ==== Kernel5.lean ====
abbrev S4096x5632 : Shape := ⟨2, ![4096, 5632]⟩
abbrev S1x5632x2048 : Shape := ⟨3, ![1, 5632, 2048]⟩
abbrev S4096x2048 : Shape := ⟨2, ![4096, 2048]⟩
abbrev S1x2048 : Shape := ⟨2, ![1, 2048]⟩
abbrev S1024x5632 : Shape := ⟨2, ![1024, 5632]⟩
abbrev S1x5632x512 : Shape := ⟨3, ![1, 5632, 512]⟩
abbrev S1024x512 : Shape := ⟨2, ![1024, 512]⟩
abbrev S1x512 : Shape := ⟨2, ![1, 512]⟩
abbrev S5632x512 : Shape := ⟨2, ![5632, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x5632, .bf16⟩
  | .hbm, ⟨1, _⟩ => ⟨S1x5632x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .local _ .vmem, ⟨0, _⟩ => ⟨S1024x5632, .bf16⟩
  | .local _ .vmem, ⟨1, _⟩ => ⟨S1024x5632, .bf16⟩
  | .local _ .vmem, ⟨2, _⟩ => ⟨S1x5632x512, .bf16⟩
  | .local _ .vmem, ⟨3, _⟩ => ⟨S1x5632x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S4096x5632 : Shape := ⟨2, ![4096, 5632]⟩
abbrev S1x5632x2048 : Shape := ⟨3, ![1, 5632, 2048]⟩
abbrev S4096x2048 : Shape := ⟨2, ![4096, 2048]⟩
abbrev S1x2048 : Shape := ⟨2, ![1, 2048]⟩
abbrev S5632x2048 : Shape := ⟨2, ![5632, 2048]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1x5632x2048, .bf16⟩
  | .hbm, ⟨2, _⟩ => ⟨S4096x2048, .f32⟩
  | .hbm, ⟨3, _⟩ => ⟨S1x2048, .f32⟩
  | .hbm, ⟨4, _⟩ => ⟨S4096x5632, .f32⟩
  | .hbm, ⟨5, _⟩ => ⟨S5632x2048, .bf16⟩
  | .hbm, ⟨6, _⟩ => ⟨S5632x2048, .f32⟩
  | .hbm, ⟨7, _⟩ => ⟨S4096x2048, .f32⟩
  | .hbm, ⟨8, _⟩ => ⟨S_, .f32⟩
  | .hbm, ⟨9, _⟩ => ⟨S1x2048, .f32⟩
  | .hbm, ⟨10, _⟩ => ⟨S1x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel6.lean ====
abbrev S4096x2048 : Shape := ⟨2, ![4096, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x2048 : Shape := ⟨2, ![4096, 2048]⟩
abbrev S1x2048x2048 : Shape := ⟨3, ![1, 2048, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .bf16⟩
  | .hbm, ⟨2, _⟩ => ⟨S_, .f32⟩
  | .hbm, ⟨3, _⟩ => ⟨S4096x2048, .f32⟩
  | .hbm, ⟨4, _⟩ => ⟨S2048x2048, .bf16⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x2048 : Shape := ⟨2, ![4096, 2048]⟩
abbrev S1x4096x2048 : Shape := ⟨3, ![1, 4096, 2048]⟩
abbrev S1x2048x2048 : Shape := ⟨3, ![1, 2048, 2048]⟩
abbrev S2048x1024 : Shape := ⟨2, ![2048, 1024]⟩
abbrev S1x1024x2048 : Shape := ⟨3, ![1, 1024, 2048]⟩
abbrev S1024x2048 : Shape := ⟨2, ![1024, 2048]⟩
abbrev S2048x2048 : Shape := ⟨2, ![2048, 2048]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S1x4096x2048, .bf16⟩
  | .hbm, ⟨3, _⟩ => ⟨S1x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S1x2048x2048, .f32⟩
  | .hbm, ⟨10, _⟩ => ⟨S1x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S4096x2048 : Shape := ⟨2, ![4096, 2048]⟩
abbrev S8x2048x512 : Shape := ⟨3, ![8, 2048, 512]⟩
abbrev S4096x4096 : Shape := ⟨2, ![4096, 4096]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x2048x512, .bf16⟩
  | .hbm, ⟨2, _⟩ => ⟨S4096x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x2048 : Shape := ⟨2, ![4096, 2048]⟩
abbrev S8x2048x512 : Shape := ⟨3, ![8, 2048, 512]⟩
abbrev S2048x8x512 : Shape := ⟨3, ![2048, 8, 512]⟩
abbrev S2048x4096 : Shape := ⟨2, ![2048, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x512, .bf16⟩
  | .hbm, ⟨2, _⟩ => ⟨S4096x2048, .f32⟩
  | .hbm, ⟨3, _⟩ => ⟨S8x2048x512, .f32⟩
  | .hbm, ⟨4, _⟩ => ⟨S2048x8x512, .f32⟩
  | .hbm, ⟨5, _⟩ => ⟨S2048x4096, .f32⟩
  | .hbm, ⟨6, _⟩ => ⟨S4096x4096, .f32⟩
  | .hbm, ⟨7, _⟩ => ⟨S4096x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel9.lean ====
abbrev S4096x2048 : Shape := ⟨2, ![4096, 2048]⟩
abbrev S8x2048x512 : Shape := ⟨3, ![8, 2048, 512]⟩
abbrev S1x4096 : Shape := ⟨2, ![1, 4096]⟩
abbrev S4096x4096 : Shape := ⟨2, ![4096, 4096]⟩
abbrev S1024x2048 : Shape := ⟨2, ![1024, 2048]⟩
abbrev S1x2048x512 : Shape := ⟨3, ![1, 2048, 512]⟩
abbrev S1x512 : Shape := ⟨2, ![1, 512]⟩
abbrev S1024x512 : Shape := ⟨2, ![1024, 512]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8x2048x512, .bf16⟩
  | .hbm, ⟨2, _⟩ => ⟨S1x4096, .f32⟩
  | .hbm, ⟨3, _⟩ => ⟨S4096x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S4096x2048 : Shape := ⟨2, ![4096, 2048]⟩
abbrev S8x2048x512 : Shape := ⟨3, ![8, 2048, 512]⟩
abbrev S1x4096 : Shape := ⟨2, ![1, 4096]⟩
abbrev S2048x8x512 : Shape := ⟨3, ![2048, 8, 512]⟩
abbrev S2048x4096 : Shape := ⟨2, ![2048, 4096]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x512, .bf16⟩
  | .hbm, ⟨2, _⟩ => ⟨S1x4096, .f32⟩
  | .hbm, ⟨3, _⟩ => ⟨S4096x2048, .f32⟩
  | .hbm, ⟨4, _⟩ => ⟨S8x2048x512, .f32⟩
  | .hbm, ⟨5, _⟩ => ⟨S2048x8x512, .f32⟩
  | .hbm, ⟨6, _⟩ => ⟨S2048x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S4096x2048 : Shape := ⟨2, ![4096, 2048]⟩
abbrev S4096x4096 : Shape := ⟨2, ![4096, 4096]⟩
abbrev S1x4096x4096 : Shape := ⟨3, ![1, 4096, 4096]⟩
abbrev S8x2048x512 : Shape := ⟨3, ![8, 2048, 512]⟩
abbrev S2048x2048 : Shape := ⟨2, ![2048, 2048]⟩
abbrev S1x2048x512 : Shape := ⟨3, ![1, 2048, 512]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S1x4096x4096, .bf16⟩
  | .hbm, ⟨3, _⟩ => ⟨S8x2048x512, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩
abbrev S2048x8x512 : Shape := ⟨3, ![2048, 8, 512]⟩
abbrev S8x2048x512 : Shape := ⟨3, ![8, 2048, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S_, .f32⟩
  | .hbm, ⟨3, _⟩ => ⟨S2048x4096, .f32⟩
  | .hbm, ⟨4, _⟩ => ⟨S4096x2048, .f32⟩
  | .hbm, ⟨5, _⟩ => ⟨S4096x4096, .f32⟩
  | .hbm, ⟨6, _⟩ => ⟨S4096x4096, .f32⟩
  | .hbm, ⟨7, _⟩ => ⟨S4096x2048, .f32⟩
  | .hbm, ⟨8, _⟩ => ⟨S2048x4096, .f32⟩
  | .hbm, ⟨9, _⟩ => ⟨S2048x8x512, .f32⟩
  | .hbm, ⟨10, _⟩ => ⟨S8x2048x512, .f32⟩
  | .hbm, ⟨11, _⟩ => ⟨S8x2048x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel11.lean ====
abbrev S4096x2048 : Shape := ⟨2, ![4096, 2048]⟩
abbrev S2x4096x2048 : Shape := ⟨3, ![2, 4096, 2048]⟩
abbrev S8x2048x512 : Shape := ⟨3, ![8, 2048, 512]⟩
abbrev S2048x2048 : Shape := ⟨2, ![2048, 2048]⟩
abbrev S1x2048x512 : Shape := ⟨3, ![1, 2048, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2x4096x2048, .bf16⟩
  | .hbm, ⟨2, _⟩ => ⟨S8x2048x512, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S2x4096x2048 : Shape := ⟨3, ![2, 4096, 2048]⟩
abbrev S1x4096x2048 : Shape := ⟨3, ![1, 4096, 2048]⟩
abbrev S4096x4096 : Shape := ⟨2, ![4096, 4096]⟩
abbrev S_ : Shape := ⟨0, ![]⟩
abbrev S2048x4096 : Shape := ⟨2, ![2048, 4096]⟩
abbrev S2048x8x512 : Shape := ⟨3, ![2048, 8, 512]⟩
abbrev S8x2048x512 : Shape := ⟨3, ![8, 2048, 512]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x2048, .bf16⟩
  | .hbm, ⟨2, _⟩ => ⟨S1x4096x2048, .bf16⟩
  | .hbm, ⟨3, _⟩ => ⟨S4096x2048, .bf16⟩
  | .hbm, ⟨4, _⟩ => ⟨S1x4096x2048, .bf16⟩
  | .hbm, ⟨5, _⟩ => ⟨S4096x2048, .bf16⟩
  | .hbm, ⟨6, _⟩ => ⟨S4096x4096, .bf16⟩
  | .hbm, ⟨7, _⟩ => ⟨S4096x4096, .f32⟩
  | .hbm, ⟨8, _⟩ => ⟨S_, .f32⟩
  | .hbm, ⟨9, _⟩ => ⟨S2048x4096, .f32⟩
  | .hbm, ⟨10, _⟩ => ⟨S4096x2048, .f32⟩
  | .hbm, ⟨11, _⟩ => ⟨S4096x4096, .f32⟩
  | .hbm, ⟨12, _⟩ => ⟨S4096x2048, .f32⟩
  | .hbm, ⟨13, _⟩ => ⟨S2048x4096, .f32⟩
  | .hbm, ⟨14, _⟩ => ⟨S2048x8x512, .f32⟩
  | .hbm, ⟨15, _⟩ => ⟨S8x2048x512, .f32⟩
  | .hbm, ⟨16, _⟩ => ⟨S8x2048x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel12.lean ====
abbrev S4096x2048 : Shape := ⟨2, ![4096, 2048]⟩
abbrev S1x2048x2048 : Shape := ⟨3, ![1, 2048, 2048]⟩
abbrev S1x2048 : Shape := ⟨2, ![1, 2048]⟩
abbrev S1024x2048 : Shape := ⟨2, ![1024, 2048]⟩
abbrev S1x2048x512 : Shape := ⟨3, ![1, 2048, 512]⟩
abbrev S1024x512 : Shape := ⟨2, ![1024, 512]⟩
abbrev S1x512 : Shape := ⟨2, ![1, 512]⟩
abbrev S2048x512 : Shape := ⟨2, ![2048, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference12Ideal.lean ====
abbrev S4096x2048 : Shape := ⟨2, ![4096, 2048]⟩
abbrev S1x2048x2048 : Shape := ⟨3, ![1, 2048, 2048]⟩
abbrev S1x2048 : Shape := ⟨2, ![1, 2048]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048x2048, .bf16⟩
  | .hbm, ⟨6, _⟩ => ⟨S2048x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel13.lean ====
abbrev S4096x2048 : Shape := ⟨2, ![4096, 2048]⟩
abbrev S1x2048x2048 : Shape := ⟨3, ![1, 2048, 2048]⟩
abbrev S1x2048 : Shape := ⟨2, ![1, 2048]⟩
abbrev S1024x2048 : Shape := ⟨2, ![1024, 2048]⟩
abbrev S1x2048x512 : Shape := ⟨3, ![1, 2048, 512]⟩
abbrev S1024x512 : Shape := ⟨2, ![1024, 512]⟩
abbrev S1x512 : Shape := ⟨2, ![1, 512]⟩
abbrev S2048x512 : Shape := ⟨2, ![2048, 512]⟩

abbrev nBuf : Space → Nat
  | .hbm => 7
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference13Ideal.lean ====
abbrev S4096x2048 : Shape := ⟨2, ![4096, 2048]⟩
abbrev S1x2048x2048 : Shape := ⟨3, ![1, 2048, 2048]⟩
abbrev S1x2048 : Shape := ⟨2, ![1, 2048]⟩
abbrev S2048x2048 : Shape := ⟨2, ![2048, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S2048x2048, .bf16⟩
  | .hbm, ⟨7, _⟩ => ⟨S2048x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel14.lean ====
abbrev S8x2048 : Shape := ⟨2, ![8, 2048]⟩
abbrev S8x2x2304 : Shape := ⟨3, ![8, 2, 2304]⟩
abbrev S2x2048x2304 : Shape := ⟨3, ![2, 2048, 2304]⟩
abbrev S_ : Shape := ⟨0, ![]⟩
abbrev S16x2048 : Shape := ⟨2, ![16, 2048]⟩
abbrev S2x8x2304 : Shape := ⟨3, ![2, 8, 2304]⟩
abbrev S2x16x2304 : Shape := ⟨3, ![2, 16, 2304]⟩
abbrev S1x16x256 : Shape := ⟨3, ![1, 16, 256]⟩
abbrev S1x2048x256 : Shape := ⟨3, ![1, 2048, 256]⟩
abbrev S16x256 : Shape := ⟨2, ![16, 256]⟩
abbrev S2048x256 : Shape := ⟨2, ![2048, 256]⟩

abbrev nBuf : Space → Nat
  | .hbm => 16
  | .vmem => 17
  | .smem => 0
  | _ => 0

abbrev bufTy : (tb : Table) → Fin (tcTables nBuf tb) → BufTy
  | .hbm, ⟨0, _⟩ => ⟨S8x2048, .f32⟩
  | .hbm, ⟨1, _⟩ => ⟨S8x2x2304, .f32⟩
  | .hbm, ⟨2, _⟩ => ⟨S2x2048x2304, .f32⟩
  | .hbm, ⟨3, _⟩ => ⟨S2x2048x2304, .f32⟩
  | .hbm, ⟨4, _⟩ => ⟨S2x2048x2304, .f32⟩
  | .hbm, ⟨5, _⟩ => ⟨S_, .i32⟩
  | .hbm, ⟨6, _⟩ => ⟨S_, .f32⟩
  | .hbm, ⟨7, _⟩ => ⟨S16x2048, .f32⟩
  | .hbm, ⟨8, _⟩ => ⟨S2x8x2304, .f32⟩
  | .hbm, ⟨9, _⟩ => ⟨S_, .i32⟩
  | .hbm, ⟨10, _⟩ => ⟨S_, .f32⟩
  | .hbm, ⟨11, _⟩ => ⟨S2x16x2304, .f32⟩
  | .hbm, ⟨12, _⟩ => ⟨S2x2048x2304, .f32⟩
  | .hbm, ⟨13, _⟩ => ⟨S2x2048x2304, .f32⟩
  | .hbm, ⟨14, _⟩ => ⟨S2x2048x2304, .f32⟩
  | .hbm, ⟨15, _⟩ => ⟨S2x2048x2304, .f32⟩
  | .local _ .vmem, ⟨0, _⟩ => ⟨S16x2048, .f32⟩
  | .local _ .vmem, ⟨1, _⟩ => ⟨S1x16x256, .f32⟩
  | .local _ .vmem, ⟨2, _⟩ => ⟨S1x16x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x2048x256, .f32⟩
  | .local _ .vmem, ⟨9, _⟩ => ⟨S1x2048x256, .f32⟩
  | .local _ .vmem, ⟨10, _⟩ => ⟨S1x2048x256, .f32⟩
  | .local _ .vmem, ⟨11, _⟩ => ⟨S1x2048x256, .f32⟩
  | .local _ .vmem, ⟨12, _⟩ => ⟨S1x2048x256, .f32⟩
  | .local _ .vmem, ⟨13, _⟩ => ⟨S1x2048x256, .f32⟩
  | .local _ .vmem, ⟨14, _⟩ => ⟨S1x2048x256, .f32⟩
  | .local _ .vmem, ⟨15, _⟩ => ⟨S1x2048x256, .f32⟩
  | .local _ .vmem, ⟨16, _⟩ => ⟨S1x2048x256, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference14Ideal.lean ====
abbrev S8x2048 : Shape := ⟨2, ![8, 2048]⟩
abbrev S8x2x2304 : Shape := ⟨3, ![8, 2, 2304]⟩
abbrev S2x2048x2304 : Shape := ⟨3, ![2, 2048, 2304]⟩
abbrev S_ : Shape := ⟨0, ![]⟩
abbrev S2048x2304 : Shape := ⟨2, ![2048, 2304]⟩
abbrev S8x2304 : Shape := ⟨2, ![8, 2304]⟩
abbrev S8x1x2304 : Shape := ⟨3, ![8, 1, 2304]⟩
abbrev S2304x2048 : Shape := ⟨2, ![2304, 2048]⟩
abbrev S1x2048x2304 : Shape := ⟨3, ![1, 2048, 2304]⟩

abbrev nBuf : Space → Nat
  | .hbm => 64
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x2x2304, .f32⟩
  | .hbm, ⟨2, _⟩ => ⟨S2x2048x2304, .f32⟩
  | .hbm, ⟨3, _⟩ => ⟨S2x2048x2304, .f32⟩
  | .hbm, ⟨4, _⟩ => ⟨S2x2048x2304, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S_, .f32⟩
  | .hbm, ⟨15, _⟩ => ⟨S2048x2304, .f32⟩
  | .hbm, ⟨16, _⟩ => ⟨S8x2304, .f32⟩
  | .hbm, ⟨17, _⟩ => ⟨S8x1x2304, .f32⟩
  | .hbm, ⟨18, _⟩ => ⟨S8x2304, .f32⟩
  | .hbm, ⟨19, _⟩ => ⟨S2304x2048, .f32⟩
  | .hbm, ⟨20, _⟩ => ⟨S2048x2304, .f32⟩
  | .hbm, ⟨21, _⟩ => ⟨S_, .f32⟩
  | .hbm, ⟨22, _⟩ => ⟨S2048x2304, .f32⟩
  | .hbm, ⟨23, _⟩ => ⟨S8x2304, .f32⟩
  | .hbm, ⟨24, _⟩ => ⟨S8x1x2304, .f32⟩
  | .hbm, ⟨25, _⟩ => ⟨S8x2304, .f32⟩
  | .hbm, ⟨26, _⟩ => ⟨S2304x2048, .f32⟩
  | .hbm, ⟨27, _⟩ => ⟨S2048x2304, .f32⟩
  | .hbm, ⟨28, _⟩ => ⟨S1x2048x2304, .f32⟩
  | .hbm, ⟨29, _⟩ => ⟨S1x2048x2304, .f32⟩
  | .hbm, ⟨30, _⟩ => ⟨S2x2048x2304, .f32⟩
  | .hbm, ⟨31, _⟩ => ⟨S_, .f32⟩
  | .hbm, ⟨32, _⟩ => ⟨S2x2048x2304, .f32⟩
  | .hbm, ⟨33, _⟩ => ⟨S2x2048x2304, .f32⟩
  | .hbm, ⟨34, _⟩ => ⟨S_, .f32⟩
  | .hbm, ⟨35, _⟩ => ⟨S2x2048x2304, .f32⟩
  | .hbm, ⟨36, _⟩ => ⟨S2x2048x2304, .f32⟩
  | .hbm, ⟨37, _⟩ => ⟨S2x2048x2304, .f32⟩
  | .hbm, ⟨38, _⟩ => ⟨S_, .f32⟩
  | .hbm, ⟨39, _⟩ => ⟨S2x2048x2304, .f32⟩
  | .hbm, ⟨40, _⟩ => ⟨S2x2048x2304, .f32⟩
  | .hbm, ⟨41, _⟩ => ⟨S2x2048x2304, .f32⟩
  | .hbm, ⟨42, _⟩ => ⟨S_, .f32⟩
  | .hbm, ⟨43, _⟩ => ⟨S2x2048x2304, .f32⟩
  | .hbm, ⟨44, _⟩ => ⟨S2x2048x2304, .f32⟩
  | .hbm, ⟨45, _⟩ => ⟨S2x2048x2304, .f32⟩
  | .hbm, ⟨46, _⟩ => ⟨S_, .f32⟩
  | .hbm, ⟨47, _⟩ => ⟨S2x2048x2304, .f32⟩
  | .hbm, ⟨48, _⟩ => ⟨S2x2048x2304, .f32⟩
  | .hbm, ⟨49, _⟩ => ⟨S_, .f32⟩
  | .hbm, ⟨50, _⟩ => ⟨S2x2048x2304, .f32⟩
  | .hbm, ⟨51, _⟩ => ⟨S2x2048x2304, .f32⟩
  | .hbm, ⟨52, _⟩ => ⟨S2x2048x2304, .f32⟩
  | .hbm, ⟨53, _⟩ => ⟨S_, .f32⟩
  | .hbm, ⟨54, _⟩ => ⟨S2x2048x2304, .f32⟩
  | .hbm, ⟨55, _⟩ => ⟨S2x2048x2304, .f32⟩
  | .hbm, ⟨56, _⟩ => ⟨S2x2048x2304, .f32⟩
  | .hbm, ⟨57, _⟩ => ⟨S_, .f32⟩
  | .hbm, ⟨58, _⟩ => ⟨S2x2048x2304, .f32⟩
  | .hbm, ⟨59, _⟩ => ⟨S2x2048x2304, .f32⟩
  | .hbm, ⟨60, _⟩ => ⟨S2x2048x2304, .f32⟩
  | .hbm, ⟨61, _⟩ => ⟨S_, .f32⟩
  | .hbm, ⟨62, _⟩ => ⟨S2x2048x2304, .f32⟩
  | .hbm, ⟨63, _⟩ => ⟨S2x2048x2304, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_9 : Ref sig .tc := ⟨.hbm, 61, rfl⟩
abbrev main_v38 : Ref sig .tc := ⟨.hbm, 62, rfl⟩
abbrev main_v39 : Ref sig .tc := ⟨.hbm, 63, rfl⟩

abbrev nD : Nat := 1
abbrev τ : Topo := Topo.v7x

variable {F : FTy → Type} [FloatOps F]
-- ==== Kernel15.lean ====
abbrev S2x18432 : Shape := ⟨2, ![2, 18432]⟩
abbrev S1x2x18432 : Shape := ⟨3, ![1, 2, 18432]⟩

abbrev nBuf : Space → Nat
  | .hbm => 9
  | .vmem => 8
  | .smem => 0
  | _ => 0

abbrev bufTy : (tb : Table) → Fin (tcTables nBuf tb) → BufTy
  | .hbm, ⟨0, _⟩ => ⟨S2x18432, .f32⟩
  | .hbm, ⟨1, _⟩ => ⟨S2x18432, .f32⟩
  | .hbm, ⟨2, _⟩ => ⟨S2x18432, .f32⟩
  | .hbm, ⟨3, _⟩ => ⟨S2x18432, .f32⟩
  | .hbm, ⟨4, _⟩ => ⟨S1x2x18432, .f32⟩
  | .hbm, ⟨5, _⟩ => ⟨S2x18432, .f32⟩
  | .hbm, ⟨6, _⟩ => ⟨S2x18432, .f32⟩
  | .hbm, ⟨7, _⟩ => ⟨S2x18432, .f32⟩
  | .hbm, ⟨8, _⟩ => ⟨S2x18432, .f32⟩
  | .local _ .vmem, ⟨0, _⟩ => ⟨S1x2x18432, .f32⟩
  | .local _ .vmem, ⟨1, _⟩ => ⟨S2x18432, .f32⟩
  | .local _ .vmem, ⟨2, _⟩ => ⟨S2x18432, .f32⟩
  | .local _ .vmem, ⟨3, _⟩ => ⟨S2x18432, .f32⟩
  | .local _ .vmem, ⟨4, _⟩ => ⟨S2x18432, .f32⟩
  | .local _ .vmem, ⟨5, _⟩ => ⟨S2x18432, .f32⟩
  | .local _ .vmem, ⟨6, _⟩ => ⟨S2x18432, .f32⟩
  | .local _ .vmem, ⟨7, _⟩ => ⟨S2x18432, .f32⟩
  | _, _ => ⟨S2x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2x18432 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x18432 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x18432 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x18432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x18432 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x18432 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x18432 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x18432 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference15Ideal.lean ====
abbrev S2x18432 : Shape := ⟨2, ![2, 18432]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x18432, .f32⟩
  | .hbm, ⟨1, _⟩ => ⟨S2x18432, .f32⟩
  | .hbm, ⟨2, _⟩ => ⟨S2x18432, .f32⟩
  | .hbm, ⟨3, _⟩ => ⟨S2x18432, .f32⟩
  | .hbm, ⟨4, _⟩ => ⟨S_, .f32⟩
  | .hbm, ⟨5, _⟩ => ⟨S2x18432, .f32⟩
  | .hbm, ⟨6, _⟩ => ⟨S2x18432, .f32⟩
  | .hbm, ⟨7, _⟩ => ⟨S_, .f32⟩
  | .hbm, ⟨8, _⟩ => ⟨S2x18432, .f32⟩
  | .hbm, ⟨9, _⟩ => ⟨S2x18432, .f32⟩
  | .hbm, ⟨10, _⟩ => ⟨S2x18432, .f32⟩
  | .hbm, ⟨11, _⟩ => ⟨S_, .f32⟩
  | .hbm, ⟨12, _⟩ => ⟨S2x18432, .f32⟩
  | .hbm, ⟨13, _⟩ => ⟨S2x18432, .f32⟩
  | .hbm, ⟨14, _⟩ => ⟨S2x18432, .f32⟩
  | .hbm, ⟨15, _⟩ => ⟨S_, .f32⟩
  | .hbm, ⟨16, _⟩ => ⟨S2x18432, .f32⟩
  | .hbm, ⟨17, _⟩ => ⟨S2x18432, .f32⟩
  | .hbm, ⟨18, _⟩ => ⟨S2x18432, .f32⟩
  | .hbm, ⟨19, _⟩ => ⟨S_, .f32⟩
  | .hbm, ⟨20, _⟩ => ⟨S2x18432, .f32⟩
  | .hbm, ⟨21, _⟩ => ⟨S2x18432, .f32⟩
  | .hbm, ⟨22, _⟩ => ⟨S_, .f32⟩
  | .hbm, ⟨23, _⟩ => ⟨S2x18432, .f32⟩
  | .hbm, ⟨24, _⟩ => ⟨S2x18432, .f32⟩
  | .hbm, ⟨25, _⟩ => ⟨S2x18432, .f32⟩
  | .hbm, ⟨26, _⟩ => ⟨S_, .f32⟩
  | .hbm, ⟨27, _⟩ => ⟨S2x18432, .f32⟩
  | .hbm, ⟨28, _⟩ => ⟨S2x18432, .f32⟩
  | .hbm, ⟨29, _⟩ => ⟨S2x18432, .f32⟩
  | .hbm, ⟨30, _⟩ => ⟨S_, .f32⟩
  | .hbm, ⟨31, _⟩ => ⟨S2x18432, .f32⟩
  | .hbm, ⟨32, _⟩ => ⟨S2x18432, .f32⟩
  | .hbm, ⟨33, _⟩ => ⟨S2x18432, .f32⟩
  | .hbm, ⟨34, _⟩ => ⟨S_, .f32⟩
  | .hbm, ⟨35, _⟩ => ⟨S2x18432, .f32⟩
  | .hbm, ⟨36, _⟩ => ⟨S2x18432, .f32⟩
  | _, _ => ⟨S2x18432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S2x3x256 : Shape := ⟨3, ![2, 3, 256]⟩
abbrev S6x256 : Shape := ⟨2, ![6, 256]⟩
abbrev S1x6x256 : Shape := ⟨3, ![1, 6, 256]⟩

abbrev nBuf : Space → Nat
  | .hbm => 13
  | .vmem => 8
  | .smem => 0
  | _ => 0

abbrev bufTy : (tb : Table) → Fin (tcTables nBuf tb) → BufTy
  | .hbm, ⟨0, _⟩ => ⟨S2x3x256, .f32⟩
  | .hbm, ⟨1, _⟩ => ⟨S2x3x256, .f32⟩
  | .hbm, ⟨2, _⟩ => ⟨S2x3x256, .f32⟩
  | .hbm, ⟨3, _⟩ => ⟨S2x3x256, .f32⟩
  | .hbm, ⟨4, _⟩ => ⟨S6x256, .f32⟩
  | .hbm, ⟨5, _⟩ => ⟨S6x256, .f32⟩
  | .hbm, ⟨6, _⟩ => ⟨S6x256, .f32⟩
  | .hbm, ⟨7, _⟩ => ⟨S6x256, .f32⟩
  | .hbm, ⟨8, _⟩ => ⟨S1x6x256, .f32⟩
  | .hbm, ⟨9, _⟩ => ⟨S6x256, .f32⟩
  | .hbm, ⟨10, _⟩ => ⟨S6x256, .f32⟩
  | .hbm, ⟨11, _⟩ => ⟨S6x256, .f32⟩
  | .hbm, ⟨12, _⟩ => ⟨S6x256, .f32⟩
  | .local _ .vmem, ⟨0, _⟩ => ⟨S1x6x256, .f32⟩
  | .local _ .vmem, ⟨1, _⟩ => ⟨S6x256, .f32⟩
  | .local _ .vmem, ⟨2, _⟩ => ⟨S6x256, .f32⟩
  | .local _ .vmem, ⟨3, _⟩ => ⟨S6x256, .f32⟩
  | .local _ .vmem, ⟨4, _⟩ => ⟨S6x256, .f32⟩
  | .local _ .vmem, ⟨5, _⟩ => ⟨S6x256, .f32⟩
  | .local _ .vmem, ⟨6, _⟩ => ⟨S6x256, .f32⟩
  | .local _ .vmem, ⟨7, _⟩ => ⟨S6x256, .f32⟩
  | _, _ => ⟨S2x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x6x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S6x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference16Ideal.lean ====
abbrev S2x3x256 : Shape := ⟨3, ![2, 3, 256]⟩
abbrev S_ : Shape := ⟨0, ![]⟩
abbrev S6x256 : Shape := ⟨2, ![6, 256]⟩

abbrev nBuf : Space → Nat
  | .hbm => 41
  | .vmem => 0
  | .smem => 0
  | _ => 0

abbrev bufTy : (tb : Table) → Fin (tcTables nBuf tb) → BufTy
  | .hbm, ⟨0, _⟩ => ⟨S2x3x256, .f32⟩
  | .hbm, ⟨1, _⟩ => ⟨S2x3x256, .f32⟩
  | .hbm, ⟨2, _⟩ => ⟨S2x3x256, .f32⟩
  | .hbm, ⟨3, _⟩ => ⟨S2x3x256, .f32⟩
  | .hbm, ⟨4, _⟩ => ⟨S_, .f32⟩
  | .hbm, ⟨5, _⟩ => ⟨S2x3x256, .f32⟩
  | .hbm, ⟨6, _⟩ => ⟨S2x3x256, .f32⟩
  | .hbm, ⟨7, _⟩ => ⟨S_, .f32⟩
  | .hbm, ⟨8, _⟩ => ⟨S2x3x256, .f32⟩
  | .hbm, ⟨9, _⟩ => ⟨S2x3x256, .f32⟩
  | .hbm, ⟨10, _⟩ => ⟨S2x3x256, .f32⟩
  | .hbm, ⟨11, _⟩ => ⟨S_, .f32⟩
  | .hbm, ⟨12, _⟩ => ⟨S2x3x256, .f32⟩
  | .hbm, ⟨13, _⟩ => ⟨S2x3x256, .f32⟩
  | .hbm, ⟨14, _⟩ => ⟨S2x3x256, .f32⟩
  | .hbm, ⟨15, _⟩ => ⟨S_, .f32⟩
  | .hbm, ⟨16, _⟩ => ⟨S2x3x256, .f32⟩
  | .hbm, ⟨17, _⟩ => ⟨S2x3x256, .f32⟩
  | .hbm, ⟨18, _⟩ => ⟨S2x3x256, .f32⟩
  | .hbm, ⟨19, _⟩ => ⟨S_, .f32⟩
  | .hbm, ⟨20, _⟩ => ⟨S2x3x256, .f32⟩
  | .hbm, ⟨21, _⟩ => ⟨S2x3x256, .f32⟩
  | .hbm, ⟨22, _⟩ => ⟨S_, .f32⟩
  | .hbm, ⟨23, _⟩ => ⟨S2x3x256, .f32⟩
  | .hbm, ⟨24, _⟩ => ⟨S2x3x256, .f32⟩
  | .hbm, ⟨25, _⟩ => ⟨S2x3x256, .f32⟩
  | .hbm, ⟨26, _⟩ => ⟨S_, .f32⟩
  | .hbm, ⟨27, _⟩ => ⟨S2x3x256, .f32⟩
  | .hbm, ⟨28, _⟩ => ⟨S2x3x256, .f32⟩
  | .hbm, ⟨29, _⟩ => ⟨S2x3x256, .f32⟩
  | .hbm, ⟨30, _⟩ => ⟨S_, .f32⟩
  | .hbm, ⟨31, _⟩ => ⟨S2x3x256, .f32⟩
  | .hbm, ⟨32, _⟩ => ⟨S2x3x256, .f32⟩
  | .hbm, ⟨33, _⟩ => ⟨S2x3x256, .f32⟩
  | .hbm, ⟨34, _⟩ => ⟨S_, .f32⟩
  | .hbm, ⟨35, _⟩ => ⟨S2x3x256, .f32⟩
  | .hbm, ⟨36, _⟩ => ⟨S2x3x256, .f32⟩
  | .hbm, ⟨37, _⟩ => ⟨S6x256, .f32⟩
  | .hbm, ⟨38, _⟩ => ⟨S6x256, .f32⟩
  | .hbm, ⟨39, _⟩ => ⟨S6x256, .f32⟩
  | .hbm, ⟨40, _⟩ => ⟨S6x256, .f32⟩
  | _, _ => ⟨S2x3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel17.lean ====
abbrev S1x2048 : Shape := ⟨2, ![1, 2048]⟩
abbrev S1x1x2048 : Shape := ⟨3, ![1, 1, 2048]⟩

abbrev nBuf : Space → Nat
  | .hbm => 9
  | .vmem => 8
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S1x1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference17Ideal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S1x16x128x128 : Shape := ⟨4, ![1, 16, 128, 128]⟩
abbrev S2048x128 : Shape := ⟨2, ![2048, 128]⟩
abbrev S1x2048x128 : Shape := ⟨3, ![1, 2048, 128]⟩
abbrev S1x256x128 : Shape := ⟨3, ![1, 256, 128]⟩
abbrev S256x128 : Shape := ⟨2, ![256, 128]⟩

abbrev nBuf : Space → Nat
  | .hbm => 13
  | .vmem => 16
  | .smem => 0
  | _ => 0

abbrev bufTy : (tb : Table) → Fin (tcTables nBuf tb) → BufTy
  | .hbm, ⟨0, _⟩ => ⟨S1x16x128x128, .f32⟩
  | .hbm, ⟨1, _⟩ => ⟨S1x16x128x128, .f32⟩
  | .hbm, ⟨2, _⟩ => ⟨S1x16x128x128, .f32⟩
  | .hbm, ⟨3, _⟩ => ⟨S1x16x128x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S1x2048x128, .f32⟩
  | .hbm, ⟨9, _⟩ => ⟨S2048x128, .f32⟩
  | .hbm, ⟨10, _⟩ => ⟨S2048x128, .f32⟩
  | .hbm, ⟨11, _⟩ => ⟨S2048x128, .f32⟩
  | .hbm, ⟨12, _⟩ => ⟨S2048x128, .f32⟩
  | .local _ .vmem, ⟨0, _⟩ => ⟨S1x256x128, .f32⟩
  | .local _ .vmem, ⟨1, _⟩ => ⟨S1x256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S1x16x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S1x16x128x128 : Shape := ⟨4, ![1, 16, 128, 128]⟩
abbrev S_ : Shape := ⟨0, ![]⟩
abbrev S2048x128 : Shape := ⟨2, ![2048, 128]⟩

abbrev nBuf : Space → Nat
  | .hbm => 41
  | .vmem => 0
  | .smem => 0
  | _ => 0

abbrev bufTy : (tb : Table) → Fin (tcTables nBuf tb) → BufTy
  | .hbm, ⟨0, _⟩ => ⟨S1x16x128x128, .f32⟩
  | .hbm, ⟨1, _⟩ => ⟨S1x16x128x128, .f32⟩
  | .hbm, ⟨2, _⟩ => ⟨S1x16x128x128, .f32⟩
  | .hbm, ⟨3, _⟩ => ⟨S1x16x128x128, .f32⟩
  | .hbm, ⟨4, _⟩ => ⟨S_, .f32⟩
  | .hbm, ⟨5, _⟩ => ⟨S1x16x128x128, .f32⟩
  | .hbm, ⟨6, _⟩ => ⟨S1x16x128x128, .f32⟩
  | .hbm, ⟨7, _⟩ => ⟨S_, .f32⟩
  | .hbm, ⟨8, _⟩ => ⟨S1x16x128x128, .f32⟩
  | .hbm, ⟨9, _⟩ => ⟨S1x16x128x128, .f32⟩
  | .hbm, ⟨10, _⟩ => ⟨S1x16x128x128, .f32⟩
  | .hbm, ⟨11, _⟩ => ⟨S_, .f32⟩
  | .hbm, ⟨12, _⟩ => ⟨S1x16x128x128, .f32⟩
  | .hbm, ⟨13, _⟩ => ⟨S1x16x128x128, .f32⟩
  | .hbm, ⟨14, _⟩ => ⟨S1x16x128x128, .f32⟩
  | .hbm, ⟨15, _⟩ => ⟨S_, .f32⟩
  | .hbm, ⟨16, _⟩ => ⟨S1x16x128x128, .f32⟩
  | .hbm, ⟨17, _⟩ => ⟨S1x16x128x128, .f32⟩
  | .hbm, ⟨18, _⟩ => ⟨S1x16x128x128, .f32⟩
  | .hbm, ⟨19, _⟩ => ⟨S_, .f32⟩
  | .hbm, ⟨20, _⟩ => ⟨S1x16x128x128, .f32⟩
  | .hbm, ⟨21, _⟩ => ⟨S1x16x128x128, .f32⟩
  | .hbm, ⟨22, _⟩ => ⟨S_, .f32⟩
  | .hbm, ⟨23, _⟩ => ⟨S1x16x128x128, .f32⟩
  | .hbm, ⟨24, _⟩ => ⟨S1x16x128x128, .f32⟩
  | .hbm, ⟨25, _⟩ => ⟨S1x16x128x128, .f32⟩
  | .hbm, ⟨26, _⟩ => ⟨S_, .f32⟩
  | .hbm, ⟨27, _⟩ => ⟨S1x16x128x128, .f32⟩
  | .hbm, ⟨28, _⟩ => ⟨S1x16x128x128, .f32⟩
  | .hbm, ⟨29, _⟩ => ⟨S1x16x128x128, .f32⟩
  | .hbm, ⟨30, _⟩ => ⟨S_, .f32⟩
  | .hbm, ⟨31, _⟩ => ⟨S1x16x128x128, .f32⟩
  | .hbm, ⟨32, _⟩ => ⟨S1x16x128x128, .f32⟩
  | .hbm, ⟨33, _⟩ => ⟨S1x16x128x128, .f32⟩
  | .hbm, ⟨34, _⟩ => ⟨S_, .f32⟩
  | .hbm, ⟨35, _⟩ => ⟨S1x16x128x128, .f32⟩
  | .hbm, ⟨36, _⟩ => ⟨S1x16x128x128, .f32⟩
  | .hbm, ⟨37, _⟩ => ⟨S2048x128, .f32⟩
  | .hbm, ⟨38, _⟩ => ⟨S2048x128, .f32⟩
  | .hbm, ⟨39, _⟩ => ⟨S2048x128, .f32⟩
  | .hbm, ⟨40, _⟩ => ⟨S2048x128, .f32⟩
  | _, _ => ⟨S1x16x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel19.lean ====
abbrev S1x16x128 : Shape := ⟨3, ![1, 16, 128]⟩
abbrev S16x128 : Shape := ⟨2, ![16, 128]⟩

abbrev nBuf : Space → Nat
  | .hbm => 13
  | .vmem => 8
  | .smem => 0
  | _ => 0

abbrev bufTy : (tb : Table) → Fin (tcTables nBuf tb) → BufTy
  | .hbm, ⟨0, _⟩ => ⟨S1x16x128, .f32⟩
  | .hbm, ⟨1, _⟩ => ⟨S1x16x128, .f32⟩
  | .hbm, ⟨2, _⟩ => ⟨S1x16x128, .f32⟩
  | .hbm, ⟨3, _⟩ => ⟨S1x16x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S1x16x128, .f32⟩
  | .hbm, ⟨9, _⟩ => ⟨S16x128, .f32⟩
  | .hbm, ⟨10, _⟩ => ⟨S16x128, .f32⟩
  | .hbm, ⟨11, _⟩ => ⟨S16x128, .f32⟩
  | .hbm, ⟨12, _⟩ => ⟨S16x128, .f32⟩
  | .local _ .vmem, ⟨0, _⟩ => ⟨S1x16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | _, _ => ⟨S1x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference19Ideal.lean ====
abbrev S1x16x128 : Shape := ⟨3, ![1, 16, 128]⟩
abbrev S_ : Shape := ⟨0, ![]⟩
abbrev S16x128 : Shape := ⟨2, ![16, 128]⟩

abbrev nBuf : Space → Nat
  | .hbm => 41
  | .vmem => 0
  | .smem => 0
  | _ => 0

abbrev bufTy : (tb : Table) → Fin (tcTables nBuf tb) → BufTy
  | .hbm, ⟨0, _⟩ => ⟨S1x16x128, .f32⟩
  | .hbm, ⟨1, _⟩ => ⟨S1x16x128, .f32⟩
  | .hbm, ⟨2, _⟩ => ⟨S1x16x128, .f32⟩
  | .hbm, ⟨3, _⟩ => ⟨S1x16x128, .f32⟩
  | .hbm, ⟨4, _⟩ => ⟨S_, .f32⟩
  | .hbm, ⟨5, _⟩ => ⟨S1x16x128, .f32⟩
  | .hbm, ⟨6, _⟩ => ⟨S1x16x128, .f32⟩
  | .hbm, ⟨7, _⟩ => ⟨S_, .f32⟩
  | .hbm, ⟨8, _⟩ => ⟨S1x16x128, .f32⟩
  | .hbm, ⟨9, _⟩ => ⟨S1x16x128, .f32⟩
  | .hbm, ⟨10, _⟩ => ⟨S1x16x128, .f32⟩
  | .hbm, ⟨11, _⟩ => ⟨S_, .f32⟩
  | .hbm, ⟨12, _⟩ => ⟨S1x16x128, .f32⟩
  | .hbm, ⟨13, _⟩ => ⟨S1x16x128, .f32⟩
  | .hbm, ⟨14, _⟩ => ⟨S1x16x128, .f32⟩
  | .hbm, ⟨15, _⟩ => ⟨S_, .f32⟩
  | .hbm, ⟨16, _⟩ => ⟨S1x16x128, .f32⟩
  | .hbm, ⟨17, _⟩ => ⟨S1x16x128, .f32⟩
  | .hbm, ⟨18, _⟩ => ⟨S1x16x128, .f32⟩
  | .hbm, ⟨19, _⟩ => ⟨S_, .f32⟩
  | .hbm, ⟨20, _⟩ => ⟨S1x16x128, .f32⟩
  | .hbm, ⟨21, _⟩ => ⟨S1x16x128, .f32⟩
  | .hbm, ⟨22, _⟩ => ⟨S_, .f32⟩
  | .hbm, ⟨23, _⟩ => ⟨S1x16x128, .f32⟩
  | .hbm, ⟨24, _⟩ => ⟨S1x16x128, .f32⟩
  | .hbm, ⟨25, _⟩ => ⟨S1x16x128, .f32⟩
  | .hbm, ⟨26, _⟩ => ⟨S_, .f32⟩
  | .hbm, ⟨27, _⟩ => ⟨S1x16x128, .f32⟩
  | .hbm, ⟨28, _⟩ => ⟨S1x16x128, .f32⟩
  | .hbm, ⟨29, _⟩ => ⟨S1x16x128, .f32⟩
  | .hbm, ⟨30, _⟩ => ⟨S_, .f32⟩
  | .hbm, ⟨31, _⟩ => ⟨S1x16x128, .f32⟩
  | .hbm, ⟨32, _⟩ => ⟨S1x16x128, .f32⟩
  | .hbm, ⟨33, _⟩ => ⟨S1x16x128, .f32⟩
  | .hbm, ⟨34, _⟩ => ⟨S_, .f32⟩
  | .hbm, ⟨35, _⟩ => ⟨S1x16x128, .f32⟩
  | .hbm, ⟨36, _⟩ => ⟨S1x16x128, .f32⟩
  | .hbm, ⟨37, _⟩ => ⟨S16x128, .f32⟩
  | .hbm, ⟨38, _⟩ => ⟨S16x128, .f32⟩
  | .hbm, ⟨39, _⟩ => ⟨S16x128, .f32⟩
  | .hbm, ⟨40, _⟩ => ⟨S16x128, .f32⟩
  | _, _ => ⟨S1x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel20.lean ====
abbrev S1x512 : Shape := ⟨2, ![1, 512]⟩
abbrev S1x1x512 : Shape := ⟨3, ![1, 1, 512]⟩

abbrev nBuf : Space → Nat
  | .hbm => 9
  | .vmem => 8
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x512, .f32⟩
  | .local _ .vmem, ⟨0, _⟩ => ⟨S1x1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference20Ideal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S1x31x256 : Shape := ⟨3, ![1, 31, 256]⟩
abbrev S31x256 : Shape := ⟨2, ![31, 256]⟩

abbrev nBuf : Space → Nat
  | .hbm => 13
  | .vmem => 8
  | .smem => 0
  | _ => 0

abbrev bufTy : (tb : Table) → Fin (tcTables nBuf tb) → BufTy
  | .hbm, ⟨0, _⟩ => ⟨S1x31x256, .f32⟩
  | .hbm, ⟨1, _⟩ => ⟨S1x31x256, .f32⟩
  | .hbm, ⟨2, _⟩ => ⟨S1x31x256, .f32⟩
  | .hbm, ⟨3, _⟩ => ⟨S1x31x256, .f32⟩
  | .hbm, ⟨4, _⟩ => ⟨S31x256, .f32⟩
  | .hbm, ⟨5, _⟩ => ⟨S31x256, .f32⟩
  | .hbm, ⟨6, _⟩ => ⟨S31x256, .f32⟩
  | .hbm, ⟨7, _⟩ => ⟨S31x256, .f32⟩
  | .hbm, ⟨8, _⟩ => ⟨S1x31x256, .f32⟩
  | .hbm, ⟨9, _⟩ => ⟨S31x256, .f32⟩
  | .hbm, ⟨10, _⟩ => ⟨S31x256, .f32⟩
  | .hbm, ⟨11, _⟩ => ⟨S31x256, .f32⟩
  | .hbm, ⟨12, _⟩ => ⟨S31x256, .f32⟩
  | .local _ .vmem, ⟨0, _⟩ => ⟨S1x31x256, .f32⟩
  | .local _ .vmem, ⟨1, _⟩ => ⟨S31x256, .f32⟩
  | .local _ .vmem, ⟨2, _⟩ => ⟨S31x256, .f32⟩
  | .local _ .vmem, ⟨3, _⟩ => ⟨S31x256, .f32⟩
  | .local _ .vmem, ⟨4, _⟩ => ⟨S31x256, .f32⟩
  | .local _ .vmem, ⟨5, _⟩ => ⟨S31x256, .f32⟩
  | .local _ .vmem, ⟨6, _⟩ => ⟨S31x256, .f32⟩
  | .local _ .vmem, ⟨7, _⟩ => ⟨S31x256, .f32⟩
  | _, _ => ⟨S1x31x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x31x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S31x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference21Ideal.lean ====
abbrev S1x31x256 : Shape := ⟨3, ![1, 31, 256]⟩
abbrev S_ : Shape := ⟨0, ![]⟩
abbrev S31x256 : Shape := ⟨2, ![31, 256]⟩

abbrev nBuf : Space → Nat
  | .hbm => 41
  | .vmem => 0
  | .smem => 0
  | _ => 0

abbrev bufTy : (tb : Table) → Fin (tcTables nBuf tb) → BufTy
  | .hbm, ⟨0, _⟩ => ⟨S1x31x256, .f32⟩
  | .hbm, ⟨1, _⟩ => ⟨S1x31x256, .f32⟩
  | .hbm, ⟨2, _⟩ => ⟨S1x31x256, .f32⟩
  | .hbm, ⟨3, _⟩ => ⟨S1x31x256, .f32⟩
  | .hbm, ⟨4, _⟩ => ⟨S_, .f32⟩
  | .hbm, ⟨5, _⟩ => ⟨S1x31x256, .f32⟩
  | .hbm, ⟨6, _⟩ => ⟨S1x31x256, .f32⟩
  | .hbm, ⟨7, _⟩ => ⟨S_, .f32⟩
  | .hbm, ⟨8, _⟩ => ⟨S1x31x256, .f32⟩
  | .hbm, ⟨9, _⟩ => ⟨S1x31x256, .f32⟩
  | .hbm, ⟨10, _⟩ => ⟨S1x31x256, .f32⟩
  | .hbm, ⟨11, _⟩ => ⟨S_, .f32⟩
  | .hbm, ⟨12, _⟩ => ⟨S1x31x256, .f32⟩
  | .hbm, ⟨13, _⟩ => ⟨S1x31x256, .f32⟩
  | .hbm, ⟨14, _⟩ => ⟨S1x31x256, .f32⟩
  | .hbm, ⟨15, _⟩ => ⟨S_, .f32⟩
  | .hbm, ⟨16, _⟩ => ⟨S1x31x256, .f32⟩
  | .hbm, ⟨17, _⟩ => ⟨S1x31x256, .f32⟩
  | .hbm, ⟨18, _⟩ => ⟨S1x31x256, .f32⟩
  | .hbm, ⟨19, _⟩ => ⟨S_, .f32⟩
  | .hbm, ⟨20, _⟩ => ⟨S1x31x256, .f32⟩
  | .hbm, ⟨21, _⟩ => ⟨S1x31x256, .f32⟩
  | .hbm, ⟨22, _⟩ => ⟨S_, .f32⟩
  | .hbm, ⟨23, _⟩ => ⟨S1x31x256, .f32⟩
  | .hbm, ⟨24, _⟩ => ⟨S1x31x256, .f32⟩
  | .hbm, ⟨25, _⟩ => ⟨S1x31x256, .f32⟩
  | .hbm, ⟨26, _⟩ => ⟨S_, .f32⟩
  | .hbm, ⟨27, _⟩ => ⟨S1x31x256, .f32⟩
  | .hbm, ⟨28, _⟩ => ⟨S1x31x256, .f32⟩
  | .hbm, ⟨29, _⟩ => ⟨S1x31x256, .f32⟩
  | .hbm, ⟨30, _⟩ => ⟨S_, .f32⟩
  | .hbm, ⟨31, _⟩ => ⟨S1x31x256, .f32⟩
  | .hbm, ⟨32, _⟩ => ⟨S1x31x256, .f32⟩
  | .hbm, ⟨33, _⟩ => ⟨S1x31x256, .f32⟩
  | .hbm, ⟨34, _⟩ => ⟨S_, .f32⟩
  | .hbm, ⟨35, _⟩ => ⟨S1x31x256, .f32⟩
  | .hbm, ⟨36, _⟩ => ⟨S1x31x256, .f32⟩
  | .hbm, ⟨37, _⟩ => ⟨S31x256, .f32⟩
  | .hbm, ⟨38, _⟩ => ⟨S31x256, .f32⟩
  | .hbm, ⟨39, _⟩ => ⟨S31x256, .f32⟩
  | .hbm, ⟨40, _⟩ => ⟨S31x256, .f32⟩
  | _, _ => ⟨S1x31x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel22.lean ====
abbrev S1x256 : Shape := ⟨2, ![1, 256]⟩
abbrev S1x1x256 : Shape := ⟨3, ![1, 1, 256]⟩

abbrev nBuf : Space → Nat
  | .hbm => 9
  | .vmem => 8
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x1x256, .f32⟩
  | .hbm, ⟨5, _⟩ => ⟨S1x256, .f32⟩
  | .hbm, ⟨6, _⟩ => ⟨S1x256, .f32⟩
  | .hbm, ⟨7, _⟩ => ⟨S1x256, .f32⟩
  | .hbm, ⟨8, _⟩ => ⟨S1x256, .f32⟩
  | .local _ .vmem, ⟨0, _⟩ => ⟨S1x1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference22Ideal.lean ====
abbrev S1x256 : Shape := ⟨2, ![1, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S_, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S_, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S2048 : Shape := ⟨1, ![2048]⟩
abbrev S1x2048 : Shape := ⟨2, ![1, 2048]⟩
abbrev S1x1x2048 : Shape := ⟨3, ![1, 1, 2048]⟩

abbrev nBuf : Space → Nat
  | .hbm => 13
  | .vmem => 8
  | .smem => 0
  | _ => 0

abbrev bufTy : (tb : Table) → Fin (tcTables nBuf tb) → BufTy
  | .hbm, ⟨0, _⟩ => ⟨S2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x1x2048, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x2048, .f32⟩
  | .local _ .vmem, ⟨0, _⟩ => ⟨S1x1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference23Ideal.lean ====
abbrev S2048 : Shape := ⟨1, ![2048]⟩
abbrev S_ : Shape := ⟨0, ![]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S2048, .f32⟩
  | .hbm, ⟨19, _⟩ => ⟨S_, .f32⟩
  | .hbm, ⟨20, _⟩ => ⟨S2048, .f32⟩
  | .hbm, ⟨21, _⟩ => ⟨S2048, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S1x2048, .f32⟩
  | .hbm, ⟨38, _⟩ => ⟨S1x2048, .f32⟩
  | .hbm, ⟨39, _⟩ => ⟨S1x2048, .f32⟩
  | .hbm, ⟨40, _⟩ => ⟨S1x2048, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel24.lean ====
abbrev S4x2048x512 : Shape := ⟨3, ![4, 2048, 512]⟩
abbrev S3x2048x512 : Shape := ⟨3, ![3, 2048, 512]⟩
abbrev S1 : Shape := ⟨1, ![1]⟩
abbrev S1x2048x512 : Shape := ⟨3, ![1, 2048, 512]⟩
abbrev S1x256x512 : Shape := ⟨3, ![1, 256, 512]⟩
abbrev S256x512 : Shape := ⟨2, ![256, 512]⟩

abbrev nBuf : Space → Nat
  | .hbm => 13
  | .vmem => 22
  | .smem => 1
  | _ => 0

abbrev bufTy : (tb : Table) → Fin (tcTables nBuf tb) → BufTy
  | .hbm, ⟨0, _⟩ => ⟨S4x2048x512, .bf16⟩
  | .hbm, ⟨1, _⟩ => ⟨S3x2048x512, .bf16⟩
  | .hbm, ⟨2, _⟩ => ⟨S1x2048x512, .f32⟩
  | .hbm, ⟨3, _⟩ => ⟨S1x2048x512, .f32⟩
  | .hbm, ⟨4, _⟩ => ⟨S1x2048x512, .f32⟩
  | .hbm, ⟨5, _⟩ => ⟨S1x2048x512, .f32⟩
  | .hbm, ⟨6, _⟩ => ⟨S1x2048x512, .f32⟩
  | .hbm, ⟨7, _⟩ => ⟨S1x2048x512, .f32⟩
  | .hbm, ⟨8, _⟩ => ⟨S1x2048x512, .f32⟩
  | .hbm, ⟨9, _⟩ => ⟨S1x2048x512, .f32⟩
  | .hbm, ⟨10, _⟩ => ⟨S1x2048x512, .f32⟩
  | .hbm, ⟨11, _⟩ => ⟨S1x2048x512, .f32⟩
  | .hbm, ⟨12, _⟩ => ⟨S1x2048x512, .f32⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | .local _ .smem, ⟨0, _⟩ => ⟨S1, .i32⟩
  | _, _ => ⟨S4x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference24Ideal.lean ====
abbrev S4x2048x512 : Shape := ⟨3, ![4, 2048, 512]⟩
abbrev S3x2048x512 : Shape := ⟨3, ![3, 2048, 512]⟩
abbrev S1 : Shape := ⟨1, ![1]⟩
abbrev S1x2048x512 : Shape := ⟨3, ![1, 2048, 512]⟩
abbrev S_ : Shape := ⟨0, ![]⟩
abbrev S2048x512 : Shape := ⟨2, ![2048, 512]⟩

abbrev nBuf : Space → Nat
  | .hbm => 72
  | .vmem => 0
  | .smem => 0
  | _ => 0

abbrev bufTy : (tb : Table) → Fin (tcTables nBuf tb) → BufTy
  | .hbm, ⟨0, _⟩ => ⟨S4x2048x512, .bf16⟩
  | .hbm, ⟨1, _⟩ => ⟨S3x2048x512, .bf16⟩
  | .hbm, ⟨2, _⟩ => ⟨S1, .i32⟩
  | .hbm, ⟨3, _⟩ => ⟨S1x2048x512, .f32⟩
  | .hbm, ⟨4, _⟩ => ⟨S1x2048x512, .f32⟩
  | .hbm, ⟨5, _⟩ => ⟨S1x2048x512, .f32⟩
  | .hbm, ⟨6, _⟩ => ⟨S1x2048x512, .f32⟩
  | .hbm, ⟨7, _⟩ => ⟨S1x2048x512, .f32⟩
  | .hbm, ⟨8, _⟩ => ⟨S1x2048x512, .f32⟩
  | .hbm, ⟨9, _⟩ => ⟨S1x2048x512, .f32⟩
  | .hbm, ⟨10, _⟩ => ⟨S4x2048x512, .f32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1x2048x512, .f32⟩
  | .hbm, ⟨34, _⟩ => ⟨S3x2048x512, .f32⟩
  | .hbm, ⟨35, _⟩ => ⟨S_, .f32⟩
  | .hbm, ⟨36, _⟩ => ⟨S2048x512, .f32⟩
  | .hbm, ⟨37, _⟩ => ⟨S1x2048x512, .f32⟩
  | .hbm, ⟨38, _⟩ => ⟨S1x2048x512, .f32⟩
  | .hbm, ⟨39, _⟩ => ⟨S_, .f32⟩
  | .hbm, ⟨40, _⟩ => ⟨S1x2048x512, .f32⟩
  | .hbm, ⟨41, _⟩ => ⟨S1x2048x512, .f32⟩
  | .hbm, ⟨42, _⟩ => ⟨S_, .f32⟩
  | .hbm, ⟨43, _⟩ => ⟨S1x2048x512, .f32⟩
  | .hbm, ⟨44, _⟩ => ⟨S1x2048x512, .f32⟩
  | .hbm, ⟨45, _⟩ => ⟨S1x2048x512, .f32⟩
  | .hbm, ⟨46, _⟩ => ⟨S_, .f32⟩
  | .hbm, ⟨47, _⟩ => ⟨S1x2048x512, .f32⟩
  | .hbm, ⟨48, _⟩ => ⟨S1x2048x512, .f32⟩
  | .hbm, ⟨49, _⟩ => ⟨S1x2048x512, .f32⟩
  | .hbm, ⟨50, _⟩ => ⟨S_, .f32⟩
  | .hbm, ⟨51, _⟩ => ⟨S1x2048x512, .f32⟩
  | .hbm, ⟨52, _⟩ => ⟨S1x2048x512, .f32⟩
  | .hbm, ⟨53, _⟩ => ⟨S1x2048x512, .f32⟩
  | .hbm, ⟨54, _⟩ => ⟨S_, .f32⟩
  | .hbm, ⟨55, _⟩ => ⟨S1x2048x512, .f32⟩
  | .hbm, ⟨56, _⟩ => ⟨S1x2048x512, .f32⟩
  | .hbm, ⟨57, _⟩ => ⟨S_, .f32⟩
  | .hbm, ⟨58, _⟩ => ⟨S1x2048x512, .f32⟩
  | .hbm, ⟨59, _⟩ => ⟨S1x2048x512, .f32⟩
  | .hbm, ⟨60, _⟩ => ⟨S1x2048x512, .f32⟩
  | .hbm, ⟨61, _⟩ => ⟨S_, .f32⟩
  | .hbm, ⟨62, _⟩ => ⟨S1x2048x512, .f32⟩
  | .hbm, ⟨63, _⟩ => ⟨S1x2048x512, .f32⟩
  | .hbm, ⟨64, _⟩ => ⟨S1x2048x512, .f32⟩
  | .hbm, ⟨65, _⟩ => ⟨S_, .f32⟩
  | .hbm, ⟨66, _⟩ => ⟨S1x2048x512, .f32⟩
  | .hbm, ⟨67, _⟩ => ⟨S1x2048x512, .f32⟩
  | .hbm, ⟨68, _⟩ => ⟨S1x2048x512, .f32⟩
  | .hbm, ⟨69, _⟩ => ⟨S_, .f32⟩
  | .hbm, ⟨70, _⟩ => ⟨S1x2048x512, .f32⟩
  | .hbm, ⟨71, _⟩ => ⟨S1x2048x512, .f32⟩
  | _, _ => ⟨S4x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_c_2 : Ref sig .tc := ⟨.hbm, 18, rfl⟩
abbrev main_v5 : Ref sig .tc := ⟨.hbm, 19, rfl⟩
abbrev main_c_3 : Ref sig .tc := ⟨.hbm, 20, rfl⟩
abbrev main_c_4 : Ref sig .tc := ⟨.hbm, 21, rfl⟩
abbrev main_v6 : Ref sig .tc := ⟨.hbm, 22, rfl⟩
abbrev main_c_5 : Ref sig .tc := ⟨.hbm, 23, rfl⟩
abbrev main_v7 : Ref sig .tc := ⟨.hbm, 24, rfl⟩
abbrev main_c_6 : Ref sig .tc := ⟨.hbm, 25, rfl⟩
abbrev main_c_7 : Ref sig .tc := ⟨.hbm, 26, rfl⟩
abbrev main_v8 : Ref sig .tc := ⟨.hbm, 27, rfl⟩
abbrev main_c_8 : Ref sig .tc := ⟨.hbm, 28, rfl⟩
abbrev main_c_9 : Ref sig .tc := ⟨.hbm, 29, rfl⟩
abbrev main_v9 : Ref sig .tc := ⟨.hbm, 30, rfl⟩
abbrev main_c_10 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_11 : Ref sig .tc := ⟨.hbm, 39, rfl⟩
abbrev main_v16 : Ref sig .tc := ⟨.hbm, 40, rfl⟩
abbrev main_v17 : Ref sig .tc := ⟨.hbm, 41, rfl⟩
abbrev main_cst_12 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_13 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_14 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_15 : Ref sig .tc := ⟨.hbm, 54, rfl⟩
abbrev main_v27 : Ref sig .tc := ⟨.hbm, 55, rfl⟩
abbrev main_v28 : Ref sig .tc := ⟨.hbm, 56, rfl⟩
abbrev main_cst_16 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_17 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_18 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_19 : Ref sig .tc := ⟨.hbm, 69, rfl⟩
abbrev main_v38 : Ref sig .tc := ⟨.hbm, 70, rfl⟩
abbrev main_v39 : Ref sig .tc := ⟨.hbm, 71, rfl⟩

abbrev nD : Nat := 1
abbrev τ : Topo := Topo.v7x

variable {F : FTy → Type} [FloatOps F]
-- ==== Kernel25.lean ====
abbrev S4x256x2048 : Shape := ⟨3, ![4, 256, 2048]⟩
abbrev S3x256x2048 : Shape := ⟨3, ![3, 256, 2048]⟩
abbrev S1 : Shape := ⟨1, ![1]⟩
abbrev S1x256x2048 : Shape := ⟨3, ![1, 256, 2048]⟩
abbrev S256x2048 : Shape := ⟨2, ![256, 2048]⟩

abbrev nBuf : Space → Nat
  | .hbm => 13
  | .vmem => 11
  | .smem => 1
  | _ => 0

abbrev bufTy : (tb : Table) → Fin (tcTables nBuf tb) → BufTy
  | .hbm, ⟨0, _⟩ => ⟨S4x256x2048, .bf16⟩
  | .hbm, ⟨1, _⟩ => ⟨S3x256x2048, .bf16⟩
  | .hbm, ⟨2, _⟩ => ⟨S1x256x2048, .f32⟩
  | .hbm, ⟨3, _⟩ => ⟨S1x256x2048, .f32⟩
  | .hbm, ⟨4, _⟩ => ⟨S1x256x2048, .f32⟩
  | .hbm, ⟨5, _⟩ => ⟨S1x256x2048, .f32⟩
  | .hbm, ⟨6, _⟩ => ⟨S1x256x2048, .f32⟩
  | .hbm, ⟨7, _⟩ => ⟨S1x256x2048, .f32⟩
  | .hbm, ⟨8, _⟩ => ⟨S1x256x2048, .f32⟩
  | .hbm, ⟨9, _⟩ => ⟨S1x256x2048, .f32⟩
  | .hbm, ⟨10, _⟩ => ⟨S1x256x2048, .f32⟩
  | .hbm, ⟨11, _⟩ => ⟨S1x256x2048, .f32⟩
  | .hbm, ⟨12, _⟩ => ⟨S1x256x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .smem, ⟨0, _⟩ => ⟨S1, .i32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference25Ideal.lean ====
abbrev S4x256x2048 : Shape := ⟨3, ![4, 256, 2048]⟩
abbrev S3x256x2048 : Shape := ⟨3, ![3, 256, 2048]⟩
abbrev S1 : Shape := ⟨1, ![1]⟩
abbrev S1x256x2048 : Shape := ⟨3, ![1, 256, 2048]⟩
abbrev S_ : Shape := ⟨0, ![]⟩
abbrev S256x2048 : Shape := ⟨2, ![256, 2048]⟩

abbrev nBuf : Space → Nat
  | .hbm => 72
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S3x256x2048, .bf16⟩
  | .hbm, ⟨2, _⟩ => ⟨S1, .i32⟩
  | .hbm, ⟨3, _⟩ => ⟨S1x256x2048, .f32⟩
  | .hbm, ⟨4, _⟩ => ⟨S1x256x2048, .f32⟩
  | .hbm, ⟨5, _⟩ => ⟨S1x256x2048, .f32⟩
  | .hbm, ⟨6, _⟩ => ⟨S1x256x2048, .f32⟩
  | .hbm, ⟨7, _⟩ => ⟨S1x256x2048, .f32⟩
  | .hbm, ⟨8, _⟩ => ⟨S1x256x2048, .f32⟩
  | .hbm, ⟨9, _⟩ => ⟨S1x256x2048, .f32⟩
  | .hbm, ⟨10, _⟩ => ⟨S4x256x2048, .f32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1x256x2048, .f32⟩
  | .hbm, ⟨34, _⟩ => ⟨S3x256x2048, .f32⟩
  | .hbm, ⟨35, _⟩ => ⟨S_, .f32⟩
  | .hbm, ⟨36, _⟩ => ⟨S256x2048, .f32⟩
  | .hbm, ⟨37, _⟩ => ⟨S1x256x2048, .f32⟩
  | .hbm, ⟨38, _⟩ => ⟨S1x256x2048, .f32⟩
  | .hbm, ⟨39, _⟩ => ⟨S_, .f32⟩
  | .hbm, ⟨40, _⟩ => ⟨S1x256x2048, .f32⟩
  | .hbm, ⟨41, _⟩ => ⟨S1x256x2048, .f32⟩
  | .hbm, ⟨42, _⟩ => ⟨S_, .f32⟩
  | .hbm, ⟨43, _⟩ => ⟨S1x256x2048, .f32⟩
  | .hbm, ⟨44, _⟩ => ⟨S1x256x2048, .f32⟩
  | .hbm, ⟨45, _⟩ => ⟨S1x256x2048, .f32⟩
  | .hbm, ⟨46, _⟩ => ⟨S_, .f32⟩
  | .hbm, ⟨47, _⟩ => ⟨S1x256x2048, .f32⟩
  | .hbm, ⟨48, _⟩ => ⟨S1x256x2048, .f32⟩
  | .hbm, ⟨49, _⟩ => ⟨S1x256x2048, .f32⟩
  | .hbm, ⟨50, _⟩ => ⟨S_, .f32⟩
  | .hbm, ⟨51, _⟩ => ⟨S1x256x2048, .f32⟩
  | .hbm, ⟨52, _⟩ => ⟨S1x256x2048, .f32⟩
  | .hbm, ⟨53, _⟩ => ⟨S1x256x2048, .f32⟩
  | .hbm, ⟨54, _⟩ => ⟨S_, .f32⟩
  | .hbm, ⟨55, _⟩ => ⟨S1x256x2048, .f32⟩
  | .hbm, ⟨56, _⟩ => ⟨S1x256x2048, .f32⟩
  | .hbm, ⟨57, _⟩ => ⟨S_, .f32⟩
  | .hbm, ⟨58, _⟩ => ⟨S1x256x2048, .f32⟩
  | .hbm, ⟨59, _⟩ => ⟨S1x256x2048, .f32⟩
  | .hbm, ⟨60, _⟩ => ⟨S1x256x2048, .f32⟩
  | .hbm, ⟨61, _⟩ => ⟨S_, .f32⟩
  | .hbm, ⟨62, _⟩ => ⟨S1x256x2048, .f32⟩
  | .hbm, ⟨63, _⟩ => ⟨S1x256x2048, .f32⟩
  | .hbm, ⟨64, _⟩ => ⟨S1x256x2048, .f32⟩
  | .hbm, ⟨65, _⟩ => ⟨S_, .f32⟩
  | .hbm, ⟨66, _⟩ => ⟨S1x256x2048, .f32⟩
  | .hbm, ⟨67, _⟩ => ⟨S1x256x2048, .f32⟩
  | .hbm, ⟨68, _⟩ => ⟨S1x256x2048, .f32⟩
  | .hbm, ⟨69, _⟩ => ⟨S_, .f32⟩
  | .hbm, ⟨70, _⟩ => ⟨S1x256x2048, .f32⟩
  | .hbm, ⟨71, _⟩ => ⟨S1x256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_c_2 : Ref sig .tc := ⟨.hbm, 18, rfl⟩
abbrev main_v5 : Ref sig .tc := ⟨.hbm, 19, rfl⟩
abbrev main_c_3 : Ref sig .tc := ⟨.hbm, 20, rfl⟩
abbrev main_c_4 : Ref sig .tc := ⟨.hbm, 21, rfl⟩
abbrev main_v6 : Ref sig .tc := ⟨.hbm, 22, rfl⟩
abbrev main_c_5 : Ref sig .tc := ⟨.hbm, 23, rfl⟩
abbrev main_v7 : Ref sig .tc := ⟨.hbm, 24, rfl⟩
abbrev main_c_6 : Ref sig .tc := ⟨.hbm, 25, rfl⟩
abbrev main_c_7 : Ref sig .tc := ⟨.hbm, 26, rfl⟩
abbrev main_v8 : Ref sig .tc := ⟨.hbm, 27, rfl⟩
abbrev main_c_8 : Ref sig .tc := ⟨.hbm, 28, rfl⟩
abbrev main_c_9 : Ref sig .tc := ⟨.hbm, 29, rfl⟩
abbrev main_v9 : Ref sig .tc := ⟨.hbm, 30, rfl⟩
abbrev main_c_10 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_11 : Ref sig .tc := ⟨.hbm, 39, rfl⟩
abbrev main_v16 : Ref sig .tc := ⟨.hbm, 40, rfl⟩
abbrev main_v17 : Ref sig .tc := ⟨.hbm, 41, rfl⟩
abbrev main_cst_12 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_13 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_14 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_15 : Ref sig .tc := ⟨.hbm, 54, rfl⟩
abbrev main_v27 : Ref sig .tc := ⟨.hbm, 55, rfl⟩
abbrev main_v28 : Ref sig .tc := ⟨.hbm, 56, rfl⟩
abbrev main_cst_16 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_17 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_18 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_19 : Ref sig .tc := ⟨.hbm, 69, rfl⟩
abbrev main_v38 : Ref sig .tc := ⟨.hbm, 70, rfl⟩
abbrev main_v39 : Ref sig .tc := ⟨.hbm, 71, rfl⟩

abbrev nD : Nat := 1
abbrev τ : Topo := Topo.v7x

variable {F : FTy → Type} [FloatOps F]
-- ==== Proof.Gate.Chunks.lean ====
/- What one grid point of the two calls leaves in its output blocks, over the extended reals.

   A point of the first call holds 1024 rows of `h`, one 1408-wide block of the gate's weights and the matching block
   of the up-projection's. It works through the rows in four pieces of 256 and writes three blocks: the gate's
   derivative factor, the silu of the gate and the activation. A point of the second call holds 1024 rows of `dy`, one
   block of rows of the output weights and the two saved factors, and writes the gradient of the gate and of the
   up-projection. Here each block is ONE function of the row and the column: the four pieces agree. -/
module

public import proofs.«01_k».proof.Proof.Gen.KernelIdeal.Frame
public import Idealize.ShloMosaic.Lib.Pipeline.Value
public import Idealize.ShloMosaic.Lib.Pointwise

@[expose] public section

noncomputable section

namespace Cert.KernelIdeal.Gate

open Idealize.ShloMosaic Idealize.SL.Sem Idealize.ShloMosaic.TcCoe
open Cert.KernelIdeal Cert.KernelIdeal.Gen
open scoped BigOperators

/-! ## The scalar functions -/

/-- The logistic function as the kernel spells it. -/
def lg (g : EReal) : EReal := Ideal.div 1 (1 + Ideal.exp (-g))

/-- The derivative of `silu g * u` in `g`, as the kernel saves it. -/
def gradGate (g u : EReal) : EReal := u * (lg g * (1 + g * (1 - lg g)))

/-- `silu g`, which is the derivative of `silu g * u` in `u`. -/
def gradUp (g : EReal) : EReal := g * lg g

/-- The activation `silu g * u`. -/
def swish (g u : EReal) : EReal := g * lg g * u

/-! ## The first call's pieces -/

/-- Row `r`, column `l` of a block of rows against a block of weights. -/
def rowCol {n : ℕ} (x : FVec Ideal ⟨2, ![n, 2048]⟩ .bf16) (w : FVec Ideal S1x2048x1408 .bf16) (r : Fin n) (l : Fin 1408) :
    EReal := ∑ k : Fin 2048, x (ix2 r k) * w (ix3 0 k l)

/-- The piece of the gate's derivative factor, at a row and a column. -/
theorem factor_piece (x : FVec Ideal S256x2048 .bf16) (wg wu : FVec Ideal S1x2048x1408 .bf16) (r : Fin 256) (l : Fin 1408) :
    k0_pay10 (F := Ideal) x wg wu (ix2 r l) = gradGate (rowCol x wg r l) (rowCol x wu r l) := by
  pointwise [k0_pay10, k0_pay8, k0_pay7, k0_pay6, gradGate, lg, rowCol]
  simp only [zero_sub]

/-- The piece of the silu. -/
theorem silu_piece (x : FVec Ideal S256x2048 .bf16) (wg : FVec Ideal S1x2048x1408 .bf16) (r : Fin 256) (l : Fin 1408) :
    k0_pay11 (F := Ideal) x wg (ix2 r l) = gradUp (rowCol x wg r l) := by
  pointwise [k0_pay11, k0_pay9, k0_pay8, k0_pay6, gradUp, lg, rowCol]
  simp only [zero_sub]

/-- The piece of the activation. -/
theorem act_piece (x : FVec Ideal S256x2048 .bf16) (wg wu : FVec Ideal S1x2048x1408 .bf16) (r : Fin 256) (l : Fin 1408) :
    k0_pay12 (F := Ideal) x wg wu (ix2 r l) = swish (rowCol x wg r l) (rowCol x wu r l) := by
  pointwise [k0_pay12, k0_pay9, k0_pay8, k0_pay7, k0_pay6, swish, lg, rowCol]
  simp only [zero_sub]

/-! ## The first call's blocks -/

/-- Row `r` of the piece that starts at row `o`. -/
def below (o : ℕ) (h : o + 256 ≤ 1024) (r : Fin 256) : Fin 1024 := ⟨o + r.val, by omega⟩

/-- A piece's rows against the whole weight block are the block's rows from the piece's first on. -/
theorem rowCol_ld (x : Vec Ideal S1024x2048 .bf16) (w : Vec Ideal S1x2048x1408 .bf16) (o : ℕ) (h : o + 256 ≤ 1024)
    (inb : ∀ a, (![o, 0] : Fin 2 → Nat) a + S256x2048.size a ≤ S1024x2048.size a) (r : Fin 256) (l : Fin 1408) :
    rowCol (View.ld x (Rect.unit (s := S1024x2048) ![o, 0] S256x2048.size inb) : FVec Ideal S256x2048 .bf16) (View.ld w r0_1) r l
      = rowCol x w (below o h r) l := by
  unfold rowCol
  refine Finset.sum_congr rfl fun k _ => ?_
  refine congrArg₂ (· * ·) ?_ ?_
  · refine congrArg x (funext fun a => Fin.ext ?_)
    match a with
    | ⟨0, _⟩ => exact congrArg (o + ·) (Nat.one_mul _)
    | ⟨1, _⟩ => exact (Nat.zero_add _).trans (Nat.one_mul _)
  · refine congrArg w (funext fun a => Fin.ext ?_)
    match a with
    | ⟨0, _⟩ => rfl
    | ⟨1, _⟩ => exact (Nat.zero_add _).trans (Nat.one_mul _)
    | ⟨2, _⟩ => exact (Nat.zero_add _).trans (Nat.one_mul _)

/-- Where the piece from row `o` on puts its row `r`. -/
theorem emb_below (o : ℕ) (h : o + 256 ≤ 1024)
    (inb : ∀ a, (![o, 0] : Fin 2 → Nat) a + S256x1408.size a ≤ S1024x1408.size a) (r : Fin 256) (l : Fin 1408) :
    (Rect.unit (s := S1024x1408) ![o, 0] S256x1408.size inb).emb (ix2 r l) = (ix2 (below o h r) l : S1024x1408.Idx) := by
  refine funext fun a => Fin.ext ?_
  match a with
  | ⟨0, _⟩ => exact congrArg (o + ·) (Nat.one_mul _)
  | ⟨1, _⟩ => exact (Nat.zero_add _).trans (Nat.one_mul _)

/-- Four pieces of 256 rows that agree with one function of the row and the column make a block that is this function. -/
theorem rows4 (f : Fin 1024 → Fin 1408 → EReal) (p0 p1 p2 p3 : Vec Ideal S256x1408 .bf16)
    (h0 : ∀ r l, p0 (ix2 r l) = f (below 0 (by decide) r) l) (h1 : ∀ r l, p1 (ix2 r l) = f (below 256 (by decide) r) l)
    (h2 : ∀ r l, p2 (ix2 r l) = f (below 512 (by decide) r) l) (h3 : ∀ r l, p3 (ix2 r l) = f (below 768 (by decide) r) l)
    (r : Fin 1024) (l : Fin 1408) :
    View.canon (Val := Elt Ideal) (e := .bf16) [⟨r0_8, p3⟩, ⟨r0_6, p2⟩, ⟨r0_4, p1⟩, ⟨r0_2, p0⟩] (ix2 r l) = f r l := by
  refine View.canon_apply_of_pieces (Val := Elt Ideal) (e := .bf16) (fun y : S1024x1408.Idx => f (y 0) (y 1)) _ ?_ _ (cover0_3 ..)
  simp only [List.mem_cons, List.not_mem_nil, or_false]
  rintro p (rfl | rfl | rfl | rfl) i <;> idx_vars i
  · exact (h3 _ _).trans (by rw [emb_below 768 (by decide)]; rfl)
  · exact (h2 _ _).trans (by rw [emb_below 512 (by decide)]; rfl)
  · exact (h1 _ _).trans (by rw [emb_below 256 (by decide)]; rfl)
  · exact (h0 _ _).trans (by rw [emb_below 0 (by decide)]; rfl)

section

variable (x : Vec Ideal S1024x2048 .bf16) (wg wu : Vec Ideal S1x2048x1408 .bf16) (r : Fin 1024) (l : Fin 1408)

/-- The first call's first block: the gate's derivative factor at every row and column. -/
theorem factor_block : out0_3 (F := Ideal) x wg wu (ix2 r l) = gradGate (rowCol x wg r l) (rowCol x wu r l) := by
  have piece : ∀ (o : ℕ) (h : o + 256 ≤ 1024) (inb) (r : Fin 256) (l : Fin 1408),
      k0_pay10 (F := Ideal) (View.ld x (Rect.unit (s := S1024x2048) ![o, 0] S256x2048.size inb)) (View.ld wg r0_1) (View.ld wu r0_1) (ix2 r l)
        = gradGate (rowCol x wg (below o h r) l) (rowCol x wu (below o h r) l) := by
    intro o h inb r l
    rw [factor_piece, rowCol_ld _ _ o h, rowCol_ld _ _ o h]
  unfold out0_3
  exact rows4 (fun r l => gradGate (rowCol x wg r l) (rowCol x wu r l)) _ _ _ _ (piece 0 _ _) (piece 256 _ _) (piece 512 _ _)
    (piece 768 _ _) r l

/-- The first call's second block: the silu of the gate. -/
theorem silu_block : out0_4 (F := Ideal) x wg wu (ix2 r l) = gradUp (rowCol x wg r l) := by
  have piece : ∀ (o : ℕ) (h : o + 256 ≤ 1024) (inb) (r : Fin 256) (l : Fin 1408),
      k0_pay11 (F := Ideal) (View.ld x (Rect.unit (s := S1024x2048) ![o, 0] S256x2048.size inb)) (View.ld wg r0_1) (ix2 r l)
        = gradUp (rowCol x wg (below o h r) l) := by
    intro o h inb r l
    rw [silu_piece, rowCol_ld _ _ o h]
  unfold out0_4
  exact rows4 (fun r l => gradUp (rowCol x wg r l)) _ _ _ _ (piece 0 _ _) (piece 256 _ _) (piece 512 _ _) (piece 768 _ _) r l

/-- The first call's third block: the activation. -/
theorem act_block : out0_5 (F := Ideal) x wg wu (ix2 r l) = swish (rowCol x wg r l) (rowCol x wu r l) := by
  have piece : ∀ (o : ℕ) (h : o + 256 ≤ 1024) (inb) (r : Fin 256) (l : Fin 1408),
      k0_pay12 (F := Ideal) (View.ld x (Rect.unit (s := S1024x2048) ![o, 0] S256x2048.size inb)) (View.ld wg r0_1) (View.ld wu r0_1) (ix2 r l)
        = swish (rowCol x wg (below o h r) l) (rowCol x wu (below o h r) l) := by
    intro o h inb r l
    rw [act_piece, rowCol_ld _ _ o h, rowCol_ld _ _ o h]
  unfold out0_5
  exact rows4 (fun r l => swish (rowCol x wg r l) (rowCol x wu r l)) _ _ _ _ (piece 0 _ _) (piece 256 _ _) (piece 512 _ _)
    (piece 768 _ _) r l

end

/-! ## The second call -/

/-- Row `r` of a block of `dy` against row `l` of a block of the output weights: the gradient of the activation. -/
def rowRow {n : ℕ} (y : FVec Ideal ⟨2, ![n, 2048]⟩ .bf16) (w : FVec Ideal S1x1408x2048 .bf16) (r : Fin n) (l : Fin 1408) :
    EReal := ∑ k : Fin 2048, y (ix2 r k) * w (ix3 0 l k)

/-- A piece of the second call: the activation's gradient times the saved factor. -/
theorem grad_piece (y : FVec Ideal S256x2048 .bf16) (w : FVec Ideal S1x1408x2048 .bf16) (z : FVec Ideal S256x1408 .bf16)
    (u : Fin 1) (r : Fin 256) (l : Fin 1408) :
    k1_pay5 (F := Ideal) y w z (ix3 u r l) = rowRow y w r l * z (ix2 r l) := by
  pointwise [k1_pay5, k1_pay4, rowRow]

/-- A piece's rows of `dy` against the weight block. -/
theorem rowRow_ld (y : Vec Ideal S1024x2048 .bf16) (w : Vec Ideal S1x1408x2048 .bf16) (o : ℕ) (h : o + 256 ≤ 1024)
    (inb : ∀ a, (![o, 0] : Fin 2 → Nat) a + S256x2048.size a ≤ S1024x2048.size a) (r : Fin 256) (l : Fin 1408) :
    rowRow (View.ld y (Rect.unit (s := S1024x2048) ![o, 0] S256x2048.size inb) : FVec Ideal S256x2048 .bf16) (View.ld w r1_1) r l
      = rowRow y w (below o h r) l := by
  unfold rowRow
  refine Finset.sum_congr rfl fun k _ => ?_
  refine congrArg₂ (· * ·) ?_ ?_
  · refine congrArg y (funext fun a => Fin.ext ?_)
    match a with
    | ⟨0, _⟩ => exact congrArg (o + ·) (Nat.one_mul _)
    | ⟨1, _⟩ => exact (Nat.zero_add _).trans (Nat.one_mul _)
  · refine congrArg w (funext fun a => Fin.ext ?_)
    match a with
    | ⟨0, _⟩ => rfl
    | ⟨1, _⟩ => exact (Nat.zero_add _).trans (Nat.one_mul _)
    | ⟨2, _⟩ => exact (Nat.zero_add _).trans (Nat.one_mul _)

/-- Where the piece of half `b` from row `o` on puts its row `r`. -/
theorem emb_half (b : Fin 2) (o : ℕ) (h : o + 256 ≤ 1024)
    (inb : ∀ a, (![b.val, o, 0] : Fin 3 → Nat) a + S1x256x1408.size a ≤ S2x1024x1408.size a) (u : Fin 1) (r : Fin 256) (l : Fin 1408) :
    (Rect.unit (s := S2x1024x1408) ![b.val, o, 0] S1x256x1408.size inb).emb (ix3 u r l) = (ix3 b (below o h r) l : S2x1024x1408.Idx) := by
  refine funext fun a => Fin.ext ?_
  match a with
  | ⟨0, _⟩ =>
    show b.val + 1 * u.val = b.val
    omega
  | ⟨1, _⟩ => exact congrArg (o + ·) (Nat.one_mul _)
  | ⟨2, _⟩ => exact (Nat.zero_add _).trans (Nat.one_mul _)

/-- The second call's block: in its first half the gate's gradient, in its second the up-projection's. -/
theorem grad_block (y : Vec Ideal S1024x2048 .bf16) (w : Vec Ideal S1x1408x2048 .bf16) (zg zu : Vec Ideal S1024x1408 .bf16)
    (b : Fin 2) (r : Fin 1024) (l : Fin 1408) :
    out1_4 (F := Ideal) y w zg zu (ix3 b r l) = rowRow y w r l * (if b.val = 0 then zg (ix2 r l) else zu (ix2 r l)) := by
  let G : S2x1024x1408.Idx → Elt Ideal .bf16 := fun i =>
    (rowRow y w (i 1) (i 2) * (if (i 0).val = 0 then zg (ix2 (i 1) (i 2)) else zu (ix2 (i 1) (i 2))) : EReal)
  have ld : ∀ (z : Vec Ideal S1024x1408 .bf16) (o : ℕ) (h : o + 256 ≤ 1024) (inb) (r : Fin 256) (l : Fin 1408),
      View.ld z (Rect.unit (s := S1024x1408) ![o, 0] S256x1408.size inb) (ix2 r l) = z (ix2 (below o h r) l) := by
    intro z o h inb r l
    exact congrArg z (emb_below o h inb r l)
  have piece : ∀ (b : Fin 2) (o : ℕ) (h : o + 256 ≤ 1024) (inb) (inb') (inb'') (i : S1x256x1408.Idx),
      k1_pay5 (F := Ideal) (View.ld y (Rect.unit (s := S1024x2048) ![o, 0] S256x2048.size inb)) (View.ld w r1_1)
          (View.ld (if b.val = 0 then zg else zu) (Rect.unit (s := S1024x1408) ![o, 0] S256x1408.size inb')) i
        = G ((Rect.unit (s := S2x1024x1408) ![b.val, o, 0] S1x256x1408.size inb'').emb i) := by
    intro b o h inb inb' inb'' i
    idx_vars i
    rw [grad_piece, rowRow_ld _ _ o h, ld _ o h, emb_half b o h]
    show _ = (rowRow y w (below o h _) _ * (if b.val = 0 then _ else _) : EReal)
    split <;> rfl
  unfold out1_4
  refine View.canon_apply_of_pieces (Val := Elt Ideal) (e := .bf16) G _ ?_ _ (cover1_4 ..)
  simp only [List.mem_cons, List.not_mem_nil, or_false]
  rintro p (rfl | rfl | rfl | rfl | rfl | rfl | rfl | rfl) i
  · exact piece 1 768 (by decide) _ _ inb_S2x1024x1408_S1x256x1408_1_768_0 i
  · exact piece 0 768 (by decide) _ _ inb_S2x1024x1408_S1x256x1408_0_768_0 i
  · exact piece 1 512 (by decide) _ _ inb_S2x1024x1408_S1x256x1408_1_512_0 i
  · exact piece 0 512 (by decide) _ _ inb_S2x1024x1408_S1x256x1408_0_512_0 i
  · exact piece 1 256 (by decide) _ _ inb_S2x1024x1408_S1x256x1408_1_256_0 i
  · exact piece 0 256 (by decide) _ _ inb_S2x1024x1408_S1x256x1408_0_256_0 i
  · exact piece 1 0 (by decide) _ _ inb_S2x1024x1408_S1x256x1408_1_0_0 i
  · exact piece 0 0 (by decide) _ _ inb_S2x1024x1408_S1x256x1408_0_0_0 i

end Cert.KernelIdeal.Gate

end
-- ==== Proof.Gate.Arrays.lean ====
/- What the two calls leave in their result arrays, over the extended reals: each result array as ONE function of its
   row and column, from the arrays the calls are given. -/
module

public import proofs.«01_k».proof.Proof.Gate.Chunks
public import proofs.«01_k».proof.Proof.Gen.KernelIdeal.Points

@[expose] public section

set_option maxRecDepth 16384

noncomputable section

namespace Cert.KernelIdeal.Gate

open Idealize.ShloMosaic Idealize.SL.Sem Idealize.ShloMosaic.TcCoe
open Cert.KernelIdeal Cert.KernelIdeal.Gen
open Idealize.ShloMosaic.Pipeline (Dat Cfg Window)
open scoped BigOperators

/-! ## The schedule: which block each window is on at a grid point -/

/-- The first call's `h` is on row block `t % 4`, its weights on blocks `t / 4` and `4 + t / 4`. -/
theorem in_index0 : ∀ t : Fin grid0.N,
    (win0_0.index t 0 = t.val % 4 ∧ win0_0.index t 1 = 0)
    ∧ (win0_1.index t 0 = t.val / 4 ∧ win0_1.index t 1 = 0 ∧ win0_1.index t 2 = 0)
    ∧ (win0_2.index t 0 = 4 + t.val / 4 ∧ win0_2.index t 1 = 0 ∧ win0_2.index t 2 = 0) := by decide +kernel

/-- The first call's results are on row block `t % 4` and column block `t / 4`. -/
theorem out_index0 : ∀ t : Fin grid0.N,
    (win0_3.index t 0 = t.val % 4 ∧ win0_3.index t 1 = t.val / 4)
    ∧ (win0_4.index t 0 = t.val % 4 ∧ win0_4.index t 1 = t.val / 4)
    ∧ (win0_5.index t 0 = t.val % 4 ∧ win0_5.index t 1 = t.val / 4) := by decide +kernel

/-- The second call's inputs: `dy` on row block `t % 4`, the weights on row block `t / 4`, the saved factors on both. -/
theorem in_index1 : ∀ t : Fin grid1.N,
    (win1_0.index t 0 = t.val % 4 ∧ win1_0.index t 1 = 0)
    ∧ (win1_1.index t 0 = 0 ∧ win1_1.index t 1 = t.val / 4 ∧ win1_1.index t 2 = 0)
    ∧ (win1_2.index t 0 = t.val % 4 ∧ win1_2.index t 1 = t.val / 4)
    ∧ (win1_3.index t 0 = t.val % 4 ∧ win1_3.index t 1 = t.val / 4) := by decide +kernel

/-- The second call's result is on both halves, row block `t % 4` and column block `t / 4`. -/
theorem out_index1 : ∀ t : Fin grid1.N,
    win1_4.index t 0 = 0 ∧ win1_4.index t 1 = t.val % 4 ∧ win1_4.index t 2 = t.val / 4 := by decide +kernel

/-- A point is below 16. -/
theorem lt0 (t : Fin cfg0.N) : t.val < 16 := lt_of_lt_of_eq t.isLt N_0
theorem lt1 (t : Fin cfg1.N) : t.val < 16 := lt_of_lt_of_eq t.isLt N_1

/-- Row `r` of the row block a point is on. -/
def rowAt (t : ℕ) (r : Fin 1024) : Fin 4096 := ⟨t % 4 * 1024 + r.val, by omega⟩
/-- Column `l` of the column block a point is on. -/
def colAt (t : ℕ) (h : t < 16) (l : Fin 1408) : Fin 5632 := ⟨t / 4 * 1408 + l.val, by omega⟩
/-- The weight block a point reads for the gate. -/
def gateAt (t : ℕ) (h : t < 16) : Fin 8 := ⟨t / 4, by omega⟩
/-- The weight block a point reads for the up-projection. -/
def upAt (t : ℕ) (h : t < 16) : Fin 8 := ⟨4 + t / 4, by omega⟩

/-! ## The input blocks, read off the arrays -/

variable (V : (c : Dev nD) → (b : Ref sig .tc) → Buf (Elt Ideal) ((c : Thread nD τ).loc b)) (c : Dev nD)

theorem h_block (t : Fin cfg0.N) (r : Fin 1024) (k : Fin 2048) :
    iblk0 V c 0 t (ix2 r k) = V c main_arg0 (ix2 (rowAt t.val r) k) := by
  obtain ⟨⟨e0, e1⟩, -, -⟩ := in_index0 t
  refine congrArg (V c main_arg0) (funext fun a => Fin.ext ?_)
  match a with
  | ⟨0, _⟩ => show win0_0.index t 0 * 1024 + 1 * r.val = t.val % 4 * 1024 + r.val; rw [e0, Nat.one_mul]
  | ⟨1, _⟩ => show win0_0.index t 1 * 2048 + 1 * k.val = k.val; rw [e1]; omega

theorem gate_block (t : Fin cfg0.N) (u : Fin 1) (k : Fin 2048) (l : Fin 1408) :
    iblk0 V c 1 t (ix3 u k l) = V c main_arg1 (ix3 (gateAt t.val (lt0 t)) k l) := by
  obtain ⟨-, ⟨e0, e1, e2⟩, -⟩ := in_index0 t
  refine congrArg (V c main_arg1) (funext fun a => Fin.ext ?_)
  match a with
  | ⟨0, _⟩ => show win0_1.index t 0 * 1 + 1 * u.val = t.val / 4; rw [e0]; omega
  | ⟨1, _⟩ => show win0_1.index t 1 * 2048 + 1 * k.val = k.val; rw [e1]; omega
  | ⟨2, _⟩ => show win0_1.index t 2 * 1408 + 1 * l.val = l.val; rw [e2]; omega

theorem up_block (t : Fin cfg0.N) (u : Fin 1) (k : Fin 2048) (l : Fin 1408) :
    iblk0 V c 2 t (ix3 u k l) = V c main_arg1 (ix3 (upAt t.val (lt0 t)) k l) := by
  obtain ⟨-, -, ⟨e0, e1, e2⟩⟩ := in_index0 t
  refine congrArg (V c main_arg1) (funext fun a => Fin.ext ?_)
  match a with
  | ⟨0, _⟩ => show win0_2.index t 0 * 1 + 1 * u.val = 4 + t.val / 4; rw [e0]; omega
  | ⟨1, _⟩ => show win0_2.index t 1 * 2048 + 1 * k.val = k.val; rw [e1]; omega
  | ⟨2, _⟩ => show win0_2.index t 2 * 1408 + 1 * l.val = l.val; rw [e2]; omega

theorem dy_block (t : Fin cfg1.N) (r : Fin 1024) (k : Fin 2048) :
    iblk1 V c 0 t (ix2 r k) = V c main_arg3 (ix2 (rowAt t.val r) k) := by
  obtain ⟨⟨e0, e1⟩, -⟩ := in_index1 t
  refine congrArg (V c main_arg3) (funext fun a => Fin.ext ?_)
  match a with
  | ⟨0, _⟩ => show win1_0.index t 0 * 1024 + 1 * r.val = t.val % 4 * 1024 + r.val; rw [e0, Nat.one_mul]
  | ⟨1, _⟩ => show win1_0.index t 1 * 2048 + 1 * k.val = k.val; rw [e1]; omega

theorem out_weight_block (t : Fin cfg1.N) (u : Fin 1) (l : Fin 1408) (k : Fin 2048) :
    iblk1 V c 1 t (ix3 u l k) = V c main_arg2 (ix3 0 (colAt t.val (lt1 t) l) k) := by
  obtain ⟨-, ⟨e0, e1, e2⟩, -⟩ := in_index1 t
  refine congrArg (V c main_arg2) (funext fun a => Fin.ext ?_)
  match a with
  | ⟨0, _⟩ => show win1_1.index t 0 * 1 + 1 * u.val = 0; rw [e0]; omega
  | ⟨1, _⟩ => show win1_1.index t 1 * 1408 + 1 * l.val = t.val / 4 * 1408 + l.val; rw [e1, Nat.one_mul]
  | ⟨2, _⟩ => show win1_1.index t 2 * 2048 + 1 * k.val = k.val; rw [e2]; omega

theorem factor_in_block (t : Fin cfg1.N) (r : Fin 1024) (l : Fin 1408) :
    iblk1 V c 2 t (ix2 r l) = V c main_v0_0 (ix2 (rowAt t.val r) (colAt t.val (lt1 t) l)) := by
  obtain ⟨-, -, ⟨e0, e1⟩, -⟩ := in_index1 t
  refine congrArg (V c main_v0_0) (funext fun a => Fin.ext ?_)
  match a with
  | ⟨0, _⟩ => show win1_2.index t 0 * 1024 + 1 * r.val = t.val % 4 * 1024 + r.val; rw [e0, Nat.one_mul]
  | ⟨1, _⟩ => show win1_2.index t 1 * 1408 + 1 * l.val = t.val / 4 * 1408 + l.val; rw [e1, Nat.one_mul]

theorem silu_in_block (t : Fin cfg1.N) (r : Fin 1024) (l : Fin 1408) :
    iblk1 V c 3 t (ix2 r l) = V c main_v0_1 (ix2 (rowAt t.val r) (colAt t.val (lt1 t) l)) := by
  obtain ⟨-, -, -, ⟨e0, e1⟩⟩ := in_index1 t
  refine congrArg (V c main_v0_1) (funext fun a => Fin.ext ?_)
  match a with
  | ⟨0, _⟩ => show win1_3.index t 0 * 1024 + 1 * r.val = t.val % 4 * 1024 + r.val; rw [e0, Nat.one_mul]
  | ⟨1, _⟩ => show win1_3.index t 1 * 1408 + 1 * l.val = t.val / 4 * 1408 + l.val; rw [e1, Nat.one_mul]

/-! ## The products, over the whole arrays -/

/-- Row `r` of `h` against column `f` of the gate's weights, which are blocks 0 to 3, side by side. -/
def gateDot (h : FVec Ideal S4096x2048 .bf16) (w : FVec Ideal S8x2048x1408 .bf16) (r : Fin 4096) (f : Fin 5632) : EReal :=
  ∑ k : Fin 2048, h (ix2 r k) * w (ix3 (⟨f.val / 1408, by omega⟩ : Fin 8) k (⟨f.val % 1408, by omega⟩ : Fin 1408))

/-- Row `r` of `h` against column `f` of the up-projection's weights, which are blocks 4 to 7, side by side. -/
def upDot (h : FVec Ideal S4096x2048 .bf16) (w : FVec Ideal S8x2048x1408 .bf16) (r : Fin 4096) (f : Fin 5632) : EReal :=
  ∑ k : Fin 2048, h (ix2 r k) * w (ix3 (⟨4 + f.val / 1408, by omega⟩ : Fin 8) k (⟨f.val % 1408, by omega⟩ : Fin 1408))

/-- Row `r` of `dy` against row `f` of the output weights. -/
def actDot (y : FVec Ideal S4096x2048 .bf16) (w : FVec Ideal S1x5632x2048 .bf16) (r : Fin 4096) (f : Fin 5632) : EReal :=
  ∑ k : Fin 2048, y (ix2 r k) * w (ix3 (0 : Fin 1) f k)

theorem gateDot_eq (t : Fin cfg0.N) (r : Fin 1024) (l : Fin 1408) :
    rowCol (iblk0 V c 0 t : Vec Ideal S1024x2048 .bf16) (iblk0 V c 1 t) r l
      = gateDot (V c main_arg0) (V c main_arg1) (rowAt t.val r) (colAt t.val (lt0 t) l) := by
  unfold rowCol gateDot
  refine Finset.sum_congr rfl fun k _ => ?_
  rw [h_block, gate_block]
  refine congrArg₂ (fun (a b : EReal) => a * b) rfl (congrArg (V c main_arg1) ?_)
  refine congrArg₂ (fun (a : Fin 8) (b : Fin 1408) => (ix3 a k b : S8x2048x1408.Idx)) (Fin.ext ?_) (Fin.ext ?_)
  · show t.val / 4 = (t.val / 4 * 1408 + l.val) / 1408; omega
  · show l.val = (t.val / 4 * 1408 + l.val) % 1408; omega

theorem upDot_eq (t : Fin cfg0.N) (r : Fin 1024) (l : Fin 1408) :
    rowCol (iblk0 V c 0 t : Vec Ideal S1024x2048 .bf16) (iblk0 V c 2 t) r l
      = upDot (V c main_arg0) (V c main_arg1) (rowAt t.val r) (colAt t.val (lt0 t) l) := by
  unfold rowCol upDot
  refine Finset.sum_congr rfl fun k _ => ?_
  rw [h_block, up_block]
  refine congrArg₂ (fun (a b : EReal) => a * b) rfl (congrArg (V c main_arg1) ?_)
  refine congrArg₂ (fun (a : Fin 8) (b : Fin 1408) => (ix3 a k b : S8x2048x1408.Idx)) (Fin.ext ?_) (Fin.ext ?_)
  · show 4 + t.val / 4 = 4 + (t.val / 4 * 1408 + l.val) / 1408; omega
  · show l.val = (t.val / 4 * 1408 + l.val) % 1408; omega

theorem actDot_eq (t : Fin cfg1.N) (r : Fin 1024) (l : Fin 1408) :
    rowRow (iblk1 V c 0 t : Vec Ideal S1024x2048 .bf16) (iblk1 V c 1 t) r l
      = actDot (V c main_arg3) (V c main_arg2) (rowAt t.val r) (colAt t.val (lt1 t) l) := by
  unfold rowRow actDot
  refine Finset.sum_congr rfl fun k _ => ?_
  rw [dy_block, out_weight_block]

/-! ## The result arrays -/

/-- The gate's derivative factor, over the whole array. -/
def factorArr : FVec Ideal S4096x5632 .bf16 := fun i =>
  gradGate (gateDot (V c main_arg0) (V c main_arg1) (i 0) (i 1)) (upDot (V c main_arg0) (V c main_arg1) (i 0) (i 1))

/-- The silu of the gate. -/
def siluArr : FVec Ideal S4096x5632 .bf16 := fun i => gradUp (gateDot (V c main_arg0) (V c main_arg1) (i 0) (i 1))

/-- The activation. -/
def actArr : FVec Ideal S4096x5632 .bf16 := fun i =>
  swish (gateDot (V c main_arg0) (V c main_arg1) (i 0) (i 1)) (upDot (V c main_arg0) (V c main_arg1) (i 0) (i 1))

/-- The gradients of the gate and of the up-projection. -/
def gradArr : FVec Ideal S2x4096x5632 .bf16 := fun i =>
  actDot (V c main_arg3) (V c main_arg2) (i 1) (i 2)
    * (if (i 0).val = 0 then (V c main_v0_0 (ix2 (i 1) (i 2)) : EReal) else V c main_v0_1 (ix2 (i 1) (i 2)))

/-! Where a block of each of the first call's results lies in its array, and that the blocks fill the array. -/

theorem emb_factor (t : Fin cfg0.N) (r : Fin 1024) (l : Fin 1408) :
    ((cfg0.win 3).blk t).view.emb (ix2 r l : S1024x1408.Idx) = (ix2 (rowAt t.val r) (colAt t.val (lt0 t) l) : S4096x5632.Idx) := by
  obtain ⟨e0, e1⟩ := (out_index0 t).1
  refine funext fun a => Fin.ext ?_
  match a with
  | ⟨0, _⟩ => show win0_3.index t 0 * 1024 + 1 * r.val = t.val % 4 * 1024 + r.val; rw [e0, Nat.one_mul]
  | ⟨1, _⟩ => show win0_3.index t 1 * 1408 + 1 * l.val = t.val / 4 * 1408 + l.val; rw [e1, Nat.one_mul]

/-- Every place of it is in the block of the point of its row block and its column block. -/
theorem cover_factor (i : S4096x5632.Idx) : ∃ t : Fin cfg0.N, (cfg0.win 3).flush t = true ∧ i ∈ ((cfg0.win 3).blk t).view.set := by
  have h0 : (i 0).val < 4096 := (i 0).isLt
  have h1 : (i 1).val < 5632 := (i 1).isLt
  obtain ⟨t, ht⟩ : ∃ t : Fin cfg0.N, t.val = 4 * ((i 1).val / 1408) + (i 0).val / 1024 :=
    ⟨⟨4 * ((i 1).val / 1408) + (i 0).val / 1024, by rw [show cfg0.N = 16 from N_0]; omega⟩, rfl⟩
  refine ⟨t, flush0_3 t, ?_⟩
  obtain ⟨e0, e1⟩ := (out_index0 t).1
  show i ∈ ((View.whole main_v0_0).slice (win0_3.rect t)).set
  rw [View.set_slice_whole, Rect.mem_set_unit]
  intro a
  match a with
  | ⟨0, _⟩ =>
    show win0_3.index t 0 * 1024 ≤ (i 0).val ∧ (i 0).val < win0_3.index t 0 * 1024 + 1024
    rw [e0, ht]; omega
  | ⟨1, _⟩ =>
    show win0_3.index t 1 * 1408 ≤ (i 1).val ∧ (i 1).val < win0_3.index t 1 * 1408 + 1408
    rw [e1, ht]; omega

theorem emb_silu (t : Fin cfg0.N) (r : Fin 1024) (l : Fin 1408) :
    ((cfg0.win 4).blk t).view.emb (ix2 r l : S1024x1408.Idx) = (ix2 (rowAt t.val r) (colAt t.val (lt0 t) l) : S4096x5632.Idx) := by
  obtain ⟨e0, e1⟩ := (out_index0 t).2.1
  refine funext fun a => Fin.ext ?_
  match a with
  | ⟨0, _⟩ => show win0_4.index t 0 * 1024 + 1 * r.val = t.val % 4 * 1024 + r.val; rw [e0, Nat.one_mul]
  | ⟨1, _⟩ => show win0_4.index t 1 * 1408 + 1 * l.val = t.val / 4 * 1408 + l.val; rw [e1, Nat.one_mul]

/-- Every place of it is in the block of the point of its row block and its column block. -/
theorem cover_silu (i : S4096x5632.Idx) : ∃ t : Fin cfg0.N, (cfg0.win 4).flush t = true ∧ i ∈ ((cfg0.win 4).blk t).view.set := by
  have h0 : (i 0).val < 4096 := (i 0).isLt
  have h1 : (i 1).val < 5632 := (i 1).isLt
  obtain ⟨t, ht⟩ : ∃ t : Fin cfg0.N, t.val = 4 * ((i 1).val / 1408) + (i 0).val / 1024 :=
    ⟨⟨4 * ((i 1).val / 1408) + (i 0).val / 1024, by rw [show cfg0.N = 16 from N_0]; omega⟩, rfl⟩
  refine ⟨t, flush0_4 t, ?_⟩
  obtain ⟨e0, e1⟩ := (out_index0 t).2.1
  show i ∈ ((View.whole main_v0_1).slice (win0_4.rect t)).set
  rw [View.set_slice_whole, Rect.mem_set_unit]
  intro a
  match a with
  | ⟨0, _⟩ =>
    show win0_4.index t 0 * 1024 ≤ (i 0).val ∧ (i 0).val < win0_4.index t 0 * 1024 + 1024
    rw [e0, ht]; omega
  | ⟨1, _⟩ =>
    show win0_4.index t 1 * 1408 ≤ (i 1).val ∧ (i 1).val < win0_4.index t 1 * 1408 + 1408
    rw [e1, ht]; omega

theorem emb_act (t : Fin cfg0.N) (r : Fin 1024) (l : Fin 1408) :
    ((cfg0.win 5).blk t).view.emb (ix2 r l : S1024x1408.Idx) = (ix2 (rowAt t.val r) (colAt t.val (lt0 t) l) : S4096x5632.Idx) := by
  obtain ⟨e0, e1⟩ := (out_index0 t).2.2
  refine funext fun a => Fin.ext ?_
  match a with
  | ⟨0, _⟩ => show win0_5.index t 0 * 1024 + 1 * r.val = t.val % 4 * 1024 + r.val; rw [e0, Nat.one_mul]
  | ⟨1, _⟩ => show win0_5.index t 1 * 1408 + 1 * l.val = t.val / 4 * 1408 + l.val; rw [e1, Nat.one_mul]

/-- Every place of it is in the block of the point of its row block and its column block. -/
theorem cover_act (i : S4096x5632.Idx) : ∃ t : Fin cfg0.N, (cfg0.win 5).flush t = true ∧ i ∈ ((cfg0.win 5).blk t).view.set := by
  have h0 : (i 0).val < 4096 := (i 0).isLt
  have h1 : (i 1).val < 5632 := (i 1).isLt
  obtain ⟨t, ht⟩ : ∃ t : Fin cfg0.N, t.val = 4 * ((i 1).val / 1408) + (i 0).val / 1024 :=
    ⟨⟨4 * ((i 1).val / 1408) + (i 0).val / 1024, by rw [show cfg0.N = 16 from N_0]; omega⟩, rfl⟩
  refine ⟨t, flush0_5 t, ?_⟩
  obtain ⟨e0, e1⟩ := (out_index0 t).2.2
  show i ∈ ((View.whole main_v0_2).slice (win0_5.rect t)).set
  rw [View.set_slice_whole, Rect.mem_set_unit]
  intro a
  match a with
  | ⟨0, _⟩ =>
    show win0_5.index t 0 * 1024 ≤ (i 0).val ∧ (i 0).val < win0_5.index t 0 * 1024 + 1024
    rw [e0, ht]; omega
  | ⟨1, _⟩ =>
    show win0_5.index t 1 * 1408 ≤ (i 1).val ∧ (i 1).val < win0_5.index t 1 * 1408 + 1408
    rw [e1, ht]; omega

/-- The first call's first result is the gate's derivative factor. -/
theorem factor_arr : (dat0 V c).arrAt 3 cfg0.N = factorArr V c := by
  refine (dat0 V c).arrAt_eq_of_cover 3 (factorArr V c) (fun t _ => ?_) cover_factor
  refine funext fun (x : S1024x1408.Idx) => ?_
  show (dat0 V c).after 3 t x = factorArr V c (((cfg0.win 3).blk t).view.emb x)
  rw [after0_3]
  idx_vars x
  rw [emb_factor, factor_block, gateDot_eq, upDot_eq]
  rfl

/-- The first call's second result is the silu of the gate. -/
theorem silu_arr : (dat0 V c).arrAt 4 cfg0.N = siluArr V c := by
  refine (dat0 V c).arrAt_eq_of_cover 4 (siluArr V c) (fun t _ => ?_) cover_silu
  refine funext fun (x : S1024x1408.Idx) => ?_
  show (dat0 V c).after 4 t x = siluArr V c (((cfg0.win 4).blk t).view.emb x)
  rw [after0_4]
  idx_vars x
  rw [emb_silu, silu_block, gateDot_eq]
  rfl

/-- The first call's third result is the activation. -/
theorem act_arr : (dat0 V c).arrAt 5 cfg0.N = actArr V c := by
  refine (dat0 V c).arrAt_eq_of_cover 5 (actArr V c) (fun t _ => ?_) cover_act
  refine funext fun (x : S1024x1408.Idx) => ?_
  show (dat0 V c).after 5 t x = actArr V c (((cfg0.win 5).blk t).view.emb x)
  rw [after0_5]
  idx_vars x
  rw [emb_act, act_block, gateDot_eq, upDot_eq]
  rfl

/-- Where a block of the second call's result lies in its array. -/
theorem emb_grad (t : Fin cfg1.N) (b : Fin 2) (r : Fin 1024) (l : Fin 1408) :
    ((cfg1.win 4).blk t).view.emb (ix3 b r l : S2x1024x1408.Idx)
      = (ix3 b (rowAt t.val r) (colAt t.val (lt1 t) l) : S2x4096x5632.Idx) := by
  obtain ⟨e0, e1, e2⟩ := out_index1 t
  refine funext fun a => Fin.ext ?_
  match a with
  | ⟨0, _⟩ => show win1_4.index t 0 * 2 + 1 * b.val = b.val; rw [e0]; omega
  | ⟨1, _⟩ => show win1_4.index t 1 * 1024 + 1 * r.val = t.val % 4 * 1024 + r.val; rw [e1, Nat.one_mul]
  | ⟨2, _⟩ => show win1_4.index t 2 * 1408 + 1 * l.val = t.val / 4 * 1408 + l.val; rw [e2, Nat.one_mul]

/-- Every place of it is in the block of the point of its row block and its column block. -/
theorem cover_grad (i : S2x4096x5632.Idx) : ∃ t : Fin cfg1.N, (cfg1.win 4).flush t = true ∧ i ∈ ((cfg1.win 4).blk t).view.set := by
  have h0 : (i 0).val < 2 := (i 0).isLt
  have h1 : (i 1).val < 4096 := (i 1).isLt
  have h2 : (i 2).val < 5632 := (i 2).isLt
  obtain ⟨t, ht⟩ : ∃ t : Fin cfg1.N, t.val = 4 * ((i 2).val / 1408) + (i 1).val / 1024 :=
    ⟨⟨4 * ((i 2).val / 1408) + (i 1).val / 1024, by rw [show cfg1.N = 16 from N_1]; omega⟩, rfl⟩
  refine ⟨t, flush1_4 t, ?_⟩
  obtain ⟨e0, e1, e2⟩ := out_index1 t
  show i ∈ ((View.whole main_v1).slice (win1_4.rect t)).set
  rw [View.set_slice_whole, Rect.mem_set_unit]
  intro a
  match a with
  | ⟨0, _⟩ =>
    show win1_4.index t 0 * 2 ≤ (i 0).val ∧ (i 0).val < win1_4.index t 0 * 2 + 2
    rw [e0]; omega
  | ⟨1, _⟩ =>
    show win1_4.index t 1 * 1024 ≤ (i 1).val ∧ (i 1).val < win1_4.index t 1 * 1024 + 1024
    rw [e1, ht]; omega
  | ⟨2, _⟩ =>
    show win1_4.index t 2 * 1408 ≤ (i 2).val ∧ (i 2).val < win1_4.index t 2 * 1408 + 1408
    rw [e2, ht]; omega

/-- The second call's result holds both gradients. -/
theorem grad_arr : (dat1 V c).arrAt 4 cfg1.N = gradArr V c := by
  refine (dat1 V c).arrAt_eq_of_cover 4 (gradArr V c) (fun t _ => ?_) cover_grad
  refine funext fun (x : S2x1024x1408.Idx) => ?_
  show (dat1 V c).after 4 t x = gradArr V c (((cfg1.win 4).blk t).view.emb x)
  rw [after1_4]
  idx_vars x
  rw [emb_grad, grad_block, actDot_eq, factor_in_block, silu_in_block]
  rfl

end Cert.KernelIdeal.Gate

end
-- ==== Proof.Gate.Run.lean ====
/- The run of the two calls with their values: every execution ends, the arguments are as launched, and the two results
   hold the arrays of `Gate/Arrays.lean` at the memory the program was launched on. -/
module

public import proofs.«01_k».proof.Proof.Gate.Arrays
public import Idealize.ShloMosaic.Lib.Tactic

@[expose] public section

set_option maxRecDepth 16384

noncomputable section

namespace Cert.KernelIdeal.Gate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

section

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- The launch's ghost state: the token of each pipeline cell. -/
abbrev launchState : UR sig nD τ := Rounds.initOf (Pipeline.cells cfgs cellOf_inj) (Pipeline.launchToks cfgs cellOf_inj)

set_option backward.isDefEq.respectTransparency.types false in
/-- Every execution ends, and every array of the machine's devices holds what the two calls, in order, leave in it. -/
theorem run_all : θ_run defs (onTc (τ := τ) (main (F := F))) ⟨m, fun _ => 0, ρ⟩
    (fun r => ∀ (c : Dev nD), ∀ b ∈ Pipeline.ucRefs τ sig, r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp)) (u₀ := launchState) (hu₀ := by
      have hown : (ownU launchState : sProp 𝕄) ⊢ BI.own (emb₁ launchState) := .rfl
      have hnone : (BI.emp : sProp 𝕄) ⊢ bigSep Finset.univ (fun _ : Dev nD => (BI.emp : sProp 𝕄)) := by
        rw [BI.bigSep_emp_const]
      iintro Hu
      imodintro
      isplitl [Hu]
      · iapply hown; iexact Hu
      · iapply hnone; iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      have hheld : (unscopedBufs c (fun b => m ((c : Thread nD τ).loc b)) : sProp 𝕄)
          = StableHlo.held (c : Thread nD τ) (Pipeline.ucRefs τ sig) (W0 m ρ c) := Pipeline.unscopedBufs_held c (W0 m ρ c)
      rw [hheld]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s => by
      have hread := pointsTo_read_all (Ix := Unit) (Name := ℕ) (U := UR sig nD τ) (Lvl := ℕ) (Pipeline.ucRefs τ sig)
        (fun b => (((c : Thread nD τ)).1, b)) (W2 m ρ c) s
      iintro ⟨⟨Hh, -⟩, Hs⟩
      imodintro
      unfold StableHlo.held
      iapply hread
      isplitl [Hh] <;> iassumption)
    (hQ := fun _ h _ => h)

end

end Cert.KernelIdeal.Gate

end
-- ==== Proof.Gate.Value.lean ====
/- The two result arrays of the two calls, from the memory they are launched on: the activation, and the gradient of the
   gate and of the up-projection. The second call reads the derivative factors the first one leaves. -/
module

public import proofs.«01_k».proof.Proof.Gate.Run

@[expose] public section

set_option maxRecDepth 16384

noncomputable section

namespace Cert.KernelIdeal.Gate

open Idealize.ShloMosaic Idealize.SL.Sem Idealize.ShloMosaic.TcCoe
open Cert.KernelIdeal Cert.KernelIdeal.Gen

/-- The gradient of the gate (first half) and of the up-projection (second half), from the arrays. -/
def gradOf (h : FVec Ideal S4096x2048 .bf16) (w : FVec Ideal S8x2048x1408 .bf16) (o : FVec Ideal S1x5632x2048 .bf16)
    (y : FVec Ideal S4096x2048 .bf16) : FVec Ideal S2x4096x5632 .bf16 := fun i =>
  (actDot y o (i 1) (i 2) * (if (i 0).val = 0 then gradGate (gateDot h w (i 1) (i 2)) (upDot h w (i 1) (i 2))
    else gradUp (gateDot h w (i 1) (i 2))) : EReal)

/-- The activation, from the arrays. -/
def actOf (h : FVec Ideal S4096x2048 .bf16) (w : FVec Ideal S8x2048x1408 .bf16) : FVec Ideal S4096x5632 .bf16 := fun i =>
  swish (gateDot h w (i 0) (i 1)) (upDot h w (i 0) (i 1))

variable (m : (ℓ : Loc nD τ sig) → Buf (Elt Ideal) ℓ) (ρ : Dev nD → PrngReg)

/-- After both calls the gradient array holds `gradOf` of the arguments. -/
theorem grad_value (c : Dev nD) : W2 m ρ c (Proc.devRef .tc main_v1)
    = gradOf (m ((c : Thread nD τ).loc main_arg0)) (m ((c : Thread nD τ).loc main_arg1))
      (m ((c : Thread nD τ).loc main_arg2)) (m ((c : Thread nD τ).loc main_arg3)) := by
  have hz : V1 m ρ c main_v0_0 = factorArr (V0 m ρ) c := (W1_arr m ρ c 3).trans (factor_arr (V0 m ρ) c)
  have hs : V1 m ρ c main_v0_1 = siluArr (V0 m ρ) c := (W1_arr m ρ c 4).trans (silu_arr (V0 m ρ) c)
  have ho : V1 m ρ c main_arg2 = m ((c : Thread nD τ).loc main_arg2) := W1_args m ρ c main_arg2 (by decide)
  have hy : V1 m ρ c main_arg3 = m ((c : Thread nD τ).loc main_arg3) := W1_args m ρ c main_arg3 (by decide)
  refine ((W2_arr m ρ c 4).trans (grad_arr (V1 m ρ) c)).trans ?_
  funext i
  unfold gradArr gradOf
  rw [hz, hs, ho, hy]
  rfl

/-- After both calls the activation array holds `actOf` of the arguments. -/
theorem act_value (c : Dev nD) : W2 m ρ c (Proc.devRef .tc main_v0_2)
    = actOf (m ((c : Thread nD τ).loc main_arg0)) (m ((c : Thread nD τ).loc main_arg1)) :=
  ((W2_of m ρ c main_v0_2 (by decide)).trans ((W1_arr m ρ c 5).trans (act_arr (V0 m ρ) c))).trans rfl

/-- Every execution ends with the two results at `gradOf` and `actOf` of the arguments, and the arguments as they were. -/
theorem run : θ_run defs (onTc (τ := τ) (main (F := Ideal))) ⟨m, fun _ => 0, ρ⟩ (fun r => ∀ c : Dev nD,
    r.2.mem ((c.tc : Thread nD τ).loc main_v1) = gradOf (m ((c.tc : Thread nD τ).loc main_arg0)) (m ((c.tc : Thread nD τ).loc main_arg1))
      (m ((c.tc : Thread nD τ).loc main_arg2)) (m ((c.tc : Thread nD τ).loc main_arg3))
    ∧ r.2.mem ((c.tc : Thread nD τ).loc main_v0_2) = actOf (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun _ h c =>
    ⟨(h c _ (mem_uc main_v1 (by decide))).trans (grad_value m ρ c),
      (h c _ (mem_uc main_v0_2 (by decide))).trans (act_value m ρ c),
      (h c _ (mem_uc main_arg0 (by decide))).trans (W2_main_arg0 m ρ c),
      (h c _ (mem_uc main_arg1 (by decide))).trans (W2_main_arg1 m ρ c),
      (h c _ (mem_uc main_arg2 (by decide))).trans (W2_main_arg2 m ρ c),
      (h c _ (mem_uc main_arg3 (by decide))).trans (W2_main_arg3 m ρ c)⟩) (run_all m ρ)

end Cert.KernelIdeal.Gate

end
-- ==== Proof.Gate.Finite.lean ====
/- The algebra of the gated unit's gradient on finite arrays. The precondition says that every entry of the four argument
   arrays is a real number; then so are the three products and everything made of them, and there multiplication
   distributes over addition, as the gradient's two spellings need. -/
module

public import proofs.«01_k».proof.Proof.Gate.Value
public import proofs.«01_k».proof.Proof.Gen.Pre_finite
public import Idealize.ShloMosaic.Lib.ReduceAll

@[expose] public section

noncomputable section

namespace Cert.KernelIdeal.Gate

open Idealize.ShloMosaic Idealize.SL.Sem
open scoped BigOperators

/-- An extended real that is a real number. -/
def IsReal (x : EReal) : Prop := ∃ r : ℝ, x = (r : EReal)

theorem IsReal.mul {x y : EReal} : IsReal x → IsReal y → IsReal (x * y)
  | ⟨a, ha⟩, ⟨b, hb⟩ => ⟨a * b, by rw [ha, hb, EReal.coe_mul]⟩

theorem IsReal.add {x y : EReal} : IsReal x → IsReal y → IsReal (x + y)
  | ⟨a, ha⟩, ⟨b, hb⟩ => ⟨a + b, by rw [ha, hb, EReal.coe_add]⟩

/-- A finite sum of reals is real. -/
theorem IsReal.sum {ι : Type} (s : Finset ι) (f : ι → EReal) (h : ∀ k, IsReal (f k)) : IsReal (∑ k ∈ s, f k) := by
  classical
  induction s using Finset.induction_on with
  | empty => exact ⟨0, by simp⟩
  | insert a s ha ih => rw [Finset.sum_insert ha]; exact (h a).add ih

/-- The logistic function at a real. -/
theorem lg_coe (g : ℝ) : lg (g : EReal) = ((1 / (1 + Real.exp (-g)) : ℝ) : EReal) := by
  have hne : (1 + Real.exp (-g) : ℝ) ≠ 0 := by positivity
  have h : (1 : EReal) + Ideal.exp (-(g : EReal)) = ((1 + Real.exp (-g) : ℝ) : EReal) := by
    rw [← EReal.coe_neg, Ideal.exp_coe, ← EReal.coe_one, ← EReal.coe_add]
  rw [lg, h, Ideal.div_coe hne, one_mul]

/-- The gradient of the gate: the kernel's spelling is the derivative's, on reals. -/
theorem grad_gate_eq {d g u : EReal} (hd : IsReal d) (hg : IsReal g) (hu : IsReal u) :
    d * gradGate g u = d * u * lg g + g * (d * u) * (lg g * (1 - lg g)) := by
  obtain ⟨d, rfl⟩ := hd
  obtain ⟨g, rfl⟩ := hg
  obtain ⟨u, rfl⟩ := hu
  rw [gradGate, lg_coe]
  generalize 1 / (1 + Real.exp (-g)) = s
  rw [← EReal.coe_one]
  simp only [← EReal.coe_mul, ← EReal.coe_sub, ← EReal.coe_add]
  exact congrArg _ (by ring)

/-- `|x| < ∞` says that `x` is a real number. -/
theorem isReal_of_abs_lt {x : EReal} (h : max x (-x) < ⊤) : IsReal x := by
  induction x with
  | bot => simp at h
  | top => simp at h
  | coe r => exact ⟨r, rfl⟩

/-- An array of which all entries compare below infinity has real entries. -/
theorem isReal_of_cmp {s : Shape} (x : FVec Ideal s .bf16) (hb : FTy.bits .bf16 < FTy.bits .f32)
    (hc : Cert.Pre_finite.S_.BroadcastsInDim s (![] : Fin 0 → Fin s.rank)) (i : s.Idx)
    (h : cmpf .olt (Host.absf (extf .f32 x hb))
      (broadcastInDim s ![] hc (constant (F := Ideal) Cert.Pre_finite.S_ .f32 0x7F800000#32)) i = 1#1) : IsReal (x i) := by
  have ht : (Ideal.ofBits .f32 0x7F800000#32 : EReal) = ⊤ := by simp [Ideal.ofBits, Ideal.ieee]
  have h' : Ideal.cmp .olt (max (x i) (-(x i))) (Ideal.ofBits .f32 0x7F800000#32) = 1#1 := h
  rw [ht] at h'
  refine isReal_of_abs_lt ?_
  by_contra hn
  simp [Ideal.cmp, hn] at h'

instance : Subsingleton Cert.Pre_finite.S_.Idx := ⟨fun _ _ => funext fun a => a.elim0⟩

/-- The precondition, read: every entry of the four arrays is a real number. -/
theorem finite_read (h : FVec Ideal Cert.Pre_finite.S4096x2048 .bf16) (w : FVec Ideal Cert.Pre_finite.S8x2048x1408 .bf16)
    (o : FVec Ideal Cert.Pre_finite.S1x5632x2048 .bf16) (y : FVec Ideal Cert.Pre_finite.S4096x2048 .bf16)
    (hp : ∀ j, Cert.Pre_finite.fn (F := Ideal) h w o y j = 1#1) :
    (∀ i, IsReal (h i)) ∧ (∀ i, IsReal (w i)) ∧ (∀ i, IsReal (o i)) ∧ (∀ i, IsReal (y i)) := by
  have e := hp (Shape.Idx.first Cert.Pre_finite.Gen.h_S_)
  dsimp only [Cert.Pre_finite.fn, Cert.Pre_finite.fn_part1] at e
  obtain ⟨e, ey⟩ := IntOp.andi_eq_one.1 e
  obtain ⟨e, eo⟩ := IntOp.andi_eq_one.1 e
  obtain ⟨eh, ew⟩ := IntOp.andi_eq_one.1 e
  exact ⟨fun i => isReal_of_cmp h _ _ i (Host.reduce_andi_all _ _ _ _ _ eh i),
    fun i => isReal_of_cmp w _ _ i (Host.reduce_andi_all _ _ _ _ _ ew i),
    fun i => isReal_of_cmp o _ _ i (Host.reduce_andi_all _ _ _ _ _ eo i),
    fun i => isReal_of_cmp y _ _ i (Host.reduce_andi_all _ _ _ _ _ ey i)⟩

end Cert.KernelIdeal.Gate

end
-- ==== Proof.Gate.Reference.lean ====
/- The reference's two results at an index, as the gated unit's gradient and activation of the reference's three products. -/
module

public import proofs.«01_k».proof.Proof.Gate.Finite
public import proofs.«01_k».proof.Proof.Gen.ReferenceIdeal.Run

@[expose] public section

set_option maxRecDepth 16384

noncomputable section

namespace Cert.ReferenceIdeal.Gate

open Idealize.ShloMosaic Idealize.SL.Sem Idealize.ShloMosaic.TcCoe
open Cert.ReferenceIdeal Cert.ReferenceIdeal.Gen
open Cert.KernelIdeal.Gate (gateDot upDot actDot gradOf actOf gradGate gradUp swish lg IsReal grad_gate_eq)
open scoped BigOperators

/-- `h @ w_in`, both halves side by side. -/
def hid (h : FVec Ideal S4096x2048 .bf16) (w : FVec Ideal S8x2048x1408 .bf16) : FVec Ideal S4096x11264 .f32 :=
  Host.dotGeneral dot_S4096x2048_S2048x11264_S4096x11264_1_0_0_1_n_n none (extf .f32 h bitsLt_bf16_f32)
    (shapeCast _ (transpose S2048x8x1408 [1, 0, 2] (extf .f32 w bitsLt_bf16_f32) transposes_S8x2048x1408_S2048x8x1408_1_0_2)
      shapeCasts_S2048x8x1408_S2048x11264)

/-- The gate, `hid`'s first half. -/
def gate (h : FVec Ideal S4096x2048 .bf16) (w : FVec Ideal S8x2048x1408 .bf16) : FVec Ideal S4096x5632 .f32 :=
  extractStridedSlice S4096x5632 ![0, 0] (hid h w) slices_S4096x11264_S4096x5632_0_0

/-- The up-projection, `hid`'s second half. -/
def up (h : FVec Ideal S4096x2048 .bf16) (w : FVec Ideal S8x2048x1408 .bf16) : FVec Ideal S4096x5632 .f32 :=
  extractStridedSlice S4096x5632 ![0, 5632] (hid h w) slices_S4096x11264_S4096x5632_0_5632

/-- The gradient of the activation, `dy @ w_outᵀ`. -/
def da (y : FVec Ideal S4096x2048 .bf16) (o : FVec Ideal S1x5632x2048 .bf16) : FVec Ideal S4096x5632 .f32 :=
  Host.dotGeneral dot_S4096x2048_S5632x2048_S4096x5632_1_1_0_0_n_n none (extf .f32 y bitsLt_bf16_f32)
    (extf .f32 (shapeCast _ o shapeCasts_S1x5632x2048_S5632x2048) bitsLt_bf16_f32)

/-- The array of ones. -/
def ones : FVec Ideal S4096x5632 .f32 := broadcastInDim S4096x5632 ![] bcast_S_S4096x5632 (constant S_ .f32 0x3F800000#32)

/-- The logistic function of the gate. -/
def sig1 (g : FVec Ideal S4096x5632 .f32) : FVec Ideal S4096x5632 .f32 :=
  Host.divf ones (addf ones (Host.exp (Host.negf g)))

/-- The two gradients from the gate, the up-projection and the activation's gradient. -/
def gradFrom (d g u : FVec Ideal S4096x5632 .f32) : FVec Ideal S2x4096x5632 .bf16 :=
  truncf .bf16
    (concatenate S2x4096x5632 0 [⟨S1x4096x5632,
      (broadcastInDim S1x4096x5632 ![1, 2] bcast_S4096x5632_S1x4096x5632_1_2 (addf (mulf (mulf d u) (sig1 g)) (mulf (mulf g (mulf d u)) (mulf (sig1 g) (subf ones (sig1 g))))))⟩, ⟨S1x4096x5632,
      (broadcastInDim S1x4096x5632 ![1, 2] bcast_S4096x5632_S1x4096x5632_1_2 (mulf (mulf g (sig1 g)) d))⟩] concatenates_S1x4096x5632_S1x4096x5632_S2x4096x5632_d0) bitsLt_bf16_f32

/-- The activation from the gate and the up-projection. -/
def actFrom (g u : FVec Ideal S4096x5632 .f32) : FVec Ideal S4096x5632 .bf16 :=
  truncf .bf16 (mulf (mulf g (sig1 g)) u) bitsLt_bf16_f32

/-- The gate at an index. -/
theorem gate_at (h : FVec Ideal S4096x2048 .bf16) (w : FVec Ideal S8x2048x1408 .bf16) (r : Fin 4096) (f : Fin 5632) :
    gate h w (ix2 r f) = gateDot h w r f := by
  pointwise [gate, hid, gateDot]

/-- The up-projection at an index: its weights are the last four blocks. -/
theorem up_at (h : FVec Ideal S4096x2048 .bf16) (w : FVec Ideal S8x2048x1408 .bf16) (r : Fin 4096) (f : Fin 5632) :
    up h w (ix2 r f) = upDot h w r f := by
  pointwise [up, hid, upDot]
  refine Finset.sum_congr rfl fun k _ => congrArg (fun v : EReal => h (ix2 r k) * v) (congrArg w ?_)
  have h0 : (5632 + f.val) / 1408 = 4 + f.val / 1408 := by omega
  have h1 : (5632 + f.val) % 1408 = f.val % 1408 := by omega
  simp only [h0, h1]

/-- The activation's gradient at an index. -/
theorem da_at (y : FVec Ideal S4096x2048 .bf16) (o : FVec Ideal S1x5632x2048 .bf16) (r : Fin 4096) (f : Fin 5632) :
    da y o (ix2 r f) = actDot y o r f := by
  pointwise [da, actDot]

/-- The logistic function at an index. -/
theorem sig1_at (g : FVec Ideal S4096x5632 .f32) (r : Fin 4096) (f : Fin 5632) : sig1 g (ix2 r f) = lg (g (ix2 r f)) := by
  pointwise [sig1, ones, lg]

/-- The gradients at an index. -/
theorem gradFrom_at (d g u : FVec Ideal S4096x5632 .f32) (b : Fin 2) (r : Fin 4096) (f : Fin 5632) :
    gradFrom d g u (ix3 b r f) = if b.val = 0
      then d (ix2 r f) * u (ix2 r f) * lg (g (ix2 r f)) + g (ix2 r f) * (d (ix2 r f) * u (ix2 r f)) * (lg (g (ix2 r f)) * (1 - lg (g (ix2 r f))))
      else g (ix2 r f) * lg (g (ix2 r f)) * d (ix2 r f) := by
  pointwise [gradFrom, ones, sig1, lg]
  simp only [Nat.lt_one_iff, dite_eq_ite]

/-- The activation at an index. -/
theorem actFrom_at (g u : FVec Ideal S4096x5632 .f32) (r : Fin 4096) (f : Fin 5632) :
    actFrom g u (ix2 r f) = swish (g (ix2 r f)) (u (ix2 r f)) := by
  pointwise [actFrom, sig1, ones, swish, lg]

/-- The reference's activation is the kernel's, of any arrays. -/
theorem act_eq (h : FVec Ideal S4096x2048 .bf16) (w : FVec Ideal S8x2048x1408 .bf16) : actFrom (gate h w) (up h w) = actOf h w := by
  funext i
  idx_vars i
  rw [actFrom_at, gate_at, up_at]
  rfl

/-- The reference's gradient is the kernel's, of arrays of real numbers. -/
theorem grad_eq (h : FVec Ideal S4096x2048 .bf16) (w : FVec Ideal S8x2048x1408 .bf16) (o : FVec Ideal S1x5632x2048 .bf16)
    (y : FVec Ideal S4096x2048 .bf16) (hh : ∀ i, IsReal (h i)) (hw : ∀ i, IsReal (w i)) (ho : ∀ i, IsReal (o i))
    (hy : ∀ i, IsReal (y i)) : gradFrom (da y o) (gate h w) (up h w) = gradOf h w o y := by
  funext i
  idx_vars i
  rw [gradFrom_at, gate_at, up_at, da_at]
  have hd : IsReal (actDot y o i1 i2) := IsReal.sum _ _ fun k => (hy _).mul (ho _)
  have hg : IsReal (gateDot h w i1 i2) := IsReal.sum _ _ fun k => (hh _).mul (hw _)
  have hu : IsReal (upDot h w i1 i2) := IsReal.sum _ _ fun k => (hh _).mul (hw _)
  show _ = actDot y o i1 i2 * (if i0.val = 0 then gradGate (gateDot h w i1 i2) (upDot h w i1 i2) else gradUp (gateDot h w i1 i2))
  split_ifs
  · exact (grad_gate_eq hd hg hu).symm
  · exact mul_comm _ _

end Cert.ReferenceIdeal.Gate

end
-- ==== Proof.Sums.lean ====
/- A sum over 4096 rows, taken in four blocks of 1024 or in two of 2048. -/
module

public import Idealize.ShloMosaic.PureOps.Ideal

@[expose] public section

namespace Cert.Sums

open scoped BigOperators

/-- Row `k` of block `s`. -/
def blockRow (s : ℕ) (k : Fin 1024) : Fin 4096 := ⟨s % 4 * 1024 + k.val, by omega⟩

/-- A sum over all rows is the sum over the blocks of the sums over a block's rows. -/
theorem sum_blocks (f : Fin 4096 → EReal) :
    ∑ k, f k = ∑ s ∈ Finset.range 4, ∑ k : Fin 1024, f (blockRow s k) := by
  rw [Finset.sum_range fun s => ∑ k : Fin 1024, f (blockRow s k), ← Fintype.sum_prod_type']
  refine (Fintype.sum_equiv (finProdFinEquiv (m := 4) (n := 1024)) _ _ fun x => congrArg f (Fin.ext ?_)).symm
  have h : x.1.val < 4 := x.1.isLt
  show x.1.val % 4 * 1024 + x.2.val = x.2.val + 1024 * x.1.val
  omega

/-- Row `k` of half `s`. -/
def halfRow (s : ℕ) (k : Fin 2048) : Fin 4096 := ⟨s % 2 * 2048 + k.val, by omega⟩

/-- A sum over all rows is the sum over the first half and the sum over the second. -/
theorem sum_halves (f : Fin 4096 → EReal) :
    ∑ k, f k = ∑ k : Fin 2048, f (halfRow 0 k) + ∑ k : Fin 2048, f (halfRow 1 k) := by
  refine (Fin.sum_univ_add (a := 2048) (b := 2048) f).trans (congrArg₂ (fun u v : EReal => u + v) ?_ ?_)
  · exact Finset.sum_congr rfl fun k _ => congrArg f (Fin.ext (by show k.val = 0 % 2 * 2048 + k.val; omega))
  · exact Finset.sum_congr rfl fun k _ => congrArg f (Fin.ext (by show 2048 + k.val = 1 % 2 * 2048 + k.val; omega))

end Cert.Sums
-- ==== Proof.Dwin.Value.lean ====
/- What the weight-gradient call leaves in its result array, over the extended reals. The grid walks, for every block of
   result columns, the four blocks of 1024 rows of both arguments; a scratch carries the running sum and the last row
   block's point writes it out. So every entry of the result is one sum over all 4096 rows. -/
module

public import proofs.«01_k».proof.Proof.Gen.Kernel2Ideal.Value
public import proofs.«01_k».proof.Proof.Sums
public import Idealize.ShloMosaic.Lib.Pointwise
public import Idealize.ShloMosaic.Lib.Tactic

@[expose] public section

set_option maxRecDepth 16384

noncomputable section

namespace Cert.Kernel2Ideal.Dwin

open Idealize.ShloMosaic Idealize.SL.Sem Idealize.ShloMosaic.TcCoe
open Cert.Kernel2Ideal Cert.Kernel2Ideal.Gen
open Cert.Sums (blockRow sum_blocks)
open Idealize.ShloMosaic.Pipeline (Dat Cfg Window)
open scoped BigOperators

theorem zero2 : (![0, 0] : Fin 2 → Nat) = fun _ => 0 := funext fun a => by fin_cases a <;> rfl
theorem zero3 : (![0, 0, 0] : Fin 3 → Nat) = fun _ => 0 := funext fun a => by fin_cases a <;> rfl

/-! ## The three kinds of point -/

section

variable (c : Dev nD) (i : grid0.Coords) (a3 : Memref sig .tc .vmem S1024x2048 .bf16) (h3 : a3.IsWhole)
  (a4 : Memref sig .tc .vmem S1x1024x1408 .bf16) (h4 : a4.IsWhole) (a5 : Memref sig .tc .vmem S1x2048x1408 .bf16) (h5 : a5.IsWhole)
  (a6 : Memref sig .tc .vmem S2048x1408 .f32) (h6 : a6.IsWhole)
  (x : Vec Ideal S1024x2048 .bf16) (y : Vec Ideal S1x1024x1408 .bf16) (s : Vec Ideal S2048x1408 .f32)

/-- The first row block's point leaves its product over the cleared scratch. -/
theorem first_point (h0 : cond0_0 i) (h1 : ¬cond0_1 i) :
    sout0_A_0 c i a3 h3 a4 h4 a5 h5 a6 h6 h0 h1 x y = k0_pay2 (k0_pay1 (F := Ideal)) x y := by
  unfold sout0_A_0
  rw [View.read_writes_eq_canon _ _ _ (scover0_A_0 c i a3 h3 a4 h4 a5 h5 a6 h6 h0 h1 x y)]
  unfold kernelRun0_A
  dsimp only
  sl_unfold_words
  rw [View.canon_cons_unit_zero (S := S2048x1408) zero2, View.readCov_unit_zero (S := S2048x1408) _ zero2]
  simp only [View.readAt_eq_ld, h3.read_unread, h4.read_unread, View.ld_unit_zero (S := S1024x2048) zero2,
    View.ld_unit_zero (S := S1x1024x1408) zero3]

/-- A later point adds its product to what the scratch held. -/
theorem next_point (h0 : ¬cond0_0 i) (h1 : ¬cond0_1 i) :
    sout0_B_0 c i a3 h3 a4 h4 a5 h5 a6 h6 h0 h1 x y s = k0_pay2 s x y := by
  unfold sout0_B_0
  rw [View.read_writes_eq_canon _ _ _ (scover0_B_0 c i a3 h3 a4 h4 a5 h5 a6 h6 h0 h1 x y s)]
  unfold kernelRun0_B
  dsimp only
  rw [View.canon_unit_zero zero2]
  simp only [View.readAt_eq_ld, h3.read_unread, h4.read_unread, h6.read_unread, View.ld_unit_zero (S := S1024x2048) zero2,
    View.ld_unit_zero (S := S1x1024x1408) zero3, View.ld_unit_zero (S := S2048x1408) zero2]

/-- The last row block's point writes the sum out, in the result's format. -/
theorem last_point (h0 : ¬cond0_0 i) (h1 : cond0_1 i) :
    out0_C_2 c i a3 h3 a4 h4 a5 h5 a6 h6 h0 h1 x y s = k0_pay3 (k0_pay2 s x y) := by
  unfold out0_C_2
  rw [View.read_writes_eq_canon _ _ _ (cover0_C_2 c i a3 h3 a4 h4 a5 h5 a6 h6 h0 h1 x y s)]
  unfold kernelRun0_C
  dsimp only
  sl_unfold_words
  rw [View.canon_unit_zero zero3, View.readCov_unit_zero (S := S2048x1408) _ zero2]
  simp only [View.readAt_eq_ld, h3.read_unread, h4.read_unread, h6.read_unread, View.ld_unit_zero (S := S1024x2048) zero2,
    View.ld_unit_zero (S := S1x1024x1408) zero3, View.ld_unit_zero (S := S2048x1408) zero2]

/-- Column `a` of one block of rows against column `l` of another. -/
def rowsDot (x : FVec Ideal S1024x2048 .bf16) (y : FVec Ideal S1x1024x1408 .bf16) (a : Fin 2048) (l : Fin 1408) : EReal :=
  ∑ k : Fin 1024, x (ix2 k a) * y (ix3 0 k l)

/-- A step at an index: the sum over the block's 1024 rows is added. -/
theorem step_at (a : Fin 2048) (l : Fin 1408) : k0_pay2 (F := Ideal) s x y (ix2 a l) = s (ix2 a l) + rowsDot x y a l := by
  pointwise [k0_pay2, rowsDot]

/-- The cleared scratch at an index. -/
theorem clear_at (a : Fin 2048) (l : Fin 1408) : k0_pay1 (F := Ideal) (ix2 a l) = 0 := by
  pointwise [k0_pay1]

/-- What is written out at an index. -/
theorem write_at (u : Fin 1) (a : Fin 2048) (l : Fin 1408) : k0_pay3 (F := Ideal) s (ix3 u a l) = s (ix2 a l) := by
  pointwise [k0_pay3]

end

/-! ## The schedule -/

/-- At point `t` the row block is `t % 4` and the block of result columns `t / 4`: four on each half. -/
theorem index : ∀ t : Fin grid0.N,
    (win0_0.index t 0 = t.val % 4 ∧ win0_0.index t 1 = 0)
    ∧ (win0_1.index t 0 = t.val / 4 / 4 ∧ win0_1.index t 1 = t.val % 4 ∧ win0_1.index t 2 = t.val / 4 % 4)
    ∧ (win0_2.index t 0 = t.val / 4 ∧ win0_2.index t 1 = 0 ∧ win0_2.index t 2 = 0) := by decide +kernel

theorem lt (t : Fin cfg0.N) : t.val < 32 := lt_of_lt_of_eq t.isLt N_0

variable (m : (ℓ : Loc nD τ sig) → Buf (Elt Ideal) ℓ) (ρ : Dev nD → PrngReg) (c : Dev nD)

/-- Column block `q`, place `l` of the two halves of the argument. -/
def dguIx (q : ℕ) (h : q < 8) (k : Fin 4096) (l : Fin 1408) : S2x4096x5632.Idx :=
  ix3 ⟨q / 4, by omega⟩ k ⟨q % 4 * 1408 + l.val, by omega⟩

theorem h_block (t : Fin cfg0.N) (k : Fin 1024) (a : Fin 2048) :
    iblk m c 0 t (ix2 k a) = V m c main_arg0 (ix2 (blockRow t.val k) a) := by
  obtain ⟨⟨e0, e1⟩, -, -⟩ := index t
  refine congrArg (V m c main_arg0) (funext fun a' => Fin.ext ?_)
  match a' with
  | ⟨0, _⟩ => show win0_0.index t 0 * 1024 + 1 * k.val = t.val % 4 * 1024 + k.val; rw [e0, Nat.one_mul]
  | ⟨1, _⟩ => show win0_0.index t 1 * 2048 + 1 * a.val = a.val; rw [e1]; omega

theorem dgu_block (t : Fin cfg0.N) (k : Fin 1024) (l : Fin 1408) :
    iblk m c 1 t (ix3 0 k l) = V m c main_arg1 (dguIx (t.val / 4) (by have := lt t; omega) (blockRow t.val k) l) := by
  obtain ⟨-, ⟨e0, e1, e2⟩, -⟩ := index t
  refine congrArg (V m c main_arg1) (funext fun a' => Fin.ext ?_)
  match a' with
  | ⟨0, _⟩ => show win0_1.index t 0 * 1 + 1 * 0 = t.val / 4 / 4; rw [e0]; omega
  | ⟨1, _⟩ => show win0_1.index t 1 * 1024 + 1 * k.val = t.val % 4 * 1024 + k.val; rw [e1, Nat.one_mul]
  | ⟨2, _⟩ => show win0_1.index t 2 * 1408 + 1 * l.val = t.val / 4 % 4 * 1408 + l.val; rw [e2, Nat.one_mul]

/-! ## The sums -/

/-- One row's term of the result's entry: column block `q`, row `a`, place `l`. -/
def term (h : FVec Ideal S4096x2048 .bf16) (g : FVec Ideal S2x4096x5632 .bf16) (q : ℕ) (hq : q < 8) (a : Fin 2048) (l : Fin 1408)
    (k : Fin 4096) : EReal := h (ix2 k a) * g (dguIx q hq k l)

/-- A point's product at an index is the sum of its row block's terms. -/
theorem point_sum (t : Fin cfg0.N) (q s : ℕ) (hq : q < 8) (hs : s < 4) (ht : t.val = 4 * q + s) (a : Fin 2048) (l : Fin 1408) :
    rowsDot (iblk m c 0 t : Vec Ideal S1024x2048 .bf16) (iblk m c 1 t) a l
      = ∑ k : Fin 1024, term (V m c main_arg0) (V m c main_arg1) q hq a l (blockRow s k) := by
  refine Finset.sum_congr rfl fun k _ => ?_
  have h1 : t.val / 4 = q := by omega
  have h2 : blockRow t.val k = blockRow s k := Fin.ext (by show t.val % 4 * 1024 + k.val = s % 4 * 1024 + k.val; omega)
  rw [h_block, dgu_block, h2]
  subst h1
  rfl

/-- After row block `s < 3` the scratch holds the sum of the row blocks up to it. -/
theorem scratch_at (q : ℕ) (hq : q < 8) : ∀ (s : ℕ) (hs : s < 3) (h : 4 * q + s < cfg0.N) (a : Fin 2048) (l : Fin 1408),
    (outsAt0 m c (4 * q + s) h).2 (ix2 a l) = ∑ r ∈ Finset.range (s + 1), ∑ k : Fin 1024, term (V m c main_arg0) (V m c main_arg1) q hq a l (blockRow r k)
  | 0, _, h, a, l => by
    rw [outsAt0_A m c ⟨4 * q + 0, h⟩ (by dsimp only; omega) (by dsimp only; omega)]
    dsimp only
    rw [first_point, step_at, clear_at, zero_add, point_sum m c ⟨4 * q + 0, h⟩ q 0 hq (by omega) rfl, Finset.sum_range_one]
  | s + 1, hs, h, a, l => by
    have ih := scratch_at q hq s (by omega) (by omega) a l
    rw [outsAt0_B m c ⟨4 * q + (s + 1), h⟩ (by dsimp only; omega) (by dsimp only; omega)]
    dsimp only
    rw [next_point, step_at, point_sum m c ⟨4 * q + (s + 1), h⟩ q (s + 1) hq (by omega) rfl, Finset.sum_range_succ]
    exact congrArg (fun v : EReal => v + _) ih

/-- The weights' gradient: one sum over all rows. -/
def dwin (h : FVec Ideal S4096x2048 .bf16) (g : FVec Ideal S2x4096x5632 .bf16) : FVec Ideal S8x2048x1408 .bf16 := fun i =>
  (∑ k : Fin 4096, h (ix2 k (i 1)) * g (dguIx (i 0).val (i 0).isLt k (i 2)) : EReal)

/-- What a point that writes out leaves in the result's block. -/
theorem written_at (t : Fin cfg0.N) (q : ℕ) (hq : q < 8) (ht : t.val = 4 * q + 3) (u : Fin 1) (a : Fin 2048) (l : Fin 1408) :
    (outsAt0 m c t.val t.isLt).1 (ix3 u a l) = ∑ k : Fin 4096, term (V m c main_arg0) (V m c main_arg1) q hq a l k := by
  rw [outsAt0_C m c t (by omega) (by omega)]
  dsimp only
  rw [last_point, write_at, step_at, point_sum m c t q 3 hq (by omega) ht, sum_blocks, Finset.sum_range_succ]
  refine congrArg (fun v : EReal => v + _) ?_
  have e := scratch_at m c q hq 2 (by omega) (by have := t.isLt; omega) a l
  have hp : t.val - 1 = 4 * q + 2 := by omega
  simp only [hp]
  exact e

theorem emb_out (t : Fin cfg0.N) (u : Fin 1) (a : Fin 2048) (l : Fin 1408) :
    ((cfg0.win 2).blk t).view.emb (ix3 u a l : S1x2048x1408.Idx)
      = (ix3 ⟨t.val / 4, by have := lt t; omega⟩ a l : S8x2048x1408.Idx) := by
  obtain ⟨-, -, ⟨e0, e1, e2⟩⟩ := index t
  refine funext fun a' => Fin.ext ?_
  match a' with
  | ⟨0, _⟩ => show win0_2.index t 0 * 1 + 1 * u.val = t.val / 4; rw [e0]; omega
  | ⟨1, _⟩ => show win0_2.index t 1 * 2048 + 1 * a.val = a.val; rw [e1]; omega
  | ⟨2, _⟩ => show win0_2.index t 2 * 1408 + 1 * l.val = l.val; rw [e2]; omega

/-- The result array after the run. -/
theorem dwin_arr : (dats m 0 c).arrAt 2 cfg0.N = dwin (V m c main_arg0) (V m c main_arg1) := by
  refine (dats m 0 c).arrAt_eq_of_cover 2 _ (fun t hf => ?_) (fun i => (Value.covered_iff2 i).2 ?_)
  · have ht : t.val % 4 = 3 := (flush0_2 t).mp hf
    have hq : t.val / 4 < 8 := by have := lt t; omega
    refine funext fun (x : S1x2048x1408.Idx) => ?_
    show (dats m 0 c).after 2 t x = dwin _ _ (((cfg0.win 2).blk t).view.emb x)
    rw [after0_2]
    idx_vars x
    rw [emb_out, written_at m c t (t.val / 4) hq (by omega)]
    rfl
  · have h0 : (i 0).val < 8 := (i 0).isLt
    have h1 : (i 1).val < 2048 := (i 1).isLt
    have h2 : (i 2).val < 1408 := (i 2).isLt
    omega

/-- Every execution ends with the result at `dwin` of the arguments, and the arguments as they were. -/
theorem run : θ_run defs (onTc (τ := τ) (main (F := Ideal))) ⟨m, fun _ => 0, ρ⟩ fun r => ∀ c : Dev nD,
    r.2.mem ((c.tc : Thread nD τ).loc main_v0) = dwin (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨((Value.post2 m r h c).trans (dwin_arr m c)).trans rfl, Value.kept_main_arg0 m r h c,
    Value.kept_main_arg1 m r h c⟩) (run_main m ρ)

end Cert.Kernel2Ideal.Dwin

end
-- ==== Proof.Dwin.Reference.lean ====
/- The reference's gradient of the input weights at an index is the kernel's sum over all rows. -/
module

public import proofs.«01_k».proof.Proof.Dwin.Value
public import proofs.«01_k».proof.Proof.Gen.Reference2Ideal.Run

@[expose] public section

set_option maxRecDepth 16384

noncomputable section

namespace Cert.Reference2Ideal.Dwin

open Idealize.ShloMosaic Idealize.SL.Sem Idealize.ShloMosaic.TcCoe
open Cert.Reference2Ideal Cert.Reference2Ideal.Gen
open Cert.Kernel2Ideal.Dwin (dwin dguIx)
open scoped BigOperators

/-- The reference's result from its two arguments. -/
def result (h : FVec Ideal S4096x2048 .bf16) (g : FVec Ideal S2x4096x5632 .bf16) : FVec Ideal S8x2048x1408 .bf16 :=
  truncf .bf16 (transpose S8x2048x1408 [1, 0, 2] (shapeCast _ (transpose S2048x11264 [1, 0]
    (Host.dotGeneral dot_S4096x11264_S4096x2048_S11264x2048_0_0_1_1_n_n none
      (extf .f32 (concatenate S4096x11264 1
        [⟨S4096x5632, (shapeCast _ (extractStridedSlice S1x4096x5632 ![0, 0, 0] g slices_S2x4096x5632_S1x4096x5632_0_0_0) shapeCasts_S1x4096x5632_S4096x5632)⟩,
          ⟨S4096x5632, (shapeCast _ (extractStridedSlice S1x4096x5632 ![1, 0, 0] g slices_S2x4096x5632_S1x4096x5632_1_0_0) shapeCasts_S1x4096x5632_S4096x5632)⟩]
        concatenates_S4096x5632_S4096x5632_S4096x11264_d1) bitsLt_bf16_f32)
      (extf .f32 h bitsLt_bf16_f32)) transposes_S11264x2048_S2048x11264_1_0) shapeCasts_S2048x11264_S2048x8x1408)
    transposes_S2048x8x1408_S8x2048x1408_1_0_2) bitsLt_bf16_f32

/-- It is the kernel's. -/
theorem result_eq (h : FVec Ideal S4096x2048 .bf16) (g : FVec Ideal S2x4096x5632 .bf16) : result h g = dwin h g := by
  funext i
  idx_vars i
  pointwise [result, dwin, dguIx]
  refine Finset.sum_congr rfl fun k _ => (mul_comm (G := EReal) _ _).trans (congrArg (fun v : EReal => h (ix2 k i1) * v) ?_)
  have hi : i0.val < 8 := i0.isLt
  have hl : i2.val < 1408 := i2.isLt
  by_cases hlt : i0.val * 1408 + i2.val < 5632
  · rw [dif_pos hlt]
    refine congrArg g (congrArg₂ (fun (a : Fin 2) (b : Fin 5632) => (ix3 a k b : S2x4096x5632.Idx)) (Fin.ext ?_) (Fin.ext ?_))
    · show 0 = i0.val / 4; omega
    · show i0.val * 1408 + i2.val = i0.val % 4 * 1408 + i2.val; omega
  · rw [dif_neg hlt]
    refine congrArg g (congrArg₂ (fun (a : Fin 2) (b : Fin 5632) => (ix3 a k b : S2x4096x5632.Idx)) (Fin.ext ?_) (Fin.ext ?_))
    · show 1 = i0.val / 4; omega
    · show i0.val * 1408 + i2.val - 5632 = i0.val % 4 * 1408 + i2.val; omega

end Cert.Reference2Ideal.Dwin

end
-- ==== Proof.Dwout.Value.lean ====
/- What the weight-gradient call leaves in its result array, over the extended reals. The grid walks, for every block of
   result rows, the four blocks of 1024 rows of both arguments; a scratch carries the running sum and the last row
   block's point writes it out. So every entry of the result is one sum over all 4096 rows. -/
module

public import proofs.«01_k».proof.Proof.Gen.Kernel3Ideal.Value
public import proofs.«01_k».proof.Proof.Sums
public import Idealize.ShloMosaic.Lib.Pointwise
public import Idealize.ShloMosaic.Lib.Tactic

@[expose] public section

set_option maxRecDepth 16384

noncomputable section

namespace Cert.Kernel3Ideal.Dwout

open Idealize.ShloMosaic Idealize.SL.Sem Idealize.ShloMosaic.TcCoe
open Cert.Kernel3Ideal Cert.Kernel3Ideal.Gen
open Cert.Sums (blockRow sum_blocks)
open Idealize.ShloMosaic.Pipeline (Dat Cfg Window)
open scoped BigOperators

theorem zero2 : (![0, 0] : Fin 2 → Nat) = fun _ => 0 := funext fun a => by fin_cases a <;> rfl
theorem zero3 : (![0, 0, 0] : Fin 3 → Nat) = fun _ => 0 := funext fun a => by fin_cases a <;> rfl

/-! ## The three kinds of point -/

section

variable (c : Dev nD) (i : grid0.Coords) (a3 : Memref sig .tc .vmem S1024x1408 .bf16) (h3 : a3.IsWhole)
  (a4 : Memref sig .tc .vmem S1x1024x2048 .bf16) (h4 : a4.IsWhole) (a5 : Memref sig .tc .vmem S1x1408x2048 .bf16) (h5 : a5.IsWhole)
  (a6 : Memref sig .tc .vmem S1408x2048 .f32) (h6 : a6.IsWhole)
  (x : Vec Ideal S1024x1408 .bf16) (y : Vec Ideal S1x1024x2048 .bf16) (s : Vec Ideal S1408x2048 .f32)

/-- The first row block's point leaves its product over the cleared scratch. -/
theorem first_point (h0 : cond0_0 i) (h1 : ¬cond0_1 i) :
    sout0_A_0 c i a3 h3 a4 h4 a5 h5 a6 h6 h0 h1 x y = k0_pay2 (k0_pay1 (F := Ideal)) x y := by
  unfold sout0_A_0
  rw [View.read_writes_eq_canon _ _ _ (scover0_A_0 c i a3 h3 a4 h4 a5 h5 a6 h6 h0 h1 x y)]
  unfold kernelRun0_A
  dsimp only
  sl_unfold_words
  rw [View.canon_cons_unit_zero (S := S1408x2048) zero2, View.readCov_unit_zero (S := S1408x2048) _ zero2]
  simp only [View.readAt_eq_ld, h3.read_unread, h4.read_unread, View.ld_unit_zero (S := S1024x1408) zero2,
    View.ld_unit_zero (S := S1x1024x2048) zero3]

/-- A later point adds its product to what the scratch held. -/
theorem next_point (h0 : ¬cond0_0 i) (h1 : ¬cond0_1 i) :
    sout0_B_0 c i a3 h3 a4 h4 a5 h5 a6 h6 h0 h1 x y s = k0_pay2 s x y := by
  unfold sout0_B_0
  rw [View.read_writes_eq_canon _ _ _ (scover0_B_0 c i a3 h3 a4 h4 a5 h5 a6 h6 h0 h1 x y s)]
  unfold kernelRun0_B
  dsimp only
  rw [View.canon_unit_zero zero2]
  simp only [View.readAt_eq_ld, h3.read_unread, h4.read_unread, h6.read_unread, View.ld_unit_zero (S := S1024x1408) zero2,
    View.ld_unit_zero (S := S1x1024x2048) zero3, View.ld_unit_zero (S := S1408x2048) zero2]

/-- The last row block's point writes the sum out, in the result's format. -/
theorem last_point (h0 : ¬cond0_0 i) (h1 : cond0_1 i) :
    out0_C_2 c i a3 h3 a4 h4 a5 h5 a6 h6 h0 h1 x y s = k0_pay3 (k0_pay2 s x y) := by
  unfold out0_C_2
  rw [View.read_writes_eq_canon _ _ _ (cover0_C_2 c i a3 h3 a4 h4 a5 h5 a6 h6 h0 h1 x y s)]
  unfold kernelRun0_C
  dsimp only
  sl_unfold_words
  rw [View.canon_unit_zero zero3, View.readCov_unit_zero (S := S1408x2048) _ zero2]
  simp only [View.readAt_eq_ld, h3.read_unread, h4.read_unread, h6.read_unread, View.ld_unit_zero (S := S1024x1408) zero2,
    View.ld_unit_zero (S := S1x1024x2048) zero3, View.ld_unit_zero (S := S1408x2048) zero2]

/-- Column `a` of one block of rows against column `l` of another. -/
def rowsDot (x : FVec Ideal S1024x1408 .bf16) (y : FVec Ideal S1x1024x2048 .bf16) (a : Fin 1408) (l : Fin 2048) : EReal :=
  ∑ k : Fin 1024, x (ix2 k a) * y (ix3 0 k l)

/-- A step at an index: the sum over the block's 1024 rows is added. -/
theorem step_at (a : Fin 1408) (l : Fin 2048) : k0_pay2 (F := Ideal) s x y (ix2 a l) = s (ix2 a l) + rowsDot x y a l := by
  pointwise [k0_pay2, rowsDot]

/-- The cleared scratch at an index. -/
theorem clear_at (a : Fin 1408) (l : Fin 2048) : k0_pay1 (F := Ideal) (ix2 a l) = 0 := by
  pointwise [k0_pay1]

/-- What is written out at an index. -/
theorem write_at (u : Fin 1) (a : Fin 1408) (l : Fin 2048) : k0_pay3 (F := Ideal) s (ix3 u a l) = s (ix2 a l) := by
  pointwise [k0_pay3]

end

/-! ## The schedule -/

/-- At point `t` the row block is `t % 4` and the block of result rows `t / 4`. -/
theorem index : ∀ t : Fin grid0.N,
    (win0_0.index t 0 = t.val % 4 ∧ win0_0.index t 1 = t.val / 4)
    ∧ (win0_1.index t 0 = 0 ∧ win0_1.index t 1 = t.val % 4 ∧ win0_1.index t 2 = 0)
    ∧ (win0_2.index t 0 = 0 ∧ win0_2.index t 1 = t.val / 4 ∧ win0_2.index t 2 = 0) := by decide +kernel

theorem lt (t : Fin cfg0.N) : t.val < 16 := lt_of_lt_of_eq t.isLt N_0

variable (m : (ℓ : Loc nD τ sig) → Buf (Elt Ideal) ℓ) (ρ : Dev nD → PrngReg) (c : Dev nD)

/-- Row `a` of the block `q` of result rows: a column of the first argument. -/
def colAt (q : ℕ) (h : q < 4) (a : Fin 1408) : Fin 5632 := ⟨q * 1408 + a.val, by omega⟩

theorem act_block (t : Fin cfg0.N) (k : Fin 1024) (a : Fin 1408) :
    iblk m c 0 t (ix2 k a) = V m c main_arg0 (ix2 (blockRow t.val k) (colAt (t.val / 4) (by have := lt t; omega) a)) := by
  obtain ⟨⟨e0, e1⟩, -, -⟩ := index t
  refine congrArg (V m c main_arg0) (funext fun a' => Fin.ext ?_)
  match a' with
  | ⟨0, _⟩ => show win0_0.index t 0 * 1024 + 1 * k.val = t.val % 4 * 1024 + k.val; rw [e0, Nat.one_mul]
  | ⟨1, _⟩ => show win0_0.index t 1 * 1408 + 1 * a.val = t.val / 4 * 1408 + a.val; rw [e1, Nat.one_mul]

theorem dy_block (t : Fin cfg0.N) (k : Fin 1024) (l : Fin 2048) :
    iblk m c 1 t (ix3 0 k l) = V m c main_v0 (ix3 0 (blockRow t.val k) l) := by
  obtain ⟨-, ⟨e0, e1, e2⟩, -⟩ := index t
  refine congrArg (V m c main_v0) (funext fun a' => Fin.ext ?_)
  match a' with
  | ⟨0, _⟩ => show win0_1.index t 0 * 1 + 1 * 0 = 0; rw [e0]
  | ⟨1, _⟩ => show win0_1.index t 1 * 1024 + 1 * k.val = t.val % 4 * 1024 + k.val; rw [e1, Nat.one_mul]
  | ⟨2, _⟩ => show win0_1.index t 2 * 2048 + 1 * l.val = l.val; rw [e2]; omega

/-- The second argument as the call gets it: with an axis of one in front. -/
theorem lead_axis (k : Fin 4096) (l : Fin 2048) : V m c main_v0 (ix3 0 k l) = m ((c : Thread nD τ).loc main_arg1) (ix2 k l) := by
  have e : V m c main_v0 = broadcastInDim S1x4096x2048 ![1, 2] bcast_S4096x2048_S1x4096x2048_1_2 (m ((c : Thread nD τ).loc main_arg1)) := by
    show StableHlo.after hostOps0 (fun b => m (c, b)) (Proc.devRef .tc main_v0) = _
    simp only [hostOps0, List.flatten_cons, List.flatten_nil, List.append_nil, List.cons_append, List.nil_append]
    after_results_simp <;> rfl
  rw [e]
  pointwise []

/-! ## The sums -/

/-- One row's term of the result's entry: block `q`, row `a`, column `l`. -/
def term (h : FVec Ideal S4096x5632 .bf16) (g : FVec Ideal S4096x2048 .bf16) (q : ℕ) (hq : q < 4) (a : Fin 1408) (l : Fin 2048)
    (k : Fin 4096) : EReal := h (ix2 k (colAt q hq a)) * g (ix2 k l)

/-- A point's product at an index is the sum of its row block's terms. -/
theorem point_sum (t : Fin cfg0.N) (q s : ℕ) (hq : q < 4) (hs : s < 4) (ht : t.val = 4 * q + s) (a : Fin 1408) (l : Fin 2048) :
    rowsDot (iblk m c 0 t : Vec Ideal S1024x1408 .bf16) (iblk m c 1 t) a l
      = ∑ k : Fin 1024, term (m ((c : Thread nD τ).loc main_arg0)) (m ((c : Thread nD τ).loc main_arg1)) q hq a l (blockRow s k) := by
  refine Finset.sum_congr rfl fun k _ => ?_
  have h1 : t.val / 4 = q := by omega
  have h2 : blockRow t.val k = blockRow s k := Fin.ext (by show t.val % 4 * 1024 + k.val = s % 4 * 1024 + k.val; omega)
  subst h1
  rw [act_block, dy_block, lead_axis, h2, V_main_arg0]
  rfl

/-- After row block `s < 3` the scratch holds the sum of the row blocks up to it. -/
theorem scratch_at (q : ℕ) (hq : q < 4) : ∀ (s : ℕ) (hs : s < 3) (h : 4 * q + s < cfg0.N) (a : Fin 1408) (l : Fin 2048),
    (outsAt0 m c (4 * q + s) h).2 (ix2 a l) = ∑ r ∈ Finset.range (s + 1), ∑ k : Fin 1024, term (m ((c : Thread nD τ).loc main_arg0)) (m ((c : Thread nD τ).loc main_arg1)) q hq a l (blockRow r k)
  | 0, _, h, a, l => by
    rw [outsAt0_A m c ⟨4 * q + 0, h⟩ (by dsimp only; omega) (by dsimp only; omega)]
    dsimp only
    rw [first_point, step_at, clear_at, zero_add, point_sum m c ⟨4 * q + 0, h⟩ q 0 hq (by omega) rfl, Finset.sum_range_one]
  | s + 1, hs, h, a, l => by
    have ih := scratch_at q hq s (by omega) (by omega) a l
    rw [outsAt0_B m c ⟨4 * q + (s + 1), h⟩ (by dsimp only; omega) (by dsimp only; omega)]
    dsimp only
    rw [next_point, step_at, point_sum m c ⟨4 * q + (s + 1), h⟩ q (s + 1) hq (by omega) rfl, Finset.sum_range_succ]
    exact congrArg (fun v : EReal => v + _) ih

/-- The weights' gradient: one sum over all rows. -/
def dwout (h : FVec Ideal S4096x5632 .bf16) (g : FVec Ideal S4096x2048 .bf16) : FVec Ideal S1x5632x2048 .bf16 := fun i =>
  (∑ k : Fin 4096, h (ix2 k (i 1)) * g (ix2 k (i 2)) : EReal)

/-- What a point that writes out leaves in the result's block. -/
theorem written_at (t : Fin cfg0.N) (q : ℕ) (hq : q < 4) (ht : t.val = 4 * q + 3) (u : Fin 1) (a : Fin 1408) (l : Fin 2048) :
    (outsAt0 m c t.val t.isLt).1 (ix3 u a l) = ∑ k : Fin 4096, term (m ((c : Thread nD τ).loc main_arg0)) (m ((c : Thread nD τ).loc main_arg1)) q hq a l k := by
  rw [outsAt0_C m c t (by omega) (by omega)]
  dsimp only
  rw [last_point, write_at, step_at, point_sum m c t q 3 hq (by omega) ht, sum_blocks, Finset.sum_range_succ]
  refine congrArg (fun v : EReal => v + _) ?_
  have e := scratch_at m c q hq 2 (by omega) (by have := t.isLt; omega) a l
  have hp : t.val - 1 = 4 * q + 2 := by omega
  simp only [hp]
  exact e

theorem emb_out (t : Fin cfg0.N) (u : Fin 1) (a : Fin 1408) (l : Fin 2048) :
    ((cfg0.win 2).blk t).view.emb (ix3 u a l : S1x1408x2048.Idx)
      = (ix3 u (colAt (t.val / 4) (by have := lt t; omega) a) l : S1x5632x2048.Idx) := by
  obtain ⟨-, -, ⟨e0, e1, e2⟩⟩ := index t
  refine funext fun a' => Fin.ext ?_
  match a' with
  | ⟨0, _⟩ => show win0_2.index t 0 * 1 + 1 * u.val = u.val; rw [e0]; omega
  | ⟨1, _⟩ => show win0_2.index t 1 * 1408 + 1 * a.val = t.val / 4 * 1408 + a.val; rw [e1, Nat.one_mul]
  | ⟨2, _⟩ => show win0_2.index t 2 * 2048 + 1 * l.val = l.val; rw [e2]; omega

/-- The result array after the run. -/
theorem dwout_arr : (dats m 0 c).arrAt 2 cfg0.N = dwout (m ((c : Thread nD τ).loc main_arg0)) (m ((c : Thread nD τ).loc main_arg1)) := by
  refine (dats m 0 c).arrAt_eq_of_cover 2 _ (fun t hf => ?_) (fun i => (Value.covered_iff2 i).2 ?_)
  · have ht : t.val % 4 = 3 := (flush0_2 t).mp hf
    have hq : t.val / 4 < 4 := by have := lt t; omega
    refine funext fun (x : S1x1408x2048.Idx) => ?_
    show (dats m 0 c).after 2 t x = dwout _ _ (((cfg0.win 2).blk t).view.emb x)
    rw [after0_2]
    idx_vars x
    rw [emb_out, written_at m c t (t.val / 4) hq (by omega)]
    rfl
  · have h0 : (i 0).val < 1 := (i 0).isLt
    have h1 : (i 1).val < 5632 := (i 1).isLt
    have h2 : (i 2).val < 2048 := (i 2).isLt
    omega

/-- Every execution ends with the result at `dwout` of the arguments, and the arguments as they were. -/
theorem run : θ_run defs (onTc (τ := τ) (main (F := Ideal))) ⟨m, fun _ => 0, ρ⟩ fun r => ∀ c : Dev nD,
    r.2.mem ((c.tc : Thread nD τ).loc main_v1) = dwout (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨(Value.post2 m r h c).trans (dwout_arr m c), Value.kept_main_arg0 m r h c,
    Value.kept_main_arg1 m r h c⟩) (run_main m ρ)

end Cert.Kernel3Ideal.Dwout

end
-- ==== Proof.Dwout.Reference.lean ====
/- The reference's gradient of the output weights at an index is the kernel's sum over all rows. -/
module

public import proofs.«01_k».proof.Proof.Dwout.Value
public import proofs.«01_k».proof.Proof.Gen.Reference3Ideal.Run

@[expose] public section

set_option maxRecDepth 16384

noncomputable section

namespace Cert.Reference3Ideal.Dwout

open Idealize.ShloMosaic Idealize.SL.Sem Idealize.ShloMosaic.TcCoe
open Cert.Reference3Ideal Cert.Reference3Ideal.Gen
open Cert.Kernel3Ideal.Dwout (dwout)
open scoped BigOperators

/-- The reference's result from its two arguments. -/
def result (h : FVec Ideal S4096x5632 .bf16) (g : FVec Ideal S4096x2048 .bf16) : FVec Ideal S1x5632x2048 .bf16 :=
  truncf .bf16 (broadcastInDim S1x5632x2048 ![1, 2] bcast_S5632x2048_S1x5632x2048_1_2 (transpose S5632x2048 [1, 0]
    (Host.dotGeneral dot_S4096x2048_S4096x5632_S2048x5632_0_0_1_1_n_n none (extf .f32 g bitsLt_bf16_f32) (extf .f32 h bitsLt_bf16_f32))
    transposes_S2048x5632_S5632x2048_1_0)) bitsLt_bf16_f32

/-- It is the kernel's. -/
theorem result_eq (h : FVec Ideal S4096x5632 .bf16) (g : FVec Ideal S4096x2048 .bf16) : result h g = dwout h g := by
  funext i
  idx_vars i
  pointwise [result, dwout]
  exact Finset.sum_congr rfl fun k _ => mul_comm (G := EReal) _ _

end Cert.Reference3Ideal.Dwout

end
-- ==== Proof.Sgu.Trips.lean ====
/- The counted loop of the gating gradient's kernel, over any values: what each of its 32 trips stores, and what its four
   written buffers read after `k` trips. A trip takes 128 rows of the three arguments; it stores those rows of the two
   results, and adds to two running sums. -/
module

public import proofs.«01_k».proof.Proof.Gen.Kernel4Ideal.Frame.Runs
public import Idealize.ShloMosaic.Lib.VecWindow
public import Idealize.ShloMosaic.Lib.WritesUnit
public import Idealize.ShloMosaic.Lib.Pointwise

@[expose] public section

noncomputable section

namespace Cert.Kernel4Ideal.Sgu

open Idealize.ShloMosaic Idealize.ShloMosaic.TcCoe Idealize.ShloMosaic.Tactic
open Cert.Kernel4Ideal.Gen

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- The rows trip `k` works on. -/
abbrev rows (k : Fin k0_t1_loop.trips) : Rect S4096x128 := Rect.unit (s := S4096x128) (k0_off1 k) S128x128.size (k0_off1_inb k)

/-- Those rows of an array. -/
def chunk (x : Vec F S4096x128 .bf16) (k : Fin k0_t1_loop.trips) : Vec F S128x128 .bf16 := View.ld x (rows k)

theorem trips_eq : k0_t1_loop.trips = 32 := by decide +kernel

/-- The trip that works on row `r`. -/
def trip (r : Fin 4096) : Fin k0_t1_loop.trips := ⟨r.val / 128, by rw [trips_eq]; omega⟩

/-- Row `r`'s place among its trip's rows. -/
def place (r : Fin 4096) : Fin 128 := ⟨r.val % 128, by omega⟩

/-- The gradient of the gate's input: every row from its trip's product. -/
def duOf (ds vn : Vec F S4096x128 .bf16) (ws bs : Vec F S1x128x128 .f32) : Vec F S4096x128 .bf16 := fun y =>
  k0_pay6 ws bs (chunk vn (trip (y 0))) (chunk ds (trip (y 0))) (ix2 (place (y 0)) (y 1))

/-- The gradient of the gated values: every row from its trip's product. -/
def dvOf (ds u : Vec F S4096x128 .bf16) (ws : Vec F S1x128x128 .f32) : Vec F S4096x128 .bf16 := fun y =>
  k0_pay11 ws (chunk ds (trip (y 0))) (chunk u (trip (y 0))) (ix2 (place (y 0)) (y 1))

/-- The running sum of the spatial weights' gradient after `k` trips. -/
def sumW (ds u vn : Vec F S4096x128 .bf16) : ℕ → Vec F S128x128 .f32
  | 0 => k0_pay3
  | k + 1 => if h : k < k0_t1_loop.trips then k0_pay10 (chunk vn ⟨k, h⟩) (chunk ds ⟨k, h⟩) (chunk u ⟨k, h⟩) (sumW ds u vn k) else sumW ds u vn k

/-- The running sum of the spatial bias's gradient after `k` trips. -/
def sumB (ds u : Vec F S4096x128 .bf16) : ℕ → Vec F S128x128 .f32
  | 0 => k0_pay4
  | k + 1 => if h : k < k0_t1_loop.trips then k0_pay9 (chunk ds ⟨k, h⟩) (chunk u ⟨k, h⟩) (sumB ds u k) else sumB ds u k

section
variable (c : Dev nD) (i : grid0.Coords)
  (arg1 : Memref sig .tc .vmem S4096x128 .bf16) (harg1 : arg1.IsWhole)
  (arg2 : Memref sig .tc .vmem S4096x128 .bf16) (harg2 : arg2.IsWhole)
  (arg3 : Memref sig .tc .vmem S4096x128 .bf16) (harg3 : arg3.IsWhole)
  (arg4 : Memref sig .tc .vmem S1x128x128 .f32) (harg4 : arg4.IsWhole)
  (arg5 : Memref sig .tc .vmem S1x128x128 .f32) (harg5 : arg5.IsWhole)
  (arg6 : Memref sig .tc .vmem S4096x128 .bf16) (harg6 : arg6.IsWhole)
  (arg7 : Memref sig .tc .vmem S4096x128 .bf16) (harg7 : arg7.IsWhole)
  (arg8 : Memref sig .tc .vmem S1x128x128 .f32) (harg8 : arg8.IsWhole)
  (arg9 : Memref sig .tc .vmem S1x128x128 .f32) (harg9 : arg9.IsWhole)
  (arg10 : Memref sig .tc .vmem S128x128 .f32) (harg10 : arg10.IsWhole)
  (arg11 : Memref sig .tc .vmem S128x128 .f32) (harg11 : arg11.IsWhole)
  (v0 v8 : Vec F S1x128x128 .f32)
  (ds u vn : Vec F S4096x128 .bf16)

/-- What a trip stores of the gate input's gradient. -/
theorem trip_du (k : Fin k0_t1_loop.trips) (f6 f7 f10 f11) :
    (trip_k0_t1 (F := F) Variants.none c none i arg1 harg1 arg2 harg2 arg3 harg3 arg4 harg4 arg5 harg5 arg6 harg6 arg7 harg7 arg8 harg8 arg9 harg9 arg10 harg10 arg11 harg11 v0 v8 (harg1.unread ds) (harg2.unread u) (harg3.unread vn) k).1 f6 f7 f10 f11
      = [⟨rows k, k0_pay6 v0 v8 (chunk vn k) (chunk ds k)⟩] := by
  unfold trip_k0_t1
  dsimp only
  simp only [View.readAt_eq_ld, harg1.read_unread, harg2.read_unread, harg3.read_unread]
  rfl

/-- What a trip stores of the gated values' gradient. -/
theorem trip_dv (k : Fin k0_t1_loop.trips) (f6 f7 f10 f11) :
    (trip_k0_t1 (F := F) Variants.none c none i arg1 harg1 arg2 harg2 arg3 harg3 arg4 harg4 arg5 harg5 arg6 harg6 arg7 harg7 arg8 harg8 arg9 harg9 arg10 harg10 arg11 harg11 v0 v8 (harg1.unread ds) (harg2.unread u) (harg3.unread vn) k).2.1 f6 f7 f10 f11
      = [⟨rows k, k0_pay11 v0 (chunk ds k) (chunk u k)⟩] := by
  unfold trip_k0_t1
  dsimp only
  simp only [View.readAt_eq_ld, harg1.read_unread, harg2.read_unread, harg3.read_unread]
  rfl

/-- What a trip makes of the weights' running sum. -/
theorem trip_sumW (k : Fin k0_t1_loop.trips) (f6 f7 f10 f11) :
    (trip_k0_t1 (F := F) Variants.none c none i arg1 harg1 arg2 harg2 arg3 harg3 arg4 harg4 arg5 harg5 arg6 harg6 arg7 harg7 arg8 harg8 arg9 harg9 arg10 harg10 arg11 harg11 v0 v8 (harg1.unread ds) (harg2.unread u) (harg3.unread vn) k).2.2.1 f6 f7 f10 f11
      = [⟨Rect.unit (s := S128x128) ![0, 0] S128x128.size inb_S128x128_S128x128_0_0,
          k0_pay10 (chunk vn k) (chunk ds k) (chunk u k) (arg10.view.read (Elt F) f10)⟩] := by
  unfold trip_k0_t1
  dsimp only
  rw [View.readAt_eq_ld arg10.view, View.ld_unit_zero (S := S128x128) zero2]
  simp only [View.readAt_eq_ld, harg1.read_unread, harg2.read_unread, harg3.read_unread]
  rfl

/-- What a trip makes of the bias's running sum. -/
theorem trip_sumB (k : Fin k0_t1_loop.trips) (f6 f7 f10 f11) :
    (trip_k0_t1 (F := F) Variants.none c none i arg1 harg1 arg2 harg2 arg3 harg3 arg4 harg4 arg5 harg5 arg6 harg6 arg7 harg7 arg8 harg8 arg9 harg9 arg10 harg10 arg11 harg11 v0 v8 (harg1.unread ds) (harg2.unread u) (harg3.unread vn) k).2.2.2.1 f6 f7 f10 f11
      = [⟨Rect.unit (s := S128x128) ![0, 0] S128x128.size inb_S128x128_S128x128_0_0,
          k0_pay9 (chunk ds k) (chunk u k) (arg11.view.read (Elt F) f11)⟩] := by
  unfold trip_k0_t1
  dsimp only
  rw [View.readAt_eq_ld arg11.view, View.ld_unit_zero (S := S128x128) zero2]
  simp only [View.readAt_eq_ld, harg1.read_unread, harg2.read_unread, harg3.read_unread]
  rfl

include harg7 harg8 harg9 harg10 harg11 in
/-- After `k` trips: the rows they worked on read their products, and the running sums read theirs. -/
theorem after_trips (G6 G7 G10 G11) (h10 : arg10.view.read (Elt F) G10 = k0_pay3) (h11 : arg11.view.read (Elt F) G11 = k0_pay4) :
    ∀ k : ℕ, k ≤ 32 →
      let p := pb_k0_t1 (F := F) Variants.none c none i arg1 harg1 arg2 harg2 arg3 harg3 arg4 harg4 arg5 harg5 arg6 harg6 arg7 harg7 arg8 harg8 arg9 harg9 arg10 harg10 arg11 harg11 v0 v8 (harg1.unread ds) (harg2.unread u) (harg3.unread vn) G6 G7 G10 G11 k
      (∀ y : S4096x128.Idx, (y 0).val < 128 * k → arg6.view.read (Elt F) (arg6.view.writes (Elt F) G6 p.1) y = duOf ds vn v0 v8 y)
      ∧ (∀ y : S4096x128.Idx, (y 0).val < 128 * k → arg7.view.read (Elt F) (arg7.view.writes (Elt F) G7 p.2.1) y = dvOf ds u v0 y)
      ∧ arg10.view.read (Elt F) (arg10.view.writes (Elt F) G10 p.2.2.1) = sumW ds u vn k
      ∧ arg11.view.read (Elt F) (arg11.view.writes (Elt F) G11 p.2.2.2) = sumB ds u k
  | 0, _ => by
    dsimp only
    unfold pb_k0_t1
    exact ⟨fun y h => absurd h (by omega), fun y h => absurd h (by omega), h10, h11⟩
  | k + 1, hk => by
    have hlt : k < k0_t1_loop.trips := by rw [trips_eq]; omega
    obtain ⟨i6, i7, i10, i11⟩ := after_trips G6 G7 G10 G11 h10 h11 k (by omega)
    have e := pb_k0_t1_succ (F := F) Variants.none c none i arg1 harg1 arg2 harg2 arg3 harg3 arg4 harg4 arg5 harg5 arg6 harg6 arg7 harg7 arg8 harg8 arg9 harg9 arg10 harg10 arg11 harg11 v0 v8 (harg1.unread ds) (harg2.unread u) (harg3.unread vn) G6 G7 G10 G11 ⟨k, hlt⟩
    dsimp only at e ⊢
    rw [e]
    dsimp only
    rw [trip_du, trip_dv, trip_sumW, trip_sumB, i10, i11]
    refine ⟨fun y hy => ?_, fun y hy => ?_, ?_, ?_⟩
    · refine (View.read_writes_cons_rows arg6.view _ (off := k0_off1 ⟨k, hlt⟩) (size := S128x128.size) (o := 128 * k) (W := 128) _ _ _ y (k0_off1_eq ⟨k, hlt⟩) rfl rfl).trans ?_
      by_cases h : 128 * k ≤ (y 0).val ∧ (y 0).val < 128 * k + 128
      · rw [dif_pos h]
        have ht : trip (y 0) = ⟨k, hlt⟩ := Fin.ext (by show (y 0).val / 128 = k; omega)
        rw [duOf, ht]
        refine congrArg _ (funext fun a => Fin.ext ?_)
        match a with
        | ⟨0, _⟩ => show (y 0).val - 128 * k = (y 0).val % 128; omega
        | ⟨1, _⟩ => show (y 1).val - 0 = (y 1).val; omega
      · rw [dif_neg h]
        exact i6 y (by omega)
    · refine (View.read_writes_cons_rows arg7.view _ (off := k0_off1 ⟨k, hlt⟩) (size := S128x128.size) (o := 128 * k) (W := 128) _ _ _ y (k0_off1_eq ⟨k, hlt⟩) rfl rfl).trans ?_
      by_cases h : 128 * k ≤ (y 0).val ∧ (y 0).val < 128 * k + 128
      · rw [dif_pos h]
        have ht : trip (y 0) = ⟨k, hlt⟩ := Fin.ext (by show (y 0).val / 128 = k; omega)
        rw [dvOf, ht]
        refine congrArg _ (funext fun a => Fin.ext ?_)
        match a with
        | ⟨0, _⟩ => show (y 0).val - 128 * k = (y 0).val % 128; omega
        | ⟨1, _⟩ => show (y 1).val - 0 = (y 1).val; omega
      · rw [dif_neg h]
        exact i7 y (by omega)
    · refine (View.read_writes_full arg10.view _ _ _ _).trans ?_
      rw [sumW, dif_pos hlt]
    · refine (View.read_writes_full arg11.view _ _ _ _).trans ?_
      rw [sumB, dif_pos hlt]

end

end Cert.Kernel4Ideal.Sgu

end
-- ==== Proof.Sgu.Run.lean ====
/- The gating gradient's kernel run at one point, over any values: from the staged blocks, what its body leaves in the four
   result buffers; from that the launch over all 16 points, and that the arguments end as they were. -/
module

public import proofs.«01_k».proof.Proof.Sgu.Trips
public import Idealize.ShloMosaic.Lib.Claim

@[expose] public section

set_option maxRecDepth 16384

noncomputable section

namespace Cert.Kernel4Ideal.Sgu

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

/-- The weights' gradient of one head, from the running sum after all trips. -/
def dwOf (ds u vn : Vec F S4096x128 .bf16) : Vec F S1x128x128 .f32 := k0_pay12 (sumW ds u vn 32)

/-- The bias's gradient of one head, from the running sum after all trips. -/
def dbOf (ds u : Vec F S4096x128 .bf16) : Vec F S1x128x128 .f32 := k0_pay1 (sumB ds u 32)

/-! ## The body -/

/-- A load of a whole buffer after two lists of stores reads what the later list leaves over the earlier. -/
theorem read_after (v : View sig .tc .vmem S128x128 .f32) (A B : List (View.Piece (Elt F) S128x128 .f32)) (w : Vec F S128x128 .f32)
    (h : v.read (Elt F) (v.writes (Elt F) (v.writes (Elt F) v.junk B) A) = w) :
    v.readCov (A ++ B) (Rect.unit (s := S128x128) ![0, 0] S128x128.size inb_S128x128_S128x128_0_0).toLoadRect = w := by
  unfold View.readCov
  rw [View.readAt_eq_ld, View.writes_append, View.ld_unit_zero (S := S128x128) zero2]
  exact h

set_option maxHeartbeats 1000000 in
/-- The body on whole buffers: the five arguments' as they were, the four results' at the gradients. -/
theorem body (c : Dev nD) (i : grid0.Coords) (arg1 : Memref sig .tc .vmem S4096x128 .bf16) (harg1 : arg1.IsWhole)
    (arg2 : Memref sig .tc .vmem S4096x128 .bf16) (harg2 : arg2.IsWhole)
    (arg3 : Memref sig .tc .vmem S4096x128 .bf16) (harg3 : arg3.IsWhole)
    (arg4 : Memref sig .tc .vmem S1x128x128 .f32) (harg4 : arg4.IsWhole)
    (arg5 : Memref sig .tc .vmem S1x128x128 .f32) (harg5 : arg5.IsWhole)
    (arg6 : Memref sig .tc .vmem S4096x128 .bf16) (harg6 : arg6.IsWhole)
    (arg7 : Memref sig .tc .vmem S4096x128 .bf16) (harg7 : arg7.IsWhole)
    (arg8 : Memref sig .tc .vmem S1x128x128 .f32) (harg8 : arg8.IsWhole)
    (arg9 : Memref sig .tc .vmem S1x128x128 .f32) (harg9 : arg9.IsWhole)
    (arg10 : Memref sig .tc .vmem S128x128 .f32) (harg10 : arg10.IsWhole)
    (arg11 : Memref sig .tc .vmem S128x128 .f32) (harg11 : arg11.IsWhole)
    (x0 x1 x2 : Vec F S4096x128 .bf16) (x3 x4 : Vec F S1x128x128 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (duOf x0 x2 x3 x4)
            ∗ owns (c : Thread nD τ) arg7 fullShare (dvOf x0 x1 x3)
            ∗ owns (c : Thread nD τ) arg8 fullShare (dwOf x0 x1 x2)
            ∗ owns (c : Thread nD τ) arg9 fullShare (dbOf x0 x1)
            ∗ (∃ d, owns (c : Thread nD τ) arg10 fullShare d)
            ∗ (∃ d, owns (c : Thread nD τ) arg11 fullShare d)) -∗ K PUnit.unit))
      ⊢ wp frame (wpE (defs₀ (F := F)) Variants.none c none) E (cc0_sgu_bwd_l0s1 i arg1 harg1 arg2 harg2 arg3 harg3 arg4 harg4 arg5 harg5 arg6 harg6 arg7 harg7 arg8 harg8 arg9 harg9 arg10 harg10 arg11 harg11) K := by
  simp only [cc0_sgu_bwd_l0s1_eq_skeleton]; unfold cc0_sgu_bwd_l0s1_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  have e4 : View.readAt (Elt F) arg4.view (Rect.unit (s := S1x128x128) ![0, 0, 0] S1x128x128.size inb_S1x128x128_S1x128x128_0_0_0).toLoadRect
      (harg4.unread x3) = x3 := by rw [View.readAt_eq_ld, harg4.read_unread, View.ld_unit_zero (S := S1x128x128) zero3]
  have e5 : View.readAt (Elt F) arg5.view (Rect.unit (s := S1x128x128) ![0, 0, 0] S1x128x128.size inb_S1x128x128_S1x128x128_0_0_0).toLoadRect
      (harg5.unread x4) = x4 := by rw [View.readAt_eq_ld, harg5.read_unread, View.ld_unit_zero (S := S1x128x128) zero3]
  have e32 : Scf.trips k0_t1_loop.lb k0_t1_loop.ub k0_t1_loop.st = 32 := by decide +kernel
  sl_unfold_words
  rw [e4, e5, e32]
  have h10 := View.read_writes_full (Val := Elt F) arg10.view arg10.view.junk (off := ![0, 0]) inb_S128x128_S128x128_0_0 (k0_pay3 (F := F)) []
  have h11 := View.read_writes_full (Val := Elt F) arg11.view arg11.view.junk (off := ![0, 0]) inb_S128x128_S128x128_0_0 (k0_pay4 (F := F)) []
  obtain ⟨k6, k7, k10, k11⟩ := after_trips c i arg1 harg1 arg2 harg2 arg3 harg3 arg4 harg4 arg5 harg5 arg6 harg6 arg7 harg7 arg8 harg8 arg9 harg9 arg10 harg10 arg11 harg11 x3 x4 x0 x1 x2 f5 f6 _ _ h10 h11 32 (le_refl 32)
  isplitl [H5]
  · iexists _; isplitr; swap; · iexact H5
    ipureintro; exact funext fun y => k6 y (y 0).isLt
  isplitl [H6]
  · iexists _; isplitr; swap; · iexact H6
    ipureintro; exact funext fun y => k7 y (y 0).isLt
  isplitl [H7]
  · iexists _; isplitr; swap; · iexact H7
    ipureintro
    refine (View.read_writes_full arg8.view _ _ _ _).trans ?_
    exact congrArg k0_pay12 (read_after arg10.view _ _ _ k10)
  isplitl [H8]
  · iexists _; isplitr; swap; · iexact H8
    ipureintro
    refine (View.read_writes_full arg9.view _ _ _ _).trans ?_
    exact congrArg k0_pay1 (read_after arg11.view _ _ _ k11)
  isplitl [HS0]
  · iexists _, _; isplitr; swap; · iexact HS0
    ipureintro; rfl
  iexists _, _; isplitr; swap; · iexact HS1
  ipureintro; rfl

end Cert.Kernel4Ideal.Sgu

end
-- ==== Proof.Sgu.Launch.lean ====
/- The gating gradient's launch over its 16 heads, over any values: every point leaves the four results' blocks at the
   gradients of its staged blocks, and the arguments end as they were. -/
module

public import proofs.«01_k».proof.Proof.Sgu.Run
public import Idealize.ShloMosaic.Lib.Claim

@[expose] public section

set_option maxRecDepth 16384

noncomputable section

namespace Cert.Kernel4Ideal.Sgu

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staged blocks -/

/-- The blocks of head `t`: the result's gradient, the gate's input, the gated values, the weights and the bias. -/
abbrev dsB (c : Dev nD) (t : Fin cfg0.N) : Vec F S4096x128 .bf16 := iblk m c 0 t
abbrev uB (c : Dev nD) (t : Fin cfg0.N) : Vec F S4096x128 .bf16 := iblk m c 1 t
abbrev vnB (c : Dev nD) (t : Fin cfg0.N) : Vec F S4096x128 .bf16 := iblk m c 2 t
abbrev wsB (c : Dev nD) (t : Fin cfg0.N) : Vec F S1x128x128 .f32 := iblk m c 3 t
abbrev bsB (c : Dev nD) (t : Fin cfg0.N) : Vec F S1x128x128 .f32 := iblk m c 4 t

/-- What the launch stages and what every point leaves. -/
def dats (_ : Fin 1) (c : Dev nD) : Dat τ (Elt F) Unit ℕ (UR sig nD τ) ℕ cfg0 c where
  A w := V m c (Pipeline.arrRef spec0 w)
  after w t := match w with
    | ⟨0, _⟩ => dsB m c t
    | ⟨1, _⟩ => uB m c t
    | ⟨2, _⟩ => vnB m c t
    | ⟨3, _⟩ => wsB m c t
    | ⟨4, _⟩ => bsB m c t
    | ⟨5, _⟩ => duOf (dsB m c t) (vnB m c t) (wsB m c t) (bsB m c t)
    | ⟨6, _⟩ => dvOf (dsB m c t) (uB m c t) (wsB m c t)
    | ⟨7, _⟩ => dwOf (dsB m c t) (uB m c t) (vnB m c t)
    | ⟨8, _⟩ => dbOf (dsB m c t) (uB m c t)
  Φ _ := Pipeline.ΦA spec0 c
  q _ := fullShare
  owed _ := 0

theorem arr_entry (c : Dev nD) (w : Fin cfg0.W) : (dats m 0 c).A w = V m c (Pipeline.arrRef spec0 w) := by
  dsimp only [dats]

section
variable (c : Dev nD) (t : Fin cfg0.N)

theorem left_ds : (dats m 0 c).after 0 t = dsB m c t := by dsimp only [dats]
theorem left_u : (dats m 0 c).after 1 t = uB m c t := by dsimp only [dats]
theorem left_vn : (dats m 0 c).after 2 t = vnB m c t := by dsimp only [dats]
theorem left_ws : (dats m 0 c).after 3 t = wsB m c t := by dsimp only [dats]
theorem left_bs : (dats m 0 c).after 4 t = bsB m c t := by dsimp only [dats]
theorem left_du : (dats m 0 c).after 5 t = duOf (dsB m c t) (vnB m c t) (wsB m c t) (bsB m c t) := by dsimp only [dats]
theorem left_dv : (dats m 0 c).after 6 t = dvOf (dsB m c t) (uB m c t) (wsB m c t) := by dsimp only [dats]
theorem left_dw : (dats m 0 c).after 7 t = dwOf (dsB m c t) (uB m c t) (vnB m c t) := by dsimp only [dats]
theorem left_db : (dats m 0 c).after 8 t = dbOf (dsB m c t) (uB m c t) := by dsimp only [dats]

theorem found_ds (d) : (dats m 0 c).before 0 t d = dsB m c t := before0_0_of m (dats m 0 c) (arr_entry m c 0) (left_ds m c) t d
theorem found_u (d) : (dats m 0 c).before 1 t d = uB m c t := before0_1_of m (dats m 0 c) (arr_entry m c 1) (left_u m c) t d
theorem found_vn (d) : (dats m 0 c).before 2 t d = vnB m c t := before0_2_of m (dats m 0 c) (arr_entry m c 2) (left_vn m c) t d
theorem found_ws (d) : (dats m 0 c).before 3 t d = wsB m c t := before0_3_of m (dats m 0 c) (arr_entry m c 3) (left_ws m c) t d
theorem found_bs (d) : (dats m 0 c).before 4 t d = bsB m c t := before0_4_of m (dats m 0 c) (arr_entry m c 4) (left_bs m c) t d

/-! ## One point -/

/-- What a point starts from: the arguments' buffers at their blocks, the results' at anything. -/
def start : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What it ends with. -/
def finish : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- A point runs from the one to the other. -/
theorem point : start m c t ⊢ wp frame (wpE (defs₀ (F := F)) Variants.none c none) Set.univ (bodyAt0 t) (fun _ => finish m c t) := by
  unfold start finish bodyAt0
  simp only [found_ds, found_u, found_vn, found_ws, found_bs]
  rw [show (dats m 0 c).Φ t.succ = (dats m 0 c).Φ t.castSucc from rfl,
    show (dats m 0 c).owesAt () t.succ = (dats m 0 c).owesAt () t.castSucc from rfl,
    left_ds, left_u, left_vn, left_ws, left_bs, left_du, left_dv, left_dw, left_db,
    show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body c (grid0.coords t) _ _ _ _ _ _ _ _ _ _ _ _ _ _ _ _ _ _ _ _ _ _ (dsB m c t) (uB m c t) (vnB m c t) (wsB m c t) (bsB m c t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (point m c t) rfl .rfl fun _ => .rfl

/-! ## The launch -/

set_option backward.isDefEq.respectTransparency.types false in
/-- Every execution ends, with the staged arrays at what the points leave and the counters at zero. -/
theorem launch : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arr_entry m) (hΦ := fun _ _ => rfl)

/-- Every execution ends with the arguments as they were and the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (arr_entry m) ((θ_run defs _ _).mono (fun _ h => h.1) (launch m ρ)))
    ((θ_run defs _ _).mono (fun _ h => h.2) (launch m ρ))

end Cert.Kernel4Ideal.Sgu

end
-- ==== Proof.Sgu.Value.lean ====
/- What the gating gradient's call leaves in its four result arrays, over the extended reals. Each point is one head: its
   128 columns of the rows' arrays, its weights and its bias. A trip of the point's loop is one chunk of 128 rows, so an
   entry of the first two results is a product over its own chunk, and an entry of the last two a sum over all 32. -/
module

public import proofs.«01_k».proof.Proof.Sgu.Launch
public import Idealize.ShloMosaic.Lib.Pipeline.ValueKit
public import Idealize.ShloMosaic.Lib.Pointwise
public import Idealize.ShloMosaic.Lib.Tactic

@[expose] public section

set_option maxRecDepth 16384

noncomputable section

namespace Cert.Kernel4Ideal.Sgu

open Idealize.ShloMosaic Idealize.SL.Sem Idealize.ShloMosaic.TcCoe
open Cert.Kernel4Ideal Cert.Kernel4Ideal.Gen
open Idealize.ShloMosaic.Pipeline (Dat Cfg Window)
open scoped BigOperators

/-! ## Rows and columns -/

/-- Row `a` of chunk `k`. -/
def rowOf (k : ℕ) (h : k < 32) (a : Fin 128) : Fin 4096 := ⟨k * 128 + a.val, by omega⟩

/-- Column `e` of head `q`. -/
def colOf (q : ℕ) (h : q < 16) (e : Fin 128) : Fin 2048 := ⟨q * 128 + e.val, by omega⟩

/-- A head's weights, where a row sees only itself and the rows before it in its chunk. -/
def low (w : FVec Ideal S16x128x128 .f32) (q : Fin 16) (a b : Fin 128) : EReal := if b ≤ a then w (ix3 q a b) else 0

/-- The mask's comparison of two places in a chunk. -/
theorem sle_places : ∀ a b : Fin 128, IntOp.cmpi .sle (BitVec.ofNat 32 b.val) (BitVec.ofNat 32 a.val) = if b ≤ a then 1#1 else 0#1 := by
  decide +kernel

/-- A choice by that comparison. -/
theorem select_places (a b : Fin 128) (x y : EReal) :
    Scalar.select (IntOp.cmpi .sle (BitVec.ofNat 32 b.val) (BitVec.ofNat 32 a.val)) x y = if b ≤ a then x else y := by
  rw [sle_places]
  by_cases h : b ≤ a
  · rw [if_pos h, if_pos h]; rfl
  · rw [if_neg h, if_neg h]; rfl

/-! ## One trip -/

section
variable (w b : FVec Ideal S1x128x128 .f32) (v g u : FVec Ideal S128x128 .bf16) (s : FVec Ideal S128x128 .f32)

theorem mask_at (a e : Fin 128) : k0_pay2 (F := Ideal) w (ix2 a e) = if e ≤ a then w (ix3 0 a e) else 0 :=
  Eq.trans (by pointwise [k0_pay2]) (select_places a e (w (ix3 0 a e)) 0)

theorem pay_du (a e : Fin 128) :
    k0_pay6 (F := Ideal) w b v g (ix2 a e) = g (ix2 a e) * (∑ x, k0_pay2 w (ix2 a x) * v (ix2 x e) + b (ix3 0 a e)) := by
  pointwise [k0_pay6, k0_pay5]

theorem pay_dv (a e : Fin 128) :
    k0_pay11 (F := Ideal) w g u (ix2 a e) = ∑ x, k0_pay2 w (ix2 x a) * (g (ix2 x e) * u (ix2 x e)) := by
  pointwise [k0_pay11, k0_pay8, k0_pay7, k0_pay5]

theorem pay_sumW (a e : Fin 128) :
    k0_pay10 (F := Ideal) v g u s (ix2 a e) = s (ix2 a e) + ∑ x, g (ix2 a x) * u (ix2 a x) * v (ix2 e x) := by
  pointwise [k0_pay10, k0_pay8, k0_pay7, k0_pay5]

theorem pay_sumB (a e : Fin 128) : k0_pay9 (F := Ideal) g u s (ix2 a e) = s (ix2 a e) + g (ix2 a e) * u (ix2 a e) := by
  pointwise [k0_pay9, k0_pay8, k0_pay7, k0_pay5]

theorem pay_dw (q : Fin 1) (a e : Fin 128) : k0_pay12 (F := Ideal) s (ix3 q a e) = if e ≤ a then s (ix2 a e) else 0 :=
  Eq.trans (by pointwise [k0_pay12]) (select_places a e (s (ix2 a e)) 0)

theorem pay_db (q : Fin 1) (a e : Fin 128) : k0_pay1 (F := Ideal) s (ix3 q a e) = ∑ x, s (ix2 a x) := by
  pointwise [k0_pay1]

theorem clear_sumW (a e : Fin 128) : k0_pay3 (F := Ideal) (ix2 a e) = 0 := by pointwise [k0_pay3]

theorem clear_sumB (a e : Fin 128) : k0_pay4 (F := Ideal) (ix2 a e) = 0 := by pointwise [k0_pay4]
end

/-- A chunk's entry. -/
theorem chunk_at (x : Vec Ideal S4096x128 .bf16) (k : Fin k0_t1_loop.trips) (a e : Fin 128) :
    chunk x k (ix2 a e) = x (ix2 (rowOf k.val (lt_of_lt_of_eq k.isLt trips_eq) a) e) := by
  refine congrArg x (funext fun a' => Fin.ext ?_)
  match a' with
  | ⟨0, _⟩ =>
    show k0_off1 k 0 + 1 * a.val = k.val * 128 + a.val
    rw [k0_off1_eq]
    show 128 * k.val + 1 * a.val = _
    omega
  | ⟨1, _⟩ =>
    show k0_off1 k 1 + 1 * e.val = e.val
    rw [k0_off1_eq]
    show 0 + 1 * e.val = _
    omega

/-- The weights' running sum after `k` trips. -/
theorem sumW_at (ds u vn : Vec Ideal S4096x128 .bf16) (a e : Fin 128) : ∀ (k : ℕ) (hk : k ≤ 32),
    sumW ds u vn k (ix2 a e) = ∑ r : Fin k, ∑ x : Fin 128, ds (ix2 (rowOf r.val (by omega) a) x) * u (ix2 (rowOf r.val (by omega) a) x) * vn (ix2 (rowOf r.val (by omega) e) x)
  | 0, _ => by rw [sumW, clear_sumW, Finset.univ_eq_empty, Finset.sum_empty]
  | k + 1, hk => by
    rw [sumW, dif_pos (by rw [trips_eq]; omega), pay_sumW, sumW_at ds u vn a e k (by omega), Fin.sum_univ_castSucc (n := k)]
    simp only [chunk_at]
    rfl

/-- The bias's running sum after `k` trips. -/
theorem sumB_at (ds u : Vec Ideal S4096x128 .bf16) (a e : Fin 128) : ∀ (k : ℕ) (hk : k ≤ 32),
    sumB ds u k (ix2 a e) = ∑ r : Fin k, ds (ix2 (rowOf r.val (by omega) a) e) * u (ix2 (rowOf r.val (by omega) a) e)
  | 0, _ => by rw [sumB, clear_sumB, Finset.univ_eq_empty, Finset.sum_empty]
  | k + 1, hk => by
    rw [sumB, dif_pos (by rw [trips_eq]; omega), pay_sumB, sumB_at ds u a e k (by omega), Fin.sum_univ_castSucc (n := k)]
    simp only [chunk_at]
    rfl

/-! ## The staged blocks -/

theorem index : ∀ t : Fin grid0.N,
    (win0_0.index t 0 = 0 ∧ win0_0.index t 1 = t.val) ∧ (win0_1.index t 0 = 0 ∧ win0_1.index t 1 = t.val)
    ∧ (win0_2.index t 0 = 0 ∧ win0_2.index t 1 = t.val)
    ∧ (win0_3.index t 0 = t.val ∧ win0_3.index t 1 = 0 ∧ win0_3.index t 2 = 0)
    ∧ (win0_4.index t 0 = t.val ∧ win0_4.index t 1 = 0 ∧ win0_4.index t 2 = 0)
    ∧ (win0_5.index t 0 = 0 ∧ win0_5.index t 1 = t.val) ∧ (win0_6.index t 0 = 0 ∧ win0_6.index t 1 = t.val)
    ∧ (win0_7.index t 0 = t.val ∧ win0_7.index t 1 = 0 ∧ win0_7.index t 2 = 0)
    ∧ (win0_8.index t 0 = t.val ∧ win0_8.index t 1 = 0 ∧ win0_8.index t 2 = 0) := by decide +kernel

theorem lt (t : Fin cfg0.N) : t.val < 16 := lt_of_lt_of_eq t.isLt N_0

variable (m : (ℓ : Loc nD τ sig) → Buf (Elt Ideal) ℓ) (ρ : Dev nD → PrngReg) (c : Dev nD)

/-- The bias's array, as the launch finds it: each entry of the bias along a row of 128. -/
theorem bias_entry (q : Fin 16) (a e : Fin 128) :
    (V m c main_v1 : FVec Ideal S16x128x128 .f32) (ix3 q a e) = (m ((c : Thread nD τ).loc main_arg3) : FVec Ideal S16x128 .f32) (ix2 q a) := by
  have h : (V m c main_v1 : FVec Ideal S16x128x128 .f32) = broadcastInDim S16x128x128 ![0, 1, 2] bcast_S16x128x1_S16x128x128_0_1_2
      (broadcastInDim S16x128x1 ![0, 1] bcast_S16x128_S16x128x1_0_1 (m ((c : Thread nD τ).loc main_arg3) : FVec Ideal S16x128 .f32)) := by
    after_results_simp <;> rfl
  rw [h]
  pointwise

theorem ds_at (t : Fin cfg0.N) (r : Fin 4096) (e : Fin 128) :
    dsB m c t (ix2 r e) = (m ((c : Thread nD τ).loc main_arg4) : FVec Ideal S4096x2048 .bf16) (ix2 r (colOf t.val (lt t) e)) := by
  rw [← V_main_arg4 m c]
  refine congrArg (V m c main_arg4) (funext fun a' => Fin.ext ?_)
  match a' with
  | ⟨0, _⟩ => show win0_0.index t 0 * 4096 + 1 * r.val = r.val; rw [(index t).1.1]; omega
  | ⟨1, _⟩ => show win0_0.index t 1 * 128 + 1 * e.val = t.val * 128 + e.val; rw [(index t).1.2, Nat.one_mul]

theorem u_at (t : Fin cfg0.N) (r : Fin 4096) (e : Fin 128) :
    uB m c t (ix2 r e) = (m ((c : Thread nD τ).loc main_arg0) : FVec Ideal S4096x2048 .bf16) (ix2 r (colOf t.val (lt t) e)) := by
  rw [← V_main_arg0 m c]
  refine congrArg (V m c main_arg0) (funext fun a' => Fin.ext ?_)
  match a' with
  | ⟨0, _⟩ => show win0_1.index t 0 * 4096 + 1 * r.val = r.val; rw [(index t).2.1.1]; omega
  | ⟨1, _⟩ => show win0_1.index t 1 * 128 + 1 * e.val = t.val * 128 + e.val; rw [(index t).2.1.2, Nat.one_mul]

theorem vn_at (t : Fin cfg0.N) (r : Fin 4096) (e : Fin 128) :
    vnB m c t (ix2 r e) = (m ((c : Thread nD τ).loc main_arg1) : FVec Ideal S4096x2048 .bf16) (ix2 r (colOf t.val (lt t) e)) := by
  rw [← V_main_arg1 m c]
  refine congrArg (V m c main_arg1) (funext fun a' => Fin.ext ?_)
  match a' with
  | ⟨0, _⟩ => show win0_2.index t 0 * 4096 + 1 * r.val = r.val; rw [(index t).2.2.1.1]; omega
  | ⟨1, _⟩ => show win0_2.index t 1 * 128 + 1 * e.val = t.val * 128 + e.val; rw [(index t).2.2.1.2, Nat.one_mul]

theorem ws_at (t : Fin cfg0.N) (a e : Fin 128) :
    wsB m c t (ix3 0 a e) = (m ((c : Thread nD τ).loc main_arg2) : FVec Ideal S16x128x128 .f32) (ix3 ⟨t.val, lt t⟩ a e) := by
  rw [← V_main_arg2 m c]
  refine congrArg (V m c main_arg2) (funext fun a' => Fin.ext ?_)
  match a' with
  | ⟨0, _⟩ => show win0_3.index t 0 * 1 + 1 * 0 = t.val; rw [(index t).2.2.2.1.1]; omega
  | ⟨1, _⟩ => show win0_3.index t 1 * 128 + 1 * a.val = a.val; rw [(index t).2.2.2.1.2.1]; omega
  | ⟨2, _⟩ => show win0_3.index t 2 * 128 + 1 * e.val = e.val; rw [(index t).2.2.2.1.2.2]; omega

theorem bs_at (t : Fin cfg0.N) (a e : Fin 128) :
    bsB m c t (ix3 0 a e) = (m ((c : Thread nD τ).loc main_arg3) : FVec Ideal S16x128 .f32) (ix2 ⟨t.val, lt t⟩ a) := by
  rw [← bias_entry m c ⟨t.val, lt t⟩ a e]
  refine congrArg (V m c main_v1) (funext fun a' => Fin.ext ?_)
  match a' with
  | ⟨0, _⟩ => show win0_4.index t 0 * 1 + 1 * 0 = t.val; rw [(index t).2.2.2.2.1.1]; omega
  | ⟨1, _⟩ => show win0_4.index t 1 * 128 + 1 * a.val = a.val; rw [(index t).2.2.2.2.1.2.1]; omega
  | ⟨2, _⟩ => show win0_4.index t 2 * 128 + 1 * e.val = e.val; rw [(index t).2.2.2.2.1.2.2]; omega

/-! ## The four results -/

/-- The head that column `e` belongs to. -/
def headOf (e : Fin 2048) : Fin 16 := ⟨e.val / 128, by omega⟩

/-- Row `x` of the chunk that row `r` belongs to. -/
def mateOf (r : Fin 4096) (x : Fin 128) : Fin 4096 := ⟨r.val / 128 * 128 + x.val, by omega⟩

/-- The gradient of the gate's input. -/
def duArr (v : FVec Ideal S4096x2048 .bf16) (w : FVec Ideal S16x128x128 .f32) (b : FVec Ideal S16x128 .f32) (g : FVec Ideal S4096x2048 .bf16) :
    FVec Ideal S4096x2048 .bf16 := fun i =>
  (g (ix2 (i 0) (i 1)) * (∑ x, low w (headOf (i 1)) (place (i 0)) x * v (ix2 (mateOf (i 0) x) (i 1)) + b (ix2 (headOf (i 1)) (place (i 0)))) : EReal)

/-- The gradient of the gated values. -/
def dvArr (u : FVec Ideal S4096x2048 .bf16) (w : FVec Ideal S16x128x128 .f32) (g : FVec Ideal S4096x2048 .bf16) : FVec Ideal S4096x2048 .bf16 := fun i =>
  (∑ x, low w (headOf (i 1)) x (place (i 0)) * (g (ix2 (mateOf (i 0) x) (i 1)) * u (ix2 (mateOf (i 0) x) (i 1))) : EReal)

/-- The gradient of the spatial weights. -/
def dwArr (u v g : FVec Ideal S4096x2048 .bf16) : FVec Ideal S16x128x128 .f32 := fun i =>
  (if (i 2 : Fin 128) ≤ i 1 then ∑ r : Fin 32, ∑ x : Fin 128, g (ix2 (rowOf r.val r.isLt (i 1)) (colOf (i 0).val (i 0).isLt x))
    * u (ix2 (rowOf r.val r.isLt (i 1)) (colOf (i 0).val (i 0).isLt x)) * v (ix2 (rowOf r.val r.isLt (i 2)) (colOf (i 0).val (i 0).isLt x)) else 0 : EReal)

/-- The gradient of the spatial bias, along every row of 128. -/
def dbArr (u g : FVec Ideal S4096x2048 .bf16) : FVec Ideal S16x128x128 .f32 := fun i =>
  (∑ x : Fin 128, ∑ r : Fin 32, g (ix2 (rowOf r.val r.isLt (i 1)) (colOf (i 0).val (i 0).isLt x)) * u (ix2 (rowOf r.val r.isLt (i 1)) (colOf (i 0).val (i 0).isLt x)) : EReal)

theorem head_col (q : ℕ) (h : q < 16) (e : Fin 128) : headOf (colOf q h e) = ⟨q, h⟩ :=
  Fin.ext (by show (q * 128 + e.val) / 128 = q; omega)

theorem emb_du (t : Fin cfg0.N) (r : Fin 4096) (e : Fin 128) :
    ((cfg0.win 5).blk t).view.emb (ix2 r e : S4096x128.Idx) = (ix2 r (colOf t.val (lt t) e) : S4096x2048.Idx) := by
  refine funext fun a' => Fin.ext ?_
  match a' with
  | ⟨0, _⟩ => show win0_5.index t 0 * 4096 + 1 * r.val = r.val; rw [(index t).2.2.2.2.2.1.1]; omega
  | ⟨1, _⟩ => show win0_5.index t 1 * 128 + 1 * e.val = t.val * 128 + e.val; rw [(index t).2.2.2.2.2.1.2, Nat.one_mul]

theorem emb_dv (t : Fin cfg0.N) (r : Fin 4096) (e : Fin 128) :
    ((cfg0.win 6).blk t).view.emb (ix2 r e : S4096x128.Idx) = (ix2 r (colOf t.val (lt t) e) : S4096x2048.Idx) := by
  refine funext fun a' => Fin.ext ?_
  match a' with
  | ⟨0, _⟩ => show win0_6.index t 0 * 4096 + 1 * r.val = r.val; rw [(index t).2.2.2.2.2.2.1.1]; omega
  | ⟨1, _⟩ => show win0_6.index t 1 * 128 + 1 * e.val = t.val * 128 + e.val; rw [(index t).2.2.2.2.2.2.1.2, Nat.one_mul]

theorem emb_dw (t : Fin cfg0.N) (q : Fin 1) (a e : Fin 128) :
    ((cfg0.win 7).blk t).view.emb (ix3 q a e : S1x128x128.Idx) = (ix3 ⟨t.val, lt t⟩ a e : S16x128x128.Idx) := by
  refine funext fun a' => Fin.ext ?_
  match a' with
  | ⟨0, _⟩ => show win0_7.index t 0 * 1 + 1 * q.val = t.val; rw [(index t).2.2.2.2.2.2.2.1.1]; omega
  | ⟨1, _⟩ => show win0_7.index t 1 * 128 + 1 * a.val = a.val; rw [(index t).2.2.2.2.2.2.2.1.2.1]; omega
  | ⟨2, _⟩ => show win0_7.index t 2 * 128 + 1 * e.val = e.val; rw [(index t).2.2.2.2.2.2.2.1.2.2]; omega

theorem emb_db (t : Fin cfg0.N) (q : Fin 1) (a e : Fin 128) :
    ((cfg0.win 8).blk t).view.emb (ix3 q a e : S1x128x128.Idx) = (ix3 ⟨t.val, lt t⟩ a e : S16x128x128.Idx) := by
  refine funext fun a' => Fin.ext ?_
  match a' with
  | ⟨0, _⟩ => show win0_8.index t 0 * 1 + 1 * q.val = t.val; rw [(index t).2.2.2.2.2.2.2.2.1]; omega
  | ⟨1, _⟩ => show win0_8.index t 1 * 128 + 1 * a.val = a.val; rw [(index t).2.2.2.2.2.2.2.2.2.1]; omega
  | ⟨2, _⟩ => show win0_8.index t 2 * 128 + 1 * e.val = e.val; rw [(index t).2.2.2.2.2.2.2.2.2.2]; omega

/-- The four arguments as arrays. -/
abbrev uA : FVec Ideal S4096x2048 .bf16 := m ((c : Thread nD τ).loc main_arg0)
abbrev vA : FVec Ideal S4096x2048 .bf16 := m ((c : Thread nD τ).loc main_arg1)
abbrev wA : FVec Ideal S16x128x128 .f32 := m ((c : Thread nD τ).loc main_arg2)
abbrev bA : FVec Ideal S16x128 .f32 := m ((c : Thread nD τ).loc main_arg3)
abbrev gA : FVec Ideal S4096x2048 .bf16 := m ((c : Thread nD τ).loc main_arg4)

theorem row_own (r : Fin 4096) (h : (trip r).val < 32) : rowOf (trip r).val h (place r) = r :=
  Fin.ext (by show r.val / 128 * 128 + r.val % 128 = r.val; omega)

section
variable (t : Fin cfg0.N)

theorem du_at (r : Fin 4096) (e : Fin 128) :
    duOf (dsB m c t) (vnB m c t) (wsB m c t) (bsB m c t) (ix2 r e) = duArr (vA m c) (wA m c) (bA m c) (gA m c) (ix2 r (colOf t.val (lt t) e)) := by
  show k0_pay6 (F := Ideal) _ _ (chunk _ (trip r)) (chunk _ (trip r)) (ix2 (place r) e) = gA m c (ix2 r (colOf t.val (lt t) e)) * (∑ x, low (wA m c) (headOf (colOf t.val (lt t) e)) (place r) x * vA m c (ix2 (mateOf r x) (colOf t.val (lt t) e)) + bA m c (ix2 (headOf (colOf t.val (lt t) e)) (place r)))
  rw [pay_du, bs_at, chunk_at, ds_at, head_col, row_own]
  simp only [mask_at, chunk_at, vn_at, ws_at]
  rfl

theorem dv_at (r : Fin 4096) (e : Fin 128) :
    dvOf (dsB m c t) (uB m c t) (wsB m c t) (ix2 r e) = dvArr (uA m c) (wA m c) (gA m c) (ix2 r (colOf t.val (lt t) e)) := by
  show k0_pay11 (F := Ideal) _ (chunk _ (trip r)) (chunk _ (trip r)) (ix2 (place r) e) = ∑ x, low (wA m c) (headOf (colOf t.val (lt t) e)) x (place r) * (gA m c (ix2 (mateOf r x) (colOf t.val (lt t) e)) * uA m c (ix2 (mateOf r x) (colOf t.val (lt t) e)))
  rw [pay_dv, head_col]
  simp only [mask_at, chunk_at, ds_at, u_at, ws_at]
  rfl

theorem dw_at (q : Fin 1) (a e : Fin 128) :
    dwOf (dsB m c t) (uB m c t) (vnB m c t) (ix3 q a e) = dwArr (uA m c) (vA m c) (gA m c) (ix3 ⟨t.val, lt t⟩ a e) := by
  unfold dwOf
  rw [pay_dw, sumW_at _ _ _ _ _ 32 (Nat.le_refl _)]
  simp only [ds_at, u_at, vn_at]
  rfl

theorem db_at (q : Fin 1) (a e : Fin 128) :
    dbOf (dsB m c t) (uB m c t) (ix3 q a e) = dbArr (uA m c) (gA m c) (ix3 ⟨t.val, lt t⟩ a e) := by
  unfold dbOf
  rw [pay_db]
  simp only [fun x => sumB_at (dsB m c t) (uB m c t) a x 32 (Nat.le_refl _), ds_at, u_at]
  rfl
end

theorem du_arr : (dats m 0 c).arrAt 5 cfg0.N = duArr (vA m c) (wA m c) (bA m c) (gA m c) := by
  refine (dats m 0 c).arrAt_eq_of_covers 5 _ (by decide +kernel) (fun t _ (x : S4096x128.Idx) => ?_)
  show (dats m 0 c).after 5 t x = duArr _ _ _ _ (((cfg0.win 5).blk t).view.emb x)
  rw [left_du]
  idx_vars x
  rw [emb_du]
  exact du_at m c t _ _

theorem dv_arr : (dats m 0 c).arrAt 6 cfg0.N = dvArr (uA m c) (wA m c) (gA m c) := by
  refine (dats m 0 c).arrAt_eq_of_covers 6 _ (by decide +kernel) (fun t _ (x : S4096x128.Idx) => ?_)
  show (dats m 0 c).after 6 t x = dvArr _ _ _ (((cfg0.win 6).blk t).view.emb x)
  rw [left_dv]
  idx_vars x
  rw [emb_dv]
  exact dv_at m c t _ _

theorem dw_arr : (dats m 0 c).arrAt 7 cfg0.N = dwArr (uA m c) (vA m c) (gA m c) := by
  refine (dats m 0 c).arrAt_eq_of_covers 7 _ (by decide +kernel) (fun t _ (x : S1x128x128.Idx) => ?_)
  show (dats m 0 c).after 7 t x = dwArr _ _ _ (((cfg0.win 7).blk t).view.emb x)
  rw [left_dw]
  idx_vars x
  rw [emb_dw]
  exact dw_at m c t _ _ _

theorem db_arr : (dats m 0 c).arrAt 8 cfg0.N = dbArr (uA m c) (gA m c) := by
  refine (dats m 0 c).arrAt_eq_of_covers 8 _ (by decide +kernel) (fun t _ (x : S1x128x128.Idx) => ?_)
  show (dats m 0 c).after 8 t x = dbArr _ _ (((cfg0.win 8).blk t).view.emb x)
  rw [left_db]
  idx_vars x
  rw [emb_db]
  exact db_at m c t _ _ _

/-- Every execution ends with the four results at these arrays of the arguments, the arguments as they were and the
counters at zero. -/
theorem run : θ_run defs (onTc (τ := τ) (main (F := Ideal))) ⟨m, fun _ => 0, ρ⟩ fun r => ∀ c : Dev nD,
    r.2.mem ((c.tc : Thread nD τ).loc main_v2_0) = duArr (vA m c) (wA m c) (bA m c) (gA m c)
    ∧ r.2.mem ((c.tc : Thread nD τ).loc main_v2_1) = dvArr (uA m c) (wA m c) (gA m c)
    ∧ r.2.mem ((c.tc : Thread nD τ).loc main_v2_2) = dwArr (uA m c) (vA m c) (gA m c)
    ∧ r.2.mem ((c.tc : Thread nD τ).loc main_v2_3) = dbArr (uA m c) (gA m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun r h c => ⟨((h.1.1 c).1 5).trans (du_arr m c), ((h.1.1 c).1 6).trans (dv_arr m c),
      ((h.1.1 c).1 7).trans (dw_arr m c), ((h.1.1 c).1 8).trans (db_arr m c), h.2.1 c⟩)
    (θ_run_and (launch m ρ) (frame_run m ρ))

end Cert.Kernel4Ideal.Sgu

end
-- ==== Proof.Sgu.Reference.lean ====
/- The reference's four gradients of the gating unit, entry by entry. -/
module

public import proofs.«01_k».proof.Proof.Gen.Reference4Ideal.Run
public import proofs.«01_k».proof.Proof.Sgu.Value
public import Idealize.ShloMosaic.Lib.Pointwise
public import Idealize.ShloMosaic.Lib.Tactic

@[expose] public section

set_option maxRecDepth 16384

noncomputable section

namespace Cert.Reference4Ideal.Sgu

open Idealize.ShloMosaic Idealize.SL.Sem Idealize.ShloMosaic.TcCoe
open Cert.Reference4Ideal Cert.Reference4Ideal.Gen
open Cert.Kernel4Ideal.Sgu (low duArr dvArr dwArr dbArr)
open scoped BigOperators

/-! ## The terms of the reference's four results -/

/-- Whether row `i` may see row `j` of its chunk, for every head. -/
def tril : IVec S16x128x128 1 :=
  broadcastInDim S16x128x128 ![0, 1, 2] bcast_S1x128x128_S16x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))

/-- The weights a row may see. -/
def weights (w : FVec Ideal S16x128x128 .f32) : FVec Ideal S16x128x128 .f32 :=
  select tril w (broadcastInDim S16x128x128 ![] bcast_S_S16x128x128 (constant S_ .f32 0x00000000#32))

/-- The gradient of the gate's input. -/
def du (v : FVec Ideal S4096x2048 .bf16) (w : FVec Ideal S16x128x128 .f32) (b : FVec Ideal S16x128 .f32) (g : FVec Ideal S4096x2048 .bf16) :
    FVec Ideal S4096x2048 .bf16 :=
  truncf .bf16 (mulf (extf .f32 g bitsLt_bf16_f32) (shapeCast _ (addf (transpose S32x128x16x128 [1, 3, 0, 2]
    (Host.dotGeneral dot_S32x128x16x128_S16x128x128_S16x32x128x128_1_2_03_1_2_0 none (shapeCast _ (extf .f32 v bitsLt_bf16_f32) shapeCasts_S4096x2048_S32x128x16x128) (weights w)) transposes_S16x32x128x128_S32x128x16x128_1_3_0_2)
    (broadcastInDim S32x128x16x128 ![0, 1, 2, 3] bcast_S1x128x16x128_S32x128x16x128_0_1_2_3 (broadcastInDim S1x128x16x128 ![1, 2, 3] bcast_S128x16x128_S1x128x16x128_1_2_3 (broadcastInDim S128x16x128 ![0, 1, 2] bcast_S128x16x1_S128x16x128_0_1_2 (broadcastInDim S128x16x1 ![0, 1] bcast_S128x16_S128x16x1_0_1 (transpose S128x16 [1, 0] b transposes_S16x128_S128x16_1_0)))))) shapeCasts_S32x128x16x128_S4096x2048)) bitsLt_bf16_f32

/-- What reaches the gate's product. -/
def gated (u g : FVec Ideal S4096x2048 .bf16) : FVec Ideal S32x128x16x128 .f32 :=
  shapeCast _ (mulf (extf .f32 u bitsLt_bf16_f32) (extf .f32 g bitsLt_bf16_f32)) shapeCasts_S4096x2048_S32x128x16x128

def dv (u : FVec Ideal S4096x2048 .bf16) (w : FVec Ideal S16x128x128 .f32) (g : FVec Ideal S4096x2048 .bf16) : FVec Ideal S4096x2048 .bf16 :=
  truncf .bf16 (shapeCast _ (transpose S32x128x16x128 [1, 3, 0, 2] (Host.dotGeneral dot_S16x32x128x128_S16x128x128_S16x32x128x128_3_1_12_2_0_0 none
    (transpose S16x32x128x128 [2, 0, 3, 1] (gated u g) transposes_S32x128x16x128_S16x32x128x128_2_0_3_1) (weights w)) transposes_S16x32x128x128_S32x128x16x128_1_3_0_2) shapeCasts_S32x128x16x128_S4096x2048) bitsLt_bf16_f32

def dw (u v g : FVec Ideal S4096x2048 .bf16) : FVec Ideal S16x128x128 .f32 :=
  select tril (Host.dotGeneral dot_S16x32x128x128_S32x128x16x128_S16x128x128_12_03_3_1_0_2 none
    (transpose S16x32x128x128 [2, 0, 3, 1] (gated u g) transposes_S32x128x16x128_S16x32x128x128_2_0_3_1)
    (shapeCast _ (extf .f32 v bitsLt_bf16_f32) shapeCasts_S4096x2048_S32x128x16x128)) (broadcastInDim S16x128x128 ![] bcast_S_S16x128x128 (constant S_ .f32 0x00000000#32))

def db (u g : FVec Ideal S4096x2048 .bf16) : FVec Ideal S16x128x128 .f32 :=
  broadcastInDim S16x128x128 ![0, 1, 2] bcast_S16x128x1_S16x128x128_0_1_2 (broadcastInDim S16x128x1 ![0, 1] bcast_S16x128_S16x128x1_0_1 (transpose S16x128 [1, 0]
    (Host.reduceAdd (broadcastInDim S128x16x1 ![0, 1] bcast_S128x16_S128x16x1_0_1 (Host.reduceAdd (Host.reduceAdd (shapeCast _ (Host.reduceAdd (gated u g) (constant S_ .f32 0x00000000#32) reducesTo_S32x128x16x128_S128x16x128_d0 h_S_) shapeCasts_S128x16x128_S1x128x16x128) (constant S_ .f32 0x00000000#32) reducesTo_S1x128x16x128_S128x16x128_d0 h_S_) (constant S_ .f32 0x00000000#32) reducesTo_S128x16x128_S128x16_d2 h_S_)) (constant S_ .f32 0x00000000#32) reducesTo_S128x16x1_S128x16_d2 h_S_) transposes_S128x16_S16x128_1_0))

/-! ## They are the call's -/

/-- The mask's comparison of two places in a chunk. -/
theorem sge_places : ∀ a b : Fin 128, IntOp.cmpi .sge (IntOp.addi (BitVec.ofNat 32 a.val) 0#32) (BitVec.ofNat 32 b.val) = if b ≤ a then 1#1 else 0#1 := by
  decide +kernel

theorem tril_at (h : Fin 16) (i j : Fin 128) : tril (ix3 h i j) = if j ≤ i then 1#1 else 0#1 := by
  refine Eq.trans (b := Scalar.select (IntOp.cmpi .sge (IntOp.addi (BitVec.ofNat 32 i.val) 0#32) (BitVec.ofNat 32 j.val)) 1#1 0#1) (by pointwise [tril]) ?_
  rw [sge_places]
  by_cases h : j ≤ i
  · rw [if_pos h]; rfl
  · rw [if_neg h]; rfl

/-- A choice by the mask. -/
theorem select_tril (h : Fin 16) (i j : Fin 128) (x y : EReal) : Scalar.select (tril (ix3 h i j)) x y = if j ≤ i then x else y := by
  rw [tril_at]
  by_cases h : j ≤ i
  · rw [if_pos h, if_pos h]; rfl
  · rw [if_neg h, if_neg h]; rfl

section
variable (u v g : FVec Ideal S4096x2048 .bf16) (w : FVec Ideal S16x128x128 .f32) (b : FVec Ideal S16x128 .f32)

theorem weights_at (h : Fin 16) (i j : Fin 128) : weights w (ix3 h i j) = low w h i j :=
  Eq.trans (by pointwise [weights]) (select_tril h i j (w (ix3 h i j)) 0)

theorem du_eq : du v w b g = duArr v w b g := by
  funext x
  idx_vars x
  pointwise [du, duArr]
  simp only [weights_at]
  refine congrArg (fun z : EReal => (g _ : EReal) * (z + (b _ : EReal))) (Finset.sum_congr rfl fun x _ => ?_)
  exact mul_comm (G := EReal) _ _

theorem dv_eq : dv u w g = dvArr u w g := by
  funext x
  idx_vars x
  pointwise [dv, dvArr, gated]
  simp only [weights_at]
  refine Finset.sum_congr rfl fun x _ => ?_
  exact (mul_comm (G := EReal) _ _).trans (congrArg (fun z : EReal => _ * z) (mul_comm (G := EReal) _ _))

theorem dw_eq : dw u v g = dwArr u v g := by
  funext x
  idx_vars x
  pointwise [dw, dwArr, gated]
  rw [select_tril]
  refine if_congr Iff.rfl (Finset.sum_congr rfl fun r _ => Finset.sum_congr rfl fun x _ => ?_) rfl
  exact congrArg (fun z : EReal => z * _) (mul_comm (G := EReal) _ _)

theorem db_eq : db u g = dbArr u g := by
  funext x
  idx_vars x
  pointwise [db, dbArr, gated]
  rw [Fin.sum_univ_one]
  refine Finset.sum_congr rfl fun x _ => ?_
  rw [Fin.sum_univ_one]
  exact Finset.sum_congr rfl fun r _ => mul_comm (G := EReal) _ _
end

end Cert.Reference4Ideal.Sgu

end
-- ==== Proof.FfnOut.Value.lean ====
/- What the feed-forward block's second product leaves in its two result arrays, over the extended reals. The grid
   walks, for every block of 512 result columns, the four blocks of 1024 rows; a point forms its whole block of the
   product, rounds it into the one result, and adds it, gated and halved, to the residual stream for the other. -/
module

public import proofs.«01_k».proof.Proof.Gen.Kernel5Ideal.Value
public import Idealize.ShloMosaic.Lib.Pipeline.ValueKit
public import Idealize.ShloMosaic.Lib.Pointwise
public import Idealize.ShloMosaic.Lib.Tactic

@[expose] public section

set_option maxRecDepth 16384

noncomputable section

namespace Cert.Kernel5Ideal.FfnOut

open Idealize.ShloMosaic Idealize.SL.Sem Idealize.ShloMosaic.TcCoe
open Cert.Kernel5Ideal Cert.Kernel5Ideal.Gen
open Idealize.ShloMosaic.Pipeline (Dat Cfg Window)
open scoped BigOperators

theorem lt (t : Fin cfg0.N) : t.val < 16 := lt_of_lt_of_eq t.isLt N_0

/-- At point `t` the row block is `t % 4` and the column block `t / 4`. -/
theorem index : ∀ t : Fin grid0.N,
    (win0_0.index t 0 = t.val % 4 ∧ win0_0.index t 1 = 0)
    ∧ (win0_1.index t 0 = 0 ∧ win0_1.index t 1 = 0 ∧ win0_1.index t 2 = t.val / 4)
    ∧ (win0_2.index t 0 = t.val % 4 ∧ win0_2.index t 1 = t.val / 4)
    ∧ (win0_3.index t 0 = 0 ∧ win0_3.index t 1 = t.val / 4)
    ∧ (win0_4.index t 0 = t.val % 4 ∧ win0_4.index t 1 = t.val / 4)
    ∧ (win0_5.index t 0 = t.val % 4 ∧ win0_5.index t 1 = t.val / 4) := by decide +kernel

/-- Row `r` of the row block of a point. -/
def rowAt (t : ℕ) (r : Fin 1024) : Fin 4096 := ⟨t % 4 * 1024 + r.val, by omega⟩
/-- Column `l` of the column block of a point. -/
def colAt (t : ℕ) (h : t < 16) (l : Fin 512) : Fin 2048 := ⟨t / 4 * 512 + l.val, by omega⟩

variable (m : (ℓ : Loc nD τ sig) → Buf (Elt Ideal) ℓ) (ρ : Dev nD → PrngReg) (c : Dev nD)

/-! ## The blocks a point is given -/

theorem act_block (t : Fin cfg0.N) (r : Fin 1024) (k : Fin 5632) :
    iblk m c 0 t (ix2 r k) = m ((c : Thread nD τ).loc main_arg0) (ix2 (rowAt t.val r) k) := by
  obtain ⟨⟨e0, e1⟩, -⟩ := index t
  refine congrArg (V m c main_arg0) (funext fun a => Fin.ext ?_)
  match a with
  | ⟨0, _⟩ => show win0_0.index t 0 * 1024 + 1 * r.val = t.val % 4 * 1024 + r.val; rw [e0]; omega
  | ⟨1, _⟩ => show win0_0.index t 1 * 5632 + 1 * k.val = k.val; rw [e1]; omega

theorem weight_block (t : Fin cfg0.N) (k : Fin 5632) (l : Fin 512) :
    iblk m c 1 t (ix3 0 k l) = m ((c : Thread nD τ).loc main_arg1) (ix3 0 k (colAt t.val (lt t) l)) := by
  obtain ⟨-, ⟨e0, e1, e2⟩, -⟩ := index t
  refine congrArg (V m c main_arg1) (funext fun a => Fin.ext ?_)
  match a with
  | ⟨0, _⟩ => show win0_1.index t 0 * 1 + 1 * 0 = 0; rw [e0]
  | ⟨1, _⟩ => show win0_1.index t 1 * 5632 + 1 * k.val = k.val; rw [e1]; omega
  | ⟨2, _⟩ => show win0_1.index t 2 * 512 + 1 * l.val = t.val / 4 * 512 + l.val; rw [e2]; omega

theorem stream_block (t : Fin cfg0.N) (r : Fin 1024) (l : Fin 512) :
    iblk m c 2 t (ix2 r l) = m ((c : Thread nD τ).loc main_arg2) (ix2 (rowAt t.val r) (colAt t.val (lt t) l)) := by
  obtain ⟨-, -, ⟨e0, e1⟩, -⟩ := index t
  refine congrArg (V m c main_arg2) (funext fun a => Fin.ext ?_)
  match a with
  | ⟨0, _⟩ => show win0_2.index t 0 * 1024 + 1 * r.val = t.val % 4 * 1024 + r.val; rw [e0]; omega
  | ⟨1, _⟩ => show win0_2.index t 1 * 512 + 1 * l.val = t.val / 4 * 512 + l.val; rw [e1]; omega

theorem gate_block (t : Fin cfg0.N) (l : Fin 512) :
    iblk m c 3 t (ix2 0 l) = m ((c : Thread nD τ).loc main_arg3) (ix2 0 (colAt t.val (lt t) l)) := by
  obtain ⟨-, -, -, ⟨e0, e1⟩, -⟩ := index t
  refine congrArg (V m c main_arg3) (funext fun a => Fin.ext ?_)
  match a with
  | ⟨0, _⟩ => show win0_3.index t 0 * 1 + 1 * 0 = 0; rw [e0]
  | ⟨1, _⟩ => show win0_3.index t 1 * 512 + 1 * l.val = t.val / 4 * 512 + l.val; rw [e1]; omega

/-! ## The results -/

/-- The product: row of the activation against column of the weights. -/
def prod (a : FVec Ideal S4096x5632 .bf16) (w : FVec Ideal S1x5632x2048 .bf16) : FVec Ideal S4096x2048 .bf16 := fun i =>
  ((∑ k : Fin 5632, a (ix2 (i 0) k) * w (ix3 0 k (i 1))) : EReal)

/-- The residual stream: what it was, and the gated product taken half on top. -/
def stream (a : FVec Ideal S4096x5632 .bf16) (w : FVec Ideal S1x5632x2048 .bf16) (x : FVec Ideal S4096x2048 .f32) (g : FVec Ideal S1x2048 .f32) :
    FVec Ideal S4096x2048 .f32 := fun i =>
  (x i + ((Ideal.ofBits .f32 0x3F000000#32 : EReal) * g (ix2 0 (i 1))) * ((∑ k : Fin 5632, a (ix2 (i 0) k) * w (ix3 0 k (i 1)))) : EReal)

/-! ## A point's two blocks -/

section

variable (a : FVec Ideal S1024x5632 .bf16) (w : FVec Ideal S1x5632x512 .bf16) (x : FVec Ideal S1024x512 .f32) (g : FVec Ideal S1x512 .f32)

theorem prod_point (r : Fin 1024) (l : Fin 512) :
    k0_pay2 (F := Ideal) a w (ix2 r l) = ((∑ k : Fin 5632, a (ix2 r k) * w (ix3 0 k l)) : EReal) := by
  pointwise [k0_pay2, k0_pay1]

theorem stream_point (r : Fin 1024) (l : Fin 512) :
    k0_pay3 (F := Ideal) a w x g (ix2 r l) = (x (ix2 r l) + ((Ideal.ofBits .f32 0x3F000000#32 : EReal) * g (ix2 0 l)) * ((∑ k : Fin 5632, a (ix2 r k) * w (ix3 0 k l))) : EReal) := by
  pointwise [k0_pay3, k0_pay1]

end

theorem emb_stream (t : Fin cfg0.N) (r : Fin 1024) (l : Fin 512) :
    ((cfg0.win 4).blk t).view.emb (ix2 r l : S1024x512.Idx) = (ix2 (rowAt t.val r) (colAt t.val (lt t) l) : S4096x2048.Idx) := by
  obtain ⟨e0, e1⟩ := (index t).2.2.2.2.1
  refine funext fun a => Fin.ext ?_
  match a with
  | ⟨0, _⟩ => show win0_4.index t 0 * 1024 + 1 * r.val = t.val % 4 * 1024 + r.val; rw [e0]; omega
  | ⟨1, _⟩ => show win0_4.index t 1 * 512 + 1 * l.val = t.val / 4 * 512 + l.val; rw [e1]; omega

theorem emb_prod (t : Fin cfg0.N) (r : Fin 1024) (l : Fin 512) :
    ((cfg0.win 5).blk t).view.emb (ix2 r l : S1024x512.Idx) = (ix2 (rowAt t.val r) (colAt t.val (lt t) l) : S4096x2048.Idx) := by
  obtain ⟨e0, e1⟩ := (index t).2.2.2.2.2
  refine funext fun a => Fin.ext ?_
  match a with
  | ⟨0, _⟩ => show win0_5.index t 0 * 1024 + 1 * r.val = t.val % 4 * 1024 + r.val; rw [e0]; omega
  | ⟨1, _⟩ => show win0_5.index t 1 * 512 + 1 * l.val = t.val / 4 * 512 + l.val; rw [e1]; omega

theorem stream_arr : (dats m 0 c).arrAt 4 cfg0.N = stream (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) (fun t _ (x : S1024x512.Idx) => ?_)
  show (dats m 0 c).after 4 t x = stream _ _ _ _ (((cfg0.win 4).blk t).view.emb x)
  rw [after0_4]
  frame_out
  idx_vars x
  rw [emb_stream, stream_point]
  simp only [act_block, weight_block, stream_block, gate_block]
  rfl

theorem prod_arr : (dats m 0 c).arrAt 5 cfg0.N = prod (m ((c : Thread nD τ).loc main_arg0)) (m ((c : Thread nD τ).loc main_arg1)) := by
  refine (dats m 0 c).arrAt_eq_of_covers 5 _ (by decide +kernel) (fun t _ (x : S1024x512.Idx) => ?_)
  show (dats m 0 c).after 5 t x = prod _ _ (((cfg0.win 5).blk t).view.emb x)
  rw [after0_5]
  frame_out
  idx_vars x
  rw [emb_prod, prod_point]
  simp only [act_block, weight_block]
  rfl

/-- Every execution ends with both results at these arrays of the arguments, and the arguments as they were. -/
theorem run : θ_run defs (onTc (τ := τ) (main (F := Ideal))) ⟨m, fun _ => 0, ρ⟩ fun r => ∀ c : Dev nD,
    r.2.mem ((c.tc : Thread nD τ).loc main_v0_0) = stream (m ((c : Thread nD τ).loc main_arg0)) (m ((c : Thread nD τ).loc main_arg1)) (m ((c : Thread nD τ).loc main_arg2)) (m ((c : Thread nD τ).loc main_arg3))
    ∧ r.2.mem ((c.tc : Thread nD τ).loc main_v0_1) = prod (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨(Value.post4 m r h c).trans (stream_arr m c), (Value.post5 m r h c).trans (prod_arr m c),
    Value.kept_main_arg0 m r h c, Value.kept_main_arg1 m r h c, Value.kept_main_arg2 m r h c, Value.kept_main_arg3 m r h c⟩) (run_main m ρ)

end Cert.Kernel5Ideal.FfnOut

end
-- ==== Proof.FfnOut.Reference.lean ====
/- The reference's residual stream and product, index by index, are the kernel's. -/
module

public import proofs.«01_k».proof.Proof.FfnOut.Value
public import proofs.«01_k».proof.Proof.Gen.Reference5Ideal.Run

@[expose] public section

set_option maxRecDepth 16384

noncomputable section

namespace Cert.Reference5Ideal.FfnOut

open Idealize.ShloMosaic Idealize.SL.Sem Idealize.ShloMosaic.TcCoe
open Cert.Reference5Ideal Cert.Reference5Ideal.Gen
open Cert.Kernel5Ideal.FfnOut (prod stream)
open scoped BigOperators

/-- The reference's product before rounding. -/
def wide (a : FVec Ideal S4096x5632 .bf16) (w : FVec Ideal S1x5632x2048 .bf16) : FVec Ideal S4096x2048 .f32 :=
  Host.dotGeneral dot_S4096x5632_S5632x2048_S4096x2048_1_0_0_1_n_n none (extf .f32 a bitsLt_bf16_f32) (extf .f32 (shapeCast _ w shapeCasts_S1x5632x2048_S5632x2048) bitsLt_bf16_f32)

/-- Its two results. -/
def outProd (a : FVec Ideal S4096x5632 .bf16) (w : FVec Ideal S1x5632x2048 .bf16) : FVec Ideal S4096x2048 .bf16 := truncf .bf16 (wide a w) bitsLt_bf16_f32

def outStream (a : FVec Ideal S4096x5632 .bf16) (w : FVec Ideal S1x5632x2048 .bf16) (x : FVec Ideal S4096x2048 .f32) (g : FVec Ideal S1x2048 .f32) : FVec Ideal S4096x2048 .f32 :=
  addf x (mulf (broadcastInDim S4096x2048 ![0, 1] bcast_S1x2048_S4096x2048_0_1 (mulf (broadcastInDim S1x2048 ![] bcast_S_S1x2048 (constant S_ .f32 0x3F000000#32)) g)) (wide a w))

theorem prod_eq (a : FVec Ideal S4096x5632 .bf16) (w : FVec Ideal S1x5632x2048 .bf16) : outProd a w = prod a w := by
  funext i
  idx_vars i
  pointwise [outProd, wide, prod]

theorem stream_eq (a : FVec Ideal S4096x5632 .bf16) (w : FVec Ideal S1x5632x2048 .bf16) (x : FVec Ideal S4096x2048 .f32) (g : FVec Ideal S1x2048 .f32) :
    outStream a w x g = stream a w x g := by
  funext i
  idx_vars i
  pointwise [outStream, wide, stream]

end Cert.Reference5Ideal.FfnOut

end
-- ==== Proof.Nt.Value.lean ====
/- What the gradient of a token mixer's activation ends at, over the extended reals. The grid walks, for each half of the
   weights' rows, the four blocks of 1024 rows of the incoming gradient; a point forms its whole block. -/
module

public import proofs.«01_k».proof.Proof.Gen.Kernel6Ideal.Value
public import Idealize.ShloMosaic.Lib.Pipeline.ValueKit
public import Idealize.ShloMosaic.Lib.Pointwise
public import Idealize.ShloMosaic.Lib.Tactic

@[expose] public section

set_option maxRecDepth 16384

noncomputable section

namespace Cert.Kernel6Ideal.Nt

open Idealize.ShloMosaic Idealize.SL.Sem Idealize.ShloMosaic.TcCoe
open Cert.Kernel6Ideal Cert.Kernel6Ideal.Gen
open Idealize.ShloMosaic.Pipeline (Dat Cfg Window)
open scoped BigOperators

theorem lt (t : Fin cfg0.N) : t.val < 8 := lt_of_lt_of_eq t.isLt N_0

/-- At point `t` the row block is `t % 4` and the half of the weights `t / 4`. -/
theorem index : ∀ t : Fin grid0.N,
    (win0_0.index t 0 = t.val % 4 ∧ win0_0.index t 1 = 0)
    ∧ (win0_1.index t 0 = 0 ∧ win0_1.index t 1 = t.val / 4 ∧ win0_1.index t 2 = 0)
    ∧ (win0_2.index t 0 = t.val % 4 ∧ win0_2.index t 1 = t.val / 4) := by decide +kernel

/-- Row `r` of the row block of a point. -/
def rowAt (t : ℕ) (r : Fin 1024) : Fin 4096 := ⟨t % 4 * 1024 + r.val, by omega⟩
/-- Row `l` of the half of the weights of a point: a column of the result. -/
def colAt (t : ℕ) (h : t < 8) (l : Fin 1024) : Fin 2048 := ⟨t / 4 * 1024 + l.val, by omega⟩

variable (m : (ℓ : Loc nD τ sig) → Buf (Elt Ideal) ℓ) (ρ : Dev nD → PrngReg) (c : Dev nD)

theorem dy_block (t : Fin cfg0.N) (r : Fin 1024) (k : Fin 2048) :
    iblk m c 0 t (ix2 r k) = m ((c : Thread nD τ).loc main_arg0) (ix2 (rowAt t.val r) k) := by
  obtain ⟨⟨e0, e1⟩, -⟩ := index t
  refine congrArg (V m c main_arg0) (funext fun a => Fin.ext ?_)
  match a with
  | ⟨0, _⟩ => show win0_0.index t 0 * 1024 + 1 * r.val = t.val % 4 * 1024 + r.val; rw [e0]; omega
  | ⟨1, _⟩ => show win0_0.index t 1 * 2048 + 1 * k.val = k.val; rw [e1]; omega

theorem weight_block (t : Fin cfg0.N) (l : Fin 1024) (k : Fin 2048) :
    iblk m c 1 t (ix3 0 l k) = m ((c : Thread nD τ).loc main_arg1) (ix3 0 (colAt t.val (lt t) l) k) := by
  obtain ⟨-, ⟨e0, e1, e2⟩, -⟩ := index t
  refine congrArg (V m c main_arg1) (funext fun a => Fin.ext ?_)
  match a with
  | ⟨0, _⟩ => show win0_1.index t 0 * 1 + 1 * 0 = 0; rw [e0]
  | ⟨1, _⟩ => show win0_1.index t 1 * 1024 + 1 * l.val = t.val / 4 * 1024 + l.val; rw [e1]; omega
  | ⟨2, _⟩ => show win0_1.index t 2 * 2048 + 1 * k.val = k.val; rw [e2]; omega

/-- The activation's gradient: row of the incoming gradient against row of the weights. -/
def actGrad (g : FVec Ideal S4096x2048 .bf16) (w : FVec Ideal S1x2048x2048 .bf16) : FVec Ideal S4096x2048 .bf16 := fun i =>
  (∑ k : Fin 2048, g (ix2 (i 0) k) * w (ix3 0 (i 1) k) : EReal)

theorem point (g : FVec Ideal S1024x2048 .bf16) (w : FVec Ideal S1x1024x2048 .bf16) (r l : Fin 1024) :
    k0_pay1 (F := Ideal) g w (ix2 r l) = (∑ k : Fin 2048, g (ix2 r k) * w (ix3 0 l k) : EReal) := by
  pointwise [k0_pay1]

theorem emb_out (t : Fin cfg0.N) (r l : Fin 1024) :
    ((cfg0.win 2).blk t).view.emb (ix2 r l : S1024x1024.Idx) = (ix2 (rowAt t.val r) (colAt t.val (lt t) l) : S4096x2048.Idx) := by
  obtain ⟨-, -, e0, e1⟩ := index t
  refine funext fun a => Fin.ext ?_
  match a with
  | ⟨0, _⟩ => show win0_2.index t 0 * 1024 + 1 * r.val = t.val % 4 * 1024 + r.val; rw [e0]; omega
  | ⟨1, _⟩ => show win0_2.index t 1 * 1024 + 1 * l.val = t.val / 4 * 1024 + l.val; rw [e1]; omega

/-- The result array after the run. -/
theorem grad_arr : (dats m 0 c).arrAt 2 cfg0.N = actGrad (m ((c : Thread nD τ).loc main_arg0)) (m ((c : Thread nD τ).loc main_arg1)) := by
  refine (dats m 0 c).arrAt_eq_of_covers 2 _ (by decide +kernel) (fun t _ (x : S1024x1024.Idx) => ?_)
  show (dats m 0 c).after 2 t x = actGrad _ _ (((cfg0.win 2).blk t).view.emb x)
  rw [after0_2]
  frame_out
  idx_vars x
  rw [emb_out, point]
  simp only [dy_block, weight_block]
  rfl

/-- Every execution ends with the result at `actGrad` of the arguments, and the arguments as they were. -/
theorem run : θ_run defs (onTc (τ := τ) (main (F := Ideal))) ⟨m, fun _ => 0, ρ⟩ fun r => ∀ c : Dev nD,
    r.2.mem ((c.tc : Thread nD τ).loc main_v0) = actGrad (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨(Value.post2 m r h c).trans (grad_arr m c), Value.kept_main_arg0 m r h c,
    Value.kept_main_arg1 m r h c⟩) (run_main m ρ)

end Cert.Kernel6Ideal.Nt

end
-- ==== Proof.Nt.Reference.lean ====
/- The reference's gradient of a token mixer's activation at an index is the kernel's sum. -/
module

public import proofs.«01_k».proof.Proof.Nt.Value
public import proofs.«01_k».proof.Proof.Gen.Reference6Ideal.Run

@[expose] public section

set_option maxRecDepth 16384

noncomputable section

namespace Cert.Reference6Ideal.Nt

open Idealize.ShloMosaic Idealize.SL.Sem Idealize.ShloMosaic.TcCoe
open Cert.Reference6Ideal Cert.Reference6Ideal.Gen
open Cert.Kernel6Ideal.Nt (actGrad)
open scoped BigOperators

/-- The reference's result from its two arguments. -/
def result (g : FVec Ideal S4096x2048 .bf16) (w : FVec Ideal S1x2048x2048 .bf16) : FVec Ideal S4096x2048 .bf16 :=
  truncf .bf16 (Host.dotGeneral dot_S4096x2048_S2048x2048_S4096x2048_1_1_0_0_n_n none (extf .f32 g bitsLt_bf16_f32)
    (extf .f32 (shapeCast _ w shapeCasts_S1x2048x2048_S2048x2048) bitsLt_bf16_f32)) bitsLt_bf16_f32

/-- It is the kernel's. -/
theorem result_eq (g : FVec Ideal S4096x2048 .bf16) (w : FVec Ideal S1x2048x2048 .bf16) : result g w = actGrad g w := by
  funext i
  idx_vars i
  pointwise [result, actGrad]

end Cert.Reference6Ideal.Nt

end
-- ==== Proof.EDwout.Value.lean ====
/- What the gradient of the second weight of a token mixer ends at, over the extended reals. The grid walks, for every
   block of result rows, the two halves of the rows of both arguments; a scratch keeps the first half's sum and the second half's
   point adds its own and writes out. So every entry of the result is one sum over all 4096 rows. -/
module

public import proofs.«01_k».proof.Proof.Gen.Kernel7Ideal.Value
public import proofs.«01_k».proof.Proof.Sums
public import Idealize.ShloMosaic.Lib.Pointwise
public import Idealize.ShloMosaic.Lib.Tactic

@[expose] public section

set_option maxRecDepth 16384

noncomputable section

namespace Cert.Kernel7Ideal.EDwout

open Idealize.ShloMosaic Idealize.SL.Sem Idealize.ShloMosaic.TcCoe
open Cert.Kernel7Ideal Cert.Kernel7Ideal.Gen
open Idealize.ShloMosaic.Pipeline (Dat Cfg Window)
open Cert.Sums (halfRow sum_halves)
open scoped BigOperators

theorem zero2 : (![0, 0] : Fin 2 → Nat) = fun _ => 0 := funext fun a => by fin_cases a <;> rfl
theorem zero3 : (![0, 0, 0] : Fin 3 → Nat) = fun _ => 0 := funext fun a => by fin_cases a <;> rfl

/-! ## The two kinds of point -/

section

variable (c : Dev nD) (i : grid0.Coords) (a3 : Memref sig .tc .vmem S2048x1024 .bf16) (h3 : a3.IsWhole)
  (a4 : Memref sig .tc .vmem S1x2048x2048 .bf16) (h4 : a4.IsWhole) (a5 : Memref sig .tc .vmem S1x1024x2048 .bf16) (h5 : a5.IsWhole)
  (a6 : Memref sig .tc .vmem S1024x2048 .f32) (h6 : a6.IsWhole)
  (x : Vec Ideal S2048x1024 .bf16) (y : Vec Ideal S1x2048x2048 .bf16) (s : Vec Ideal S1024x2048 .f32)

/-- The first half's point leaves its product over the cleared scratch. -/
theorem first_point (h0 : cond0_0 i) (h1 : ¬cond0_1 i) :
    sout0_A_0 c i a3 h3 a4 h4 a5 h5 a6 h6 h0 h1 x y = k0_pay2 (k0_pay1 (F := Ideal)) x y := by
  unfold sout0_A_0
  rw [View.read_writes_eq_canon _ _ _ (scover0_A_0 c i a3 h3 a4 h4 a5 h5 a6 h6 h0 h1 x y)]
  unfold kernelRun0_A
  dsimp only
  sl_unfold_words
  rw [View.canon_cons_unit_zero (S := S1024x2048) zero2, View.readCov_unit_zero (S := S1024x2048) _ zero2]
  simp only [View.readAt_eq_ld, h3.read_unread, h4.read_unread, View.ld_unit_zero (S := S2048x1024) zero2,
    View.ld_unit_zero (S := S1x2048x2048) zero3]

/-- The second half's point adds its product and writes the sum out, in the result's format. -/
theorem last_point (h0 : ¬cond0_0 i) (h1 : cond0_1 i) :
    out0_B_2 c i a3 h3 a4 h4 a5 h5 a6 h6 h0 h1 x y s = k0_pay3 (k0_pay2 s x y) := by
  unfold out0_B_2
  rw [View.read_writes_eq_canon _ _ _ (cover0_B_2 c i a3 h3 a4 h4 a5 h5 a6 h6 h0 h1 x y s)]
  unfold kernelRun0_B
  dsimp only
  sl_unfold_words
  rw [View.canon_unit_zero zero3, View.readCov_unit_zero (S := S1024x2048) _ zero2]
  simp only [View.readAt_eq_ld, h3.read_unread, h4.read_unread, h6.read_unread, View.ld_unit_zero (S := S2048x1024) zero2,
    View.ld_unit_zero (S := S1x2048x2048) zero3, View.ld_unit_zero (S := S1024x2048) zero2]

/-- Column `a` of one half of the rows against column `l` of the other argument's. -/
def halfDot (x : FVec Ideal S2048x1024 .bf16) (y : FVec Ideal S1x2048x2048 .bf16) (a : Fin 1024) (l : Fin 2048) : EReal :=
  ∑ k : Fin 2048, x (ix2 k a) * y (ix3 0 k l)

theorem step_at (a : Fin 1024) (l : Fin 2048) : k0_pay2 (F := Ideal) s x y (ix2 a l) = s (ix2 a l) + halfDot x y a l := by
  pointwise [k0_pay2, halfDot]

theorem clear_at (a : Fin 1024) (l : Fin 2048) : k0_pay1 (F := Ideal) (ix2 a l) = 0 := by
  pointwise [k0_pay1]

theorem write_at (u : Fin 1) (a : Fin 1024) (l : Fin 2048) : k0_pay3 (F := Ideal) s (ix3 u a l) = s (ix2 a l) := by
  pointwise [k0_pay3]

end

/-! ## The schedule -/

/-- At point `t` the half is `t % 2` and the block of result rows `t / 2`. -/
theorem index : ∀ t : Fin grid0.N,
    (win0_0.index t 0 = t.val % 2 ∧ win0_0.index t 1 = t.val / 2)
    ∧ (win0_1.index t 0 = 0 ∧ win0_1.index t 1 = t.val % 2 ∧ win0_1.index t 2 = 0)
    ∧ (win0_2.index t 0 = 0 ∧ win0_2.index t 1 = t.val / 2 ∧ win0_2.index t 2 = 0) := by decide +kernel

theorem lt (t : Fin cfg0.N) : t.val < 4 := lt_of_lt_of_eq t.isLt N_0
theorem ltq (t : Fin cfg0.N) : t.val / 2 < 2 := by have := lt t; omega

/-- Row `a` of the block `q` of result rows: a column of the first argument. -/
def colAt (q : ℕ) (h : q < 2) (a : Fin 1024) : Fin 2048 := ⟨q * 1024 + a.val, by omega⟩

variable (m : (ℓ : Loc nD τ sig) → Buf (Elt Ideal) ℓ) (ρ : Dev nD → PrngReg) (c : Dev nD)

theorem h_block (t : Fin cfg0.N) (k : Fin 2048) (a : Fin 1024) :
    iblk m c 0 t (ix2 k a) = m ((c : Thread nD τ).loc main_arg0) (ix2 (halfRow t.val k) (colAt (t.val / 2) (ltq t) a)) := by
  obtain ⟨⟨e0, e1⟩, -, -⟩ := index t
  refine (congrArg (V m c main_arg0) (funext fun a' => Fin.ext ?_)).trans (congrFun (V_main_arg0 m c) _)
  match a' with
  | ⟨0, _⟩ => show win0_0.index t 0 * 2048 + 1 * k.val = t.val % 2 * 2048 + k.val; rw [e0]; omega
  | ⟨1, _⟩ => show win0_0.index t 1 * 1024 + 1 * a.val = t.val / 2 * 1024 + a.val; rw [e1]; omega

/-- The second argument as the call gets it: with an axis of one in front. -/
theorem lead_axis (k : Fin 4096) (l : Fin 2048) : V m c main_v0 (ix3 0 k l) = m ((c : Thread nD τ).loc main_arg1) (ix2 k l) := by
  have e : V m c main_v0 = broadcastInDim S1x4096x2048 ![1, 2] bcast_S4096x2048_S1x4096x2048_1_2 (m ((c : Thread nD τ).loc main_arg1)) := by
    show StableHlo.after hostOps0 (fun b => m (c, b)) (Proc.devRef .tc main_v0) = _
    simp only [hostOps0, List.flatten_cons, List.flatten_nil, List.append_nil, List.cons_append, List.nil_append]
    after_results_simp <;> rfl
  rw [e]
  pointwise []

theorem g_block (t : Fin cfg0.N) (k : Fin 2048) (l : Fin 2048) :
    iblk m c 1 t (ix3 0 k l) = m ((c : Thread nD τ).loc main_arg1) (ix2 (halfRow t.val k) l) := by
  obtain ⟨-, ⟨e0, e1, e2⟩, -⟩ := index t
  refine (congrArg (V m c main_v0) (funext fun a' => Fin.ext ?_)).trans (lead_axis m c _ _)
  match a' with
  | ⟨0, _⟩ => show win0_1.index t 0 * 1 + 1 * 0 = 0; rw [e0]
  | ⟨1, _⟩ => show win0_1.index t 1 * 2048 + 1 * k.val = t.val % 2 * 2048 + k.val; rw [e1]; omega
  | ⟨2, _⟩ => show win0_1.index t 2 * 2048 + 1 * l.val = l.val; rw [e2]; omega

/-! ## The sums -/

/-- One row's term of the result's entry: block `q`, row `a`, column `l`. -/
def term (h : FVec Ideal S4096x2048 .bf16) (g : FVec Ideal S4096x2048 .bf16) (q : ℕ) (hq : q < 2) (a : Fin 1024) (l : Fin 2048)
    (k : Fin 4096) : EReal := h (ix2 k (colAt q hq a)) * g (ix2 k l)

/-- A point's product at an index is the sum of its half's terms. -/
theorem point_sum (t : Fin cfg0.N) (q s : ℕ) (hq : q < 2) (hs : s < 2) (ht : t.val = 2 * q + s) (a : Fin 1024) (l : Fin 2048) :
    halfDot (iblk m c 0 t : Vec Ideal S2048x1024 .bf16) (iblk m c 1 t) a l
      = ∑ k : Fin 2048, term (m ((c : Thread nD τ).loc main_arg0)) (m ((c : Thread nD τ).loc main_arg1)) q hq a l (halfRow s k) := by
  refine Finset.sum_congr rfl fun k _ => ?_
  have h1 : t.val / 2 = q := by omega
  have h2 : halfRow t.val k = halfRow s k := Fin.ext (by show t.val % 2 * 2048 + k.val = s % 2 * 2048 + k.val; omega)
  subst h1
  rw [h_block, g_block, h2]
  rfl

/-- After the first half the scratch holds its sum. -/
theorem scratch_at (q : ℕ) (hq : q < 2) (h : 2 * q < cfg0.N) (a : Fin 1024) (l : Fin 2048) :
    (outsAt0 m c (2 * q) h).2 (ix2 a l) = ∑ k : Fin 2048, term (m ((c : Thread nD τ).loc main_arg0)) (m ((c : Thread nD τ).loc main_arg1)) q hq a l (halfRow 0 k) := by
  rw [outsAt0_A m c ⟨2 * q, h⟩ (by dsimp only; omega) (by dsimp only; omega)]
  dsimp only
  rw [first_point, step_at, clear_at, zero_add, point_sum m c ⟨2 * q, h⟩ q 0 hq (by omega) rfl]

/-- The weight's gradient: one sum over all rows. -/
def dwout (h : FVec Ideal S4096x2048 .bf16) (g : FVec Ideal S4096x2048 .bf16) : FVec Ideal S1x2048x2048 .bf16 := fun i =>
  (∑ k : Fin 4096, h (ix2 k (i 1)) * g (ix2 k (i 2)) : EReal)

/-- What a point that writes out leaves in the result's block. -/
theorem written_at (t : Fin cfg0.N) (q : ℕ) (hq : q < 2) (ht : t.val = 2 * q + 1) (u : Fin 1) (a : Fin 1024) (l : Fin 2048) :
    (outsAt0 m c t.val t.isLt).1 (ix3 u a l) = ∑ k : Fin 4096, term (m ((c : Thread nD τ).loc main_arg0)) (m ((c : Thread nD τ).loc main_arg1)) q hq a l k := by
  rw [outsAt0_B m c t (by omega) (by omega)]
  dsimp only
  rw [last_point, write_at, step_at, point_sum m c t q 1 hq (by omega) ht, sum_halves]
  refine congrArg (fun v : EReal => v + _) ?_
  have e := scratch_at m c q hq (by have := t.isLt; omega) a l
  have hp : t.val - 1 = 2 * q := by omega
  simp only [hp]
  exact e

theorem emb_out (t : Fin cfg0.N) (u : Fin 1) (a : Fin 1024) (l : Fin 2048) :
    ((cfg0.win 2).blk t).view.emb (ix3 u a l : S1x1024x2048.Idx)
      = (ix3 u (colAt (t.val / 2) (ltq t) a) l : S1x2048x2048.Idx) := by
  obtain ⟨-, -, ⟨e0, e1, e2⟩⟩ := index t
  refine funext fun a' => Fin.ext ?_
  match a' with
  | ⟨0, _⟩ => show win0_2.index t 0 * 1 + 1 * u.val = u.val; rw [e0]; omega
  | ⟨1, _⟩ => show win0_2.index t 1 * 1024 + 1 * a.val = t.val / 2 * 1024 + a.val; rw [e1]; omega
  | ⟨2, _⟩ => show win0_2.index t 2 * 2048 + 1 * l.val = l.val; rw [e2]; omega

/-- The result array after the run. -/
theorem dwout_arr : (dats m 0 c).arrAt 2 cfg0.N = dwout (m ((c : Thread nD τ).loc main_arg0)) (m ((c : Thread nD τ).loc main_arg1)) := by
  refine (dats m 0 c).arrAt_eq_of_cover 2 _ (fun t hf => ?_) (fun i => (Value.covered_iff2 i).2 ?_)
  · have ht : t.val % 2 = 1 := (flush0_2 t).mp hf
    refine funext fun (x : S1x1024x2048.Idx) => ?_
    show (dats m 0 c).after 2 t x = dwout _ _ (((cfg0.win 2).blk t).view.emb x)
    rw [after0_2]
    idx_vars x
    rw [emb_out, written_at m c t (t.val / 2) (ltq t) (by omega)]
    rfl
  · have h0 : (i 0).val < 1 := (i 0).isLt
    have h1 : (i 1).val < 2048 := (i 1).isLt
    have h2 : (i 2).val < 2048 := (i 2).isLt
    omega

/-- Every execution ends with the result at `dwout` of the arguments, and the arguments as they were. -/
theorem run : θ_run defs (onTc (τ := τ) (main (F := Ideal))) ⟨m, fun _ => 0, ρ⟩ fun r => ∀ c : Dev nD,
    r.2.mem ((c.tc : Thread nD τ).loc main_v1) = dwout (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨(Value.post2 m r h c).trans (dwout_arr m c), Value.kept_main_arg0 m r h c,
    Value.kept_main_arg1 m r h c⟩) (run_main m ρ)

end Cert.Kernel7Ideal.EDwout

end
-- ==== Proof.EDwout.Reference.lean ====
/- The reference's gradient of the weight at an index is the kernel's sum over all rows. -/
module

public import proofs.«01_k».proof.Proof.EDwout.Value
public import proofs.«01_k».proof.Proof.Gen.Reference7Ideal.Run

@[expose] public section

set_option maxRecDepth 16384

noncomputable section

namespace Cert.Reference7Ideal.EDwout

open Idealize.ShloMosaic Idealize.SL.Sem Idealize.ShloMosaic.TcCoe
open Cert.Reference7Ideal Cert.Reference7Ideal.Gen
open Cert.Kernel7Ideal.EDwout (dwout)
open scoped BigOperators

/-- The reference's result from its two arguments. -/
def result (h : FVec Ideal S4096x2048 .bf16) (g : FVec Ideal S4096x2048 .bf16) : FVec Ideal S1x2048x2048 .bf16 :=
  truncf .bf16 (broadcastInDim S1x2048x2048 ![1, 2] bcast_S2048x2048_S1x2048x2048_1_2 (transpose S2048x2048 [1, 0]
    (Host.dotGeneral dot_S4096x2048_S4096x2048_S2048x2048_0_0_1_1_n_n none (extf .f32 g bitsLt_bf16_f32) (extf .f32 h bitsLt_bf16_f32))
    transposes_S2048x2048_S2048x2048_1_0)) bitsLt_bf16_f32

/-- It is the kernel's. -/
theorem result_eq (h : FVec Ideal S4096x2048 .bf16) (g : FVec Ideal S4096x2048 .bf16) : result h g = dwout h g := by
  funext i
  idx_vars i
  pointwise [result, dwout]
  exact Finset.sum_congr rfl fun k _ => mul_comm (G := EReal) _ _

end Cert.Reference7Ideal.EDwout

end
-- ==== Proof.GmIn.Value.lean ====
/- What the spatial gating mixer's first product leaves in its result array, over the extended reals. The grid walks, for each
   of the weights' 8 column blocks, the four blocks of 1024 rows; a point forms its whole block. -/
module

public import proofs.«01_k».proof.Proof.Gen.Kernel8Ideal.Value
public import Idealize.ShloMosaic.Lib.Pipeline.ValueKit
public import Idealize.ShloMosaic.Lib.Pointwise
public import Idealize.ShloMosaic.Lib.Tactic

@[expose] public section

set_option maxRecDepth 16384

noncomputable section

namespace Cert.Kernel8Ideal.GmIn

open Idealize.ShloMosaic Idealize.SL.Sem Idealize.ShloMosaic.TcCoe
open Cert.Kernel8Ideal Cert.Kernel8Ideal.Gen
open Idealize.ShloMosaic.Pipeline (Dat Cfg Window)
open scoped BigOperators

theorem lt (t : Fin cfg0.N) : t.val < 32 := lt_of_lt_of_eq t.isLt N_0

/-- At point `t` the row block is `t % 4` and the column block `t / 4`. -/
theorem index : ∀ t : Fin grid0.N,
    (win0_0.index t 0 = t.val % 4 ∧ win0_0.index t 1 = 0)
    ∧ (win0_1.index t 0 = t.val / 4 ∧ win0_1.index t 1 = 0 ∧ win0_1.index t 2 = 0)
    ∧ (win0_2.index t 0 = t.val % 4 ∧ win0_2.index t 1 = t.val / 4) := by decide +kernel

/-- Row `r` of the row block of a point. -/
def rowAt (t : ℕ) (r : Fin 1024) : Fin 4096 := ⟨t % 4 * 1024 + r.val, by omega⟩
/-- Column `l` of the column block of a point. -/
def colAt (t : ℕ) (h : t < 32) (l : Fin 512) : Fin 4096 := ⟨t / 4 * 512 + l.val, by omega⟩
/-- The weight block column `j` lies in, and its place there. -/
def blockOf (j : Fin 4096) : Fin 8 := ⟨j.val / 512, by omega⟩
def placeOf (j : Fin 4096) : Fin 512 := ⟨j.val % 512, by omega⟩

theorem blockOf_colAt (t : ℕ) (h : t < 32) (l : Fin 512) : blockOf (colAt t h l) = ⟨t / 4, by omega⟩ :=
  Fin.ext (by show (t / 4 * 512 + l.val) / 512 = t / 4; omega)
theorem placeOf_colAt (t : ℕ) (h : t < 32) (l : Fin 512) : placeOf (colAt t h l) = l :=
  Fin.ext (by show (t / 4 * 512 + l.val) % 512 = l.val; omega)

variable (m : (ℓ : Loc nD τ sig) → Buf (Elt Ideal) ℓ) (ρ : Dev nD → PrngReg) (c : Dev nD)

theorem h_block (t : Fin cfg0.N) (r : Fin 1024) (k : Fin 2048) :
    iblk m c 0 t (ix2 r k) = m ((c : Thread nD τ).loc main_arg0) (ix2 (rowAt t.val r) k) := by
  obtain ⟨⟨e0, e1⟩, -⟩ := index t
  refine congrArg (V m c main_arg0) (funext fun a => Fin.ext ?_)
  match a with
  | ⟨0, _⟩ => show win0_0.index t 0 * 1024 + 1 * r.val = t.val % 4 * 1024 + r.val; rw [e0]; omega
  | ⟨1, _⟩ => show win0_0.index t 1 * 2048 + 1 * k.val = k.val; rw [e1]; omega

theorem weight_block (t : Fin cfg0.N) (k : Fin 2048) (l : Fin 512) :
    iblk m c 1 t (ix3 0 k l) = m ((c : Thread nD τ).loc main_arg1) (ix3 (blockOf (colAt t.val (lt t) l)) k (placeOf (colAt t.val (lt t) l))) := by
  obtain ⟨-, ⟨e0, e1, e2⟩, -⟩ := index t
  rw [blockOf_colAt, placeOf_colAt]
  refine congrArg (V m c main_arg1) (funext fun a => Fin.ext ?_)
  match a with
  | ⟨0, _⟩ => show win0_1.index t 0 * 1 + 1 * 0 = t.val / 4; rw [e0]; omega
  | ⟨1, _⟩ => show win0_1.index t 1 * 2048 + 1 * k.val = k.val; rw [e1]; omega
  | ⟨2, _⟩ => show win0_1.index t 2 * 512 + 1 * l.val = l.val; rw [e2]; omega

/-- The product: row of `h` against column of the weights, whose 8 column blocks lie side by side. -/
def pre (h : FVec Ideal S4096x2048 .bf16) (w : FVec Ideal S8x2048x512 .bf16) : FVec Ideal S4096x4096 .bf16 := fun i =>
  (∑ k : Fin 2048, h (ix2 (i 0) k) * w (ix3 (blockOf (i 1)) k (placeOf (i 1))) : EReal)

theorem point (h : FVec Ideal S1024x2048 .bf16) (w : FVec Ideal S1x2048x512 .bf16) (r : Fin 1024) (l : Fin 512) :
    k0_pay1 (F := Ideal) h w (ix2 r l) = (∑ k : Fin 2048, h (ix2 r k) * w (ix3 0 k l) : EReal) := by
  pointwise [k0_pay1]

theorem emb_out (t : Fin cfg0.N) (r : Fin 1024) (l : Fin 512) :
    ((cfg0.win 2).blk t).view.emb (ix2 r l : S1024x512.Idx) = (ix2 (rowAt t.val r) (colAt t.val (lt t) l) : S4096x4096.Idx) := by
  obtain ⟨-, -, e0, e1⟩ := index t
  refine funext fun a => Fin.ext ?_
  match a with
  | ⟨0, _⟩ => show win0_2.index t 0 * 1024 + 1 * r.val = t.val % 4 * 1024 + r.val; rw [e0]; omega
  | ⟨1, _⟩ => show win0_2.index t 1 * 512 + 1 * l.val = t.val / 4 * 512 + l.val; rw [e1]; omega

/-- The result array after the run. -/
theorem pre_arr : (dats m 0 c).arrAt 2 cfg0.N = pre (m ((c : Thread nD τ).loc main_arg0)) (m ((c : Thread nD τ).loc main_arg1)) := by
  refine (dats m 0 c).arrAt_eq_of_covers 2 _ (by decide +kernel) (fun t _ (x : S1024x512.Idx) => ?_)
  show (dats m 0 c).after 2 t x = pre _ _ (((cfg0.win 2).blk t).view.emb x)
  rw [after0_2]
  frame_out
  idx_vars x
  rw [emb_out, point]
  simp only [h_block, weight_block]
  rfl

/-- Every execution ends with the result at `pre` of the arguments, and the arguments as they were. -/
theorem run : θ_run defs (onTc (τ := τ) (main (F := Ideal))) ⟨m, fun _ => 0, ρ⟩ fun r => ∀ c : Dev nD,
    r.2.mem ((c.tc : Thread nD τ).loc main_v0) = pre (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨(Value.post2 m r h c).trans (pre_arr m c),
    Value.kept_main_arg0 m r h c, Value.kept_main_arg1 m r h c⟩) (run_main m ρ)

end Cert.Kernel8Ideal.GmIn

end
-- ==== Proof.GmIn.Reference.lean ====
/- The reference's product with the unblocked weights at an index is the kernel's sum. -/
module

public import proofs.«01_k».proof.Proof.GmIn.Value
public import proofs.«01_k».proof.Proof.Gen.Reference8Ideal.Run

@[expose] public section

set_option maxRecDepth 16384

noncomputable section

namespace Cert.Reference8Ideal.GmIn

open Idealize.ShloMosaic Idealize.SL.Sem Idealize.ShloMosaic.TcCoe
open Cert.Reference8Ideal Cert.Reference8Ideal.Gen
open Cert.Kernel8Ideal.GmIn (pre blockOf placeOf)
open scoped BigOperators

/-- The reference's result from its arguments. -/
def result (h : FVec Ideal S4096x2048 .bf16) (w : FVec Ideal S8x2048x512 .bf16) : FVec Ideal S4096x4096 .bf16 :=
  truncf .bf16 (Host.dotGeneral dot_S4096x2048_S2048x4096_S4096x4096_1_0_0_1_n_n none (extf .f32 h bitsLt_bf16_f32)
    (shapeCast _ (transpose S2048x8x512 [1, 0, 2] (extf .f32 w bitsLt_bf16_f32) transposes_S8x2048x512_S2048x8x512_1_0_2) shapeCasts_S2048x8x512_S2048x4096)) bitsLt_bf16_f32

/-- It is the kernel's. -/
theorem result_eq (h : FVec Ideal S4096x2048 .bf16) (w : FVec Ideal S8x2048x512 .bf16) : result h w = pre h w := by
  funext i
  idx_vars i
  pointwise [result, pre, blockOf, placeOf]

end Cert.Reference8Ideal.GmIn

end
-- ==== Proof.CvIn.Value.lean ====
/- What the convolution mixer's first product and its bias leave in its result array, over the extended reals. The grid walks, for each
   of the weights' 8 column blocks, the four blocks of 1024 rows; a point forms its whole block. -/
module

public import proofs.«01_k».proof.Proof.Gen.Kernel9Ideal.Value
public import Idealize.ShloMosaic.Lib.Pipeline.ValueKit
public import Idealize.ShloMosaic.Lib.Pointwise
public import Idealize.ShloMosaic.Lib.Tactic

@[expose] public section

set_option maxRecDepth 16384

noncomputable section

namespace Cert.Kernel9Ideal.CvIn

open Idealize.ShloMosaic Idealize.SL.Sem Idealize.ShloMosaic.TcCoe
open Cert.Kernel9Ideal Cert.Kernel9Ideal.Gen
open Idealize.ShloMosaic.Pipeline (Dat Cfg Window)
open scoped BigOperators

theorem lt (t : Fin cfg0.N) : t.val < 32 := lt_of_lt_of_eq t.isLt N_0

/-- At point `t` the row block is `t % 4` and the column block `t / 4`. -/
theorem index : ∀ t : Fin grid0.N,
    (win0_0.index t 0 = t.val % 4 ∧ win0_0.index t 1 = 0)
    ∧ (win0_1.index t 0 = t.val / 4 ∧ win0_1.index t 1 = 0 ∧ win0_1.index t 2 = 0)
    ∧ (win0_2.index t 0 = 0 ∧ win0_2.index t 1 = t.val / 4)
    ∧ (win0_3.index t 0 = t.val % 4 ∧ win0_3.index t 1 = t.val / 4) := by decide +kernel

/-- Row `r` of the row block of a point. -/
def rowAt (t : ℕ) (r : Fin 1024) : Fin 4096 := ⟨t % 4 * 1024 + r.val, by omega⟩
/-- Column `l` of the column block of a point. -/
def colAt (t : ℕ) (h : t < 32) (l : Fin 512) : Fin 4096 := ⟨t / 4 * 512 + l.val, by omega⟩
/-- The weight block column `j` lies in, and its place there. -/
def blockOf (j : Fin 4096) : Fin 8 := ⟨j.val / 512, by omega⟩
def placeOf (j : Fin 4096) : Fin 512 := ⟨j.val % 512, by omega⟩

theorem blockOf_colAt (t : ℕ) (h : t < 32) (l : Fin 512) : blockOf (colAt t h l) = ⟨t / 4, by omega⟩ :=
  Fin.ext (by show (t / 4 * 512 + l.val) / 512 = t / 4; omega)
theorem placeOf_colAt (t : ℕ) (h : t < 32) (l : Fin 512) : placeOf (colAt t h l) = l :=
  Fin.ext (by show (t / 4 * 512 + l.val) % 512 = l.val; omega)

variable (m : (ℓ : Loc nD τ sig) → Buf (Elt Ideal) ℓ) (ρ : Dev nD → PrngReg) (c : Dev nD)

theorem h_block (t : Fin cfg0.N) (r : Fin 1024) (k : Fin 2048) :
    iblk m c 0 t (ix2 r k) = m ((c : Thread nD τ).loc main_arg0) (ix2 (rowAt t.val r) k) := by
  obtain ⟨⟨e0, e1⟩, -⟩ := index t
  refine congrArg (V m c main_arg0) (funext fun a => Fin.ext ?_)
  match a with
  | ⟨0, _⟩ => show win0_0.index t 0 * 1024 + 1 * r.val = t.val % 4 * 1024 + r.val; rw [e0]; omega
  | ⟨1, _⟩ => show win0_0.index t 1 * 2048 + 1 * k.val = k.val; rw [e1]; omega

theorem weight_block (t : Fin cfg0.N) (k : Fin 2048) (l : Fin 512) :
    iblk m c 1 t (ix3 0 k l) = m ((c : Thread nD τ).loc main_arg1) (ix3 (blockOf (colAt t.val (lt t) l)) k (placeOf (colAt t.val (lt t) l))) := by
  obtain ⟨-, ⟨e0, e1, e2⟩, -⟩ := index t
  rw [blockOf_colAt, placeOf_colAt]
  refine congrArg (V m c main_arg1) (funext fun a => Fin.ext ?_)
  match a with
  | ⟨0, _⟩ => show win0_1.index t 0 * 1 + 1 * 0 = t.val / 4; rw [e0]; omega
  | ⟨1, _⟩ => show win0_1.index t 1 * 2048 + 1 * k.val = k.val; rw [e1]; omega
  | ⟨2, _⟩ => show win0_1.index t 2 * 512 + 1 * l.val = l.val; rw [e2]; omega

theorem bias_block (t : Fin cfg0.N) (l : Fin 512) :
    iblk m c 2 t (ix2 0 l) = m ((c : Thread nD τ).loc main_arg2) (ix2 0 (colAt t.val (lt t) l)) := by
  obtain ⟨-, -, ⟨e0, e1⟩, -⟩ := index t
  refine congrArg (V m c main_arg2) (funext fun a => Fin.ext ?_)
  match a with
  | ⟨0, _⟩ => show win0_2.index t 0 * 1 + 1 * 0 = 0; rw [e0]
  | ⟨1, _⟩ => show win0_2.index t 1 * 512 + 1 * l.val = t.val / 4 * 512 + l.val; rw [e1]; omega

/-- The product and its bias: row of `h` against column of the weights, whose 8 column blocks lie side by side. -/
def pre (h : FVec Ideal S4096x2048 .bf16) (w : FVec Ideal S8x2048x512 .bf16) (b : FVec Ideal S1x4096 .f32) : FVec Ideal S4096x4096 .bf16 := fun i =>
  ((∑ k : Fin 2048, h (ix2 (i 0) k) * w (ix3 (blockOf (i 1)) k (placeOf (i 1)))) + b (ix2 0 (i 1)) : EReal)

theorem point (h : FVec Ideal S1024x2048 .bf16) (w : FVec Ideal S1x2048x512 .bf16) (b : FVec Ideal S1x512 .f32) (r : Fin 1024) (l : Fin 512) :
    k0_pay1 (F := Ideal) h w b (ix2 r l) = ((∑ k : Fin 2048, h (ix2 r k) * w (ix3 0 k l)) + b (ix2 0 l) : EReal) := by
  pointwise [k0_pay1]

theorem emb_out (t : Fin cfg0.N) (r : Fin 1024) (l : Fin 512) :
    ((cfg0.win 3).blk t).view.emb (ix2 r l : S1024x512.Idx) = (ix2 (rowAt t.val r) (colAt t.val (lt t) l) : S4096x4096.Idx) := by
  obtain ⟨-, -, -, e0, e1⟩ := index t
  refine funext fun a => Fin.ext ?_
  match a with
  | ⟨0, _⟩ => show win0_3.index t 0 * 1024 + 1 * r.val = t.val % 4 * 1024 + r.val; rw [e0]; omega
  | ⟨1, _⟩ => show win0_3.index t 1 * 512 + 1 * l.val = t.val / 4 * 512 + l.val; rw [e1]; omega

/-- The result array after the run. -/
theorem pre_arr : (dats m 0 c).arrAt 3 cfg0.N = pre (m ((c : Thread nD τ).loc main_arg0)) (m ((c : Thread nD τ).loc main_arg1)) (m ((c : Thread nD τ).loc main_arg2)) := by
  refine (dats m 0 c).arrAt_eq_of_covers 3 _ (by decide +kernel) (fun t _ (x : S1024x512.Idx) => ?_)
  show (dats m 0 c).after 3 t x = pre _ _ _ (((cfg0.win 3).blk t).view.emb x)
  rw [after0_3]
  frame_out
  idx_vars x
  rw [emb_out, point]
  simp only [h_block, weight_block, bias_block]
  rfl

/-- Every execution ends with the result at `pre` of the arguments, and the arguments as they were. -/
theorem run : θ_run defs (onTc (τ := τ) (main (F := Ideal))) ⟨m, fun _ => 0, ρ⟩ fun r => ∀ c : Dev nD,
    r.2.mem ((c.tc : Thread nD τ).loc main_v0) = pre (m ((c : Thread nD τ).loc main_arg0)) (m ((c : Thread nD τ).loc main_arg1)) (m ((c : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun r h c => ⟨(Value.post3 m r h c).trans (pre_arr m c),
    Value.kept_main_arg0 m r h c, Value.kept_main_arg1 m r h c, Value.kept_main_arg2 m r h c⟩) (run_main m ρ)

end Cert.Kernel9Ideal.CvIn

end
-- ==== Proof.CvIn.Reference.lean ====
/- The reference's product with the unblocked weights at an index is the kernel's sum. -/
module

public import proofs.«01_k».proof.Proof.CvIn.Value
public import proofs.«01_k».proof.Proof.Gen.Reference9Ideal.Run

@[expose] public section

set_option maxRecDepth 16384

noncomputable section

namespace Cert.Reference9Ideal.CvIn

open Idealize.ShloMosaic Idealize.SL.Sem Idealize.ShloMosaic.TcCoe
open Cert.Reference9Ideal Cert.Reference9Ideal.Gen
open Cert.Kernel9Ideal.CvIn (pre blockOf placeOf)
open scoped BigOperators

/-- The reference's result from its arguments. -/
def result (h : FVec Ideal S4096x2048 .bf16) (w : FVec Ideal S8x2048x512 .bf16) (b : FVec Ideal S1x4096 .f32) : FVec Ideal S4096x4096 .bf16 :=
  truncf .bf16 (addf (Host.dotGeneral dot_S4096x2048_S2048x4096_S4096x4096_1_0_0_1_n_n none (extf .f32 h bitsLt_bf16_f32)
    (shapeCast _ (transpose S2048x8x512 [1, 0, 2] (extf .f32 w bitsLt_bf16_f32) transposes_S8x2048x512_S2048x8x512_1_0_2) shapeCasts_S2048x8x512_S2048x4096))
    (broadcastInDim S4096x4096 ![0, 1] bcast_S1x4096_S4096x4096_0_1 b)) bitsLt_bf16_f32

/-- It is the kernel's. -/
theorem result_eq (h : FVec Ideal S4096x2048 .bf16) (w : FVec Ideal S8x2048x512 .bf16) (b : FVec Ideal S1x4096 .f32) : result h w b = pre h w b := by
  funext i
  idx_vars i
  pointwise [result, pre, blockOf, placeOf]

end Cert.Reference9Ideal.CvIn

end
-- ==== Proof.GmDwin.Value.lean ====
/- What the gradient of the first weight of the spatial gating mixer ends at, over the extended reals. The grid walks, for every
   block of result columns, the two halves of the rows of both arguments; a scratch keeps the first half's sum and the second half's
   point adds its own and writes out. So every entry of the result is one sum over all 4096 rows. -/
module

public import proofs.«01_k».proof.Proof.Gen.Kernel10Ideal.Value
public import proofs.«01_k».proof.Proof.Sums
public import Idealize.ShloMosaic.Lib.Pointwise
public import Idealize.ShloMosaic.Lib.Tactic

@[expose] public section

set_option maxRecDepth 16384

noncomputable section

namespace Cert.Kernel10Ideal.GmDwin

open Idealize.ShloMosaic Idealize.SL.Sem Idealize.ShloMosaic.TcCoe
open Cert.Kernel10Ideal Cert.Kernel10Ideal.Gen
open Idealize.ShloMosaic.Pipeline (Dat Cfg Window)
open Cert.Sums (halfRow sum_halves)
open scoped BigOperators

theorem zero2 : (![0, 0] : Fin 2 → Nat) = fun _ => 0 := funext fun a => by fin_cases a <;> rfl
theorem zero3 : (![0, 0, 0] : Fin 3 → Nat) = fun _ => 0 := funext fun a => by fin_cases a <;> rfl

/-! ## The two kinds of point -/

section

variable (c : Dev nD) (i : grid0.Coords) (a3 : Memref sig .tc .vmem S2048x2048 .bf16) (h3 : a3.IsWhole)
  (a4 : Memref sig .tc .vmem S1x2048x512 .bf16) (h4 : a4.IsWhole) (a5 : Memref sig .tc .vmem S1x2048x512 .bf16) (h5 : a5.IsWhole)
  (a6 : Memref sig .tc .vmem S2048x512 .f32) (h6 : a6.IsWhole)
  (x : Vec Ideal S2048x2048 .bf16) (y : Vec Ideal S1x2048x512 .bf16) (s : Vec Ideal S2048x512 .f32)

/-- The first half's point leaves its product over the cleared scratch. -/
theorem first_point (h0 : cond0_0 i) (h1 : ¬cond0_1 i) :
    sout0_A_0 c i a3 h3 a4 h4 a5 h5 a6 h6 h0 h1 x y = k0_pay2 (k0_pay1 (F := Ideal)) x y := by
  unfold sout0_A_0
  rw [View.read_writes_eq_canon _ _ _ (scover0_A_0 c i a3 h3 a4 h4 a5 h5 a6 h6 h0 h1 x y)]
  unfold kernelRun0_A
  dsimp only
  sl_unfold_words
  rw [View.canon_cons_unit_zero (S := S2048x512) zero2, View.readCov_unit_zero (S := S2048x512) _ zero2]
  simp only [View.readAt_eq_ld, h3.read_unread, h4.read_unread, View.ld_unit_zero (S := S2048x2048) zero2,
    View.ld_unit_zero (S := S1x2048x512) zero3]

/-- The second half's point adds its product and writes the sum out, in the result's format. -/
theorem last_point (h0 : ¬cond0_0 i) (h1 : cond0_1 i) :
    out0_B_2 c i a3 h3 a4 h4 a5 h5 a6 h6 h0 h1 x y s = k0_pay3 (k0_pay2 s x y) := by
  unfold out0_B_2
  rw [View.read_writes_eq_canon _ _ _ (cover0_B_2 c i a3 h3 a4 h4 a5 h5 a6 h6 h0 h1 x y s)]
  unfold kernelRun0_B
  dsimp only
  sl_unfold_words
  rw [View.canon_unit_zero zero3, View.readCov_unit_zero (S := S2048x512) _ zero2]
  simp only [View.readAt_eq_ld, h3.read_unread, h4.read_unread, h6.read_unread, View.ld_unit_zero (S := S2048x2048) zero2,
    View.ld_unit_zero (S := S1x2048x512) zero3, View.ld_unit_zero (S := S2048x512) zero2]

/-- Column `a` of one half of the rows against column `l` of the other argument's. -/
def halfDot (x : FVec Ideal S2048x2048 .bf16) (y : FVec Ideal S1x2048x512 .bf16) (a : Fin 2048) (l : Fin 512) : EReal :=
  ∑ k : Fin 2048, x (ix2 k a) * y (ix3 0 k l)

theorem step_at (a : Fin 2048) (l : Fin 512) : k0_pay2 (F := Ideal) s x y (ix2 a l) = s (ix2 a l) + halfDot x y a l := by
  pointwise [k0_pay2, halfDot]

theorem clear_at (a : Fin 2048) (l : Fin 512) : k0_pay1 (F := Ideal) (ix2 a l) = 0 := by
  pointwise [k0_pay1]

theorem write_at (u : Fin 1) (a : Fin 2048) (l : Fin 512) : k0_pay3 (F := Ideal) s (ix3 u a l) = s (ix2 a l) := by
  pointwise [k0_pay3]

end

/-! ## The schedule -/

/-- At point `t` the half is `t % 2` and the block of result columns `t / 2`. -/
theorem index : ∀ t : Fin grid0.N,
    (win0_0.index t 0 = t.val % 2 ∧ win0_0.index t 1 = 0)
    ∧ (win0_1.index t 0 = 0 ∧ win0_1.index t 1 = t.val % 2 ∧ win0_1.index t 2 = t.val / 2)
    ∧ (win0_2.index t 0 = t.val / 2 ∧ win0_2.index t 1 = 0 ∧ win0_2.index t 2 = 0) := by decide +kernel

theorem lt (t : Fin cfg0.N) : t.val < 16 := lt_of_lt_of_eq t.isLt N_0
theorem ltq (t : Fin cfg0.N) : t.val / 2 < 8 := by have := lt t; omega

/-- Place `l` of column block `q`. -/
def colAt (q : ℕ) (h : q < 8) (l : Fin 512) : Fin 4096 := ⟨q * 512 + l.val, by omega⟩

variable (m : (ℓ : Loc nD τ sig) → Buf (Elt Ideal) ℓ) (ρ : Dev nD → PrngReg) (c : Dev nD)

theorem h_block (t : Fin cfg0.N) (k : Fin 2048) (a : Fin 2048) :
    iblk m c 0 t (ix2 k a) = m ((c : Thread nD τ).loc main_arg0) (ix2 (halfRow t.val k) a) := by
  obtain ⟨⟨e0, e1⟩, -, -⟩ := index t
  refine (congrArg (V m c main_arg0) (funext fun a' => Fin.ext ?_)).trans (congrFun (V_main_arg0 m c) _)
  match a' with
  | ⟨0, _⟩ => show win0_0.index t 0 * 2048 + 1 * k.val = t.val % 2 * 2048 + k.val; rw [e0]; omega
  | ⟨1, _⟩ => show win0_0.index t 1 * 2048 + 1 * a.val = a.val; rw [e1]; omega

/-- The second argument as the call gets it: with an axis of one in front. -/
theorem lead_axis (k : Fin 4096) (l : Fin 4096) : V m c main_v0 (ix3 0 k l) = m ((c : Thread nD τ).loc main_arg1) (ix2 k l) := by
  have e : V m c main_v0 = broadcastInDim S1x4096x4096 ![1, 2] bcast_S4096x4096_S1x4096x4096_1_2 (m ((c : Thread nD τ).loc main_arg1)) := by
    show StableHlo.after hostOps0 (fun b => m (c, b)) (Proc.devRef .tc main_v0) = _
    simp only [hostOps0, List.flatten_cons, List.flatten_nil, List.append_nil, List.cons_append, List.nil_append]
    after_results_simp <;> rfl
  rw [e]
  pointwise []

theorem g_block (t : Fin cfg0.N) (k : Fin 2048) (l : Fin 512) :
    iblk m c 1 t (ix3 0 k l) = m ((c : Thread nD τ).loc main_arg1) (ix2 (halfRow t.val k) (colAt (t.val / 2) (ltq t) l)) := by
  obtain ⟨-, ⟨e0, e1, e2⟩, -⟩ := index t
  refine (congrArg (V m c main_v0) (funext fun a' => Fin.ext ?_)).trans (lead_axis m c _ _)
  match a' with
  | ⟨0, _⟩ => show win0_1.index t 0 * 1 + 1 * 0 = 0; rw [e0]
  | ⟨1, _⟩ => show win0_1.index t 1 * 2048 + 1 * k.val = t.val % 2 * 2048 + k.val; rw [e1]; omega
  | ⟨2, _⟩ => show win0_1.index t 2 * 512 + 1 * l.val = t.val / 2 * 512 + l.val; rw [e2]; omega

/-! ## The sums -/

/-- One row's term of the result's entry: block `q`, row `a`, column `l`. -/
def term (h : FVec Ideal S4096x2048 .bf16) (g : FVec Ideal S4096x4096 .bf16) (q : ℕ) (hq : q < 8) (a : Fin 2048) (l : Fin 512)
    (k : Fin 4096) : EReal := h (ix2 k a) * g (ix2 k (colAt q hq l))

/-- A point's product at an index is the sum of its half's terms. -/
theorem point_sum (t : Fin cfg0.N) (q s : ℕ) (hq : q < 8) (hs : s < 2) (ht : t.val = 2 * q + s) (a : Fin 2048) (l : Fin 512) :
    halfDot (iblk m c 0 t : Vec Ideal S2048x2048 .bf16) (iblk m c 1 t) a l
      = ∑ k : Fin 2048, term (m ((c : Thread nD τ).loc main_arg0)) (m ((c : Thread nD τ).loc main_arg1)) q hq a l (halfRow s k) := by
  refine Finset.sum_congr rfl fun k _ => ?_
  have h1 : t.val / 2 = q := by omega
  have h2 : halfRow t.val k = halfRow s k := Fin.ext (by show t.val % 2 * 2048 + k.val = s % 2 * 2048 + k.val; omega)
  subst h1
  rw [h_block, g_block, h2]
  rfl

/-- After the first half the scratch holds its sum. -/
theorem scratch_at (q : ℕ) (hq : q < 8) (h : 2 * q < cfg0.N) (a : Fin 2048) (l : Fin 512) :
    (outsAt0 m c (2 * q) h).2 (ix2 a l) = ∑ k : Fin 2048, term (m ((c : Thread nD τ).loc main_arg0)) (m ((c : Thread nD τ).loc main_arg1)) q hq a l (halfRow 0 k) := by
  rw [outsAt0_A m c ⟨2 * q, h⟩ (by dsimp only; omega) (by dsimp only; omega)]
  dsimp only
  rw [first_point, step_at, clear_at, zero_add, point_sum m c ⟨2 * q, h⟩ q 0 hq (by omega) rfl]

/-- The weight's gradient: one sum over all rows, in the column blocks the weight is held in. -/
def dwin (h : FVec Ideal S4096x2048 .bf16) (g : FVec Ideal S4096x4096 .bf16) : FVec Ideal S8x2048x512 .bf16 := fun i =>
  (∑ k : Fin 4096, h (ix2 k (i 1)) * g (ix2 k (colAt (i 0).val (i 0).isLt (i 2))) : EReal)

/-- What a point that writes out leaves in the result's block. -/
theorem written_at (t : Fin cfg0.N) (q : ℕ) (hq : q < 8) (ht : t.val = 2 * q + 1) (u : Fin 1) (a : Fin 2048) (l : Fin 512) :
    (outsAt0 m c t.val t.isLt).1 (ix3 u a l) = ∑ k : Fin 4096, term (m ((c : Thread nD τ).loc main_arg0)) (m ((c : Thread nD τ).loc main_arg1)) q hq a l k := by
  rw [outsAt0_B m c t (by omega) (by omega)]
  dsimp only
  rw [last_point, write_at, step_at, point_sum m c t q 1 hq (by omega) ht, sum_halves]
  refine congrArg (fun v : EReal => v + _) ?_
  have e := scratch_at m c q hq (by have := t.isLt; omega) a l
  have hp : t.val - 1 = 2 * q := by omega
  simp only [hp]
  exact e

theorem emb_out (t : Fin cfg0.N) (u : Fin 1) (a : Fin 2048) (l : Fin 512) :
    ((cfg0.win 2).blk t).view.emb (ix3 u a l : S1x2048x512.Idx)
      = (ix3 ⟨t.val / 2, ltq t⟩ a l : S8x2048x512.Idx) := by
  obtain ⟨-, -, ⟨e0, e1, e2⟩⟩ := index t
  refine funext fun a' => Fin.ext ?_
  match a' with
  | ⟨0, _⟩ => show win0_2.index t 0 * 1 + 1 * u.val = t.val / 2; rw [e0]; omega
  | ⟨1, _⟩ => show win0_2.index t 1 * 2048 + 1 * a.val = a.val; rw [e1]; omega
  | ⟨2, _⟩ => show win0_2.index t 2 * 512 + 1 * l.val = l.val; rw [e2]; omega

/-- The result array after the run. -/
theorem dwin_arr : (dats m 0 c).arrAt 2 cfg0.N = dwin (m ((c : Thread nD τ).loc main_arg0)) (m ((c : Thread nD τ).loc main_arg1)) := by
  refine (dats m 0 c).arrAt_eq_of_cover 2 _ (fun t hf => ?_) (fun i => (Value.covered_iff2 i).2 ?_)
  · have ht : t.val % 2 = 1 := (flush0_2 t).mp hf
    refine funext fun (x : S1x2048x512.Idx) => ?_
    show (dats m 0 c).after 2 t x = dwin _ _ (((cfg0.win 2).blk t).view.emb x)
    rw [after0_2]
    idx_vars x
    rw [emb_out, written_at m c t (t.val / 2) (ltq t) (by omega)]
    rfl
  · have h0 : (i 0).val < 8 := (i 0).isLt
    have h1 : (i 1).val < 2048 := (i 1).isLt
    have h2 : (i 2).val < 512 := (i 2).isLt
    omega

/-- Every execution ends with the result at `dwin` of the arguments, and the arguments as they were. -/
theorem run : θ_run defs (onTc (τ := τ) (main (F := Ideal))) ⟨m, fun _ => 0, ρ⟩ fun r => ∀ c : Dev nD,
    r.2.mem ((c.tc : Thread nD τ).loc main_v1) = dwin (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨(Value.post2 m r h c).trans (dwin_arr m c), Value.kept_main_arg0 m r h c,
    Value.kept_main_arg1 m r h c⟩) (run_main m ρ)

end Cert.Kernel10Ideal.GmDwin

end
-- ==== Proof.GmDwin.Reference.lean ====
/- The reference's gradient of the weight at an index is the kernel's sum over all rows. -/
module

public import proofs.«01_k».proof.Proof.GmDwin.Value
public import proofs.«01_k».proof.Proof.Gen.Reference10Ideal.Run

@[expose] public section

set_option maxRecDepth 16384

noncomputable section

namespace Cert.Reference10Ideal.GmDwin

open Idealize.ShloMosaic Idealize.SL.Sem Idealize.ShloMosaic.TcCoe
open Cert.Reference10Ideal Cert.Reference10Ideal.Gen
open Cert.Kernel10Ideal.GmDwin (dwin colAt)
open scoped BigOperators

/-- The reference's result from its two arguments. -/
def result (h : FVec Ideal S4096x2048 .bf16) (g : FVec Ideal S4096x4096 .bf16) : FVec Ideal S8x2048x512 .bf16 :=
  truncf .bf16 (transpose S8x2048x512 [1, 0, 2] (shapeCast _ (transpose S2048x4096 [1, 0]
    (Host.dotGeneral dot_S4096x4096_S4096x2048_S4096x2048_0_0_1_1_n_n none
      (extf .f32 g bitsLt_bf16_f32)
      (extf .f32 h bitsLt_bf16_f32)) transposes_S4096x2048_S2048x4096_1_0) shapeCasts_S2048x4096_S2048x8x512)
    transposes_S2048x8x512_S8x2048x512_1_0_2) bitsLt_bf16_f32

/-- It is the kernel's. -/
theorem result_eq (h : FVec Ideal S4096x2048 .bf16) (g : FVec Ideal S4096x4096 .bf16) : result h g = dwin h g := by
  funext i
  idx_vars i
  pointwise [result, dwin, colAt]
  exact Finset.sum_congr rfl fun k _ => mul_comm (G := EReal) _ _

end Cert.Reference10Ideal.GmDwin

end
-- ==== Proof.CvDwin.Value.lean ====
/- What the gradient of the first weight of the convolution mixer ends at, over the extended reals. The grid walks, for every
   block of result columns, the two halves of the rows of both arguments; a scratch keeps the first half's sum and the second half's
   point adds its own and writes out. So every entry of the result is one sum over all 4096 rows. -/
module

public import proofs.«01_k».proof.Proof.Gen.Kernel11Ideal.Value
public import proofs.«01_k».proof.Proof.Sums
public import Idealize.ShloMosaic.Lib.Pointwise
public import Idealize.ShloMosaic.Lib.Tactic

@[expose] public section

set_option maxRecDepth 16384

noncomputable section

namespace Cert.Kernel11Ideal.CvDwin

open Idealize.ShloMosaic Idealize.SL.Sem Idealize.ShloMosaic.TcCoe
open Cert.Kernel11Ideal Cert.Kernel11Ideal.Gen
open Idealize.ShloMosaic.Pipeline (Dat Cfg Window)
open Cert.Sums (halfRow sum_halves)
open scoped BigOperators

theorem zero2 : (![0, 0] : Fin 2 → Nat) = fun _ => 0 := funext fun a => by fin_cases a <;> rfl
theorem zero3 : (![0, 0, 0] : Fin 3 → Nat) = fun _ => 0 := funext fun a => by fin_cases a <;> rfl

/-! ## The two kinds of point -/

section

variable (c : Dev nD) (i : grid0.Coords) (a3 : Memref sig .tc .vmem S2048x2048 .bf16) (h3 : a3.IsWhole)
  (a4 : Memref sig .tc .vmem S1x2048x512 .bf16) (h4 : a4.IsWhole) (a5 : Memref sig .tc .vmem S1x2048x512 .bf16) (h5 : a5.IsWhole)
  (a6 : Memref sig .tc .vmem S2048x512 .f32) (h6 : a6.IsWhole)
  (x : Vec Ideal S2048x2048 .bf16) (y : Vec Ideal S1x2048x512 .bf16) (s : Vec Ideal S2048x512 .f32)

/-- The first half's point leaves its product over the cleared scratch. -/
theorem first_point (h0 : cond0_0 i) (h1 : ¬cond0_1 i) :
    sout0_A_0 c i a3 h3 a4 h4 a5 h5 a6 h6 h0 h1 x y = k0_pay2 (k0_pay1 (F := Ideal)) x y := by
  unfold sout0_A_0
  rw [View.read_writes_eq_canon _ _ _ (scover0_A_0 c i a3 h3 a4 h4 a5 h5 a6 h6 h0 h1 x y)]
  unfold kernelRun0_A
  dsimp only
  sl_unfold_words
  rw [View.canon_cons_unit_zero (S := S2048x512) zero2, View.readCov_unit_zero (S := S2048x512) _ zero2]
  simp only [View.readAt_eq_ld, h3.read_unread, h4.read_unread, View.ld_unit_zero (S := S2048x2048) zero2,
    View.ld_unit_zero (S := S1x2048x512) zero3]

/-- The second half's point adds its product and writes the sum out, in the result's format. -/
theorem last_point (h0 : ¬cond0_0 i) (h1 : cond0_1 i) :
    out0_B_2 c i a3 h3 a4 h4 a5 h5 a6 h6 h0 h1 x y s = k0_pay3 (k0_pay2 s x y) := by
  unfold out0_B_2
  rw [View.read_writes_eq_canon _ _ _ (cover0_B_2 c i a3 h3 a4 h4 a5 h5 a6 h6 h0 h1 x y s)]
  unfold kernelRun0_B
  dsimp only
  sl_unfold_words
  rw [View.canon_unit_zero zero3, View.readCov_unit_zero (S := S2048x512) _ zero2]
  simp only [View.readAt_eq_ld, h3.read_unread, h4.read_unread, h6.read_unread, View.ld_unit_zero (S := S2048x2048) zero2,
    View.ld_unit_zero (S := S1x2048x512) zero3, View.ld_unit_zero (S := S2048x512) zero2]

/-- Column `a` of one half of the rows against column `l` of the other argument's. -/
def halfDot (x : FVec Ideal S2048x2048 .bf16) (y : FVec Ideal S1x2048x512 .bf16) (a : Fin 2048) (l : Fin 512) : EReal :=
  ∑ k : Fin 2048, x (ix2 k a) * y (ix3 0 k l)

theorem step_at (a : Fin 2048) (l : Fin 512) : k0_pay2 (F := Ideal) s x y (ix2 a l) = s (ix2 a l) + halfDot x y a l := by
  pointwise [k0_pay2, halfDot]

theorem clear_at (a : Fin 2048) (l : Fin 512) : k0_pay1 (F := Ideal) (ix2 a l) = 0 := by
  pointwise [k0_pay1]

theorem write_at (u : Fin 1) (a : Fin 2048) (l : Fin 512) : k0_pay3 (F := Ideal) s (ix3 u a l) = s (ix2 a l) := by
  pointwise [k0_pay3]

end

/-! ## The schedule -/

/-- At point `t` the half is `t % 2` and the block of result columns `t / 2`, four on each half of the argument. -/
theorem index : ∀ t : Fin grid0.N,
    (win0_0.index t 0 = t.val % 2 ∧ win0_0.index t 1 = 0)
    ∧ (win0_1.index t 0 = t.val / 2 / 4 ∧ win0_1.index t 1 = t.val % 2 ∧ win0_1.index t 2 = t.val / 2 % 4)
    ∧ (win0_2.index t 0 = t.val / 2 ∧ win0_2.index t 1 = 0 ∧ win0_2.index t 2 = 0) := by decide +kernel

theorem lt (t : Fin cfg0.N) : t.val < 16 := lt_of_lt_of_eq t.isLt N_0
theorem ltq (t : Fin cfg0.N) : t.val / 2 < 8 := by have := lt t; omega

/-- Column block `q`, place `l` of the argument's two halves, four blocks on each. -/
def dpIx (q : ℕ) (h : q < 8) (k : Fin 4096) (l : Fin 512) : S2x4096x2048.Idx :=
  ix3 ⟨q / 4, by omega⟩ k ⟨q % 4 * 512 + l.val, by omega⟩

variable (m : (ℓ : Loc nD τ sig) → Buf (Elt Ideal) ℓ) (ρ : Dev nD → PrngReg) (c : Dev nD)

theorem h_block (t : Fin cfg0.N) (k : Fin 2048) (a : Fin 2048) :
    iblk m c 0 t (ix2 k a) = m ((c : Thread nD τ).loc main_arg0) (ix2 (halfRow t.val k) a) := by
  obtain ⟨⟨e0, e1⟩, -, -⟩ := index t
  refine (congrArg (V m c main_arg0) (funext fun a' => Fin.ext ?_)).trans (congrFun (V_main_arg0 m c) _)
  match a' with
  | ⟨0, _⟩ => show win0_0.index t 0 * 2048 + 1 * k.val = t.val % 2 * 2048 + k.val; rw [e0]; omega
  | ⟨1, _⟩ => show win0_0.index t 1 * 2048 + 1 * a.val = a.val; rw [e1]; omega

theorem g_block (t : Fin cfg0.N) (k : Fin 2048) (l : Fin 512) :
    iblk m c 1 t (ix3 0 k l) = m ((c : Thread nD τ).loc main_arg1) (dpIx (t.val / 2) (ltq t) (halfRow t.val k) l) := by
  obtain ⟨-, ⟨e0, e1, e2⟩, -⟩ := index t
  refine congrArg (V m c main_arg1) (funext fun a' => Fin.ext ?_)
  match a' with
  | ⟨0, _⟩ => show win0_1.index t 0 * 1 + 1 * 0 = t.val / 2 / 4; rw [e0]; omega
  | ⟨1, _⟩ => show win0_1.index t 1 * 2048 + 1 * k.val = t.val % 2 * 2048 + k.val; rw [e1]; omega
  | ⟨2, _⟩ => show win0_1.index t 2 * 512 + 1 * l.val = t.val / 2 % 4 * 512 + l.val; rw [e2]; omega

/-! ## The sums -/

/-- One row's term of the result's entry: block `q`, row `a`, column `l`. -/
def term (h : FVec Ideal S4096x2048 .bf16) (g : FVec Ideal S2x4096x2048 .bf16) (q : ℕ) (hq : q < 8) (a : Fin 2048) (l : Fin 512)
    (k : Fin 4096) : EReal := h (ix2 k a) * g (dpIx q hq k l)

/-- A point's product at an index is the sum of its half's terms. -/
theorem point_sum (t : Fin cfg0.N) (q s : ℕ) (hq : q < 8) (hs : s < 2) (ht : t.val = 2 * q + s) (a : Fin 2048) (l : Fin 512) :
    halfDot (iblk m c 0 t : Vec Ideal S2048x2048 .bf16) (iblk m c 1 t) a l
      = ∑ k : Fin 2048, term (m ((c : Thread nD τ).loc main_arg0)) (m ((c : Thread nD τ).loc main_arg1)) q hq a l (halfRow s k) := by
  refine Finset.sum_congr rfl fun k _ => ?_
  have h1 : t.val / 2 = q := by omega
  have h2 : halfRow t.val k = halfRow s k := Fin.ext (by show t.val % 2 * 2048 + k.val = s % 2 * 2048 + k.val; omega)
  subst h1
  rw [h_block, g_block, h2]
  rfl

/-- After the first half the scratch holds its sum. -/
theorem scratch_at (q : ℕ) (hq : q < 8) (h : 2 * q < cfg0.N) (a : Fin 2048) (l : Fin 512) :
    (outsAt0 m c (2 * q) h).2 (ix2 a l) = ∑ k : Fin 2048, term (m ((c : Thread nD τ).loc main_arg0)) (m ((c : Thread nD τ).loc main_arg1)) q hq a l (halfRow 0 k) := by
  rw [outsAt0_A m c ⟨2 * q, h⟩ (by dsimp only; omega) (by dsimp only; omega)]
  dsimp only
  rw [first_point, step_at, clear_at, zero_add, point_sum m c ⟨2 * q, h⟩ q 0 hq (by omega) rfl]

/-- The weight's gradient: one sum over all rows, in the column blocks the weight is held in. -/
def dwin (h : FVec Ideal S4096x2048 .bf16) (g : FVec Ideal S2x4096x2048 .bf16) : FVec Ideal S8x2048x512 .bf16 := fun i =>
  (∑ k : Fin 4096, h (ix2 k (i 1)) * g (dpIx (i 0).val (i 0).isLt k (i 2)) : EReal)

/-- What a point that writes out leaves in the result's block. -/
theorem written_at (t : Fin cfg0.N) (q : ℕ) (hq : q < 8) (ht : t.val = 2 * q + 1) (u : Fin 1) (a : Fin 2048) (l : Fin 512) :
    (outsAt0 m c t.val t.isLt).1 (ix3 u a l) = ∑ k : Fin 4096, term (m ((c : Thread nD τ).loc main_arg0)) (m ((c : Thread nD τ).loc main_arg1)) q hq a l k := by
  rw [outsAt0_B m c t (by omega) (by omega)]
  dsimp only
  rw [last_point, write_at, step_at, point_sum m c t q 1 hq (by omega) ht, sum_halves]
  refine congrArg (fun v : EReal => v + _) ?_
  have e := scratch_at m c q hq (by have := t.isLt; omega) a l
  have hp : t.val - 1 = 2 * q := by omega
  simp only [hp]
  exact e

theorem emb_out (t : Fin cfg0.N) (u : Fin 1) (a : Fin 2048) (l : Fin 512) :
    ((cfg0.win 2).blk t).view.emb (ix3 u a l : S1x2048x512.Idx)
      = (ix3 ⟨t.val / 2, ltq t⟩ a l : S8x2048x512.Idx) := by
  obtain ⟨-, -, ⟨e0, e1, e2⟩⟩ := index t
  refine funext fun a' => Fin.ext ?_
  match a' with
  | ⟨0, _⟩ => show win0_2.index t 0 * 1 + 1 * u.val = t.val / 2; rw [e0]; omega
  | ⟨1, _⟩ => show win0_2.index t 1 * 2048 + 1 * a.val = a.val; rw [e1]; omega
  | ⟨2, _⟩ => show win0_2.index t 2 * 512 + 1 * l.val = l.val; rw [e2]; omega

/-- The result array after the run. -/
theorem dwin_arr : (dats m 0 c).arrAt 2 cfg0.N = dwin (m ((c : Thread nD τ).loc main_arg0)) (m ((c : Thread nD τ).loc main_arg1)) := by
  refine (dats m 0 c).arrAt_eq_of_cover 2 _ (fun t hf => ?_) (fun i => (Value.covered_iff2 i).2 ?_)
  · have ht : t.val % 2 = 1 := (flush0_2 t).mp hf
    refine funext fun (x : S1x2048x512.Idx) => ?_
    show (dats m 0 c).after 2 t x = dwin _ _ (((cfg0.win 2).blk t).view.emb x)
    rw [after0_2]
    idx_vars x
    rw [emb_out, written_at m c t (t.val / 2) (ltq t) (by omega)]
    rfl
  · have h0 : (i 0).val < 8 := (i 0).isLt
    have h1 : (i 1).val < 2048 := (i 1).isLt
    have h2 : (i 2).val < 512 := (i 2).isLt
    omega

/-- Every execution ends with the result at `dwin` of the arguments, and the arguments as they were. -/
theorem run : θ_run defs (onTc (τ := τ) (main (F := Ideal))) ⟨m, fun _ => 0, ρ⟩ fun r => ∀ c : Dev nD,
    r.2.mem ((c.tc : Thread nD τ).loc main_v0) = dwin (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨(Value.post2 m r h c).trans (dwin_arr m c), Value.kept_main_arg0 m r h c,
    Value.kept_main_arg1 m r h c⟩) (run_main m ρ)

end Cert.Kernel11Ideal.CvDwin

end
-- ==== Proof.CvDwin.Reference.lean ====
/- The reference's gradient of the weight at an index is the kernel's sum over all rows. -/
module

public import proofs.«01_k».proof.Proof.CvDwin.Value
public import proofs.«01_k».proof.Proof.Gen.Reference11Ideal.Run

@[expose] public section

set_option maxRecDepth 16384

noncomputable section

namespace Cert.Reference11Ideal.CvDwin

open Idealize.ShloMosaic Idealize.SL.Sem Idealize.ShloMosaic.TcCoe
open Cert.Reference11Ideal Cert.Reference11Ideal.Gen
open Cert.Kernel11Ideal.CvDwin (dwin dpIx)
open scoped BigOperators

/-- The reference's result from its two arguments. -/
def result (h : FVec Ideal S4096x2048 .bf16) (g : FVec Ideal S2x4096x2048 .bf16) : FVec Ideal S8x2048x512 .bf16 :=
  truncf .bf16 (transpose S8x2048x512 [1, 0, 2] (shapeCast _ (transpose S2048x4096 [1, 0]
    (Host.dotGeneral dot_S4096x4096_S4096x2048_S4096x2048_0_0_1_1_n_n none
      (extf .f32 (concatenate S4096x4096 1
        [⟨S4096x2048, (shapeCast _ (extractStridedSlice S1x4096x2048 ![0, 0, 0] g slices_S2x4096x2048_S1x4096x2048_0_0_0) shapeCasts_S1x4096x2048_S4096x2048)⟩,
          ⟨S4096x2048, (shapeCast _ (extractStridedSlice S1x4096x2048 ![1, 0, 0] g slices_S2x4096x2048_S1x4096x2048_1_0_0) shapeCasts_S1x4096x2048_S4096x2048)⟩]
        concatenates_S4096x2048_S4096x2048_S4096x4096_d1) bitsLt_bf16_f32)
      (extf .f32 h bitsLt_bf16_f32)) transposes_S4096x2048_S2048x4096_1_0) shapeCasts_S2048x4096_S2048x8x512)
    transposes_S2048x8x512_S8x2048x512_1_0_2) bitsLt_bf16_f32

/-- It is the kernel's. -/
theorem result_eq (h : FVec Ideal S4096x2048 .bf16) (g : FVec Ideal S2x4096x2048 .bf16) : result h g = dwin h g := by
  funext i
  idx_vars i
  pointwise [result, dwin, dpIx]
  refine Finset.sum_congr rfl fun k _ => (mul_comm (G := EReal) _ _).trans (congrArg (fun v : EReal => h (ix2 k i1) * v) ?_)
  have hi : i0.val < 8 := i0.isLt
  have hl : i2.val < 512 := i2.isLt
  by_cases hlt : i0.val * 512 + i2.val < 2048
  · rw [dif_pos hlt]
    refine congrArg g (congrArg₂ (fun (a : Fin 2) (b : Fin 2048) => (ix3 a k b : S2x4096x2048.Idx)) (Fin.ext ?_) (Fin.ext ?_))
    · show 0 = i0.val / 4; omega
    · show i0.val * 512 + i2.val = i0.val % 4 * 512 + i2.val; omega
  · rw [dif_neg hlt]
    refine congrArg g (congrArg₂ (fun (a : Fin 2) (b : Fin 2048) => (ix3 a k b : S2x4096x2048.Idx)) (Fin.ext ?_) (Fin.ext ?_))
    · show 1 = i0.val / 4; omega
    · show i0.val * 512 + i2.val - 2048 = i0.val % 4 * 512 + i2.val; omega

end Cert.Reference11Ideal.CvDwin

end
-- ==== Proof.GmOut.Value.lean ====
/- What the spatial gating mixer's second product leaves in its two result arrays, over the extended reals. The grid
   walks, for every block of 512 result columns, the four blocks of 1024 rows; a point forms its whole block of the
   product, rounds it into the one result, and adds it, gated, to the residual stream for the other. -/
module

public import proofs.«01_k».proof.Proof.Gen.Kernel12Ideal.Value
public import Idealize.ShloMosaic.Lib.Pipeline.ValueKit
public import Idealize.ShloMosaic.Lib.Pointwise
public import Idealize.ShloMosaic.Lib.Tactic

@[expose] public section

set_option maxRecDepth 16384

noncomputable section

namespace Cert.Kernel12Ideal.GmOut

open Idealize.ShloMosaic Idealize.SL.Sem Idealize.ShloMosaic.TcCoe
open Cert.Kernel12Ideal Cert.Kernel12Ideal.Gen
open Idealize.ShloMosaic.Pipeline (Dat Cfg Window)
open scoped BigOperators

theorem lt (t : Fin cfg0.N) : t.val < 16 := lt_of_lt_of_eq t.isLt N_0

/-- At point `t` the row block is `t % 4` and the column block `t / 4`. -/
theorem index : ∀ t : Fin grid0.N,
    (win0_0.index t 0 = t.val % 4 ∧ win0_0.index t 1 = 0)
    ∧ (win0_1.index t 0 = 0 ∧ win0_1.index t 1 = 0 ∧ win0_1.index t 2 = t.val / 4)
    ∧ (win0_2.index t 0 = t.val % 4 ∧ win0_2.index t 1 = t.val / 4)
    ∧ (win0_3.index t 0 = 0 ∧ win0_3.index t 1 = t.val / 4)
    ∧ (win0_4.index t 0 = t.val % 4 ∧ win0_4.index t 1 = t.val / 4)
    ∧ (win0_5.index t 0 = t.val % 4 ∧ win0_5.index t 1 = t.val / 4) := by decide +kernel

/-- Row `r` of the row block of a point. -/
def rowAt (t : ℕ) (r : Fin 1024) : Fin 4096 := ⟨t % 4 * 1024 + r.val, by omega⟩
/-- Column `l` of the column block of a point. -/
def colAt (t : ℕ) (h : t < 16) (l : Fin 512) : Fin 2048 := ⟨t / 4 * 512 + l.val, by omega⟩

variable (m : (ℓ : Loc nD τ sig) → Buf (Elt Ideal) ℓ) (ρ : Dev nD → PrngReg) (c : Dev nD)

/-! ## The blocks a point is given -/

theorem act_block (t : Fin cfg0.N) (r : Fin 1024) (k : Fin 2048) :
    iblk m c 0 t (ix2 r k) = m ((c : Thread nD τ).loc main_arg0) (ix2 (rowAt t.val r) k) := by
  obtain ⟨⟨e0, e1⟩, -⟩ := index t
  refine congrArg (V m c main_arg0) (funext fun a => Fin.ext ?_)
  match a with
  | ⟨0, _⟩ => show win0_0.index t 0 * 1024 + 1 * r.val = t.val % 4 * 1024 + r.val; rw [e0]; omega
  | ⟨1, _⟩ => show win0_0.index t 1 * 2048 + 1 * k.val = k.val; rw [e1]; omega

theorem weight_block (t : Fin cfg0.N) (k : Fin 2048) (l : Fin 512) :
    iblk m c 1 t (ix3 0 k l) = m ((c : Thread nD τ).loc main_arg1) (ix3 0 k (colAt t.val (lt t) l)) := by
  obtain ⟨-, ⟨e0, e1, e2⟩, -⟩ := index t
  refine congrArg (V m c main_arg1) (funext fun a => Fin.ext ?_)
  match a with
  | ⟨0, _⟩ => show win0_1.index t 0 * 1 + 1 * 0 = 0; rw [e0]
  | ⟨1, _⟩ => show win0_1.index t 1 * 2048 + 1 * k.val = k.val; rw [e1]; omega
  | ⟨2, _⟩ => show win0_1.index t 2 * 512 + 1 * l.val = t.val / 4 * 512 + l.val; rw [e2]; omega

theorem stream_block (t : Fin cfg0.N) (r : Fin 1024) (l : Fin 512) :
    iblk m c 2 t (ix2 r l) = m ((c : Thread nD τ).loc main_arg2) (ix2 (rowAt t.val r) (colAt t.val (lt t) l)) := by
  obtain ⟨-, -, ⟨e0, e1⟩, -⟩ := index t
  refine congrArg (V m c main_arg2) (funext fun a => Fin.ext ?_)
  match a with
  | ⟨0, _⟩ => show win0_2.index t 0 * 1024 + 1 * r.val = t.val % 4 * 1024 + r.val; rw [e0]; omega
  | ⟨1, _⟩ => show win0_2.index t 1 * 512 + 1 * l.val = t.val / 4 * 512 + l.val; rw [e1]; omega

theorem gate_block (t : Fin cfg0.N) (l : Fin 512) :
    iblk m c 3 t (ix2 0 l) = m ((c : Thread nD τ).loc main_arg3) (ix2 0 (colAt t.val (lt t) l)) := by
  obtain ⟨-, -, -, ⟨e0, e1⟩, -⟩ := index t
  refine congrArg (V m c main_arg3) (funext fun a => Fin.ext ?_)
  match a with
  | ⟨0, _⟩ => show win0_3.index t 0 * 1 + 1 * 0 = 0; rw [e0]
  | ⟨1, _⟩ => show win0_3.index t 1 * 512 + 1 * l.val = t.val / 4 * 512 + l.val; rw [e1]; omega

/-! ## The results -/

/-- The product: row of the activation against column of the weights. -/
def prod (a : FVec Ideal S4096x2048 .bf16) (w : FVec Ideal S1x2048x2048 .bf16) : FVec Ideal S4096x2048 .bf16 := fun i =>
  ((∑ k : Fin 2048, a (ix2 (i 0) k) * w (ix3 0 k (i 1))) : EReal)

/-- The residual stream: what it was, and the gated product on top. -/
def stream (a : FVec Ideal S4096x2048 .bf16) (w : FVec Ideal S1x2048x2048 .bf16) (x : FVec Ideal S4096x2048 .f32) (g : FVec Ideal S1x2048 .f32) :
    FVec Ideal S4096x2048 .f32 := fun i =>
  (x i + g (ix2 0 (i 1)) * ((∑ k : Fin 2048, a (ix2 (i 0) k) * w (ix3 0 k (i 1)))) : EReal)

/-! ## A point's two blocks -/

section

variable (a : FVec Ideal S1024x2048 .bf16) (w : FVec Ideal S1x2048x512 .bf16) (x : FVec Ideal S1024x512 .f32) (g : FVec Ideal S1x512 .f32)

theorem prod_point (r : Fin 1024) (l : Fin 512) :
    k0_pay2 (F := Ideal) a w (ix2 r l) = ((∑ k : Fin 2048, a (ix2 r k) * w (ix3 0 k l)) : EReal) := by
  pointwise [k0_pay2, k0_pay1]

theorem stream_point (r : Fin 1024) (l : Fin 512) :
    k0_pay3 (F := Ideal) a w x g (ix2 r l) = (x (ix2 r l) + g (ix2 0 l) * ((∑ k : Fin 2048, a (ix2 r k) * w (ix3 0 k l))) : EReal) := by
  pointwise [k0_pay3, k0_pay1]

end

theorem emb_stream (t : Fin cfg0.N) (r : Fin 1024) (l : Fin 512) :
    ((cfg0.win 4).blk t).view.emb (ix2 r l : S1024x512.Idx) = (ix2 (rowAt t.val r) (colAt t.val (lt t) l) : S4096x2048.Idx) := by
  obtain ⟨e0, e1⟩ := (index t).2.2.2.2.1
  refine funext fun a => Fin.ext ?_
  match a with
  | ⟨0, _⟩ => show win0_4.index t 0 * 1024 + 1 * r.val = t.val % 4 * 1024 + r.val; rw [e0]; omega
  | ⟨1, _⟩ => show win0_4.index t 1 * 512 + 1 * l.val = t.val / 4 * 512 + l.val; rw [e1]; omega

theorem emb_prod (t : Fin cfg0.N) (r : Fin 1024) (l : Fin 512) :
    ((cfg0.win 5).blk t).view.emb (ix2 r l : S1024x512.Idx) = (ix2 (rowAt t.val r) (colAt t.val (lt t) l) : S4096x2048.Idx) := by
  obtain ⟨e0, e1⟩ := (index t).2.2.2.2.2
  refine funext fun a => Fin.ext ?_
  match a with
  | ⟨0, _⟩ => show win0_5.index t 0 * 1024 + 1 * r.val = t.val % 4 * 1024 + r.val; rw [e0]; omega
  | ⟨1, _⟩ => show win0_5.index t 1 * 512 + 1 * l.val = t.val / 4 * 512 + l.val; rw [e1]; omega

theorem stream_arr : (dats m 0 c).arrAt 4 cfg0.N = stream (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) (fun t _ (x : S1024x512.Idx) => ?_)
  show (dats m 0 c).after 4 t x = stream _ _ _ _ (((cfg0.win 4).blk t).view.emb x)
  rw [after0_4]
  frame_out
  idx_vars x
  rw [emb_stream, stream_point]
  simp only [act_block, weight_block, stream_block, gate_block]
  rfl

theorem prod_arr : (dats m 0 c).arrAt 5 cfg0.N = prod (m ((c : Thread nD τ).loc main_arg0)) (m ((c : Thread nD τ).loc main_arg1)) := by
  refine (dats m 0 c).arrAt_eq_of_covers 5 _ (by decide +kernel) (fun t _ (x : S1024x512.Idx) => ?_)
  show (dats m 0 c).after 5 t x = prod _ _ (((cfg0.win 5).blk t).view.emb x)
  rw [after0_5]
  frame_out
  idx_vars x
  rw [emb_prod, prod_point]
  simp only [act_block, weight_block]
  rfl

/-- Every execution ends with both results at these arrays of the arguments, and the arguments as they were. -/
theorem run : θ_run defs (onTc (τ := τ) (main (F := Ideal))) ⟨m, fun _ => 0, ρ⟩ fun r => ∀ c : Dev nD,
    r.2.mem ((c.tc : Thread nD τ).loc main_v0_0) = stream (m ((c : Thread nD τ).loc main_arg0)) (m ((c : Thread nD τ).loc main_arg1)) (m ((c : Thread nD τ).loc main_arg2)) (m ((c : Thread nD τ).loc main_arg3))
    ∧ r.2.mem ((c.tc : Thread nD τ).loc main_v0_1) = prod (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨(Value.post4 m r h c).trans (stream_arr m c), (Value.post5 m r h c).trans (prod_arr m c),
    Value.kept_main_arg0 m r h c, Value.kept_main_arg1 m r h c, Value.kept_main_arg2 m r h c, Value.kept_main_arg3 m r h c⟩) (run_main m ρ)

end Cert.Kernel12Ideal.GmOut

end
-- ==== Proof.GmOut.Reference.lean ====
/- The reference's residual stream and product, index by index, are the kernel's. -/
module

public import proofs.«01_k».proof.Proof.GmOut.Value
public import proofs.«01_k».proof.Proof.Gen.Reference12Ideal.Run

@[expose] public section

set_option maxRecDepth 16384

noncomputable section

namespace Cert.Reference12Ideal.GmOut

open Idealize.ShloMosaic Idealize.SL.Sem Idealize.ShloMosaic.TcCoe
open Cert.Reference12Ideal Cert.Reference12Ideal.Gen
open Cert.Kernel12Ideal.GmOut (prod stream)
open scoped BigOperators

/-- The reference's product before rounding. -/
def wide (a : FVec Ideal S4096x2048 .bf16) (w : FVec Ideal S1x2048x2048 .bf16) : FVec Ideal S4096x2048 .f32 :=
  Host.dotGeneral dot_S4096x2048_S2048x2048_S4096x2048_1_0_0_1_n_n none (extf .f32 a bitsLt_bf16_f32) (extf .f32 (shapeCast _ w shapeCasts_S1x2048x2048_S2048x2048) bitsLt_bf16_f32)

/-- Its two results. -/
def outProd (a : FVec Ideal S4096x2048 .bf16) (w : FVec Ideal S1x2048x2048 .bf16) : FVec Ideal S4096x2048 .bf16 := truncf .bf16 (wide a w) bitsLt_bf16_f32

def outStream (a : FVec Ideal S4096x2048 .bf16) (w : FVec Ideal S1x2048x2048 .bf16) (x : FVec Ideal S4096x2048 .f32) (g : FVec Ideal S1x2048 .f32) : FVec Ideal S4096x2048 .f32 :=
  addf x (mulf (broadcastInDim S4096x2048 ![0, 1] bcast_S1x2048_S4096x2048_0_1 g) (wide a w))

theorem prod_eq (a : FVec Ideal S4096x2048 .bf16) (w : FVec Ideal S1x2048x2048 .bf16) : outProd a w = prod a w := by
  funext i
  idx_vars i
  pointwise [outProd, wide, prod]

theorem stream_eq (a : FVec Ideal S4096x2048 .bf16) (w : FVec Ideal S1x2048x2048 .bf16) (x : FVec Ideal S4096x2048 .f32) (g : FVec Ideal S1x2048 .f32) :
    outStream a w x g = stream a w x g := by
  funext i
  idx_vars i
  pointwise [outStream, wide, stream]

end Cert.Reference12Ideal.GmOut

end
-- ==== Proof.CvOut.Value.lean ====
/- What the convolution mixer's second product and its bias leave in its two result arrays, over the extended reals. The grid
   walks, for every block of 512 result columns, the four blocks of 1024 rows; a point forms its whole block of the
   product, rounds it into the one result, and adds it, gated, to the residual stream for the other. -/
module

public import proofs.«01_k».proof.Proof.Gen.Kernel13Ideal.Value
public import Idealize.ShloMosaic.Lib.Pipeline.ValueKit
public import Idealize.ShloMosaic.Lib.Pointwise
public import Idealize.ShloMosaic.Lib.Tactic

@[expose] public section

set_option maxRecDepth 16384

noncomputable section

namespace Cert.Kernel13Ideal.CvOut

open Idealize.ShloMosaic Idealize.SL.Sem Idealize.ShloMosaic.TcCoe
open Cert.Kernel13Ideal Cert.Kernel13Ideal.Gen
open Idealize.ShloMosaic.Pipeline (Dat Cfg Window)
open scoped BigOperators

theorem lt (t : Fin cfg0.N) : t.val < 16 := lt_of_lt_of_eq t.isLt N_0

/-- At point `t` the row block is `t % 4` and the column block `t / 4`. -/
theorem index : ∀ t : Fin grid0.N,
    (win0_0.index t 0 = t.val % 4 ∧ win0_0.index t 1 = 0)
    ∧ (win0_1.index t 0 = 0 ∧ win0_1.index t 1 = 0 ∧ win0_1.index t 2 = t.val / 4)
    ∧ (win0_2.index t 0 = t.val % 4 ∧ win0_2.index t 1 = t.val / 4)
    ∧ (win0_3.index t 0 = 0 ∧ win0_3.index t 1 = t.val / 4)
    ∧ (win0_4.index t 0 = 0 ∧ win0_4.index t 1 = t.val / 4)
    ∧ (win0_5.index t 0 = t.val % 4 ∧ win0_5.index t 1 = t.val / 4)
    ∧ (win0_6.index t 0 = t.val % 4 ∧ win0_6.index t 1 = t.val / 4) := by decide +kernel

/-- Row `r` of the row block of a point. -/
def rowAt (t : ℕ) (r : Fin 1024) : Fin 4096 := ⟨t % 4 * 1024 + r.val, by omega⟩
/-- Column `l` of the column block of a point. -/
def colAt (t : ℕ) (h : t < 16) (l : Fin 512) : Fin 2048 := ⟨t / 4 * 512 + l.val, by omega⟩

variable (m : (ℓ : Loc nD τ sig) → Buf (Elt Ideal) ℓ) (ρ : Dev nD → PrngReg) (c : Dev nD)

/-! ## The blocks a point is given -/

theorem act_block (t : Fin cfg0.N) (r : Fin 1024) (k : Fin 2048) :
    iblk m c 0 t (ix2 r k) = m ((c : Thread nD τ).loc main_arg0) (ix2 (rowAt t.val r) k) := by
  obtain ⟨⟨e0, e1⟩, -⟩ := index t
  refine congrArg (V m c main_arg0) (funext fun a => Fin.ext ?_)
  match a with
  | ⟨0, _⟩ => show win0_0.index t 0 * 1024 + 1 * r.val = t.val % 4 * 1024 + r.val; rw [e0]; omega
  | ⟨1, _⟩ => show win0_0.index t 1 * 2048 + 1 * k.val = k.val; rw [e1]; omega

theorem weight_block (t : Fin cfg0.N) (k : Fin 2048) (l : Fin 512) :
    iblk m c 1 t (ix3 0 k l) = m ((c : Thread nD τ).loc main_arg1) (ix3 0 k (colAt t.val (lt t) l)) := by
  obtain ⟨-, ⟨e0, e1, e2⟩, -⟩ := index t
  refine congrArg (V m c main_arg1) (funext fun a => Fin.ext ?_)
  match a with
  | ⟨0, _⟩ => show win0_1.index t 0 * 1 + 1 * 0 = 0; rw [e0]
  | ⟨1, _⟩ => show win0_1.index t 1 * 2048 + 1 * k.val = k.val; rw [e1]; omega
  | ⟨2, _⟩ => show win0_1.index t 2 * 512 + 1 * l.val = t.val / 4 * 512 + l.val; rw [e2]; omega

theorem stream_block (t : Fin cfg0.N) (r : Fin 1024) (l : Fin 512) :
    iblk m c 2 t (ix2 r l) = m ((c : Thread nD τ).loc main_arg2) (ix2 (rowAt t.val r) (colAt t.val (lt t) l)) := by
  obtain ⟨-, -, ⟨e0, e1⟩, -⟩ := index t
  refine congrArg (V m c main_arg2) (funext fun a => Fin.ext ?_)
  match a with
  | ⟨0, _⟩ => show win0_2.index t 0 * 1024 + 1 * r.val = t.val % 4 * 1024 + r.val; rw [e0]; omega
  | ⟨1, _⟩ => show win0_2.index t 1 * 512 + 1 * l.val = t.val / 4 * 512 + l.val; rw [e1]; omega

theorem gate_block (t : Fin cfg0.N) (l : Fin 512) :
    iblk m c 3 t (ix2 0 l) = m ((c : Thread nD τ).loc main_arg3) (ix2 0 (colAt t.val (lt t) l)) := by
  obtain ⟨-, -, -, ⟨e0, e1⟩, -⟩ := index t
  refine congrArg (V m c main_arg3) (funext fun a => Fin.ext ?_)
  match a with
  | ⟨0, _⟩ => show win0_3.index t 0 * 1 + 1 * 0 = 0; rw [e0]
  | ⟨1, _⟩ => show win0_3.index t 1 * 512 + 1 * l.val = t.val / 4 * 512 + l.val; rw [e1]; omega

theorem bias_block (t : Fin cfg0.N) (l : Fin 512) :
    iblk m c 4 t (ix2 0 l) = m ((c : Thread nD τ).loc main_arg4) (ix2 0 (colAt t.val (lt t) l)) := by
  obtain ⟨-, -, -, -, ⟨e0, e1⟩, -⟩ := index t
  refine congrArg (V m c main_arg4) (funext fun a => Fin.ext ?_)
  match a with
  | ⟨0, _⟩ => show win0_4.index t 0 * 1 + 1 * 0 = 0; rw [e0]
  | ⟨1, _⟩ => show win0_4.index t 1 * 512 + 1 * l.val = t.val / 4 * 512 + l.val; rw [e1]; omega

/-! ## The results -/

/-- The product and its bias: row of the activation against column of the weights. -/
def prod (a : FVec Ideal S4096x2048 .bf16) (w : FVec Ideal S1x2048x2048 .bf16) (b : FVec Ideal S1x2048 .f32) : FVec Ideal S4096x2048 .bf16 := fun i =>
  ((∑ k : Fin 2048, a (ix2 (i 0) k) * w (ix3 0 k (i 1))) + b (ix2 0 (i 1)) : EReal)

/-- The residual stream: what it was, and the gated product on top. -/
def stream (a : FVec Ideal S4096x2048 .bf16) (w : FVec Ideal S1x2048x2048 .bf16) (x : FVec Ideal S4096x2048 .f32) (g : FVec Ideal S1x2048 .f32) (b : FVec Ideal S1x2048 .f32) :
    FVec Ideal S4096x2048 .f32 := fun i =>
  (x i + g (ix2 0 (i 1)) * ((∑ k : Fin 2048, a (ix2 (i 0) k) * w (ix3 0 k (i 1))) + b (ix2 0 (i 1))) : EReal)

/-! ## A point's two blocks -/

section

variable (a : FVec Ideal S1024x2048 .bf16) (w : FVec Ideal S1x2048x512 .bf16) (x : FVec Ideal S1024x512 .f32) (g : FVec Ideal S1x512 .f32) (b : FVec Ideal S1x512 .f32)

theorem prod_point (r : Fin 1024) (l : Fin 512) :
    k0_pay2 (F := Ideal) a w b (ix2 r l) = ((∑ k : Fin 2048, a (ix2 r k) * w (ix3 0 k l)) + b (ix2 0 l) : EReal) := by
  pointwise [k0_pay2, k0_pay1]

theorem stream_point (r : Fin 1024) (l : Fin 512) :
    k0_pay3 (F := Ideal) a w b x g (ix2 r l) = (x (ix2 r l) + g (ix2 0 l) * ((∑ k : Fin 2048, a (ix2 r k) * w (ix3 0 k l)) + b (ix2 0 l)) : EReal) := by
  pointwise [k0_pay3, k0_pay1]

end

theorem emb_stream (t : Fin cfg0.N) (r : Fin 1024) (l : Fin 512) :
    ((cfg0.win 5).blk t).view.emb (ix2 r l : S1024x512.Idx) = (ix2 (rowAt t.val r) (colAt t.val (lt t) l) : S4096x2048.Idx) := by
  obtain ⟨e0, e1⟩ := (index t).2.2.2.2.2.1
  refine funext fun a => Fin.ext ?_
  match a with
  | ⟨0, _⟩ => show win0_5.index t 0 * 1024 + 1 * r.val = t.val % 4 * 1024 + r.val; rw [e0]; omega
  | ⟨1, _⟩ => show win0_5.index t 1 * 512 + 1 * l.val = t.val / 4 * 512 + l.val; rw [e1]; omega

theorem emb_prod (t : Fin cfg0.N) (r : Fin 1024) (l : Fin 512) :
    ((cfg0.win 6).blk t).view.emb (ix2 r l : S1024x512.Idx) = (ix2 (rowAt t.val r) (colAt t.val (lt t) l) : S4096x2048.Idx) := by
  obtain ⟨e0, e1⟩ := (index t).2.2.2.2.2.2
  refine funext fun a => Fin.ext ?_
  match a with
  | ⟨0, _⟩ => show win0_6.index t 0 * 1024 + 1 * r.val = t.val % 4 * 1024 + r.val; rw [e0]; omega
  | ⟨1, _⟩ => show win0_6.index t 1 * 512 + 1 * l.val = t.val / 4 * 512 + l.val; rw [e1]; omega

theorem stream_arr : (dats m 0 c).arrAt 5 cfg0.N = stream (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) (fun t _ (x : S1024x512.Idx) => ?_)
  show (dats m 0 c).after 5 t x = stream _ _ _ _ _ (((cfg0.win 5).blk t).view.emb x)
  rw [after0_5]
  frame_out
  idx_vars x
  rw [emb_stream, stream_point]
  simp only [act_block, weight_block, stream_block, gate_block, bias_block]
  rfl

theorem prod_arr : (dats m 0 c).arrAt 6 cfg0.N = prod (m ((c : Thread nD τ).loc main_arg0)) (m ((c : Thread nD τ).loc main_arg1)) (m ((c : Thread nD τ).loc main_arg4)) := by
  refine (dats m 0 c).arrAt_eq_of_covers 6 _ (by decide +kernel) (fun t _ (x : S1024x512.Idx) => ?_)
  show (dats m 0 c).after 6 t x = prod _ _ _ (((cfg0.win 6).blk t).view.emb x)
  rw [after0_6]
  frame_out
  idx_vars x
  rw [emb_prod, prod_point]
  simp only [act_block, weight_block, bias_block]
  rfl

/-- Every execution ends with both results at these arrays of the arguments, and the arguments as they were. -/
theorem run : θ_run defs (onTc (τ := τ) (main (F := Ideal))) ⟨m, fun _ => 0, ρ⟩ fun r => ∀ c : Dev nD,
    r.2.mem ((c.tc : Thread nD τ).loc main_v0_0) = stream (m ((c : Thread nD τ).loc main_arg0)) (m ((c : Thread nD τ).loc main_arg1)) (m ((c : Thread nD τ).loc main_arg2)) (m ((c : Thread nD τ).loc main_arg3)) (m ((c : Thread nD τ).loc main_arg4))
    ∧ r.2.mem ((c.tc : Thread nD τ).loc main_v0_1) = prod (m ((c : Thread nD τ).loc main_arg0)) (m ((c : Thread nD τ).loc main_arg1)) (m ((c : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun r h c => ⟨(Value.post5 m r h c).trans (stream_arr m c), (Value.post6 m r h c).trans (prod_arr m c),
    Value.kept_main_arg0 m r h c, Value.kept_main_arg1 m r h c, Value.kept_main_arg2 m r h c, Value.kept_main_arg3 m r h c, Value.kept_main_arg4 m r h c⟩) (run_main m ρ)

end Cert.Kernel13Ideal.CvOut

end
-- ==== Proof.CvOut.Reference.lean ====
/- The reference's residual stream and product, index by index, are the kernel's. -/
module

public import proofs.«01_k».proof.Proof.CvOut.Value
public import proofs.«01_k».proof.Proof.Gen.Reference13Ideal.Run

@[expose] public section

set_option maxRecDepth 16384

noncomputable section

namespace Cert.Reference13Ideal.CvOut

open Idealize.ShloMosaic Idealize.SL.Sem Idealize.ShloMosaic.TcCoe
open Cert.Reference13Ideal Cert.Reference13Ideal.Gen
open Cert.Kernel13Ideal.CvOut (prod stream)
open scoped BigOperators

/-- The reference's product before rounding. -/
def wide (a : FVec Ideal S4096x2048 .bf16) (w : FVec Ideal S1x2048x2048 .bf16) (b : FVec Ideal S1x2048 .f32) : FVec Ideal S4096x2048 .f32 :=
  addf (Host.dotGeneral dot_S4096x2048_S2048x2048_S4096x2048_1_0_0_1_n_n none (extf .f32 a bitsLt_bf16_f32) (extf .f32 (shapeCast _ w shapeCasts_S1x2048x2048_S2048x2048) bitsLt_bf16_f32))
    (broadcastInDim S4096x2048 ![0, 1] bcast_S1x2048_S4096x2048_0_1 b)

/-- Its two results. -/
def outProd (a : FVec Ideal S4096x2048 .bf16) (w : FVec Ideal S1x2048x2048 .bf16) (b : FVec Ideal S1x2048 .f32) : FVec Ideal S4096x2048 .bf16 := truncf .bf16 (wide a w b) bitsLt_bf16_f32

def outStream (a : FVec Ideal S4096x2048 .bf16) (w : FVec Ideal S1x2048x2048 .bf16) (x : FVec Ideal S4096x2048 .f32) (g : FVec Ideal S1x2048 .f32) (b : FVec Ideal S1x2048 .f32) : FVec Ideal S4096x2048 .f32 :=
  addf x (mulf (broadcastInDim S4096x2048 ![0, 1] bcast_S1x2048_S4096x2048_0_1 g) (wide a w b))

theorem prod_eq (a : FVec Ideal S4096x2048 .bf16) (w : FVec Ideal S1x2048x2048 .bf16) (b : FVec Ideal S1x2048 .f32) : outProd a w b = prod a w b := by
  funext i
  idx_vars i
  pointwise [outProd, wide, prod]

theorem stream_eq (a : FVec Ideal S4096x2048 .bf16) (w : FVec Ideal S1x2048x2048 .bf16) (x : FVec Ideal S4096x2048 .f32) (g : FVec Ideal S1x2048 .f32) (b : FVec Ideal S1x2048 .f32) :
    outStream a w x g b = stream a w x g b := by
  funext i
  idx_vars i
  pointwise [outStream, wide, stream]

end Cert.Reference13Ideal.CvOut

end
-- ==== Proof.Adam.Step.lean ====
/- One step of the optimiser on one entry of a parameter: the two moments after the gradient `g`, and the change of the weight `w`. -/
module

public import Idealize.ShloMosaic.Lib.Pointwise

@[expose] public section

noncomputable section

namespace Cert.Adam

open Idealize.ShloMosaic

/-- The first moment after the gradient: nine tenths of the old one and a tenth of the gradient. -/
def first (g m : EReal) : EReal := Ideal.ofBits .f32 0x3F666666#32 * m + Ideal.ofBits .f32 0x3DCCCCCD#32 * g

/-- The second moment after the gradient: 0.999 of the old one and a thousandth of the gradient's square. -/
def second (g v : EReal) : EReal := Ideal.ofBits .f32 0x3F7FBE77#32 * v + Ideal.ofBits .f32 0x3A83126F#32 * (g * g)

/-- The change of the weight: the first moment over the root of the second, both corrected for the tenth step, and a part of the
    weight itself, times minus the rate. -/
def change (g w m v : EReal) : EReal :=
  Ideal.ofBits .f32 0xBA83126F#32 *
    (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

end Cert.Adam

end
-- ==== Proof.Adam.AdaW.lean ====
/- What the modulation weight's call leaves in its four result arrays, over the extended reals: the weight's gradient, which is the
   product of the conditioning through its gate and the modulations' gradient summed over the eight samples, and the optimiser's
   step with it. The call pads both factors with eight rows of zeros; they add nothing to the sum. -/
module

public import proofs.«01_k».proof.Proof.Gen.Kernel14Ideal.Value
public import proofs.«01_k».proof.Proof.Adam.Step
public import Idealize.ShloMosaic.Lib.Pipeline.ValueKit
public import Idealize.ShloMosaic.Lib.KernelVsHost
public import Idealize.ShloMosaic.Lib.Pointwise
public import Idealize.ShloMosaic.Lib.Tactic

@[expose] public section

set_option maxRecDepth 16384

noncomputable section

namespace Cert.Kernel14Ideal.AdaW

open Idealize.ShloMosaic Idealize.SL.Sem Idealize.ShloMosaic.TcCoe
open Cert.Kernel14Ideal Cert.Kernel14Ideal.Gen
open Idealize.ShloMosaic.Pipeline (Dat Cfg Window)
open scoped BigOperators

theorem lt (t : Fin cfg0.N) : t.val < 18 := lt_of_lt_of_eq t.isLt N_0

/-- At point `t` the layer is `t / 9` and the column block `t % 9`. -/
theorem index : ∀ t : Fin grid0.N,
    (win0_0.index t 0 = 0 ∧ win0_0.index t 1 = 0)
    ∧ (win0_1.index t 0 = t.val / 9 ∧ win0_1.index t 1 = 0 ∧ win0_1.index t 2 = t.val % 9)
    ∧ (win0_2.index t 0 = t.val / 9 ∧ win0_2.index t 1 = 0 ∧ win0_2.index t 2 = t.val % 9)
    ∧ (win0_3.index t 0 = t.val / 9 ∧ win0_3.index t 1 = 0 ∧ win0_3.index t 2 = t.val % 9)
    ∧ (win0_4.index t 0 = t.val / 9 ∧ win0_4.index t 1 = 0 ∧ win0_4.index t 2 = t.val % 9)
    ∧ (win0_5.index t 0 = t.val / 9 ∧ win0_5.index t 1 = 0 ∧ win0_5.index t 2 = t.val % 9)
    ∧ (win0_6.index t 0 = t.val / 9 ∧ win0_6.index t 1 = 0 ∧ win0_6.index t 2 = t.val % 9)
    ∧ (win0_7.index t 0 = t.val / 9 ∧ win0_7.index t 1 = 0 ∧ win0_7.index t 2 = t.val % 9)
    ∧ (win0_8.index t 0 = t.val / 9 ∧ win0_8.index t 1 = 0 ∧ win0_8.index t 2 = t.val % 9) := by decide +kernel

/-- The layer of a point, and column `l` of its column block. -/
def layer (t : ℕ) (h : t < 18) : Fin 2 := ⟨t / 9, by omega⟩
def colAt (t : ℕ) (l : Fin 256) : Fin 2304 := ⟨t % 9 * 256 + l.val, by omega⟩

variable (m : (ℓ : Loc nD τ sig) → Buf (Elt Ideal) ℓ) (ρ : Dev nD → PrngReg) (c : Dev nD)

/-! ## The arrays as the call gets them, and a point's blocks of them -/

theorem padded_c : V m c main_v0 = pad S16x2048 ![0, 0] ![8, 0] ![0, 0] (m ((c : Thread nD τ).loc main_arg0)) (sitofp (F := Ideal) .f32 (constantI S_ 32 0#32)) pads_S8x2048_S16x2048_080_000 h_S_ := by
  show StableHlo.after (List.flatten [hostOps0, hostOps0_1, hostOps0_2, hostOps0_3]) (fun b => m (c, b)) (Proc.devRef .tc main_v0) = _
  simp only [hostOps0, hostOps0_1, hostOps0_2, hostOps0_3, List.flatten_cons, List.flatten_nil, List.append_nil, List.cons_append, List.nil_append]
  after_results_simp <;> rfl

theorem padded_d : V m c main_v2 = pad S2x16x2304 ![0, 0, 0] ![0, 8, 0] ![0, 0, 0] (transpose S2x8x2304 [1, 0, 2] (m ((c : Thread nD τ).loc main_arg1)) transposes_S8x2x2304_S2x8x2304_1_0_2) (sitofp (F := Ideal) .f32 (constantI S_ 32 0#32)) pads_S2x8x2304_S2x16x2304_000_080_000 h_S_ := by
  show StableHlo.after (List.flatten [hostOps0, hostOps0_1, hostOps0_2, hostOps0_3]) (fun b => m (c, b)) (Proc.devRef .tc main_v2) = _
  simp only [hostOps0, hostOps0_1, hostOps0_2, hostOps0_3, List.flatten_cons, List.flatten_nil, List.append_nil, List.cons_append, List.nil_append]
  after_results_simp <;> rfl

/-- The eight samples' rows of the padded conditioning are the conditioning's. -/
theorem c_block (t : Fin cfg0.N) (s : Fin 8) (k : Fin 2048) : iblk m c 0 t (ix2 (Fin.castAdd 8 s) k) = (m ((c : Thread nD τ).loc main_arg0)) (ix2 s k) := by
  obtain ⟨e0, e1⟩ := (index t).1
  refine (congrArg (V m c main_v0) (funext fun a => Fin.ext ?_ : _ = (ix2 (Fin.castAdd 8 s) k : S16x2048.Idx))).trans ?_
  · match a with
    | ⟨0, _⟩ => show win0_0.index t 0 * 16 + 1 * s.val = s.val; rw [e0]; omega
    | ⟨1, _⟩ => show win0_0.index t 1 * 2048 + 1 * k.val = k.val; rw [e1]; omega
  rw [padded_c]
  refine pad_apply_of_inside _ _ _ _ _ _ _ _ _ fun a => ?_
  match a with
  | ⟨0, _⟩ => show s.val = 0 + s.val * 1; omega
  | ⟨1, _⟩ => show k.val = 0 + k.val * 1; omega

theorem d_blk (t : Fin cfg0.N) (s : Fin 16) (l : Fin 256) : iblk m c 1 t (ix3 0 s l) = V m c main_v2 (ix3 (layer t.val (lt t)) s (colAt t.val l)) := by
  obtain ⟨e0, e1, e2⟩ := (index t).2.1
  refine congrArg (V m c main_v2) (funext fun a => Fin.ext ?_)
  match a with
  | ⟨0, _⟩ => show win0_1.index t 0 * 1 + 1 * 0 = t.val / 9; rw [e0]; omega
  | ⟨1, _⟩ => show win0_1.index t 1 * 16 + 1 * s.val = s.val; rw [e1]; omega
  | ⟨2, _⟩ => show win0_1.index t 2 * 256 + 1 * l.val = t.val % 9 * 256 + l.val; rw [e2]; omega

/-- The samples' rows of the padded gradient are the gradient's, and the rows after them are zero. -/
theorem d_block (t : Fin cfg0.N) (s : Fin 8) (l : Fin 256) : iblk m c 1 t (ix3 0 (Fin.castAdd 8 s) l) = (m ((c : Thread nD τ).loc main_arg1)) (ix3 s (layer t.val (lt t)) (colAt t.val l)) := by
  rw [d_blk, padded_d]
  refine (pad_apply_of_inside _ _ _ _ _ _ _ _ (ix3 (layer t.val (lt t)) s (colAt t.val l)) fun a => ?_).trans ?_
  · match a with
    | ⟨0, _⟩ => show t.val / 9 = 0 + t.val / 9 * 1; omega
    | ⟨1, _⟩ => show s.val = 0 + s.val * 1; omega
    | ⟨2, _⟩ => show t.val % 9 * 256 + l.val = 0 + (t.val % 9 * 256 + l.val) * 1; omega
  · pointwise []

theorem d_zero (t : Fin cfg0.N) (s : Fin 8) (l : Fin 256) : iblk m c 1 t (ix3 0 (Fin.natAdd 8 s) l) = (0 : EReal) := by
  rw [d_blk, padded_d]
  refine (pad_apply_of_not_inside _ _ _ _ _ _ _ _ (1 : Fin 3) fun h => ?_).trans ?_
  · have h2 : (8 + s.val - 0) / 1 < 8 := h.2.2
    omega
  · exact (Ideal.scalar_sitofp_def (φ := .f32) (0#32)).trans (by simp)

theorem w_block (t : Fin cfg0.N) (k : Fin 2048) (l : Fin 256) : iblk m c 2 t (ix3 0 k l) = (m ((c : Thread nD τ).loc main_arg2)) (ix3 (layer t.val (lt t)) k (colAt t.val l)) := by
  obtain ⟨e0, e1, e2⟩ := (index t).2.2.1
  refine (congrArg (V m c main_arg2) (funext fun a => Fin.ext ?_)).trans (congrFun (V_main_arg2 m c) _)
  match a with
  | ⟨0, _⟩ => show win0_2.index t 0 * 1 + 1 * 0 = t.val / 9; rw [e0]; omega
  | ⟨1, _⟩ => show win0_2.index t 1 * 2048 + 1 * k.val = k.val; rw [e1]; omega
  | ⟨2, _⟩ => show win0_2.index t 2 * 256 + 1 * l.val = t.val % 9 * 256 + l.val; rw [e2]; omega

theorem m_block (t : Fin cfg0.N) (k : Fin 2048) (l : Fin 256) : iblk m c 3 t (ix3 0 k l) = (m ((c : Thread nD τ).loc main_arg3)) (ix3 (layer t.val (lt t)) k (colAt t.val l)) := by
  obtain ⟨e0, e1, e2⟩ := (index t).2.2.2.1
  refine (congrArg (V m c main_arg3) (funext fun a => Fin.ext ?_)).trans (congrFun (V_main_arg3 m c) _)
  match a with
  | ⟨0, _⟩ => show win0_3.index t 0 * 1 + 1 * 0 = t.val / 9; rw [e0]; omega
  | ⟨1, _⟩ => show win0_3.index t 1 * 2048 + 1 * k.val = k.val; rw [e1]; omega
  | ⟨2, _⟩ => show win0_3.index t 2 * 256 + 1 * l.val = t.val % 9 * 256 + l.val; rw [e2]; omega

theorem v_block (t : Fin cfg0.N) (k : Fin 2048) (l : Fin 256) : iblk m c 4 t (ix3 0 k l) = (m ((c : Thread nD τ).loc main_arg4)) (ix3 (layer t.val (lt t)) k (colAt t.val l)) := by
  obtain ⟨e0, e1, e2⟩ := (index t).2.2.2.2.1
  refine (congrArg (V m c main_arg4) (funext fun a => Fin.ext ?_)).trans (congrFun (V_main_arg4 m c) _)
  match a with
  | ⟨0, _⟩ => show win0_4.index t 0 * 1 + 1 * 0 = t.val / 9; rw [e0]; omega
  | ⟨1, _⟩ => show win0_4.index t 1 * 2048 + 1 * k.val = k.val; rw [e1]; omega
  | ⟨2, _⟩ => show win0_4.index t 2 * 256 + 1 * l.val = t.val % 9 * 256 + l.val; rw [e2]; omega

/-! ## The results -/

/-- A number times its logistic. -/
def gated (x : EReal) : EReal := x * Ideal.div (Ideal.ofBits .f32 0x3F800000#32) (Ideal.ofBits .f32 0x3F800000#32 + Ideal.exp (-x))

/-- The gradient: for every layer, the product of the gated conditioning and the modulations' gradient over the samples. -/
def gradArr (c : FVec Ideal S8x2048 .f32) (d : FVec Ideal S8x2x2304 .f32) : FVec Ideal S2x2048x2304 .f32 := fun i =>
  (∑ s : Fin 8, gated (c (ix2 s (i 1))) * d (ix3 s (i 0) (i 2)) : EReal)

/-- The weights' change, entry by entry. -/
def changeArr (c : FVec Ideal S8x2048 .f32) (d : FVec Ideal S8x2x2304 .f32) (w m v : FVec Ideal S2x2048x2304 .f32) : FVec Ideal S2x2048x2304 .f32 := fun i => Adam.change (gradArr c d i) (w i) (m i) (v i)

/-- The first moment, entry by entry. -/
def firstArr (c : FVec Ideal S8x2048 .f32) (d : FVec Ideal S8x2x2304 .f32) (m : FVec Ideal S2x2048x2304 .f32) : FVec Ideal S2x2048x2304 .f32 := fun i => Adam.first (gradArr c d i) (m i)

/-- The second moment, entry by entry. -/
def secondArr (c : FVec Ideal S8x2048 .f32) (d : FVec Ideal S8x2x2304 .f32) (v : FVec Ideal S2x2048x2304 .f32) : FVec Ideal S2x2048x2304 .f32 := fun i => Adam.second (gradArr c d i) (v i)

section

variable (x0 : FVec Ideal S16x2048 .f32) (x1 : FVec Ideal S1x16x256 .f32) (x2 x3 x4 : FVec Ideal S1x2048x256 .f32)

/-- A point's product of its blocks. -/
def dot (k : Fin 2048) (l : Fin 256) : EReal := ∑ s : Fin 16, gated (x0 (ix2 s k)) * x1 (ix3 0 s l)

theorem dot_point (k : Fin 2048) (l : Fin 256) : k0_pay5 (F := Ideal) x0 x1 (ix2 k l) = dot x0 x1 k l := by
  pointwise [k0_pay5, dot, gated]
  simp only [zero_sub]

/-- Where the last eight rows of the second factor are zero, the sum is over the first eight. -/
theorem dot_samples (k : Fin 2048) (l : Fin 256) (h : ∀ s : Fin 8, x1 (ix3 0 (Fin.natAdd 8 s) l) = (0 : EReal)) :
    dot x0 x1 k l = ∑ s : Fin 8, gated (x0 (ix2 (Fin.castAdd 8 s) k)) * (x1 (ix3 0 (Fin.castAdd 8 s) l) : EReal) := by
  unfold dot
  refine (Fin.sum_univ_add (M := EReal) (a := 8) (b := 8) _).trans ?_
  simp only [h, mul_zero, Finset.sum_const_zero, add_zero]

theorem grad_point (k : Fin 2048) (l : Fin 256) : k0_pay1 (F := Ideal) (k0_pay5 x0 x1) (ix3 0 k l) = ((dot x0 x1 k l) : EReal) := by
  pointwise [k0_pay1, dot_point]

theorem change_point (k : Fin 2048) (l : Fin 256) : k0_pay2 (F := Ideal) (k0_pay6 x2) (k0_pay8 x0 x1 x4) (k0_pay9 x0 x1 x3) (Scalar.ofBits .f32 0x3C231ACC#32) (ix3 0 k l) = (Adam.change (dot x0 x1 k l) (x2 (ix3 0 k l)) (x3 (ix3 0 k l)) (x4 (ix3 0 k l)) : EReal) := by
  pointwise [k0_pay2, k0_pay6, k0_pay8, k0_pay9, k0_pay7, Adam.change, Adam.first, Adam.second, dot_point]

theorem first_point (k : Fin 2048) (l : Fin 256) : k0_pay3 (F := Ideal) (k0_pay7 x0 x1 x3) (ix3 0 k l) = (Adam.first (dot x0 x1 k l) (x3 (ix3 0 k l)) : EReal) := by
  pointwise [k0_pay3, k0_pay7, Adam.first, dot_point]

theorem second_point (k : Fin 2048) (l : Fin 256) : k0_pay4 (F := Ideal) (k0_pay8 x0 x1 x4) (ix3 0 k l) = (Adam.second (dot x0 x1 k l) (x4 (ix3 0 k l)) : EReal) := by
  pointwise [k0_pay4, k0_pay8, Adam.second, dot_point]

theorem hz2 : (![0, 0] : Fin S16x2048.rank → ℕ) = fun _ => 0 := by decide
theorem hz3 : (![0, 0, 0] : Fin 3 → ℕ) = fun _ => 0 := by decide

theorem moments : k0_pay10 (F := Ideal) x0 x1 x2 x3 x4 = k0_pay8 x0 x1 x4 := by
  unfold k0_pay10 r0_0 r0_1 r0_2
  rw [View.ld_unit_zero (S := S16x2048) hz2, View.ld_unit_zero (S := S1x16x256) hz3, View.ld_unit_zero (S := S1x2048x256) hz3]

end

/-- The point's product is the gradient at the point's entries. -/
theorem dot_grad (t : Fin cfg0.N) (k : Fin 2048) (l : Fin 256) :
    dot (iblk m c 0 t) (iblk m c 1 t) k l = gradArr (m ((c : Thread nD τ).loc main_arg0)) (m ((c : Thread nD τ).loc main_arg1)) (ix3 (layer t.val (lt t)) k (colAt t.val l)) := by
  rw [dot_samples _ _ _ _ (fun s => d_zero m c t s l)]
  simp only [c_block, d_block]
  rfl

theorem emb_grad (t : Fin cfg0.N) (k : Fin 2048) (l : Fin 256) :
    ((cfg0.win 5).blk t).view.emb (ix3 0 k l : S1x2048x256.Idx) = (ix3 (layer t.val (lt t)) k (colAt t.val l) : S2x2048x2304.Idx) := by
  obtain ⟨e0, e1, e2⟩ := (index t).2.2.2.2.2.1
  refine funext fun a => Fin.ext ?_
  match a with
  | ⟨0, _⟩ => show win0_5.index t 0 * 1 + 1 * 0 = t.val / 9; rw [e0]; omega
  | ⟨1, _⟩ => show win0_5.index t 1 * 2048 + 1 * k.val = k.val; rw [e1]; omega
  | ⟨2, _⟩ => show win0_5.index t 2 * 256 + 1 * l.val = t.val % 9 * 256 + l.val; rw [e2]; omega

theorem grad_arr : (dats m 0 c).arrAt 5 cfg0.N = gradArr (m ((c : Thread nD τ).loc main_arg0)) (m ((c : Thread nD τ).loc main_arg1)) := by
  refine (dats m 0 c).arrAt_eq_of_covers 5 _ (by decide +kernel) (fun t _ (x : S1x2048x256.Idx) => ?_)
  show (dats m 0 c).after 5 t x = gradArr _ _ (((cfg0.win 5).blk t).view.emb x)
  rw [after0_5]
  frame_out
  idx_vars x
  obtain rfl : x0 = 0 := Subsingleton.elim _ _
  rw [emb_grad, grad_point, dot_grad]

theorem emb_change (t : Fin cfg0.N) (k : Fin 2048) (l : Fin 256) :
    ((cfg0.win 6).blk t).view.emb (ix3 0 k l : S1x2048x256.Idx) = (ix3 (layer t.val (lt t)) k (colAt t.val l) : S2x2048x2304.Idx) := by
  obtain ⟨e0, e1, e2⟩ := (index t).2.2.2.2.2.2.1
  refine funext fun a => Fin.ext ?_
  match a with
  | ⟨0, _⟩ => show win0_6.index t 0 * 1 + 1 * 0 = t.val / 9; rw [e0]; omega
  | ⟨1, _⟩ => show win0_6.index t 1 * 2048 + 1 * k.val = k.val; rw [e1]; omega
  | ⟨2, _⟩ => show win0_6.index t 2 * 256 + 1 * l.val = t.val % 9 * 256 + l.val; rw [e2]; omega

theorem change_arr : (dats m 0 c).arrAt 6 cfg0.N = changeArr (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) (fun t _ (x : S1x2048x256.Idx) => ?_)
  show (dats m 0 c).after 6 t x = changeArr _ _ _ _ _ (((cfg0.win 6).blk t).view.emb x)
  rw [after0_6]
  frame_out
  idx_vars x
  obtain rfl : x0 = 0 := Subsingleton.elim _ _
  rw [moments]
  rw [emb_change, change_point, dot_grad]
  simp only [w_block, m_block, v_block]
  rfl

theorem emb_first (t : Fin cfg0.N) (k : Fin 2048) (l : Fin 256) :
    ((cfg0.win 7).blk t).view.emb (ix3 0 k l : S1x2048x256.Idx) = (ix3 (layer t.val (lt t)) k (colAt t.val l) : S2x2048x2304.Idx) := by
  obtain ⟨e0, e1, e2⟩ := (index t).2.2.2.2.2.2.2.1
  refine funext fun a => Fin.ext ?_
  match a with
  | ⟨0, _⟩ => show win0_7.index t 0 * 1 + 1 * 0 = t.val / 9; rw [e0]; omega
  | ⟨1, _⟩ => show win0_7.index t 1 * 2048 + 1 * k.val = k.val; rw [e1]; omega
  | ⟨2, _⟩ => show win0_7.index t 2 * 256 + 1 * l.val = t.val % 9 * 256 + l.val; rw [e2]; omega

theorem first_arr : (dats m 0 c).arrAt 7 cfg0.N = firstArr (m ((c : Thread nD τ).loc main_arg0)) (m ((c : Thread nD τ).loc main_arg1)) (m ((c : Thread nD τ).loc main_arg3)) := by
  refine (dats m 0 c).arrAt_eq_of_covers 7 _ (by decide +kernel) (fun t _ (x : S1x2048x256.Idx) => ?_)
  show (dats m 0 c).after 7 t x = firstArr _ _ _ (((cfg0.win 7).blk t).view.emb x)
  rw [after0_7]
  frame_out
  idx_vars x
  obtain rfl : x0 = 0 := Subsingleton.elim _ _
  rw [emb_first, first_point, dot_grad]
  simp only [m_block]
  rfl

theorem emb_second (t : Fin cfg0.N) (k : Fin 2048) (l : Fin 256) :
    ((cfg0.win 8).blk t).view.emb (ix3 0 k l : S1x2048x256.Idx) = (ix3 (layer t.val (lt t)) k (colAt t.val l) : S2x2048x2304.Idx) := by
  obtain ⟨e0, e1, e2⟩ := (index t).2.2.2.2.2.2.2.2
  refine funext fun a => Fin.ext ?_
  match a with
  | ⟨0, _⟩ => show win0_8.index t 0 * 1 + 1 * 0 = t.val / 9; rw [e0]; omega
  | ⟨1, _⟩ => show win0_8.index t 1 * 2048 + 1 * k.val = k.val; rw [e1]; omega
  | ⟨2, _⟩ => show win0_8.index t 2 * 256 + 1 * l.val = t.val % 9 * 256 + l.val; rw [e2]; omega

theorem second_arr : (dats m 0 c).arrAt 8 cfg0.N = secondArr (m ((c : Thread nD τ).loc main_arg0)) (m ((c : Thread nD τ).loc main_arg1)) (m ((c : Thread nD τ).loc main_arg4)) := by
  refine (dats m 0 c).arrAt_eq_of_covers 8 _ (by decide +kernel) (fun t _ (x : S1x2048x256.Idx) => ?_)
  show (dats m 0 c).after 8 t x = secondArr _ _ _ (((cfg0.win 8).blk t).view.emb x)
  rw [after0_8]
  frame_out
  idx_vars x
  obtain rfl : x0 = 0 := Subsingleton.elim _ _
  rw [moments]
  rw [emb_second, second_point, dot_grad]
  simp only [v_block]
  rfl

/-- Every execution ends with the four results at these arrays of the arguments, and the arguments as they were. -/
theorem run : θ_run defs (onTc (τ := τ) (main (F := Ideal))) ⟨m, fun _ => 0, ρ⟩ fun r => ∀ c : Dev nD,
    r.2.mem ((c.tc : Thread nD τ).loc main_v3_0) = gradArr (m ((c : Thread nD τ).loc main_arg0)) (m ((c : Thread nD τ).loc main_arg1)) ∧
    r.2.mem ((c.tc : Thread nD τ).loc main_v3_1) = changeArr (m ((c : Thread nD τ).loc main_arg0)) (m ((c : Thread nD τ).loc main_arg1)) (m ((c : Thread nD τ).loc main_arg2)) (m ((c : Thread nD τ).loc main_arg3)) (m ((c : Thread nD τ).loc main_arg4)) ∧
    r.2.mem ((c.tc : Thread nD τ).loc main_v3_2) = firstArr (m ((c : Thread nD τ).loc main_arg0)) (m ((c : Thread nD τ).loc main_arg1)) (m ((c : Thread nD τ).loc main_arg3)) ∧
    r.2.mem ((c.tc : Thread nD τ).loc main_v3_3) = secondArr (m ((c : Thread nD τ).loc main_arg0)) (m ((c : Thread nD τ).loc main_arg1)) (m ((c : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun r h c => ⟨(Value.post5 m r h c).trans (grad_arr m c), (Value.post6 m r h c).trans (change_arr m c), (Value.post7 m r h c).trans (first_arr m c), (Value.post8 m r h c).trans (second_arr m c),
    Value.kept_main_arg0 m r h c, Value.kept_main_arg1 m r h c, Value.kept_main_arg2 m r h c, Value.kept_main_arg3 m r h c, Value.kept_main_arg4 m r h c⟩) (run_main m ρ)

end Cert.Kernel14Ideal.AdaW

end
-- ==== Proof.Adam.AdaWReference.lean ====
/- The reference's gradient of the modulation weight, and its optimiser's step with it, are the kernel's arrays. -/
module

public import proofs.«01_k».proof.Proof.Adam.AdaW
public import proofs.«01_k».proof.Proof.Gen.Reference14Ideal.Run

@[expose] public section

set_option maxRecDepth 16384

noncomputable section

namespace Cert.Reference14Ideal.AdaW

open Idealize.ShloMosaic Idealize.SL.Sem Idealize.ShloMosaic.TcCoe
open Cert.Reference14Ideal Cert.Reference14Ideal.Gen
open Cert.Kernel14Ideal.AdaW (gradArr changeArr firstArr secondArr gated)
open scoped BigOperators

/-- One layer's product: the modulations' gradient against the gated conditioning, transposed. -/
def product (d : FVec Ideal S8x2304 .f32) (c : FVec Ideal S8x2048 .f32) : FVec Ideal S2048x2304 .f32 :=
  transpose S2048x2304 [1, 0] (Host.dotGeneral dot_S8x2304_S8x2048_S2304x2048_0_0_1_1_n_n none d
    (mulf c (Host.divf (broadcastInDim S8x2048 ![] bcast_S_S8x2048 (constant S_ .f32 0x3F800000#32)) (addf (broadcastInDim S8x2048 ![] bcast_S_S8x2048 (constant S_ .f32 0x3F800000#32)) (Host.exp (Host.negf c)))))) transposes_S2304x2048_S2048x2304_1_0

/-- The gradient: the two layers' products, one after the other. -/
def grad (c : FVec Ideal S8x2048 .f32) (d : FVec Ideal S8x2x2304 .f32) : FVec Ideal S2x2048x2304 .f32 :=
  concatenate S2x2048x2304 0 [⟨S1x2048x2304, (broadcastInDim S1x2048x2304 ![1, 2] bcast_S2048x2304_S1x2048x2304_1_2 (product (shapeCast _ (extractStridedSlice S8x1x2304 ![0, 0, 0] d slices_S8x2x2304_S8x1x2304_0_0_0) shapeCasts_S8x1x2304_S8x2304) c))⟩, ⟨S1x2048x2304, (broadcastInDim S1x2048x2304 ![1, 2] bcast_S2048x2304_S1x2048x2304_1_2 (product (shapeCast _ (extractStridedSlice S8x1x2304 ![0, 1, 0] d slices_S8x2x2304_S8x1x2304_0_1_0) shapeCasts_S8x1x2304_S8x2304) c))⟩] concatenates_S1x2048x2304_S1x2048x2304_S2x2048x2304_d0

/-- The two moments. -/
def first (c : FVec Ideal S8x2048 .f32) (d : FVec Ideal S8x2x2304 .f32) (m : FVec Ideal S2x2048x2304 .f32) : FVec Ideal S2x2048x2304 .f32 := addf (mulf (broadcastInDim S2x2048x2304 ![] bcast_S_S2x2048x2304 (constant S_ .f32 0x3F666666#32)) m) (mulf (broadcastInDim S2x2048x2304 ![] bcast_S_S2x2048x2304 (constant S_ .f32 0x3DCCCCCD#32)) (grad c d))

def second (c : FVec Ideal S8x2048 .f32) (d : FVec Ideal S8x2x2304 .f32) (v : FVec Ideal S2x2048x2304 .f32) : FVec Ideal S2x2048x2304 .f32 := addf (mulf (broadcastInDim S2x2048x2304 ![] bcast_S_S2x2048x2304 (constant S_ .f32 0x3F7FBE77#32)) v) (mulf (broadcastInDim S2x2048x2304 ![] bcast_S_S2x2048x2304 (constant S_ .f32 0x3A83126F#32)) (mulf (grad c d) (grad c d)))

/-- The change of the weights. -/
def change (c : FVec Ideal S8x2048 .f32) (d : FVec Ideal S8x2x2304 .f32) (w m v : FVec Ideal S2x2048x2304 .f32) : FVec Ideal S2x2048x2304 .f32 :=
  mulf (broadcastInDim S2x2048x2304 ![] bcast_S_S2x2048x2304 (constant S_ .f32 0xBA83126F#32)) (addf (Host.divf (Host.divf (first c d m) (broadcastInDim S2x2048x2304 ![] bcast_S_S2x2048x2304 (constant S_ .f32 0x3F26BD02#32)))
    (addf (Host.sqrt (Host.divf (second c d v) (broadcastInDim S2x2048x2304 ![] bcast_S_S2x2048x2304 (constant S_ .f32 0x3C231ACC#32)))) (broadcastInDim S2x2048x2304 ![] bcast_S_S2x2048x2304 (constant S_ .f32 0x322BCC77#32)))) (mulf (broadcastInDim S2x2048x2304 ![] bcast_S_S2x2048x2304 (constant S_ .f32 0x3C23D70A#32)) w))

theorem product_apply (d : FVec Ideal S8x2304 .f32) (c : FVec Ideal S8x2048 .f32) (k : Fin 2048) (l : Fin 2304) :
    product d c (ix2 k l) = (∑ s : Fin 8, gated (c (ix2 s k)) * d (ix2 s l) : EReal) := by
  refine Eq.trans ?_ (Finset.sum_congr rfl fun s _ => mul_comm (G := EReal) (d (ix2 s l)) (gated (c (ix2 s k))))
  pointwise [product, gated]

theorem grad_eq (c : FVec Ideal S8x2048 .f32) (d : FVec Ideal S8x2x2304 .f32) : grad c d = gradArr c d := by
  funext i
  idx_vars i
  fin_cases i0
  · pointwise [grad, gradArr, product_apply]
  · pointwise [grad, gradArr, product_apply]

theorem first_eq (c : FVec Ideal S8x2048 .f32) (d : FVec Ideal S8x2x2304 .f32) (m : FVec Ideal S2x2048x2304 .f32) : first c d m = firstArr c d m := by
  unfold first; rw [grad_eq]; rfl

theorem second_eq (c : FVec Ideal S8x2048 .f32) (d : FVec Ideal S8x2x2304 .f32) (v : FVec Ideal S2x2048x2304 .f32) : second c d v = secondArr c d v := by
  unfold second; rw [grad_eq]; rfl

theorem change_eq (c : FVec Ideal S8x2048 .f32) (d : FVec Ideal S8x2x2304 .f32) (w m v : FVec Ideal S2x2048x2304 .f32) : change c d w m v = changeArr c d w m v := by
  unfold change; rw [first_eq, second_eq]; rfl

end Cert.Reference14Ideal.AdaW

end
-- ==== Proof.Adam.AdaB.lean ====
/- What the optimiser's step of a parameter of shape 2x18432 leaves in its four result arrays, over the extended reals: the
   gradient, the weights' change and the two moments, entry by entry. -/
module

public import proofs.«01_k».proof.Proof.Gen.Kernel15Ideal.Value
public import proofs.«01_k».proof.Proof.Adam.Step
public import Idealize.ShloMosaic.Lib.Pipeline.ValueKit
public import Idealize.ShloMosaic.Lib.Pointwise
public import Idealize.ShloMosaic.Lib.Tactic

@[expose] public section

set_option maxRecDepth 16384

noncomputable section

namespace Cert.Kernel15Ideal.AdaB

open Idealize.ShloMosaic Idealize.SL.Sem Idealize.ShloMosaic.TcCoe
open Cert.Kernel15Ideal Cert.Kernel15Ideal.Gen
open Idealize.ShloMosaic.Pipeline (Dat Cfg Window)

/-- There is one point, and its blocks are the whole arrays. -/
theorem index : ∀ t : Fin grid0.N,
    (win0_0.index t 0 = 0 ∧ win0_0.index t 1 = 0 ∧ win0_0.index t 2 = 0)
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) := by decide +kernel

variable (m : (ℓ : Loc nD τ sig) → Buf (Elt Ideal) ℓ) (ρ : Dev nD → PrngReg) (c : Dev nD)

/-! ## The arrays as the call gets them, and a point's blocks of them -/

/-- The gradient as the call gets it: with an axis of one in front. -/
theorem lead_axis (r : Fin 2) (l : Fin 18432) : V m c main_v0 (ix3 0 r l) = (m ((c : Thread nD τ).loc main_arg0)) (ix2 r l) := by
  have e : V m c main_v0 = broadcastInDim S1x2x18432 ![1, 2] bcast_S2x18432_S1x2x18432_1_2 (m ((c : Thread nD τ).loc main_arg0)) := by
    show StableHlo.after hostOps0 (fun b => m (c, b)) (Proc.devRef .tc main_v0) = _
    simp only [hostOps0, List.flatten_cons, List.flatten_nil, List.append_nil, List.cons_append, List.nil_append]
    after_results_simp <;> rfl
  rw [e]
  pointwise []

theorem g_block (t : Fin cfg0.N) (r : Fin 2) (l : Fin 18432) : iblk m c 0 t (ix3 0 r l) = (m ((c : Thread nD τ).loc main_arg0)) (ix2 r l) := by
  obtain ⟨e0, e1, e2⟩ := (index t).1
  refine (congrArg (V m c main_v0) (funext fun a => Fin.ext ?_)).trans (lead_axis m c _ _)
  match a with
  | ⟨0, _⟩ => show win0_0.index t 0 * 1 + 1 * 0 = 0; rw [e0]
  | ⟨1, _⟩ => show win0_0.index t 1 * 2 + 1 * r.val = r.val; rw [e1]; omega
  | ⟨2, _⟩ => show win0_0.index t 2 * 18432 + 1 * l.val = l.val; rw [e2]; omega

theorem w_block (t : Fin cfg0.N) (r : Fin 2) (l : Fin 18432) : iblk m c 1 t (ix2 r l) = (m ((c : Thread nD τ).loc main_arg1)) (ix2 r l) := by
  obtain ⟨e0, e1⟩ := (index t).2.1
  refine (congrArg (V m c main_arg1) (funext fun a => Fin.ext ?_)).trans (congrFun (V_main_arg1 m c) _)
  match a with
  | ⟨0, _⟩ => show win0_1.index t 0 * 2 + 1 * r.val = r.val; rw [e0]; omega
  | ⟨1, _⟩ => show win0_1.index t 1 * 18432 + 1 * l.val = l.val; rw [e1]; omega

theorem m_block (t : Fin cfg0.N) (r : Fin 2) (l : Fin 18432) : iblk m c 2 t (ix2 r l) = (m ((c : Thread nD τ).loc main_arg2)) (ix2 r l) := by
  obtain ⟨e0, e1⟩ := (index t).2.2.1
  refine (congrArg (V m c main_arg2) (funext fun a => Fin.ext ?_)).trans (congrFun (V_main_arg2 m c) _)
  match a with
  | ⟨0, _⟩ => show win0_2.index t 0 * 2 + 1 * r.val = r.val; rw [e0]; omega
  | ⟨1, _⟩ => show win0_2.index t 1 * 18432 + 1 * l.val = l.val; rw [e1]; omega

theorem v_block (t : Fin cfg0.N) (r : Fin 2) (l : Fin 18432) : iblk m c 3 t (ix2 r l) = (m ((c : Thread nD τ).loc main_arg3)) (ix2 r l) := by
  obtain ⟨e0, e1⟩ := (index t).2.2.2.1
  refine (congrArg (V m c main_arg3) (funext fun a => Fin.ext ?_)).trans (congrFun (V_main_arg3 m c) _)
  match a with
  | ⟨0, _⟩ => show win0_3.index t 0 * 2 + 1 * r.val = r.val; rw [e0]; omega
  | ⟨1, _⟩ => show win0_3.index t 1 * 18432 + 1 * l.val = l.val; rw [e1]; omega

/-! ## The results -/

/-- The gradient, as it was given. -/
def gradArr (g : FVec Ideal S2x18432 .f32) : FVec Ideal S2x18432 .f32 := g

/-- The weights' change, entry by entry. -/
def changeArr (g w m v : FVec Ideal S2x18432 .f32) : FVec Ideal S2x18432 .f32 := fun i => Adam.change (g i) (w i) (m i) (v i)

/-- The first moment, entry by entry. -/
def firstArr (g m : FVec Ideal S2x18432 .f32) : FVec Ideal S2x18432 .f32 := fun i => Adam.first (g i) (m i)

/-- The second moment, entry by entry. -/
def secondArr (g v : FVec Ideal S2x18432 .f32) : FVec Ideal S2x18432 .f32 := fun i => Adam.second (g i) (v i)

section

variable (x0 : FVec Ideal S1x2x18432 .f32) (x1 x2 x3 : FVec Ideal S2x18432 .f32)

theorem grad_point (r : Fin 2) (l : Fin 18432) : k0_pay1 (F := Ideal) x0 (ix2 r l) = (x0 (ix3 0 r l) : EReal) := by
  pointwise [k0_pay1]

theorem change_point (r : Fin 2) (l : Fin 18432) : k0_pay4 (F := Ideal) x0 x1 x2 x3 (ix2 r l) = (Adam.change (x0 (ix3 0 r l)) (x1 (ix2 r l)) (x2 (ix2 r l)) (x3 (ix2 r l)) : EReal) := by
  pointwise [k0_pay4, k0_pay3, k0_pay2, k0_pay1, Adam.change, Adam.first, Adam.second]

theorem first_point (r : Fin 2) (l : Fin 18432) : k0_pay2 (F := Ideal) x0 x2 (ix2 r l) = (Adam.first (x0 (ix3 0 r l)) (x2 (ix2 r l)) : EReal) := by
  pointwise [k0_pay2, k0_pay1, Adam.first]

theorem second_point (r : Fin 2) (l : Fin 18432) : k0_pay3 (F := Ideal) x0 x3 (ix2 r l) = (Adam.second (x0 (ix3 0 r l)) (x3 (ix2 r l)) : EReal) := by
  pointwise [k0_pay3, k0_pay1, Adam.second]

end

theorem emb_grad (t : Fin cfg0.N) (r : Fin 2) (l : Fin 18432) :
    ((cfg0.win 4).blk t).view.emb (ix2 r l : S2x18432.Idx) = (ix2 r l : S2x18432.Idx) := by
  obtain ⟨e0, e1⟩ := (index t).2.2.2.2.1
  refine funext fun a => Fin.ext ?_
  match a with
  | ⟨0, _⟩ => show win0_4.index t 0 * 2 + 1 * r.val = r.val; rw [e0]; omega
  | ⟨1, _⟩ => show win0_4.index t 1 * 18432 + 1 * l.val = l.val; rw [e1]; omega

theorem grad_arr : (dats m 0 c).arrAt 4 cfg0.N = gradArr (m ((c : Thread nD τ).loc main_arg0)) := by
  refine (dats m 0 c).arrAt_eq_of_covers 4 _ (by decide +kernel) (fun t _ (x : S2x18432.Idx) => ?_)
  show (dats m 0 c).after 4 t x = gradArr _ (((cfg0.win 4).blk t).view.emb x)
  rw [after0_4]
  frame_out
  idx_vars x
  rw [emb_grad, grad_point]
  simp only [g_block]
  rfl

theorem emb_change (t : Fin cfg0.N) (r : Fin 2) (l : Fin 18432) :
    ((cfg0.win 5).blk t).view.emb (ix2 r l : S2x18432.Idx) = (ix2 r l : S2x18432.Idx) := by
  obtain ⟨e0, e1⟩ := (index t).2.2.2.2.2.1
  refine funext fun a => Fin.ext ?_
  match a with
  | ⟨0, _⟩ => show win0_5.index t 0 * 2 + 1 * r.val = r.val; rw [e0]; omega
  | ⟨1, _⟩ => show win0_5.index t 1 * 18432 + 1 * l.val = l.val; rw [e1]; omega

theorem change_arr : (dats m 0 c).arrAt 5 cfg0.N = changeArr (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) (fun t _ (x : S2x18432.Idx) => ?_)
  show (dats m 0 c).after 5 t x = changeArr _ _ _ _ (((cfg0.win 5).blk t).view.emb x)
  rw [after0_5]
  frame_out
  idx_vars x
  rw [emb_change, change_point]
  simp only [g_block, w_block, m_block, v_block]
  rfl

theorem emb_first (t : Fin cfg0.N) (r : Fin 2) (l : Fin 18432) :
    ((cfg0.win 6).blk t).view.emb (ix2 r l : S2x18432.Idx) = (ix2 r l : S2x18432.Idx) := by
  obtain ⟨e0, e1⟩ := (index t).2.2.2.2.2.2.1
  refine funext fun a => Fin.ext ?_
  match a with
  | ⟨0, _⟩ => show win0_6.index t 0 * 2 + 1 * r.val = r.val; rw [e0]; omega
  | ⟨1, _⟩ => show win0_6.index t 1 * 18432 + 1 * l.val = l.val; rw [e1]; omega

theorem first_arr : (dats m 0 c).arrAt 6 cfg0.N = firstArr (m ((c : Thread nD τ).loc main_arg0)) (m ((c : Thread nD τ).loc main_arg2)) := by
  refine (dats m 0 c).arrAt_eq_of_covers 6 _ (by decide +kernel) (fun t _ (x : S2x18432.Idx) => ?_)
  show (dats m 0 c).after 6 t x = firstArr _ _ (((cfg0.win 6).blk t).view.emb x)
  rw [after0_6]
  frame_out
  idx_vars x
  rw [emb_first, first_point]
  simp only [g_block, m_block]
  rfl

theorem emb_second (t : Fin cfg0.N) (r : Fin 2) (l : Fin 18432) :
    ((cfg0.win 7).blk t).view.emb (ix2 r l : S2x18432.Idx) = (ix2 r l : S2x18432.Idx) := by
  obtain ⟨e0, e1⟩ := (index t).2.2.2.2.2.2.2
  refine funext fun a => Fin.ext ?_
  match a with
  | ⟨0, _⟩ => show win0_7.index t 0 * 2 + 1 * r.val = r.val; rw [e0]; omega
  | ⟨1, _⟩ => show win0_7.index t 1 * 18432 + 1 * l.val = l.val; rw [e1]; omega

theorem second_arr : (dats m 0 c).arrAt 7 cfg0.N = secondArr (m ((c : Thread nD τ).loc main_arg0)) (m ((c : Thread nD τ).loc main_arg3)) := by
  refine (dats m 0 c).arrAt_eq_of_covers 7 _ (by decide +kernel) (fun t _ (x : S2x18432.Idx) => ?_)
  show (dats m 0 c).after 7 t x = secondArr _ _ (((cfg0.win 7).blk t).view.emb x)
  rw [after0_7]
  frame_out
  idx_vars x
  rw [emb_second, second_point]
  simp only [g_block, v_block]
  rfl

/-- Every execution ends with the four results at these arrays of the arguments, and the arguments as they were. -/
theorem run : θ_run defs (onTc (τ := τ) (main (F := Ideal))) ⟨m, fun _ => 0, ρ⟩ fun r => ∀ c : Dev nD,
    r.2.mem ((c.tc : Thread nD τ).loc main_v1_0) = gradArr (m ((c : Thread nD τ).loc main_arg0)) ∧
    r.2.mem ((c.tc : Thread nD τ).loc main_v1_1) = changeArr (m ((c : Thread nD τ).loc main_arg0)) (m ((c : Thread nD τ).loc main_arg1)) (m ((c : Thread nD τ).loc main_arg2)) (m ((c : Thread nD τ).loc main_arg3)) ∧
    r.2.mem ((c.tc : Thread nD τ).loc main_v1_2) = firstArr (m ((c : Thread nD τ).loc main_arg0)) (m ((c : Thread nD τ).loc main_arg2)) ∧
    r.2.mem ((c.tc : Thread nD τ).loc main_v1_3) = secondArr (m ((c : Thread nD τ).loc main_arg0)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨(Value.post4 m r h c).trans (grad_arr m c), (Value.post5 m r h c).trans (change_arr m c),
    (Value.post6 m r h c).trans (first_arr m c), (Value.post7 m r h c).trans (second_arr m c),
    Value.kept_main_arg0 m r h c, Value.kept_main_arg1 m r h c, Value.kept_main_arg2 m r h c, Value.kept_main_arg3 m r h c⟩) (run_main m ρ)

end Cert.Kernel15Ideal.AdaB

end
-- ==== Proof.Adam.AdaBReference.lean ====
/- The reference's optimiser step of a parameter of shape 2x18432 gives the kernel's arrays. -/
module

public import proofs.«01_k».proof.Proof.Adam.AdaB
public import proofs.«01_k».proof.Proof.Gen.Reference15Ideal.Run

@[expose] public section

set_option maxRecDepth 16384

noncomputable section

namespace Cert.Reference15Ideal.AdaB

open Idealize.ShloMosaic Idealize.SL.Sem Idealize.ShloMosaic.TcCoe
open Cert.Reference15Ideal Cert.Reference15Ideal.Gen
open Cert.Kernel15Ideal.AdaB (gradArr changeArr firstArr secondArr)

/-- The reference's two moments, in the parameter's own shape. -/
def first (g m : FVec Ideal S2x18432 .f32) : FVec Ideal S2x18432 .f32 := addf (mulf (broadcastInDim S2x18432 ![] bcast_S_S2x18432 (constant S_ .f32 0x3F666666#32)) m) (mulf (broadcastInDim S2x18432 ![] bcast_S_S2x18432 (constant S_ .f32 0x3DCCCCCD#32)) g)

def second (g v : FVec Ideal S2x18432 .f32) : FVec Ideal S2x18432 .f32 := addf (mulf (broadcastInDim S2x18432 ![] bcast_S_S2x18432 (constant S_ .f32 0x3F7FBE77#32)) v) (mulf (broadcastInDim S2x18432 ![] bcast_S_S2x18432 (constant S_ .f32 0x3A83126F#32)) (mulf g g))

/-- Its change of the weights. -/
def change (g w m v : FVec Ideal S2x18432 .f32) : FVec Ideal S2x18432 .f32 :=
  mulf (broadcastInDim S2x18432 ![] bcast_S_S2x18432 (constant S_ .f32 0xBA83126F#32)) (addf (Host.divf (Host.divf (first g m) (broadcastInDim S2x18432 ![] bcast_S_S2x18432 (constant S_ .f32 0x3F26BD02#32)))
    (addf (Host.sqrt (Host.divf (second g v) (broadcastInDim S2x18432 ![] bcast_S_S2x18432 (constant S_ .f32 0x3C231ACC#32)))) (broadcastInDim S2x18432 ![] bcast_S_S2x18432 (constant S_ .f32 0x322BCC77#32)))) (mulf (broadcastInDim S2x18432 ![] bcast_S_S2x18432 (constant S_ .f32 0x3C23D70A#32)) w))

theorem grad_eq (g : FVec Ideal S2x18432 .f32) : (g : FVec Ideal S2x18432 .f32) = gradArr g := rfl

theorem first_eq (g m : FVec Ideal S2x18432 .f32) : (first g m : FVec Ideal S2x18432 .f32) = firstArr g m := rfl

theorem second_eq (g v : FVec Ideal S2x18432 .f32) : (second g v : FVec Ideal S2x18432 .f32) = secondArr g v := rfl

theorem change_eq (g w m v : FVec Ideal S2x18432 .f32) : (change g w m v : FVec Ideal S2x18432 .f32) = changeArr g w m v := rfl

end Cert.Reference15Ideal.AdaB

end
-- ==== Proof.Adam.NormG.lean ====
/- What the optimiser's step of a parameter of shape 2x3x256 leaves in its four result arrays, over the extended reals: the
   gradient, the weights' change and the two moments, entry by entry. -/
module

public import proofs.«01_k».proof.Proof.Gen.Kernel16Ideal.Value
public import proofs.«01_k».proof.Proof.Adam.Step
public import Idealize.ShloMosaic.Lib.Pipeline.ValueKit
public import Idealize.ShloMosaic.Lib.Pointwise
public import Idealize.ShloMosaic.Lib.Tactic

@[expose] public section

set_option maxRecDepth 16384

noncomputable section

namespace Cert.Kernel16Ideal.NormG

open Idealize.ShloMosaic Idealize.SL.Sem Idealize.ShloMosaic.TcCoe
open Cert.Kernel16Ideal Cert.Kernel16Ideal.Gen
open Idealize.ShloMosaic.Pipeline (Dat Cfg Window)

/-- An array of the parameter's shape as a matrix. -/
def rows (a : FVec Ideal S2x3x256 .f32) : FVec Ideal S6x256 .f32 := shapeCast _ a shapeCasts_S2x3x256_S6x256

/-- There is one point, and its blocks are the whole arrays. -/
theorem index : ∀ t : Fin grid0.N,
    (win0_0.index t 0 = 0 ∧ win0_0.index t 1 = 0 ∧ win0_0.index t 2 = 0)
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) := by decide +kernel

variable (m : (ℓ : Loc nD τ sig) → Buf (Elt Ideal) ℓ) (ρ : Dev nD → PrngReg) (c : Dev nD)

/-! ## The arrays as the call gets them, and a point's blocks of them -/

/-- The gradient as the call gets it: with an axis of one in front. -/
theorem lead_axis (r : Fin 6) (l : Fin 256) : V m c main_v4 (ix3 0 r l) = (rows (m ((c : Thread nD τ).loc main_arg0))) (ix2 r l) := by
  have e : V m c main_v4 = broadcastInDim S1x6x256 ![1, 2] bcast_S6x256_S1x6x256_1_2 (rows (m ((c : Thread nD τ).loc main_arg0))) := by
    show StableHlo.after hostOps0 (fun b => m (c, b)) (Proc.devRef .tc main_v4) = _
    simp only [hostOps0, List.flatten_cons, List.flatten_nil, List.append_nil, List.cons_append, List.nil_append]
    after_results_simp <;> rfl
  rw [e]
  pointwise []

theorem flat_1 : V m c main_v1 = rows (m ((c : Thread nD τ).loc main_arg1)) := by
    show StableHlo.after hostOps0 (fun b => m (c, b)) (Proc.devRef .tc main_v1) = _
    simp only [hostOps0, List.flatten_cons, List.flatten_nil, List.append_nil, List.cons_append, List.nil_append]
    after_results_simp <;> rfl

theorem flat_2 : V m c main_v2 = rows (m ((c : Thread nD τ).loc main_arg2)) := by
    show StableHlo.after hostOps0 (fun b => m (c, b)) (Proc.devRef .tc main_v2) = _
    simp only [hostOps0, List.flatten_cons, List.flatten_nil, List.append_nil, List.cons_append, List.nil_append]
    after_results_simp <;> rfl

theorem flat_3 : V m c main_v3 = rows (m ((c : Thread nD τ).loc main_arg3)) := by
    show StableHlo.after hostOps0 (fun b => m (c, b)) (Proc.devRef .tc main_v3) = _
    simp only [hostOps0, List.flatten_cons, List.flatten_nil, List.append_nil, List.cons_append, List.nil_append]
    after_results_simp <;> rfl

theorem g_block (t : Fin cfg0.N) (r : Fin 6) (l : Fin 256) : iblk m c 0 t (ix3 0 r l) = (rows (m ((c : Thread nD τ).loc main_arg0))) (ix2 r l) := by
  obtain ⟨e0, e1, e2⟩ := (index t).1
  refine (congrArg (V m c main_v4) (funext fun a => Fin.ext ?_)).trans (lead_axis m c _ _)
  match a with
  | ⟨0, _⟩ => show win0_0.index t 0 * 1 + 1 * 0 = 0; rw [e0]
  | ⟨1, _⟩ => show win0_0.index t 1 * 6 + 1 * r.val = r.val; rw [e1]; omega
  | ⟨2, _⟩ => show win0_0.index t 2 * 256 + 1 * l.val = l.val; rw [e2]; omega

theorem w_block (t : Fin cfg0.N) (r : Fin 6) (l : Fin 256) : iblk m c 1 t (ix2 r l) = (rows (m ((c : Thread nD τ).loc main_arg1))) (ix2 r l) := by
  obtain ⟨e0, e1⟩ := (index t).2.1
  refine (congrArg (V m c main_v1) (funext fun a => Fin.ext ?_)).trans (congrFun (flat_1 m c) _)
  match a with
  | ⟨0, _⟩ => show win0_1.index t 0 * 6 + 1 * r.val = r.val; rw [e0]; omega
  | ⟨1, _⟩ => show win0_1.index t 1 * 256 + 1 * l.val = l.val; rw [e1]; omega

theorem m_block (t : Fin cfg0.N) (r : Fin 6) (l : Fin 256) : iblk m c 2 t (ix2 r l) = (rows (m ((c : Thread nD τ).loc main_arg2))) (ix2 r l) := by
  obtain ⟨e0, e1⟩ := (index t).2.2.1
  refine (congrArg (V m c main_v2) (funext fun a => Fin.ext ?_)).trans (congrFun (flat_2 m c) _)
  match a with
  | ⟨0, _⟩ => show win0_2.index t 0 * 6 + 1 * r.val = r.val; rw [e0]; omega
  | ⟨1, _⟩ => show win0_2.index t 1 * 256 + 1 * l.val = l.val; rw [e1]; omega

theorem v_block (t : Fin cfg0.N) (r : Fin 6) (l : Fin 256) : iblk m c 3 t (ix2 r l) = (rows (m ((c : Thread nD τ).loc main_arg3))) (ix2 r l) := by
  obtain ⟨e0, e1⟩ := (index t).2.2.2.1
  refine (congrArg (V m c main_v3) (funext fun a => Fin.ext ?_)).trans (congrFun (flat_3 m c) _)
  match a with
  | ⟨0, _⟩ => show win0_3.index t 0 * 6 + 1 * r.val = r.val; rw [e0]; omega
  | ⟨1, _⟩ => show win0_3.index t 1 * 256 + 1 * l.val = l.val; rw [e1]; omega

/-! ## The results -/

/-- The gradient, as it was given. -/
def gradArr (g : FVec Ideal S2x3x256 .f32) : FVec Ideal S6x256 .f32 := rows g

/-- The weights' change, entry by entry. -/
def changeArr (g w m v : FVec Ideal S2x3x256 .f32) : FVec Ideal S6x256 .f32 := fun i => Adam.change (rows g i) (rows w i) (rows m i) (rows v i)

/-- The first moment, entry by entry. -/
def firstArr (g m : FVec Ideal S2x3x256 .f32) : FVec Ideal S6x256 .f32 := fun i => Adam.first (rows g i) (rows m i)

/-- The second moment, entry by entry. -/
def secondArr (g v : FVec Ideal S2x3x256 .f32) : FVec Ideal S6x256 .f32 := fun i => Adam.second (rows g i) (rows v i)

section

variable (x0 : FVec Ideal S1x6x256 .f32) (x1 x2 x3 : FVec Ideal S6x256 .f32)

theorem grad_point (r : Fin 6) (l : Fin 256) : k0_pay1 (F := Ideal) x0 (ix2 r l) = (x0 (ix3 0 r l) : EReal) := by
  pointwise [k0_pay1]

theorem change_point (r : Fin 6) (l : Fin 256) : k0_pay4 (F := Ideal) x0 x1 x2 x3 (ix2 r l) = (Adam.change (x0 (ix3 0 r l)) (x1 (ix2 r l)) (x2 (ix2 r l)) (x3 (ix2 r l)) : EReal) := by
  pointwise [k0_pay4, k0_pay3, k0_pay2, k0_pay1, Adam.change, Adam.first, Adam.second]

theorem first_point (r : Fin 6) (l : Fin 256) : k0_pay2 (F := Ideal) x0 x2 (ix2 r l) = (Adam.first (x0 (ix3 0 r l)) (x2 (ix2 r l)) : EReal) := by
  pointwise [k0_pay2, k0_pay1, Adam.first]

theorem second_point (r : Fin 6) (l : Fin 256) : k0_pay3 (F := Ideal) x0 x3 (ix2 r l) = (Adam.second (x0 (ix3 0 r l)) (x3 (ix2 r l)) : EReal) := by
  pointwise [k0_pay3, k0_pay1, Adam.second]

end

theorem emb_grad (t : Fin cfg0.N) (r : Fin 6) (l : Fin 256) :
    ((cfg0.win 4).blk t).view.emb (ix2 r l : S6x256.Idx) = (ix2 r l : S6x256.Idx) := by
  obtain ⟨e0, e1⟩ := (index t).2.2.2.2.1
  refine funext fun a => Fin.ext ?_
  match a with
  | ⟨0, _⟩ => show win0_4.index t 0 * 6 + 1 * r.val = r.val; rw [e0]; omega
  | ⟨1, _⟩ => show win0_4.index t 1 * 256 + 1 * l.val = l.val; rw [e1]; omega

theorem grad_arr : (dats m 0 c).arrAt 4 cfg0.N = gradArr (m ((c : Thread nD τ).loc main_arg0)) := by
  refine (dats m 0 c).arrAt_eq_of_covers 4 _ (by decide +kernel) (fun t _ (x : S6x256.Idx) => ?_)
  show (dats m 0 c).after 4 t x = gradArr _ (((cfg0.win 4).blk t).view.emb x)
  rw [after0_4]
  frame_out
  idx_vars x
  rw [emb_grad, grad_point]
  simp only [g_block]
  rfl

theorem emb_change (t : Fin cfg0.N) (r : Fin 6) (l : Fin 256) :
    ((cfg0.win 5).blk t).view.emb (ix2 r l : S6x256.Idx) = (ix2 r l : S6x256.Idx) := by
  obtain ⟨e0, e1⟩ := (index t).2.2.2.2.2.1
  refine funext fun a => Fin.ext ?_
  match a with
  | ⟨0, _⟩ => show win0_5.index t 0 * 6 + 1 * r.val = r.val; rw [e0]; omega
  | ⟨1, _⟩ => show win0_5.index t 1 * 256 + 1 * l.val = l.val; rw [e1]; omega

theorem change_arr : (dats m 0 c).arrAt 5 cfg0.N = changeArr (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) (fun t _ (x : S6x256.Idx) => ?_)
  show (dats m 0 c).after 5 t x = changeArr _ _ _ _ (((cfg0.win 5).blk t).view.emb x)
  rw [after0_5]
  frame_out
  idx_vars x
  rw [emb_change, change_point]
  simp only [g_block, w_block, m_block, v_block]
  rfl

theorem emb_first (t : Fin cfg0.N) (r : Fin 6) (l : Fin 256) :
    ((cfg0.win 6).blk t).view.emb (ix2 r l : S6x256.Idx) = (ix2 r l : S6x256.Idx) := by
  obtain ⟨e0, e1⟩ := (index t).2.2.2.2.2.2.1
  refine funext fun a => Fin.ext ?_
  match a with
  | ⟨0, _⟩ => show win0_6.index t 0 * 6 + 1 * r.val = r.val; rw [e0]; omega
  | ⟨1, _⟩ => show win0_6.index t 1 * 256 + 1 * l.val = l.val; rw [e1]; omega

theorem first_arr : (dats m 0 c).arrAt 6 cfg0.N = firstArr (m ((c : Thread nD τ).loc main_arg0)) (m ((c : Thread nD τ).loc main_arg2)) := by
  refine (dats m 0 c).arrAt_eq_of_covers 6 _ (by decide +kernel) (fun t _ (x : S6x256.Idx) => ?_)
  show (dats m 0 c).after 6 t x = firstArr _ _ (((cfg0.win 6).blk t).view.emb x)
  rw [after0_6]
  frame_out
  idx_vars x
  rw [emb_first, first_point]
  simp only [g_block, m_block]
  rfl

theorem emb_second (t : Fin cfg0.N) (r : Fin 6) (l : Fin 256) :
    ((cfg0.win 7).blk t).view.emb (ix2 r l : S6x256.Idx) = (ix2 r l : S6x256.Idx) := by
  obtain ⟨e0, e1⟩ := (index t).2.2.2.2.2.2.2
  refine funext fun a => Fin.ext ?_
  match a with
  | ⟨0, _⟩ => show win0_7.index t 0 * 6 + 1 * r.val = r.val; rw [e0]; omega
  | ⟨1, _⟩ => show win0_7.index t 1 * 256 + 1 * l.val = l.val; rw [e1]; omega

theorem second_arr : (dats m 0 c).arrAt 7 cfg0.N = secondArr (m ((c : Thread nD τ).loc main_arg0)) (m ((c : Thread nD τ).loc main_arg3)) := by
  refine (dats m 0 c).arrAt_eq_of_covers 7 _ (by decide +kernel) (fun t _ (x : S6x256.Idx) => ?_)
  show (dats m 0 c).after 7 t x = secondArr _ _ (((cfg0.win 7).blk t).view.emb x)
  rw [after0_7]
  frame_out
  idx_vars x
  rw [emb_second, second_point]
  simp only [g_block, v_block]
  rfl

/-- Every execution ends with the four results at these arrays of the arguments, and the arguments as they were. -/
theorem run : θ_run defs (onTc (τ := τ) (main (F := Ideal))) ⟨m, fun _ => 0, ρ⟩ fun r => ∀ c : Dev nD,
    r.2.mem ((c.tc : Thread nD τ).loc main_v5_0) = gradArr (m ((c : Thread nD τ).loc main_arg0)) ∧
    r.2.mem ((c.tc : Thread nD τ).loc main_v5_1) = changeArr (m ((c : Thread nD τ).loc main_arg0)) (m ((c : Thread nD τ).loc main_arg1)) (m ((c : Thread nD τ).loc main_arg2)) (m ((c : Thread nD τ).loc main_arg3)) ∧
    r.2.mem ((c.tc : Thread nD τ).loc main_v5_2) = firstArr (m ((c : Thread nD τ).loc main_arg0)) (m ((c : Thread nD τ).loc main_arg2)) ∧
    r.2.mem ((c.tc : Thread nD τ).loc main_v5_3) = secondArr (m ((c : Thread nD τ).loc main_arg0)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨(Value.post4 m r h c).trans (grad_arr m c), (Value.post5 m r h c).trans (change_arr m c),
    (Value.post6 m r h c).trans (first_arr m c), (Value.post7 m r h c).trans (second_arr m c),
    Value.kept_main_arg0 m r h c, Value.kept_main_arg1 m r h c, Value.kept_main_arg2 m r h c, Value.kept_main_arg3 m r h c⟩) (run_main m ρ)

end Cert.Kernel16Ideal.NormG

end
-- ==== Proof.Adam.NormGReference.lean ====
/- The reference's optimiser step of a parameter of shape 2x3x256 gives the kernel's arrays. -/
module

public import proofs.«01_k».proof.Proof.Adam.NormG
public import proofs.«01_k».proof.Proof.Gen.Reference16Ideal.Run

@[expose] public section

set_option maxRecDepth 16384

noncomputable section

namespace Cert.Reference16Ideal.NormG

open Idealize.ShloMosaic Idealize.SL.Sem Idealize.ShloMosaic.TcCoe
open Cert.Reference16Ideal Cert.Reference16Ideal.Gen
open Cert.Kernel16Ideal.NormG (gradArr changeArr firstArr secondArr)

/-- The reference's two moments, in the parameter's own shape. -/
def first (g m : FVec Ideal S2x3x256 .f32) : FVec Ideal S2x3x256 .f32 := addf (mulf (broadcastInDim S2x3x256 ![] bcast_S_S2x3x256 (constant S_ .f32 0x3F666666#32)) m) (mulf (broadcastInDim S2x3x256 ![] bcast_S_S2x3x256 (constant S_ .f32 0x3DCCCCCD#32)) g)

def second (g v : FVec Ideal S2x3x256 .f32) : FVec Ideal S2x3x256 .f32 := addf (mulf (broadcastInDim S2x3x256 ![] bcast_S_S2x3x256 (constant S_ .f32 0x3F7FBE77#32)) v) (mulf (broadcastInDim S2x3x256 ![] bcast_S_S2x3x256 (constant S_ .f32 0x3A83126F#32)) (mulf g g))

/-- Its change of the weights. -/
def change (g w m v : FVec Ideal S2x3x256 .f32) : FVec Ideal S2x3x256 .f32 :=
  mulf (broadcastInDim S2x3x256 ![] bcast_S_S2x3x256 (constant S_ .f32 0xBA83126F#32)) (addf (Host.divf (Host.divf (first g m) (broadcastInDim S2x3x256 ![] bcast_S_S2x3x256 (constant S_ .f32 0x3F26BD02#32)))
    (addf (Host.sqrt (Host.divf (second g v) (broadcastInDim S2x3x256 ![] bcast_S_S2x3x256 (constant S_ .f32 0x3C231ACC#32)))) (broadcastInDim S2x3x256 ![] bcast_S_S2x3x256 (constant S_ .f32 0x322BCC77#32)))) (mulf (broadcastInDim S2x3x256 ![] bcast_S_S2x3x256 (constant S_ .f32 0x3C23D70A#32)) w))

theorem grad_eq (g : FVec Ideal S2x3x256 .f32) : (shapeCast _ (g) shapeCasts_S2x3x256_S6x256 : FVec Ideal S6x256 .f32) = gradArr g := rfl

theorem first_eq (g m : FVec Ideal S2x3x256 .f32) : (shapeCast _ (first g m) shapeCasts_S2x3x256_S6x256 : FVec Ideal S6x256 .f32) = firstArr g m := rfl

theorem second_eq (g v : FVec Ideal S2x3x256 .f32) : (shapeCast _ (second g v) shapeCasts_S2x3x256_S6x256 : FVec Ideal S6x256 .f32) = secondArr g v := rfl

theorem change_eq (g w m v : FVec Ideal S2x3x256 .f32) : (shapeCast _ (change g w m v) shapeCasts_S2x3x256_S6x256 : FVec Ideal S6x256 .f32) = changeArr g w m v := rfl

end Cert.Reference16Ideal.NormG

end
-- ==== Proof.Adam.GmLn.lean ====
/- What the optimiser's step of a parameter of shape 1x2048 leaves in its four result arrays, over the extended reals: the
   gradient, the weights' change and the two moments, entry by entry. -/
module

public import proofs.«01_k».proof.Proof.Gen.Kernel17Ideal.Value
public import proofs.«01_k».proof.Proof.Adam.Step
public import Idealize.ShloMosaic.Lib.Pipeline.ValueKit
public import Idealize.ShloMosaic.Lib.Pointwise
public import Idealize.ShloMosaic.Lib.Tactic

@[expose] public section

set_option maxRecDepth 16384

noncomputable section

namespace Cert.Kernel17Ideal.GmLn

open Idealize.ShloMosaic Idealize.SL.Sem Idealize.ShloMosaic.TcCoe
open Cert.Kernel17Ideal Cert.Kernel17Ideal.Gen
open Idealize.ShloMosaic.Pipeline (Dat Cfg Window)

/-- There is one point, and its blocks are the whole arrays. -/
theorem index : ∀ t : Fin grid0.N,
    (win0_0.index t 0 = 0 ∧ win0_0.index t 1 = 0 ∧ win0_0.index t 2 = 0)
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) := by decide +kernel

variable (m : (ℓ : Loc nD τ sig) → Buf (Elt Ideal) ℓ) (ρ : Dev nD → PrngReg) (c : Dev nD)

/-! ## The arrays as the call gets them, and a point's blocks of them -/

/-- The gradient as the call gets it: with an axis of one in front. -/
theorem lead_axis (r : Fin 1) (l : Fin 2048) : V m c main_v0 (ix3 0 r l) = (m ((c : Thread nD τ).loc main_arg0)) (ix2 r l) := by
  have e : V m c main_v0 = broadcastInDim S1x1x2048 ![1, 2] bcast_S1x2048_S1x1x2048_1_2 (m ((c : Thread nD τ).loc main_arg0)) := by
    show StableHlo.after hostOps0 (fun b => m (c, b)) (Proc.devRef .tc main_v0) = _
    simp only [hostOps0, List.flatten_cons, List.flatten_nil, List.append_nil, List.cons_append, List.nil_append]
    after_results_simp <;> rfl
  rw [e]
  obtain rfl : r = 0 := Subsingleton.elim _ _
  pointwise []

theorem g_block (t : Fin cfg0.N) (r : Fin 1) (l : Fin 2048) : iblk m c 0 t (ix3 0 r l) = (m ((c : Thread nD τ).loc main_arg0)) (ix2 r l) := by
  obtain ⟨e0, e1, e2⟩ := (index t).1
  refine (congrArg (V m c main_v0) (funext fun a => Fin.ext ?_)).trans (lead_axis m c _ _)
  match a with
  | ⟨0, _⟩ => show win0_0.index t 0 * 1 + 1 * 0 = 0; rw [e0]
  | ⟨1, _⟩ => show win0_0.index t 1 * 1 + 1 * r.val = r.val; rw [e1]; omega
  | ⟨2, _⟩ => show win0_0.index t 2 * 2048 + 1 * l.val = l.val; rw [e2]; omega

theorem w_block (t : Fin cfg0.N) (r : Fin 1) (l : Fin 2048) : iblk m c 1 t (ix2 r l) = (m ((c : Thread nD τ).loc main_arg1)) (ix2 r l) := by
  obtain ⟨e0, e1⟩ := (index t).2.1
  refine (congrArg (V m c main_arg1) (funext fun a => Fin.ext ?_)).trans (congrFun (V_main_arg1 m c) _)
  match a with
  | ⟨0, _⟩ => show win0_1.index t 0 * 1 + 1 * r.val = r.val; rw [e0]; omega
  | ⟨1, _⟩ => show win0_1.index t 1 * 2048 + 1 * l.val = l.val; rw [e1]; omega

theorem m_block (t : Fin cfg0.N) (r : Fin 1) (l : Fin 2048) : iblk m c 2 t (ix2 r l) = (m ((c : Thread nD τ).loc main_arg2)) (ix2 r l) := by
  obtain ⟨e0, e1⟩ := (index t).2.2.1
  refine (congrArg (V m c main_arg2) (funext fun a => Fin.ext ?_)).trans (congrFun (V_main_arg2 m c) _)
  match a with
  | ⟨0, _⟩ => show win0_2.index t 0 * 1 + 1 * r.val = r.val; rw [e0]; omega
  | ⟨1, _⟩ => show win0_2.index t 1 * 2048 + 1 * l.val = l.val; rw [e1]; omega

theorem v_block (t : Fin cfg0.N) (r : Fin 1) (l : Fin 2048) : iblk m c 3 t (ix2 r l) = (m ((c : Thread nD τ).loc main_arg3)) (ix2 r l) := by
  obtain ⟨e0, e1⟩ := (index t).2.2.2.1
  refine (congrArg (V m c main_arg3) (funext fun a => Fin.ext ?_)).trans (congrFun (V_main_arg3 m c) _)
  match a with
  | ⟨0, _⟩ => show win0_3.index t 0 * 1 + 1 * r.val = r.val; rw [e0]; omega
  | ⟨1, _⟩ => show win0_3.index t 1 * 2048 + 1 * l.val = l.val; rw [e1]; omega

/-! ## The results -/

/-- The gradient, as it was given. -/
def gradArr (g : FVec Ideal S1x2048 .f32) : FVec Ideal S1x2048 .f32 := g

/-- The weights' change, entry by entry. -/
def changeArr (g w m v : FVec Ideal S1x2048 .f32) : FVec Ideal S1x2048 .f32 := fun i => Adam.change (g i) (w i) (m i) (v i)

/-- The first moment, entry by entry. -/
def firstArr (g m : FVec Ideal S1x2048 .f32) : FVec Ideal S1x2048 .f32 := fun i => Adam.first (g i) (m i)

/-- The second moment, entry by entry. -/
def secondArr (g v : FVec Ideal S1x2048 .f32) : FVec Ideal S1x2048 .f32 := fun i => Adam.second (g i) (v i)

section

variable (x0 : FVec Ideal S1x1x2048 .f32) (x1 x2 x3 : FVec Ideal S1x2048 .f32)

theorem grad_point (r : Fin 1) (l : Fin 2048) : k0_pay1 (F := Ideal) x0 (ix2 r l) = (x0 (ix3 0 r l) : EReal) := by
  obtain rfl : r = 0 := Subsingleton.elim _ _
  pointwise [k0_pay1]

theorem change_point (r : Fin 1) (l : Fin 2048) : k0_pay4 (F := Ideal) x0 x1 x2 x3 (ix2 r l) = (Adam.change (x0 (ix3 0 r l)) (x1 (ix2 r l)) (x2 (ix2 r l)) (x3 (ix2 r l)) : EReal) := by
  obtain rfl : r = 0 := Subsingleton.elim _ _
  pointwise [k0_pay4, k0_pay3, k0_pay2, k0_pay1, Adam.change, Adam.first, Adam.second]

theorem first_point (r : Fin 1) (l : Fin 2048) : k0_pay2 (F := Ideal) x0 x2 (ix2 r l) = (Adam.first (x0 (ix3 0 r l)) (x2 (ix2 r l)) : EReal) := by
  obtain rfl : r = 0 := Subsingleton.elim _ _
  pointwise [k0_pay2, k0_pay1, Adam.first]

theorem second_point (r : Fin 1) (l : Fin 2048) : k0_pay3 (F := Ideal) x0 x3 (ix2 r l) = (Adam.second (x0 (ix3 0 r l)) (x3 (ix2 r l)) : EReal) := by
  obtain rfl : r = 0 := Subsingleton.elim _ _
  pointwise [k0_pay3, k0_pay1, Adam.second]

end

theorem emb_grad (t : Fin cfg0.N) (r : Fin 1) (l : Fin 2048) :
    ((cfg0.win 4).blk t).view.emb (ix2 r l : S1x2048.Idx) = (ix2 r l : S1x2048.Idx) := by
  obtain ⟨e0, e1⟩ := (index t).2.2.2.2.1
  refine funext fun a => Fin.ext ?_
  match a with
  | ⟨0, _⟩ => show win0_4.index t 0 * 1 + 1 * r.val = r.val; rw [e0]; omega
  | ⟨1, _⟩ => show win0_4.index t 1 * 2048 + 1 * l.val = l.val; rw [e1]; omega

theorem grad_arr : (dats m 0 c).arrAt 4 cfg0.N = gradArr (m ((c : Thread nD τ).loc main_arg0)) := by
  refine (dats m 0 c).arrAt_eq_of_covers 4 _ (by decide +kernel) (fun t _ (x : S1x2048.Idx) => ?_)
  show (dats m 0 c).after 4 t x = gradArr _ (((cfg0.win 4).blk t).view.emb x)
  rw [after0_4]
  frame_out
  idx_vars x
  rw [emb_grad, grad_point]
  simp only [g_block]
  rfl

theorem emb_change (t : Fin cfg0.N) (r : Fin 1) (l : Fin 2048) :
    ((cfg0.win 5).blk t).view.emb (ix2 r l : S1x2048.Idx) = (ix2 r l : S1x2048.Idx) := by
  obtain ⟨e0, e1⟩ := (index t).2.2.2.2.2.1
  refine funext fun a => Fin.ext ?_
  match a with
  | ⟨0, _⟩ => show win0_5.index t 0 * 1 + 1 * r.val = r.val; rw [e0]; omega
  | ⟨1, _⟩ => show win0_5.index t 1 * 2048 + 1 * l.val = l.val; rw [e1]; omega

theorem change_arr : (dats m 0 c).arrAt 5 cfg0.N = changeArr (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) (fun t _ (x : S1x2048.Idx) => ?_)
  show (dats m 0 c).after 5 t x = changeArr _ _ _ _ (((cfg0.win 5).blk t).view.emb x)
  rw [after0_5]
  frame_out
  idx_vars x
  rw [emb_change, change_point]
  simp only [g_block, w_block, m_block, v_block]
  rfl

theorem emb_first (t : Fin cfg0.N) (r : Fin 1) (l : Fin 2048) :
    ((cfg0.win 6).blk t).view.emb (ix2 r l : S1x2048.Idx) = (ix2 r l : S1x2048.Idx) := by
  obtain ⟨e0, e1⟩ := (index t).2.2.2.2.2.2.1
  refine funext fun a => Fin.ext ?_
  match a with
  | ⟨0, _⟩ => show win0_6.index t 0 * 1 + 1 * r.val = r.val; rw [e0]; omega
  | ⟨1, _⟩ => show win0_6.index t 1 * 2048 + 1 * l.val = l.val; rw [e1]; omega

theorem first_arr : (dats m 0 c).arrAt 6 cfg0.N = firstArr (m ((c : Thread nD τ).loc main_arg0)) (m ((c : Thread nD τ).loc main_arg2)) := by
  refine (dats m 0 c).arrAt_eq_of_covers 6 _ (by decide +kernel) (fun t _ (x : S1x2048.Idx) => ?_)
  show (dats m 0 c).after 6 t x = firstArr _ _ (((cfg0.win 6).blk t).view.emb x)
  rw [after0_6]
  frame_out
  idx_vars x
  rw [emb_first, first_point]
  simp only [g_block, m_block]
  rfl

theorem emb_second (t : Fin cfg0.N) (r : Fin 1) (l : Fin 2048) :
    ((cfg0.win 7).blk t).view.emb (ix2 r l : S1x2048.Idx) = (ix2 r l : S1x2048.Idx) := by
  obtain ⟨e0, e1⟩ := (index t).2.2.2.2.2.2.2
  refine funext fun a => Fin.ext ?_
  match a with
  | ⟨0, _⟩ => show win0_7.index t 0 * 1 + 1 * r.val = r.val; rw [e0]; omega
  | ⟨1, _⟩ => show win0_7.index t 1 * 2048 + 1 * l.val = l.val; rw [e1]; omega

theorem second_arr : (dats m 0 c).arrAt 7 cfg0.N = secondArr (m ((c : Thread nD τ).loc main_arg0)) (m ((c : Thread nD τ).loc main_arg3)) := by
  refine (dats m 0 c).arrAt_eq_of_covers 7 _ (by decide +kernel) (fun t _ (x : S1x2048.Idx) => ?_)
  show (dats m 0 c).after 7 t x = secondArr _ _ (((cfg0.win 7).blk t).view.emb x)
  rw [after0_7]
  frame_out
  idx_vars x
  rw [emb_second, second_point]
  simp only [g_block, v_block]
  rfl

/-- Every execution ends with the four results at these arrays of the arguments, and the arguments as they were. -/
theorem run : θ_run defs (onTc (τ := τ) (main (F := Ideal))) ⟨m, fun _ => 0, ρ⟩ fun r => ∀ c : Dev nD,
    r.2.mem ((c.tc : Thread nD τ).loc main_v1_0) = gradArr (m ((c : Thread nD τ).loc main_arg0)) ∧
    r.2.mem ((c.tc : Thread nD τ).loc main_v1_1) = changeArr (m ((c : Thread nD τ).loc main_arg0)) (m ((c : Thread nD τ).loc main_arg1)) (m ((c : Thread nD τ).loc main_arg2)) (m ((c : Thread nD τ).loc main_arg3)) ∧
    r.2.mem ((c.tc : Thread nD τ).loc main_v1_2) = firstArr (m ((c : Thread nD τ).loc main_arg0)) (m ((c : Thread nD τ).loc main_arg2)) ∧
    r.2.mem ((c.tc : Thread nD τ).loc main_v1_3) = secondArr (m ((c : Thread nD τ).loc main_arg0)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨(Value.post4 m r h c).trans (grad_arr m c), (Value.post5 m r h c).trans (change_arr m c),
    (Value.post6 m r h c).trans (first_arr m c), (Value.post7 m r h c).trans (second_arr m c),
    Value.kept_main_arg0 m r h c, Value.kept_main_arg1 m r h c, Value.kept_main_arg2 m r h c, Value.kept_main_arg3 m r h c⟩) (run_main m ρ)

end Cert.Kernel17Ideal.GmLn

end
-- ==== Proof.Adam.GmLnReference.lean ====
/- The reference's optimiser step of a parameter of shape 1x2048 gives the kernel's arrays. -/
module

public import proofs.«01_k».proof.Proof.Adam.GmLn
public import proofs.«01_k».proof.Proof.Gen.Reference17Ideal.Run

@[expose] public section

set_option maxRecDepth 16384

noncomputable section

namespace Cert.Reference17Ideal.GmLn

open Idealize.ShloMosaic Idealize.SL.Sem Idealize.ShloMosaic.TcCoe
open Cert.Reference17Ideal Cert.Reference17Ideal.Gen
open Cert.Kernel17Ideal.GmLn (gradArr changeArr firstArr secondArr)

/-- The reference's two moments, in the parameter's own shape. -/
def first (g m : FVec Ideal S1x2048 .f32) : FVec Ideal S1x2048 .f32 := addf (mulf (broadcastInDim S1x2048 ![] bcast_S_S1x2048 (constant S_ .f32 0x3F666666#32)) m) (mulf (broadcastInDim S1x2048 ![] bcast_S_S1x2048 (constant S_ .f32 0x3DCCCCCD#32)) g)

def second (g v : FVec Ideal S1x2048 .f32) : FVec Ideal S1x2048 .f32 := addf (mulf (broadcastInDim S1x2048 ![] bcast_S_S1x2048 (constant S_ .f32 0x3F7FBE77#32)) v) (mulf (broadcastInDim S1x2048 ![] bcast_S_S1x2048 (constant S_ .f32 0x3A83126F#32)) (mulf g g))

/-- Its change of the weights. -/
def change (g w m v : FVec Ideal S1x2048 .f32) : FVec Ideal S1x2048 .f32 :=
  mulf (broadcastInDim S1x2048 ![] bcast_S_S1x2048 (constant S_ .f32 0xBA83126F#32)) (addf (Host.divf (Host.divf (first g m) (broadcastInDim S1x2048 ![] bcast_S_S1x2048 (constant S_ .f32 0x3F26BD02#32)))
    (addf (Host.sqrt (Host.divf (second g v) (broadcastInDim S1x2048 ![] bcast_S_S1x2048 (constant S_ .f32 0x3C231ACC#32)))) (broadcastInDim S1x2048 ![] bcast_S_S1x2048 (constant S_ .f32 0x322BCC77#32)))) (mulf (broadcastInDim S1x2048 ![] bcast_S_S1x2048 (constant S_ .f32 0x3C23D70A#32)) w))

theorem grad_eq (g : FVec Ideal S1x2048 .f32) : (g : FVec Ideal S1x2048 .f32) = gradArr g := rfl

theorem first_eq (g m : FVec Ideal S1x2048 .f32) : (first g m : FVec Ideal S1x2048 .f32) = firstArr g m := rfl

theorem second_eq (g v : FVec Ideal S1x2048 .f32) : (second g v : FVec Ideal S1x2048 .f32) = secondArr g v := rfl

theorem change_eq (g w m v : FVec Ideal S1x2048 .f32) : (change g w m v : FVec Ideal S1x2048 .f32) = changeArr g w m v := rfl

end Cert.Reference17Ideal.GmLn

end
-- ==== Proof.Adam.GmWs.lean ====
/- What the optimiser's step of a parameter of shape 1x16x128x128 leaves in its four result arrays, over the extended reals: the
   gradient, the weights' change and the two moments, entry by entry. -/
module

public import proofs.«01_k».proof.Proof.Gen.Kernel18Ideal.Value
public import proofs.«01_k».proof.Proof.Adam.Step
public import Idealize.ShloMosaic.Lib.Pipeline.ValueKit
public import Idealize.ShloMosaic.Lib.Pointwise
public import Idealize.ShloMosaic.Lib.Tactic

@[expose] public section

set_option maxRecDepth 16384

noncomputable section

namespace Cert.Kernel18Ideal.GmWs

open Idealize.ShloMosaic Idealize.SL.Sem Idealize.ShloMosaic.TcCoe
open Cert.Kernel18Ideal Cert.Kernel18Ideal.Gen
open Idealize.ShloMosaic.Pipeline (Dat Cfg Window)

/-- An array of the parameter's shape as a matrix. -/
def rows (a : FVec Ideal S1x16x128x128 .f32) : FVec Ideal S2048x128 .f32 := shapeCast _ a shapeCasts_S1x16x128x128_S2048x128

/-- Point `t` takes block `t` of 256 rows. -/
theorem index : ∀ t : Fin grid0.N,
    (win0_0.index t 0 = 0 ∧ win0_0.index t 1 = t.val ∧ win0_0.index t 2 = 0)
    ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) := by decide +kernel

theorem lt (t : Fin cfg0.N) : t.val < 8 := lt_of_lt_of_eq t.isLt N_0

/-- Row `r` of the row block of a point. -/
def rowAt (t : ℕ) (h : t < 8) (r : Fin 256) : Fin 2048 := ⟨t * 256 + r.val, by omega⟩

variable (m : (ℓ : Loc nD τ sig) → Buf (Elt Ideal) ℓ) (ρ : Dev nD → PrngReg) (c : Dev nD)

/-! ## The arrays as the call gets them, and a point's blocks of them -/

/-- The gradient as the call gets it: with an axis of one in front. -/
theorem lead_axis (r : Fin 2048) (l : Fin 128) : V m c main_v4 (ix3 0 r l) = (rows (m ((c : Thread nD τ).loc main_arg0))) (ix2 r l) := by
  have e : V m c main_v4 = broadcastInDim S1x2048x128 ![1, 2] bcast_S2048x128_S1x2048x128_1_2 (rows (m ((c : Thread nD τ).loc main_arg0))) := by
    show StableHlo.after hostOps0 (fun b => m (c, b)) (Proc.devRef .tc main_v4) = _
    simp only [hostOps0, List.flatten_cons, List.flatten_nil, List.append_nil, List.cons_append, List.nil_append]
    after_results_simp <;> rfl
  rw [e]
  pointwise []

theorem flat_1 : V m c main_v1 = rows (m ((c : Thread nD τ).loc main_arg1)) := by
    show StableHlo.after hostOps0 (fun b => m (c, b)) (Proc.devRef .tc main_v1) = _
    simp only [hostOps0, List.flatten_cons, List.flatten_nil, List.append_nil, List.cons_append, List.nil_append]
    after_results_simp <;> rfl

theorem flat_2 : V m c main_v2 = rows (m ((c : Thread nD τ).loc main_arg2)) := by
    show StableHlo.after hostOps0 (fun b => m (c, b)) (Proc.devRef .tc main_v2) = _
    simp only [hostOps0, List.flatten_cons, List.flatten_nil, List.append_nil, List.cons_append, List.nil_append]
    after_results_simp <;> rfl

theorem flat_3 : V m c main_v3 = rows (m ((c : Thread nD τ).loc main_arg3)) := by
    show StableHlo.after hostOps0 (fun b => m (c, b)) (Proc.devRef .tc main_v3) = _
    simp only [hostOps0, List.flatten_cons, List.flatten_nil, List.append_nil, List.cons_append, List.nil_append]
    after_results_simp <;> rfl

theorem g_block (t : Fin cfg0.N) (r : Fin 256) (l : Fin 128) : iblk m c 0 t (ix3 0 r l) = (rows (m ((c : Thread nD τ).loc main_arg0))) (ix2 (rowAt t.val (lt t) r) l) := by
  obtain ⟨e0, e1, e2⟩ := (index t).1
  refine (congrArg (V m c main_v4) (funext fun a => Fin.ext ?_)).trans (lead_axis m c _ _)
  match a with
  | ⟨0, _⟩ => show win0_0.index t 0 * 1 + 1 * 0 = 0; rw [e0]
  | ⟨1, _⟩ => show win0_0.index t 1 * 256 + 1 * r.val = t.val * 256 + r.val; rw [e1]; omega
  | ⟨2, _⟩ => show win0_0.index t 2 * 128 + 1 * l.val = l.val; rw [e2]; omega

theorem w_block (t : Fin cfg0.N) (r : Fin 256) (l : Fin 128) : iblk m c 1 t (ix2 r l) = (rows (m ((c : Thread nD τ).loc main_arg1))) (ix2 (rowAt t.val (lt t) r) l) := by
  obtain ⟨e0, e1⟩ := (index t).2.1
  refine (congrArg (V m c main_v1) (funext fun a => Fin.ext ?_)).trans (congrFun (flat_1 m c) _)
  match a with
  | ⟨0, _⟩ => show win0_1.index t 0 * 256 + 1 * r.val = t.val * 256 + r.val; rw [e0]; omega
  | ⟨1, _⟩ => show win0_1.index t 1 * 128 + 1 * l.val = l.val; rw [e1]; omega

theorem m_block (t : Fin cfg0.N) (r : Fin 256) (l : Fin 128) : iblk m c 2 t (ix2 r l) = (rows (m ((c : Thread nD τ).loc main_arg2))) (ix2 (rowAt t.val (lt t) r) l) := by
  obtain ⟨e0, e1⟩ := (index t).2.2.1
  refine (congrArg (V m c main_v2) (funext fun a => Fin.ext ?_)).trans (congrFun (flat_2 m c) _)
  match a with
  | ⟨0, _⟩ => show win0_2.index t 0 * 256 + 1 * r.val = t.val * 256 + r.val; rw [e0]; omega
  | ⟨1, _⟩ => show win0_2.index t 1 * 128 + 1 * l.val = l.val; rw [e1]; omega

theorem v_block (t : Fin cfg0.N) (r : Fin 256) (l : Fin 128) : iblk m c 3 t (ix2 r l) = (rows (m ((c : Thread nD τ).loc main_arg3))) (ix2 (rowAt t.val (lt t) r) l) := by
  obtain ⟨e0, e1⟩ := (index t).2.2.2.1
  refine (congrArg (V m c main_v3) (funext fun a => Fin.ext ?_)).trans (congrFun (flat_3 m c) _)
  match a with
  | ⟨0, _⟩ => show win0_3.index t 0 * 256 + 1 * r.val = t.val * 256 + r.val; rw [e0]; omega
  | ⟨1, _⟩ => show win0_3.index t 1 * 128 + 1 * l.val = l.val; rw [e1]; omega

/-! ## The results -/

/-- The gradient, as it was given. -/
def gradArr (g : FVec Ideal S1x16x128x128 .f32) : FVec Ideal S2048x128 .f32 := rows g

/-- The weights' change, entry by entry. -/
def changeArr (g w m v : FVec Ideal S1x16x128x128 .f32) : FVec Ideal S2048x128 .f32 := fun i => Adam.change (rows g i) (rows w i) (rows m i) (rows v i)

/-- The first moment, entry by entry. -/
def firstArr (g m : FVec Ideal S1x16x128x128 .f32) : FVec Ideal S2048x128 .f32 := fun i => Adam.first (rows g i) (rows m i)

/-- The second moment, entry by entry. -/
def secondArr (g v : FVec Ideal S1x16x128x128 .f32) : FVec Ideal S2048x128 .f32 := fun i => Adam.second (rows g i) (rows v i)

section

variable (x0 : FVec Ideal S1x256x128 .f32) (x1 x2 x3 : FVec Ideal S256x128 .f32)

theorem grad_point (r : Fin 256) (l : Fin 128) : k0_pay1 (F := Ideal) x0 (ix2 r l) = (x0 (ix3 0 r l) : EReal) := by
  pointwise [k0_pay1]

theorem change_point (r : Fin 256) (l : Fin 128) : k0_pay4 (F := Ideal) x0 x1 x2 x3 (ix2 r l) = (Adam.change (x0 (ix3 0 r l)) (x1 (ix2 r l)) (x2 (ix2 r l)) (x3 (ix2 r l)) : EReal) := by
  pointwise [k0_pay4, k0_pay3, k0_pay2, k0_pay1, Adam.change, Adam.first, Adam.second]

theorem first_point (r : Fin 256) (l : Fin 128) : k0_pay2 (F := Ideal) x0 x2 (ix2 r l) = (Adam.first (x0 (ix3 0 r l)) (x2 (ix2 r l)) : EReal) := by
  pointwise [k0_pay2, k0_pay1, Adam.first]

theorem second_point (r : Fin 256) (l : Fin 128) : k0_pay3 (F := Ideal) x0 x3 (ix2 r l) = (Adam.second (x0 (ix3 0 r l)) (x3 (ix2 r l)) : EReal) := by
  pointwise [k0_pay3, k0_pay1, Adam.second]

end

theorem emb_grad (t : Fin cfg0.N) (r : Fin 256) (l : Fin 128) :
    ((cfg0.win 4).blk t).view.emb (ix2 r l : S256x128.Idx) = (ix2 (rowAt t.val (lt t) r) l : S2048x128.Idx) := by
  obtain ⟨e0, e1⟩ := (index t).2.2.2.2.1
  refine funext fun a => Fin.ext ?_
  match a with
  | ⟨0, _⟩ => show win0_4.index t 0 * 256 + 1 * r.val = t.val * 256 + r.val; rw [e0]; omega
  | ⟨1, _⟩ => show win0_4.index t 1 * 128 + 1 * l.val = l.val; rw [e1]; omega

theorem grad_arr : (dats m 0 c).arrAt 4 cfg0.N = gradArr (m ((c : Thread nD τ).loc main_arg0)) := by
  refine (dats m 0 c).arrAt_eq_of_covers 4 _ (by decide +kernel) (fun t _ (x : S256x128.Idx) => ?_)
  show (dats m 0 c).after 4 t x = gradArr _ (((cfg0.win 4).blk t).view.emb x)
  rw [after0_4]
  frame_out
  idx_vars x
  rw [emb_grad, grad_point]
  simp only [g_block]
  rfl

theorem emb_change (t : Fin cfg0.N) (r : Fin 256) (l : Fin 128) :
    ((cfg0.win 5).blk t).view.emb (ix2 r l : S256x128.Idx) = (ix2 (rowAt t.val (lt t) r) l : S2048x128.Idx) := by
  obtain ⟨e0, e1⟩ := (index t).2.2.2.2.2.1
  refine funext fun a => Fin.ext ?_
  match a with
  | ⟨0, _⟩ => show win0_5.index t 0 * 256 + 1 * r.val = t.val * 256 + r.val; rw [e0]; omega
  | ⟨1, _⟩ => show win0_5.index t 1 * 128 + 1 * l.val = l.val; rw [e1]; omega

theorem change_arr : (dats m 0 c).arrAt 5 cfg0.N = changeArr (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) (fun t _ (x : S256x128.Idx) => ?_)
  show (dats m 0 c).after 5 t x = changeArr _ _ _ _ (((cfg0.win 5).blk t).view.emb x)
  rw [after0_5]
  frame_out
  idx_vars x
  rw [emb_change, change_point]
  simp only [g_block, w_block, m_block, v_block]
  rfl

theorem emb_first (t : Fin cfg0.N) (r : Fin 256) (l : Fin 128) :
    ((cfg0.win 6).blk t).view.emb (ix2 r l : S256x128.Idx) = (ix2 (rowAt t.val (lt t) r) l : S2048x128.Idx) := by
  obtain ⟨e0, e1⟩ := (index t).2.2.2.2.2.2.1
  refine funext fun a => Fin.ext ?_
  match a with
  | ⟨0, _⟩ => show win0_6.index t 0 * 256 + 1 * r.val = t.val * 256 + r.val; rw [e0]; omega
  | ⟨1, _⟩ => show win0_6.index t 1 * 128 + 1 * l.val = l.val; rw [e1]; omega

theorem first_arr : (dats m 0 c).arrAt 6 cfg0.N = firstArr (m ((c : Thread nD τ).loc main_arg0)) (m ((c : Thread nD τ).loc main_arg2)) := by
  refine (dats m 0 c).arrAt_eq_of_covers 6 _ (by decide +kernel) (fun t _ (x : S256x128.Idx) => ?_)
  show (dats m 0 c).after 6 t x = firstArr _ _ (((cfg0.win 6).blk t).view.emb x)
  rw [after0_6]
  frame_out
  idx_vars x
  rw [emb_first, first_point]
  simp only [g_block, m_block]
  rfl

theorem emb_second (t : Fin cfg0.N) (r : Fin 256) (l : Fin 128) :
    ((cfg0.win 7).blk t).view.emb (ix2 r l : S256x128.Idx) = (ix2 (rowAt t.val (lt t) r) l : S2048x128.Idx) := by
  obtain ⟨e0, e1⟩ := (index t).2.2.2.2.2.2.2
  refine funext fun a => Fin.ext ?_
  match a with
  | ⟨0, _⟩ => show win0_7.index t 0 * 256 + 1 * r.val = t.val * 256 + r.val; rw [e0]; omega
  | ⟨1, _⟩ => show win0_7.index t 1 * 128 + 1 * l.val = l.val; rw [e1]; omega

theorem second_arr : (dats m 0 c).arrAt 7 cfg0.N = secondArr (m ((c : Thread nD τ).loc main_arg0)) (m ((c : Thread nD τ).loc main_arg3)) := by
  refine (dats m 0 c).arrAt_eq_of_covers 7 _ (by decide +kernel) (fun t _ (x : S256x128.Idx) => ?_)
  show (dats m 0 c).after 7 t x = secondArr _ _ (((cfg0.win 7).blk t).view.emb x)
  rw [after0_7]
  frame_out
  idx_vars x
  rw [emb_second, second_point]
  simp only [g_block, v_block]
  rfl

/-- Every execution ends with the four results at these arrays of the arguments, and the arguments as they were. -/
theorem run : θ_run defs (onTc (τ := τ) (main (F := Ideal))) ⟨m, fun _ => 0, ρ⟩ fun r => ∀ c : Dev nD,
    r.2.mem ((c.tc : Thread nD τ).loc main_v5_0) = gradArr (m ((c : Thread nD τ).loc main_arg0)) ∧
    r.2.mem ((c.tc : Thread nD τ).loc main_v5_1) = changeArr (m ((c : Thread nD τ).loc main_arg0)) (m ((c : Thread nD τ).loc main_arg1)) (m ((c : Thread nD τ).loc main_arg2)) (m ((c : Thread nD τ).loc main_arg3)) ∧
    r.2.mem ((c.tc : Thread nD τ).loc main_v5_2) = firstArr (m ((c : Thread nD τ).loc main_arg0)) (m ((c : Thread nD τ).loc main_arg2)) ∧
    r.2.mem ((c.tc : Thread nD τ).loc main_v5_3) = secondArr (m ((c : Thread nD τ).loc main_arg0)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨(Value.post4 m r h c).trans (grad_arr m c), (Value.post5 m r h c).trans (change_arr m c),
    (Value.post6 m r h c).trans (first_arr m c), (Value.post7 m r h c).trans (second_arr m c),
    Value.kept_main_arg0 m r h c, Value.kept_main_arg1 m r h c, Value.kept_main_arg2 m r h c, Value.kept_main_arg3 m r h c⟩) (run_main m ρ)

end Cert.Kernel18Ideal.GmWs

end
-- ==== Proof.Adam.GmWsReference.lean ====
/- The reference's optimiser step of a parameter of shape 1x16x128x128 gives the kernel's arrays. -/
module

public import proofs.«01_k».proof.Proof.Adam.GmWs
public import proofs.«01_k».proof.Proof.Gen.Reference18Ideal.Run

@[expose] public section

set_option maxRecDepth 16384

noncomputable section

namespace Cert.Reference18Ideal.GmWs

open Idealize.ShloMosaic Idealize.SL.Sem Idealize.ShloMosaic.TcCoe
open Cert.Reference18Ideal Cert.Reference18Ideal.Gen
open Cert.Kernel18Ideal.GmWs (gradArr changeArr firstArr secondArr)

/-- The reference's two moments, in the parameter's own shape. -/
def first (g m : FVec Ideal S1x16x128x128 .f32) : FVec Ideal S1x16x128x128 .f32 := addf (mulf (broadcastInDim S1x16x128x128 ![] bcast_S_S1x16x128x128 (constant S_ .f32 0x3F666666#32)) m) (mulf (broadcastInDim S1x16x128x128 ![] bcast_S_S1x16x128x128 (constant S_ .f32 0x3DCCCCCD#32)) g)

def second (g v : FVec Ideal S1x16x128x128 .f32) : FVec Ideal S1x16x128x128 .f32 := addf (mulf (broadcastInDim S1x16x128x128 ![] bcast_S_S1x16x128x128 (constant S_ .f32 0x3F7FBE77#32)) v) (mulf (broadcastInDim S1x16x128x128 ![] bcast_S_S1x16x128x128 (constant S_ .f32 0x3A83126F#32)) (mulf g g))

/-- Its change of the weights. -/
def change (g w m v : FVec Ideal S1x16x128x128 .f32) : FVec Ideal S1x16x128x128 .f32 :=
  mulf (broadcastInDim S1x16x128x128 ![] bcast_S_S1x16x128x128 (constant S_ .f32 0xBA83126F#32)) (addf (Host.divf (Host.divf (first g m) (broadcastInDim S1x16x128x128 ![] bcast_S_S1x16x128x128 (constant S_ .f32 0x3F26BD02#32)))
    (addf (Host.sqrt (Host.divf (second g v) (broadcastInDim S1x16x128x128 ![] bcast_S_S1x16x128x128 (constant S_ .f32 0x3C231ACC#32)))) (broadcastInDim S1x16x128x128 ![] bcast_S_S1x16x128x128 (constant S_ .f32 0x322BCC77#32)))) (mulf (broadcastInDim S1x16x128x128 ![] bcast_S_S1x16x128x128 (constant S_ .f32 0x3C23D70A#32)) w))

theorem grad_eq (g : FVec Ideal S1x16x128x128 .f32) : (shapeCast _ (g) shapeCasts_S1x16x128x128_S2048x128 : FVec Ideal S2048x128 .f32) = gradArr g := rfl

theorem first_eq (g m : FVec Ideal S1x16x128x128 .f32) : (shapeCast _ (first g m) shapeCasts_S1x16x128x128_S2048x128 : FVec Ideal S2048x128 .f32) = firstArr g m := rfl

theorem second_eq (g v : FVec Ideal S1x16x128x128 .f32) : (shapeCast _ (second g v) shapeCasts_S1x16x128x128_S2048x128 : FVec Ideal S2048x128 .f32) = secondArr g v := rfl

theorem change_eq (g w m v : FVec Ideal S1x16x128x128 .f32) : (shapeCast _ (change g w m v) shapeCasts_S1x16x128x128_S2048x128 : FVec Ideal S2048x128 .f32) = changeArr g w m v := rfl

end Cert.Reference18Ideal.GmWs

end
-- ==== Proof.Adam.GmBs.lean ====
/- What the optimiser's step of a parameter of shape 1x16x128 leaves in its four result arrays, over the extended reals: the
   gradient, the weights' change and the two moments, entry by entry. -/
module

public import proofs.«01_k».proof.Proof.Gen.Kernel19Ideal.Value
public import proofs.«01_k».proof.Proof.Adam.Step
public import Idealize.ShloMosaic.Lib.Pipeline.ValueKit
public import Idealize.ShloMosaic.Lib.Pointwise
public import Idealize.ShloMosaic.Lib.Tactic

@[expose] public section

set_option maxRecDepth 16384

noncomputable section

namespace Cert.Kernel19Ideal.GmBs

open Idealize.ShloMosaic Idealize.SL.Sem Idealize.ShloMosaic.TcCoe
open Cert.Kernel19Ideal Cert.Kernel19Ideal.Gen
open Idealize.ShloMosaic.Pipeline (Dat Cfg Window)

/-- An array of the parameter's shape as a matrix. -/
def rows (a : FVec Ideal S1x16x128 .f32) : FVec Ideal S16x128 .f32 := shapeCast _ a shapeCasts_S1x16x128_S16x128

/-- There is one point, and its blocks are the whole arrays. -/
theorem index : ∀ t : Fin grid0.N,
    (win0_0.index t 0 = 0 ∧ win0_0.index t 1 = 0 ∧ win0_0.index t 2 = 0)
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) := by decide +kernel

variable (m : (ℓ : Loc nD τ sig) → Buf (Elt Ideal) ℓ) (ρ : Dev nD → PrngReg) (c : Dev nD)

/-! ## The arrays as the call gets them, and a point's blocks of them -/

/-- The gradient as the call gets it: with an axis of one in front. -/
theorem lead_axis (r : Fin 16) (l : Fin 128) : V m c main_v4 (ix3 0 r l) = (rows (m ((c : Thread nD τ).loc main_arg0))) (ix2 r l) := by
  have e : V m c main_v4 = broadcastInDim S1x16x128 ![1, 2] bcast_S16x128_S1x16x128_1_2 (rows (m ((c : Thread nD τ).loc main_arg0))) := by
    show StableHlo.after hostOps0 (fun b => m (c, b)) (Proc.devRef .tc main_v4) = _
    simp only [hostOps0, List.flatten_cons, List.flatten_nil, List.append_nil, List.cons_append, List.nil_append]
    after_results_simp <;> rfl
  rw [e]
  pointwise []

theorem flat_1 : V m c main_v1 = rows (m ((c : Thread nD τ).loc main_arg1)) := by
    show StableHlo.after hostOps0 (fun b => m (c, b)) (Proc.devRef .tc main_v1) = _
    simp only [hostOps0, List.flatten_cons, List.flatten_nil, List.append_nil, List.cons_append, List.nil_append]
    after_results_simp <;> rfl

theorem flat_2 : V m c main_v2 = rows (m ((c : Thread nD τ).loc main_arg2)) := by
    show StableHlo.after hostOps0 (fun b => m (c, b)) (Proc.devRef .tc main_v2) = _
    simp only [hostOps0, List.flatten_cons, List.flatten_nil, List.append_nil, List.cons_append, List.nil_append]
    after_results_simp <;> rfl

theorem flat_3 : V m c main_v3 = rows (m ((c : Thread nD τ).loc main_arg3)) := by
    show StableHlo.after hostOps0 (fun b => m (c, b)) (Proc.devRef .tc main_v3) = _
    simp only [hostOps0, List.flatten_cons, List.flatten_nil, List.append_nil, List.cons_append, List.nil_append]
    after_results_simp <;> rfl

theorem g_block (t : Fin cfg0.N) (r : Fin 16) (l : Fin 128) : iblk m c 0 t (ix3 0 r l) = (rows (m ((c : Thread nD τ).loc main_arg0))) (ix2 r l) := by
  obtain ⟨e0, e1, e2⟩ := (index t).1
  refine (congrArg (V m c main_v4) (funext fun a => Fin.ext ?_)).trans (lead_axis m c _ _)
  match a with
  | ⟨0, _⟩ => show win0_0.index t 0 * 1 + 1 * 0 = 0; rw [e0]
  | ⟨1, _⟩ => show win0_0.index t 1 * 16 + 1 * r.val = r.val; rw [e1]; omega
  | ⟨2, _⟩ => show win0_0.index t 2 * 128 + 1 * l.val = l.val; rw [e2]; omega

theorem w_block (t : Fin cfg0.N) (r : Fin 16) (l : Fin 128) : iblk m c 1 t (ix2 r l) = (rows (m ((c : Thread nD τ).loc main_arg1))) (ix2 r l) := by
  obtain ⟨e0, e1⟩ := (index t).2.1
  refine (congrArg (V m c main_v1) (funext fun a => Fin.ext ?_)).trans (congrFun (flat_1 m c) _)
  match a with
  | ⟨0, _⟩ => show win0_1.index t 0 * 16 + 1 * r.val = r.val; rw [e0]; omega
  | ⟨1, _⟩ => show win0_1.index t 1 * 128 + 1 * l.val = l.val; rw [e1]; omega

theorem m_block (t : Fin cfg0.N) (r : Fin 16) (l : Fin 128) : iblk m c 2 t (ix2 r l) = (rows (m ((c : Thread nD τ).loc main_arg2))) (ix2 r l) := by
  obtain ⟨e0, e1⟩ := (index t).2.2.1
  refine (congrArg (V m c main_v2) (funext fun a => Fin.ext ?_)).trans (congrFun (flat_2 m c) _)
  match a with
  | ⟨0, _⟩ => show win0_2.index t 0 * 16 + 1 * r.val = r.val; rw [e0]; omega
  | ⟨1, _⟩ => show win0_2.index t 1 * 128 + 1 * l.val = l.val; rw [e1]; omega

theorem v_block (t : Fin cfg0.N) (r : Fin 16) (l : Fin 128) : iblk m c 3 t (ix2 r l) = (rows (m ((c : Thread nD τ).loc main_arg3))) (ix2 r l) := by
  obtain ⟨e0, e1⟩ := (index t).2.2.2.1
  refine (congrArg (V m c main_v3) (funext fun a => Fin.ext ?_)).trans (congrFun (flat_3 m c) _)
  match a with
  | ⟨0, _⟩ => show win0_3.index t 0 * 16 + 1 * r.val = r.val; rw [e0]; omega
  | ⟨1, _⟩ => show win0_3.index t 1 * 128 + 1 * l.val = l.val; rw [e1]; omega

/-! ## The results -/

/-- The gradient, as it was given. -/
def gradArr (g : FVec Ideal S1x16x128 .f32) : FVec Ideal S16x128 .f32 := rows g

/-- The weights' change, entry by entry. -/
def changeArr (g w m v : FVec Ideal S1x16x128 .f32) : FVec Ideal S16x128 .f32 := fun i => Adam.change (rows g i) (rows w i) (rows m i) (rows v i)

/-- The first moment, entry by entry. -/
def firstArr (g m : FVec Ideal S1x16x128 .f32) : FVec Ideal S16x128 .f32 := fun i => Adam.first (rows g i) (rows m i)

/-- The second moment, entry by entry. -/
def secondArr (g v : FVec Ideal S1x16x128 .f32) : FVec Ideal S16x128 .f32 := fun i => Adam.second (rows g i) (rows v i)

section

variable (x0 : FVec Ideal S1x16x128 .f32) (x1 x2 x3 : FVec Ideal S16x128 .f32)

theorem grad_point (r : Fin 16) (l : Fin 128) : k0_pay1 (F := Ideal) x0 (ix2 r l) = (x0 (ix3 0 r l) : EReal) := by
  pointwise [k0_pay1]

theorem change_point (r : Fin 16) (l : Fin 128) : k0_pay4 (F := Ideal) x0 x1 x2 x3 (ix2 r l) = (Adam.change (x0 (ix3 0 r l)) (x1 (ix2 r l)) (x2 (ix2 r l)) (x3 (ix2 r l)) : EReal) := by
  pointwise [k0_pay4, k0_pay3, k0_pay2, k0_pay1, Adam.change, Adam.first, Adam.second]

theorem first_point (r : Fin 16) (l : Fin 128) : k0_pay2 (F := Ideal) x0 x2 (ix2 r l) = (Adam.first (x0 (ix3 0 r l)) (x2 (ix2 r l)) : EReal) := by
  pointwise [k0_pay2, k0_pay1, Adam.first]

theorem second_point (r : Fin 16) (l : Fin 128) : k0_pay3 (F := Ideal) x0 x3 (ix2 r l) = (Adam.second (x0 (ix3 0 r l)) (x3 (ix2 r l)) : EReal) := by
  pointwise [k0_pay3, k0_pay1, Adam.second]

end

theorem emb_grad (t : Fin cfg0.N) (r : Fin 16) (l : Fin 128) :
    ((cfg0.win 4).blk t).view.emb (ix2 r l : S16x128.Idx) = (ix2 r l : S16x128.Idx) := by
  obtain ⟨e0, e1⟩ := (index t).2.2.2.2.1
  refine funext fun a => Fin.ext ?_
  match a with
  | ⟨0, _⟩ => show win0_4.index t 0 * 16 + 1 * r.val = r.val; rw [e0]; omega
  | ⟨1, _⟩ => show win0_4.index t 1 * 128 + 1 * l.val = l.val; rw [e1]; omega

theorem grad_arr : (dats m 0 c).arrAt 4 cfg0.N = gradArr (m ((c : Thread nD τ).loc main_arg0)) := by
  refine (dats m 0 c).arrAt_eq_of_covers 4 _ (by decide +kernel) (fun t _ (x : S16x128.Idx) => ?_)
  show (dats m 0 c).after 4 t x = gradArr _ (((cfg0.win 4).blk t).view.emb x)
  rw [after0_4]
  frame_out
  idx_vars x
  rw [emb_grad, grad_point]
  simp only [g_block]
  rfl

theorem emb_change (t : Fin cfg0.N) (r : Fin 16) (l : Fin 128) :
    ((cfg0.win 5).blk t).view.emb (ix2 r l : S16x128.Idx) = (ix2 r l : S16x128.Idx) := by
  obtain ⟨e0, e1⟩ := (index t).2.2.2.2.2.1
  refine funext fun a => Fin.ext ?_
  match a with
  | ⟨0, _⟩ => show win0_5.index t 0 * 16 + 1 * r.val = r.val; rw [e0]; omega
  | ⟨1, _⟩ => show win0_5.index t 1 * 128 + 1 * l.val = l.val; rw [e1]; omega

theorem change_arr : (dats m 0 c).arrAt 5 cfg0.N = changeArr (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) (fun t _ (x : S16x128.Idx) => ?_)
  show (dats m 0 c).after 5 t x = changeArr _ _ _ _ (((cfg0.win 5).blk t).view.emb x)
  rw [after0_5]
  frame_out
  idx_vars x
  rw [emb_change, change_point]
  simp only [g_block, w_block, m_block, v_block]
  rfl

theorem emb_first (t : Fin cfg0.N) (r : Fin 16) (l : Fin 128) :
    ((cfg0.win 6).blk t).view.emb (ix2 r l : S16x128.Idx) = (ix2 r l : S16x128.Idx) := by
  obtain ⟨e0, e1⟩ := (index t).2.2.2.2.2.2.1
  refine funext fun a => Fin.ext ?_
  match a with
  | ⟨0, _⟩ => show win0_6.index t 0 * 16 + 1 * r.val = r.val; rw [e0]; omega
  | ⟨1, _⟩ => show win0_6.index t 1 * 128 + 1 * l.val = l.val; rw [e1]; omega

theorem first_arr : (dats m 0 c).arrAt 6 cfg0.N = firstArr (m ((c : Thread nD τ).loc main_arg0)) (m ((c : Thread nD τ).loc main_arg2)) := by
  refine (dats m 0 c).arrAt_eq_of_covers 6 _ (by decide +kernel) (fun t _ (x : S16x128.Idx) => ?_)
  show (dats m 0 c).after 6 t x = firstArr _ _ (((cfg0.win 6).blk t).view.emb x)
  rw [after0_6]
  frame_out
  idx_vars x
  rw [emb_first, first_point]
  simp only [g_block, m_block]
  rfl

theorem emb_second (t : Fin cfg0.N) (r : Fin 16) (l : Fin 128) :
    ((cfg0.win 7).blk t).view.emb (ix2 r l : S16x128.Idx) = (ix2 r l : S16x128.Idx) := by
  obtain ⟨e0, e1⟩ := (index t).2.2.2.2.2.2.2
  refine funext fun a => Fin.ext ?_
  match a with
  | ⟨0, _⟩ => show win0_7.index t 0 * 16 + 1 * r.val = r.val; rw [e0]; omega
  | ⟨1, _⟩ => show win0_7.index t 1 * 128 + 1 * l.val = l.val; rw [e1]; omega

theorem second_arr : (dats m 0 c).arrAt 7 cfg0.N = secondArr (m ((c : Thread nD τ).loc main_arg0)) (m ((c : Thread nD τ).loc main_arg3)) := by
  refine (dats m 0 c).arrAt_eq_of_covers 7 _ (by decide +kernel) (fun t _ (x : S16x128.Idx) => ?_)
  show (dats m 0 c).after 7 t x = secondArr _ _ (((cfg0.win 7).blk t).view.emb x)
  rw [after0_7]
  frame_out
  idx_vars x
  rw [emb_second, second_point]
  simp only [g_block, v_block]
  rfl

/-- Every execution ends with the four results at these arrays of the arguments, and the arguments as they were. -/
theorem run : θ_run defs (onTc (τ := τ) (main (F := Ideal))) ⟨m, fun _ => 0, ρ⟩ fun r => ∀ c : Dev nD,
    r.2.mem ((c.tc : Thread nD τ).loc main_v5_0) = gradArr (m ((c : Thread nD τ).loc main_arg0)) ∧
    r.2.mem ((c.tc : Thread nD τ).loc main_v5_1) = changeArr (m ((c : Thread nD τ).loc main_arg0)) (m ((c : Thread nD τ).loc main_arg1)) (m ((c : Thread nD τ).loc main_arg2)) (m ((c : Thread nD τ).loc main_arg3)) ∧
    r.2.mem ((c.tc : Thread nD τ).loc main_v5_2) = firstArr (m ((c : Thread nD τ).loc main_arg0)) (m ((c : Thread nD τ).loc main_arg2)) ∧
    r.2.mem ((c.tc : Thread nD τ).loc main_v5_3) = secondArr (m ((c : Thread nD τ).loc main_arg0)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨(Value.post4 m r h c).trans (grad_arr m c), (Value.post5 m r h c).trans (change_arr m c),
    (Value.post6 m r h c).trans (first_arr m c), (Value.post7 m r h c).trans (second_arr m c),
    Value.kept_main_arg0 m r h c, Value.kept_main_arg1 m r h c, Value.kept_main_arg2 m r h c, Value.kept_main_arg3 m r h c⟩) (run_main m ρ)

end Cert.Kernel19Ideal.GmBs

end
-- ==== Proof.Adam.GmBsReference.lean ====
/- The reference's optimiser step of a parameter of shape 1x16x128 gives the kernel's arrays. -/
module

public import proofs.«01_k».proof.Proof.Adam.GmBs
public import proofs.«01_k».proof.Proof.Gen.Reference19Ideal.Run

@[expose] public section

set_option maxRecDepth 16384

noncomputable section

namespace Cert.Reference19Ideal.GmBs

open Idealize.ShloMosaic Idealize.SL.Sem Idealize.ShloMosaic.TcCoe
open Cert.Reference19Ideal Cert.Reference19Ideal.Gen
open Cert.Kernel19Ideal.GmBs (gradArr changeArr firstArr secondArr)

/-- The reference's two moments, in the parameter's own shape. -/
def first (g m : FVec Ideal S1x16x128 .f32) : FVec Ideal S1x16x128 .f32 := addf (mulf (broadcastInDim S1x16x128 ![] bcast_S_S1x16x128 (constant S_ .f32 0x3F666666#32)) m) (mulf (broadcastInDim S1x16x128 ![] bcast_S_S1x16x128 (constant S_ .f32 0x3DCCCCCD#32)) g)

def second (g v : FVec Ideal S1x16x128 .f32) : FVec Ideal S1x16x128 .f32 := addf (mulf (broadcastInDim S1x16x128 ![] bcast_S_S1x16x128 (constant S_ .f32 0x3F7FBE77#32)) v) (mulf (broadcastInDim S1x16x128 ![] bcast_S_S1x16x128 (constant S_ .f32 0x3A83126F#32)) (mulf g g))

/-- Its change of the weights. -/
def change (g w m v : FVec Ideal S1x16x128 .f32) : FVec Ideal S1x16x128 .f32 :=
  mulf (broadcastInDim S1x16x128 ![] bcast_S_S1x16x128 (constant S_ .f32 0xBA83126F#32)) (addf (Host.divf (Host.divf (first g m) (broadcastInDim S1x16x128 ![] bcast_S_S1x16x128 (constant S_ .f32 0x3F26BD02#32)))
    (addf (Host.sqrt (Host.divf (second g v) (broadcastInDim S1x16x128 ![] bcast_S_S1x16x128 (constant S_ .f32 0x3C231ACC#32)))) (broadcastInDim S1x16x128 ![] bcast_S_S1x16x128 (constant S_ .f32 0x322BCC77#32)))) (mulf (broadcastInDim S1x16x128 ![] bcast_S_S1x16x128 (constant S_ .f32 0x3C23D70A#32)) w))

theorem grad_eq (g : FVec Ideal S1x16x128 .f32) : (shapeCast _ (g) shapeCasts_S1x16x128_S16x128 : FVec Ideal S16x128 .f32) = gradArr g := rfl

theorem first_eq (g m : FVec Ideal S1x16x128 .f32) : (shapeCast _ (first g m) shapeCasts_S1x16x128_S16x128 : FVec Ideal S16x128 .f32) = firstArr g m := rfl

theorem second_eq (g v : FVec Ideal S1x16x128 .f32) : (shapeCast _ (second g v) shapeCasts_S1x16x128_S16x128 : FVec Ideal S16x128 .f32) = secondArr g v := rfl

theorem change_eq (g w m v : FVec Ideal S1x16x128 .f32) : (shapeCast _ (change g w m v) shapeCasts_S1x16x128_S16x128 : FVec Ideal S16x128 .f32) = changeArr g w m v := rfl

end Cert.Reference19Ideal.GmBs

end
-- ==== Proof.Adam.CvBIn.lean ====
/- What the optimiser's step of a parameter of shape 1x512 leaves in its four result arrays, over the extended reals: the
   gradient, the weights' change and the two moments, entry by entry. -/
module

public import proofs.«01_k».proof.Proof.Gen.Kernel20Ideal.Value
public import proofs.«01_k».proof.Proof.Adam.Step
public import Idealize.ShloMosaic.Lib.Pipeline.ValueKit
public import Idealize.ShloMosaic.Lib.Pointwise
public import Idealize.ShloMosaic.Lib.Tactic

@[expose] public section

set_option maxRecDepth 16384

noncomputable section

namespace Cert.Kernel20Ideal.CvBIn

open Idealize.ShloMosaic Idealize.SL.Sem Idealize.ShloMosaic.TcCoe
open Cert.Kernel20Ideal Cert.Kernel20Ideal.Gen
open Idealize.ShloMosaic.Pipeline (Dat Cfg Window)

/-- There is one point, and its blocks are the whole arrays. -/
theorem index : ∀ t : Fin grid0.N,
    (win0_0.index t 0 = 0 ∧ win0_0.index t 1 = 0 ∧ win0_0.index t 2 = 0)
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) := by decide +kernel

variable (m : (ℓ : Loc nD τ sig) → Buf (Elt Ideal) ℓ) (ρ : Dev nD → PrngReg) (c : Dev nD)

/-! ## The arrays as the call gets them, and a point's blocks of them -/

/-- The gradient as the call gets it: with an axis of one in front. -/
theorem lead_axis (r : Fin 1) (l : Fin 512) : V m c main_v0 (ix3 0 r l) = (m ((c : Thread nD τ).loc main_arg0)) (ix2 r l) := by
  have e : V m c main_v0 = broadcastInDim S1x1x512 ![1, 2] bcast_S1x512_S1x1x512_1_2 (m ((c : Thread nD τ).loc main_arg0)) := by
    show StableHlo.after hostOps0 (fun b => m (c, b)) (Proc.devRef .tc main_v0) = _
    simp only [hostOps0, List.flatten_cons, List.flatten_nil, List.append_nil, List.cons_append, List.nil_append]
    after_results_simp <;> rfl
  rw [e]
  obtain rfl : r = 0 := Subsingleton.elim _ _
  pointwise []

theorem g_block (t : Fin cfg0.N) (r : Fin 1) (l : Fin 512) : iblk m c 0 t (ix3 0 r l) = (m ((c : Thread nD τ).loc main_arg0)) (ix2 r l) := by
  obtain ⟨e0, e1, e2⟩ := (index t).1
  refine (congrArg (V m c main_v0) (funext fun a => Fin.ext ?_)).trans (lead_axis m c _ _)
  match a with
  | ⟨0, _⟩ => show win0_0.index t 0 * 1 + 1 * 0 = 0; rw [e0]
  | ⟨1, _⟩ => show win0_0.index t 1 * 1 + 1 * r.val = r.val; rw [e1]; omega
  | ⟨2, _⟩ => show win0_0.index t 2 * 512 + 1 * l.val = l.val; rw [e2]; omega

theorem w_block (t : Fin cfg0.N) (r : Fin 1) (l : Fin 512) : iblk m c 1 t (ix2 r l) = (m ((c : Thread nD τ).loc main_arg1)) (ix2 r l) := by
  obtain ⟨e0, e1⟩ := (index t).2.1
  refine (congrArg (V m c main_arg1) (funext fun a => Fin.ext ?_)).trans (congrFun (V_main_arg1 m c) _)
  match a with
  | ⟨0, _⟩ => show win0_1.index t 0 * 1 + 1 * r.val = r.val; rw [e0]; omega
  | ⟨1, _⟩ => show win0_1.index t 1 * 512 + 1 * l.val = l.val; rw [e1]; omega

theorem m_block (t : Fin cfg0.N) (r : Fin 1) (l : Fin 512) : iblk m c 2 t (ix2 r l) = (m ((c : Thread nD τ).loc main_arg2)) (ix2 r l) := by
  obtain ⟨e0, e1⟩ := (index t).2.2.1
  refine (congrArg (V m c main_arg2) (funext fun a => Fin.ext ?_)).trans (congrFun (V_main_arg2 m c) _)
  match a with
  | ⟨0, _⟩ => show win0_2.index t 0 * 1 + 1 * r.val = r.val; rw [e0]; omega
  | ⟨1, _⟩ => show win0_2.index t 1 * 512 + 1 * l.val = l.val; rw [e1]; omega

theorem v_block (t : Fin cfg0.N) (r : Fin 1) (l : Fin 512) : iblk m c 3 t (ix2 r l) = (m ((c : Thread nD τ).loc main_arg3)) (ix2 r l) := by
  obtain ⟨e0, e1⟩ := (index t).2.2.2.1
  refine (congrArg (V m c main_arg3) (funext fun a => Fin.ext ?_)).trans (congrFun (V_main_arg3 m c) _)
  match a with
  | ⟨0, _⟩ => show win0_3.index t 0 * 1 + 1 * r.val = r.val; rw [e0]; omega
  | ⟨1, _⟩ => show win0_3.index t 1 * 512 + 1 * l.val = l.val; rw [e1]; omega

/-! ## The results -/

/-- The gradient, as it was given. -/
def gradArr (g : FVec Ideal S1x512 .f32) : FVec Ideal S1x512 .f32 := g

/-- The weights' change, entry by entry. -/
def changeArr (g w m v : FVec Ideal S1x512 .f32) : FVec Ideal S1x512 .f32 := fun i => Adam.change (g i) (w i) (m i) (v i)

/-- The first moment, entry by entry. -/
def firstArr (g m : FVec Ideal S1x512 .f32) : FVec Ideal S1x512 .f32 := fun i => Adam.first (g i) (m i)

/-- The second moment, entry by entry. -/
def secondArr (g v : FVec Ideal S1x512 .f32) : FVec Ideal S1x512 .f32 := fun i => Adam.second (g i) (v i)

section

variable (x0 : FVec Ideal S1x1x512 .f32) (x1 x2 x3 : FVec Ideal S1x512 .f32)

theorem grad_point (r : Fin 1) (l : Fin 512) : k0_pay1 (F := Ideal) x0 (ix2 r l) = (x0 (ix3 0 r l) : EReal) := by
  obtain rfl : r = 0 := Subsingleton.elim _ _
  pointwise [k0_pay1]

theorem change_point (r : Fin 1) (l : Fin 512) : k0_pay4 (F := Ideal) x0 x1 x2 x3 (ix2 r l) = (Adam.change (x0 (ix3 0 r l)) (x1 (ix2 r l)) (x2 (ix2 r l)) (x3 (ix2 r l)) : EReal) := by
  obtain rfl : r = 0 := Subsingleton.elim _ _
  pointwise [k0_pay4, k0_pay3, k0_pay2, k0_pay1, Adam.change, Adam.first, Adam.second]

theorem first_point (r : Fin 1) (l : Fin 512) : k0_pay2 (F := Ideal) x0 x2 (ix2 r l) = (Adam.first (x0 (ix3 0 r l)) (x2 (ix2 r l)) : EReal) := by
  obtain rfl : r = 0 := Subsingleton.elim _ _
  pointwise [k0_pay2, k0_pay1, Adam.first]

theorem second_point (r : Fin 1) (l : Fin 512) : k0_pay3 (F := Ideal) x0 x3 (ix2 r l) = (Adam.second (x0 (ix3 0 r l)) (x3 (ix2 r l)) : EReal) := by
  obtain rfl : r = 0 := Subsingleton.elim _ _
  pointwise [k0_pay3, k0_pay1, Adam.second]

end

theorem emb_grad (t : Fin cfg0.N) (r : Fin 1) (l : Fin 512) :
    ((cfg0.win 4).blk t).view.emb (ix2 r l : S1x512.Idx) = (ix2 r l : S1x512.Idx) := by
  obtain ⟨e0, e1⟩ := (index t).2.2.2.2.1
  refine funext fun a => Fin.ext ?_
  match a with
  | ⟨0, _⟩ => show win0_4.index t 0 * 1 + 1 * r.val = r.val; rw [e0]; omega
  | ⟨1, _⟩ => show win0_4.index t 1 * 512 + 1 * l.val = l.val; rw [e1]; omega

theorem grad_arr : (dats m 0 c).arrAt 4 cfg0.N = gradArr (m ((c : Thread nD τ).loc main_arg0)) := by
  refine (dats m 0 c).arrAt_eq_of_covers 4 _ (by decide +kernel) (fun t _ (x : S1x512.Idx) => ?_)
  show (dats m 0 c).after 4 t x = gradArr _ (((cfg0.win 4).blk t).view.emb x)
  rw [after0_4]
  frame_out
  idx_vars x
  rw [emb_grad, grad_point]
  simp only [g_block]
  rfl

theorem emb_change (t : Fin cfg0.N) (r : Fin 1) (l : Fin 512) :
    ((cfg0.win 5).blk t).view.emb (ix2 r l : S1x512.Idx) = (ix2 r l : S1x512.Idx) := by
  obtain ⟨e0, e1⟩ := (index t).2.2.2.2.2.1
  refine funext fun a => Fin.ext ?_
  match a with
  | ⟨0, _⟩ => show win0_5.index t 0 * 1 + 1 * r.val = r.val; rw [e0]; omega
  | ⟨1, _⟩ => show win0_5.index t 1 * 512 + 1 * l.val = l.val; rw [e1]; omega

theorem change_arr : (dats m 0 c).arrAt 5 cfg0.N = changeArr (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) (fun t _ (x : S1x512.Idx) => ?_)
  show (dats m 0 c).after 5 t x = changeArr _ _ _ _ (((cfg0.win 5).blk t).view.emb x)
  rw [after0_5]
  frame_out
  idx_vars x
  rw [emb_change, change_point]
  simp only [g_block, w_block, m_block, v_block]
  rfl

theorem emb_first (t : Fin cfg0.N) (r : Fin 1) (l : Fin 512) :
    ((cfg0.win 6).blk t).view.emb (ix2 r l : S1x512.Idx) = (ix2 r l : S1x512.Idx) := by
  obtain ⟨e0, e1⟩ := (index t).2.2.2.2.2.2.1
  refine funext fun a => Fin.ext ?_
  match a with
  | ⟨0, _⟩ => show win0_6.index t 0 * 1 + 1 * r.val = r.val; rw [e0]; omega
  | ⟨1, _⟩ => show win0_6.index t 1 * 512 + 1 * l.val = l.val; rw [e1]; omega

theorem first_arr : (dats m 0 c).arrAt 6 cfg0.N = firstArr (m ((c : Thread nD τ).loc main_arg0)) (m ((c : Thread nD τ).loc main_arg2)) := by
  refine (dats m 0 c).arrAt_eq_of_covers 6 _ (by decide +kernel) (fun t _ (x : S1x512.Idx) => ?_)
  show (dats m 0 c).after 6 t x = firstArr _ _ (((cfg0.win 6).blk t).view.emb x)
  rw [after0_6]
  frame_out
  idx_vars x
  rw [emb_first, first_point]
  simp only [g_block, m_block]
  rfl

theorem emb_second (t : Fin cfg0.N) (r : Fin 1) (l : Fin 512) :
    ((cfg0.win 7).blk t).view.emb (ix2 r l : S1x512.Idx) = (ix2 r l : S1x512.Idx) := by
  obtain ⟨e0, e1⟩ := (index t).2.2.2.2.2.2.2
  refine funext fun a => Fin.ext ?_
  match a with
  | ⟨0, _⟩ => show win0_7.index t 0 * 1 + 1 * r.val = r.val; rw [e0]; omega
  | ⟨1, _⟩ => show win0_7.index t 1 * 512 + 1 * l.val = l.val; rw [e1]; omega

theorem second_arr : (dats m 0 c).arrAt 7 cfg0.N = secondArr (m ((c : Thread nD τ).loc main_arg0)) (m ((c : Thread nD τ).loc main_arg3)) := by
  refine (dats m 0 c).arrAt_eq_of_covers 7 _ (by decide +kernel) (fun t _ (x : S1x512.Idx) => ?_)
  show (dats m 0 c).after 7 t x = secondArr _ _ (((cfg0.win 7).blk t).view.emb x)
  rw [after0_7]
  frame_out
  idx_vars x
  rw [emb_second, second_point]
  simp only [g_block, v_block]
  rfl

/-- Every execution ends with the four results at these arrays of the arguments, and the arguments as they were. -/
theorem run : θ_run defs (onTc (τ := τ) (main (F := Ideal))) ⟨m, fun _ => 0, ρ⟩ fun r => ∀ c : Dev nD,
    r.2.mem ((c.tc : Thread nD τ).loc main_v1_0) = gradArr (m ((c : Thread nD τ).loc main_arg0)) ∧
    r.2.mem ((c.tc : Thread nD τ).loc main_v1_1) = changeArr (m ((c : Thread nD τ).loc main_arg0)) (m ((c : Thread nD τ).loc main_arg1)) (m ((c : Thread nD τ).loc main_arg2)) (m ((c : Thread nD τ).loc main_arg3)) ∧
    r.2.mem ((c.tc : Thread nD τ).loc main_v1_2) = firstArr (m ((c : Thread nD τ).loc main_arg0)) (m ((c : Thread nD τ).loc main_arg2)) ∧
    r.2.mem ((c.tc : Thread nD τ).loc main_v1_3) = secondArr (m ((c : Thread nD τ).loc main_arg0)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨(Value.post4 m r h c).trans (grad_arr m c), (Value.post5 m r h c).trans (change_arr m c),
    (Value.post6 m r h c).trans (first_arr m c), (Value.post7 m r h c).trans (second_arr m c),
    Value.kept_main_arg0 m r h c, Value.kept_main_arg1 m r h c, Value.kept_main_arg2 m r h c, Value.kept_main_arg3 m r h c⟩) (run_main m ρ)

end Cert.Kernel20Ideal.CvBIn

end
-- ==== Proof.Adam.CvBInReference.lean ====
/- The reference's optimiser step of a parameter of shape 1x512 gives the kernel's arrays. -/
module

public import proofs.«01_k».proof.Proof.Adam.CvBIn
public import proofs.«01_k».proof.Proof.Gen.Reference20Ideal.Run

@[expose] public section

set_option maxRecDepth 16384

noncomputable section

namespace Cert.Reference20Ideal.CvBIn

open Idealize.ShloMosaic Idealize.SL.Sem Idealize.ShloMosaic.TcCoe
open Cert.Reference20Ideal Cert.Reference20Ideal.Gen
open Cert.Kernel20Ideal.CvBIn (gradArr changeArr firstArr secondArr)

/-- The reference's two moments, in the parameter's own shape. -/
def first (g m : FVec Ideal S1x512 .f32) : FVec Ideal S1x512 .f32 := addf (mulf (broadcastInDim S1x512 ![] bcast_S_S1x512 (constant S_ .f32 0x3F666666#32)) m) (mulf (broadcastInDim S1x512 ![] bcast_S_S1x512 (constant S_ .f32 0x3DCCCCCD#32)) g)

def second (g v : FVec Ideal S1x512 .f32) : FVec Ideal S1x512 .f32 := addf (mulf (broadcastInDim S1x512 ![] bcast_S_S1x512 (constant S_ .f32 0x3F7FBE77#32)) v) (mulf (broadcastInDim S1x512 ![] bcast_S_S1x512 (constant S_ .f32 0x3A83126F#32)) (mulf g g))

/-- Its change of the weights. -/
def change (g w m v : FVec Ideal S1x512 .f32) : FVec Ideal S1x512 .f32 :=
  mulf (broadcastInDim S1x512 ![] bcast_S_S1x512 (constant S_ .f32 0xBA83126F#32)) (addf (Host.divf (Host.divf (first g m) (broadcastInDim S1x512 ![] bcast_S_S1x512 (constant S_ .f32 0x3F26BD02#32)))
    (addf (Host.sqrt (Host.divf (second g v) (broadcastInDim S1x512 ![] bcast_S_S1x512 (constant S_ .f32 0x3C231ACC#32)))) (broadcastInDim S1x512 ![] bcast_S_S1x512 (constant S_ .f32 0x322BCC77#32)))) (mulf (broadcastInDim S1x512 ![] bcast_S_S1x512 (constant S_ .f32 0x3C23D70A#32)) w))

theorem grad_eq (g : FVec Ideal S1x512 .f32) : (g : FVec Ideal S1x512 .f32) = gradArr g := rfl

theorem first_eq (g m : FVec Ideal S1x512 .f32) : (first g m : FVec Ideal S1x512 .f32) = firstArr g m := rfl

theorem second_eq (g v : FVec Ideal S1x512 .f32) : (second g v : FVec Ideal S1x512 .f32) = secondArr g v := rfl

theorem change_eq (g w m v : FVec Ideal S1x512 .f32) : (change g w m v : FVec Ideal S1x512 .f32) = changeArr g w m v := rfl

end Cert.Reference20Ideal.CvBIn

end
-- ==== Proof.Adam.CvDwW.lean ====
/- What the optimiser's step of a parameter of shape 1x31x256 leaves in its four result arrays, over the extended reals: the
   gradient, the weights' change and the two moments, entry by entry. -/
module

public import proofs.«01_k».proof.Proof.Gen.Kernel21Ideal.Value
public import proofs.«01_k».proof.Proof.Adam.Step
public import Idealize.ShloMosaic.Lib.Pipeline.ValueKit
public import Idealize.ShloMosaic.Lib.Pointwise
public import Idealize.ShloMosaic.Lib.Tactic

@[expose] public section

set_option maxRecDepth 16384

noncomputable section

namespace Cert.Kernel21Ideal.CvDwW

open Idealize.ShloMosaic Idealize.SL.Sem Idealize.ShloMosaic.TcCoe
open Cert.Kernel21Ideal Cert.Kernel21Ideal.Gen
open Idealize.ShloMosaic.Pipeline (Dat Cfg Window)

/-- An array of the parameter's shape as a matrix. -/
def rows (a : FVec Ideal S1x31x256 .f32) : FVec Ideal S31x256 .f32 := shapeCast _ a shapeCasts_S1x31x256_S31x256

/-- There is one point, and its blocks are the whole arrays. -/
theorem index : ∀ t : Fin grid0.N,
    (win0_0.index t 0 = 0 ∧ win0_0.index t 1 = 0 ∧ win0_0.index t 2 = 0)
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) := by decide +kernel

variable (m : (ℓ : Loc nD τ sig) → Buf (Elt Ideal) ℓ) (ρ : Dev nD → PrngReg) (c : Dev nD)

/-! ## The arrays as the call gets them, and a point's blocks of them -/

/-- The gradient as the call gets it: with an axis of one in front. -/
theorem lead_axis (r : Fin 31) (l : Fin 256) : V m c main_v4 (ix3 0 r l) = (rows (m ((c : Thread nD τ).loc main_arg0))) (ix2 r l) := by
  have e : V m c main_v4 = broadcastInDim S1x31x256 ![1, 2] bcast_S31x256_S1x31x256_1_2 (rows (m ((c : Thread nD τ).loc main_arg0))) := by
    show StableHlo.after hostOps0 (fun b => m (c, b)) (Proc.devRef .tc main_v4) = _
    simp only [hostOps0, List.flatten_cons, List.flatten_nil, List.append_nil, List.cons_append, List.nil_append]
    after_results_simp <;> rfl
  rw [e]
  pointwise []

theorem flat_1 : V m c main_v1 = rows (m ((c : Thread nD τ).loc main_arg1)) := by
    show StableHlo.after hostOps0 (fun b => m (c, b)) (Proc.devRef .tc main_v1) = _
    simp only [hostOps0, List.flatten_cons, List.flatten_nil, List.append_nil, List.cons_append, List.nil_append]
    after_results_simp <;> rfl

theorem flat_2 : V m c main_v2 = rows (m ((c : Thread nD τ).loc main_arg2)) := by
    show StableHlo.after hostOps0 (fun b => m (c, b)) (Proc.devRef .tc main_v2) = _
    simp only [hostOps0, List.flatten_cons, List.flatten_nil, List.append_nil, List.cons_append, List.nil_append]
    after_results_simp <;> rfl

theorem flat_3 : V m c main_v3 = rows (m ((c : Thread nD τ).loc main_arg3)) := by
    show StableHlo.after hostOps0 (fun b => m (c, b)) (Proc.devRef .tc main_v3) = _
    simp only [hostOps0, List.flatten_cons, List.flatten_nil, List.append_nil, List.cons_append, List.nil_append]
    after_results_simp <;> rfl

theorem g_block (t : Fin cfg0.N) (r : Fin 31) (l : Fin 256) : iblk m c 0 t (ix3 0 r l) = (rows (m ((c : Thread nD τ).loc main_arg0))) (ix2 r l) := by
  obtain ⟨e0, e1, e2⟩ := (index t).1
  refine (congrArg (V m c main_v4) (funext fun a => Fin.ext ?_)).trans (lead_axis m c _ _)
  match a with
  | ⟨0, _⟩ => show win0_0.index t 0 * 1 + 1 * 0 = 0; rw [e0]
  | ⟨1, _⟩ => show win0_0.index t 1 * 31 + 1 * r.val = r.val; rw [e1]; omega
  | ⟨2, _⟩ => show win0_0.index t 2 * 256 + 1 * l.val = l.val; rw [e2]; omega

theorem w_block (t : Fin cfg0.N) (r : Fin 31) (l : Fin 256) : iblk m c 1 t (ix2 r l) = (rows (m ((c : Thread nD τ).loc main_arg1))) (ix2 r l) := by
  obtain ⟨e0, e1⟩ := (index t).2.1
  refine (congrArg (V m c main_v1) (funext fun a => Fin.ext ?_)).trans (congrFun (flat_1 m c) _)
  match a with
  | ⟨0, _⟩ => show win0_1.index t 0 * 31 + 1 * r.val = r.val; rw [e0]; omega
  | ⟨1, _⟩ => show win0_1.index t 1 * 256 + 1 * l.val = l.val; rw [e1]; omega

theorem m_block (t : Fin cfg0.N) (r : Fin 31) (l : Fin 256) : iblk m c 2 t (ix2 r l) = (rows (m ((c : Thread nD τ).loc main_arg2))) (ix2 r l) := by
  obtain ⟨e0, e1⟩ := (index t).2.2.1
  refine (congrArg (V m c main_v2) (funext fun a => Fin.ext ?_)).trans (congrFun (flat_2 m c) _)
  match a with
  | ⟨0, _⟩ => show win0_2.index t 0 * 31 + 1 * r.val = r.val; rw [e0]; omega
  | ⟨1, _⟩ => show win0_2.index t 1 * 256 + 1 * l.val = l.val; rw [e1]; omega

theorem v_block (t : Fin cfg0.N) (r : Fin 31) (l : Fin 256) : iblk m c 3 t (ix2 r l) = (rows (m ((c : Thread nD τ).loc main_arg3))) (ix2 r l) := by
  obtain ⟨e0, e1⟩ := (index t).2.2.2.1
  refine (congrArg (V m c main_v3) (funext fun a => Fin.ext ?_)).trans (congrFun (flat_3 m c) _)
  match a with
  | ⟨0, _⟩ => show win0_3.index t 0 * 31 + 1 * r.val = r.val; rw [e0]; omega
  | ⟨1, _⟩ => show win0_3.index t 1 * 256 + 1 * l.val = l.val; rw [e1]; omega

/-! ## The results -/

/-- The gradient, as it was given. -/
def gradArr (g : FVec Ideal S1x31x256 .f32) : FVec Ideal S31x256 .f32 := rows g

/-- The weights' change, entry by entry. -/
def changeArr (g w m v : FVec Ideal S1x31x256 .f32) : FVec Ideal S31x256 .f32 := fun i => Adam.change (rows g i) (rows w i) (rows m i) (rows v i)

/-- The first moment, entry by entry. -/
def firstArr (g m : FVec Ideal S1x31x256 .f32) : FVec Ideal S31x256 .f32 := fun i => Adam.first (rows g i) (rows m i)

/-- The second moment, entry by entry. -/
def secondArr (g v : FVec Ideal S1x31x256 .f32) : FVec Ideal S31x256 .f32 := fun i => Adam.second (rows g i) (rows v i)

section

variable (x0 : FVec Ideal S1x31x256 .f32) (x1 x2 x3 : FVec Ideal S31x256 .f32)

theorem grad_point (r : Fin 31) (l : Fin 256) : k0_pay1 (F := Ideal) x0 (ix2 r l) = (x0 (ix3 0 r l) : EReal) := by
  pointwise [k0_pay1]

theorem change_point (r : Fin 31) (l : Fin 256) : k0_pay4 (F := Ideal) x0 x1 x2 x3 (ix2 r l) = (Adam.change (x0 (ix3 0 r l)) (x1 (ix2 r l)) (x2 (ix2 r l)) (x3 (ix2 r l)) : EReal) := by
  pointwise [k0_pay4, k0_pay3, k0_pay2, k0_pay1, Adam.change, Adam.first, Adam.second]

theorem first_point (r : Fin 31) (l : Fin 256) : k0_pay2 (F := Ideal) x0 x2 (ix2 r l) = (Adam.first (x0 (ix3 0 r l)) (x2 (ix2 r l)) : EReal) := by
  pointwise [k0_pay2, k0_pay1, Adam.first]

theorem second_point (r : Fin 31) (l : Fin 256) : k0_pay3 (F := Ideal) x0 x3 (ix2 r l) = (Adam.second (x0 (ix3 0 r l)) (x3 (ix2 r l)) : EReal) := by
  pointwise [k0_pay3, k0_pay1, Adam.second]

end

theorem emb_grad (t : Fin cfg0.N) (r : Fin 31) (l : Fin 256) :
    ((cfg0.win 4).blk t).view.emb (ix2 r l : S31x256.Idx) = (ix2 r l : S31x256.Idx) := by
  obtain ⟨e0, e1⟩ := (index t).2.2.2.2.1
  refine funext fun a => Fin.ext ?_
  match a with
  | ⟨0, _⟩ => show win0_4.index t 0 * 31 + 1 * r.val = r.val; rw [e0]; omega
  | ⟨1, _⟩ => show win0_4.index t 1 * 256 + 1 * l.val = l.val; rw [e1]; omega

theorem grad_arr : (dats m 0 c).arrAt 4 cfg0.N = gradArr (m ((c : Thread nD τ).loc main_arg0)) := by
  refine (dats m 0 c).arrAt_eq_of_covers 4 _ (by decide +kernel) (fun t _ (x : S31x256.Idx) => ?_)
  show (dats m 0 c).after 4 t x = gradArr _ (((cfg0.win 4).blk t).view.emb x)
  rw [after0_4]
  frame_out
  idx_vars x
  rw [emb_grad, grad_point]
  simp only [g_block]
  rfl

theorem emb_change (t : Fin cfg0.N) (r : Fin 31) (l : Fin 256) :
    ((cfg0.win 5).blk t).view.emb (ix2 r l : S31x256.Idx) = (ix2 r l : S31x256.Idx) := by
  obtain ⟨e0, e1⟩ := (index t).2.2.2.2.2.1
  refine funext fun a => Fin.ext ?_
  match a with
  | ⟨0, _⟩ => show win0_5.index t 0 * 31 + 1 * r.val = r.val; rw [e0]; omega
  | ⟨1, _⟩ => show win0_5.index t 1 * 256 + 1 * l.val = l.val; rw [e1]; omega

theorem change_arr : (dats m 0 c).arrAt 5 cfg0.N = changeArr (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) (fun t _ (x : S31x256.Idx) => ?_)
  show (dats m 0 c).after 5 t x = changeArr _ _ _ _ (((cfg0.win 5).blk t).view.emb x)
  rw [after0_5]
  frame_out
  idx_vars x
  rw [emb_change, change_point]
  simp only [g_block, w_block, m_block, v_block]
  rfl

theorem emb_first (t : Fin cfg0.N) (r : Fin 31) (l : Fin 256) :
    ((cfg0.win 6).blk t).view.emb (ix2 r l : S31x256.Idx) = (ix2 r l : S31x256.Idx) := by
  obtain ⟨e0, e1⟩ := (index t).2.2.2.2.2.2.1
  refine funext fun a => Fin.ext ?_
  match a with
  | ⟨0, _⟩ => show win0_6.index t 0 * 31 + 1 * r.val = r.val; rw [e0]; omega
  | ⟨1, _⟩ => show win0_6.index t 1 * 256 + 1 * l.val = l.val; rw [e1]; omega

theorem first_arr : (dats m 0 c).arrAt 6 cfg0.N = firstArr (m ((c : Thread nD τ).loc main_arg0)) (m ((c : Thread nD τ).loc main_arg2)) := by
  refine (dats m 0 c).arrAt_eq_of_covers 6 _ (by decide +kernel) (fun t _ (x : S31x256.Idx) => ?_)
  show (dats m 0 c).after 6 t x = firstArr _ _ (((cfg0.win 6).blk t).view.emb x)
  rw [after0_6]
  frame_out
  idx_vars x
  rw [emb_first, first_point]
  simp only [g_block, m_block]
  rfl

theorem emb_second (t : Fin cfg0.N) (r : Fin 31) (l : Fin 256) :
    ((cfg0.win 7).blk t).view.emb (ix2 r l : S31x256.Idx) = (ix2 r l : S31x256.Idx) := by
  obtain ⟨e0, e1⟩ := (index t).2.2.2.2.2.2.2
  refine funext fun a => Fin.ext ?_
  match a with
  | ⟨0, _⟩ => show win0_7.index t 0 * 31 + 1 * r.val = r.val; rw [e0]; omega
  | ⟨1, _⟩ => show win0_7.index t 1 * 256 + 1 * l.val = l.val; rw [e1]; omega

theorem second_arr : (dats m 0 c).arrAt 7 cfg0.N = secondArr (m ((c : Thread nD τ).loc main_arg0)) (m ((c : Thread nD τ).loc main_arg3)) := by
  refine (dats m 0 c).arrAt_eq_of_covers 7 _ (by decide +kernel) (fun t _ (x : S31x256.Idx) => ?_)
  show (dats m 0 c).after 7 t x = secondArr _ _ (((cfg0.win 7).blk t).view.emb x)
  rw [after0_7]
  frame_out
  idx_vars x
  rw [emb_second, second_point]
  simp only [g_block, v_block]
  rfl

/-- Every execution ends with the four results at these arrays of the arguments, and the arguments as they were. -/
theorem run : θ_run defs (onTc (τ := τ) (main (F := Ideal))) ⟨m, fun _ => 0, ρ⟩ fun r => ∀ c : Dev nD,
    r.2.mem ((c.tc : Thread nD τ).loc main_v5_0) = gradArr (m ((c : Thread nD τ).loc main_arg0)) ∧
    r.2.mem ((c.tc : Thread nD τ).loc main_v5_1) = changeArr (m ((c : Thread nD τ).loc main_arg0)) (m ((c : Thread nD τ).loc main_arg1)) (m ((c : Thread nD τ).loc main_arg2)) (m ((c : Thread nD τ).loc main_arg3)) ∧
    r.2.mem ((c.tc : Thread nD τ).loc main_v5_2) = firstArr (m ((c : Thread nD τ).loc main_arg0)) (m ((c : Thread nD τ).loc main_arg2)) ∧
    r.2.mem ((c.tc : Thread nD τ).loc main_v5_3) = secondArr (m ((c : Thread nD τ).loc main_arg0)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨(Value.post4 m r h c).trans (grad_arr m c), (Value.post5 m r h c).trans (change_arr m c),
    (Value.post6 m r h c).trans (first_arr m c), (Value.post7 m r h c).trans (second_arr m c),
    Value.kept_main_arg0 m r h c, Value.kept_main_arg1 m r h c, Value.kept_main_arg2 m r h c, Value.kept_main_arg3 m r h c⟩) (run_main m ρ)

end Cert.Kernel21Ideal.CvDwW

end
-- ==== Proof.Adam.CvDwWReference.lean ====
/- The reference's optimiser step of a parameter of shape 1x31x256 gives the kernel's arrays. -/
module

public import proofs.«01_k».proof.Proof.Adam.CvDwW
public import proofs.«01_k».proof.Proof.Gen.Reference21Ideal.Run

@[expose] public section

set_option maxRecDepth 16384

noncomputable section

namespace Cert.Reference21Ideal.CvDwW

open Idealize.ShloMosaic Idealize.SL.Sem Idealize.ShloMosaic.TcCoe
open Cert.Reference21Ideal Cert.Reference21Ideal.Gen
open Cert.Kernel21Ideal.CvDwW (gradArr changeArr firstArr secondArr)

/-- The reference's two moments, in the parameter's own shape. -/
def first (g m : FVec Ideal S1x31x256 .f32) : FVec Ideal S1x31x256 .f32 := addf (mulf (broadcastInDim S1x31x256 ![] bcast_S_S1x31x256 (constant S_ .f32 0x3F666666#32)) m) (mulf (broadcastInDim S1x31x256 ![] bcast_S_S1x31x256 (constant S_ .f32 0x3DCCCCCD#32)) g)

def second (g v : FVec Ideal S1x31x256 .f32) : FVec Ideal S1x31x256 .f32 := addf (mulf (broadcastInDim S1x31x256 ![] bcast_S_S1x31x256 (constant S_ .f32 0x3F7FBE77#32)) v) (mulf (broadcastInDim S1x31x256 ![] bcast_S_S1x31x256 (constant S_ .f32 0x3A83126F#32)) (mulf g g))

/-- Its change of the weights. -/
def change (g w m v : FVec Ideal S1x31x256 .f32) : FVec Ideal S1x31x256 .f32 :=
  mulf (broadcastInDim S1x31x256 ![] bcast_S_S1x31x256 (constant S_ .f32 0xBA83126F#32)) (addf (Host.divf (Host.divf (first g m) (broadcastInDim S1x31x256 ![] bcast_S_S1x31x256 (constant S_ .f32 0x3F26BD02#32)))
    (addf (Host.sqrt (Host.divf (second g v) (broadcastInDim S1x31x256 ![] bcast_S_S1x31x256 (constant S_ .f32 0x3C231ACC#32)))) (broadcastInDim S1x31x256 ![] bcast_S_S1x31x256 (constant S_ .f32 0x322BCC77#32)))) (mulf (broadcastInDim S1x31x256 ![] bcast_S_S1x31x256 (constant S_ .f32 0x3C23D70A#32)) w))

theorem grad_eq (g : FVec Ideal S1x31x256 .f32) : (shapeCast _ (g) shapeCasts_S1x31x256_S31x256 : FVec Ideal S31x256 .f32) = gradArr g := rfl

theorem first_eq (g m : FVec Ideal S1x31x256 .f32) : (shapeCast _ (first g m) shapeCasts_S1x31x256_S31x256 : FVec Ideal S31x256 .f32) = firstArr g m := rfl

theorem second_eq (g v : FVec Ideal S1x31x256 .f32) : (shapeCast _ (second g v) shapeCasts_S1x31x256_S31x256 : FVec Ideal S31x256 .f32) = secondArr g v := rfl

theorem change_eq (g w m v : FVec Ideal S1x31x256 .f32) : (shapeCast _ (change g w m v) shapeCasts_S1x31x256_S31x256 : FVec Ideal S31x256 .f32) = changeArr g w m v := rfl

end Cert.Reference21Ideal.CvDwW

end
-- ==== Proof.Adam.CvRow.lean ====
/- What the optimiser's step of a parameter of shape 1x256 leaves in its four result arrays, over the extended reals: the
   gradient, the weights' change and the two moments, entry by entry. -/
module

public import proofs.«01_k».proof.Proof.Gen.Kernel22Ideal.Value
public import proofs.«01_k».proof.Proof.Adam.Step
public import Idealize.ShloMosaic.Lib.Pipeline.ValueKit
public import Idealize.ShloMosaic.Lib.Pointwise
public import Idealize.ShloMosaic.Lib.Tactic

@[expose] public section

set_option maxRecDepth 16384

noncomputable section

namespace Cert.Kernel22Ideal.CvRow

open Idealize.ShloMosaic Idealize.SL.Sem Idealize.ShloMosaic.TcCoe
open Cert.Kernel22Ideal Cert.Kernel22Ideal.Gen
open Idealize.ShloMosaic.Pipeline (Dat Cfg Window)

/-- There is one point, and its blocks are the whole arrays. -/
theorem index : ∀ t : Fin grid0.N,
    (win0_0.index t 0 = 0 ∧ win0_0.index t 1 = 0 ∧ win0_0.index t 2 = 0)
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) := by decide +kernel

variable (m : (ℓ : Loc nD τ sig) → Buf (Elt Ideal) ℓ) (ρ : Dev nD → PrngReg) (c : Dev nD)

/-! ## The arrays as the call gets them, and a point's blocks of them -/

/-- The gradient as the call gets it: with an axis of one in front. -/
theorem lead_axis (r : Fin 1) (l : Fin 256) : V m c main_v0 (ix3 0 r l) = (m ((c : Thread nD τ).loc main_arg0)) (ix2 r l) := by
  have e : V m c main_v0 = broadcastInDim S1x1x256 ![1, 2] bcast_S1x256_S1x1x256_1_2 (m ((c : Thread nD τ).loc main_arg0)) := by
    show StableHlo.after hostOps0 (fun b => m (c, b)) (Proc.devRef .tc main_v0) = _
    simp only [hostOps0, List.flatten_cons, List.flatten_nil, List.append_nil, List.cons_append, List.nil_append]
    after_results_simp <;> rfl
  rw [e]
  obtain rfl : r = 0 := Subsingleton.elim _ _
  pointwise []

theorem g_block (t : Fin cfg0.N) (r : Fin 1) (l : Fin 256) : iblk m c 0 t (ix3 0 r l) = (m ((c : Thread nD τ).loc main_arg0)) (ix2 r l) := by
  obtain ⟨e0, e1, e2⟩ := (index t).1
  refine (congrArg (V m c main_v0) (funext fun a => Fin.ext ?_)).trans (lead_axis m c _ _)
  match a with
  | ⟨0, _⟩ => show win0_0.index t 0 * 1 + 1 * 0 = 0; rw [e0]
  | ⟨1, _⟩ => show win0_0.index t 1 * 1 + 1 * r.val = r.val; rw [e1]; omega
  | ⟨2, _⟩ => show win0_0.index t 2 * 256 + 1 * l.val = l.val; rw [e2]; omega

theorem w_block (t : Fin cfg0.N) (r : Fin 1) (l : Fin 256) : iblk m c 1 t (ix2 r l) = (m ((c : Thread nD τ).loc main_arg1)) (ix2 r l) := by
  obtain ⟨e0, e1⟩ := (index t).2.1
  refine (congrArg (V m c main_arg1) (funext fun a => Fin.ext ?_)).trans (congrFun (V_main_arg1 m c) _)
  match a with
  | ⟨0, _⟩ => show win0_1.index t 0 * 1 + 1 * r.val = r.val; rw [e0]; omega
  | ⟨1, _⟩ => show win0_1.index t 1 * 256 + 1 * l.val = l.val; rw [e1]; omega

theorem m_block (t : Fin cfg0.N) (r : Fin 1) (l : Fin 256) : iblk m c 2 t (ix2 r l) = (m ((c : Thread nD τ).loc main_arg2)) (ix2 r l) := by
  obtain ⟨e0, e1⟩ := (index t).2.2.1
  refine (congrArg (V m c main_arg2) (funext fun a => Fin.ext ?_)).trans (congrFun (V_main_arg2 m c) _)
  match a with
  | ⟨0, _⟩ => show win0_2.index t 0 * 1 + 1 * r.val = r.val; rw [e0]; omega
  | ⟨1, _⟩ => show win0_2.index t 1 * 256 + 1 * l.val = l.val; rw [e1]; omega

theorem v_block (t : Fin cfg0.N) (r : Fin 1) (l : Fin 256) : iblk m c 3 t (ix2 r l) = (m ((c : Thread nD τ).loc main_arg3)) (ix2 r l) := by
  obtain ⟨e0, e1⟩ := (index t).2.2.2.1
  refine (congrArg (V m c main_arg3) (funext fun a => Fin.ext ?_)).trans (congrFun (V_main_arg3 m c) _)
  match a with
  | ⟨0, _⟩ => show win0_3.index t 0 * 1 + 1 * r.val = r.val; rw [e0]; omega
  | ⟨1, _⟩ => show win0_3.index t 1 * 256 + 1 * l.val = l.val; rw [e1]; omega

/-! ## The results -/

/-- The gradient, as it was given. -/
def gradArr (g : FVec Ideal S1x256 .f32) : FVec Ideal S1x256 .f32 := g

/-- The weights' change, entry by entry. -/
def changeArr (g w m v : FVec Ideal S1x256 .f32) : FVec Ideal S1x256 .f32 := fun i => Adam.change (g i) (w i) (m i) (v i)

/-- The first moment, entry by entry. -/
def firstArr (g m : FVec Ideal S1x256 .f32) : FVec Ideal S1x256 .f32 := fun i => Adam.first (g i) (m i)

/-- The second moment, entry by entry. -/
def secondArr (g v : FVec Ideal S1x256 .f32) : FVec Ideal S1x256 .f32 := fun i => Adam.second (g i) (v i)

section

variable (x0 : FVec Ideal S1x1x256 .f32) (x1 x2 x3 : FVec Ideal S1x256 .f32)

theorem grad_point (r : Fin 1) (l : Fin 256) : k0_pay1 (F := Ideal) x0 (ix2 r l) = (x0 (ix3 0 r l) : EReal) := by
  obtain rfl : r = 0 := Subsingleton.elim _ _
  pointwise [k0_pay1]

theorem change_point (r : Fin 1) (l : Fin 256) : k0_pay4 (F := Ideal) x0 x1 x2 x3 (ix2 r l) = (Adam.change (x0 (ix3 0 r l)) (x1 (ix2 r l)) (x2 (ix2 r l)) (x3 (ix2 r l)) : EReal) := by
  obtain rfl : r = 0 := Subsingleton.elim _ _
  pointwise [k0_pay4, k0_pay3, k0_pay2, k0_pay1, Adam.change, Adam.first, Adam.second]

theorem first_point (r : Fin 1) (l : Fin 256) : k0_pay2 (F := Ideal) x0 x2 (ix2 r l) = (Adam.first (x0 (ix3 0 r l)) (x2 (ix2 r l)) : EReal) := by
  obtain rfl : r = 0 := Subsingleton.elim _ _
  pointwise [k0_pay2, k0_pay1, Adam.first]

theorem second_point (r : Fin 1) (l : Fin 256) : k0_pay3 (F := Ideal) x0 x3 (ix2 r l) = (Adam.second (x0 (ix3 0 r l)) (x3 (ix2 r l)) : EReal) := by
  obtain rfl : r = 0 := Subsingleton.elim _ _
  pointwise [k0_pay3, k0_pay1, Adam.second]

end

theorem emb_grad (t : Fin cfg0.N) (r : Fin 1) (l : Fin 256) :
    ((cfg0.win 4).blk t).view.emb (ix2 r l : S1x256.Idx) = (ix2 r l : S1x256.Idx) := by
  obtain ⟨e0, e1⟩ := (index t).2.2.2.2.1
  refine funext fun a => Fin.ext ?_
  match a with
  | ⟨0, _⟩ => show win0_4.index t 0 * 1 + 1 * r.val = r.val; rw [e0]; omega
  | ⟨1, _⟩ => show win0_4.index t 1 * 256 + 1 * l.val = l.val; rw [e1]; omega

theorem grad_arr : (dats m 0 c).arrAt 4 cfg0.N = gradArr (m ((c : Thread nD τ).loc main_arg0)) := by
  refine (dats m 0 c).arrAt_eq_of_covers 4 _ (by decide +kernel) (fun t _ (x : S1x256.Idx) => ?_)
  show (dats m 0 c).after 4 t x = gradArr _ (((cfg0.win 4).blk t).view.emb x)
  rw [after0_4]
  frame_out
  idx_vars x
  rw [emb_grad, grad_point]
  simp only [g_block]
  rfl

theorem emb_change (t : Fin cfg0.N) (r : Fin 1) (l : Fin 256) :
    ((cfg0.win 5).blk t).view.emb (ix2 r l : S1x256.Idx) = (ix2 r l : S1x256.Idx) := by
  obtain ⟨e0, e1⟩ := (index t).2.2.2.2.2.1
  refine funext fun a => Fin.ext ?_
  match a with
  | ⟨0, _⟩ => show win0_5.index t 0 * 1 + 1 * r.val = r.val; rw [e0]; omega
  | ⟨1, _⟩ => show win0_5.index t 1 * 256 + 1 * l.val = l.val; rw [e1]; omega

theorem change_arr : (dats m 0 c).arrAt 5 cfg0.N = changeArr (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) (fun t _ (x : S1x256.Idx) => ?_)
  show (dats m 0 c).after 5 t x = changeArr _ _ _ _ (((cfg0.win 5).blk t).view.emb x)
  rw [after0_5]
  frame_out
  idx_vars x
  rw [emb_change, change_point]
  simp only [g_block, w_block, m_block, v_block]
  rfl

theorem emb_first (t : Fin cfg0.N) (r : Fin 1) (l : Fin 256) :
    ((cfg0.win 6).blk t).view.emb (ix2 r l : S1x256.Idx) = (ix2 r l : S1x256.Idx) := by
  obtain ⟨e0, e1⟩ := (index t).2.2.2.2.2.2.1
  refine funext fun a => Fin.ext ?_
  match a with
  | ⟨0, _⟩ => show win0_6.index t 0 * 1 + 1 * r.val = r.val; rw [e0]; omega
  | ⟨1, _⟩ => show win0_6.index t 1 * 256 + 1 * l.val = l.val; rw [e1]; omega

theorem first_arr : (dats m 0 c).arrAt 6 cfg0.N = firstArr (m ((c : Thread nD τ).loc main_arg0)) (m ((c : Thread nD τ).loc main_arg2)) := by
  refine (dats m 0 c).arrAt_eq_of_covers 6 _ (by decide +kernel) (fun t _ (x : S1x256.Idx) => ?_)
  show (dats m 0 c).after 6 t x = firstArr _ _ (((cfg0.win 6).blk t).view.emb x)
  rw [after0_6]
  frame_out
  idx_vars x
  rw [emb_first, first_point]
  simp only [g_block, m_block]
  rfl

theorem emb_second (t : Fin cfg0.N) (r : Fin 1) (l : Fin 256) :
    ((cfg0.win 7).blk t).view.emb (ix2 r l : S1x256.Idx) = (ix2 r l : S1x256.Idx) := by
  obtain ⟨e0, e1⟩ := (index t).2.2.2.2.2.2.2
  refine funext fun a => Fin.ext ?_
  match a with
  | ⟨0, _⟩ => show win0_7.index t 0 * 1 + 1 * r.val = r.val; rw [e0]; omega
  | ⟨1, _⟩ => show win0_7.index t 1 * 256 + 1 * l.val = l.val; rw [e1]; omega

theorem second_arr : (dats m 0 c).arrAt 7 cfg0.N = secondArr (m ((c : Thread nD τ).loc main_arg0)) (m ((c : Thread nD τ).loc main_arg3)) := by
  refine (dats m 0 c).arrAt_eq_of_covers 7 _ (by decide +kernel) (fun t _ (x : S1x256.Idx) => ?_)
  show (dats m 0 c).after 7 t x = secondArr _ _ (((cfg0.win 7).blk t).view.emb x)
  rw [after0_7]
  frame_out
  idx_vars x
  rw [emb_second, second_point]
  simp only [g_block, v_block]
  rfl

/-- Every execution ends with the four results at these arrays of the arguments, and the arguments as they were. -/
theorem run : θ_run defs (onTc (τ := τ) (main (F := Ideal))) ⟨m, fun _ => 0, ρ⟩ fun r => ∀ c : Dev nD,
    r.2.mem ((c.tc : Thread nD τ).loc main_v1_0) = gradArr (m ((c : Thread nD τ).loc main_arg0)) ∧
    r.2.mem ((c.tc : Thread nD τ).loc main_v1_1) = changeArr (m ((c : Thread nD τ).loc main_arg0)) (m ((c : Thread nD τ).loc main_arg1)) (m ((c : Thread nD τ).loc main_arg2)) (m ((c : Thread nD τ).loc main_arg3)) ∧
    r.2.mem ((c.tc : Thread nD τ).loc main_v1_2) = firstArr (m ((c : Thread nD τ).loc main_arg0)) (m ((c : Thread nD τ).loc main_arg2)) ∧
    r.2.mem ((c.tc : Thread nD τ).loc main_v1_3) = secondArr (m ((c : Thread nD τ).loc main_arg0)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨(Value.post4 m r h c).trans (grad_arr m c), (Value.post5 m r h c).trans (change_arr m c),
    (Value.post6 m r h c).trans (first_arr m c), (Value.post7 m r h c).trans (second_arr m c),
    Value.kept_main_arg0 m r h c, Value.kept_main_arg1 m r h c, Value.kept_main_arg2 m r h c, Value.kept_main_arg3 m r h c⟩) (run_main m ρ)

end Cert.Kernel22Ideal.CvRow

end
-- ==== Proof.Adam.CvRowReference.lean ====
/- The reference's optimiser step of a parameter of shape 1x256 gives the kernel's arrays. -/
module

public import proofs.«01_k».proof.Proof.Adam.CvRow
public import proofs.«01_k».proof.Proof.Gen.Reference22Ideal.Run

@[expose] public section

set_option maxRecDepth 16384

noncomputable section

namespace Cert.Reference22Ideal.CvRow

open Idealize.ShloMosaic Idealize.SL.Sem Idealize.ShloMosaic.TcCoe
open Cert.Reference22Ideal Cert.Reference22Ideal.Gen
open Cert.Kernel22Ideal.CvRow (gradArr changeArr firstArr secondArr)

/-- The reference's two moments, in the parameter's own shape. -/
def first (g m : FVec Ideal S1x256 .f32) : FVec Ideal S1x256 .f32 := addf (mulf (broadcastInDim S1x256 ![] bcast_S_S1x256 (constant S_ .f32 0x3F666666#32)) m) (mulf (broadcastInDim S1x256 ![] bcast_S_S1x256 (constant S_ .f32 0x3DCCCCCD#32)) g)

def second (g v : FVec Ideal S1x256 .f32) : FVec Ideal S1x256 .f32 := addf (mulf (broadcastInDim S1x256 ![] bcast_S_S1x256 (constant S_ .f32 0x3F7FBE77#32)) v) (mulf (broadcastInDim S1x256 ![] bcast_S_S1x256 (constant S_ .f32 0x3A83126F#32)) (mulf g g))

/-- Its change of the weights. -/
def change (g w m v : FVec Ideal S1x256 .f32) : FVec Ideal S1x256 .f32 :=
  mulf (broadcastInDim S1x256 ![] bcast_S_S1x256 (constant S_ .f32 0xBA83126F#32)) (addf (Host.divf (Host.divf (first g m) (broadcastInDim S1x256 ![] bcast_S_S1x256 (constant S_ .f32 0x3F26BD02#32)))
    (addf (Host.sqrt (Host.divf (second g v) (broadcastInDim S1x256 ![] bcast_S_S1x256 (constant S_ .f32 0x3C231ACC#32)))) (broadcastInDim S1x256 ![] bcast_S_S1x256 (constant S_ .f32 0x322BCC77#32)))) (mulf (broadcastInDim S1x256 ![] bcast_S_S1x256 (constant S_ .f32 0x3C23D70A#32)) w))

theorem grad_eq (g : FVec Ideal S1x256 .f32) : (g : FVec Ideal S1x256 .f32) = gradArr g := rfl

theorem first_eq (g m : FVec Ideal S1x256 .f32) : (first g m : FVec Ideal S1x256 .f32) = firstArr g m := rfl

theorem second_eq (g v : FVec Ideal S1x256 .f32) : (second g v : FVec Ideal S1x256 .f32) = secondArr g v := rfl

theorem change_eq (g w m v : FVec Ideal S1x256 .f32) : (change g w m v : FVec Ideal S1x256 .f32) = changeArr g w m v := rfl

end Cert.Reference22Ideal.CvRow

end
-- ==== Proof.Adam.FinalG.lean ====
/- What the optimiser's step of a parameter of shape 2048 leaves in its four result arrays, over the extended reals: the
   gradient, the weights' change and the two moments, entry by entry. -/
module

public import proofs.«01_k».proof.Proof.Gen.Kernel23Ideal.Value
public import proofs.«01_k».proof.Proof.Adam.Step
public import Idealize.ShloMosaic.Lib.Pipeline.ValueKit
public import Idealize.ShloMosaic.Lib.Pointwise
public import Idealize.ShloMosaic.Lib.Tactic

@[expose] public section

set_option maxRecDepth 16384

noncomputable section

namespace Cert.Kernel23Ideal.FinalG

open Idealize.ShloMosaic Idealize.SL.Sem Idealize.ShloMosaic.TcCoe
open Cert.Kernel23Ideal Cert.Kernel23Ideal.Gen
open Idealize.ShloMosaic.Pipeline (Dat Cfg Window)

/-- An array of the parameter's shape as a matrix. -/
def rows (a : FVec Ideal S2048 .f32) : FVec Ideal S1x2048 .f32 := shapeCast _ a shapeCasts_S2048_S1x2048

/-- There is one point, and its blocks are the whole arrays. -/
theorem index : ∀ t : Fin grid0.N,
    (win0_0.index t 0 = 0 ∧ win0_0.index t 1 = 0 ∧ win0_0.index t 2 = 0)
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) := by decide +kernel

variable (m : (ℓ : Loc nD τ sig) → Buf (Elt Ideal) ℓ) (ρ : Dev nD → PrngReg) (c : Dev nD)

/-! ## The arrays as the call gets them, and a point's blocks of them -/

/-- The gradient as the call gets it: with an axis of one in front. -/
theorem lead_axis (r : Fin 1) (l : Fin 2048) : V m c main_v4 (ix3 0 r l) = (rows (m ((c : Thread nD τ).loc main_arg0))) (ix2 r l) := by
  have e : V m c main_v4 = broadcastInDim S1x1x2048 ![1, 2] bcast_S1x2048_S1x1x2048_1_2 (rows (m ((c : Thread nD τ).loc main_arg0))) := by
    show StableHlo.after hostOps0 (fun b => m (c, b)) (Proc.devRef .tc main_v4) = _
    simp only [hostOps0, List.flatten_cons, List.flatten_nil, List.append_nil, List.cons_append, List.nil_append]
    after_results_simp <;> rfl
  rw [e]
  obtain rfl : r = 0 := Subsingleton.elim _ _
  pointwise []

theorem flat_1 : V m c main_v1 = rows (m ((c : Thread nD τ).loc main_arg1)) := by
    show StableHlo.after hostOps0 (fun b => m (c, b)) (Proc.devRef .tc main_v1) = _
    simp only [hostOps0, List.flatten_cons, List.flatten_nil, List.append_nil, List.cons_append, List.nil_append]
    after_results_simp <;> rfl

theorem flat_2 : V m c main_v2 = rows (m ((c : Thread nD τ).loc main_arg2)) := by
    show StableHlo.after hostOps0 (fun b => m (c, b)) (Proc.devRef .tc main_v2) = _
    simp only [hostOps0, List.flatten_cons, List.flatten_nil, List.append_nil, List.cons_append, List.nil_append]
    after_results_simp <;> rfl

theorem flat_3 : V m c main_v3 = rows (m ((c : Thread nD τ).loc main_arg3)) := by
    show StableHlo.after hostOps0 (fun b => m (c, b)) (Proc.devRef .tc main_v3) = _
    simp only [hostOps0, List.flatten_cons, List.flatten_nil, List.append_nil, List.cons_append, List.nil_append]
    after_results_simp <;> rfl

theorem g_block (t : Fin cfg0.N) (r : Fin 1) (l : Fin 2048) : iblk m c 0 t (ix3 0 r l) = (rows (m ((c : Thread nD τ).loc main_arg0))) (ix2 r l) := by
  obtain ⟨e0, e1, e2⟩ := (index t).1
  refine (congrArg (V m c main_v4) (funext fun a => Fin.ext ?_)).trans (lead_axis m c _ _)
  match a with
  | ⟨0, _⟩ => show win0_0.index t 0 * 1 + 1 * 0 = 0; rw [e0]
  | ⟨1, _⟩ => show win0_0.index t 1 * 1 + 1 * r.val = r.val; rw [e1]; omega
  | ⟨2, _⟩ => show win0_0.index t 2 * 2048 + 1 * l.val = l.val; rw [e2]; omega

theorem w_block (t : Fin cfg0.N) (r : Fin 1) (l : Fin 2048) : iblk m c 1 t (ix2 r l) = (rows (m ((c : Thread nD τ).loc main_arg1))) (ix2 r l) := by
  obtain ⟨e0, e1⟩ := (index t).2.1
  refine (congrArg (V m c main_v1) (funext fun a => Fin.ext ?_)).trans (congrFun (flat_1 m c) _)
  match a with
  | ⟨0, _⟩ => show win0_1.index t 0 * 1 + 1 * r.val = r.val; rw [e0]; omega
  | ⟨1, _⟩ => show win0_1.index t 1 * 2048 + 1 * l.val = l.val; rw [e1]; omega

theorem m_block (t : Fin cfg0.N) (r : Fin 1) (l : Fin 2048) : iblk m c 2 t (ix2 r l) = (rows (m ((c : Thread nD τ).loc main_arg2))) (ix2 r l) := by
  obtain ⟨e0, e1⟩ := (index t).2.2.1
  refine (congrArg (V m c main_v2) (funext fun a => Fin.ext ?_)).trans (congrFun (flat_2 m c) _)
  match a with
  | ⟨0, _⟩ => show win0_2.index t 0 * 1 + 1 * r.val = r.val; rw [e0]; omega
  | ⟨1, _⟩ => show win0_2.index t 1 * 2048 + 1 * l.val = l.val; rw [e1]; omega

theorem v_block (t : Fin cfg0.N) (r : Fin 1) (l : Fin 2048) : iblk m c 3 t (ix2 r l) = (rows (m ((c : Thread nD τ).loc main_arg3))) (ix2 r l) := by
  obtain ⟨e0, e1⟩ := (index t).2.2.2.1
  refine (congrArg (V m c main_v3) (funext fun a => Fin.ext ?_)).trans (congrFun (flat_3 m c) _)
  match a with
  | ⟨0, _⟩ => show win0_3.index t 0 * 1 + 1 * r.val = r.val; rw [e0]; omega
  | ⟨1, _⟩ => show win0_3.index t 1 * 2048 + 1 * l.val = l.val; rw [e1]; omega

/-! ## The results -/

/-- The gradient, as it was given. -/
def gradArr (g : FVec Ideal S2048 .f32) : FVec Ideal S1x2048 .f32 := rows g

/-- The weights' change, entry by entry. -/
def changeArr (g w m v : FVec Ideal S2048 .f32) : FVec Ideal S1x2048 .f32 := fun i => Adam.change (rows g i) (rows w i) (rows m i) (rows v i)

/-- The first moment, entry by entry. -/
def firstArr (g m : FVec Ideal S2048 .f32) : FVec Ideal S1x2048 .f32 := fun i => Adam.first (rows g i) (rows m i)

/-- The second moment, entry by entry. -/
def secondArr (g v : FVec Ideal S2048 .f32) : FVec Ideal S1x2048 .f32 := fun i => Adam.second (rows g i) (rows v i)

section

variable (x0 : FVec Ideal S1x1x2048 .f32) (x1 x2 x3 : FVec Ideal S1x2048 .f32)

theorem grad_point (r : Fin 1) (l : Fin 2048) : k0_pay1 (F := Ideal) x0 (ix2 r l) = (x0 (ix3 0 r l) : EReal) := by
  obtain rfl : r = 0 := Subsingleton.elim _ _
  pointwise [k0_pay1]

theorem change_point (r : Fin 1) (l : Fin 2048) : k0_pay4 (F := Ideal) x0 x1 x2 x3 (ix2 r l) = (Adam.change (x0 (ix3 0 r l)) (x1 (ix2 r l)) (x2 (ix2 r l)) (x3 (ix2 r l)) : EReal) := by
  obtain rfl : r = 0 := Subsingleton.elim _ _
  pointwise [k0_pay4, k0_pay3, k0_pay2, k0_pay1, Adam.change, Adam.first, Adam.second]

theorem first_point (r : Fin 1) (l : Fin 2048) : k0_pay2 (F := Ideal) x0 x2 (ix2 r l) = (Adam.first (x0 (ix3 0 r l)) (x2 (ix2 r l)) : EReal) := by
  obtain rfl : r = 0 := Subsingleton.elim _ _
  pointwise [k0_pay2, k0_pay1, Adam.first]

theorem second_point (r : Fin 1) (l : Fin 2048) : k0_pay3 (F := Ideal) x0 x3 (ix2 r l) = (Adam.second (x0 (ix3 0 r l)) (x3 (ix2 r l)) : EReal) := by
  obtain rfl : r = 0 := Subsingleton.elim _ _
  pointwise [k0_pay3, k0_pay1, Adam.second]

end

theorem emb_grad (t : Fin cfg0.N) (r : Fin 1) (l : Fin 2048) :
    ((cfg0.win 4).blk t).view.emb (ix2 r l : S1x2048.Idx) = (ix2 r l : S1x2048.Idx) := by
  obtain ⟨e0, e1⟩ := (index t).2.2.2.2.1
  refine funext fun a => Fin.ext ?_
  match a with
  | ⟨0, _⟩ => show win0_4.index t 0 * 1 + 1 * r.val = r.val; rw [e0]; omega
  | ⟨1, _⟩ => show win0_4.index t 1 * 2048 + 1 * l.val = l.val; rw [e1]; omega

theorem grad_arr : (dats m 0 c).arrAt 4 cfg0.N = gradArr (m ((c : Thread nD τ).loc main_arg0)) := by
  refine (dats m 0 c).arrAt_eq_of_covers 4 _ (by decide +kernel) (fun t _ (x : S1x2048.Idx) => ?_)
  show (dats m 0 c).after 4 t x = gradArr _ (((cfg0.win 4).blk t).view.emb x)
  rw [after0_4]
  frame_out
  idx_vars x
  rw [emb_grad, grad_point]
  simp only [g_block]
  rfl

theorem emb_change (t : Fin cfg0.N) (r : Fin 1) (l : Fin 2048) :
    ((cfg0.win 5).blk t).view.emb (ix2 r l : S1x2048.Idx) = (ix2 r l : S1x2048.Idx) := by
  obtain ⟨e0, e1⟩ := (index t).2.2.2.2.2.1
  refine funext fun a => Fin.ext ?_
  match a with
  | ⟨0, _⟩ => show win0_5.index t 0 * 1 + 1 * r.val = r.val; rw [e0]; omega
  | ⟨1, _⟩ => show win0_5.index t 1 * 2048 + 1 * l.val = l.val; rw [e1]; omega

theorem change_arr : (dats m 0 c).arrAt 5 cfg0.N = changeArr (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) (fun t _ (x : S1x2048.Idx) => ?_)
  show (dats m 0 c).after 5 t x = changeArr _ _ _ _ (((cfg0.win 5).blk t).view.emb x)
  rw [after0_5]
  frame_out
  idx_vars x
  rw [emb_change, change_point]
  simp only [g_block, w_block, m_block, v_block]
  rfl

theorem emb_first (t : Fin cfg0.N) (r : Fin 1) (l : Fin 2048) :
    ((cfg0.win 6).blk t).view.emb (ix2 r l : S1x2048.Idx) = (ix2 r l : S1x2048.Idx) := by
  obtain ⟨e0, e1⟩ := (index t).2.2.2.2.2.2.1
  refine funext fun a => Fin.ext ?_
  match a with
  | ⟨0, _⟩ => show win0_6.index t 0 * 1 + 1 * r.val = r.val; rw [e0]; omega
  | ⟨1, _⟩ => show win0_6.index t 1 * 2048 + 1 * l.val = l.val; rw [e1]; omega

theorem first_arr : (dats m 0 c).arrAt 6 cfg0.N = firstArr (m ((c : Thread nD τ).loc main_arg0)) (m ((c : Thread nD τ).loc main_arg2)) := by
  refine (dats m 0 c).arrAt_eq_of_covers 6 _ (by decide +kernel) (fun t _ (x : S1x2048.Idx) => ?_)
  show (dats m 0 c).after 6 t x = firstArr _ _ (((cfg0.win 6).blk t).view.emb x)
  rw [after0_6]
  frame_out
  idx_vars x
  rw [emb_first, first_point]
  simp only [g_block, m_block]
  rfl

theorem emb_second (t : Fin cfg0.N) (r : Fin 1) (l : Fin 2048) :
    ((cfg0.win 7).blk t).view.emb (ix2 r l : S1x2048.Idx) = (ix2 r l : S1x2048.Idx) := by
  obtain ⟨e0, e1⟩ := (index t).2.2.2.2.2.2.2
  refine funext fun a => Fin.ext ?_
  match a with
  | ⟨0, _⟩ => show win0_7.index t 0 * 1 + 1 * r.val = r.val; rw [e0]; omega
  | ⟨1, _⟩ => show win0_7.index t 1 * 2048 + 1 * l.val = l.val; rw [e1]; omega

theorem second_arr : (dats m 0 c).arrAt 7 cfg0.N = secondArr (m ((c : Thread nD τ).loc main_arg0)) (m ((c : Thread nD τ).loc main_arg3)) := by
  refine (dats m 0 c).arrAt_eq_of_covers 7 _ (by decide +kernel) (fun t _ (x : S1x2048.Idx) => ?_)
  show (dats m 0 c).after 7 t x = secondArr _ _ (((cfg0.win 7).blk t).view.emb x)
  rw [after0_7]
  frame_out
  idx_vars x
  rw [emb_second, second_point]
  simp only [g_block, v_block]
  rfl

/-- Every execution ends with the four results at these arrays of the arguments, and the arguments as they were. -/
theorem run : θ_run defs (onTc (τ := τ) (main (F := Ideal))) ⟨m, fun _ => 0, ρ⟩ fun r => ∀ c : Dev nD,
    r.2.mem ((c.tc : Thread nD τ).loc main_v5_0) = gradArr (m ((c : Thread nD τ).loc main_arg0)) ∧
    r.2.mem ((c.tc : Thread nD τ).loc main_v5_1) = changeArr (m ((c : Thread nD τ).loc main_arg0)) (m ((c : Thread nD τ).loc main_arg1)) (m ((c : Thread nD τ).loc main_arg2)) (m ((c : Thread nD τ).loc main_arg3)) ∧
    r.2.mem ((c.tc : Thread nD τ).loc main_v5_2) = firstArr (m ((c : Thread nD τ).loc main_arg0)) (m ((c : Thread nD τ).loc main_arg2)) ∧
    r.2.mem ((c.tc : Thread nD τ).loc main_v5_3) = secondArr (m ((c : Thread nD τ).loc main_arg0)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨(Value.post4 m r h c).trans (grad_arr m c), (Value.post5 m r h c).trans (change_arr m c),
    (Value.post6 m r h c).trans (first_arr m c), (Value.post7 m r h c).trans (second_arr m c),
    Value.kept_main_arg0 m r h c, Value.kept_main_arg1 m r h c, Value.kept_main_arg2 m r h c, Value.kept_main_arg3 m r h c⟩) (run_main m ρ)

end Cert.Kernel23Ideal.FinalG

end
-- ==== Proof.Adam.FinalGReference.lean ====
/- The reference's optimiser step of a parameter of shape 2048 gives the kernel's arrays. -/
module

public import proofs.«01_k».proof.Proof.Adam.FinalG
public import proofs.«01_k».proof.Proof.Gen.Reference23Ideal.Run

@[expose] public section

set_option maxRecDepth 16384

noncomputable section

namespace Cert.Reference23Ideal.FinalG

open Idealize.ShloMosaic Idealize.SL.Sem Idealize.ShloMosaic.TcCoe
open Cert.Reference23Ideal Cert.Reference23Ideal.Gen
open Cert.Kernel23Ideal.FinalG (gradArr changeArr firstArr secondArr)

/-- The reference's two moments, in the parameter's own shape. -/
def first (g m : FVec Ideal S2048 .f32) : FVec Ideal S2048 .f32 := addf (mulf (broadcastInDim S2048 ![] bcast_S_S2048 (constant S_ .f32 0x3F666666#32)) m) (mulf (broadcastInDim S2048 ![] bcast_S_S2048 (constant S_ .f32 0x3DCCCCCD#32)) g)

def second (g v : FVec Ideal S2048 .f32) : FVec Ideal S2048 .f32 := addf (mulf (broadcastInDim S2048 ![] bcast_S_S2048 (constant S_ .f32 0x3F7FBE77#32)) v) (mulf (broadcastInDim S2048 ![] bcast_S_S2048 (constant S_ .f32 0x3A83126F#32)) (mulf g g))

/-- Its change of the weights. -/
def change (g w m v : FVec Ideal S2048 .f32) : FVec Ideal S2048 .f32 :=
  mulf (broadcastInDim S2048 ![] bcast_S_S2048 (constant S_ .f32 0xBA83126F#32)) (addf (Host.divf (Host.divf (first g m) (broadcastInDim S2048 ![] bcast_S_S2048 (constant S_ .f32 0x3F26BD02#32)))
    (addf (Host.sqrt (Host.divf (second g v) (broadcastInDim S2048 ![] bcast_S_S2048 (constant S_ .f32 0x3C231ACC#32)))) (broadcastInDim S2048 ![] bcast_S_S2048 (constant S_ .f32 0x322BCC77#32)))) (mulf (broadcastInDim S2048 ![] bcast_S_S2048 (constant S_ .f32 0x3C23D70A#32)) w))

theorem grad_eq (g : FVec Ideal S2048 .f32) : (shapeCast _ (g) shapeCasts_S2048_S1x2048 : FVec Ideal S1x2048 .f32) = gradArr g := rfl

theorem first_eq (g m : FVec Ideal S2048 .f32) : (shapeCast _ (first g m) shapeCasts_S2048_S1x2048 : FVec Ideal S1x2048 .f32) = firstArr g m := rfl

theorem second_eq (g v : FVec Ideal S2048 .f32) : (shapeCast _ (second g v) shapeCasts_S2048_S1x2048 : FVec Ideal S1x2048 .f32) = secondArr g v := rfl

theorem change_eq (g w m v : FVec Ideal S2048 .f32) : (shapeCast _ (change g w m v) shapeCasts_S2048_S1x2048 : FVec Ideal S1x2048 .f32) = changeArr g w m v := rfl

end Cert.Reference23Ideal.FinalG

end
-- ==== Proof.Adam.WideIn.lean ====
/- What the optimiser's step of a layer's 2048x512 share of an input matrix leaves in its four result arrays, over the extended reals. The gradient is the sum
   of the chip's own block of `main_arg0`, the one its number in `main_arg2` names, and of the three received in `main_arg1`. -/
module

public import proofs.«01_k».proof.Defs
public import proofs.«01_k».proof.Proof.Gen.Kernel24Ideal.Frame
public import proofs.«01_k».proof.Proof.Gen.Pre_chip_named24
public import proofs.«01_k».proof.Proof.Adam.Step
public import Idealize.ShloMosaic.Lib.Pipeline.ValueKit
public import Idealize.ShloMosaic.Lib.Pointwise
public import Idealize.ShloMosaic.Lib.Tactic
public import Idealize.ShloMosaic.Lib.WordCmp

@[expose] public section

set_option maxRecDepth 16384

noncomputable section

namespace Cert.Kernel24Ideal.WideIn

open Idealize.ShloMosaic Idealize.SL.Sem Idealize.ShloMosaic.TcCoe
open Cert.Kernel24Ideal Cert.Kernel24Ideal.Gen
open Idealize.ShloMosaic.Pipeline (Dat Cfg Window)

theorem zero3 : (![0, 0, 0] : Fin 3 → Nat) = fun _ => 0 := funext fun a => by fin_cases a <;> rfl

/-! ## The chip's number -/

/-- The predicate says that the number is one of the four. -/
theorem named {F : FTy → Type} [FloatOps F] (x0 : FVec F S4x2048x512 .bf16) (x1 : FVec F S3x2048x512 .bf16) (p : IVec S1 32)
    (x3 x4 x5 x6 x7 x8 x9 : FVec F S1x2048x512 .f32) (h : Pre_chip_named24.fn (F := F) x0 x1 p x3 x4 x5 x6 x7 x8 x9 = fun _ => 1#1) :
    (p (ix1 0)).toNat < 4 := by
  have e := congrFun h (fun a => a.elim0)
  have k : IntOp.andi (IntOp.cmpi .sge (p (ix1 0)) 0#32) (IntOp.cmpi .slt (p (ix1 0)) 4#32) = 1#1 := by
    refine Eq.trans ?_ e
    have q : shapeCast Pre_chip_named24.S_ p Pre_chip_named24.Gen.facts.shapeCasts_S1_S_ (fun a => a.elim0) = p (ix1 0) :=
      congrArg p (funext fun a => match a with | ⟨0, _⟩ => Subsingleton.elim (α := Fin 1) _ _)
    exact (congrArg (fun v => IntOp.andi (IntOp.cmpi .sge v 0#32) (IntOp.cmpi .slt v 4#32)) q).symm
  have q : IntOp.andi (IntOp.cmpi .sge (p (ix1 0)) 0#32) (IntOp.cmpi .slt (p (ix1 0)) 4#32) = 1#1 ↔ (p (ix1 0)).toNat < 4 := by word_cmp
  exact q.1 k

section

variable {F : FTy → Type} [FloatOps F] (m : (ℓ : Loc nD τ sig) → Buf (Elt F) ℓ)

/-- The chip's number as the call reads it. -/
def chip : BitVec 32 := m (((0 : Dev nD).tc : Thread nD τ).loc main_arg2) (ix1 0)

/-- Where the call takes its own block from: block `chip`, and the point's block of rows. -/
theorem own_index (i : grid0.Coords) :
    cc0_transform_0 inb_S1_S1_0 numel1_S1 (tbl m) i = ![(chip m).toNat, (BitVec.ofNat 32 (i 0).val).toNat, 0] := by
  unfold cc0_transform_0
  have e : (tbl m).at 0 (Rect.unit (s := S1) ![0] S1.size inb_S1_S1_0) numel1_S1 = chip m :=
    (congrFun (V_main_arg2 m 0) _).trans (congrArg (m (((0 : Dev nD).tc : Thread nD τ).loc main_arg2)) (funext fun a => match a with | ⟨0, _⟩ => Subsingleton.elim (α := Fin 1) _ _))
  show ![((tbl m).at 0 (Rect.unit (s := S1) ![0] S1.size inb_S1_S1_0) numel1_S1).toNat, _, _] = _
  rw [e]
  rfl

/-- All four chips' blocks lie inside the array, in whole words. -/
theorem placed : ∀ (p : Fin 4) (t : Fin 8), ∃ h : (∀ a, ((![p.val, (BitVec.ofNat 32 t.val).toNat, 0] : Fin 3 → Nat) a + 1) * S1x256x512.size a ≤ S4x2048x512.size a),
    EltTy.bits .bf16 = 32 ∨ (Rect.block (s := S4x2048x512) S1x256x512.size ![p.val, (BitVec.ofNat 32 t.val).toNat, 0] h).WholeWords (EltTy.packing .bf16) := by
  decide +kernel

/-- So the blocks are inside their arrays for a number that is one of the four. -/
theorem ok (h : (chip m).toNat < 4) : Ok m := by
  show ok0 (tbl m)
  unfold ok0
  intro i
  rw [own_index]
  exact placed ⟨_, h⟩ (i 0)

end

/-! ## A point -/

section

variable (c : Dev nD) (i : grid0.Coords)
  (a2 : Memref sig .tc .vmem S1x256x512 .bf16) (h2 : a2.IsWhole)
  (a3 : Memref sig .tc .vmem S1x256x512 .bf16) (h3 : a3.IsWhole)
  (a4 : Memref sig .tc .vmem S1x256x512 .bf16) (h4 : a4.IsWhole)
  (a5 : Memref sig .tc .vmem S1x256x512 .bf16) (h5 : a5.IsWhole)
  (a6 : Memref sig .tc .vmem S1x256x512 .f32) (h6 : a6.IsWhole)
  (a7 : Memref sig .tc .vmem S1x256x512 .f32) (h7 : a7.IsWhole)
  (a8 : Memref sig .tc .vmem S1x256x512 .f32) (h8 : a8.IsWhole)
  (a13 : Memref sig .tc .vmem S1x256x512 .f32) (h13 : a13.IsWhole)
  (a14 : Memref sig .tc .vmem S1x256x512 .f32) (h14 : a14.IsWhole)
  (a15 : Memref sig .tc .vmem S1x256x512 .f32) (h15 : a15.IsWhole)
  (a16 : Memref sig .tc .vmem S1x256x512 .f32) (h16 : a16.IsWhole)
  (x0 x1 x2 x3 : Vec Ideal S1x256x512 .bf16) (x4 x5 x6 : Vec Ideal S1x256x512 .f32) (z : TbBuf0 (F := Ideal) c tbM0_0)

/-- A point's gradient. -/
theorem grad_out : out0_A_7 c i a2 h2 a3 h3 a4 h4 a5 h5 a6 h6 a7 h7 a8 h8 a13 h13 a14 h14 a15 h15 a16 h16 x0 x1 x2 x3 x4 x5 x6 z = k0_pay1 (k0_pay5 x0 x1 x2 x3) := by
  unfold out0_A_7
  rw [View.read_writes_eq_canon _ _ _ (cover0_A_7 c i a2 h2 a3 h3 a4 h4 a5 h5 a6 h6 a7 h7 a8 h8 a13 h13 a14 h14 a15 h15 a16 h16 x0 x1 x2 x3 x4 x5 x6 z)]
  unfold kernelRun0_A
  dsimp only
  sl_unfold_words
  rw [View.canon_unit_zero zero3]
  simp only [View.readAt_eq_ld, h2.read_unread, h3.read_unread, h4.read_unread, h5.read_unread, h6.read_unread, h7.read_unread, h8.read_unread, View.ld_unit_zero (S := S1x256x512) zero3]

/-- A point's weights' change. -/
theorem change_out : out0_A_8 c i a2 h2 a3 h3 a4 h4 a5 h5 a6 h6 a7 h7 a8 h8 a13 h13 a14 h14 a15 h15 a16 h16 x0 x1 x2 x3 x4 x5 x6 z = k0_pay2 (k0_pay6 x4) (k0_pay7 x0 x1 x2 x3 x5) (k0_pay8 x0 x1 x2 x3 x6) k0_pay9 := by
  unfold out0_A_8
  rw [View.read_writes_eq_canon _ _ _ (cover0_A_8 c i a2 h2 a3 h3 a4 h4 a5 h5 a6 h6 a7 h7 a8 h8 a13 h13 a14 h14 a15 h15 a16 h16 x0 x1 x2 x3 x4 x5 x6 z)]
  unfold kernelRun0_A
  dsimp only
  sl_unfold_words
  rw [View.canon_unit_zero zero3]
  simp only [View.readAt_eq_ld, h2.read_unread, h3.read_unread, h4.read_unread, h5.read_unread, h6.read_unread, h7.read_unread, h8.read_unread, View.ld_unit_zero (S := S1x256x512) zero3]

/-- A point's first moment. -/
theorem first_out : out0_A_9 c i a2 h2 a3 h3 a4 h4 a5 h5 a6 h6 a7 h7 a8 h8 a13 h13 a14 h14 a15 h15 a16 h16 x0 x1 x2 x3 x4 x5 x6 z = k0_pay3 (k0_pay7 x0 x1 x2 x3 x5) := by
  unfold out0_A_9
  rw [View.read_writes_eq_canon _ _ _ (cover0_A_9 c i a2 h2 a3 h3 a4 h4 a5 h5 a6 h6 a7 h7 a8 h8 a13 h13 a14 h14 a15 h15 a16 h16 x0 x1 x2 x3 x4 x5 x6 z)]
  unfold kernelRun0_A
  dsimp only
  sl_unfold_words
  rw [View.canon_unit_zero zero3]
  simp only [View.readAt_eq_ld, h2.read_unread, h3.read_unread, h4.read_unread, h5.read_unread, h6.read_unread, h7.read_unread, h8.read_unread, View.ld_unit_zero (S := S1x256x512) zero3]

/-- A point's second moment. -/
theorem second_out : out0_A_10 c i a2 h2 a3 h3 a4 h4 a5 h5 a6 h6 a7 h7 a8 h8 a13 h13 a14 h14 a15 h15 a16 h16 x0 x1 x2 x3 x4 x5 x6 z = k0_pay4 (k0_pay8 x0 x1 x2 x3 x6) := by
  unfold out0_A_10
  rw [View.read_writes_eq_canon _ _ _ (cover0_A_10 c i a2 h2 a3 h3 a4 h4 a5 h5 a6 h6 a7 h7 a8 h8 a13 h13 a14 h14 a15 h15 a16 h16 x0 x1 x2 x3 x4 x5 x6 z)]
  unfold kernelRun0_A
  dsimp only
  sl_unfold_words
  rw [View.canon_unit_zero zero3]
  simp only [View.readAt_eq_ld, h2.read_unread, h3.read_unread, h4.read_unread, h5.read_unread, h6.read_unread, h7.read_unread, h8.read_unread, View.ld_unit_zero (S := S1x256x512) zero3]

/-- The gradient at a point's entry: the chip's own block and the first received, and the other two. -/
theorem grad_point (r : Fin 256) (l : Fin 512) :
    k0_pay1 (k0_pay5 (F := Ideal) x0 x1 x2 x3) (ix3 0 r l) = ((x0 (ix3 0 r l) + x1 (ix3 0 r l)) + (x2 (ix3 0 r l) + x3 (ix3 0 r l)) : EReal) := by
  pointwise [k0_pay1, k0_pay5]

theorem first_point (r : Fin 256) (l : Fin 512) :
    k0_pay3 (k0_pay7 (F := Ideal) x0 x1 x2 x3 x5) (ix3 0 r l)
      = Adam.first ((x0 (ix3 0 r l) + x1 (ix3 0 r l)) + (x2 (ix3 0 r l) + x3 (ix3 0 r l)) : EReal) (x5 (ix3 0 r l)) := by
  pointwise [k0_pay3, k0_pay7, k0_pay5, Adam.first]

theorem second_point (r : Fin 256) (l : Fin 512) :
    k0_pay4 (k0_pay8 (F := Ideal) x0 x1 x2 x3 x6) (ix3 0 r l)
      = Adam.second ((x0 (ix3 0 r l) + x1 (ix3 0 r l)) + (x2 (ix3 0 r l) + x3 (ix3 0 r l)) : EReal) (x6 (ix3 0 r l)) := by
  pointwise [k0_pay4, k0_pay8, k0_pay5, Adam.second]

theorem change_point (r : Fin 256) (l : Fin 512) :
    k0_pay2 (k0_pay6 (F := Ideal) x4) (k0_pay7 x0 x1 x2 x3 x5) (k0_pay8 x0 x1 x2 x3 x6) k0_pay9 (ix3 0 r l)
      = Adam.change ((x0 (ix3 0 r l) + x1 (ix3 0 r l)) + (x2 (ix3 0 r l) + x3 (ix3 0 r l)) : EReal) (x4 (ix3 0 r l)) (x5 (ix3 0 r l)) (x6 (ix3 0 r l)) := by
  pointwise [k0_pay2, k0_pay6, k0_pay7, k0_pay8, k0_pay9, k0_pay5, Adam.change, Adam.first, Adam.second]

end

/-! ## The schedule -/

/-- Point `t` takes block `t` of the rows. -/
theorem index : ∀ t : Fin grid0.N, (BitVec.ofNat 32 (grid0.coords t 0).val).toNat = t.val
    ∧ (cc0_transform_1 (grid0.coords t) 0 = 0 ∧ cc0_transform_1 (grid0.coords t) 1 = t.val ∧ cc0_transform_1 (grid0.coords t) 2 = 0)
    ∧ (cc0_transform_2 (grid0.coords t) 0 = 1 ∧ cc0_transform_2 (grid0.coords t) 1 = t.val ∧ cc0_transform_2 (grid0.coords t) 2 = 0)
    ∧ (cc0_transform_3 (grid0.coords t) 0 = 2 ∧ cc0_transform_3 (grid0.coords t) 1 = t.val ∧ cc0_transform_3 (grid0.coords t) 2 = 0)
    ∧ (cc0_transform_4 (grid0.coords t) 0 = 0 ∧ cc0_transform_4 (grid0.coords t) 1 = t.val ∧ cc0_transform_4 (grid0.coords t) 2 = 0)
    ∧ (cc0_transform_5 (grid0.coords t) 0 = 0 ∧ cc0_transform_5 (grid0.coords t) 1 = t.val ∧ cc0_transform_5 (grid0.coords t) 2 = 0)
    ∧ (cc0_transform_6 (grid0.coords t) 0 = 0 ∧ cc0_transform_6 (grid0.coords t) 1 = t.val ∧ cc0_transform_6 (grid0.coords t) 2 = 0)
    ∧ (cc0_transform_11 (grid0.coords t) 0 = 0 ∧ cc0_transform_11 (grid0.coords t) 1 = t.val ∧ cc0_transform_11 (grid0.coords t) 2 = 0)
    ∧ (cc0_transform_12 (grid0.coords t) 0 = 0 ∧ cc0_transform_12 (grid0.coords t) 1 = t.val ∧ cc0_transform_12 (grid0.coords t) 2 = 0)
    ∧ (cc0_transform_13 (grid0.coords t) 0 = 0 ∧ cc0_transform_13 (grid0.coords t) 1 = t.val ∧ cc0_transform_13 (grid0.coords t) 2 = 0)
    ∧ (cc0_transform_14 (grid0.coords t) 0 = 0 ∧ cc0_transform_14 (grid0.coords t) 1 = t.val ∧ cc0_transform_14 (grid0.coords t) 2 = 0) := by decide +kernel

theorem lt (t : Fin grid0.N) : t.val < 8 := lt_of_lt_of_eq t.isLt N_0

/-- Row `r` of a point's block of rows. -/
def rowAt (t : ℕ) (h : t < 8) (r : Fin 256) : Fin 2048 := ⟨t * 256 + r.val, by omega⟩

/-! ## The results -/

/-- The gradient: block `p` of the chip's own sums and the first received sum, and the other two. -/
def gradAt (h : FVec Ideal S4x2048x512 .bf16) (y : FVec Ideal S3x2048x512 .bf16) (p : Fin 4) (r : Fin 2048) (l : Fin 512) : EReal :=
  (h (ix3 p r l) + y (ix3 0 r l)) + (y (ix3 1 r l) + y (ix3 2 r l))

def gradArr (h : FVec Ideal S4x2048x512 .bf16) (y : FVec Ideal S3x2048x512 .bf16) (p : Fin 4) : FVec Ideal S1x2048x512 .f32 := fun i => gradAt h y p (i 1) (i 2)

/-- The weights' change, entry by entry. -/
def changeArr (g w m v : FVec Ideal S1x2048x512 .f32) : FVec Ideal S1x2048x512 .f32 := fun i => Adam.change (g i) (w i) (m i) (v i)

/-- The first moment, entry by entry. -/
def firstArr (g m : FVec Ideal S1x2048x512 .f32) : FVec Ideal S1x2048x512 .f32 := fun i => Adam.first (g i) (m i)

/-- The second moment, entry by entry. -/
def secondArr (g v : FVec Ideal S1x2048x512 .f32) : FVec Ideal S1x2048x512 .f32 := fun i => Adam.second (g i) (v i)

variable (m : (ℓ : Loc nD τ sig) → Buf (Elt Ideal) ℓ) (ρ : Dev nD → PrngReg) (hp : (chip m).toNat < 4) (c : Dev nD)

/-- The gradient of the arguments. -/
def grad : FVec Ideal S1x2048x512 .f32 := gradArr (m ((c : Thread nD τ).loc main_arg0)) (m ((c : Thread nD τ).loc main_arg1)) ⟨(chip m).toNat, hp⟩

/-- A point's blocks of the seven arrays it reads. -/
abbrev block_0 (t : Fin grid0.N) : Vec Ideal S1x256x512 .bf16 := iblk m (ok m hp) c 0 t
abbrev block_1 (t : Fin grid0.N) : Vec Ideal S1x256x512 .bf16 := iblk m (ok m hp) c 1 t
abbrev block_2 (t : Fin grid0.N) : Vec Ideal S1x256x512 .bf16 := iblk m (ok m hp) c 2 t
abbrev block_3 (t : Fin grid0.N) : Vec Ideal S1x256x512 .bf16 := iblk m (ok m hp) c 3 t
abbrev block_4 (t : Fin grid0.N) : Vec Ideal S1x256x512 .f32 := iblk m (ok m hp) c 4 t
abbrev block_5 (t : Fin grid0.N) : Vec Ideal S1x256x512 .f32 := iblk m (ok m hp) c 5 t
abbrev block_6 (t : Fin grid0.N) : Vec Ideal S1x256x512 .f32 := iblk m (ok m hp) c 6 t

theorem own_block (t : Fin grid0.N) (r : Fin 256) (l : Fin 512) :
    block_0 m hp c t (ix3 0 r l)
      = m ((c : Thread nD τ).loc main_arg0) (ix3 (⟨(chip m).toNat, hp⟩ : Fin 4) (rowAt t.val (lt t) r) l) := by
  have e := own_index m (grid0.coords t)
  refine (congrArg (V m c main_arg0) (funext fun a => Fin.ext ?_)).trans (congrFun (V_main_arg0 m c) _)
  match a with
  | ⟨0, _⟩ => show cc0_transform_0 inb_S1_S1_0 numel1_S1 (tbl m) (grid0.coords t) 0 * 1 + 1 * 0 = (chip m).toNat; rw [e]; show (chip m).toNat * 1 + 1 * 0 = _; omega
  | ⟨1, _⟩ => show cc0_transform_0 inb_S1_S1_0 numel1_S1 (tbl m) (grid0.coords t) 1 * 256 + 1 * r.val = t.val * 256 + r.val; rw [e]; show (BitVec.ofNat 32 (grid0.coords t 0).val).toNat * 256 + 1 * r.val = _; rw [(index t).1]; omega
  | ⟨2, _⟩ => show cc0_transform_0 inb_S1_S1_0 numel1_S1 (tbl m) (grid0.coords t) 2 * 512 + 1 * l.val = l.val; rw [e]; show 0 * 512 + 1 * l.val = _; omega

theorem received_0_block (t : Fin grid0.N) (r : Fin 256) (l : Fin 512) :
    block_1 m hp c t (ix3 0 r l) = m ((c : Thread nD τ).loc main_arg1) (ix3 0 (rowAt t.val (lt t) r) l) := by
  obtain ⟨e0, e1, e2⟩ := (index t).2.1
  refine (congrArg (V m c main_arg1) (funext fun a => Fin.ext ?_)).trans (congrFun (V_main_arg1 m c) _)
  match a with
  | ⟨0, _⟩ => show cc0_transform_1 (grid0.coords t) 0 * 1 + 1 * 0 = 0; rw [e0]
  | ⟨1, _⟩ => show cc0_transform_1 (grid0.coords t) 1 * 256 + 1 * r.val = t.val * 256 + r.val; rw [e1]; omega
  | ⟨2, _⟩ => show cc0_transform_1 (grid0.coords t) 2 * 512 + 1 * l.val = l.val; rw [e2]; omega

theorem received_1_block (t : Fin grid0.N) (r : Fin 256) (l : Fin 512) :
    block_2 m hp c t (ix3 0 r l) = m ((c : Thread nD τ).loc main_arg1) (ix3 1 (rowAt t.val (lt t) r) l) := by
  obtain ⟨e0, e1, e2⟩ := (index t).2.2.1
  refine (congrArg (V m c main_arg1) (funext fun a => Fin.ext ?_)).trans (congrFun (V_main_arg1 m c) _)
  match a with
  | ⟨0, _⟩ => show cc0_transform_2 (grid0.coords t) 0 * 1 + 1 * 0 = 1; rw [e0]
  | ⟨1, _⟩ => show cc0_transform_2 (grid0.coords t) 1 * 256 + 1 * r.val = t.val * 256 + r.val; rw [e1]; omega
  | ⟨2, _⟩ => show cc0_transform_2 (grid0.coords t) 2 * 512 + 1 * l.val = l.val; rw [e2]; omega

theorem received_2_block (t : Fin grid0.N) (r : Fin 256) (l : Fin 512) :
    block_3 m hp c t (ix3 0 r l) = m ((c : Thread nD τ).loc main_arg1) (ix3 2 (rowAt t.val (lt t) r) l) := by
  obtain ⟨e0, e1, e2⟩ := (index t).2.2.2.1
  refine (congrArg (V m c main_arg1) (funext fun a => Fin.ext ?_)).trans (congrFun (V_main_arg1 m c) _)
  match a with
  | ⟨0, _⟩ => show cc0_transform_3 (grid0.coords t) 0 * 1 + 1 * 0 = 2; rw [e0]
  | ⟨1, _⟩ => show cc0_transform_3 (grid0.coords t) 1 * 256 + 1 * r.val = t.val * 256 + r.val; rw [e1]; omega
  | ⟨2, _⟩ => show cc0_transform_3 (grid0.coords t) 2 * 512 + 1 * l.val = l.val; rw [e2]; omega

theorem w_block (t : Fin grid0.N) (r : Fin 256) (l : Fin 512) :
    block_4 m hp c t (ix3 0 r l) = m ((c : Thread nD τ).loc main_arg3) (ix3 0 (rowAt t.val (lt t) r) l) := by
  obtain ⟨e0, e1, e2⟩ := (index t).2.2.2.2.1
  refine (congrArg (V m c main_arg3) (funext fun a => Fin.ext ?_)).trans (congrFun (V_main_arg3 m c) _)
  match a with
  | ⟨0, _⟩ => show cc0_transform_4 (grid0.coords t) 0 * 1 + 1 * 0 = 0; rw [e0]
  | ⟨1, _⟩ => show cc0_transform_4 (grid0.coords t) 1 * 256 + 1 * r.val = t.val * 256 + r.val; rw [e1]; omega
  | ⟨2, _⟩ => show cc0_transform_4 (grid0.coords t) 2 * 512 + 1 * l.val = l.val; rw [e2]; omega

theorem m_block (t : Fin grid0.N) (r : Fin 256) (l : Fin 512) :
    block_5 m hp c t (ix3 0 r l) = m ((c : Thread nD τ).loc main_arg4) (ix3 0 (rowAt t.val (lt t) r) l) := by
  obtain ⟨e0, e1, e2⟩ := (index t).2.2.2.2.2.1
  refine (congrArg (V m c main_arg4) (funext fun a => Fin.ext ?_)).trans (congrFun (V_main_arg4 m c) _)
  match a with
  | ⟨0, _⟩ => show cc0_transform_5 (grid0.coords t) 0 * 1 + 1 * 0 = 0; rw [e0]
  | ⟨1, _⟩ => show cc0_transform_5 (grid0.coords t) 1 * 256 + 1 * r.val = t.val * 256 + r.val; rw [e1]; omega
  | ⟨2, _⟩ => show cc0_transform_5 (grid0.coords t) 2 * 512 + 1 * l.val = l.val; rw [e2]; omega

theorem v_block (t : Fin grid0.N) (r : Fin 256) (l : Fin 512) :
    block_6 m hp c t (ix3 0 r l) = m ((c : Thread nD τ).loc main_arg5) (ix3 0 (rowAt t.val (lt t) r) l) := by
  obtain ⟨e0, e1, e2⟩ := (index t).2.2.2.2.2.2.1
  refine (congrArg (V m c main_arg5) (funext fun a => Fin.ext ?_)).trans (congrFun (V_main_arg5 m c) _)
  match a with
  | ⟨0, _⟩ => show cc0_transform_6 (grid0.coords t) 0 * 1 + 1 * 0 = 0; rw [e0]
  | ⟨1, _⟩ => show cc0_transform_6 (grid0.coords t) 1 * 256 + 1 * r.val = t.val * 256 + r.val; rw [e1]; omega
  | ⟨2, _⟩ => show cc0_transform_6 (grid0.coords t) 2 * 512 + 1 * l.val = l.val; rw [e2]; omega

theorem emb_grad (hO : Ok m) (t : Fin grid0.N) (r : Fin 256) (l : Fin 512) :
    (((cfgM m hO).win 7).blk t).view.emb (ix3 0 r l : S1x256x512.Idx) = (ix3 0 (rowAt t.val (lt t) r) l : S1x2048x512.Idx) := by
  obtain ⟨e0, e1, e2⟩ := (index t).2.2.2.2.2.2.2.1
  refine funext fun a => Fin.ext ?_
  match a with
  | ⟨0, _⟩ => show cc0_transform_11 (grid0.coords t) 0 * 1 + 1 * 0 = 0; rw [e0]
  | ⟨1, _⟩ => show cc0_transform_11 (grid0.coords t) 1 * 256 + 1 * r.val = t.val * 256 + r.val; rw [e1]; omega
  | ⟨2, _⟩ => show cc0_transform_11 (grid0.coords t) 2 * 512 + 1 * l.val = l.val; rw [e2]; omega

theorem covers_grad (hO : Ok m) : ((cfgM m hO).win 7).Covers := by
  refine ⟨(by decide : ∀ a : Fin 3, 0 < S1x256x512.size a), fun β => ?_⟩
  have b0 : (β (0 : Fin 3)).val < (1 + 1 - 1) / 1 := (β (0 : Fin 3)).isLt
  have b1 : (β (1 : Fin 3)).val < (2048 + 256 - 1) / 256 := (β (1 : Fin 3)).isLt
  have b2 : (β (2 : Fin 3)).val < (512 + 512 - 1) / 512 := (β (2 : Fin 3)).isLt
  have lt : (β (1 : Fin 3)).val < grid0.N := by rw [N_0]; omega
  obtain ⟨e0, e1, e2⟩ := (index ⟨(β (1 : Fin 3)).val, lt⟩).2.2.2.2.2.2.2.1
  refine ⟨⟨(β (1 : Fin 3)).val, lt⟩, flush0_7 (adm m hO) _, fun a => ⟨?_, .inl rfl⟩⟩
  match a with
  | ⟨0, _⟩ => show cc0_transform_11 (grid0.coords ⟨(β (1 : Fin 3)).val, lt⟩) 0 = (β (0 : Fin 3)).val; rw [e0]; omega
  | ⟨1, _⟩ => show cc0_transform_11 (grid0.coords ⟨(β (1 : Fin 3)).val, lt⟩) 1 = (β (1 : Fin 3)).val; rw [e1]
  | ⟨2, _⟩ => show cc0_transform_11 (grid0.coords ⟨(β (1 : Fin 3)).val, lt⟩) 2 = (β (2 : Fin 3)).val; rw [e2]; omega

theorem grad_at (t : Fin grid0.N) : (outsAt0 m (ok m hp) c t).1 = k0_pay1 (k0_pay5 (block_0 m hp c t) (block_1 m hp c t) (block_2 m hp c t) (block_3 m hp c t)) := by
  unfold outsAt0
  dsimp only
  exact grad_out c (grid0.coords t) (ms0_0 m (ok m hp) t) (hs0_0 m (ok m hp) t) (ms0_1 m (ok m hp) t) (hs0_1 m (ok m hp) t) (ms0_2 m (ok m hp) t) (hs0_2 m (ok m hp) t) (ms0_3 m (ok m hp) t) (hs0_3 m (ok m hp) t) (ms0_4 m (ok m hp) t) (hs0_4 m (ok m hp) t) (ms0_5 m (ok m hp) t) (hs0_5 m (ok m hp) t) (ms0_6 m (ok m hp) t) (hs0_6 m (ok m hp) t) (ms0_7 m (ok m hp) t) (hs0_7 m (ok m hp) t) (ms0_8 m (ok m hp) t) (hs0_8 m (ok m hp) t) (ms0_9 m (ok m hp) t) (hs0_9 m (ok m hp) t) (ms0_10 m (ok m hp) t) (hs0_10 m (ok m hp) t) (block_0 m hp c t) (block_1 m hp c t) (block_2 m hp c t) (block_3 m hp c t) (block_4 m hp c t) (block_5 m hp c t) (block_6 m hp c t) (tbl m 0)

theorem grad_arr : (dats m (ok m hp) 0 c).arrAt 7 (cfgM m (ok m hp)).N = grad m hp c := by
  refine (dats m (ok m hp) 0 c).arrAt_eq_of_covers 7 _ (covers_grad m (ok m hp)) (fun t _ (x : S1x256x512.Idx) => ?_)
  show (dats m (ok m hp) 0 c).after 7 t x = (grad m hp c : FVec Ideal S1x2048x512 .f32) ((((cfgM m (ok m hp)).win 7).blk t).view.emb x)
  rw [after0_7]
  refine (congrFun (grad_at m hp c t) x).trans ?_
  idx_vars x
  obtain rfl : x0 = 0 := Subsingleton.elim _ _
  rw [emb_grad m (ok m hp) t x1 x2, grad_point]
  rw [own_block, received_0_block, received_1_block, received_2_block]
  rfl

theorem emb_change (hO : Ok m) (t : Fin grid0.N) (r : Fin 256) (l : Fin 512) :
    (((cfgM m hO).win 8).blk t).view.emb (ix3 0 r l : S1x256x512.Idx) = (ix3 0 (rowAt t.val (lt t) r) l : S1x2048x512.Idx) := by
  obtain ⟨e0, e1, e2⟩ := (index t).2.2.2.2.2.2.2.2.1
  refine funext fun a => Fin.ext ?_
  match a with
  | ⟨0, _⟩ => show cc0_transform_12 (grid0.coords t) 0 * 1 + 1 * 0 = 0; rw [e0]
  | ⟨1, _⟩ => show cc0_transform_12 (grid0.coords t) 1 * 256 + 1 * r.val = t.val * 256 + r.val; rw [e1]; omega
  | ⟨2, _⟩ => show cc0_transform_12 (grid0.coords t) 2 * 512 + 1 * l.val = l.val; rw [e2]; omega

theorem covers_change (hO : Ok m) : ((cfgM m hO).win 8).Covers := by
  refine ⟨(by decide : ∀ a : Fin 3, 0 < S1x256x512.size a), fun β => ?_⟩
  have b0 : (β (0 : Fin 3)).val < (1 + 1 - 1) / 1 := (β (0 : Fin 3)).isLt
  have b1 : (β (1 : Fin 3)).val < (2048 + 256 - 1) / 256 := (β (1 : Fin 3)).isLt
  have b2 : (β (2 : Fin 3)).val < (512 + 512 - 1) / 512 := (β (2 : Fin 3)).isLt
  have lt : (β (1 : Fin 3)).val < grid0.N := by rw [N_0]; omega
  obtain ⟨e0, e1, e2⟩ := (index ⟨(β (1 : Fin 3)).val, lt⟩).2.2.2.2.2.2.2.2.1
  refine ⟨⟨(β (1 : Fin 3)).val, lt⟩, flush0_8 (adm m hO) _, fun a => ⟨?_, .inl rfl⟩⟩
  match a with
  | ⟨0, _⟩ => show cc0_transform_12 (grid0.coords ⟨(β (1 : Fin 3)).val, lt⟩) 0 = (β (0 : Fin 3)).val; rw [e0]; omega
  | ⟨1, _⟩ => show cc0_transform_12 (grid0.coords ⟨(β (1 : Fin 3)).val, lt⟩) 1 = (β (1 : Fin 3)).val; rw [e1]
  | ⟨2, _⟩ => show cc0_transform_12 (grid0.coords ⟨(β (1 : Fin 3)).val, lt⟩) 2 = (β (2 : Fin 3)).val; rw [e2]; omega

theorem change_at (t : Fin grid0.N) : (outsAt0 m (ok m hp) c t).2.1 = k0_pay2 (k0_pay6 (block_4 m hp c t)) (k0_pay7 (block_0 m hp c t) (block_1 m hp c t) (block_2 m hp c t) (block_3 m hp c t) (block_5 m hp c t)) (k0_pay8 (block_0 m hp c t) (block_1 m hp c t) (block_2 m hp c t) (block_3 m hp c t) (block_6 m hp c t)) k0_pay9 := by
  unfold outsAt0
  dsimp only
  exact change_out c (grid0.coords t) (ms0_0 m (ok m hp) t) (hs0_0 m (ok m hp) t) (ms0_1 m (ok m hp) t) (hs0_1 m (ok m hp) t) (ms0_2 m (ok m hp) t) (hs0_2 m (ok m hp) t) (ms0_3 m (ok m hp) t) (hs0_3 m (ok m hp) t) (ms0_4 m (ok m hp) t) (hs0_4 m (ok m hp) t) (ms0_5 m (ok m hp) t) (hs0_5 m (ok m hp) t) (ms0_6 m (ok m hp) t) (hs0_6 m (ok m hp) t) (ms0_7 m (ok m hp) t) (hs0_7 m (ok m hp) t) (ms0_8 m (ok m hp) t) (hs0_8 m (ok m hp) t) (ms0_9 m (ok m hp) t) (hs0_9 m (ok m hp) t) (ms0_10 m (ok m hp) t) (hs0_10 m (ok m hp) t) (block_0 m hp c t) (block_1 m hp c t) (block_2 m hp c t) (block_3 m hp c t) (block_4 m hp c t) (block_5 m hp c t) (block_6 m hp c t) (tbl m 0)

theorem change_arr : (dats m (ok m hp) 0 c).arrAt 8 (cfgM m (ok m hp)).N = changeArr (grad m hp c) (m ((c : Thread nD τ).loc main_arg3)) (m ((c : Thread nD τ).loc main_arg4)) (m ((c : Thread nD τ).loc main_arg5)) := by
  refine (dats m (ok m hp) 0 c).arrAt_eq_of_covers 8 _ (covers_change m (ok m hp)) (fun t _ (x : S1x256x512.Idx) => ?_)
  show (dats m (ok m hp) 0 c).after 8 t x = (changeArr (grad m hp c) (m ((c : Thread nD τ).loc main_arg3)) (m ((c : Thread nD τ).loc main_arg4)) (m ((c : Thread nD τ).loc main_arg5)) : FVec Ideal S1x2048x512 .f32) ((((cfgM m (ok m hp)).win 8).blk t).view.emb x)
  rw [after0_8]
  refine (congrFun (change_at m hp c t) x).trans ?_
  idx_vars x
  obtain rfl : x0 = 0 := Subsingleton.elim _ _
  rw [emb_change m (ok m hp) t x1 x2, change_point]
  rw [own_block, received_0_block, received_1_block, received_2_block, w_block, m_block, v_block]
  rfl

theorem emb_first (hO : Ok m) (t : Fin grid0.N) (r : Fin 256) (l : Fin 512) :
    (((cfgM m hO).win 9).blk t).view.emb (ix3 0 r l : S1x256x512.Idx) = (ix3 0 (rowAt t.val (lt t) r) l : S1x2048x512.Idx) := by
  obtain ⟨e0, e1, e2⟩ := (index t).2.2.2.2.2.2.2.2.2.1
  refine funext fun a => Fin.ext ?_
  match a with
  | ⟨0, _⟩ => show cc0_transform_13 (grid0.coords t) 0 * 1 + 1 * 0 = 0; rw [e0]
  | ⟨1, _⟩ => show cc0_transform_13 (grid0.coords t) 1 * 256 + 1 * r.val = t.val * 256 + r.val; rw [e1]; omega
  | ⟨2, _⟩ => show cc0_transform_13 (grid0.coords t) 2 * 512 + 1 * l.val = l.val; rw [e2]; omega

theorem covers_first (hO : Ok m) : ((cfgM m hO).win 9).Covers := by
  refine ⟨(by decide : ∀ a : Fin 3, 0 < S1x256x512.size a), fun β => ?_⟩
  have b0 : (β (0 : Fin 3)).val < (1 + 1 - 1) / 1 := (β (0 : Fin 3)).isLt
  have b1 : (β (1 : Fin 3)).val < (2048 + 256 - 1) / 256 := (β (1 : Fin 3)).isLt
  have b2 : (β (2 : Fin 3)).val < (512 + 512 - 1) / 512 := (β (2 : Fin 3)).isLt
  have lt : (β (1 : Fin 3)).val < grid0.N := by rw [N_0]; omega
  obtain ⟨e0, e1, e2⟩ := (index ⟨(β (1 : Fin 3)).val, lt⟩).2.2.2.2.2.2.2.2.2.1
  refine ⟨⟨(β (1 : Fin 3)).val, lt⟩, flush0_9 (adm m hO) _, fun a => ⟨?_, .inl rfl⟩⟩
  match a with
  | ⟨0, _⟩ => show cc0_transform_13 (grid0.coords ⟨(β (1 : Fin 3)).val, lt⟩) 0 = (β (0 : Fin 3)).val; rw [e0]; omega
  | ⟨1, _⟩ => show cc0_transform_13 (grid0.coords ⟨(β (1 : Fin 3)).val, lt⟩) 1 = (β (1 : Fin 3)).val; rw [e1]
  | ⟨2, _⟩ => show cc0_transform_13 (grid0.coords ⟨(β (1 : Fin 3)).val, lt⟩) 2 = (β (2 : Fin 3)).val; rw [e2]; omega

theorem first_at (t : Fin grid0.N) : (outsAt0 m (ok m hp) c t).2.2.1 = k0_pay3 (k0_pay7 (block_0 m hp c t) (block_1 m hp c t) (block_2 m hp c t) (block_3 m hp c t) (block_5 m hp c t)) := by
  unfold outsAt0
  dsimp only
  exact first_out c (grid0.coords t) (ms0_0 m (ok m hp) t) (hs0_0 m (ok m hp) t) (ms0_1 m (ok m hp) t) (hs0_1 m (ok m hp) t) (ms0_2 m (ok m hp) t) (hs0_2 m (ok m hp) t) (ms0_3 m (ok m hp) t) (hs0_3 m (ok m hp) t) (ms0_4 m (ok m hp) t) (hs0_4 m (ok m hp) t) (ms0_5 m (ok m hp) t) (hs0_5 m (ok m hp) t) (ms0_6 m (ok m hp) t) (hs0_6 m (ok m hp) t) (ms0_7 m (ok m hp) t) (hs0_7 m (ok m hp) t) (ms0_8 m (ok m hp) t) (hs0_8 m (ok m hp) t) (ms0_9 m (ok m hp) t) (hs0_9 m (ok m hp) t) (ms0_10 m (ok m hp) t) (hs0_10 m (ok m hp) t) (block_0 m hp c t) (block_1 m hp c t) (block_2 m hp c t) (block_3 m hp c t) (block_4 m hp c t) (block_5 m hp c t) (block_6 m hp c t) (tbl m 0)

theorem first_arr : (dats m (ok m hp) 0 c).arrAt 9 (cfgM m (ok m hp)).N = firstArr (grad m hp c) (m ((c : Thread nD τ).loc main_arg4)) := by
  refine (dats m (ok m hp) 0 c).arrAt_eq_of_covers 9 _ (covers_first m (ok m hp)) (fun t _ (x : S1x256x512.Idx) => ?_)
  show (dats m (ok m hp) 0 c).after 9 t x = (firstArr (grad m hp c) (m ((c : Thread nD τ).loc main_arg4)) : FVec Ideal S1x2048x512 .f32) ((((cfgM m (ok m hp)).win 9).blk t).view.emb x)
  rw [after0_9]
  refine (congrFun (first_at m hp c t) x).trans ?_
  idx_vars x
  obtain rfl : x0 = 0 := Subsingleton.elim _ _
  rw [emb_first m (ok m hp) t x1 x2, first_point]
  rw [own_block, received_0_block, received_1_block, received_2_block, m_block]
  rfl

theorem emb_second (hO : Ok m) (t : Fin grid0.N) (r : Fin 256) (l : Fin 512) :
    (((cfgM m hO).win 10).blk t).view.emb (ix3 0 r l : S1x256x512.Idx) = (ix3 0 (rowAt t.val (lt t) r) l : S1x2048x512.Idx) := by
  obtain ⟨e0, e1, e2⟩ := (index t).2.2.2.2.2.2.2.2.2.2
  refine funext fun a => Fin.ext ?_
  match a with
  | ⟨0, _⟩ => show cc0_transform_14 (grid0.coords t) 0 * 1 + 1 * 0 = 0; rw [e0]
  | ⟨1, _⟩ => show cc0_transform_14 (grid0.coords t) 1 * 256 + 1 * r.val = t.val * 256 + r.val; rw [e1]; omega
  | ⟨2, _⟩ => show cc0_transform_14 (grid0.coords t) 2 * 512 + 1 * l.val = l.val; rw [e2]; omega

theorem covers_second (hO : Ok m) : ((cfgM m hO).win 10).Covers := by
  refine ⟨(by decide : ∀ a : Fin 3, 0 < S1x256x512.size a), fun β => ?_⟩
  have b0 : (β (0 : Fin 3)).val < (1 + 1 - 1) / 1 := (β (0 : Fin 3)).isLt
  have b1 : (β (1 : Fin 3)).val < (2048 + 256 - 1) / 256 := (β (1 : Fin 3)).isLt
  have b2 : (β (2 : Fin 3)).val < (512 + 512 - 1) / 512 := (β (2 : Fin 3)).isLt
  have lt : (β (1 : Fin 3)).val < grid0.N := by rw [N_0]; omega
  obtain ⟨e0, e1, e2⟩ := (index ⟨(β (1 : Fin 3)).val, lt⟩).2.2.2.2.2.2.2.2.2.2
  refine ⟨⟨(β (1 : Fin 3)).val, lt⟩, flush0_10 (adm m hO) _, fun a => ⟨?_, .inl rfl⟩⟩
  match a with
  | ⟨0, _⟩ => show cc0_transform_14 (grid0.coords ⟨(β (1 : Fin 3)).val, lt⟩) 0 = (β (0 : Fin 3)).val; rw [e0]; omega
  | ⟨1, _⟩ => show cc0_transform_14 (grid0.coords ⟨(β (1 : Fin 3)).val, lt⟩) 1 = (β (1 : Fin 3)).val; rw [e1]
  | ⟨2, _⟩ => show cc0_transform_14 (grid0.coords ⟨(β (1 : Fin 3)).val, lt⟩) 2 = (β (2 : Fin 3)).val; rw [e2]; omega

theorem second_at (t : Fin grid0.N) : (outsAt0 m (ok m hp) c t).2.2.2 = k0_pay4 (k0_pay8 (block_0 m hp c t) (block_1 m hp c t) (block_2 m hp c t) (block_3 m hp c t) (block_6 m hp c t)) := by
  unfold outsAt0
  dsimp only
  exact second_out c (grid0.coords t) (ms0_0 m (ok m hp) t) (hs0_0 m (ok m hp) t) (ms0_1 m (ok m hp) t) (hs0_1 m (ok m hp) t) (ms0_2 m (ok m hp) t) (hs0_2 m (ok m hp) t) (ms0_3 m (ok m hp) t) (hs0_3 m (ok m hp) t) (ms0_4 m (ok m hp) t) (hs0_4 m (ok m hp) t) (ms0_5 m (ok m hp) t) (hs0_5 m (ok m hp) t) (ms0_6 m (ok m hp) t) (hs0_6 m (ok m hp) t) (ms0_7 m (ok m hp) t) (hs0_7 m (ok m hp) t) (ms0_8 m (ok m hp) t) (hs0_8 m (ok m hp) t) (ms0_9 m (ok m hp) t) (hs0_9 m (ok m hp) t) (ms0_10 m (ok m hp) t) (hs0_10 m (ok m hp) t) (block_0 m hp c t) (block_1 m hp c t) (block_2 m hp c t) (block_3 m hp c t) (block_4 m hp c t) (block_5 m hp c t) (block_6 m hp c t) (tbl m 0)

theorem second_arr : (dats m (ok m hp) 0 c).arrAt 10 (cfgM m (ok m hp)).N = secondArr (grad m hp c) (m ((c : Thread nD τ).loc main_arg5)) := by
  refine (dats m (ok m hp) 0 c).arrAt_eq_of_covers 10 _ (covers_second m (ok m hp)) (fun t _ (x : S1x256x512.Idx) => ?_)
  show (dats m (ok m hp) 0 c).after 10 t x = (secondArr (grad m hp c) (m ((c : Thread nD τ).loc main_arg5)) : FVec Ideal S1x2048x512 .f32) ((((cfgM m (ok m hp)).win 10).blk t).view.emb x)
  rw [after0_10]
  refine (congrFun (second_at m hp c t) x).trans ?_
  idx_vars x
  obtain rfl : x0 = 0 := Subsingleton.elim _ _
  rw [emb_second m (ok m hp) t x1 x2, second_point]
  rw [own_block, received_0_block, received_1_block, received_2_block, v_block]
  rfl

/-- Every execution ends with the four results at these arrays of the arguments, and the arguments as they were. -/
theorem run : θ_run defs (onTc (τ := τ) (main (F := Ideal))) ⟨m, fun _ => 0, ρ⟩ fun r => ∀ c : Dev nD,
    r.2.mem ((c.tc : Thread nD τ).loc main_v0_0) = grad m hp c ∧
    r.2.mem ((c.tc : Thread nD τ).loc main_v0_1) = changeArr (grad m hp c) (m ((c : Thread nD τ).loc main_arg3)) (m ((c : Thread nD τ).loc main_arg4)) (m ((c : Thread nD τ).loc main_arg5)) ∧
    r.2.mem ((c.tc : Thread nD τ).loc main_v0_2) = firstArr (grad m hp c) (m ((c : Thread nD τ).loc main_arg4)) ∧
    r.2.mem ((c.tc : Thread nD τ).loc main_v0_3) = secondArr (grad m hp c) (m ((c : Thread nD τ).loc main_arg5))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) :=
  (θ_run defs _ _).mono (fun r h c => ⟨((h.2 c).1 7).trans (grad_arr m hp c), ((h.2 c).1 8).trans (change_arr m hp c),
    ((h.2 c).1 9).trans (first_arr m hp c), ((h.2 c).1 10).trans (second_arr m hp c), h.1 c⟩)
    (θ_run_and (unchanged m ρ (ok m hp)) (run_main m ρ (ok m hp)))

end Cert.Kernel24Ideal.WideIn

end
-- ==== Proof.Adam.WideInReference.lean ====
/- The reference's optimiser step of a layer's 2048x512 share of an input matrix gives the kernel's arrays, for a chip's number that is one of the four. -/
module

public import proofs.«01_k».proof.Proof.Adam.WideIn
public import proofs.«01_k».proof.Proof.Gen.Reference24Ideal
public import Idealize.ShloMosaic.Lib.StableHlo.Run
public import Idealize.ShloMosaic.Lib.DynamicIndex

@[expose] public section

set_option maxRecDepth 16384

noncomputable section

namespace Cert.Reference24Ideal.WideIn

open Idealize.ShloMosaic Idealize.SL.Sem Idealize.ShloMosaic.TcCoe Idealize.ShloMosaic.StableHlo
open Cert.Reference24Ideal Cert.Reference24Ideal.Gen
open Cert.Kernel24Ideal.WideIn (gradAt gradArr changeArr firstArr secondArr)

/-- Where the reference slices its own block from. -/
def start (p : IVec S1 32) : Fin 3 → Int := fun k => (((![select (cmpi .slt (shapeCast _ p shapeCasts_S1_S_) (constantI S_ 32 0#32)) (addi (shapeCast _ p shapeCasts_S1_S_) (constantI S_ 32 4#32)) (shapeCast _ p shapeCasts_S1_S_), select (cmpi .slt (constantI S_ 32 0#32) (constantI S_ 32 0#32)) (addi (constantI S_ 32 0#32) (constantI S_ 32 2048#32)) (constantI S_ 32 0#32), select (cmpi .slt (constantI S_ 32 0#32) (constantI S_ 32 0#32)) (addi (constantI S_ 32 0#32) (constantI S_ 32 512#32)) (constantI S_ 32 0#32)] : Fin 3 → IVec S_ 32)) k (Shape.Idx.first h_S_)).toInt

/-- The chip's own block and the sum of the three received ones. -/
def grad (h : FVec Ideal S4x2048x512 .bf16) (y : FVec Ideal S3x2048x512 .bf16) (p : IVec S1 32) : FVec Ideal S1x2048x512 .f32 :=
  addf (Host.dynamicSlice S1x2048x512 (extf .f32 h bitsLt_bf16_f32) (start p) sliceFits_S4x2048x512_S1x2048x512) (broadcastInDim S1x2048x512 ![1, 2] bcast_S2048x512_S1x2048x512_1_2 (Host.reduceAdd (extf .f32 y bitsLt_bf16_f32) (constant S_ .f32 0x00000000#32) reducesTo_S3x2048x512_S2048x512_d0 h_S_))

/-- The two moments after a gradient. -/
def first (g m : FVec Ideal S1x2048x512 .f32) : FVec Ideal S1x2048x512 .f32 := addf (mulf (broadcastInDim S1x2048x512 ![] bcast_S_S1x2048x512 (constant S_ .f32 0x3F666666#32)) m) (mulf (broadcastInDim S1x2048x512 ![] bcast_S_S1x2048x512 (constant S_ .f32 0x3DCCCCCD#32)) g)

def second (g v : FVec Ideal S1x2048x512 .f32) : FVec Ideal S1x2048x512 .f32 := addf (mulf (broadcastInDim S1x2048x512 ![] bcast_S_S1x2048x512 (constant S_ .f32 0x3F7FBE77#32)) v) (mulf (broadcastInDim S1x2048x512 ![] bcast_S_S1x2048x512 (constant S_ .f32 0x3A83126F#32)) (mulf g g))

/-- The change of the weights. -/
def change (g w m v : FVec Ideal S1x2048x512 .f32) : FVec Ideal S1x2048x512 .f32 :=
  mulf (broadcastInDim S1x2048x512 ![] bcast_S_S1x2048x512 (constant S_ .f32 0xBA83126F#32)) (addf (Host.divf (Host.divf (first g m) (broadcastInDim S1x2048x512 ![] bcast_S_S1x2048x512 (constant S_ .f32 0x3F26BD02#32)))
    (addf (Host.sqrt (Host.divf (second g v) (broadcastInDim S1x2048x512 ![] bcast_S_S1x2048x512 (constant S_ .f32 0x3C231ACC#32)))) (broadcastInDim S1x2048x512 ![] bcast_S_S1x2048x512 (constant S_ .f32 0x322BCC77#32)))) (mulf (broadcastInDim S1x2048x512 ![] bcast_S_S1x2048x512 (constant S_ .f32 0x3C23D70A#32)) w))

/-- For a number that is one of the four the slice starts at that block. -/
theorem start_eq (p : IVec S1 32) (hp : (p (ix1 0)).toNat < 4) (a : Fin 3) : start p a = ((![(p (ix1 0)).toNat, 0, 0] : Fin 3 → Nat) a : Int) := by
  have q : shapeCast S_ p shapeCasts_S1_S_ (Shape.Idx.first h_S_) = p (ix1 0) := congrArg p (funext fun a => match a with | ⟨0, _⟩ => Subsingleton.elim (α := Fin 1) _ _)
  have n : (p (ix1 0)).toInt = ((p (ix1 0)).toNat : Int) := by
    rw [BitVec.toInt_eq_toNat_cond]
    split <;> omega
  match a with
  | ⟨0, _⟩ =>
    show (select (cmpi .slt (shapeCast S_ p shapeCasts_S1_S_) (constantI S_ 32 0#32)) (addi (shapeCast S_ p shapeCasts_S1_S_) (constantI S_ 32 4#32)) (shapeCast S_ p shapeCasts_S1_S_) (Shape.Idx.first h_S_)).toInt = ((p (ix1 0)).toNat : Int)
    rw [select_slt_zero_of_nonneg _ _ _ _ (by rw [q, n]; omega), q, n]
  | ⟨1, _⟩ => rfl
  | ⟨2, _⟩ => rfl

theorem fits (k : Fin 4) : (S4x2048x512).Slices ![k.val, 0, 0] S1x2048x512 := by
  revert k; decide

/-- The sum of the three received blocks at an entry. -/
theorem received (y : FVec Ideal S3x2048x512 .bf16) (r : Fin 2048) (l : Fin 512) :
    (broadcastInDim S1x2048x512 ![1, 2] bcast_S2048x512_S1x2048x512_1_2 (Host.reduceAdd (extf .f32 y bitsLt_bf16_f32) (constant S_ .f32 0x00000000#32) reducesTo_S3x2048x512_S2048x512_d0 h_S_) : FVec Ideal S1x2048x512 .f32) (ix3 0 r l)
      = ∑ k : Fin 3, (y (ix3 k r l) : EReal) := by
  pointwise []

theorem grad_eq (h : FVec Ideal S4x2048x512 .bf16) (y : FVec Ideal S3x2048x512 .bf16) (p : IVec S1 32) (hp : (p (ix1 0)).toNat < 4) :
    grad h y p = gradArr h y ⟨(p (ix1 0)).toNat, hp⟩ := by
  funext x
  unfold grad
  rw [Host.dynamicSlice_eq_extractStridedSlice S1x2048x512 _ (start p) ![(p (ix1 0)).toNat, 0, 0] sliceFits_S4x2048x512_S1x2048x512 (fits ⟨_, hp⟩) (start_eq p hp)]
  idx_vars x
  obtain rfl : x0 = 0 := Subsingleton.elim _ _
  show (extractStridedSlice S1x2048x512 ![(p (ix1 0)).toNat, 0, 0] (extf .f32 h bitsLt_bf16_f32 : FVec Ideal S4x2048x512 .f32) (fits ⟨_, hp⟩) (ix3 0 x1 x2) : EReal) + _ = gradAt h y ⟨(p (ix1 0)).toNat, hp⟩ x1 x2
  have e : (extractStridedSlice S1x2048x512 ![(p (ix1 0)).toNat, 0, 0] (extf .f32 h bitsLt_bf16_f32 : FVec Ideal S4x2048x512 .f32) (fits ⟨_, hp⟩) (ix3 0 x1 x2) : EReal)
      = h (ix3 (⟨(p (ix1 0)).toNat, hp⟩ : Fin 4) x1 x2) := by
    refine congrArg h (funext fun a => Fin.ext ?_)
    match a with
    | ⟨0, _⟩ => rfl
    | ⟨1, _⟩ => show 0 + x1.val = x1.val; omega
    | ⟨2, _⟩ => show 0 + x2.val = x2.val; omega
  rw [e]
  refine (congrArg (h (ix3 (⟨(p (ix1 0)).toNat, hp⟩ : Fin 4) x1 x2) + ·) (received y x1 x2)).trans ?_
  rw [Fin.sum_univ_three]
  unfold gradAt
  rw [add_assoc, add_assoc]

theorem first_eq (g m : FVec Ideal S1x2048x512 .f32) : first g m = firstArr g m := rfl

theorem second_eq (g v : FVec Ideal S1x2048x512 .f32) : second g v = secondArr g v := rfl

theorem change_eq (g w m v : FVec Ideal S1x2048x512 .f32) : change g w m v = changeArr g w m v := rfl

/-- The gradient, from arguments that agree with the kernel's. -/
theorem grad_agree (h h' : FVec Ideal S4x2048x512 .bf16) (y y' : FVec Ideal S3x2048x512 .bf16) (p p' : IVec S1 32) (hp : (p' (ix1 0)).toNat < 4)
    (e0 : h = h') (e1 : y = y') (e2 : p = p') : grad h y p = Cert.Kernel24Ideal.WideIn.gradArr h' y' ⟨(p' (ix1 0)).toNat, hp⟩ := by
  subst e0 e1 e2
  exact grad_eq h y p hp

theorem change_agree (g g' w w' m m' v v' : FVec Ideal S1x2048x512 .f32) (e : g = g') (e3 : w = w') (e4 : m = m') (e5 : v = v') :
    change g w m v = Cert.Kernel24Ideal.WideIn.changeArr g' w' m' v' := by
  subst e e3 e4 e5
  exact change_eq g w m v

theorem first_agree (g g' m m' : FVec Ideal S1x2048x512 .f32) (e : g = g') (e4 : m = m') : first g m = Cert.Kernel24Ideal.WideIn.firstArr g' m' := by
  subst e e4
  exact first_eq g m

theorem second_agree (g g' v v' : FVec Ideal S1x2048x512 .f32) (e : g = g') (e5 : v = v') : second g v = Cert.Kernel24Ideal.WideIn.secondArr g' v' := by
  subst e e5
  exact second_eq g v

/-- The operations of the index of the slice, in order. -/
abbrev opsIndex {F : FTy → Type} [FloatOps F] : List (HloOp τ sig (Elt F)) :=
  [ unary main_arg0 main_v0 ((extf .f32 · bitsLt_bf16_f32) : (⟨S4x2048x512, .bf16⟩ : BufTy).Contents (Elt F) → (⟨S4x2048x512, .f32⟩ : BufTy).Contents (Elt F)),
    reshape main_arg2 main_v1 (rfl : (.i32 : EltTy) = .i32) shapeCasts_S1_S_,
    nullary main_c (constantI S_ 32 0#32),
    binary main_v1 main_c main_v2 (cmpi .slt : (⟨S_, .i32⟩ : BufTy).Contents (Elt F) → (⟨S_, .i32⟩ : BufTy).Contents (Elt F) → (⟨S_, .i1⟩ : BufTy).Contents (Elt F)),
    nullary main_c_0 (constantI S_ 32 4#32),
    binary main_v1 main_c_0 main_v3 (addi : (⟨S_, .i32⟩ : BufTy).Contents (Elt F) → (⟨S_, .i32⟩ : BufTy).Contents (Elt F) → (⟨S_, .i32⟩ : BufTy).Contents (Elt F)),
    ternary main_v2 main_v3 main_v1 main_v4 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1 (constantI S_ 32 0#32),
    nullary main_c_2 (constantI S_ 32 0#32),
    binary main_c_1 main_c_2 main_v5 (cmpi .slt : (⟨S_, .i32⟩ : BufTy).Contents (Elt F) → (⟨S_, .i32⟩ : BufTy).Contents (Elt F) → (⟨S_, .i1⟩ : BufTy).Contents (Elt F)),
    nullary main_c_3 (constantI S_ 32 0#32),
    nullary main_c_4 (constantI S_ 32 2048#32),
    binary main_c_3 main_c_4 main_v6 (addi : (⟨S_, .i32⟩ : BufTy).Contents (Elt F) → (⟨S_, .i32⟩ : BufTy).Contents (Elt F) → (⟨S_, .i32⟩ : BufTy).Contents (Elt F)),
    nullary main_c_5 (constantI S_ 32 0#32),
    ternary main_v5 main_v6 main_c_5 main_v7 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_6 (constantI S_ 32 0#32),
    nullary main_c_7 (constantI S_ 32 0#32),
    binary main_c_6 main_c_7 main_v8 (cmpi .slt : (⟨S_, .i32⟩ : BufTy).Contents (Elt F) → (⟨S_, .i32⟩ : BufTy).Contents (Elt F) → (⟨S_, .i1⟩ : BufTy).Contents (Elt F)),
    nullary main_c_8 (constantI S_ 32 0#32),
    nullary main_c_9 (constantI S_ 32 512#32),
    binary main_c_8 main_c_9 main_v9 (addi : (⟨S_, .i32⟩ : BufTy).Contents (Elt F) → (⟨S_, .i32⟩ : BufTy).Contents (Elt F) → (⟨S_, .i32⟩ : BufTy).Contents (Elt F)),
    nullary main_c_10 (constantI S_ 32 0#32),
    ternary main_v8 main_v9 main_c_10 main_v10 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]

/-- The operations of the slice, in order. -/
abbrev opsSlice {F : FTy → Type} [FloatOps F] : List (HloOp τ sig (Elt F)) :=
  [ unaryIndexed main_v0 ![main_v4, main_v7, main_v10] ⟨S_, .i32⟩ main_v11 ((fun x i => Host.dynamicSlice S1x2048x512 x (fun k => (i k (Shape.Idx.first h_S_)).toInt) sliceFits_S4x2048x512_S1x2048x512) : (⟨S4x2048x512, .f32⟩ : BufTy).Contents (Elt F) → (Fin 3 → (⟨S_, .i32⟩ : BufTy).Contents (Elt F)) → (⟨S1x2048x512, .f32⟩ : BufTy).Contents (Elt F)) ]

/-- The operations of the gradient, in order. -/
abbrev opsGrad {F : FTy → Type} [FloatOps F] : List (HloOp τ sig (Elt F)) :=
  [ unary main_arg1 main_v12 ((extf .f32 · bitsLt_bf16_f32) : (⟨S3x2048x512, .bf16⟩ : BufTy).Contents (Elt F) → (⟨S3x2048x512, .f32⟩ : BufTy).Contents (Elt F)),
    nullary main_cst (constant S_ .f32 0x00000000#32),
    binary main_v12 main_cst main_v13 ((fun x v => Host.reduceAdd x v reducesTo_S3x2048x512_S2048x512_d0 h_S_) : (⟨S3x2048x512, .f32⟩ : BufTy).Contents (Elt F) → (⟨S_, .f32⟩ : BufTy).Contents (Elt F) → (⟨S2048x512, .f32⟩ : BufTy).Contents (Elt F)),
    unary main_v13 main_v14 (broadcastInDim S1x2048x512 ![1, 2] bcast_S2048x512_S1x2048x512_1_2 : (⟨S2048x512, .f32⟩ : BufTy).Contents (Elt F) → (⟨S1x2048x512, .f32⟩ : BufTy).Contents (Elt F)),
    binary main_v11 main_v14 main_v15 (addf : (⟨S1x2048x512, .f32⟩ : BufTy).Contents (Elt F) → (⟨S1x2048x512, .f32⟩ : BufTy).Contents (Elt F) → (⟨S1x2048x512, .f32⟩ : BufTy).Contents (Elt F)) ]

/-- The operations of the step, in order. -/
abbrev opsStep {F : FTy → Type} [FloatOps F] : List (HloOp τ sig (Elt F)) :=
  [ nullary main_cst_11 (constant S_ .f32 0x3F666666#32),
    unary main_cst_11 main_v16 (broadcastInDim S1x2048x512 ![] bcast_S_S1x2048x512 : (⟨S_, .f32⟩ : BufTy).Contents (Elt F) → (⟨S1x2048x512, .f32⟩ : BufTy).Contents (Elt F)),
    binary main_v16 main_arg4 main_v17 (mulf : (⟨S1x2048x512, .f32⟩ : BufTy).Contents (Elt F) → (⟨S1x2048x512, .f32⟩ : BufTy).Contents (Elt F) → (⟨S1x2048x512, .f32⟩ : BufTy).Contents (Elt F)),
    nullary main_cst_12 (constant S_ .f32 0x3DCCCCCD#32),
    unary main_cst_12 main_v18 (broadcastInDim S1x2048x512 ![] bcast_S_S1x2048x512 : (⟨S_, .f32⟩ : BufTy).Contents (Elt F) → (⟨S1x2048x512, .f32⟩ : BufTy).Contents (Elt F)),
    binary main_v18 main_v15 main_v19 (mulf : (⟨S1x2048x512, .f32⟩ : BufTy).Contents (Elt F) → (⟨S1x2048x512, .f32⟩ : BufTy).Contents (Elt F) → (⟨S1x2048x512, .f32⟩ : BufTy).Contents (Elt F)),
    binary main_v17 main_v19 main_v20 (addf : (⟨S1x2048x512, .f32⟩ : BufTy).Contents (Elt F) → (⟨S1x2048x512, .f32⟩ : BufTy).Contents (Elt F) → (⟨S1x2048x512, .f32⟩ : BufTy).Contents (Elt F)),
    nullary main_cst_13 (constant S_ .f32 0x3F7FBE77#32),
    unary main_cst_13 main_v21 (broadcastInDim S1x2048x512 ![] bcast_S_S1x2048x512 : (⟨S_, .f32⟩ : BufTy).Contents (Elt F) → (⟨S1x2048x512, .f32⟩ : BufTy).Contents (Elt F)),
    binary main_v21 main_arg5 main_v22 (mulf : (⟨S1x2048x512, .f32⟩ : BufTy).Contents (Elt F) → (⟨S1x2048x512, .f32⟩ : BufTy).Contents (Elt F) → (⟨S1x2048x512, .f32⟩ : BufTy).Contents (Elt F)),
    binary main_v15 main_v15 main_v23 (mulf : (⟨S1x2048x512, .f32⟩ : BufTy).Contents (Elt F) → (⟨S1x2048x512, .f32⟩ : BufTy).Contents (Elt F) → (⟨S1x2048x512, .f32⟩ : BufTy).Contents (Elt F)),
    nullary main_cst_14 (constant S_ .f32 0x3A83126F#32),
    unary main_cst_14 main_v24 (broadcastInDim S1x2048x512 ![] bcast_S_S1x2048x512 : (⟨S_, .f32⟩ : BufTy).Contents (Elt F) → (⟨S1x2048x512, .f32⟩ : BufTy).Contents (Elt F)),
    binary main_v24 main_v23 main_v25 (mulf : (⟨S1x2048x512, .f32⟩ : BufTy).Contents (Elt F) → (⟨S1x2048x512, .f32⟩ : BufTy).Contents (Elt F) → (⟨S1x2048x512, .f32⟩ : BufTy).Contents (Elt F)),
    binary main_v22 main_v25 main_v26 (addf : (⟨S1x2048x512, .f32⟩ : BufTy).Contents (Elt F) → (⟨S1x2048x512, .f32⟩ : BufTy).Contents (Elt F) → (⟨S1x2048x512, .f32⟩ : BufTy).Contents (Elt F)),
    nullary main_cst_15 (constant S_ .f32 0x3F26BD02#32),
    unary main_cst_15 main_v27 (broadcastInDim S1x2048x512 ![] bcast_S_S1x2048x512 : (⟨S_, .f32⟩ : BufTy).Contents (Elt F) → (⟨S1x2048x512, .f32⟩ : BufTy).Contents (Elt F)),
    binary main_v20 main_v27 main_v28 (Host.divf : (⟨S1x2048x512, .f32⟩ : BufTy).Contents (Elt F) → (⟨S1x2048x512, .f32⟩ : BufTy).Contents (Elt F) → (⟨S1x2048x512, .f32⟩ : BufTy).Contents (Elt F)),
    nullary main_cst_16 (constant S_ .f32 0x3C231ACC#32),
    unary main_cst_16 main_v29 (broadcastInDim S1x2048x512 ![] bcast_S_S1x2048x512 : (⟨S_, .f32⟩ : BufTy).Contents (Elt F) → (⟨S1x2048x512, .f32⟩ : BufTy).Contents (Elt F)),
    binary main_v26 main_v29 main_v30 (Host.divf : (⟨S1x2048x512, .f32⟩ : BufTy).Contents (Elt F) → (⟨S1x2048x512, .f32⟩ : BufTy).Contents (Elt F) → (⟨S1x2048x512, .f32⟩ : BufTy).Contents (Elt F)),
    unary main_v30 main_v31 (Host.sqrt : (⟨S1x2048x512, .f32⟩ : BufTy).Contents (Elt F) → (⟨S1x2048x512, .f32⟩ : BufTy).Contents (Elt F)),
    nullary main_cst_17 (constant S_ .f32 0x322BCC77#32),
    unary main_cst_17 main_v32 (broadcastInDim S1x2048x512 ![] bcast_S_S1x2048x512 : (⟨S_, .f32⟩ : BufTy).Contents (Elt F) → (⟨S1x2048x512, .f32⟩ : BufTy).Contents (Elt F)),
    binary main_v31 main_v32 main_v33 (addf : (⟨S1x2048x512, .f32⟩ : BufTy).Contents (Elt F) → (⟨S1x2048x512, .f32⟩ : BufTy).Contents (Elt F) → (⟨S1x2048x512, .f32⟩ : BufTy).Contents (Elt F)),
    binary main_v28 main_v33 main_v34 (Host.divf : (⟨S1x2048x512, .f32⟩ : BufTy).Contents (Elt F) → (⟨S1x2048x512, .f32⟩ : BufTy).Contents (Elt F) → (⟨S1x2048x512, .f32⟩ : BufTy).Contents (Elt F)),
    nullary main_cst_18 (constant S_ .f32 0x3C23D70A#32),
    unary main_cst_18 main_v35 (broadcastInDim S1x2048x512 ![] bcast_S_S1x2048x512 : (⟨S_, .f32⟩ : BufTy).Contents (Elt F) → (⟨S1x2048x512, .f32⟩ : BufTy).Contents (Elt F)),
    binary main_v35 main_arg3 main_v36 (mulf : (⟨S1x2048x512, .f32⟩ : BufTy).Contents (Elt F) → (⟨S1x2048x512, .f32⟩ : BufTy).Contents (Elt F) → (⟨S1x2048x512, .f32⟩ : BufTy).Contents (Elt F)),
    binary main_v34 main_v36 main_v37 (addf : (⟨S1x2048x512, .f32⟩ : BufTy).Contents (Elt F) → (⟨S1x2048x512, .f32⟩ : BufTy).Contents (Elt F) → (⟨S1x2048x512, .f32⟩ : BufTy).Contents (Elt F)),
    nullary main_cst_19 (constant S_ .f32 0xBA83126F#32),
    unary main_cst_19 main_v38 (broadcastInDim S1x2048x512 ![] bcast_S_S1x2048x512 : (⟨S_, .f32⟩ : BufTy).Contents (Elt F) → (⟨S1x2048x512, .f32⟩ : BufTy).Contents (Elt F)),
    binary main_v38 main_v37 main_v39 (mulf : (⟨S1x2048x512, .f32⟩ : BufTy).Contents (Elt F) → (⟨S1x2048x512, .f32⟩ : BufTy).Contents (Elt F) → (⟨S1x2048x512, .f32⟩ : BufTy).Contents (Elt F)) ]

theorem main_eq (c : Dev nD) : main (F := Ideal) c = seq (opsIndex (F := Ideal) ++ opsSlice ++ opsGrad ++ opsStep) := rfl

theorem scopedRefs_eq : (Finset.univ.filter fun b : Ref sig .tc => b.isScoped) = ∅ := by decide

theorem scopedSems_eq : (Finset.univ.filter fun sm : SemLoc sig => sm.isScoped .tc) = ∅ := by decide

theorem ops_sub : (opsIndex (F := Ideal) ++ opsSlice ++ opsGrad ++ opsStep).Forall fun op : HloOp τ sig (Elt Ideal) => op.bufs ⊆ tcRefs τ sig :=
  ⟨unary_bufs_sub .., reshape_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., unary_bufs_sub .., nullary_bufs_sub .., binary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

theorem after_join (l₁ l₂ : List (HloOp τ sig (Elt Ideal))) (V : Valuation τ sig (Elt Ideal)) : after (l₁ ++ l₂) V = after l₂ (after l₁ V) := by
  induction l₁ generalizing V with
  | nil => rfl
  | cons op l ih => exact ih _

section

variable (V : Valuation τ sig (Elt Ideal))

/-- The index along the first axis: the chip's number, counted from the end where it is negative. -/
theorem index_0 : after opsIndex V main_v4 = (select (cmpi .slt (shapeCast S_ (V main_arg2 : IVec S1 32) shapeCasts_S1_S_) (constantI S_ 32 0#32)) (addi (shapeCast S_ (V main_arg2 : IVec S1 32) shapeCasts_S1_S_) (constantI S_ 32 4#32)) (shapeCast S_ (V main_arg2 : IVec S1 32) shapeCasts_S1_S_) : IVec S_ 32) := by
  after_results_simp <;> rfl

theorem index_1 : after opsIndex V main_v7 = (select (cmpi .slt (constantI S_ 32 0#32) (constantI S_ 32 0#32)) (addi (constantI S_ 32 0#32) (constantI S_ 32 2048#32)) (constantI S_ 32 0#32) : IVec S_ 32) := by
  after_results_simp <;> rfl

theorem index_2 : after opsIndex V main_v10 = (select (cmpi .slt (constantI S_ 32 0#32) (constantI S_ 32 0#32)) (addi (constantI S_ 32 0#32) (constantI S_ 32 512#32)) (constantI S_ 32 0#32) : IVec S_ 32) := by
  after_results_simp <;> rfl

theorem sums : after opsIndex V main_v0 = (extf .f32 (V main_arg0 : FVec Ideal S4x2048x512 .bf16) bitsLt_bf16_f32 : FVec Ideal S4x2048x512 .f32) := by
  after_results_simp <;> rfl

/-- The slice, at the index of its three places. -/
theorem slice : after opsSlice V main_v11 = (Host.dynamicSlice S1x2048x512 (V main_v0 : FVec Ideal S4x2048x512 .f32) (fun k => ((![(V main_v4 : IVec S_ 32), (V main_v7 : IVec S_ 32), (V main_v10 : IVec S_ 32)] : Fin 3 → IVec S_ 32) k (Shape.Idx.first h_S_)).toInt) sliceFits_S4x2048x512_S1x2048x512 : FVec Ideal S1x2048x512 .f32) := by
  unfold opsSlice
  rw [after_cons, after_nil]
  refine (unaryIndexed_result _ _ _ _ _ _ _ _ _ V).trans ?_
  refine congrArg (fun q : Fin 3 → Int => (Host.dynamicSlice S1x2048x512 (V main_v0 : FVec Ideal S4x2048x512 .f32) q sliceFits_S4x2048x512_S1x2048x512 : FVec Ideal S1x2048x512 .f32)) (funext fun k => ?_)
  match k with
  | ⟨0, _⟩ => rfl
  | ⟨1, _⟩ => rfl
  | ⟨2, _⟩ => rfl

theorem sum_result : after opsGrad V main_v15 = (addf (V main_v11 : FVec Ideal S1x2048x512 .f32) (broadcastInDim S1x2048x512 ![1, 2] bcast_S2048x512_S1x2048x512_1_2 (Host.reduceAdd (extf .f32 (V main_arg1 : FVec Ideal S3x2048x512 .bf16) bitsLt_bf16_f32) (constant S_ .f32 0x00000000#32) reducesTo_S3x2048x512_S2048x512_d0 h_S_)) : FVec Ideal S1x2048x512 .f32) := by
  after_results_simp <;> rfl

theorem grad_result : after opsStep V main_v15 = V main_v15 := by
  after_results_simp

theorem first_result : after opsStep V main_v20 = first (V main_v15) (V main_arg4) := by
  after_results_simp <;> rfl

theorem second_result : after opsStep V main_v26 = second (V main_v15) (V main_arg5) := by
  after_results_simp <;> rfl

theorem change_result : after opsStep V main_v39 = change (V main_v15) (V main_arg3) (V main_arg4) (V main_arg5) := by
  after_results_simp <;> rfl

/-- No operation writes an argument. -/
theorem kept_0 : after opsStep (after opsGrad (after opsSlice (after opsIndex V))) main_arg0 = V main_arg0 := by
  unfold opsStep opsGrad opsSlice opsIndex
  after_results_simp

theorem kept_1 : after opsStep (after opsGrad (after opsSlice (after opsIndex V))) main_arg1 = V main_arg1 := by
  unfold opsStep opsGrad opsSlice opsIndex
  after_results_simp

theorem kept_2 : after opsStep (after opsGrad (after opsSlice (after opsIndex V))) main_arg2 = V main_arg2 := by
  unfold opsStep opsGrad opsSlice opsIndex
  after_results_simp

theorem kept_3 : after opsStep (after opsGrad (after opsSlice (after opsIndex V))) main_arg3 = V main_arg3 := by
  unfold opsStep opsGrad opsSlice opsIndex
  after_results_simp

theorem kept_4 : after opsStep (after opsGrad (after opsSlice (after opsIndex V))) main_arg4 = V main_arg4 := by
  unfold opsStep opsGrad opsSlice opsIndex
  after_results_simp

theorem kept_5 : after opsStep (after opsGrad (after opsSlice (after opsIndex V))) main_arg5 = V main_arg5 := by
  unfold opsStep opsGrad opsSlice opsIndex
  after_results_simp

theorem kept_6 : after opsStep (after opsGrad (after opsSlice (after opsIndex V))) main_arg6 = V main_arg6 := by
  unfold opsStep opsGrad opsSlice opsIndex
  after_results_simp

theorem kept_7 : after opsStep (after opsGrad (after opsSlice (after opsIndex V))) main_arg7 = V main_arg7 := by
  unfold opsStep opsGrad opsSlice opsIndex
  after_results_simp

theorem kept_8 : after opsStep (after opsGrad (after opsSlice (after opsIndex V))) main_arg8 = V main_arg8 := by
  unfold opsStep opsGrad opsSlice opsIndex
  after_results_simp

theorem kept_9 : after opsStep (after opsGrad (after opsSlice (after opsIndex V))) main_arg9 = V main_arg9 := by
  unfold opsStep opsGrad opsSlice opsIndex
  after_results_simp

/-- The gradient before the step. -/
theorem sum_before : after opsGrad (after opsSlice (after opsIndex V)) main_v15 = grad (V main_arg0) (V main_arg1) (V main_arg2) := by
  have k : after opsSlice (after opsIndex V) main_arg1 = V main_arg1 := by
    unfold opsSlice opsIndex
    after_results_simp
  rw [sum_result, slice, k, index_0, index_1, index_2, sums]
  rfl

theorem before_3 : after opsGrad (after opsSlice (after opsIndex V)) main_arg3 = V main_arg3 := by
  unfold opsGrad opsSlice opsIndex
  after_results_simp

theorem before_4 : after opsGrad (after opsSlice (after opsIndex V)) main_arg4 = V main_arg4 := by
  unfold opsGrad opsSlice opsIndex
  after_results_simp

theorem before_5 : after opsGrad (after opsSlice (after opsIndex V)) main_arg5 = V main_arg5 := by
  unfold opsGrad opsSlice opsIndex
  after_results_simp

end

/-- Every execution of the reference ends with the four results at these arrays, and the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = grad (m ((c.tc : Thread nD τ).loc main_arg0)) (m ((c.tc : Thread nD τ).loc main_arg1)) (m ((c.tc : Thread nD τ).loc main_arg2))
      ∧ r.2.mem ((c.tc : Thread nD τ).loc main_v39) = change (grad (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5))
      ∧ r.2.mem ((c.tc : Thread nD τ).loc main_v20) = first (grad (m ((c.tc : Thread nD τ).loc main_arg0)) (m ((c.tc : Thread nD τ).loc main_arg1)) (m ((c.tc : Thread nD τ).loc main_arg2))) (m ((c.tc : Thread nD τ).loc main_arg4))
      ∧ r.2.mem ((c.tc : Thread nD τ).loc main_v26) = second (grad (m ((c.tc : Thread nD τ).loc main_arg0)) (m ((c.tc : Thread nD τ).loc main_arg1)) (m ((c.tc : Thread nD τ).loc main_arg2))) (m ((c.tc : Thread nD τ).loc main_arg5))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) :=
  (θ_run defs _ _).mono (fun r h c => by
    have e : ∀ b : Ref sig .tc, r.2.mem ((c.tc : Thread nD τ).loc b)
        = after opsStep (after opsGrad (after opsSlice (after opsIndex (launchContents m c)))) (Proc.devRef .tc b) := fun b =>
      (h c b).trans (congrFun ((after_join _ _ _).trans (congrArg (after opsStep) ((after_join _ _ _).trans (congrArg (after opsGrad) (after_join _ _ _))))) _)
    refine ⟨(e main_v15).trans ?_, (e main_v39).trans ?_, (e main_v20).trans ?_, (e main_v26).trans ?_, (e main_arg0).trans (kept_0 _), (e main_arg1).trans (kept_1 _), (e main_arg2).trans (kept_2 _), (e main_arg3).trans (kept_3 _), (e main_arg4).trans (kept_4 _), (e main_arg5).trans (kept_5 _), (e main_arg6).trans (kept_6 _), (e main_arg7).trans (kept_7 _), (e main_arg8).trans (kept_8 _), (e main_arg9).trans (kept_9 _)⟩
    · exact (grad_result _).trans (sum_before _)
    · refine (change_result _).trans ?_
      rw [sum_before, before_3, before_4, before_5]
    · refine (first_result _).trans ?_
      rw [sum_before, before_4]
    · refine (second_result _).trans ?_
      rw [sum_before, before_5])
    (run_seq scopedRefs_eq scopedSems_eq defs main (fun _ => opsIndex ++ opsSlice ++ opsGrad ++ opsStep) main_eq (fun _ => ops_sub) m ρ)

end Cert.Reference24Ideal.WideIn

end
-- ==== Proof.Adam.WideOut.lean ====
/- What the optimiser's step of a layer's 256x2048 share of an output matrix leaves in its four result arrays, over the extended reals. The gradient is the sum
   of the chip's own block of `main_arg0`, the one its number in `main_arg2` names, and of the three received in `main_arg1`. -/
module

public import proofs.«01_k».proof.Defs
public import proofs.«01_k».proof.Proof.Gen.Kernel25Ideal.Frame
public import proofs.«01_k».proof.Proof.Gen.Pre_chip_named25
public import proofs.«01_k».proof.Proof.Adam.Step
public import Idealize.ShloMosaic.Lib.Pipeline.ValueKit
public import Idealize.ShloMosaic.Lib.Pointwise
public import Idealize.ShloMosaic.Lib.Tactic
public import Idealize.ShloMosaic.Lib.WordCmp

@[expose] public section

set_option maxRecDepth 16384

noncomputable section

namespace Cert.Kernel25Ideal.WideOut

open Idealize.ShloMosaic Idealize.SL.Sem Idealize.ShloMosaic.TcCoe
open Cert.Kernel25Ideal Cert.Kernel25Ideal.Gen
open Idealize.ShloMosaic.Pipeline (Dat Cfg Window)

theorem zero3 : (![0, 0, 0] : Fin 3 → Nat) = fun _ => 0 := funext fun a => by fin_cases a <;> rfl

/-! ## The chip's number -/

/-- The predicate says that the number is one of the four. -/
theorem named {F : FTy → Type} [FloatOps F] (x0 : FVec F S4x256x2048 .bf16) (x1 : FVec F S3x256x2048 .bf16) (p : IVec S1 32)
    (x3 x4 x5 x6 x7 x8 x9 : FVec F S1x256x2048 .f32) (h : Pre_chip_named25.fn (F := F) x0 x1 p x3 x4 x5 x6 x7 x8 x9 = fun _ => 1#1) :
    (p (ix1 0)).toNat < 4 := by
  have e := congrFun h (fun a => a.elim0)
  have k : IntOp.andi (IntOp.cmpi .sge (p (ix1 0)) 0#32) (IntOp.cmpi .slt (p (ix1 0)) 4#32) = 1#1 := by
    refine Eq.trans ?_ e
    have q : shapeCast Pre_chip_named25.S_ p Pre_chip_named25.Gen.facts.shapeCasts_S1_S_ (fun a => a.elim0) = p (ix1 0) :=
      congrArg p (funext fun a => match a with | ⟨0, _⟩ => Subsingleton.elim (α := Fin 1) _ _)
    exact (congrArg (fun v => IntOp.andi (IntOp.cmpi .sge v 0#32) (IntOp.cmpi .slt v 4#32)) q).symm
  have q : IntOp.andi (IntOp.cmpi .sge (p (ix1 0)) 0#32) (IntOp.cmpi .slt (p (ix1 0)) 4#32) = 1#1 ↔ (p (ix1 0)).toNat < 4 := by word_cmp
  exact q.1 k

section

variable {F : FTy → Type} [FloatOps F] (m : (ℓ : Loc nD τ sig) → Buf (Elt F) ℓ)

/-- The chip's number as the call reads it. -/
def chip : BitVec 32 := m (((0 : Dev nD).tc : Thread nD τ).loc main_arg2) (ix1 0)

/-- Where the call takes its own block from: block `chip`, and the point's block of rows. -/
theorem own_index (i : grid0.Coords) :
    cc0_transform_0 inb_S1_S1_0 numel1_S1 (tbl m) i = ![(chip m).toNat, (BitVec.ofNat 32 (i 0).val).toNat, 0] := by
  unfold cc0_transform_0
  have e : (tbl m).at 0 (Rect.unit (s := S1) ![0] S1.size inb_S1_S1_0) numel1_S1 = chip m :=
    (congrFun (V_main_arg2 m 0) _).trans (congrArg (m (((0 : Dev nD).tc : Thread nD τ).loc main_arg2)) (funext fun a => match a with | ⟨0, _⟩ => Subsingleton.elim (α := Fin 1) _ _))
  show ![((tbl m).at 0 (Rect.unit (s := S1) ![0] S1.size inb_S1_S1_0) numel1_S1).toNat, _, _] = _
  rw [e]
  rfl

/-- All four chips' blocks lie inside the array, in whole words. -/
theorem placed : ∀ (p : Fin 4) (t : Fin 1), ∃ h : (∀ a, ((![p.val, (BitVec.ofNat 32 t.val).toNat, 0] : Fin 3 → Nat) a + 1) * S1x256x2048.size a ≤ S4x256x2048.size a),
    EltTy.bits .bf16 = 32 ∨ (Rect.block (s := S4x256x2048) S1x256x2048.size ![p.val, (BitVec.ofNat 32 t.val).toNat, 0] h).WholeWords (EltTy.packing .bf16) := by
  decide +kernel

/-- So the blocks are inside their arrays for a number that is one of the four. -/
theorem ok (h : (chip m).toNat < 4) : Ok m := by
  show ok0 (tbl m)
  unfold ok0
  intro i
  rw [own_index]
  exact placed ⟨_, h⟩ (i 0)

end

/-! ## A point -/

section

variable (c : Dev nD) (i : grid0.Coords)
  (a2 : Memref sig .tc .vmem S1x256x2048 .bf16) (h2 : a2.IsWhole)
  (a3 : Memref sig .tc .vmem S1x256x2048 .bf16) (h3 : a3.IsWhole)
  (a4 : Memref sig .tc .vmem S1x256x2048 .bf16) (h4 : a4.IsWhole)
  (a5 : Memref sig .tc .vmem S1x256x2048 .bf16) (h5 : a5.IsWhole)
  (a6 : Memref sig .tc .vmem S1x256x2048 .f32) (h6 : a6.IsWhole)
  (a7 : Memref sig .tc .vmem S1x256x2048 .f32) (h7 : a7.IsWhole)
  (a8 : Memref sig .tc .vmem S1x256x2048 .f32) (h8 : a8.IsWhole)
  (a13 : Memref sig .tc .vmem S1x256x2048 .f32) (h13 : a13.IsWhole)
  (a14 : Memref sig .tc .vmem S1x256x2048 .f32) (h14 : a14.IsWhole)
  (a15 : Memref sig .tc .vmem S1x256x2048 .f32) (h15 : a15.IsWhole)
  (a16 : Memref sig .tc .vmem S1x256x2048 .f32) (h16 : a16.IsWhole)
  (x0 x1 x2 x3 : Vec Ideal S1x256x2048 .bf16) (x4 x5 x6 : Vec Ideal S1x256x2048 .f32) (z : TbBuf0 (F := Ideal) c tbM0_0)

/-- A point's gradient. -/
theorem grad_out : out0_A_7 c i a2 h2 a3 h3 a4 h4 a5 h5 a6 h6 a7 h7 a8 h8 a13 h13 a14 h14 a15 h15 a16 h16 x0 x1 x2 x3 x4 x5 x6 z = k0_pay1 (k0_pay5 x0 x1 x2 x3) := by
  unfold out0_A_7
  rw [View.read_writes_eq_canon _ _ _ (cover0_A_7 c i a2 h2 a3 h3 a4 h4 a5 h5 a6 h6 a7 h7 a8 h8 a13 h13 a14 h14 a15 h15 a16 h16 x0 x1 x2 x3 x4 x5 x6 z)]
  unfold kernelRun0_A
  dsimp only
  sl_unfold_words
  rw [View.canon_unit_zero zero3]
  simp only [View.readAt_eq_ld, h2.read_unread, h3.read_unread, h4.read_unread, h5.read_unread, h6.read_unread, h7.read_unread, h8.read_unread, View.ld_unit_zero (S := S1x256x2048) zero3]

/-- A point's weights' change. -/
theorem change_out : out0_A_8 c i a2 h2 a3 h3 a4 h4 a5 h5 a6 h6 a7 h7 a8 h8 a13 h13 a14 h14 a15 h15 a16 h16 x0 x1 x2 x3 x4 x5 x6 z = k0_pay2 (k0_pay6 x4) (k0_pay7 x0 x1 x2 x3 x5) (k0_pay8 x0 x1 x2 x3 x6) k0_pay9 := by
  unfold out0_A_8
  rw [View.read_writes_eq_canon _ _ _ (cover0_A_8 c i a2 h2 a3 h3 a4 h4 a5 h5 a6 h6 a7 h7 a8 h8 a13 h13 a14 h14 a15 h15 a16 h16 x0 x1 x2 x3 x4 x5 x6 z)]
  unfold kernelRun0_A
  dsimp only
  sl_unfold_words
  rw [View.canon_unit_zero zero3]
  simp only [View.readAt_eq_ld, h2.read_unread, h3.read_unread, h4.read_unread, h5.read_unread, h6.read_unread, h7.read_unread, h8.read_unread, View.ld_unit_zero (S := S1x256x2048) zero3]

/-- A point's first moment. -/
theorem first_out : out0_A_9 c i a2 h2 a3 h3 a4 h4 a5 h5 a6 h6 a7 h7 a8 h8 a13 h13 a14 h14 a15 h15 a16 h16 x0 x1 x2 x3 x4 x5 x6 z = k0_pay3 (k0_pay7 x0 x1 x2 x3 x5) := by
  unfold out0_A_9
  rw [View.read_writes_eq_canon _ _ _ (cover0_A_9 c i a2 h2 a3 h3 a4 h4 a5 h5 a6 h6 a7 h7 a8 h8 a13 h13 a14 h14 a15 h15 a16 h16 x0 x1 x2 x3 x4 x5 x6 z)]
  unfold kernelRun0_A
  dsimp only
  sl_unfold_words
  rw [View.canon_unit_zero zero3]
  simp only [View.readAt_eq_ld, h2.read_unread, h3.read_unread, h4.read_unread, h5.read_unread, h6.read_unread, h7.read_unread, h8.read_unread, View.ld_unit_zero (S := S1x256x2048) zero3]

/-- A point's second moment. -/
theorem second_out : out0_A_10 c i a2 h2 a3 h3 a4 h4 a5 h5 a6 h6 a7 h7 a8 h8 a13 h13 a14 h14 a15 h15 a16 h16 x0 x1 x2 x3 x4 x5 x6 z = k0_pay4 (k0_pay8 x0 x1 x2 x3 x6) := by
  unfold out0_A_10
  rw [View.read_writes_eq_canon _ _ _ (cover0_A_10 c i a2 h2 a3 h3 a4 h4 a5 h5 a6 h6 a7 h7 a8 h8 a13 h13 a14 h14 a15 h15 a16 h16 x0 x1 x2 x3 x4 x5 x6 z)]
  unfold kernelRun0_A
  dsimp only
  sl_unfold_words
  rw [View.canon_unit_zero zero3]
  simp only [View.readAt_eq_ld, h2.read_unread, h3.read_unread, h4.read_unread, h5.read_unread, h6.read_unread, h7.read_unread, h8.read_unread, View.ld_unit_zero (S := S1x256x2048) zero3]

/-- The gradient at a point's entry: the chip's own block and the first received, and the other two. -/
theorem grad_point (r : Fin 256) (l : Fin 2048) :
    k0_pay1 (k0_pay5 (F := Ideal) x0 x1 x2 x3) (ix3 0 r l) = ((x0 (ix3 0 r l) + x1 (ix3 0 r l)) + (x2 (ix3 0 r l) + x3 (ix3 0 r l)) : EReal) := by
  pointwise [k0_pay1, k0_pay5]

theorem first_point (r : Fin 256) (l : Fin 2048) :
    k0_pay3 (k0_pay7 (F := Ideal) x0 x1 x2 x3 x5) (ix3 0 r l)
      = Adam.first ((x0 (ix3 0 r l) + x1 (ix3 0 r l)) + (x2 (ix3 0 r l) + x3 (ix3 0 r l)) : EReal) (x5 (ix3 0 r l)) := by
  pointwise [k0_pay3, k0_pay7, k0_pay5, Adam.first]

theorem second_point (r : Fin 256) (l : Fin 2048) :
    k0_pay4 (k0_pay8 (F := Ideal) x0 x1 x2 x3 x6) (ix3 0 r l)
      = Adam.second ((x0 (ix3 0 r l) + x1 (ix3 0 r l)) + (x2 (ix3 0 r l) + x3 (ix3 0 r l)) : EReal) (x6 (ix3 0 r l)) := by
  pointwise [k0_pay4, k0_pay8, k0_pay5, Adam.second]

theorem change_point (r : Fin 256) (l : Fin 2048) :
    k0_pay2 (k0_pay6 (F := Ideal) x4) (k0_pay7 x0 x1 x2 x3 x5) (k0_pay8 x0 x1 x2 x3 x6) k0_pay9 (ix3 0 r l)
      = Adam.change ((x0 (ix3 0 r l) + x1 (ix3 0 r l)) + (x2 (ix3 0 r l) + x3 (ix3 0 r l)) : EReal) (x4 (ix3 0 r l)) (x5 (ix3 0 r l)) (x6 (ix3 0 r l)) := by
  pointwise [k0_pay2, k0_pay6, k0_pay7, k0_pay8, k0_pay9, k0_pay5, Adam.change, Adam.first, Adam.second]

end

/-! ## The schedule -/

/-- Point `t` takes block `t` of the rows. -/
theorem index : ∀ t : Fin grid0.N, (BitVec.ofNat 32 (grid0.coords t 0).val).toNat = t.val
    ∧ (cc0_transform_1 (grid0.coords t) 0 = 0 ∧ cc0_transform_1 (grid0.coords t) 1 = t.val ∧ cc0_transform_1 (grid0.coords t) 2 = 0)
    ∧ (cc0_transform_2 (grid0.coords t) 0 = 1 ∧ cc0_transform_2 (grid0.coords t) 1 = t.val ∧ cc0_transform_2 (grid0.coords t) 2 = 0)
    ∧ (cc0_transform_3 (grid0.coords t) 0 = 2 ∧ cc0_transform_3 (grid0.coords t) 1 = t.val ∧ cc0_transform_3 (grid0.coords t) 2 = 0)
    ∧ (cc0_transform_4 (grid0.coords t) 0 = 0 ∧ cc0_transform_4 (grid0.coords t) 1 = t.val ∧ cc0_transform_4 (grid0.coords t) 2 = 0)
    ∧ (cc0_transform_5 (grid0.coords t) 0 = 0 ∧ cc0_transform_5 (grid0.coords t) 1 = t.val ∧ cc0_transform_5 (grid0.coords t) 2 = 0)
    ∧ (cc0_transform_6 (grid0.coords t) 0 = 0 ∧ cc0_transform_6 (grid0.coords t) 1 = t.val ∧ cc0_transform_6 (grid0.coords t) 2 = 0)
    ∧ (cc0_transform_11 (grid0.coords t) 0 = 0 ∧ cc0_transform_11 (grid0.coords t) 1 = t.val ∧ cc0_transform_11 (grid0.coords t) 2 = 0)
    ∧ (cc0_transform_12 (grid0.coords t) 0 = 0 ∧ cc0_transform_12 (grid0.coords t) 1 = t.val ∧ cc0_transform_12 (grid0.coords t) 2 = 0)
    ∧ (cc0_transform_13 (grid0.coords t) 0 = 0 ∧ cc0_transform_13 (grid0.coords t) 1 = t.val ∧ cc0_transform_13 (grid0.coords t) 2 = 0)
    ∧ (cc0_transform_14 (grid0.coords t) 0 = 0 ∧ cc0_transform_14 (grid0.coords t) 1 = t.val ∧ cc0_transform_14 (grid0.coords t) 2 = 0) := by decide +kernel

theorem lt (t : Fin grid0.N) : t.val < 1 := lt_of_lt_of_eq t.isLt N_0

/-- Row `r` of a point's block of rows. -/
def rowAt (t : ℕ) (h : t < 1) (r : Fin 256) : Fin 256 := ⟨t * 256 + r.val, by omega⟩

/-! ## The results -/

/-- The gradient: block `p` of the chip's own sums and the first received sum, and the other two. -/
def gradAt (h : FVec Ideal S4x256x2048 .bf16) (y : FVec Ideal S3x256x2048 .bf16) (p : Fin 4) (r : Fin 256) (l : Fin 2048) : EReal :=
  (h (ix3 p r l) + y (ix3 0 r l)) + (y (ix3 1 r l) + y (ix3 2 r l))

def gradArr (h : FVec Ideal S4x256x2048 .bf16) (y : FVec Ideal S3x256x2048 .bf16) (p : Fin 4) : FVec Ideal S1x256x2048 .f32 := fun i => gradAt h y p (i 1) (i 2)

/-- The weights' change, entry by entry. -/
def changeArr (g w m v : FVec Ideal S1x256x2048 .f32) : FVec Ideal S1x256x2048 .f32 := fun i => Adam.change (g i) (w i) (m i) (v i)

/-- The first moment, entry by entry. -/
def firstArr (g m : FVec Ideal S1x256x2048 .f32) : FVec Ideal S1x256x2048 .f32 := fun i => Adam.first (g i) (m i)

/-- The second moment, entry by entry. -/
def secondArr (g v : FVec Ideal S1x256x2048 .f32) : FVec Ideal S1x256x2048 .f32 := fun i => Adam.second (g i) (v i)

variable (m : (ℓ : Loc nD τ sig) → Buf (Elt Ideal) ℓ) (ρ : Dev nD → PrngReg) (hp : (chip m).toNat < 4) (c : Dev nD)

/-- The gradient of the arguments. -/
def grad : FVec Ideal S1x256x2048 .f32 := gradArr (m ((c : Thread nD τ).loc main_arg0)) (m ((c : Thread nD τ).loc main_arg1)) ⟨(chip m).toNat, hp⟩

/-- A point's blocks of the seven arrays it reads. -/
abbrev block_0 (t : Fin grid0.N) : Vec Ideal S1x256x2048 .bf16 := iblk m (ok m hp) c 0 t
abbrev block_1 (t : Fin grid0.N) : Vec Ideal S1x256x2048 .bf16 := iblk m (ok m hp) c 1 t
abbrev block_2 (t : Fin grid0.N) : Vec Ideal S1x256x2048 .bf16 := iblk m (ok m hp) c 2 t
abbrev block_3 (t : Fin grid0.N) : Vec Ideal S1x256x2048 .bf16 := iblk m (ok m hp) c 3 t
abbrev block_4 (t : Fin grid0.N) : Vec Ideal S1x256x2048 .f32 := iblk m (ok m hp) c 4 t
abbrev block_5 (t : Fin grid0.N) : Vec Ideal S1x256x2048 .f32 := iblk m (ok m hp) c 5 t
abbrev block_6 (t : Fin grid0.N) : Vec Ideal S1x256x2048 .f32 := iblk m (ok m hp) c 6 t

theorem own_block (t : Fin grid0.N) (r : Fin 256) (l : Fin 2048) :
    block_0 m hp c t (ix3 0 r l)
      = m ((c : Thread nD τ).loc main_arg0) (ix3 (⟨(chip m).toNat, hp⟩ : Fin 4) (rowAt t.val (lt t) r) l) := by
  have e := own_index m (grid0.coords t)
  refine (congrArg (V m c main_arg0) (funext fun a => Fin.ext ?_)).trans (congrFun (V_main_arg0 m c) _)
  match a with
  | ⟨0, _⟩ => show cc0_transform_0 inb_S1_S1_0 numel1_S1 (tbl m) (grid0.coords t) 0 * 1 + 1 * 0 = (chip m).toNat; rw [e]; show (chip m).toNat * 1 + 1 * 0 = _; omega
  | ⟨1, _⟩ => show cc0_transform_0 inb_S1_S1_0 numel1_S1 (tbl m) (grid0.coords t) 1 * 256 + 1 * r.val = t.val * 256 + r.val; rw [e]; show (BitVec.ofNat 32 (grid0.coords t 0).val).toNat * 256 + 1 * r.val = _; rw [(index t).1]; omega
  | ⟨2, _⟩ => show cc0_transform_0 inb_S1_S1_0 numel1_S1 (tbl m) (grid0.coords t) 2 * 2048 + 1 * l.val = l.val; rw [e]; show 0 * 2048 + 1 * l.val = _; omega

theorem received_0_block (t : Fin grid0.N) (r : Fin 256) (l : Fin 2048) :
    block_1 m hp c t (ix3 0 r l) = m ((c : Thread nD τ).loc main_arg1) (ix3 0 (rowAt t.val (lt t) r) l) := by
  obtain ⟨e0, e1, e2⟩ := (index t).2.1
  refine (congrArg (V m c main_arg1) (funext fun a => Fin.ext ?_)).trans (congrFun (V_main_arg1 m c) _)
  match a with
  | ⟨0, _⟩ => show cc0_transform_1 (grid0.coords t) 0 * 1 + 1 * 0 = 0; rw [e0]
  | ⟨1, _⟩ => show cc0_transform_1 (grid0.coords t) 1 * 256 + 1 * r.val = t.val * 256 + r.val; rw [e1]; omega
  | ⟨2, _⟩ => show cc0_transform_1 (grid0.coords t) 2 * 2048 + 1 * l.val = l.val; rw [e2]; omega

theorem received_1_block (t : Fin grid0.N) (r : Fin 256) (l : Fin 2048) :
    block_2 m hp c t (ix3 0 r l) = m ((c : Thread nD τ).loc main_arg1) (ix3 1 (rowAt t.val (lt t) r) l) := by
  obtain ⟨e0, e1, e2⟩ := (index t).2.2.1
  refine (congrArg (V m c main_arg1) (funext fun a => Fin.ext ?_)).trans (congrFun (V_main_arg1 m c) _)
  match a with
  | ⟨0, _⟩ => show cc0_transform_2 (grid0.coords t) 0 * 1 + 1 * 0 = 1; rw [e0]
  | ⟨1, _⟩ => show cc0_transform_2 (grid0.coords t) 1 * 256 + 1 * r.val = t.val * 256 + r.val; rw [e1]; omega
  | ⟨2, _⟩ => show cc0_transform_2 (grid0.coords t) 2 * 2048 + 1 * l.val = l.val; rw [e2]; omega

theorem received_2_block (t : Fin grid0.N) (r : Fin 256) (l : Fin 2048) :
    block_3 m hp c t (ix3 0 r l) = m ((c : Thread nD τ).loc main_arg1) (ix3 2 (rowAt t.val (lt t) r) l) := by
  obtain ⟨e0, e1, e2⟩ := (index t).2.2.2.1
  refine (congrArg (V m c main_arg1) (funext fun a => Fin.ext ?_)).trans (congrFun (V_main_arg1 m c) _)
  match a with
  | ⟨0, _⟩ => show cc0_transform_3 (grid0.coords t) 0 * 1 + 1 * 0 = 2; rw [e0]
  | ⟨1, _⟩ => show cc0_transform_3 (grid0.coords t) 1 * 256 + 1 * r.val = t.val * 256 + r.val; rw [e1]; omega
  | ⟨2, _⟩ => show cc0_transform_3 (grid0.coords t) 2 * 2048 + 1 * l.val = l.val; rw [e2]; omega

theorem w_block (t : Fin grid0.N) (r : Fin 256) (l : Fin 2048) :
    block_4 m hp c t (ix3 0 r l) = m ((c : Thread nD τ).loc main_arg3) (ix3 0 (rowAt t.val (lt t) r) l) := by
  obtain ⟨e0, e1, e2⟩ := (index t).2.2.2.2.1
  refine (congrArg (V m c main_arg3) (funext fun a => Fin.ext ?_)).trans (congrFun (V_main_arg3 m c) _)
  match a with
  | ⟨0, _⟩ => show cc0_transform_4 (grid0.coords t) 0 * 1 + 1 * 0 = 0; rw [e0]
  | ⟨1, _⟩ => show cc0_transform_4 (grid0.coords t) 1 * 256 + 1 * r.val = t.val * 256 + r.val; rw [e1]; omega
  | ⟨2, _⟩ => show cc0_transform_4 (grid0.coords t) 2 * 2048 + 1 * l.val = l.val; rw [e2]; omega

theorem m_block (t : Fin grid0.N) (r : Fin 256) (l : Fin 2048) :
    block_5 m hp c t (ix3 0 r l) = m ((c : Thread nD τ).loc main_arg4) (ix3 0 (rowAt t.val (lt t) r) l) := by
  obtain ⟨e0, e1, e2⟩ := (index t).2.2.2.2.2.1
  refine (congrArg (V m c main_arg4) (funext fun a => Fin.ext ?_)).trans (congrFun (V_main_arg4 m c) _)
  match a with
  | ⟨0, _⟩ => show cc0_transform_5 (grid0.coords t) 0 * 1 + 1 * 0 = 0; rw [e0]
  | ⟨1, _⟩ => show cc0_transform_5 (grid0.coords t) 1 * 256 + 1 * r.val = t.val * 256 + r.val; rw [e1]; omega
  | ⟨2, _⟩ => show cc0_transform_5 (grid0.coords t) 2 * 2048 + 1 * l.val = l.val; rw [e2]; omega

theorem v_block (t : Fin grid0.N) (r : Fin 256) (l : Fin 2048) :
    block_6 m hp c t (ix3 0 r l) = m ((c : Thread nD τ).loc main_arg5) (ix3 0 (rowAt t.val (lt t) r) l) := by
  obtain ⟨e0, e1, e2⟩ := (index t).2.2.2.2.2.2.1
  refine (congrArg (V m c main_arg5) (funext fun a => Fin.ext ?_)).trans (congrFun (V_main_arg5 m c) _)
  match a with
  | ⟨0, _⟩ => show cc0_transform_6 (grid0.coords t) 0 * 1 + 1 * 0 = 0; rw [e0]
  | ⟨1, _⟩ => show cc0_transform_6 (grid0.coords t) 1 * 256 + 1 * r.val = t.val * 256 + r.val; rw [e1]; omega
  | ⟨2, _⟩ => show cc0_transform_6 (grid0.coords t) 2 * 2048 + 1 * l.val = l.val; rw [e2]; omega

theorem emb_grad (hO : Ok m) (t : Fin grid0.N) (r : Fin 256) (l : Fin 2048) :
    (((cfgM m hO).win 7).blk t).view.emb (ix3 0 r l : S1x256x2048.Idx) = (ix3 0 (rowAt t.val (lt t) r) l : S1x256x2048.Idx) := by
  obtain ⟨e0, e1, e2⟩ := (index t).2.2.2.2.2.2.2.1
  refine funext fun a => Fin.ext ?_
  match a with
  | ⟨0, _⟩ => show cc0_transform_11 (grid0.coords t) 0 * 1 + 1 * 0 = 0; rw [e0]
  | ⟨1, _⟩ => show cc0_transform_11 (grid0.coords t) 1 * 256 + 1 * r.val = t.val * 256 + r.val; rw [e1]; omega
  | ⟨2, _⟩ => show cc0_transform_11 (grid0.coords t) 2 * 2048 + 1 * l.val = l.val; rw [e2]; omega

theorem covers_grad (hO : Ok m) : ((cfgM m hO).win 7).Covers := by
  refine ⟨(by decide : ∀ a : Fin 3, 0 < S1x256x2048.size a), fun β => ?_⟩
  have b0 : (β (0 : Fin 3)).val < (1 + 1 - 1) / 1 := (β (0 : Fin 3)).isLt
  have b1 : (β (1 : Fin 3)).val < (256 + 256 - 1) / 256 := (β (1 : Fin 3)).isLt
  have b2 : (β (2 : Fin 3)).val < (2048 + 2048 - 1) / 2048 := (β (2 : Fin 3)).isLt
  have lt : (β (1 : Fin 3)).val < grid0.N := by rw [N_0]; omega
  obtain ⟨e0, e1, e2⟩ := (index ⟨(β (1 : Fin 3)).val, lt⟩).2.2.2.2.2.2.2.1
  refine ⟨⟨(β (1 : Fin 3)).val, lt⟩, flush0_7 (adm m hO) _, fun a => ⟨?_, .inl rfl⟩⟩
  match a with
  | ⟨0, _⟩ => show cc0_transform_11 (grid0.coords ⟨(β (1 : Fin 3)).val, lt⟩) 0 = (β (0 : Fin 3)).val; rw [e0]; omega
  | ⟨1, _⟩ => show cc0_transform_11 (grid0.coords ⟨(β (1 : Fin 3)).val, lt⟩) 1 = (β (1 : Fin 3)).val; rw [e1]
  | ⟨2, _⟩ => show cc0_transform_11 (grid0.coords ⟨(β (1 : Fin 3)).val, lt⟩) 2 = (β (2 : Fin 3)).val; rw [e2]; omega

theorem grad_at (t : Fin grid0.N) : (outsAt0 m (ok m hp) c t).1 = k0_pay1 (k0_pay5 (block_0 m hp c t) (block_1 m hp c t) (block_2 m hp c t) (block_3 m hp c t)) := by
  unfold outsAt0
  dsimp only
  exact grad_out c (grid0.coords t) (ms0_0 m (ok m hp) t) (hs0_0 m (ok m hp) t) (ms0_1 m (ok m hp) t) (hs0_1 m (ok m hp) t) (ms0_2 m (ok m hp) t) (hs0_2 m (ok m hp) t) (ms0_3 m (ok m hp) t) (hs0_3 m (ok m hp) t) (ms0_4 m (ok m hp) t) (hs0_4 m (ok m hp) t) (ms0_5 m (ok m hp) t) (hs0_5 m (ok m hp) t) (ms0_6 m (ok m hp) t) (hs0_6 m (ok m hp) t) (ms0_7 m (ok m hp) t) (hs0_7 m (ok m hp) t) (ms0_8 m (ok m hp) t) (hs0_8 m (ok m hp) t) (ms0_9 m (ok m hp) t) (hs0_9 m (ok m hp) t) (ms0_10 m (ok m hp) t) (hs0_10 m (ok m hp) t) (block_0 m hp c t) (block_1 m hp c t) (block_2 m hp c t) (block_3 m hp c t) (block_4 m hp c t) (block_5 m hp c t) (block_6 m hp c t) (tbl m 0)

theorem grad_arr : (dats m (ok m hp) 0 c).arrAt 7 (cfgM m (ok m hp)).N = grad m hp c := by
  refine (dats m (ok m hp) 0 c).arrAt_eq_of_covers 7 _ (covers_grad m (ok m hp)) (fun t _ (x : S1x256x2048.Idx) => ?_)
  show (dats m (ok m hp) 0 c).after 7 t x = (grad m hp c : FVec Ideal S1x256x2048 .f32) ((((cfgM m (ok m hp)).win 7).blk t).view.emb x)
  rw [after0_7]
  refine (congrFun (grad_at m hp c t) x).trans ?_
  idx_vars x
  obtain rfl : x0 = 0 := Subsingleton.elim _ _
  rw [emb_grad m (ok m hp) t x1 x2, grad_point]
  rw [own_block, received_0_block, received_1_block, received_2_block]
  rfl

theorem emb_change (hO : Ok m) (t : Fin grid0.N) (r : Fin 256) (l : Fin 2048) :
    (((cfgM m hO).win 8).blk t).view.emb (ix3 0 r l : S1x256x2048.Idx) = (ix3 0 (rowAt t.val (lt t) r) l : S1x256x2048.Idx) := by
  obtain ⟨e0, e1, e2⟩ := (index t).2.2.2.2.2.2.2.2.1
  refine funext fun a => Fin.ext ?_
  match a with
  | ⟨0, _⟩ => show cc0_transform_12 (grid0.coords t) 0 * 1 + 1 * 0 = 0; rw [e0]
  | ⟨1, _⟩ => show cc0_transform_12 (grid0.coords t) 1 * 256 + 1 * r.val = t.val * 256 + r.val; rw [e1]; omega
  | ⟨2, _⟩ => show cc0_transform_12 (grid0.coords t) 2 * 2048 + 1 * l.val = l.val; rw [e2]; omega

theorem covers_change (hO : Ok m) : ((cfgM m hO).win 8).Covers := by
  refine ⟨(by decide : ∀ a : Fin 3, 0 < S1x256x2048.size a), fun β => ?_⟩
  have b0 : (β (0 : Fin 3)).val < (1 + 1 - 1) / 1 := (β (0 : Fin 3)).isLt
  have b1 : (β (1 : Fin 3)).val < (256 + 256 - 1) / 256 := (β (1 : Fin 3)).isLt
  have b2 : (β (2 : Fin 3)).val < (2048 + 2048 - 1) / 2048 := (β (2 : Fin 3)).isLt
  have lt : (β (1 : Fin 3)).val < grid0.N := by rw [N_0]; omega
  obtain ⟨e0, e1, e2⟩ := (index ⟨(β (1 : Fin 3)).val, lt⟩).2.2.2.2.2.2.2.2.1
  refine ⟨⟨(β (1 : Fin 3)).val, lt⟩, flush0_8 (adm m hO) _, fun a => ⟨?_, .inl rfl⟩⟩
  match a with
  | ⟨0, _⟩ => show cc0_transform_12 (grid0.coords ⟨(β (1 : Fin 3)).val, lt⟩) 0 = (β (0 : Fin 3)).val; rw [e0]; omega
  | ⟨1, _⟩ => show cc0_transform_12 (grid0.coords ⟨(β (1 : Fin 3)).val, lt⟩) 1 = (β (1 : Fin 3)).val; rw [e1]
  | ⟨2, _⟩ => show cc0_transform_12 (grid0.coords ⟨(β (1 : Fin 3)).val, lt⟩) 2 = (β (2 : Fin 3)).val; rw [e2]; omega

theorem change_at (t : Fin grid0.N) : (outsAt0 m (ok m hp) c t).2.1 = k0_pay2 (k0_pay6 (block_4 m hp c t)) (k0_pay7 (block_0 m hp c t) (block_1 m hp c t) (block_2 m hp c t) (block_3 m hp c t) (block_5 m hp c t)) (k0_pay8 (block_0 m hp c t) (block_1 m hp c t) (block_2 m hp c t) (block_3 m hp c t) (block_6 m hp c t)) k0_pay9 := by
  unfold outsAt0
  dsimp only
  exact change_out c (grid0.coords t) (ms0_0 m (ok m hp) t) (hs0_0 m (ok m hp) t) (ms0_1 m (ok m hp) t) (hs0_1 m (ok m hp) t) (ms0_2 m (ok m hp) t) (hs0_2 m (ok m hp) t) (ms0_3 m (ok m hp) t) (hs0_3 m (ok m hp) t) (ms0_4 m (ok m hp) t) (hs0_4 m (ok m hp) t) (ms0_5 m (ok m hp) t) (hs0_5 m (ok m hp) t) (ms0_6 m (ok m hp) t) (hs0_6 m (ok m hp) t) (ms0_7 m (ok m hp) t) (hs0_7 m (ok m hp) t) (ms0_8 m (ok m hp) t) (hs0_8 m (ok m hp) t) (ms0_9 m (ok m hp) t) (hs0_9 m (ok m hp) t) (ms0_10 m (ok m hp) t) (hs0_10 m (ok m hp) t) (block_0 m hp c t) (block_1 m hp c t) (block_2 m hp c t) (block_3 m hp c t) (block_4 m hp c t) (block_5 m hp c t) (block_6 m hp c t) (tbl m 0)

theorem change_arr : (dats m (ok m hp) 0 c).arrAt 8 (cfgM m (ok m hp)).N = changeArr (grad m hp c) (m ((c : Thread nD τ).loc main_arg3)) (m ((c : Thread nD τ).loc main_arg4)) (m ((c : Thread nD τ).loc main_arg5)) := by
  refine (dats m (ok m hp) 0 c).arrAt_eq_of_covers 8 _ (covers_change m (ok m hp)) (fun t _ (x : S1x256x2048.Idx) => ?_)
  show (dats m (ok m hp) 0 c).after 8 t x = (changeArr (grad m hp c) (m ((c : Thread nD τ).loc main_arg3)) (m ((c : Thread nD τ).loc main_arg4)) (m ((c : Thread nD τ).loc main_arg5)) : FVec Ideal S1x256x2048 .f32) ((((cfgM m (ok m hp)).win 8).blk t).view.emb x)
  rw [after0_8]
  refine (congrFun (change_at m hp c t) x).trans ?_
  idx_vars x
  obtain rfl : x0 = 0 := Subsingleton.elim _ _
  rw [emb_change m (ok m hp) t x1 x2, change_point]
  rw [own_block, received_0_block, received_1_block, received_2_block, w_block, m_block, v_block]
  rfl

theorem emb_first (hO : Ok m) (t : Fin grid0.N) (r : Fin 256) (l : Fin 2048) :
    (((cfgM m hO).win 9).blk t).view.emb (ix3 0 r l : S1x256x2048.Idx) = (ix3 0 (rowAt t.val (lt t) r) l : S1x256x2048.Idx) := by
  obtain ⟨e0, e1, e2⟩ := (index t).2.2.2.2.2.2.2.2.2.1
  refine funext fun a => Fin.ext ?_
  match a with
  | ⟨0, _⟩ => show cc0_transform_13 (grid0.coords t) 0 * 1 + 1 * 0 = 0; rw [e0]
  | ⟨1, _⟩ => show cc0_transform_13 (grid0.coords t) 1 * 256 + 1 * r.val = t.val * 256 + r.val; rw [e1]; omega
  | ⟨2, _⟩ => show cc0_transform_13 (grid0.coords t) 2 * 2048 + 1 * l.val = l.val; rw [e2]; omega

theorem covers_first (hO : Ok m) : ((cfgM m hO).win 9).Covers := by
  refine ⟨(by decide : ∀ a : Fin 3, 0 < S1x256x2048.size a), fun β => ?_⟩
  have b0 : (β (0 : Fin 3)).val < (1 + 1 - 1) / 1 := (β (0 : Fin 3)).isLt
  have b1 : (β (1 : Fin 3)).val < (256 + 256 - 1) / 256 := (β (1 : Fin 3)).isLt
  have b2 : (β (2 : Fin 3)).val < (2048 + 2048 - 1) / 2048 := (β (2 : Fin 3)).isLt
  have lt : (β (1 : Fin 3)).val < grid0.N := by rw [N_0]; omega
  obtain ⟨e0, e1, e2⟩ := (index ⟨(β (1 : Fin 3)).val, lt⟩).2.2.2.2.2.2.2.2.2.1
  refine ⟨⟨(β (1 : Fin 3)).val, lt⟩, flush0_9 (adm m hO) _, fun a => ⟨?_, .inl rfl⟩⟩
  match a with
  | ⟨0, _⟩ => show cc0_transform_13 (grid0.coords ⟨(β (1 : Fin 3)).val, lt⟩) 0 = (β (0 : Fin 3)).val; rw [e0]; omega
  | ⟨1, _⟩ => show cc0_transform_13 (grid0.coords ⟨(β (1 : Fin 3)).val, lt⟩) 1 = (β (1 : Fin 3)).val; rw [e1]
  | ⟨2, _⟩ => show cc0_transform_13 (grid0.coords ⟨(β (1 : Fin 3)).val, lt⟩) 2 = (β (2 : Fin 3)).val; rw [e2]; omega

theorem first_at (t : Fin grid0.N) : (outsAt0 m (ok m hp) c t).2.2.1 = k0_pay3 (k0_pay7 (block_0 m hp c t) (block_1 m hp c t) (block_2 m hp c t) (block_3 m hp c t) (block_5 m hp c t)) := by
  unfold outsAt0
  dsimp only
  exact first_out c (grid0.coords t) (ms0_0 m (ok m hp) t) (hs0_0 m (ok m hp) t) (ms0_1 m (ok m hp) t) (hs0_1 m (ok m hp) t) (ms0_2 m (ok m hp) t) (hs0_2 m (ok m hp) t) (ms0_3 m (ok m hp) t) (hs0_3 m (ok m hp) t) (ms0_4 m (ok m hp) t) (hs0_4 m (ok m hp) t) (ms0_5 m (ok m hp) t) (hs0_5 m (ok m hp) t) (ms0_6 m (ok m hp) t) (hs0_6 m (ok m hp) t) (ms0_7 m (ok m hp) t) (hs0_7 m (ok m hp) t) (ms0_8 m (ok m hp) t) (hs0_8 m (ok m hp) t) (ms0_9 m (ok m hp) t) (hs0_9 m (ok m hp) t) (ms0_10 m (ok m hp) t) (hs0_10 m (ok m hp) t) (block_0 m hp c t) (block_1 m hp c t) (block_2 m hp c t) (block_3 m hp c t) (block_4 m hp c t) (block_5 m hp c t) (block_6 m hp c t) (tbl m 0)

theorem first_arr : (dats m (ok m hp) 0 c).arrAt 9 (cfgM m (ok m hp)).N = firstArr (grad m hp c) (m ((c : Thread nD τ).loc main_arg4)) := by
  refine (dats m (ok m hp) 0 c).arrAt_eq_of_covers 9 _ (covers_first m (ok m hp)) (fun t _ (x : S1x256x2048.Idx) => ?_)
  show (dats m (ok m hp) 0 c).after 9 t x = (firstArr (grad m hp c) (m ((c : Thread nD τ).loc main_arg4)) : FVec Ideal S1x256x2048 .f32) ((((cfgM m (ok m hp)).win 9).blk t).view.emb x)
  rw [after0_9]
  refine (congrFun (first_at m hp c t) x).trans ?_
  idx_vars x
  obtain rfl : x0 = 0 := Subsingleton.elim _ _
  rw [emb_first m (ok m hp) t x1 x2, first_point]
  rw [own_block, received_0_block, received_1_block, received_2_block, m_block]
  rfl

theorem emb_second (hO : Ok m) (t : Fin grid0.N) (r : Fin 256) (l : Fin 2048) :
    (((cfgM m hO).win 10).blk t).view.emb (ix3 0 r l : S1x256x2048.Idx) = (ix3 0 (rowAt t.val (lt t) r) l : S1x256x2048.Idx) := by
  obtain ⟨e0, e1, e2⟩ := (index t).2.2.2.2.2.2.2.2.2.2
  refine funext fun a => Fin.ext ?_
  match a with
  | ⟨0, _⟩ => show cc0_transform_14 (grid0.coords t) 0 * 1 + 1 * 0 = 0; rw [e0]
  | ⟨1, _⟩ => show cc0_transform_14 (grid0.coords t) 1 * 256 + 1 * r.val = t.val * 256 + r.val; rw [e1]; omega
  | ⟨2, _⟩ => show cc0_transform_14 (grid0.coords t) 2 * 2048 + 1 * l.val = l.val; rw [e2]; omega

theorem covers_second (hO : Ok m) : ((cfgM m hO).win 10).Covers := by
  refine ⟨(by decide : ∀ a : Fin 3, 0 < S1x256x2048.size a), fun β => ?_⟩
  have b0 : (β (0 : Fin 3)).val < (1 + 1 - 1) / 1 := (β (0 : Fin 3)).isLt
  have b1 : (β (1 : Fin 3)).val < (256 + 256 - 1) / 256 := (β (1 : Fin 3)).isLt
  have b2 : (β (2 : Fin 3)).val < (2048 + 2048 - 1) / 2048 := (β (2 : Fin 3)).isLt
  have lt : (β (1 : Fin 3)).val < grid0.N := by rw [N_0]; omega
  obtain ⟨e0, e1, e2⟩ := (index ⟨(β (1 : Fin 3)).val, lt⟩).2.2.2.2.2.2.2.2.2.2
  refine ⟨⟨(β (1 : Fin 3)).val, lt⟩, flush0_10 (adm m hO) _, fun a => ⟨?_, .inl rfl⟩⟩
  match a with
  | ⟨0, _⟩ => show cc0_transform_14 (grid0.coords ⟨(β (1 : Fin 3)).val, lt⟩) 0 = (β (0 : Fin 3)).val; rw [e0]; omega
  | ⟨1, _⟩ => show cc0_transform_14 (grid0.coords ⟨(β (1 : Fin 3)).val, lt⟩) 1 = (β (1 : Fin 3)).val; rw [e1]
  | ⟨2, _⟩ => show cc0_transform_14 (grid0.coords ⟨(β (1 : Fin 3)).val, lt⟩) 2 = (β (2 : Fin 3)).val; rw [e2]; omega

theorem second_at (t : Fin grid0.N) : (outsAt0 m (ok m hp) c t).2.2.2 = k0_pay4 (k0_pay8 (block_0 m hp c t) (block_1 m hp c t) (block_2 m hp c t) (block_3 m hp c t) (block_6 m hp c t)) := by
  unfold outsAt0
  dsimp only
  exact second_out c (grid0.coords t) (ms0_0 m (ok m hp) t) (hs0_0 m (ok m hp) t) (ms0_1 m (ok m hp) t) (hs0_1 m (ok m hp) t) (ms0_2 m (ok m hp) t) (hs0_2 m (ok m hp) t) (ms0_3 m (ok m hp) t) (hs0_3 m (ok m hp) t) (ms0_4 m (ok m hp) t) (hs0_4 m (ok m hp) t) (ms0_5 m (ok m hp) t) (hs0_5 m (ok m hp) t) (ms0_6 m (ok m hp) t) (hs0_6 m (ok m hp) t) (ms0_7 m (ok m hp) t) (hs0_7 m (ok m hp) t) (ms0_8 m (ok m hp) t) (hs0_8 m (ok m hp) t) (ms0_9 m (ok m hp) t) (hs0_9 m (ok m hp) t) (ms0_10 m (ok m hp) t) (hs0_10 m (ok m hp) t) (block_0 m hp c t) (block_1 m hp c t) (block_2 m hp c t) (block_3 m hp c t) (block_4 m hp c t) (block_5 m hp c t) (block_6 m hp c t) (tbl m 0)

theorem second_arr : (dats m (ok m hp) 0 c).arrAt 10 (cfgM m (ok m hp)).N = secondArr (grad m hp c) (m ((c : Thread nD τ).loc main_arg5)) := by
  refine (dats m (ok m hp) 0 c).arrAt_eq_of_covers 10 _ (covers_second m (ok m hp)) (fun t _ (x : S1x256x2048.Idx) => ?_)
  show (dats m (ok m hp) 0 c).after 10 t x = (secondArr (grad m hp c) (m ((c : Thread nD τ).loc main_arg5)) : FVec Ideal S1x256x2048 .f32) ((((cfgM m (ok m hp)).win 10).blk t).view.emb x)
  rw [after0_10]
  refine (congrFun (second_at m hp c t) x).trans ?_
  idx_vars x
  obtain rfl : x0 = 0 := Subsingleton.elim _ _
  rw [emb_second m (ok m hp) t x1 x2, second_point]
  rw [own_block, received_0_block, received_1_block, received_2_block, v_block]
  rfl

/-- Every execution ends with the four results at these arrays of the arguments, and the arguments as they were. -/
theorem run : θ_run defs (onTc (τ := τ) (main (F := Ideal))) ⟨m, fun _ => 0, ρ⟩ fun r => ∀ c : Dev nD,
    r.2.mem ((c.tc : Thread nD τ).loc main_v0_0) = grad m hp c ∧
    r.2.mem ((c.tc : Thread nD τ).loc main_v0_1) = changeArr (grad m hp c) (m ((c : Thread nD τ).loc main_arg3)) (m ((c : Thread nD τ).loc main_arg4)) (m ((c : Thread nD τ).loc main_arg5)) ∧
    r.2.mem ((c.tc : Thread nD τ).loc main_v0_2) = firstArr (grad m hp c) (m ((c : Thread nD τ).loc main_arg4)) ∧
    r.2.mem ((c.tc : Thread nD τ).loc main_v0_3) = secondArr (grad m hp c) (m ((c : Thread nD τ).loc main_arg5))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) :=
  (θ_run defs _ _).mono (fun r h c => ⟨((h.2 c).1 7).trans (grad_arr m hp c), ((h.2 c).1 8).trans (change_arr m hp c),
    ((h.2 c).1 9).trans (first_arr m hp c), ((h.2 c).1 10).trans (second_arr m hp c), h.1 c⟩)
    (θ_run_and (unchanged m ρ (ok m hp)) (run_main m ρ (ok m hp)))

end Cert.Kernel25Ideal.WideOut

end
-- ==== Proof.Adam.WideOutReference.lean ====
/- The reference's optimiser step of a layer's 256x2048 share of an output matrix gives the kernel's arrays, for a chip's number that is one of the four. -/
module

public import proofs.«01_k».proof.Proof.Adam.WideOut
public import proofs.«01_k».proof.Proof.Gen.Reference25Ideal
public import Idealize.ShloMosaic.Lib.StableHlo.Run
public import Idealize.ShloMosaic.Lib.DynamicIndex

@[expose] public section

set_option maxRecDepth 16384

noncomputable section

namespace Cert.Reference25Ideal.WideOut

open Idealize.ShloMosaic Idealize.SL.Sem Idealize.ShloMosaic.TcCoe Idealize.ShloMosaic.StableHlo
open Cert.Reference25Ideal Cert.Reference25Ideal.Gen
open Cert.Kernel25Ideal.WideOut (gradAt gradArr changeArr firstArr secondArr)

/-- Where the reference slices its own block from. -/
def start (p : IVec S1 32) : Fin 3 → Int := fun k => (((![select (cmpi .slt (shapeCast _ p shapeCasts_S1_S_) (constantI S_ 32 0#32)) (addi (shapeCast _ p shapeCasts_S1_S_) (constantI S_ 32 4#32)) (shapeCast _ p shapeCasts_S1_S_), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 2048#32)) (constantI S_ 32 0#32)] : Fin 3 → IVec S_ 32)) k (Shape.Idx.first h_S_)).toInt

/-- The chip's own block and the sum of the three received ones. -/
def grad (h : FVec Ideal S4x256x2048 .bf16) (y : FVec Ideal S3x256x2048 .bf16) (p : IVec S1 32) : FVec Ideal S1x256x2048 .f32 :=
  addf (Host.dynamicSlice S1x256x2048 (extf .f32 h bitsLt_bf16_f32) (start p) sliceFits_S4x256x2048_S1x256x2048) (broadcastInDim S1x256x2048 ![1, 2] bcast_S256x2048_S1x256x2048_1_2 (Host.reduceAdd (extf .f32 y bitsLt_bf16_f32) (constant S_ .f32 0x00000000#32) reducesTo_S3x256x2048_S256x2048_d0 h_S_))

/-- The two moments after a gradient. -/
def first (g m : FVec Ideal S1x256x2048 .f32) : FVec Ideal S1x256x2048 .f32 := addf (mulf (broadcastInDim S1x256x2048 ![] bcast_S_S1x256x2048 (constant S_ .f32 0x3F666666#32)) m) (mulf (broadcastInDim S1x256x2048 ![] bcast_S_S1x256x2048 (constant S_ .f32 0x3DCCCCCD#32)) g)

def second (g v : FVec Ideal S1x256x2048 .f32) : FVec Ideal S1x256x2048 .f32 := addf (mulf (broadcastInDim S1x256x2048 ![] bcast_S_S1x256x2048 (constant S_ .f32 0x3F7FBE77#32)) v) (mulf (broadcastInDim S1x256x2048 ![] bcast_S_S1x256x2048 (constant S_ .f32 0x3A83126F#32)) (mulf g g))

/-- The change of the weights. -/
def change (g w m v : FVec Ideal S1x256x2048 .f32) : FVec Ideal S1x256x2048 .f32 :=
  mulf (broadcastInDim S1x256x2048 ![] bcast_S_S1x256x2048 (constant S_ .f32 0xBA83126F#32)) (addf (Host.divf (Host.divf (first g m) (broadcastInDim S1x256x2048 ![] bcast_S_S1x256x2048 (constant S_ .f32 0x3F26BD02#32)))
    (addf (Host.sqrt (Host.divf (second g v) (broadcastInDim S1x256x2048 ![] bcast_S_S1x256x2048 (constant S_ .f32 0x3C231ACC#32)))) (broadcastInDim S1x256x2048 ![] bcast_S_S1x256x2048 (constant S_ .f32 0x322BCC77#32)))) (mulf (broadcastInDim S1x256x2048 ![] bcast_S_S1x256x2048 (constant S_ .f32 0x3C23D70A#32)) w))

/-- For a number that is one of the four the slice starts at that block. -/
theorem start_eq (p : IVec S1 32) (hp : (p (ix1 0)).toNat < 4) (a : Fin 3) : start p a = ((![(p (ix1 0)).toNat, 0, 0] : Fin 3 → Nat) a : Int) := by
  have q : shapeCast S_ p shapeCasts_S1_S_ (Shape.Idx.first h_S_) = p (ix1 0) := congrArg p (funext fun a => match a with | ⟨0, _⟩ => Subsingleton.elim (α := Fin 1) _ _)
  have n : (p (ix1 0)).toInt = ((p (ix1 0)).toNat : Int) := by
    rw [BitVec.toInt_eq_toNat_cond]
    split <;> omega
  match a with
  | ⟨0, _⟩ =>
    show (select (cmpi .slt (shapeCast S_ p shapeCasts_S1_S_) (constantI S_ 32 0#32)) (addi (shapeCast S_ p shapeCasts_S1_S_) (constantI S_ 32 4#32)) (shapeCast S_ p shapeCasts_S1_S_) (Shape.Idx.first h_S_)).toInt = ((p (ix1 0)).toNat : Int)
    rw [select_slt_zero_of_nonneg _ _ _ _ (by rw [q, n]; omega), q, n]
  | ⟨1, _⟩ => rfl
  | ⟨2, _⟩ => rfl

theorem fits (k : Fin 4) : (S4x256x2048).Slices ![k.val, 0, 0] S1x256x2048 := by
  revert k; decide

/-- The sum of the three received blocks at an entry. -/
theorem received (y : FVec Ideal S3x256x2048 .bf16) (r : Fin 256) (l : Fin 2048) :
    (broadcastInDim S1x256x2048 ![1, 2] bcast_S256x2048_S1x256x2048_1_2 (Host.reduceAdd (extf .f32 y bitsLt_bf16_f32) (constant S_ .f32 0x00000000#32) reducesTo_S3x256x2048_S256x2048_d0 h_S_) : FVec Ideal S1x256x2048 .f32) (ix3 0 r l)
      = ∑ k : Fin 3, (y (ix3 k r l) : EReal) := by
  pointwise []

theorem grad_eq (h : FVec Ideal S4x256x2048 .bf16) (y : FVec Ideal S3x256x2048 .bf16) (p : IVec S1 32) (hp : (p (ix1 0)).toNat < 4) :
    grad h y p = gradArr h y ⟨(p (ix1 0)).toNat, hp⟩ := by
  funext x
  unfold grad
  rw [Host.dynamicSlice_eq_extractStridedSlice S1x256x2048 _ (start p) ![(p (ix1 0)).toNat, 0, 0] sliceFits_S4x256x2048_S1x256x2048 (fits ⟨_, hp⟩) (start_eq p hp)]
  idx_vars x
  obtain rfl : x0 = 0 := Subsingleton.elim _ _
  show (extractStridedSlice S1x256x2048 ![(p (ix1 0)).toNat, 0, 0] (extf .f32 h bitsLt_bf16_f32 : FVec Ideal S4x256x2048 .f32) (fits ⟨_, hp⟩) (ix3 0 x1 x2) : EReal) + _ = gradAt h y ⟨(p (ix1 0)).toNat, hp⟩ x1 x2
  have e : (extractStridedSlice S1x256x2048 ![(p (ix1 0)).toNat, 0, 0] (extf .f32 h bitsLt_bf16_f32 : FVec Ideal S4x256x2048 .f32) (fits ⟨_, hp⟩) (ix3 0 x1 x2) : EReal)
      = h (ix3 (⟨(p (ix1 0)).toNat, hp⟩ : Fin 4) x1 x2) := by
    refine congrArg h (funext fun a => Fin.ext ?_)
    match a with
    | ⟨0, _⟩ => rfl
    | ⟨1, _⟩ => show 0 + x1.val = x1.val; omega
    | ⟨2, _⟩ => show 0 + x2.val = x2.val; omega
  rw [e]
  refine (congrArg (h (ix3 (⟨(p (ix1 0)).toNat, hp⟩ : Fin 4) x1 x2) + ·) (received y x1 x2)).trans ?_
  rw [Fin.sum_univ_three]
  unfold gradAt
  rw [add_assoc, add_assoc]

theorem first_eq (g m : FVec Ideal S1x256x2048 .f32) : first g m = firstArr g m := rfl

theorem second_eq (g v : FVec Ideal S1x256x2048 .f32) : second g v = secondArr g v := rfl

theorem change_eq (g w m v : FVec Ideal S1x256x2048 .f32) : change g w m v = changeArr g w m v := rfl

/-- The gradient, from arguments that agree with the kernel's. -/
theorem grad_agree (h h' : FVec Ideal S4x256x2048 .bf16) (y y' : FVec Ideal S3x256x2048 .bf16) (p p' : IVec S1 32) (hp : (p' (ix1 0)).toNat < 4)
    (e0 : h = h') (e1 : y = y') (e2 : p = p') : grad h y p = Cert.Kernel25Ideal.WideOut.gradArr h' y' ⟨(p' (ix1 0)).toNat, hp⟩ := by
  subst e0 e1 e2
  exact grad_eq h y p hp

theorem change_agree (g g' w w' m m' v v' : FVec Ideal S1x256x2048 .f32) (e : g = g') (e3 : w = w') (e4 : m = m') (e5 : v = v') :
    change g w m v = Cert.Kernel25Ideal.WideOut.changeArr g' w' m' v' := by
  subst e e3 e4 e5
  exact change_eq g w m v

theorem first_agree (g g' m m' : FVec Ideal S1x256x2048 .f32) (e : g = g') (e4 : m = m') : first g m = Cert.Kernel25Ideal.WideOut.firstArr g' m' := by
  subst e e4
  exact first_eq g m

theorem second_agree (g g' v v' : FVec Ideal S1x256x2048 .f32) (e : g = g') (e5 : v = v') : second g v = Cert.Kernel25Ideal.WideOut.secondArr g' v' := by
  subst e e5
  exact second_eq g v

/-- The operations of the index of the slice, in order. -/
abbrev opsIndex {F : FTy → Type} [FloatOps F] : List (HloOp τ sig (Elt F)) :=
  [ unary main_arg0 main_v0 ((extf .f32 · bitsLt_bf16_f32) : (⟨S4x256x2048, .bf16⟩ : BufTy).Contents (Elt F) → (⟨S4x256x2048, .f32⟩ : BufTy).Contents (Elt F)),
    reshape main_arg2 main_v1 (rfl : (.i32 : EltTy) = .i32) shapeCasts_S1_S_,
    nullary main_c (constantI S_ 32 0#32),
    binary main_v1 main_c main_v2 (cmpi .slt : (⟨S_, .i32⟩ : BufTy).Contents (Elt F) → (⟨S_, .i32⟩ : BufTy).Contents (Elt F) → (⟨S_, .i1⟩ : BufTy).Contents (Elt F)),
    nullary main_c_0 (constantI S_ 32 4#32),
    binary main_v1 main_c_0 main_v3 (addi : (⟨S_, .i32⟩ : BufTy).Contents (Elt F) → (⟨S_, .i32⟩ : BufTy).Contents (Elt F) → (⟨S_, .i32⟩ : BufTy).Contents (Elt F)),
    ternary main_v2 main_v3 main_v1 main_v4 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1 (constantI S_ 32 0#32),
    nullary main_c_2 (constantI S_ 32 0#32),
    binary main_c_1 main_c_2 main_v5 (cmpi .slt : (⟨S_, .i32⟩ : BufTy).Contents (Elt F) → (⟨S_, .i32⟩ : BufTy).Contents (Elt F) → (⟨S_, .i1⟩ : BufTy).Contents (Elt F)),
    nullary main_c_3 (constantI S_ 32 0#32),
    nullary main_c_4 (constantI S_ 32 256#32),
    binary main_c_3 main_c_4 main_v6 (addi : (⟨S_, .i32⟩ : BufTy).Contents (Elt F) → (⟨S_, .i32⟩ : BufTy).Contents (Elt F) → (⟨S_, .i32⟩ : BufTy).Contents (Elt F)),
    nullary main_c_5 (constantI S_ 32 0#32),
    ternary main_v5 main_v6 main_c_5 main_v7 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_6 (constantI S_ 32 0#32),
    nullary main_c_7 (constantI S_ 32 0#32),
    binary main_c_6 main_c_7 main_v8 (cmpi .slt : (⟨S_, .i32⟩ : BufTy).Contents (Elt F) → (⟨S_, .i32⟩ : BufTy).Contents (Elt F) → (⟨S_, .i1⟩ : BufTy).Contents (Elt F)),
    nullary main_c_8 (constantI S_ 32 0#32),
    nullary main_c_9 (constantI S_ 32 2048#32),
    binary main_c_8 main_c_9 main_v9 (addi : (⟨S_, .i32⟩ : BufTy).Contents (Elt F) → (⟨S_, .i32⟩ : BufTy).Contents (Elt F) → (⟨S_, .i32⟩ : BufTy).Contents (Elt F)),
    nullary main_c_10 (constantI S_ 32 0#32),
    ternary main_v8 main_v9 main_c_10 main_v10 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]

/-- The operations of the slice, in order. -/
abbrev opsSlice {F : FTy → Type} [FloatOps F] : List (HloOp τ sig (Elt F)) :=
  [ unaryIndexed main_v0 ![main_v4, main_v7, main_v10] ⟨S_, .i32⟩ main_v11 ((fun x i => Host.dynamicSlice S1x256x2048 x (fun k => (i k (Shape.Idx.first h_S_)).toInt) sliceFits_S4x256x2048_S1x256x2048) : (⟨S4x256x2048, .f32⟩ : BufTy).Contents (Elt F) → (Fin 3 → (⟨S_, .i32⟩ : BufTy).Contents (Elt F)) → (⟨S1x256x2048, .f32⟩ : BufTy).Contents (Elt F)) ]

/-- The operations of the gradient, in order. -/
abbrev opsGrad {F : FTy → Type} [FloatOps F] : List (HloOp τ sig (Elt F)) :=
  [ unary main_arg1 main_v12 ((extf .f32 · bitsLt_bf16_f32) : (⟨S3x256x2048, .bf16⟩ : BufTy).Contents (Elt F) → (⟨S3x256x2048, .f32⟩ : BufTy).Contents (Elt F)),
    nullary main_cst (constant S_ .f32 0x00000000#32),
    binary main_v12 main_cst main_v13 ((fun x v => Host.reduceAdd x v reducesTo_S3x256x2048_S256x2048_d0 h_S_) : (⟨S3x256x2048, .f32⟩ : BufTy).Contents (Elt F) → (⟨S_, .f32⟩ : BufTy).Contents (Elt F) → (⟨S256x2048, .f32⟩ : BufTy).Contents (Elt F)),
    unary main_v13 main_v14 (broadcastInDim S1x256x2048 ![1, 2] bcast_S256x2048_S1x256x2048_1_2 : (⟨S256x2048, .f32⟩ : BufTy).Contents (Elt F) → (⟨S1x256x2048, .f32⟩ : BufTy).Contents (Elt F)),
    binary main_v11 main_v14 main_v15 (addf : (⟨S1x256x2048, .f32⟩ : BufTy).Contents (Elt F) → (⟨S1x256x2048, .f32⟩ : BufTy).Contents (Elt F) → (⟨S1x256x2048, .f32⟩ : BufTy).Contents (Elt F)) ]

/-- The operations of the step, in order. -/
abbrev opsStep {F : FTy → Type} [FloatOps F] : List (HloOp τ sig (Elt F)) :=
  [ nullary main_cst_11 (constant S_ .f32 0x3F666666#32),
    unary main_cst_11 main_v16 (broadcastInDim S1x256x2048 ![] bcast_S_S1x256x2048 : (⟨S_, .f32⟩ : BufTy).Contents (Elt F) → (⟨S1x256x2048, .f32⟩ : BufTy).Contents (Elt F)),
    binary main_v16 main_arg4 main_v17 (mulf : (⟨S1x256x2048, .f32⟩ : BufTy).Contents (Elt F) → (⟨S1x256x2048, .f32⟩ : BufTy).Contents (Elt F) → (⟨S1x256x2048, .f32⟩ : BufTy).Contents (Elt F)),
    nullary main_cst_12 (constant S_ .f32 0x3DCCCCCD#32),
    unary main_cst_12 main_v18 (broadcastInDim S1x256x2048 ![] bcast_S_S1x256x2048 : (⟨S_, .f32⟩ : BufTy).Contents (Elt F) → (⟨S1x256x2048, .f32⟩ : BufTy).Contents (Elt F)),
    binary main_v18 main_v15 main_v19 (mulf : (⟨S1x256x2048, .f32⟩ : BufTy).Contents (Elt F) → (⟨S1x256x2048, .f32⟩ : BufTy).Contents (Elt F) → (⟨S1x256x2048, .f32⟩ : BufTy).Contents (Elt F)),
    binary main_v17 main_v19 main_v20 (addf : (⟨S1x256x2048, .f32⟩ : BufTy).Contents (Elt F) → (⟨S1x256x2048, .f32⟩ : BufTy).Contents (Elt F) → (⟨S1x256x2048, .f32⟩ : BufTy).Contents (Elt F)),
    nullary main_cst_13 (constant S_ .f32 0x3F7FBE77#32),
    unary main_cst_13 main_v21 (broadcastInDim S1x256x2048 ![] bcast_S_S1x256x2048 : (⟨S_, .f32⟩ : BufTy).Contents (Elt F) → (⟨S1x256x2048, .f32⟩ : BufTy).Contents (Elt F)),
    binary main_v21 main_arg5 main_v22 (mulf : (⟨S1x256x2048, .f32⟩ : BufTy).Contents (Elt F) → (⟨S1x256x2048, .f32⟩ : BufTy).Contents (Elt F) → (⟨S1x256x2048, .f32⟩ : BufTy).Contents (Elt F)),
    binary main_v15 main_v15 main_v23 (mulf : (⟨S1x256x2048, .f32⟩ : BufTy).Contents (Elt F) → (⟨S1x256x2048, .f32⟩ : BufTy).Contents (Elt F) → (⟨S1x256x2048, .f32⟩ : BufTy).Contents (Elt F)),
    nullary main_cst_14 (constant S_ .f32 0x3A83126F#32),
    unary main_cst_14 main_v24 (broadcastInDim S1x256x2048 ![] bcast_S_S1x256x2048 : (⟨S_, .f32⟩ : BufTy).Contents (Elt F) → (⟨S1x256x2048, .f32⟩ : BufTy).Contents (Elt F)),
    binary main_v24 main_v23 main_v25 (mulf : (⟨S1x256x2048, .f32⟩ : BufTy).Contents (Elt F) → (⟨S1x256x2048, .f32⟩ : BufTy).Contents (Elt F) → (⟨S1x256x2048, .f32⟩ : BufTy).Contents (Elt F)),
    binary main_v22 main_v25 main_v26 (addf : (⟨S1x256x2048, .f32⟩ : BufTy).Contents (Elt F) → (⟨S1x256x2048, .f32⟩ : BufTy).Contents (Elt F) → (⟨S1x256x2048, .f32⟩ : BufTy).Contents (Elt F)),
    nullary main_cst_15 (constant S_ .f32 0x3F26BD02#32),
    unary main_cst_15 main_v27 (broadcastInDim S1x256x2048 ![] bcast_S_S1x256x2048 : (⟨S_, .f32⟩ : BufTy).Contents (Elt F) → (⟨S1x256x2048, .f32⟩ : BufTy).Contents (Elt F)),
    binary main_v20 main_v27 main_v28 (Host.divf : (⟨S1x256x2048, .f32⟩ : BufTy).Contents (Elt F) → (⟨S1x256x2048, .f32⟩ : BufTy).Contents (Elt F) → (⟨S1x256x2048, .f32⟩ : BufTy).Contents (Elt F)),
    nullary main_cst_16 (constant S_ .f32 0x3C231ACC#32),
    unary main_cst_16 main_v29 (broadcastInDim S1x256x2048 ![] bcast_S_S1x256x2048 : (⟨S_, .f32⟩ : BufTy).Contents (Elt F) → (⟨S1x256x2048, .f32⟩ : BufTy).Contents (Elt F)),
    binary main_v26 main_v29 main_v30 (Host.divf : (⟨S1x256x2048, .f32⟩ : BufTy).Contents (Elt F) → (⟨S1x256x2048, .f32⟩ : BufTy).Contents (Elt F) → (⟨S1x256x2048, .f32⟩ : BufTy).Contents (Elt F)),
    unary main_v30 main_v31 (Host.sqrt : (⟨S1x256x2048, .f32⟩ : BufTy).Contents (Elt F) → (⟨S1x256x2048, .f32⟩ : BufTy).Contents (Elt F)),
    nullary main_cst_17 (constant S_ .f32 0x322BCC77#32),
    unary main_cst_17 main_v32 (broadcastInDim S1x256x2048 ![] bcast_S_S1x256x2048 : (⟨S_, .f32⟩ : BufTy).Contents (Elt F) → (⟨S1x256x2048, .f32⟩ : BufTy).Contents (Elt F)),
    binary main_v31 main_v32 main_v33 (addf : (⟨S1x256x2048, .f32⟩ : BufTy).Contents (Elt F) → (⟨S1x256x2048, .f32⟩ : BufTy).Contents (Elt F) → (⟨S1x256x2048, .f32⟩ : BufTy).Contents (Elt F)),
    binary main_v28 main_v33 main_v34 (Host.divf : (⟨S1x256x2048, .f32⟩ : BufTy).Contents (Elt F) → (⟨S1x256x2048, .f32⟩ : BufTy).Contents (Elt F) → (⟨S1x256x2048, .f32⟩ : BufTy).Contents (Elt F)),
    nullary main_cst_18 (constant S_ .f32 0x3C23D70A#32),
    unary main_cst_18 main_v35 (broadcastInDim S1x256x2048 ![] bcast_S_S1x256x2048 : (⟨S_, .f32⟩ : BufTy).Contents (Elt F) → (⟨S1x256x2048, .f32⟩ : BufTy).Contents (Elt F)),
    binary main_v35 main_arg3 main_v36 (mulf : (⟨S1x256x2048, .f32⟩ : BufTy).Contents (Elt F) → (⟨S1x256x2048, .f32⟩ : BufTy).Contents (Elt F) → (⟨S1x256x2048, .f32⟩ : BufTy).Contents (Elt F)),
    binary main_v34 main_v36 main_v37 (addf : (⟨S1x256x2048, .f32⟩ : BufTy).Contents (Elt F) → (⟨S1x256x2048, .f32⟩ : BufTy).Contents (Elt F) → (⟨S1x256x2048, .f32⟩ : BufTy).Contents (Elt F)),
    nullary main_cst_19 (constant S_ .f32 0xBA83126F#32),
    unary main_cst_19 main_v38 (broadcastInDim S1x256x2048 ![] bcast_S_S1x256x2048 : (⟨S_, .f32⟩ : BufTy).Contents (Elt F) → (⟨S1x256x2048, .f32⟩ : BufTy).Contents (Elt F)),
    binary main_v38 main_v37 main_v39 (mulf : (⟨S1x256x2048, .f32⟩ : BufTy).Contents (Elt F) → (⟨S1x256x2048, .f32⟩ : BufTy).Contents (Elt F) → (⟨S1x256x2048, .f32⟩ : BufTy).Contents (Elt F)) ]

theorem main_eq (c : Dev nD) : main (F := Ideal) c = seq (opsIndex (F := Ideal) ++ opsSlice ++ opsGrad ++ opsStep) := rfl

theorem scopedRefs_eq : (Finset.univ.filter fun b : Ref sig .tc => b.isScoped) = ∅ := by decide

theorem scopedSems_eq : (Finset.univ.filter fun sm : SemLoc sig => sm.isScoped .tc) = ∅ := by decide

theorem ops_sub : (opsIndex (F := Ideal) ++ opsSlice ++ opsGrad ++ opsStep).Forall fun op : HloOp τ sig (Elt Ideal) => op.bufs ⊆ tcRefs τ sig :=
  ⟨unary_bufs_sub .., reshape_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., unary_bufs_sub .., nullary_bufs_sub .., binary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

theorem after_join (l₁ l₂ : List (HloOp τ sig (Elt Ideal))) (V : Valuation τ sig (Elt Ideal)) : after (l₁ ++ l₂) V = after l₂ (after l₁ V) := by
  induction l₁ generalizing V with
  | nil => rfl
  | cons op l ih => exact ih _

section

variable (V : Valuation τ sig (Elt Ideal))

/-- The index along the first axis: the chip's number, counted from the end where it is negative. -/
theorem index_0 : after opsIndex V main_v4 = (select (cmpi .slt (shapeCast S_ (V main_arg2 : IVec S1 32) shapeCasts_S1_S_) (constantI S_ 32 0#32)) (addi (shapeCast S_ (V main_arg2 : IVec S1 32) shapeCasts_S1_S_) (constantI S_ 32 4#32)) (shapeCast S_ (V main_arg2 : IVec S1 32) shapeCasts_S1_S_) : IVec S_ 32) := by
  after_results_simp <;> rfl

theorem index_1 : after opsIndex V main_v7 = (select (cmpi .slt (constantI S_ 32 0#32) (constantI S_ 32 0#32)) (addi (constantI S_ 32 0#32) (constantI S_ 32 256#32)) (constantI S_ 32 0#32) : IVec S_ 32) := by
  after_results_simp <;> rfl

theorem index_2 : after opsIndex V main_v10 = (select (cmpi .slt (constantI S_ 32 0#32) (constantI S_ 32 0#32)) (addi (constantI S_ 32 0#32) (constantI S_ 32 2048#32)) (constantI S_ 32 0#32) : IVec S_ 32) := by
  after_results_simp <;> rfl

theorem sums : after opsIndex V main_v0 = (extf .f32 (V main_arg0 : FVec Ideal S4x256x2048 .bf16) bitsLt_bf16_f32 : FVec Ideal S4x256x2048 .f32) := by
  after_results_simp <;> rfl

/-- The slice, at the index of its three places. -/
theorem slice : after opsSlice V main_v11 = (Host.dynamicSlice S1x256x2048 (V main_v0 : FVec Ideal S4x256x2048 .f32) (fun k => ((![(V main_v4 : IVec S_ 32), (V main_v7 : IVec S_ 32), (V main_v10 : IVec S_ 32)] : Fin 3 → IVec S_ 32) k (Shape.Idx.first h_S_)).toInt) sliceFits_S4x256x2048_S1x256x2048 : FVec Ideal S1x256x2048 .f32) := by
  unfold opsSlice
  rw [after_cons, after_nil]
  refine (unaryIndexed_result _ _ _ _ _ _ _ _ _ V).trans ?_
  refine congrArg (fun q : Fin 3 → Int => (Host.dynamicSlice S1x256x2048 (V main_v0 : FVec Ideal S4x256x2048 .f32) q sliceFits_S4x256x2048_S1x256x2048 : FVec Ideal S1x256x2048 .f32)) (funext fun k => ?_)
  match k with
  | ⟨0, _⟩ => rfl
  | ⟨1, _⟩ => rfl
  | ⟨2, _⟩ => rfl

theorem sum_result : after opsGrad V main_v15 = (addf (V main_v11 : FVec Ideal S1x256x2048 .f32) (broadcastInDim S1x256x2048 ![1, 2] bcast_S256x2048_S1x256x2048_1_2 (Host.reduceAdd (extf .f32 (V main_arg1 : FVec Ideal S3x256x2048 .bf16) bitsLt_bf16_f32) (constant S_ .f32 0x00000000#32) reducesTo_S3x256x2048_S256x2048_d0 h_S_)) : FVec Ideal S1x256x2048 .f32) := by
  after_results_simp <;> rfl

theorem grad_result : after opsStep V main_v15 = V main_v15 := by
  after_results_simp

theorem first_result : after opsStep V main_v20 = first (V main_v15) (V main_arg4) := by
  after_results_simp <;> rfl

theorem second_result : after opsStep V main_v26 = second (V main_v15) (V main_arg5) := by
  after_results_simp <;> rfl

theorem change_result : after opsStep V main_v39 = change (V main_v15) (V main_arg3) (V main_arg4) (V main_arg5) := by
  after_results_simp <;> rfl

/-- No operation writes an argument. -/
theorem kept_0 : after opsStep (after opsGrad (after opsSlice (after opsIndex V))) main_arg0 = V main_arg0 := by
  unfold opsStep opsGrad opsSlice opsIndex
  after_results_simp

theorem kept_1 : after opsStep (after opsGrad (after opsSlice (after opsIndex V))) main_arg1 = V main_arg1 := by
  unfold opsStep opsGrad opsSlice opsIndex
  after_results_simp

theorem kept_2 : after opsStep (after opsGrad (after opsSlice (after opsIndex V))) main_arg2 = V main_arg2 := by
  unfold opsStep opsGrad opsSlice opsIndex
  after_results_simp

theorem kept_3 : after opsStep (after opsGrad (after opsSlice (after opsIndex V))) main_arg3 = V main_arg3 := by
  unfold opsStep opsGrad opsSlice opsIndex
  after_results_simp

theorem kept_4 : after opsStep (after opsGrad (after opsSlice (after opsIndex V))) main_arg4 = V main_arg4 := by
  unfold opsStep opsGrad opsSlice opsIndex
  after_results_simp

theorem kept_5 : after opsStep (after opsGrad (after opsSlice (after opsIndex V))) main_arg5 = V main_arg5 := by
  unfold opsStep opsGrad opsSlice opsIndex
  after_results_simp

theorem kept_6 : after opsStep (after opsGrad (after opsSlice (after opsIndex V))) main_arg6 = V main_arg6 := by
  unfold opsStep opsGrad opsSlice opsIndex
  after_results_simp

theorem kept_7 : after opsStep (after opsGrad (after opsSlice (after opsIndex V))) main_arg7 = V main_arg7 := by
  unfold opsStep opsGrad opsSlice opsIndex
  after_results_simp

theorem kept_8 : after opsStep (after opsGrad (after opsSlice (after opsIndex V))) main_arg8 = V main_arg8 := by
  unfold opsStep opsGrad opsSlice opsIndex
  after_results_simp

theorem kept_9 : after opsStep (after opsGrad (after opsSlice (after opsIndex V))) main_arg9 = V main_arg9 := by
  unfold opsStep opsGrad opsSlice opsIndex
  after_results_simp

/-- The gradient before the step. -/
theorem sum_before : after opsGrad (after opsSlice (after opsIndex V)) main_v15 = grad (V main_arg0) (V main_arg1) (V main_arg2) := by
  have k : after opsSlice (after opsIndex V) main_arg1 = V main_arg1 := by
    unfold opsSlice opsIndex
    after_results_simp
  rw [sum_result, slice, k, index_0, index_1, index_2, sums]
  rfl

theorem before_3 : after opsGrad (after opsSlice (after opsIndex V)) main_arg3 = V main_arg3 := by
  unfold opsGrad opsSlice opsIndex
  after_results_simp

theorem before_4 : after opsGrad (after opsSlice (after opsIndex V)) main_arg4 = V main_arg4 := by
  unfold opsGrad opsSlice opsIndex
  after_results_simp

theorem before_5 : after opsGrad (after opsSlice (after opsIndex V)) main_arg5 = V main_arg5 := by
  unfold opsGrad opsSlice opsIndex
  after_results_simp

end

/-- Every execution of the reference ends with the four results at these arrays, and the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = grad (m ((c.tc : Thread nD τ).loc main_arg0)) (m ((c.tc : Thread nD τ).loc main_arg1)) (m ((c.tc : Thread nD τ).loc main_arg2))
      ∧ r.2.mem ((c.tc : Thread nD τ).loc main_v39) = change (grad (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5))
      ∧ r.2.mem ((c.tc : Thread nD τ).loc main_v20) = first (grad (m ((c.tc : Thread nD τ).loc main_arg0)) (m ((c.tc : Thread nD τ).loc main_arg1)) (m ((c.tc : Thread nD τ).loc main_arg2))) (m ((c.tc : Thread nD τ).loc main_arg4))
      ∧ r.2.mem ((c.tc : Thread nD τ).loc main_v26) = second (grad (m ((c.tc : Thread nD τ).loc main_arg0)) (m ((c.tc : Thread nD τ).loc main_arg1)) (m ((c.tc : Thread nD τ).loc main_arg2))) (m ((c.tc : Thread nD τ).loc main_arg5))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) :=
  (θ_run defs _ _).mono (fun r h c => by
    have e : ∀ b : Ref sig .tc, r.2.mem ((c.tc : Thread nD τ).loc b)
        = after opsStep (after opsGrad (after opsSlice (after opsIndex (launchContents m c)))) (Proc.devRef .tc b) := fun b =>
      (h c b).trans (congrFun ((after_join _ _ _).trans (congrArg (after opsStep) ((after_join _ _ _).trans (congrArg (after opsGrad) (after_join _ _ _))))) _)
    refine ⟨(e main_v15).trans ?_, (e main_v39).trans ?_, (e main_v20).trans ?_, (e main_v26).trans ?_, (e main_arg0).trans (kept_0 _), (e main_arg1).trans (kept_1 _), (e main_arg2).trans (kept_2 _), (e main_arg3).trans (kept_3 _), (e main_arg4).trans (kept_4 _), (e main_arg5).trans (kept_5 _), (e main_arg6).trans (kept_6 _), (e main_arg7).trans (kept_7 _), (e main_arg8).trans (kept_8 _), (e main_arg9).trans (kept_9 _)⟩
    · exact (grad_result _).trans (sum_before _)
    · refine (change_result _).trans ?_
      rw [sum_before, before_3, before_4, before_5]
    · refine (first_result _).trans ?_
      rw [sum_before, before_4]
    · refine (second_result _).trans ?_
      rw [sum_before, before_5])
    (run_seq scopedRefs_eq scopedSems_eq defs main (fun _ => opsIndex ++ opsSlice ++ opsGrad ++ opsStep) main_eq (fun _ => ops_sub) m ρ)

end Cert.Reference25Ideal.WideOut

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21Ideal
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22Ideal
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23Ideal
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24Ideal
public import proofs.«01_k».proof.Proof.Gen.Kernel24Ideal.Frame
public import proofs.«01_k».proof.Proof.Gen.Reference24Ideal
public import proofs.«01_k».proof.Proof.Gen.Pre_chip_named24
public import proofs.«01_k».proof.Proof.Gen.Kernel25
public import proofs.«01_k».proof.Proof.Gen.Kernel25Ideal
public import proofs.«01_k».proof.Proof.Gen.Kernel25Ideal.Frame
public import proofs.«01_k».proof.Proof.Gen.Reference25Ideal
public import proofs.«01_k».proof.Proof.Gen.Pre_chip_named25
public import proofs.«01_k».proof.Proof.Gen.Pre_finite
public import proofs.«01_k».proof.Proof.Gate.Reference
public import proofs.«01_k».proof.Proof.Dwin.Reference
public import proofs.«01_k».proof.Proof.Dwout.Reference
public import proofs.«01_k».proof.Proof.Sgu.Reference
public import proofs.«01_k».proof.Proof.FfnOut.Reference
public import proofs.«01_k».proof.Proof.Nt.Reference
public import proofs.«01_k».proof.Proof.EDwout.Reference
public import proofs.«01_k».proof.Proof.GmIn.Reference
public import proofs.«01_k».proof.Proof.CvIn.Reference
public import proofs.«01_k».proof.Proof.GmDwin.Reference
public import proofs.«01_k».proof.Proof.CvDwin.Reference
public import proofs.«01_k».proof.Proof.GmOut.Reference
public import proofs.«01_k».proof.Proof.CvOut.Reference
public import proofs.«01_k».proof.Proof.Adam.AdaWReference
public import proofs.«01_k».proof.Proof.Adam.AdaBReference
public import proofs.«01_k».proof.Proof.Adam.NormGReference
public import proofs.«01_k».proof.Proof.Adam.GmLnReference
public import proofs.«01_k».proof.Proof.Adam.GmWsReference
public import proofs.«01_k».proof.Proof.Adam.GmBsReference
public import proofs.«01_k».proof.Proof.Adam.CvBInReference
public import proofs.«01_k».proof.Proof.Adam.CvDwWReference
public import proofs.«01_k».proof.Proof.Adam.CvRowReference
public import proofs.«01_k».proof.Proof.Adam.FinalGReference
public import proofs.«01_k».proof.Proof.Adam.WideInReference
public import proofs.«01_k».proof.Proof.Adam.WideOutReference
public import Idealize.ShloMosaic.Adequacy
public import Idealize.ShloMosaic.Init
public import Idealize.ShloMosaic.Lib.Quiescent

@[expose] public section

noncomputable section

namespace Cert.Proof

open Idealize.ShloMosaic Idealize.SL.Sem

/-! ## The frames -/

/-- The two printed programs' kernels are one table. -/
theorem table_gate {F : FTy → Type} [FloatOps F] : Cert.Kernel.defs (F := F) = Cert.KernelIdeal.defs (F := F) :=
  congrArg (Pipeline.defs _) (congrArg Defs.onTc (funext fun l => funext fun x => match l, x with
    | 0, (_, _) => rfl
    | 1, (_, _) => rfl
    | ⟨_ + 2, h⟩, _ => absurd h (Nat.not_lt.2 (Nat.le_add_left _ _))))

/-- The gated unit's calls, on machine words: the run over any float values, taken at words. -/
theorem frame_gate_bits : Cert.quiescent_Kernel := fun m ρ _ => by
  rw [table_gate]
  exact Cert.KernelIdeal.Gen.frame (F := Bits) m ρ

theorem frame_gate : Cert.quiescent_KernelIdeal := fun m ρ _ => Cert.KernelIdeal.Gen.frame m ρ

theorem frame_gate_pre : Cert.quiescent_KernelIdeal_pre_finite := fun m ρ _ => Cert.KernelIdeal.Gen.frame m ρ

/-- The reference's run: it has no counters. -/
theorem frame_reference : Cert.quiescent_ReferenceIdeal := fun m ρ _ =>
  (θ_run Cert.ReferenceIdeal.defs _ _).mono (fun r h => And.intro (fun c => (h c).2.2) (sem_eq_zero_of_no_sems (by decide) r.2))
    (Cert.ReferenceIdeal.Value.run (F := Ideal) m ρ)

theorem frame_reference_pre : Cert.quiescent_ReferenceIdeal_pre_finite := fun m ρ _ => frame_reference m ρ trivial

/-- The two printed programs' kernels are one table. -/
theorem table_dwin {F : FTy → Type} [FloatOps F] : Cert.Kernel2.defs (F := F) = Cert.Kernel2Ideal.defs (F := F) :=
  congrArg (Pipeline.defs _) (congrArg Defs.onTc (funext fun l => funext fun x => match l, x with
    | 0, (_, _) => rfl
    | ⟨_ + 1, h⟩, _ => absurd h (Nat.not_lt.2 (Nat.le_add_left _ _))))

/-- The input weights' gradient, on machine words. -/
theorem frame_dwin_bits : Cert.quiescent_Kernel2 := fun m ρ _ => by
  rw [table_dwin]
  exact Cert.Kernel2Ideal.Gen.frame (F := Bits) m ρ

theorem frame_dwin : Cert.quiescent_Kernel2Ideal := fun m ρ _ => Cert.Kernel2Ideal.Gen.frame m ρ

theorem frame_dwin_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The two printed programs' kernels are one table. -/
theorem table_dwout {F : FTy → Type} [FloatOps F] : Cert.Kernel3.defs (F := F) = Cert.Kernel3Ideal.defs (F := F) :=
  congrArg (Pipeline.defs _) (congrArg Defs.onTc (funext fun l => funext fun x => match l, x with
    | 0, (_, _) => rfl
    | ⟨_ + 1, h⟩, _ => absurd h (Nat.not_lt.2 (Nat.le_add_left _ _))))

/-- The output weights' gradient, on machine words. -/
theorem frame_dwout_bits : Cert.quiescent_Kernel3 := fun m ρ _ => by
  rw [table_dwout]
  exact Cert.Kernel3Ideal.Gen.frame (F := Bits) m ρ

theorem frame_dwout : Cert.quiescent_Kernel3Ideal := fun m ρ _ => Cert.Kernel3Ideal.Gen.frame m ρ

theorem frame_dwout_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The two printed programs' kernels are one table. -/
theorem table_sgu {F : FTy → Type} [FloatOps F] : Cert.Kernel4.defs (F := F) = Cert.Kernel4Ideal.defs (F := F) :=
  congrArg (Pipeline.defs _) (congrArg Defs.onTc (funext fun l => funext fun x => match l, x with
    | 0, (_, _) => rfl
    | ⟨_ + 1, h⟩, _ => absurd h (Nat.not_lt.2 (Nat.le_add_left _ _))))

/-- The gating gradient, on machine words. -/
theorem frame_sgu_bits : Cert.quiescent_Kernel4 := fun m ρ _ => by
  rw [table_sgu]
  exact Cert.Kernel4Ideal.Sgu.frame_run (F := Bits) m ρ

theorem frame_sgu : Cert.quiescent_Kernel4Ideal := fun m ρ _ => Cert.Kernel4Ideal.Sgu.frame_run m ρ

theorem frame_sgu_reference : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

/-- The two printed programs' kernels are one table. -/
theorem table_ffn_out {F : FTy → Type} [FloatOps F] : Cert.Kernel5.defs (F := F) = Cert.Kernel5Ideal.defs (F := F) :=
  congrArg (Pipeline.defs _) (congrArg Defs.onTc (funext fun l => funext fun x => match l, x with
    | 0, (_, _) => rfl
    | ⟨_ + 1, h⟩, _ => absurd h (Nat.not_lt.2 (Nat.le_add_left _ _))))

/-- The feed-forward block's second product, on machine words. -/
theorem frame_ffn_out_bits : Cert.quiescent_Kernel5 := fun m ρ _ => by
  rw [table_ffn_out]
  exact Cert.Kernel5Ideal.Gen.frame (F := Bits) m ρ

theorem frame_ffn_out : Cert.quiescent_Kernel5Ideal := fun m ρ _ => Cert.Kernel5Ideal.Gen.frame m ρ

theorem frame_ffn_out_reference : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- The two printed programs' kernels are one table. -/
theorem table_nt {F : FTy → Type} [FloatOps F] : Cert.Kernel6.defs (F := F) = Cert.Kernel6Ideal.defs (F := F) :=
  congrArg (Pipeline.defs _) (congrArg Defs.onTc (funext fun l => funext fun x => match l, x with
    | 0, (_, _) => rfl
    | ⟨_ + 1, h⟩, _ => absurd h (Nat.not_lt.2 (Nat.le_add_left _ _))))

/-- The gradient of a token mixer's activation, on machine words. -/
theorem frame_nt_bits : Cert.quiescent_Kernel6 := fun m ρ _ => by
  rw [table_nt]
  exact Cert.Kernel6Ideal.Gen.frame (F := Bits) m ρ

theorem frame_nt : Cert.quiescent_Kernel6Ideal := fun m ρ _ => Cert.Kernel6Ideal.Gen.frame m ρ

theorem frame_nt_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The two printed programs' kernels are one table. -/
theorem table_edwout {F : FTy → Type} [FloatOps F] : Cert.Kernel7.defs (F := F) = Cert.Kernel7Ideal.defs (F := F) :=
  congrArg (Pipeline.defs _) (congrArg Defs.onTc (funext fun l => funext fun x => match l, x with
    | 0, (_, _) => rfl
    | ⟨_ + 1, h⟩, _ => absurd h (Nat.not_lt.2 (Nat.le_add_left _ _))))

/-- The gradient of a token mixer's second weight, on machine words. -/
theorem frame_edwout_bits : Cert.quiescent_Kernel7 := fun m ρ _ => by
  rw [table_edwout]
  exact Cert.Kernel7Ideal.Gen.frame (F := Bits) m ρ

theorem frame_edwout : Cert.quiescent_Kernel7Ideal := fun m ρ _ => Cert.Kernel7Ideal.Gen.frame m ρ

theorem frame_edwout_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The two printed programs' kernels are one table. -/
theorem table_gm_in {F : FTy → Type} [FloatOps F] : Cert.Kernel8.defs (F := F) = Cert.Kernel8Ideal.defs (F := F) :=
  congrArg (Pipeline.defs _) (congrArg Defs.onTc (funext fun l => funext fun x => match l, x with
    | 0, (_, _) => rfl
    | ⟨_ + 1, h⟩, _ => absurd h (Nat.not_lt.2 (Nat.le_add_left _ _))))

/-- The spatial gating mixer's first product, on machine words. -/
theorem frame_gm_in_bits : Cert.quiescent_Kernel8 := fun m ρ _ => by
  rw [table_gm_in]
  exact Cert.Kernel8Ideal.Gen.frame (F := Bits) m ρ

theorem frame_gm_in : Cert.quiescent_Kernel8Ideal := fun m ρ _ => Cert.Kernel8Ideal.Gen.frame m ρ

theorem frame_gm_in_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The two printed programs' kernels are one table. -/
theorem table_cv_in {F : FTy → Type} [FloatOps F] : Cert.Kernel9.defs (F := F) = Cert.Kernel9Ideal.defs (F := F) :=
  congrArg (Pipeline.defs _) (congrArg Defs.onTc (funext fun l => funext fun x => match l, x with
    | 0, (_, _) => rfl
    | ⟨_ + 1, h⟩, _ => absurd h (Nat.not_lt.2 (Nat.le_add_left _ _))))

/-- The convolution mixer's first product, on machine words. -/
theorem frame_cv_in_bits : Cert.quiescent_Kernel9 := fun m ρ _ => by
  rw [table_cv_in]
  exact Cert.Kernel9Ideal.Gen.frame (F := Bits) m ρ

theorem frame_cv_in : Cert.quiescent_Kernel9Ideal := fun m ρ _ => Cert.Kernel9Ideal.Gen.frame m ρ

theorem frame_cv_in_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The two printed programs' kernels are one table. -/
theorem table_gm_dwin {F : FTy → Type} [FloatOps F] : Cert.Kernel10.defs (F := F) = Cert.Kernel10Ideal.defs (F := F) :=
  congrArg (Pipeline.defs _) (congrArg Defs.onTc (funext fun l => funext fun x => match l, x with
    | 0, (_, _) => rfl
    | ⟨_ + 1, h⟩, _ => absurd h (Nat.not_lt.2 (Nat.le_add_left _ _))))

/-- The gradient of the spatial gating mixer's first weight, on machine words. -/
theorem frame_gm_dwin_bits : Cert.quiescent_Kernel10 := fun m ρ _ => by
  rw [table_gm_dwin]
  exact Cert.Kernel10Ideal.Gen.frame (F := Bits) m ρ

theorem frame_gm_dwin : Cert.quiescent_Kernel10Ideal := fun m ρ _ => Cert.Kernel10Ideal.Gen.frame m ρ

theorem frame_gm_dwin_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The two printed programs' kernels are one table. -/
theorem table_cv_dwin {F : FTy → Type} [FloatOps F] : Cert.Kernel11.defs (F := F) = Cert.Kernel11Ideal.defs (F := F) :=
  congrArg (Pipeline.defs _) (congrArg Defs.onTc (funext fun l => funext fun x => match l, x with
    | 0, (_, _) => rfl
    | ⟨_ + 1, h⟩, _ => absurd h (Nat.not_lt.2 (Nat.le_add_left _ _))))

/-- The gradient of the convolution mixer's first weight, on machine words. -/
theorem frame_cv_dwin_bits : Cert.quiescent_Kernel11 := fun m ρ _ => by
  rw [table_cv_dwin]
  exact Cert.Kernel11Ideal.Gen.frame (F := Bits) m ρ

theorem frame_cv_dwin : Cert.quiescent_Kernel11Ideal := fun m ρ _ => Cert.Kernel11Ideal.Gen.frame m ρ

theorem frame_cv_dwin_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The two printed programs' kernels are one table. -/
theorem table_gm_out {F : FTy → Type} [FloatOps F] : Cert.Kernel12.defs (F := F) = Cert.Kernel12Ideal.defs (F := F) :=
  congrArg (Pipeline.defs _) (congrArg Defs.onTc (funext fun l => funext fun x => match l, x with
    | 0, (_, _) => rfl
    | ⟨_ + 1, h⟩, _ => absurd h (Nat.not_lt.2 (Nat.le_add_left _ _))))

/-- The spatial gating mixer's second product, on machine words. -/
theorem frame_gm_out_bits : Cert.quiescent_Kernel12 := fun m ρ _ => by
  rw [table_gm_out]
  exact Cert.Kernel12Ideal.Gen.frame (F := Bits) m ρ

theorem frame_gm_out : Cert.quiescent_Kernel12Ideal := fun m ρ _ => Cert.Kernel12Ideal.Gen.frame m ρ

theorem frame_gm_out_reference : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)

/-- The two printed programs' kernels are one table. -/
theorem table_cv_out {F : FTy → Type} [FloatOps F] : Cert.Kernel13.defs (F := F) = Cert.Kernel13Ideal.defs (F := F) :=
  congrArg (Pipeline.defs _) (congrArg Defs.onTc (funext fun l => funext fun x => match l, x with
    | 0, (_, _) => rfl
    | ⟨_ + 1, h⟩, _ => absurd h (Nat.not_lt.2 (Nat.le_add_left _ _))))

/-- The convolution mixer's second product, on machine words. -/
theorem frame_cv_out_bits : Cert.quiescent_Kernel13 := fun m ρ _ => by
  rw [table_cv_out]
  exact Cert.Kernel13Ideal.Gen.frame (F := Bits) m ρ

theorem frame_cv_out : Cert.quiescent_Kernel13Ideal := fun m ρ _ => Cert.Kernel13Ideal.Gen.frame m ρ

theorem frame_cv_out_reference : Cert.quiescent_Reference13Ideal := fun m ρ _ =>
  (θ_run Cert.Reference13Ideal.defs _ _).mono (fun r h => ⟨fun c => (h c).2.2, sem_eq_zero_of_no_sems (by decide) r.2⟩)
    (Cert.Reference13Ideal.Value.run (F := Ideal) m ρ)

/-- The two printed programs' kernels are one table. -/
theorem table_ada_w {F : FTy → Type} [FloatOps F] : Cert.Kernel14.defs (F := F) = Cert.Kernel14Ideal.defs (F := F) :=
  congrArg (Pipeline.defs _) (congrArg Defs.onTc (funext fun l => funext fun x => match l, x with
    | 0, (_, _) => rfl
    | ⟨_ + 1, h⟩, _ => absurd h (Nat.not_lt.2 (Nat.le_add_left _ _))))

/-- The modulation weight's gradient and step, on machine words. -/
theorem frame_ada_w_bits : Cert.quiescent_Kernel14 := fun m ρ _ => by
  rw [table_ada_w]
  exact Cert.Kernel14Ideal.Gen.frame (F := Bits) m ρ

theorem frame_ada_w : Cert.quiescent_Kernel14Ideal := fun m ρ _ => Cert.Kernel14Ideal.Gen.frame m ρ

theorem frame_ada_w_reference : Cert.quiescent_Reference14Ideal := fun m ρ _ =>
  (θ_run Cert.Reference14Ideal.defs _ _).mono (fun r h => ⟨fun c => (h c).2.2.2.2, sem_eq_zero_of_no_sems (by decide) r.2⟩)
    (Cert.Reference14Ideal.Value.run (F := Ideal) m ρ)

/-- The two printed programs' kernels are one table. -/
theorem table_ada_b {F : FTy → Type} [FloatOps F] : Cert.Kernel15.defs (F := F) = Cert.Kernel15Ideal.defs (F := F) :=
  congrArg (Pipeline.defs _) (congrArg Defs.onTc (funext fun l => funext fun x => match l, x with
    | 0, (_, _) => rfl
    | ⟨_ + 1, h⟩, _ => absurd h (Nat.not_lt.2 (Nat.le_add_left _ _))))

/-- The step of the modulation's bias, on machine words. -/
theorem frame_ada_b_bits : Cert.quiescent_Kernel15 := fun m ρ _ => by
  rw [table_ada_b]
  exact Cert.Kernel15Ideal.Gen.frame (F := Bits) m ρ

theorem frame_ada_b : Cert.quiescent_Kernel15Ideal := fun m ρ _ => Cert.Kernel15Ideal.Gen.frame m ρ

theorem frame_ada_b_reference : Cert.quiescent_Reference15Ideal := fun m ρ _ =>
  (θ_run Cert.Reference15Ideal.defs _ _).mono (fun r h => ⟨fun c => (h c).2.2.2.2, sem_eq_zero_of_no_sems (by decide) r.2⟩)
    (Cert.Reference15Ideal.Value.run (F := Ideal) m ρ)

/-- The two printed programs' kernels are one table. -/
theorem table_norm_g {F : FTy → Type} [FloatOps F] : Cert.Kernel16.defs (F := F) = Cert.Kernel16Ideal.defs (F := F) :=
  congrArg (Pipeline.defs _) (congrArg Defs.onTc (funext fun l => funext fun x => match l, x with
    | 0, (_, _) => rfl
    | ⟨_ + 1, h⟩, _ => absurd h (Nat.not_lt.2 (Nat.le_add_left _ _))))

/-- The step of the norms' gains, on machine words. -/
theorem frame_norm_g_bits : Cert.quiescent_Kernel16 := fun m ρ _ => by
  rw [table_norm_g]
  exact Cert.Kernel16Ideal.Gen.frame (F := Bits) m ρ

theorem frame_norm_g : Cert.quiescent_Kernel16Ideal := fun m ρ _ => Cert.Kernel16Ideal.Gen.frame m ρ

theorem frame_norm_g_reference : Cert.quiescent_Reference16Ideal := fun m ρ _ =>
  (θ_run Cert.Reference16Ideal.defs _ _).mono (fun r h => ⟨fun c => (h c).2.2.2.2, sem_eq_zero_of_no_sems (by decide) r.2⟩)
    (Cert.Reference16Ideal.Value.run (F := Ideal) m ρ)

/-- The two printed programs' kernels are one table. -/
theorem table_gm_ln {F : FTy → Type} [FloatOps F] : Cert.Kernel17.defs (F := F) = Cert.Kernel17Ideal.defs (F := F) :=
  congrArg (Pipeline.defs _) (congrArg Defs.onTc (funext fun l => funext fun x => match l, x with
    | 0, (_, _) => rfl
    | ⟨_ + 1, h⟩, _ => absurd h (Nat.not_lt.2 (Nat.le_add_left _ _))))

/-- The step of the gating mixer's norm, on machine words. -/
theorem frame_gm_ln_bits : Cert.quiescent_Kernel17 := fun m ρ _ => by
  rw [table_gm_ln]
  exact Cert.Kernel17Ideal.Gen.frame (F := Bits) m ρ

theorem frame_gm_ln : Cert.quiescent_Kernel17Ideal := fun m ρ _ => Cert.Kernel17Ideal.Gen.frame m ρ

theorem frame_gm_ln_reference : Cert.quiescent_Reference17Ideal := fun m ρ _ =>
  (θ_run Cert.Reference17Ideal.defs _ _).mono (fun r h => ⟨fun c => (h c).2.2.2.2, sem_eq_zero_of_no_sems (by decide) r.2⟩)
    (Cert.Reference17Ideal.Value.run (F := Ideal) m ρ)

/-- The two printed programs' kernels are one table. -/
theorem table_gm_ws {F : FTy → Type} [FloatOps F] : Cert.Kernel18.defs (F := F) = Cert.Kernel18Ideal.defs (F := F) :=
  congrArg (Pipeline.defs _) (congrArg Defs.onTc (funext fun l => funext fun x => match l, x with
    | 0, (_, _) => rfl
    | ⟨_ + 1, h⟩, _ => absurd h (Nat.not_lt.2 (Nat.le_add_left _ _))))

/-- The step of the spatial weights, on machine words. -/
theorem frame_gm_ws_bits : Cert.quiescent_Kernel18 := fun m ρ _ => by
  rw [table_gm_ws]
  exact Cert.Kernel18Ideal.Gen.frame (F := Bits) m ρ

theorem frame_gm_ws : Cert.quiescent_Kernel18Ideal := fun m ρ _ => Cert.Kernel18Ideal.Gen.frame m ρ

theorem frame_gm_ws_reference : Cert.quiescent_Reference18Ideal := fun m ρ _ =>
  (θ_run Cert.Reference18Ideal.defs _ _).mono (fun r h => ⟨fun c => (h c).2.2.2.2, sem_eq_zero_of_no_sems (by decide) r.2⟩)
    (Cert.Reference18Ideal.Value.run (F := Ideal) m ρ)

/-- The two printed programs' kernels are one table. -/
theorem table_gm_bs {F : FTy → Type} [FloatOps F] : Cert.Kernel19.defs (F := F) = Cert.Kernel19Ideal.defs (F := F) :=
  congrArg (Pipeline.defs _) (congrArg Defs.onTc (funext fun l => funext fun x => match l, x with
    | 0, (_, _) => rfl
    | ⟨_ + 1, h⟩, _ => absurd h (Nat.not_lt.2 (Nat.le_add_left _ _))))

/-- The step of the spatial biases, on machine words. -/
theorem frame_gm_bs_bits : Cert.quiescent_Kernel19 := fun m ρ _ => by
  rw [table_gm_bs]
  exact Cert.Kernel19Ideal.Gen.frame (F := Bits) m ρ

theorem frame_gm_bs : Cert.quiescent_Kernel19Ideal := fun m ρ _ => Cert.Kernel19Ideal.Gen.frame m ρ

theorem frame_gm_bs_reference : Cert.quiescent_Reference19Ideal := fun m ρ _ =>
  (θ_run Cert.Reference19Ideal.defs _ _).mono (fun r h => ⟨fun c => (h c).2.2.2.2, sem_eq_zero_of_no_sems (by decide) r.2⟩)
    (Cert.Reference19Ideal.Value.run (F := Ideal) m ρ)

/-- The two printed programs' kernels are one table. -/
theorem table_cv_b_in {F : FTy → Type} [FloatOps F] : Cert.Kernel20.defs (F := F) = Cert.Kernel20Ideal.defs (F := F) :=
  congrArg (Pipeline.defs _) (congrArg Defs.onTc (funext fun l => funext fun x => match l, x with
    | 0, (_, _) => rfl
    | ⟨_ + 1, h⟩, _ => absurd h (Nat.not_lt.2 (Nat.le_add_left _ _))))

/-- The step of the convolution mixer's first bias, on machine words. -/
theorem frame_cv_b_in_bits : Cert.quiescent_Kernel20 := fun m ρ _ => by
  rw [table_cv_b_in]
  exact Cert.Kernel20Ideal.Gen.frame (F := Bits) m ρ

theorem frame_cv_b_in : Cert.quiescent_Kernel20Ideal := fun m ρ _ => Cert.Kernel20Ideal.Gen.frame m ρ

theorem frame_cv_b_in_reference : Cert.quiescent_Reference20Ideal := fun m ρ _ =>
  (θ_run Cert.Reference20Ideal.defs _ _).mono (fun r h => ⟨fun c => (h c).2.2.2.2, sem_eq_zero_of_no_sems (by decide) r.2⟩)
    (Cert.Reference20Ideal.Value.run (F := Ideal) m ρ)

/-- The two printed programs' kernels are one table. -/
theorem table_cv_dw_w {F : FTy → Type} [FloatOps F] : Cert.Kernel21.defs (F := F) = Cert.Kernel21Ideal.defs (F := F) :=
  congrArg (Pipeline.defs _) (congrArg Defs.onTc (funext fun l => funext fun x => match l, x with
    | 0, (_, _) => rfl
    | ⟨_ + 1, h⟩, _ => absurd h (Nat.not_lt.2 (Nat.le_add_left _ _))))

/-- The step of the convolution's taps, on machine words. -/
theorem frame_cv_dw_w_bits : Cert.quiescent_Kernel21 := fun m ρ _ => by
  rw [table_cv_dw_w]
  exact Cert.Kernel21Ideal.Gen.frame (F := Bits) m ρ

theorem frame_cv_dw_w : Cert.quiescent_Kernel21Ideal := fun m ρ _ => Cert.Kernel21Ideal.Gen.frame m ρ

theorem frame_cv_dw_w_reference : Cert.quiescent_Reference21Ideal := fun m ρ _ =>
  (θ_run Cert.Reference21Ideal.defs _ _).mono (fun r h => ⟨fun c => (h c).2.2.2.2, sem_eq_zero_of_no_sems (by decide) r.2⟩)
    (Cert.Reference21Ideal.Value.run (F := Ideal) m ρ)

/-- The two printed programs' kernels are one table. -/
theorem table_cv_row {F : FTy → Type} [FloatOps F] : Cert.Kernel22.defs (F := F) = Cert.Kernel22Ideal.defs (F := F) :=
  congrArg (Pipeline.defs _) (congrArg Defs.onTc (funext fun l => funext fun x => match l, x with
    | 0, (_, _) => rfl
    | ⟨_ + 1, h⟩, _ => absurd h (Nat.not_lt.2 (Nat.le_add_left _ _))))

/-- The step of the convolution mixer's rows, on machine words. -/
theorem frame_cv_row_bits : Cert.quiescent_Kernel22 := fun m ρ _ => by
  rw [table_cv_row]
  exact Cert.Kernel22Ideal.Gen.frame (F := Bits) m ρ

theorem frame_cv_row : Cert.quiescent_Kernel22Ideal := fun m ρ _ => Cert.Kernel22Ideal.Gen.frame m ρ

theorem frame_cv_row_reference : Cert.quiescent_Reference22Ideal := fun m ρ _ =>
  (θ_run Cert.Reference22Ideal.defs _ _).mono (fun r h => ⟨fun c => (h c).2.2.2.2, sem_eq_zero_of_no_sems (by decide) r.2⟩)
    (Cert.Reference22Ideal.Value.run (F := Ideal) m ρ)

/-- The two printed programs' kernels are one table. -/
theorem table_final_g {F : FTy → Type} [FloatOps F] : Cert.Kernel23.defs (F := F) = Cert.Kernel23Ideal.defs (F := F) :=
  congrArg (Pipeline.defs _) (congrArg Defs.onTc (funext fun l => funext fun x => match l, x with
    | 0, (_, _) => rfl
    | ⟨_ + 1, h⟩, _ => absurd h (Nat.not_lt.2 (Nat.le_add_left _ _))))

/-- The step of the last norm's gain, on machine words. -/
theorem frame_final_g_bits : Cert.quiescent_Kernel23 := fun m ρ _ => by
  rw [table_final_g]
  exact Cert.Kernel23Ideal.Gen.frame (F := Bits) m ρ

theorem frame_final_g : Cert.quiescent_Kernel23Ideal := fun m ρ _ => Cert.Kernel23Ideal.Gen.frame m ρ

theorem frame_final_g_reference : Cert.quiescent_Reference23Ideal := fun m ρ _ =>
  (θ_run Cert.Reference23Ideal.defs _ _).mono (fun r h => ⟨fun c => (h c).2.2.2.2, sem_eq_zero_of_no_sems (by decide) r.2⟩)
    (Cert.Reference23Ideal.Value.run (F := Ideal) m ρ)

/-- The two printed programs' kernels are one table. -/
theorem table_wide_in {F : FTy → Type} [FloatOps F] : Cert.Kernel24.defs (F := F) = Cert.Kernel24Ideal.defs (F := F) :=
  congrArg (Pipeline.defs _) (congrArg Defs.onTc (funext fun l => funext fun x => match l, x with
    | 0, (_, _) => rfl
    | ⟨_ + 1, h⟩, _ => absurd h (Nat.not_lt.2 (Nat.le_add_left _ _))))

set_option maxHeartbeats 4000000 in
/-- The step of a token mixer's first weight, on machine words, where the chip's number is one of the four. -/
theorem frame_wide_in_bits : Cert.quiescent_Kernel24 := fun m ρ h => by
  rw [table_wide_in]
  exact Cert.Kernel24Ideal.Gen.frame (F := Bits) m ρ (Cert.Kernel24Ideal.WideIn.ok m (Cert.Kernel24Ideal.WideIn.named _ _ _ _ _ _ _ _ _ _ (h 0)))

theorem frame_wide_in : Cert.quiescent_Kernel24Ideal := fun m ρ h =>
  Cert.Kernel24Ideal.Gen.frame m ρ (Cert.Kernel24Ideal.WideIn.ok m (Cert.Kernel24Ideal.WideIn.named _ _ _ _ _ _ _ _ _ _ (h 0)))

theorem frame_wide_in_reference : Cert.quiescent_Reference24Ideal := fun m ρ _ =>
  (θ_run Cert.Reference24Ideal.defs _ _).mono (fun r h => ⟨fun c => (h c).2.2.2.2, sem_eq_zero_of_no_sems (by decide) r.2⟩)
    (Cert.Reference24Ideal.WideIn.run m ρ)

theorem frame_wide_in_reference_pre : Cert.quiescent_Reference24Ideal_pre_chip_named24 := fun m ρ _ => frame_wide_in_reference m ρ trivial

/-- The two printed programs' kernels are one table. -/
theorem table_wide_out {F : FTy → Type} [FloatOps F] : Cert.Kernel25.defs (F := F) = Cert.Kernel25Ideal.defs (F := F) :=
  congrArg (Pipeline.defs _) (congrArg Defs.onTc (funext fun l => funext fun x => match l, x with
    | 0, (_, _) => rfl
    | ⟨_ + 1, h⟩, _ => absurd h (Nat.not_lt.2 (Nat.le_add_left _ _))))

set_option maxHeartbeats 4000000 in
/-- The step of a token mixer's second weight, on machine words, where the chip's number is one of the four. -/
theorem frame_wide_out_bits : Cert.quiescent_Kernel25 := fun m ρ h => by
  rw [table_wide_out]
  exact Cert.Kernel25Ideal.Gen.frame (F := Bits) m ρ (Cert.Kernel25Ideal.WideOut.ok m (Cert.Kernel25Ideal.WideOut.named _ _ _ _ _ _ _ _ _ _ (h 0)))

theorem frame_wide_out : Cert.quiescent_Kernel25Ideal := fun m ρ h =>
  Cert.Kernel25Ideal.Gen.frame m ρ (Cert.Kernel25Ideal.WideOut.ok m (Cert.Kernel25Ideal.WideOut.named _ _ _ _ _ _ _ _ _ _ (h 0)))

theorem frame_wide_out_reference : Cert.quiescent_Reference25Ideal := fun m ρ _ =>
  (θ_run Cert.Reference25Ideal.defs _ _).mono (fun r h => ⟨fun c => (h c).2.2.2.2, sem_eq_zero_of_no_sems (by decide) r.2⟩)
    (Cert.Reference25Ideal.WideOut.run m ρ)

theorem frame_wide_out_reference_pre : Cert.quiescent_Reference25Ideal_pre_chip_named25 := fun m ρ _ => frame_wide_out_reference m ρ trivial

/-! ## The values -/

/-- On finite arguments the two calls end with the gradients and the activation the reference computes. -/
theorem algebraic_gate : Cert.algebraic_KernelIdeal_ReferenceIdeal_pre_finite := by
  intro m ρ m' ρ' hp hagree
  refine ⟨_, _, Cert.KernelIdeal.Gate.run m ρ, ?_⟩
  refine (θ_run Cert.ReferenceIdeal.defs _ _).mono (fun _ h c => ?_) (Cert.ReferenceIdeal.Value.run (F := Ideal) m' ρ')
  obtain ⟨hh, hw, ho, hy⟩ := Cert.KernelIdeal.Gate.finite_read _ _ _ _ (fun j => congrFun (hp c) j)
  obtain ⟨e0, e1, e2, e3⟩ := hagree c
  refine ⟨(h c).1.trans ?_, (h c).2.1.trans ?_, (h c).2.2⟩
  · refine Eq.trans ?_ (Cert.ReferenceIdeal.Gate.grad_eq _ _ _ _ hh hw ho hy)
    rw [← e0, ← e1, ← e2, ← e3]
    rfl
  · refine Eq.trans ?_ (Cert.ReferenceIdeal.Gate.act_eq _ _)
    rw [← e0, ← e1]
    rfl

/-- The input weights' gradient is the reference's. -/
theorem algebraic_dwin : Cert.algebraic_Kernel2Ideal_Reference2Ideal := by
  intro m ρ m' ρ' _ hagree
  refine ⟨_, Cert.Kernel2Ideal.Dwin.run m ρ, ?_⟩
  refine (θ_run Cert.Reference2Ideal.defs _ _).mono (fun _ h c => ?_) (Cert.Reference2Ideal.Value.run (F := Ideal) m' ρ')
  obtain ⟨e0, e1⟩ := hagree c
  refine ⟨(h c).1.trans ?_, (h c).2⟩
  refine Eq.trans ?_ (Cert.Reference2Ideal.Dwin.result_eq _ _)
  rw [← e0, ← e1]
  rfl

/-- The output weights' gradient is the reference's. -/
theorem algebraic_dwout : Cert.algebraic_Kernel3Ideal_Reference3Ideal := by
  intro m ρ m' ρ' _ hagree
  refine ⟨_, Cert.Kernel3Ideal.Dwout.run m ρ, ?_⟩
  refine (θ_run Cert.Reference3Ideal.defs _ _).mono (fun _ h c => ?_) (Cert.Reference3Ideal.Value.run (F := Ideal) m' ρ')
  obtain ⟨e0, e1⟩ := hagree c
  refine ⟨(h c).1.trans ?_, (h c).2⟩
  refine Eq.trans ?_ (Cert.Reference3Ideal.Dwout.result_eq _ _)
  rw [← e0, ← e1]
  rfl

/-- The gating gradient's four results are the reference's. -/
theorem algebraic_sgu : Cert.algebraic_Kernel4Ideal_Reference4Ideal := by
  intro m ρ m' ρ' _ hagree
  refine ⟨_, _, _, _, Cert.Kernel4Ideal.Sgu.run m ρ, ?_⟩
  refine (θ_run Cert.Reference4Ideal.defs _ _).mono (fun _ h c => ?_) (Cert.Reference4Ideal.Value.run (F := Ideal) m' ρ')
  obtain ⟨e0, e1, e2, e3, e4⟩ := hagree c
  refine ⟨(h c).1.trans ?_, (h c).2.1.trans ?_, (h c).2.2.1.trans ?_, (h c).2.2.2.1.trans ?_, (h c).2.2.2.2⟩
  · refine Eq.trans ?_ (Cert.Reference4Ideal.Sgu.du_eq _ _ _ _)
    rw [e1, e2, e3, e4]
    rfl
  · refine Eq.trans ?_ (Cert.Reference4Ideal.Sgu.dv_eq _ _ _)
    rw [e0, e2, e4]
    rfl
  · refine Eq.trans ?_ (Cert.Reference4Ideal.Sgu.dw_eq _ _ _)
    rw [e0, e1, e4]
    rfl
  · refine Eq.trans ?_ (Cert.Reference4Ideal.Sgu.db_eq _ _)
    rw [e0, e4]
    rfl

/-- The feed-forward block's second product is the reference's. -/
theorem algebraic_ffn_out : Cert.algebraic_Kernel5Ideal_Reference5Ideal := by
  intro m ρ m' ρ' _ hagree
  refine ⟨_, _, Cert.Kernel5Ideal.FfnOut.run m ρ, ?_⟩
  refine (θ_run Cert.Reference5Ideal.defs _ _).mono (fun _ h c => ?_) (Cert.Reference5Ideal.Value.run (F := Ideal) m' ρ')
  obtain ⟨e0, e1, e2, e3⟩ := hagree c
  refine ⟨(h c).1.trans ?_, (h c).2.1.trans ?_, (h c).2.2⟩
  · refine Eq.trans ?_ (Cert.Reference5Ideal.FfnOut.stream_eq _ _ _ _)
    rw [← e0, ← e1, ← e2, ← e3]
    rfl
  · refine Eq.trans ?_ (Cert.Reference5Ideal.FfnOut.prod_eq _ _)
    rw [← e0, ← e1]
    rfl

/-- The gradient of a token mixer's activation is the reference's. -/
theorem algebraic_nt : Cert.algebraic_Kernel6Ideal_Reference6Ideal := by
  intro m ρ m' ρ' _ hagree
  refine ⟨_, Cert.Kernel6Ideal.Nt.run m ρ, ?_⟩
  refine (θ_run Cert.Reference6Ideal.defs _ _).mono (fun _ h c => ?_) (Cert.Reference6Ideal.Value.run (F := Ideal) m' ρ')
  obtain ⟨e0, e1⟩ := hagree c
  refine ⟨(h c).1.trans ?_, (h c).2⟩
  refine Eq.trans ?_ (Cert.Reference6Ideal.Nt.result_eq _ _)
  rw [← e0, ← e1]
  rfl

/-- The gradient of a token mixer's second weight is the reference's. -/
theorem algebraic_edwout : Cert.algebraic_Kernel7Ideal_Reference7Ideal := by
  intro m ρ m' ρ' _ hagree
  refine ⟨_, Cert.Kernel7Ideal.EDwout.run m ρ, ?_⟩
  refine (θ_run Cert.Reference7Ideal.defs _ _).mono (fun _ h c => ?_) (Cert.Reference7Ideal.Value.run (F := Ideal) m' ρ')
  obtain ⟨e0, e1⟩ := hagree c
  refine ⟨(h c).1.trans ?_, (h c).2⟩
  refine Eq.trans ?_ (Cert.Reference7Ideal.EDwout.result_eq _ _)
  rw [← e0, ← e1]
  rfl

/-- The spatial gating mixer's first product is the reference's. -/
theorem algebraic_gm_in : Cert.algebraic_Kernel8Ideal_Reference8Ideal := by
  intro m ρ m' ρ' _ hagree
  refine ⟨_, Cert.Kernel8Ideal.GmIn.run m ρ, ?_⟩
  refine (θ_run Cert.Reference8Ideal.defs _ _).mono (fun _ h c => ?_) (Cert.Reference8Ideal.Value.run (F := Ideal) m' ρ')
  obtain ⟨e0, e1⟩ := hagree c
  refine ⟨(h c).1.trans ?_, (h c).2⟩
  refine Eq.trans ?_ (Cert.Reference8Ideal.GmIn.result_eq _ _)
  rw [← e0, ← e1]
  rfl

/-- The convolution mixer's first product is the reference's. -/
theorem algebraic_cv_in : Cert.algebraic_Kernel9Ideal_Reference9Ideal := by
  intro m ρ m' ρ' _ hagree
  refine ⟨_, Cert.Kernel9Ideal.CvIn.run m ρ, ?_⟩
  refine (θ_run Cert.Reference9Ideal.defs _ _).mono (fun _ h c => ?_) (Cert.Reference9Ideal.Value.run (F := Ideal) m' ρ')
  obtain ⟨e0, e1, e2⟩ := hagree c
  refine ⟨(h c).1.trans ?_, (h c).2⟩
  refine Eq.trans ?_ (Cert.Reference9Ideal.CvIn.result_eq _ _ _)
  rw [← e0, ← e1, ← e2]
  rfl

/-- The gradient of the spatial gating mixer's first weight is the reference's. -/
theorem algebraic_gm_dwin : Cert.algebraic_Kernel10Ideal_Reference10Ideal := by
  intro m ρ m' ρ' _ hagree
  refine ⟨_, Cert.Kernel10Ideal.GmDwin.run m ρ, ?_⟩
  refine (θ_run Cert.Reference10Ideal.defs _ _).mono (fun _ h c => ?_) (Cert.Reference10Ideal.Value.run (F := Ideal) m' ρ')
  obtain ⟨e0, e1⟩ := hagree c
  refine ⟨(h c).1.trans ?_, (h c).2⟩
  refine Eq.trans ?_ (Cert.Reference10Ideal.GmDwin.result_eq _ _)
  rw [← e0, ← e1]
  rfl

/-- The gradient of the convolution mixer's first weight is the reference's. -/
theorem algebraic_cv_dwin : Cert.algebraic_Kernel11Ideal_Reference11Ideal := by
  intro m ρ m' ρ' _ hagree
  refine ⟨_, Cert.Kernel11Ideal.CvDwin.run m ρ, ?_⟩
  refine (θ_run Cert.Reference11Ideal.defs _ _).mono (fun _ h c => ?_) (Cert.Reference11Ideal.Value.run (F := Ideal) m' ρ')
  obtain ⟨e0, e1⟩ := hagree c
  refine ⟨(h c).1.trans ?_, (h c).2⟩
  refine Eq.trans ?_ (Cert.Reference11Ideal.CvDwin.result_eq _ _)
  rw [← e0, ← e1]
  rfl

/-- The spatial gating mixer's second product is the reference's. -/
theorem algebraic_gm_out : Cert.algebraic_Kernel12Ideal_Reference12Ideal := by
  intro m ρ m' ρ' _ hagree
  refine ⟨_, _, Cert.Kernel12Ideal.GmOut.run m ρ, ?_⟩
  refine (θ_run Cert.Reference12Ideal.defs _ _).mono (fun _ h c => ?_) (Cert.Reference12Ideal.Value.run (F := Ideal) m' ρ')
  obtain ⟨e0, e1, e2, e3⟩ := hagree c
  refine ⟨(h c).1.trans ?_, (h c).2.1.trans ?_, (h c).2.2⟩
  · refine Eq.trans ?_ (Cert.Reference12Ideal.GmOut.stream_eq _ _ _ _)
    rw [← e0, ← e1, ← e2, ← e3]
    rfl
  · refine Eq.trans ?_ (Cert.Reference12Ideal.GmOut.prod_eq _ _)
    rw [← e0, ← e1]
    rfl

/-- The convolution mixer's second product is the reference's. -/
theorem algebraic_cv_out : Cert.algebraic_Kernel13Ideal_Reference13Ideal := by
  intro m ρ m' ρ' _ hagree
  refine ⟨_, _, Cert.Kernel13Ideal.CvOut.run m ρ, ?_⟩
  refine (θ_run Cert.Reference13Ideal.defs _ _).mono (fun _ h c => ?_) (Cert.Reference13Ideal.Value.run (F := Ideal) m' ρ')
  obtain ⟨e0, e1, e2, e3, e4⟩ := hagree c
  refine ⟨(h c).1.trans ?_, (h c).2.1.trans ?_, (h c).2.2⟩
  · refine Eq.trans ?_ (Cert.Reference13Ideal.CvOut.stream_eq _ _ _ _ _)
    rw [← e0, ← e1, ← e2, ← e3, ← e4]
    rfl
  · refine Eq.trans ?_ (Cert.Reference13Ideal.CvOut.prod_eq _ _ _)
    rw [← e0, ← e1, ← e4]
    rfl

/-- The modulation weight's gradient and step are the reference's. -/
theorem algebraic_ada_w : Cert.algebraic_Kernel14Ideal_Reference14Ideal := by
  intro m ρ m' ρ' _ hagree
  refine ⟨_, _, _, _, Cert.Kernel14Ideal.AdaW.run m ρ, ?_⟩
  refine (θ_run Cert.Reference14Ideal.defs _ _).mono (fun _ h c => ?_) (Cert.Reference14Ideal.Value.run (F := Ideal) m' ρ')
  obtain ⟨e0, e1, e2, e3, e4⟩ := hagree c
  refine ⟨(h c).1.trans ?_, (h c).2.1.trans ?_, (h c).2.2.1.trans ?_, (h c).2.2.2.1.trans ?_, (h c).2.2.2.2⟩
  · refine Eq.trans ?_ (Cert.Reference14Ideal.AdaW.grad_eq _ _)
    rw [← e0, ← e1]
    rfl
  · refine Eq.trans ?_ (Cert.Reference14Ideal.AdaW.change_eq _ _ _ _ _)
    rw [← e0, ← e1, ← e2, ← e3, ← e4]
    rfl
  · refine Eq.trans ?_ (Cert.Reference14Ideal.AdaW.first_eq _ _ _)
    rw [← e0, ← e1, ← e3]
    rfl
  · refine Eq.trans ?_ (Cert.Reference14Ideal.AdaW.second_eq _ _ _)
    rw [← e0, ← e1, ← e4]
    rfl

/-- The step of the modulation's bias is the reference's. -/
theorem algebraic_ada_b : Cert.algebraic_Kernel15Ideal_Reference15Ideal := by
  intro m ρ m' ρ' _ hagree
  refine ⟨_, _, _, _, Cert.Kernel15Ideal.AdaB.run m ρ, ?_⟩
  refine (θ_run Cert.Reference15Ideal.defs _ _).mono (fun _ h c => ?_) (Cert.Reference15Ideal.Value.run (F := Ideal) m' ρ')
  obtain ⟨e0, e1, e2, e3⟩ := hagree c
  refine ⟨(h c).1.trans ?_, (h c).2.1.trans ?_, (h c).2.2.1.trans ?_, (h c).2.2.2.1.trans ?_, (h c).2.2.2.2⟩
  · refine Eq.trans ?_ (Cert.Reference15Ideal.AdaB.grad_eq _)
    rw [← e0]
  · refine Eq.trans ?_ (Cert.Reference15Ideal.AdaB.change_eq _ _ _ _)
    rw [← e0, ← e1, ← e2, ← e3]
    rfl
  · refine Eq.trans ?_ (Cert.Reference15Ideal.AdaB.first_eq _ _)
    rw [← e0, ← e2]
    rfl
  · refine Eq.trans ?_ (Cert.Reference15Ideal.AdaB.second_eq _ _)
    rw [← e0, ← e3]
    rfl

/-- The step of the norms' gains is the reference's. -/
theorem algebraic_norm_g : Cert.algebraic_Kernel16Ideal_Reference16Ideal := by
  intro m ρ m' ρ' _ hagree
  refine ⟨_, _, _, _, Cert.Kernel16Ideal.NormG.run m ρ, ?_⟩
  refine (θ_run Cert.Reference16Ideal.defs _ _).mono (fun _ h c => ?_) (Cert.Reference16Ideal.Value.run (F := Ideal) m' ρ')
  obtain ⟨e0, e1, e2, e3⟩ := hagree c
  refine ⟨(h c).1.trans ?_, (h c).2.1.trans ?_, (h c).2.2.1.trans ?_, (h c).2.2.2.1.trans ?_, (h c).2.2.2.2⟩
  · refine Eq.trans ?_ (Cert.Reference16Ideal.NormG.grad_eq _)
    rw [← e0]
  · refine Eq.trans ?_ (Cert.Reference16Ideal.NormG.change_eq _ _ _ _)
    rw [← e0, ← e1, ← e2, ← e3]
    rfl
  · refine Eq.trans ?_ (Cert.Reference16Ideal.NormG.first_eq _ _)
    rw [← e0, ← e2]
    rfl
  · refine Eq.trans ?_ (Cert.Reference16Ideal.NormG.second_eq _ _)
    rw [← e0, ← e3]
    rfl

/-- The step of the gating mixer's norm is the reference's. -/
theorem algebraic_gm_ln : Cert.algebraic_Kernel17Ideal_Reference17Ideal := by
  intro m ρ m' ρ' _ hagree
  refine ⟨_, _, _, _, Cert.Kernel17Ideal.GmLn.run m ρ, ?_⟩
  refine (θ_run Cert.Reference17Ideal.defs _ _).mono (fun _ h c => ?_) (Cert.Reference17Ideal.Value.run (F := Ideal) m' ρ')
  obtain ⟨e0, e1, e2, e3⟩ := hagree c
  refine ⟨(h c).1.trans ?_, (h c).2.1.trans ?_, (h c).2.2.1.trans ?_, (h c).2.2.2.1.trans ?_, (h c).2.2.2.2⟩
  · refine Eq.trans ?_ (Cert.Reference17Ideal.GmLn.grad_eq _)
    rw [← e0]
  · refine Eq.trans ?_ (Cert.Reference17Ideal.GmLn.change_eq _ _ _ _)
    rw [← e0, ← e1, ← e2, ← e3]
    rfl
  · refine Eq.trans ?_ (Cert.Reference17Ideal.GmLn.first_eq _ _)
    rw [← e0, ← e2]
    rfl
  · refine Eq.trans ?_ (Cert.Reference17Ideal.GmLn.second_eq _ _)
    rw [← e0, ← e3]
    rfl

/-- The step of the spatial weights is the reference's. -/
theorem algebraic_gm_ws : Cert.algebraic_Kernel18Ideal_Reference18Ideal := by
  intro m ρ m' ρ' _ hagree
  refine ⟨_, _, _, _, Cert.Kernel18Ideal.GmWs.run m ρ, ?_⟩
  refine (θ_run Cert.Reference18Ideal.defs _ _).mono (fun _ h c => ?_) (Cert.Reference18Ideal.Value.run (F := Ideal) m' ρ')
  obtain ⟨e0, e1, e2, e3⟩ := hagree c
  refine ⟨(h c).1.trans ?_, (h c).2.1.trans ?_, (h c).2.2.1.trans ?_, (h c).2.2.2.1.trans ?_, (h c).2.2.2.2⟩
  · refine Eq.trans ?_ (Cert.Reference18Ideal.GmWs.grad_eq _)
    rw [← e0]
  · refine Eq.trans ?_ (Cert.Reference18Ideal.GmWs.change_eq _ _ _ _)
    rw [← e0, ← e1, ← e2, ← e3]
    rfl
  · refine Eq.trans ?_ (Cert.Reference18Ideal.GmWs.first_eq _ _)
    rw [← e0, ← e2]
    rfl
  · refine Eq.trans ?_ (Cert.Reference18Ideal.GmWs.second_eq _ _)
    rw [← e0, ← e3]
    rfl

/-- The step of the spatial biases is the reference's. -/
theorem algebraic_gm_bs : Cert.algebraic_Kernel19Ideal_Reference19Ideal := by
  intro m ρ m' ρ' _ hagree
  refine ⟨_, _, _, _, Cert.Kernel19Ideal.GmBs.run m ρ, ?_⟩
  refine (θ_run Cert.Reference19Ideal.defs _ _).mono (fun _ h c => ?_) (Cert.Reference19Ideal.Value.run (F := Ideal) m' ρ')
  obtain ⟨e0, e1, e2, e3⟩ := hagree c
  refine ⟨(h c).1.trans ?_, (h c).2.1.trans ?_, (h c).2.2.1.trans ?_, (h c).2.2.2.1.trans ?_, (h c).2.2.2.2⟩
  · refine Eq.trans ?_ (Cert.Reference19Ideal.GmBs.grad_eq _)
    rw [← e0]
  · refine Eq.trans ?_ (Cert.Reference19Ideal.GmBs.change_eq _ _ _ _)
    rw [← e0, ← e1, ← e2, ← e3]
    rfl
  · refine Eq.trans ?_ (Cert.Reference19Ideal.GmBs.first_eq _ _)
    rw [← e0, ← e2]
    rfl
  · refine Eq.trans ?_ (Cert.Reference19Ideal.GmBs.second_eq _ _)
    rw [← e0, ← e3]
    rfl

/-- The step of the convolution mixer's first bias is the reference's. -/
theorem algebraic_cv_b_in : Cert.algebraic_Kernel20Ideal_Reference20Ideal := by
  intro m ρ m' ρ' _ hagree
  refine ⟨_, _, _, _, Cert.Kernel20Ideal.CvBIn.run m ρ, ?_⟩
  refine (θ_run Cert.Reference20Ideal.defs _ _).mono (fun _ h c => ?_) (Cert.Reference20Ideal.Value.run (F := Ideal) m' ρ')
  obtain ⟨e0, e1, e2, e3⟩ := hagree c
  refine ⟨(h c).1.trans ?_, (h c).2.1.trans ?_, (h c).2.2.1.trans ?_, (h c).2.2.2.1.trans ?_, (h c).2.2.2.2⟩
  · refine Eq.trans ?_ (Cert.Reference20Ideal.CvBIn.grad_eq _)
    rw [← e0]
  · refine Eq.trans ?_ (Cert.Reference20Ideal.CvBIn.change_eq _ _ _ _)
    rw [← e0, ← e1, ← e2, ← e3]
    rfl
  · refine Eq.trans ?_ (Cert.Reference20Ideal.CvBIn.first_eq _ _)
    rw [← e0, ← e2]
    rfl
  · refine Eq.trans ?_ (Cert.Reference20Ideal.CvBIn.second_eq _ _)
    rw [← e0, ← e3]
    rfl

/-- The step of the convolution's taps is the reference's. -/
theorem algebraic_cv_dw_w : Cert.algebraic_Kernel21Ideal_Reference21Ideal := by
  intro m ρ m' ρ' _ hagree
  refine ⟨_, _, _, _, Cert.Kernel21Ideal.CvDwW.run m ρ, ?_⟩
  refine (θ_run Cert.Reference21Ideal.defs _ _).mono (fun _ h c => ?_) (Cert.Reference21Ideal.Value.run (F := Ideal) m' ρ')
  obtain ⟨e0, e1, e2, e3⟩ := hagree c
  refine ⟨(h c).1.trans ?_, (h c).2.1.trans ?_, (h c).2.2.1.trans ?_, (h c).2.2.2.1.trans ?_, (h c).2.2.2.2⟩
  · refine Eq.trans ?_ (Cert.Reference21Ideal.CvDwW.grad_eq _)
    rw [← e0]
  · refine Eq.trans ?_ (Cert.Reference21Ideal.CvDwW.change_eq _ _ _ _)
    rw [← e0, ← e1, ← e2, ← e3]
    rfl
  · refine Eq.trans ?_ (Cert.Reference21Ideal.CvDwW.first_eq _ _)
    rw [← e0, ← e2]
    rfl
  · refine Eq.trans ?_ (Cert.Reference21Ideal.CvDwW.second_eq _ _)
    rw [← e0, ← e3]
    rfl

/-- The step of the convolution mixer's rows is the reference's. -/
theorem algebraic_cv_row : Cert.algebraic_Kernel22Ideal_Reference22Ideal := by
  intro m ρ m' ρ' _ hagree
  refine ⟨_, _, _, _, Cert.Kernel22Ideal.CvRow.run m ρ, ?_⟩
  refine (θ_run Cert.Reference22Ideal.defs _ _).mono (fun _ h c => ?_) (Cert.Reference22Ideal.Value.run (F := Ideal) m' ρ')
  obtain ⟨e0, e1, e2, e3⟩ := hagree c
  refine ⟨(h c).1.trans ?_, (h c).2.1.trans ?_, (h c).2.2.1.trans ?_, (h c).2.2.2.1.trans ?_, (h c).2.2.2.2⟩
  · refine Eq.trans ?_ (Cert.Reference22Ideal.CvRow.grad_eq _)
    rw [← e0]
  · refine Eq.trans ?_ (Cert.Reference22Ideal.CvRow.change_eq _ _ _ _)
    rw [← e0, ← e1, ← e2, ← e3]
    rfl
  · refine Eq.trans ?_ (Cert.Reference22Ideal.CvRow.first_eq _ _)
    rw [← e0, ← e2]
    rfl
  · refine Eq.trans ?_ (Cert.Reference22Ideal.CvRow.second_eq _ _)
    rw [← e0, ← e3]
    rfl

/-- The step of the last norm's gain is the reference's. -/
theorem algebraic_final_g : Cert.algebraic_Kernel23Ideal_Reference23Ideal := by
  intro m ρ m' ρ' _ hagree
  refine ⟨_, _, _, _, Cert.Kernel23Ideal.FinalG.run m ρ, ?_⟩
  refine (θ_run Cert.Reference23Ideal.defs _ _).mono (fun _ h c => ?_) (Cert.Reference23Ideal.Value.run (F := Ideal) m' ρ')
  obtain ⟨e0, e1, e2, e3⟩ := hagree c
  refine ⟨(h c).1.trans ?_, (h c).2.1.trans ?_, (h c).2.2.1.trans ?_, (h c).2.2.2.1.trans ?_, (h c).2.2.2.2⟩
  · refine Eq.trans ?_ (Cert.Reference23Ideal.FinalG.grad_eq _)
    rw [← e0]
  · refine Eq.trans ?_ (Cert.Reference23Ideal.FinalG.change_eq _ _ _ _)
    rw [← e0, ← e1, ← e2, ← e3]
    rfl
  · refine Eq.trans ?_ (Cert.Reference23Ideal.FinalG.first_eq _ _)
    rw [← e0, ← e2]
    rfl
  · refine Eq.trans ?_ (Cert.Reference23Ideal.FinalG.second_eq _ _)
    rw [← e0, ← e3]
    rfl

/-- The step of a token mixer's first weight is the reference's, where the chip's number is one of the four. -/
theorem algebraic_wide_in : Cert.algebraic_Kernel24Ideal_Reference24Ideal := by
  intro m ρ m' ρ' hn hagree
  have hp : (Cert.Kernel24Ideal.WideIn.chip m).toNat < 4 := Cert.Kernel24Ideal.WideIn.named _ _ _ _ _ _ _ _ _ _ (hn 0)
  refine ⟨_, _, _, _, Cert.Kernel24Ideal.WideIn.run m ρ hp, ?_⟩
  refine (θ_run Cert.Reference24Ideal.defs _ _).mono (fun _ h c => ?_) (Cert.Reference24Ideal.WideIn.run m' ρ')
  obtain rfl : c = 0 := Subsingleton.elim _ _
  obtain ⟨e0, e1, e2, e3, e4, e5, -⟩ := hagree 0
  have e := Cert.Reference24Ideal.WideIn.grad_agree _ _ _ _ _ _ hp e0 e1 e2
  refine ⟨(h 0).1.trans ?_, (h 0).2.1.trans ?_, (h 0).2.2.1.trans ?_, (h 0).2.2.2.1.trans ?_, (h 0).2.2.2.2⟩
  · exact e
  · exact Cert.Reference24Ideal.WideIn.change_agree _ _ _ _ _ _ _ _ e e3 e4 e5
  · exact Cert.Reference24Ideal.WideIn.first_agree _ _ _ _ e e4
  · exact Cert.Reference24Ideal.WideIn.second_agree _ _ _ _ e e5

/-- The step of a token mixer's second weight is the reference's, where the chip's number is one of the four. -/
theorem algebraic_wide_out : Cert.algebraic_Kernel25Ideal_Reference25Ideal := by
  intro m ρ m' ρ' hn hagree
  have hp : (Cert.Kernel25Ideal.WideOut.chip m).toNat < 4 := Cert.Kernel25Ideal.WideOut.named _ _ _ _ _ _ _ _ _ _ (hn 0)
  refine ⟨_, _, _, _, Cert.Kernel25Ideal.WideOut.run m ρ hp, ?_⟩
  refine (θ_run Cert.Reference25Ideal.defs _ _).mono (fun _ h c => ?_) (Cert.Reference25Ideal.WideOut.run m' ρ')
  obtain rfl : c = 0 := Subsingleton.elim _ _
  obtain ⟨e0, e1, e2, e3, e4, e5, -⟩ := hagree 0
  have e := Cert.Reference25Ideal.WideOut.grad_agree _ _ _ _ _ _ hp e0 e1 e2
  refine ⟨(h 0).1.trans ?_, (h 0).2.1.trans ?_, (h 0).2.2.1.trans ?_, (h 0).2.2.2.1.trans ?_, (h 0).2.2.2.2⟩
  · exact e
  · exact Cert.Reference25Ideal.WideOut.change_agree _ _ _ _ _ _ _ _ e e3 e4 e5
  · exact Cert.Reference25Ideal.WideOut.first_agree _ _ _ _ e e4
  · exact Cert.Reference25Ideal.WideOut.second_agree _ _ _ _ e e5

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Pre_finite.Gen.facts, Cert.Pre_chip_named24.Gen.facts, Cert.Pre_chip_named25.Gen.facts,
  frame_gate_bits, frame_gate, frame_gate_pre, frame_reference, frame_reference_pre, frame_dwin_bits, frame_dwin, frame_dwin_reference,
  frame_dwout_bits, frame_dwout, frame_dwout_reference, frame_sgu_bits, frame_sgu, frame_sgu_reference,
  frame_ffn_out_bits, frame_ffn_out, frame_ffn_out_reference,
  frame_nt_bits, frame_nt, frame_nt_reference,
  frame_edwout_bits, frame_edwout, frame_edwout_reference,
  frame_gm_in_bits, frame_gm_in, frame_gm_in_reference,
  frame_cv_in_bits, frame_cv_in, frame_cv_in_reference,
  frame_gm_dwin_bits, frame_gm_dwin, frame_gm_dwin_reference,
  frame_cv_dwin_bits, frame_cv_dwin, frame_cv_dwin_reference,
  frame_gm_out_bits, frame_gm_out, frame_gm_out_reference,
  frame_cv_out_bits, frame_cv_out, frame_cv_out_reference,
  frame_ada_w_bits, frame_ada_w, frame_ada_w_reference,
  frame_ada_b_bits, frame_ada_b, frame_ada_b_reference,
  frame_norm_g_bits, frame_norm_g, frame_norm_g_reference,
  frame_gm_ln_bits, frame_gm_ln, frame_gm_ln_reference,
  frame_gm_ws_bits, frame_gm_ws, frame_gm_ws_reference,
  frame_gm_bs_bits, frame_gm_bs, frame_gm_bs_reference,
  frame_cv_b_in_bits, frame_cv_b_in, frame_cv_b_in_reference,
  frame_cv_dw_w_bits, frame_cv_dw_w, frame_cv_dw_w_reference,
  frame_cv_row_bits, frame_cv_row, frame_cv_row_reference,
  frame_final_g_bits, frame_final_g, frame_final_g_reference,
  frame_wide_in_bits, frame_wide_in, frame_wide_in_reference, frame_wide_in_reference_pre,
  frame_wide_out_bits, frame_wide_out, frame_wide_out_reference, frame_wide_out_reference_pre,
  trivial, algebraic_gate, trivial, algebraic_dwin,
  trivial, algebraic_dwout, trivial, algebraic_sgu,
  trivial, algebraic_ffn_out,
  trivial, algebraic_nt,
  trivial, algebraic_edwout,
  trivial, algebraic_gm_in,
  trivial, algebraic_cv_in,
  trivial, algebraic_gm_dwin,
  trivial, algebraic_cv_dwin,
  trivial, algebraic_gm_out,
  trivial, algebraic_cv_out,
  trivial, algebraic_ada_w,
  trivial, algebraic_ada_b,
  trivial, algebraic_norm_g,
  trivial, algebraic_gm_ln,
  trivial, algebraic_gm_ws,
  trivial, algebraic_gm_bs,
  trivial, algebraic_cv_b_in,
  trivial, algebraic_cv_dw_w,
  trivial, algebraic_cv_row,
  trivial, algebraic_final_g,
  trivial, algebraic_wide_in,
  trivial, algebraic_wide_out⟩

end Cert.Proof

end
